-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_finite_mlp [hPre_finite_mlp : Cert.Pre_finite_mlp.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))) = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_finite_mlp [hPre_finite_mlp : Cert.Pre_finite_mlp.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_finite_mlp.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out [hPre_finite_out : Cert.Pre_finite_out.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))) = (fun _ => 1#1)

def Pre_InpBwd (m : (ℓ : Loc Cert.InpBwd.nD Cert.InpBwd.τ Cert.InpBwd.sig) → Buf (Elt Bits) ℓ) : Prop :=
  True

def Pre_InpBwdIdeal (m : (ℓ : Loc Cert.InpBwdIdeal.nD Cert.InpBwdIdeal.τ Cert.InpBwdIdeal.sig) → Buf (Elt Ideal) ℓ) : Prop :=
  True

def Pre_InpBwdIdeal_finite_inp [hPre_finite_inp : Cert.Pre_finite_inp.Facts] (m : (ℓ : Loc Cert.InpBwdIdeal.nD Cert.InpBwdIdeal.τ Cert.InpBwdIdeal.sig) → Buf (Elt Ideal) ℓ) : Prop :=
  ∀ c : Dev Cert.InpBwdIdeal.nD,
    (Cert.Pre_finite_inp.fn (F := Ideal) (m ((c.tc : Thread Cert.InpBwdIdeal.nD Cert.InpBwdIdeal.τ).loc Cert.InpBwdIdeal.main_arg0)) (m ((c.tc : Thread Cert.InpBwdIdeal.nD Cert.InpBwdIdeal.τ).loc Cert.InpBwdIdeal.main_arg1)) (m ((c.tc : Thread Cert.InpBwdIdeal.nD Cert.InpBwdIdeal.τ).loc Cert.InpBwdIdeal.main_arg2)) (m ((c.tc : Thread Cert.InpBwdIdeal.nD Cert.InpBwdIdeal.τ).loc Cert.InpBwdIdeal.main_arg3)) (m ((c.tc : Thread Cert.InpBwdIdeal.nD Cert.InpBwdIdeal.τ).loc Cert.InpBwdIdeal.main_arg4)) (m ((c.tc : Thread Cert.InpBwdIdeal.nD Cert.InpBwdIdeal.τ).loc Cert.InpBwdIdeal.main_arg5)) (m ((c.tc : Thread Cert.InpBwdIdeal.nD Cert.InpBwdIdeal.τ).loc Cert.InpBwdIdeal.main_arg6)) (m ((c.tc : Thread Cert.InpBwdIdeal.nD Cert.InpBwdIdeal.τ).loc Cert.InpBwdIdeal.main_arg7)) (m ((c.tc : Thread Cert.InpBwdIdeal.nD Cert.InpBwdIdeal.τ).loc Cert.InpBwdIdeal.main_arg8)) (m ((c.tc : Thread Cert.InpBwdIdeal.nD Cert.InpBwdIdeal.τ).loc Cert.InpBwdIdeal.main_arg9)) (m ((c.tc : Thread Cert.InpBwdIdeal.nD Cert.InpBwdIdeal.τ).loc Cert.InpBwdIdeal.main_arg10)) (m ((c.tc : Thread Cert.InpBwdIdeal.nD Cert.InpBwdIdeal.τ).loc Cert.InpBwdIdeal.main_arg11)) (m ((c.tc : Thread Cert.InpBwdIdeal.nD Cert.InpBwdIdeal.τ).loc Cert.InpBwdIdeal.main_arg12)) (m ((c.tc : Thread Cert.InpBwdIdeal.nD Cert.InpBwdIdeal.τ).loc Cert.InpBwdIdeal.main_arg13)) (m ((c.tc : Thread Cert.InpBwdIdeal.nD Cert.InpBwdIdeal.τ).loc Cert.InpBwdIdeal.main_arg14)) (m ((c.tc : Thread Cert.InpBwdIdeal.nD Cert.InpBwdIdeal.τ).loc Cert.InpBwdIdeal.main_arg15)) (m ((c.tc : Thread Cert.InpBwdIdeal.nD Cert.InpBwdIdeal.τ).loc Cert.InpBwdIdeal.main_arg16)) (m ((c.tc : Thread Cert.InpBwdIdeal.nD Cert.InpBwdIdeal.τ).loc Cert.InpBwdIdeal.main_arg17))) = (fun _ => 1#1)

def Pre_InpBwdRefIdeal (m : (ℓ : Loc Cert.InpBwdRefIdeal.nD Cert.InpBwdRefIdeal.τ Cert.InpBwdRefIdeal.sig) → Buf (Elt Ideal) ℓ) : Prop :=
  True

def Pre_InpBwdRefIdeal_finite_inp [hPre_finite_inp : Cert.Pre_finite_inp.Facts] (m : (ℓ : Loc Cert.InpBwdRefIdeal.nD Cert.InpBwdRefIdeal.τ Cert.InpBwdRefIdeal.sig) → Buf (Elt Ideal) ℓ) : Prop :=
  ∀ c : Dev Cert.InpBwdRefIdeal.nD,
    (Cert.Pre_finite_inp.fn (F := Ideal) (m ((c.tc : Thread Cert.InpBwdRefIdeal.nD Cert.InpBwdRefIdeal.τ).loc Cert.InpBwdRefIdeal.main_arg0)) (m ((c.tc : Thread Cert.InpBwdRefIdeal.nD Cert.InpBwdRefIdeal.τ).loc Cert.InpBwdRefIdeal.main_arg1)) (m ((c.tc : Thread Cert.InpBwdRefIdeal.nD Cert.InpBwdRefIdeal.τ).loc Cert.InpBwdRefIdeal.main_arg2)) (m ((c.tc : Thread Cert.InpBwdRefIdeal.nD Cert.InpBwdRefIdeal.τ).loc Cert.InpBwdRefIdeal.main_arg3)) (m ((c.tc : Thread Cert.InpBwdRefIdeal.nD Cert.InpBwdRefIdeal.τ).loc Cert.InpBwdRefIdeal.main_arg4)) (m ((c.tc : Thread Cert.InpBwdRefIdeal.nD Cert.InpBwdRefIdeal.τ).loc Cert.InpBwdRefIdeal.main_arg5)) (m ((c.tc : Thread Cert.InpBwdRefIdeal.nD Cert.InpBwdRefIdeal.τ).loc Cert.InpBwdRefIdeal.main_arg6)) (m ((c.tc : Thread Cert.InpBwdRefIdeal.nD Cert.InpBwdRefIdeal.τ).loc Cert.InpBwdRefIdeal.main_arg7)) (m ((c.tc : Thread Cert.InpBwdRefIdeal.nD Cert.InpBwdRefIdeal.τ).loc Cert.InpBwdRefIdeal.main_arg8)) (m ((c.tc : Thread Cert.InpBwdRefIdeal.nD Cert.InpBwdRefIdeal.τ).loc Cert.InpBwdRefIdeal.main_arg9)) (m ((c.tc : Thread Cert.InpBwdRefIdeal.nD Cert.InpBwdRefIdeal.τ).loc Cert.InpBwdRefIdeal.main_arg10)) (m ((c.tc : Thread Cert.InpBwdRefIdeal.nD Cert.InpBwdRefIdeal.τ).loc Cert.InpBwdRefIdeal.main_arg11)) (m ((c.tc : Thread Cert.InpBwdRefIdeal.nD Cert.InpBwdRefIdeal.τ).loc Cert.InpBwdRefIdeal.main_arg12)) (m ((c.tc : Thread Cert.InpBwdRefIdeal.nD Cert.InpBwdRefIdeal.τ).loc Cert.InpBwdRefIdeal.main_arg13)) (m ((c.tc : Thread Cert.InpBwdRefIdeal.nD Cert.InpBwdRefIdeal.τ).loc Cert.InpBwdRefIdeal.main_arg14)) (m ((c.tc : Thread Cert.InpBwdRefIdeal.nD Cert.InpBwdRefIdeal.τ).loc Cert.InpBwdRefIdeal.main_arg15)) (m ((c.tc : Thread Cert.InpBwdRefIdeal.nD Cert.InpBwdRefIdeal.τ).loc Cert.InpBwdRefIdeal.main_arg16)) (m ((c.tc : Thread Cert.InpBwdRefIdeal.nD Cert.InpBwdRefIdeal.τ).loc Cert.InpBwdRefIdeal.main_arg17))) = (fun _ => 1#1)

def Pre_Dbias (m : (ℓ : Loc Cert.Dbias.nD Cert.Dbias.τ Cert.Dbias.sig) → Buf (Elt Bits) ℓ) : Prop :=
  True

def Pre_DbiasIdeal (m : (ℓ : Loc Cert.DbiasIdeal.nD Cert.DbiasIdeal.τ Cert.DbiasIdeal.sig) → Buf (Elt Ideal) ℓ) : Prop :=
  True

def Pre_DbiasRefIdeal (m : (ℓ : Loc Cert.DbiasRefIdeal.nD Cert.DbiasRefIdeal.τ Cert.DbiasRefIdeal.sig) → Buf (Elt Ideal) ℓ) : Prop :=
  True

def Pre_BandDq (m : (ℓ : Loc Cert.BandDq.nD Cert.BandDq.τ Cert.BandDq.sig) → Buf (Elt Bits) ℓ) : Prop :=
  True

def Pre_BandDqIdeal (m : (ℓ : Loc Cert.BandDqIdeal.nD Cert.BandDqIdeal.τ Cert.BandDqIdeal.sig) → Buf (Elt Ideal) ℓ) : Prop :=
  True

def Pre_BandDqRefIdeal (m : (ℓ : Loc Cert.BandDqRefIdeal.nD Cert.BandDqRefIdeal.τ Cert.BandDqRefIdeal.sig) → Buf (Elt Ideal) ℓ) : Prop :=
  True

def Pre_BandDkv (m : (ℓ : Loc Cert.BandDkv.nD Cert.BandDkv.τ Cert.BandDkv.sig) → Buf (Elt Bits) ℓ) : Prop :=
  True

def Pre_BandDkvIdeal (m : (ℓ : Loc Cert.BandDkvIdeal.nD Cert.BandDkvIdeal.τ Cert.BandDkvIdeal.sig) → Buf (Elt Ideal) ℓ) : Prop :=
  True

def Pre_BandDkvRefIdeal (m : (ℓ : Loc Cert.BandDkvRefIdeal.nD Cert.BandDkvRefIdeal.τ Cert.BandDkvRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdIdeal_pre_finite_mlp [hMlpBwdIdeal : Cert.MlpBwdIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_finite_mlp m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_MlpBwdRefIdeal_pre_finite_mlp [hMlpBwdRefIdeal : Cert.MlpBwdRefIdeal.Facts] [hPre_finite_mlp : Cert.Pre_finite_mlp.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_finite_mlp m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_finite_out [hOutBwdRefIdeal : Cert.OutBwdRefIdeal.Facts] [hPre_finite_out : Cert.Pre_finite_out.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_InpBwd [hInpBwd : Cert.InpBwd.Facts] : Prop :=
  ∀ (m : (ℓ : Loc Cert.InpBwd.nD Cert.InpBwd.τ Cert.InpBwd.sig) → Buf (Elt Bits) ℓ) (g : Dev Cert.InpBwd.nD → PrngReg), Pre_InpBwd m →
    θ_run (Cert.InpBwd.defs (F := Bits)) (onTc (τ := Cert.InpBwd.τ) (Cert.InpBwd.main (F := Bits))) ⟨m, fun _ => 0, g⟩ (fun r => (∀ c : Dev Cert.InpBwd.nD,
      r.2.mem ((c.tc : Thread Cert.InpBwd.nD Cert.InpBwd.τ).loc Cert.InpBwd.main_arg0) = m ((c.tc : Thread Cert.InpBwd.nD Cert.InpBwd.τ).loc Cert.InpBwd.main_arg0)
      ∧ r.2.mem ((c.tc : Thread Cert.InpBwd.nD Cert.InpBwd.τ).loc Cert.InpBwd.main_arg1) = m ((c.tc : Thread Cert.InpBwd.nD Cert.InpBwd.τ).loc Cert.InpBwd.main_arg1)
      ∧ r.2.mem ((c.tc : Thread Cert.InpBwd.nD Cert.InpBwd.τ).loc Cert.InpBwd.main_arg2) = m ((c.tc : Thread Cert.InpBwd.nD Cert.InpBwd.τ).loc Cert.InpBwd.main_arg2)
      ∧ r.2.mem ((c.tc : Thread Cert.InpBwd.nD Cert.InpBwd.τ).loc Cert.InpBwd.main_arg3) = m ((c.tc : Thread Cert.InpBwd.nD Cert.InpBwd.τ).loc Cert.InpBwd.main_arg3)
      ∧ r.2.mem ((c.tc : Thread Cert.InpBwd.nD Cert.InpBwd.τ).loc Cert.InpBwd.main_arg4) = m ((c.tc : Thread Cert.InpBwd.nD Cert.InpBwd.τ).loc Cert.InpBwd.main_arg4)
      ∧ r.2.mem ((c.tc : Thread Cert.InpBwd.nD Cert.InpBwd.τ).loc Cert.InpBwd.main_arg5) = m ((c.tc : Thread Cert.InpBwd.nD Cert.InpBwd.τ).loc Cert.InpBwd.main_arg5)
      ∧ r.2.mem ((c.tc : Thread Cert.InpBwd.nD Cert.InpBwd.τ).loc Cert.InpBwd.main_arg6) = m ((c.tc : Thread Cert.InpBwd.nD Cert.InpBwd.τ).loc Cert.InpBwd.main_arg6)
      ∧ r.2.mem ((c.tc : Thread Cert.InpBwd.nD Cert.InpBwd.τ).loc Cert.InpBwd.main_arg7) = m ((c.tc : Thread Cert.InpBwd.nD Cert.InpBwd.τ).loc Cert.InpBwd.main_arg7)
      ∧ r.2.mem ((c.tc : Thread Cert.InpBwd.nD Cert.InpBwd.τ).loc Cert.InpBwd.main_arg8) = m ((c.tc : Thread Cert.InpBwd.nD Cert.InpBwd.τ).loc Cert.InpBwd.main_arg8)
      ∧ r.2.mem ((c.tc : Thread Cert.InpBwd.nD Cert.InpBwd.τ).loc Cert.InpBwd.main_arg9) = m ((c.tc : Thread Cert.InpBwd.nD Cert.InpBwd.τ).loc Cert.InpBwd.main_arg9)
      ∧ r.2.mem ((c.tc : Thread Cert.InpBwd.nD Cert.InpBwd.τ).loc Cert.InpBwd.main_arg10) = m ((c.tc : Thread Cert.InpBwd.nD Cert.InpBwd.τ).loc Cert.InpBwd.main_arg10)
      ∧ r.2.mem ((c.tc : Thread Cert.InpBwd.nD Cert.InpBwd.τ).loc Cert.InpBwd.main_arg11) = m ((c.tc : Thread Cert.InpBwd.nD Cert.InpBwd.τ).loc Cert.InpBwd.main_arg11)
      ∧ r.2.mem ((c.tc : Thread Cert.InpBwd.nD Cert.InpBwd.τ).loc Cert.InpBwd.main_arg12) = m ((c.tc : Thread Cert.InpBwd.nD Cert.InpBwd.τ).loc Cert.InpBwd.main_arg12)
      ∧ r.2.mem ((c.tc : Thread Cert.InpBwd.nD Cert.InpBwd.τ).loc Cert.InpBwd.main_arg13) = m ((c.tc : Thread Cert.InpBwd.nD Cert.InpBwd.τ).loc Cert.InpBwd.main_arg13)
      ∧ r.2.mem ((c.tc : Thread Cert.InpBwd.nD Cert.InpBwd.τ).loc Cert.InpBwd.main_arg14) = m ((c.tc : Thread Cert.InpBwd.nD Cert.InpBwd.τ).loc Cert.InpBwd.main_arg14)
      ∧ r.2.mem ((c.tc : Thread Cert.InpBwd.nD Cert.InpBwd.τ).loc Cert.InpBwd.main_arg15) = m ((c.tc : Thread Cert.InpBwd.nD Cert.InpBwd.τ).loc Cert.InpBwd.main_arg15)
      ∧ r.2.mem ((c.tc : Thread Cert.InpBwd.nD Cert.InpBwd.τ).loc Cert.InpBwd.main_arg16) = m ((c.tc : Thread Cert.InpBwd.nD Cert.InpBwd.τ).loc Cert.InpBwd.main_arg16)
      ∧ r.2.mem ((c.tc : Thread Cert.InpBwd.nD Cert.InpBwd.τ).loc Cert.InpBwd.main_arg17) = m ((c.tc : Thread Cert.InpBwd.nD Cert.InpBwd.τ).loc Cert.InpBwd.main_arg17))
      ∧ r.2.sem = fun _ => 0)

def quiescent_InpBwdIdeal [hInpBwdIdeal : Cert.InpBwdIdeal.Facts] : Prop :=
  ∀ (m : (ℓ : Loc Cert.InpBwdIdeal.nD Cert.InpBwdIdeal.τ Cert.InpBwdIdeal.sig) → Buf (Elt Ideal) ℓ) (g : Dev Cert.InpBwdIdeal.nD → PrngReg), Pre_InpBwdIdeal m →
    θ_run (Cert.InpBwdIdeal.defs (F := Ideal)) (onTc (τ := Cert.InpBwdIdeal.τ) (Cert.InpBwdIdeal.main (F := Ideal))) ⟨m, fun _ => 0, g⟩ (fun r => (∀ c : Dev Cert.InpBwdIdeal.nD,
      r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
      ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
      ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
      ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
      ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
      ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
      ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
      ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
      ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8)
      ∧ r.2.mem ((c.tc : Thread Cert.InpBwdIdeal.nD Cert.InpBwdIdeal.τ).loc Cert.InpBwdIdeal.main_arg9) = m ((c.tc : Thread Cert.InpBwdIdeal.nD Cert.InpBwdIdeal.τ).loc Cert.InpBwdIdeal.main_arg9)
      ∧ r.2.mem ((c.tc : Thread Cert.InpBwdIdeal.nD Cert.InpBwdIdeal.τ).loc Cert.InpBwdIdeal.main_arg10) = m ((c.tc : Thread Cert.InpBwdIdeal.nD Cert.InpBwdIdeal.τ).loc Cert.InpBwdIdeal.main_arg10)
      ∧ r.2.mem ((c.tc : Thread Cert.InpBwdIdeal.nD Cert.InpBwdIdeal.τ).loc Cert.InpBwdIdeal.main_arg11) = m ((c.tc : Thread Cert.InpBwdIdeal.nD Cert.InpBwdIdeal.τ).loc Cert.InpBwdIdeal.main_arg11)
      ∧ r.2.mem ((c.tc : Thread Cert.InpBwdIdeal.nD Cert.InpBwdIdeal.τ).loc Cert.InpBwdIdeal.main_arg12) = m ((c.tc : Thread Cert.InpBwdIdeal.nD Cert.InpBwdIdeal.τ).loc Cert.InpBwdIdeal.main_arg12)
      ∧ r.2.mem ((c.tc : Thread Cert.InpBwdIdeal.nD Cert.InpBwdIdeal.τ).loc Cert.InpBwdIdeal.main_arg13) = m ((c.tc : Thread Cert.InpBwdIdeal.nD Cert.InpBwdIdeal.τ).loc Cert.InpBwdIdeal.main_arg13)
      ∧ r.2.mem ((c.tc : Thread Cert.InpBwdIdeal.nD Cert.InpBwdIdeal.τ).loc Cert.InpBwdIdeal.main_arg14) = m ((c.tc : Thread Cert.InpBwdIdeal.nD Cert.InpBwdIdeal.τ).loc Cert.InpBwdIdeal.main_arg14)
      ∧ r.2.mem ((c.tc : Thread Cert.InpBwdIdeal.nD Cert.InpBwdIdeal.τ).loc Cert.InpBwdIdeal.main_arg15) = m ((c.tc : Thread Cert.InpBwdIdeal.nD Cert.InpBwdIdeal.τ).loc Cert.InpBwdIdeal.main_arg15)
      ∧ r.2.mem ((c.tc : Thread Cert.InpBwdIdeal.nD Cert.InpBwdIdeal.τ).loc Cert.InpBwdIdeal.main_arg16) = m ((c.tc : Thread Cert.InpBwdIdeal.nD Cert.InpBwdIdeal.τ).loc Cert.InpBwdIdeal.main_arg16)
      ∧ r.2.mem ((c.tc : Thread Cert.InpBwdIdeal.nD Cert.InpBwdIdeal.τ).loc Cert.InpBwdIdeal.main_arg17) = m ((c.tc : Thread Cert.InpBwdIdeal.nD Cert.InpBwdIdeal.τ).loc Cert.InpBwdIdeal.main_arg17))
      ∧ r.2.sem = fun _ => 0)

def quiescent_InpBwdIdeal_pre_finite_inp [hInpBwdIdeal : Cert.InpBwdIdeal.Facts] [hPre_finite_inp : Cert.Pre_finite_inp.Facts] : Prop :=
  ∀ (m : (ℓ : Loc Cert.InpBwdIdeal.nD Cert.InpBwdIdeal.τ Cert.InpBwdIdeal.sig) → Buf (Elt Ideal) ℓ) (g : Dev Cert.InpBwdIdeal.nD → PrngReg), Pre_InpBwdIdeal_finite_inp m →
    θ_run (Cert.InpBwdIdeal.defs (F := Ideal)) (onTc (τ := Cert.InpBwdIdeal.τ) (Cert.InpBwdIdeal.main (F := Ideal))) ⟨m, fun _ => 0, g⟩ (fun r => (∀ c : Dev Cert.InpBwdIdeal.nD,
      r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
      ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
      ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
      ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
      ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
      ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
      ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
      ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
      ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8)
      ∧ r.2.mem ((c.tc : Thread Cert.InpBwdIdeal.nD Cert.InpBwdIdeal.τ).loc Cert.InpBwdIdeal.main_arg9) = m ((c.tc : Thread Cert.InpBwdIdeal.nD Cert.InpBwdIdeal.τ).loc Cert.InpBwdIdeal.main_arg9)
      ∧ r.2.mem ((c.tc : Thread Cert.InpBwdIdeal.nD Cert.InpBwdIdeal.τ).loc Cert.InpBwdIdeal.main_arg10) = m ((c.tc : Thread Cert.InpBwdIdeal.nD Cert.InpBwdIdeal.τ).loc Cert.InpBwdIdeal.main_arg10)
      ∧ r.2.mem ((c.tc : Thread Cert.InpBwdIdeal.nD Cert.InpBwdIdeal.τ).loc Cert.InpBwdIdeal.main_arg11) = m ((c.tc : Thread Cert.InpBwdIdeal.nD Cert.InpBwdIdeal.τ).loc Cert.InpBwdIdeal.main_arg11)
      ∧ r.2.mem ((c.tc : Thread Cert.InpBwdIdeal.nD Cert.InpBwdIdeal.τ).loc Cert.InpBwdIdeal.main_arg12) = m ((c.tc : Thread Cert.InpBwdIdeal.nD Cert.InpBwdIdeal.τ).loc Cert.InpBwdIdeal.main_arg12)
      ∧ r.2.mem ((c.tc : Thread Cert.InpBwdIdeal.nD Cert.InpBwdIdeal.τ).loc Cert.InpBwdIdeal.main_arg13) = m ((c.tc : Thread Cert.InpBwdIdeal.nD Cert.InpBwdIdeal.τ).loc Cert.InpBwdIdeal.main_arg13)
      ∧ r.2.mem ((c.tc : Thread Cert.InpBwdIdeal.nD Cert.InpBwdIdeal.τ).loc Cert.InpBwdIdeal.main_arg14) = m ((c.tc : Thread Cert.InpBwdIdeal.nD Cert.InpBwdIdeal.τ).loc Cert.InpBwdIdeal.main_arg14)
      ∧ r.2.mem ((c.tc : Thread Cert.InpBwdIdeal.nD Cert.InpBwdIdeal.τ).loc Cert.InpBwdIdeal.main_arg15) = m ((c.tc : Thread Cert.InpBwdIdeal.nD Cert.InpBwdIdeal.τ).loc Cert.InpBwdIdeal.main_arg15)
      ∧ r.2.mem ((c.tc : Thread Cert.InpBwdIdeal.nD Cert.InpBwdIdeal.τ).loc Cert.InpBwdIdeal.main_arg16) = m ((c.tc : Thread Cert.InpBwdIdeal.nD Cert.InpBwdIdeal.τ).loc Cert.InpBwdIdeal.main_arg16)
      ∧ r.2.mem ((c.tc : Thread Cert.InpBwdIdeal.nD Cert.InpBwdIdeal.τ).loc Cert.InpBwdIdeal.main_arg17) = m ((c.tc : Thread Cert.InpBwdIdeal.nD Cert.InpBwdIdeal.τ).loc Cert.InpBwdIdeal.main_arg17))
      ∧ r.2.sem = fun _ => 0)

def quiescent_InpBwdRefIdeal [hInpBwdRefIdeal : Cert.InpBwdRefIdeal.Facts] : Prop :=
  ∀ (m : (ℓ : Loc Cert.InpBwdRefIdeal.nD Cert.InpBwdRefIdeal.τ Cert.InpBwdRefIdeal.sig) → Buf (Elt Ideal) ℓ) (g : Dev Cert.InpBwdRefIdeal.nD → PrngReg), Pre_InpBwdRefIdeal m →
    θ_run (Cert.InpBwdRefIdeal.defs (F := Ideal)) (onTc (τ := Cert.InpBwdRefIdeal.τ) (Cert.InpBwdRefIdeal.main (F := Ideal))) ⟨m, fun _ => 0, g⟩ (fun r => (∀ c : Dev Cert.InpBwdRefIdeal.nD,
      r.2.mem ((c.tc : Thread Cert.InpBwdRefIdeal.nD Cert.InpBwdRefIdeal.τ).loc Cert.InpBwdRefIdeal.main_arg0) = m ((c.tc : Thread Cert.InpBwdRefIdeal.nD Cert.InpBwdRefIdeal.τ).loc Cert.InpBwdRefIdeal.main_arg0)
      ∧ r.2.mem ((c.tc : Thread Cert.InpBwdRefIdeal.nD Cert.InpBwdRefIdeal.τ).loc Cert.InpBwdRefIdeal.main_arg1) = m ((c.tc : Thread Cert.InpBwdRefIdeal.nD Cert.InpBwdRefIdeal.τ).loc Cert.InpBwdRefIdeal.main_arg1)
      ∧ r.2.mem ((c.tc : Thread Cert.InpBwdRefIdeal.nD Cert.InpBwdRefIdeal.τ).loc Cert.InpBwdRefIdeal.main_arg2) = m ((c.tc : Thread Cert.InpBwdRefIdeal.nD Cert.InpBwdRefIdeal.τ).loc Cert.InpBwdRefIdeal.main_arg2)
      ∧ r.2.mem ((c.tc : Thread Cert.InpBwdRefIdeal.nD Cert.InpBwdRefIdeal.τ).loc Cert.InpBwdRefIdeal.main_arg3) = m ((c.tc : Thread Cert.InpBwdRefIdeal.nD Cert.InpBwdRefIdeal.τ).loc Cert.InpBwdRefIdeal.main_arg3)
      ∧ r.2.mem ((c.tc : Thread Cert.InpBwdRefIdeal.nD Cert.InpBwdRefIdeal.τ).loc Cert.InpBwdRefIdeal.main_arg4) = m ((c.tc : Thread Cert.InpBwdRefIdeal.nD Cert.InpBwdRefIdeal.τ).loc Cert.InpBwdRefIdeal.main_arg4)
      ∧ r.2.mem ((c.tc : Thread Cert.InpBwdRefIdeal.nD Cert.InpBwdRefIdeal.τ).loc Cert.InpBwdRefIdeal.main_arg5) = m ((c.tc : Thread Cert.InpBwdRefIdeal.nD Cert.InpBwdRefIdeal.τ).loc Cert.InpBwdRefIdeal.main_arg5)
      ∧ r.2.mem ((c.tc : Thread Cert.InpBwdRefIdeal.nD Cert.InpBwdRefIdeal.τ).loc Cert.InpBwdRefIdeal.main_arg6) = m ((c.tc : Thread Cert.InpBwdRefIdeal.nD Cert.InpBwdRefIdeal.τ).loc Cert.InpBwdRefIdeal.main_arg6)
      ∧ r.2.mem ((c.tc : Thread Cert.InpBwdRefIdeal.nD Cert.InpBwdRefIdeal.τ).loc Cert.InpBwdRefIdeal.main_arg7) = m ((c.tc : Thread Cert.InpBwdRefIdeal.nD Cert.InpBwdRefIdeal.τ).loc Cert.InpBwdRefIdeal.main_arg7)
      ∧ r.2.mem ((c.tc : Thread Cert.InpBwdRefIdeal.nD Cert.InpBwdRefIdeal.τ).loc Cert.InpBwdRefIdeal.main_arg8) = m ((c.tc : Thread Cert.InpBwdRefIdeal.nD Cert.InpBwdRefIdeal.τ).loc Cert.InpBwdRefIdeal.main_arg8)
      ∧ r.2.mem ((c.tc : Thread Cert.InpBwdRefIdeal.nD Cert.InpBwdRefIdeal.τ).loc Cert.InpBwdRefIdeal.main_arg9) = m ((c.tc : Thread Cert.InpBwdRefIdeal.nD Cert.InpBwdRefIdeal.τ).loc Cert.InpBwdRefIdeal.main_arg9)
      ∧ r.2.mem ((c.tc : Thread Cert.InpBwdRefIdeal.nD Cert.InpBwdRefIdeal.τ).loc Cert.InpBwdRefIdeal.main_arg10) = m ((c.tc : Thread Cert.InpBwdRefIdeal.nD Cert.InpBwdRefIdeal.τ).loc Cert.InpBwdRefIdeal.main_arg10)
      ∧ r.2.mem ((c.tc : Thread Cert.InpBwdRefIdeal.nD Cert.InpBwdRefIdeal.τ).loc Cert.InpBwdRefIdeal.main_arg11) = m ((c.tc : Thread Cert.InpBwdRefIdeal.nD Cert.InpBwdRefIdeal.τ).loc Cert.InpBwdRefIdeal.main_arg11)
      ∧ r.2.mem ((c.tc : Thread Cert.InpBwdRefIdeal.nD Cert.InpBwdRefIdeal.τ).loc Cert.InpBwdRefIdeal.main_arg12) = m ((c.tc : Thread Cert.InpBwdRefIdeal.nD Cert.InpBwdRefIdeal.τ).loc Cert.InpBwdRefIdeal.main_arg12)
      ∧ r.2.mem ((c.tc : Thread Cert.InpBwdRefIdeal.nD Cert.InpBwdRefIdeal.τ).loc Cert.InpBwdRefIdeal.main_arg13) = m ((c.tc : Thread Cert.InpBwdRefIdeal.nD Cert.InpBwdRefIdeal.τ).loc Cert.InpBwdRefIdeal.main_arg13)
      ∧ r.2.mem ((c.tc : Thread Cert.InpBwdRefIdeal.nD Cert.InpBwdRefIdeal.τ).loc Cert.InpBwdRefIdeal.main_arg14) = m ((c.tc : Thread Cert.InpBwdRefIdeal.nD Cert.InpBwdRefIdeal.τ).loc Cert.InpBwdRefIdeal.main_arg14)
      ∧ r.2.mem ((c.tc : Thread Cert.InpBwdRefIdeal.nD Cert.InpBwdRefIdeal.τ).loc Cert.InpBwdRefIdeal.main_arg15) = m ((c.tc : Thread Cert.InpBwdRefIdeal.nD Cert.InpBwdRefIdeal.τ).loc Cert.InpBwdRefIdeal.main_arg15)
      ∧ r.2.mem ((c.tc : Thread Cert.InpBwdRefIdeal.nD Cert.InpBwdRefIdeal.τ).loc Cert.InpBwdRefIdeal.main_arg16) = m ((c.tc : Thread Cert.InpBwdRefIdeal.nD Cert.InpBwdRefIdeal.τ).loc Cert.InpBwdRefIdeal.main_arg16)
      ∧ r.2.mem ((c.tc : Thread Cert.InpBwdRefIdeal.nD Cert.InpBwdRefIdeal.τ).loc Cert.InpBwdRefIdeal.main_arg17) = m ((c.tc : Thread Cert.InpBwdRefIdeal.nD Cert.InpBwdRefIdeal.τ).loc Cert.InpBwdRefIdeal.main_arg17))
      ∧ r.2.sem = fun _ => 0)

def quiescent_InpBwdRefIdeal_pre_finite_inp [hInpBwdRefIdeal : Cert.InpBwdRefIdeal.Facts] [hPre_finite_inp : Cert.Pre_finite_inp.Facts] : Prop :=
  ∀ (m : (ℓ : Loc Cert.InpBwdRefIdeal.nD Cert.InpBwdRefIdeal.τ Cert.InpBwdRefIdeal.sig) → Buf (Elt Ideal) ℓ) (g : Dev Cert.InpBwdRefIdeal.nD → PrngReg), Pre_InpBwdRefIdeal_finite_inp m →
    θ_run (Cert.InpBwdRefIdeal.defs (F := Ideal)) (onTc (τ := Cert.InpBwdRefIdeal.τ) (Cert.InpBwdRefIdeal.main (F := Ideal))) ⟨m, fun _ => 0, g⟩ (fun r => (∀ c : Dev Cert.InpBwdRefIdeal.nD,
      r.2.mem ((c.tc : Thread Cert.InpBwdRefIdeal.nD Cert.InpBwdRefIdeal.τ).loc Cert.InpBwdRefIdeal.main_arg0) = m ((c.tc : Thread Cert.InpBwdRefIdeal.nD Cert.InpBwdRefIdeal.τ).loc Cert.InpBwdRefIdeal.main_arg0)
      ∧ r.2.mem ((c.tc : Thread Cert.InpBwdRefIdeal.nD Cert.InpBwdRefIdeal.τ).loc Cert.InpBwdRefIdeal.main_arg1) = m ((c.tc : Thread Cert.InpBwdRefIdeal.nD Cert.InpBwdRefIdeal.τ).loc Cert.InpBwdRefIdeal.main_arg1)
      ∧ r.2.mem ((c.tc : Thread Cert.InpBwdRefIdeal.nD Cert.InpBwdRefIdeal.τ).loc Cert.InpBwdRefIdeal.main_arg2) = m ((c.tc : Thread Cert.InpBwdRefIdeal.nD Cert.InpBwdRefIdeal.τ).loc Cert.InpBwdRefIdeal.main_arg2)
      ∧ r.2.mem ((c.tc : Thread Cert.InpBwdRefIdeal.nD Cert.InpBwdRefIdeal.τ).loc Cert.InpBwdRefIdeal.main_arg3) = m ((c.tc : Thread Cert.InpBwdRefIdeal.nD Cert.InpBwdRefIdeal.τ).loc Cert.InpBwdRefIdeal.main_arg3)
      ∧ r.2.mem ((c.tc : Thread Cert.InpBwdRefIdeal.nD Cert.InpBwdRefIdeal.τ).loc Cert.InpBwdRefIdeal.main_arg4) = m ((c.tc : Thread Cert.InpBwdRefIdeal.nD Cert.InpBwdRefIdeal.τ).loc Cert.InpBwdRefIdeal.main_arg4)
      ∧ r.2.mem ((c.tc : Thread Cert.InpBwdRefIdeal.nD Cert.InpBwdRefIdeal.τ).loc Cert.InpBwdRefIdeal.main_arg5) = m ((c.tc : Thread Cert.InpBwdRefIdeal.nD Cert.InpBwdRefIdeal.τ).loc Cert.InpBwdRefIdeal.main_arg5)
      ∧ r.2.mem ((c.tc : Thread Cert.InpBwdRefIdeal.nD Cert.InpBwdRefIdeal.τ).loc Cert.InpBwdRefIdeal.main_arg6) = m ((c.tc : Thread Cert.InpBwdRefIdeal.nD Cert.InpBwdRefIdeal.τ).loc Cert.InpBwdRefIdeal.main_arg6)
      ∧ r.2.mem ((c.tc : Thread Cert.InpBwdRefIdeal.nD Cert.InpBwdRefIdeal.τ).loc Cert.InpBwdRefIdeal.main_arg7) = m ((c.tc : Thread Cert.InpBwdRefIdeal.nD Cert.InpBwdRefIdeal.τ).loc Cert.InpBwdRefIdeal.main_arg7)
      ∧ r.2.mem ((c.tc : Thread Cert.InpBwdRefIdeal.nD Cert.InpBwdRefIdeal.τ).loc Cert.InpBwdRefIdeal.main_arg8) = m ((c.tc : Thread Cert.InpBwdRefIdeal.nD Cert.InpBwdRefIdeal.τ).loc Cert.InpBwdRefIdeal.main_arg8)
      ∧ r.2.mem ((c.tc : Thread Cert.InpBwdRefIdeal.nD Cert.InpBwdRefIdeal.τ).loc Cert.InpBwdRefIdeal.main_arg9) = m ((c.tc : Thread Cert.InpBwdRefIdeal.nD Cert.InpBwdRefIdeal.τ).loc Cert.InpBwdRefIdeal.main_arg9)
      ∧ r.2.mem ((c.tc : Thread Cert.InpBwdRefIdeal.nD Cert.InpBwdRefIdeal.τ).loc Cert.InpBwdRefIdeal.main_arg10) = m ((c.tc : Thread Cert.InpBwdRefIdeal.nD Cert.InpBwdRefIdeal.τ).loc Cert.InpBwdRefIdeal.main_arg10)
      ∧ r.2.mem ((c.tc : Thread Cert.InpBwdRefIdeal.nD Cert.InpBwdRefIdeal.τ).loc Cert.InpBwdRefIdeal.main_arg11) = m ((c.tc : Thread Cert.InpBwdRefIdeal.nD Cert.InpBwdRefIdeal.τ).loc Cert.InpBwdRefIdeal.main_arg11)
      ∧ r.2.mem ((c.tc : Thread Cert.InpBwdRefIdeal.nD Cert.InpBwdRefIdeal.τ).loc Cert.InpBwdRefIdeal.main_arg12) = m ((c.tc : Thread Cert.InpBwdRefIdeal.nD Cert.InpBwdRefIdeal.τ).loc Cert.InpBwdRefIdeal.main_arg12)
      ∧ r.2.mem ((c.tc : Thread Cert.InpBwdRefIdeal.nD Cert.InpBwdRefIdeal.τ).loc Cert.InpBwdRefIdeal.main_arg13) = m ((c.tc : Thread Cert.InpBwdRefIdeal.nD Cert.InpBwdRefIdeal.τ).loc Cert.InpBwdRefIdeal.main_arg13)
      ∧ r.2.mem ((c.tc : Thread Cert.InpBwdRefIdeal.nD Cert.InpBwdRefIdeal.τ).loc Cert.InpBwdRefIdeal.main_arg14) = m ((c.tc : Thread Cert.InpBwdRefIdeal.nD Cert.InpBwdRefIdeal.τ).loc Cert.InpBwdRefIdeal.main_arg14)
      ∧ r.2.mem ((c.tc : Thread Cert.InpBwdRefIdeal.nD Cert.InpBwdRefIdeal.τ).loc Cert.InpBwdRefIdeal.main_arg15) = m ((c.tc : Thread Cert.InpBwdRefIdeal.nD Cert.InpBwdRefIdeal.τ).loc Cert.InpBwdRefIdeal.main_arg15)
      ∧ r.2.mem ((c.tc : Thread Cert.InpBwdRefIdeal.nD Cert.InpBwdRefIdeal.τ).loc Cert.InpBwdRefIdeal.main_arg16) = m ((c.tc : Thread Cert.InpBwdRefIdeal.nD Cert.InpBwdRefIdeal.τ).loc Cert.InpBwdRefIdeal.main_arg16)
      ∧ r.2.mem ((c.tc : Thread Cert.InpBwdRefIdeal.nD Cert.InpBwdRefIdeal.τ).loc Cert.InpBwdRefIdeal.main_arg17) = m ((c.tc : Thread Cert.InpBwdRefIdeal.nD Cert.InpBwdRefIdeal.τ).loc Cert.InpBwdRefIdeal.main_arg17))
      ∧ r.2.sem = fun _ => 0)

def quiescent_Dbias [hDbias : Cert.Dbias.Facts] : Prop :=
  ∀ (m : (ℓ : Loc Cert.Dbias.nD Cert.Dbias.τ Cert.Dbias.sig) → Buf (Elt Bits) ℓ) (g : Dev Cert.Dbias.nD → PrngReg), Pre_Dbias m →
    θ_run (Cert.Dbias.defs (F := Bits)) (onTc (τ := Cert.Dbias.τ) (Cert.Dbias.main (F := Bits))) ⟨m, fun _ => 0, g⟩ (fun r => (∀ c : Dev Cert.Dbias.nD,
      r.2.mem ((c.tc : Thread Cert.Dbias.nD Cert.Dbias.τ).loc Cert.Dbias.main_arg0) = m ((c.tc : Thread Cert.Dbias.nD Cert.Dbias.τ).loc Cert.Dbias.main_arg0)
      ∧ r.2.mem ((c.tc : Thread Cert.Dbias.nD Cert.Dbias.τ).loc Cert.Dbias.main_arg1) = m ((c.tc : Thread Cert.Dbias.nD Cert.Dbias.τ).loc Cert.Dbias.main_arg1)
      ∧ r.2.mem ((c.tc : Thread Cert.Dbias.nD Cert.Dbias.τ).loc Cert.Dbias.main_arg2) = m ((c.tc : Thread Cert.Dbias.nD Cert.Dbias.τ).loc Cert.Dbias.main_arg2))
      ∧ r.2.sem = fun _ => 0)

def quiescent_DbiasIdeal [hDbiasIdeal : Cert.DbiasIdeal.Facts] : Prop :=
  ∀ (m : (ℓ : Loc Cert.DbiasIdeal.nD Cert.DbiasIdeal.τ Cert.DbiasIdeal.sig) → Buf (Elt Ideal) ℓ) (g : Dev Cert.DbiasIdeal.nD → PrngReg), Pre_DbiasIdeal m →
    θ_run (Cert.DbiasIdeal.defs (F := Ideal)) (onTc (τ := Cert.DbiasIdeal.τ) (Cert.DbiasIdeal.main (F := Ideal))) ⟨m, fun _ => 0, g⟩ (fun r => (∀ c : Dev Cert.DbiasIdeal.nD,
      r.2.mem ((c.tc : Thread Cert.DbiasIdeal.nD Cert.DbiasIdeal.τ).loc Cert.DbiasIdeal.main_arg0) = m ((c.tc : Thread Cert.DbiasIdeal.nD Cert.DbiasIdeal.τ).loc Cert.DbiasIdeal.main_arg0)
      ∧ r.2.mem ((c.tc : Thread Cert.DbiasIdeal.nD Cert.DbiasIdeal.τ).loc Cert.DbiasIdeal.main_arg1) = m ((c.tc : Thread Cert.DbiasIdeal.nD Cert.DbiasIdeal.τ).loc Cert.DbiasIdeal.main_arg1)
      ∧ r.2.mem ((c.tc : Thread Cert.DbiasIdeal.nD Cert.DbiasIdeal.τ).loc Cert.DbiasIdeal.main_arg2) = m ((c.tc : Thread Cert.DbiasIdeal.nD Cert.DbiasIdeal.τ).loc Cert.DbiasIdeal.main_arg2))
      ∧ r.2.sem = fun _ => 0)

def quiescent_DbiasRefIdeal [hDbiasRefIdeal : Cert.DbiasRefIdeal.Facts] : Prop :=
  ∀ (m : (ℓ : Loc Cert.DbiasRefIdeal.nD Cert.DbiasRefIdeal.τ Cert.DbiasRefIdeal.sig) → Buf (Elt Ideal) ℓ) (g : Dev Cert.DbiasRefIdeal.nD → PrngReg), Pre_DbiasRefIdeal m →
    θ_run (Cert.DbiasRefIdeal.defs (F := Ideal)) (onTc (τ := Cert.DbiasRefIdeal.τ) (Cert.DbiasRefIdeal.main (F := Ideal))) ⟨m, fun _ => 0, g⟩ (fun r => (∀ c : Dev Cert.DbiasRefIdeal.nD,
      r.2.mem ((c.tc : Thread Cert.DbiasRefIdeal.nD Cert.DbiasRefIdeal.τ).loc Cert.DbiasRefIdeal.main_arg0) = m ((c.tc : Thread Cert.DbiasRefIdeal.nD Cert.DbiasRefIdeal.τ).loc Cert.DbiasRefIdeal.main_arg0)
      ∧ r.2.mem ((c.tc : Thread Cert.DbiasRefIdeal.nD Cert.DbiasRefIdeal.τ).loc Cert.DbiasRefIdeal.main_arg1) = m ((c.tc : Thread Cert.DbiasRefIdeal.nD Cert.DbiasRefIdeal.τ).loc Cert.DbiasRefIdeal.main_arg1)
      ∧ r.2.mem ((c.tc : Thread Cert.DbiasRefIdeal.nD Cert.DbiasRefIdeal.τ).loc Cert.DbiasRefIdeal.main_arg2) = m ((c.tc : Thread Cert.DbiasRefIdeal.nD Cert.DbiasRefIdeal.τ).loc Cert.DbiasRefIdeal.main_arg2))
      ∧ r.2.sem = fun _ => 0)

def quiescent_BandDq [hBandDq : Cert.BandDq.Facts] : Prop :=
  ∀ (m : (ℓ : Loc Cert.BandDq.nD Cert.BandDq.τ Cert.BandDq.sig) → Buf (Elt Bits) ℓ) (g : Dev Cert.BandDq.nD → PrngReg), Pre_BandDq m →
    θ_run (Cert.BandDq.defs (F := Bits)) (onTc (τ := Cert.BandDq.τ) (Cert.BandDq.main (F := Bits))) ⟨m, fun _ => 0, g⟩ (fun r => (∀ c : Dev Cert.BandDq.nD,
      r.2.mem ((c.tc : Thread Cert.BandDq.nD Cert.BandDq.τ).loc Cert.BandDq.main_arg0) = m ((c.tc : Thread Cert.BandDq.nD Cert.BandDq.τ).loc Cert.BandDq.main_arg0)
      ∧ r.2.mem ((c.tc : Thread Cert.BandDq.nD Cert.BandDq.τ).loc Cert.BandDq.main_arg1) = m ((c.tc : Thread Cert.BandDq.nD Cert.BandDq.τ).loc Cert.BandDq.main_arg1)
      ∧ r.2.mem ((c.tc : Thread Cert.BandDq.nD Cert.BandDq.τ).loc Cert.BandDq.main_arg2) = m ((c.tc : Thread Cert.BandDq.nD Cert.BandDq.τ).loc Cert.BandDq.main_arg2)
      ∧ r.2.mem ((c.tc : Thread Cert.BandDq.nD Cert.BandDq.τ).loc Cert.BandDq.main_arg3) = m ((c.tc : Thread Cert.BandDq.nD Cert.BandDq.τ).loc Cert.BandDq.main_arg3)
      ∧ r.2.mem ((c.tc : Thread Cert.BandDq.nD Cert.BandDq.τ).loc Cert.BandDq.main_arg4) = m ((c.tc : Thread Cert.BandDq.nD Cert.BandDq.τ).loc Cert.BandDq.main_arg4))
      ∧ r.2.sem = fun _ => 0)

def quiescent_BandDqIdeal [hBandDqIdeal : Cert.BandDqIdeal.Facts] : Prop :=
  ∀ (m : (ℓ : Loc Cert.BandDqIdeal.nD Cert.BandDqIdeal.τ Cert.BandDqIdeal.sig) → Buf (Elt Ideal) ℓ) (g : Dev Cert.BandDqIdeal.nD → PrngReg), Pre_BandDqIdeal m →
    θ_run (Cert.BandDqIdeal.defs (F := Ideal)) (onTc (τ := Cert.BandDqIdeal.τ) (Cert.BandDqIdeal.main (F := Ideal))) ⟨m, fun _ => 0, g⟩ (fun r => (∀ c : Dev Cert.BandDqIdeal.nD,
      r.2.mem ((c.tc : Thread Cert.BandDqIdeal.nD Cert.BandDqIdeal.τ).loc Cert.BandDqIdeal.main_arg0) = m ((c.tc : Thread Cert.BandDqIdeal.nD Cert.BandDqIdeal.τ).loc Cert.BandDqIdeal.main_arg0)
      ∧ r.2.mem ((c.tc : Thread Cert.BandDqIdeal.nD Cert.BandDqIdeal.τ).loc Cert.BandDqIdeal.main_arg1) = m ((c.tc : Thread Cert.BandDqIdeal.nD Cert.BandDqIdeal.τ).loc Cert.BandDqIdeal.main_arg1)
      ∧ r.2.mem ((c.tc : Thread Cert.BandDqIdeal.nD Cert.BandDqIdeal.τ).loc Cert.BandDqIdeal.main_arg2) = m ((c.tc : Thread Cert.BandDqIdeal.nD Cert.BandDqIdeal.τ).loc Cert.BandDqIdeal.main_arg2)
      ∧ r.2.mem ((c.tc : Thread Cert.BandDqIdeal.nD Cert.BandDqIdeal.τ).loc Cert.BandDqIdeal.main_arg3) = m ((c.tc : Thread Cert.BandDqIdeal.nD Cert.BandDqIdeal.τ).loc Cert.BandDqIdeal.main_arg3)
      ∧ r.2.mem ((c.tc : Thread Cert.BandDqIdeal.nD Cert.BandDqIdeal.τ).loc Cert.BandDqIdeal.main_arg4) = m ((c.tc : Thread Cert.BandDqIdeal.nD Cert.BandDqIdeal.τ).loc Cert.BandDqIdeal.main_arg4))
      ∧ r.2.sem = fun _ => 0)

def quiescent_BandDqRefIdeal [hBandDqRefIdeal : Cert.BandDqRefIdeal.Facts] : Prop :=
  ∀ (m : (ℓ : Loc Cert.BandDqRefIdeal.nD Cert.BandDqRefIdeal.τ Cert.BandDqRefIdeal.sig) → Buf (Elt Ideal) ℓ) (g : Dev Cert.BandDqRefIdeal.nD → PrngReg), Pre_BandDqRefIdeal m →
    θ_run (Cert.BandDqRefIdeal.defs (F := Ideal)) (onTc (τ := Cert.BandDqRefIdeal.τ) (Cert.BandDqRefIdeal.main (F := Ideal))) ⟨m, fun _ => 0, g⟩ (fun r => (∀ c : Dev Cert.BandDqRefIdeal.nD,
      r.2.mem ((c.tc : Thread Cert.BandDqRefIdeal.nD Cert.BandDqRefIdeal.τ).loc Cert.BandDqRefIdeal.main_arg0) = m ((c.tc : Thread Cert.BandDqRefIdeal.nD Cert.BandDqRefIdeal.τ).loc Cert.BandDqRefIdeal.main_arg0)
      ∧ r.2.mem ((c.tc : Thread Cert.BandDqRefIdeal.nD Cert.BandDqRefIdeal.τ).loc Cert.BandDqRefIdeal.main_arg1) = m ((c.tc : Thread Cert.BandDqRefIdeal.nD Cert.BandDqRefIdeal.τ).loc Cert.BandDqRefIdeal.main_arg1)
      ∧ r.2.mem ((c.tc : Thread Cert.BandDqRefIdeal.nD Cert.BandDqRefIdeal.τ).loc Cert.BandDqRefIdeal.main_arg2) = m ((c.tc : Thread Cert.BandDqRefIdeal.nD Cert.BandDqRefIdeal.τ).loc Cert.BandDqRefIdeal.main_arg2)
      ∧ r.2.mem ((c.tc : Thread Cert.BandDqRefIdeal.nD Cert.BandDqRefIdeal.τ).loc Cert.BandDqRefIdeal.main_arg3) = m ((c.tc : Thread Cert.BandDqRefIdeal.nD Cert.BandDqRefIdeal.τ).loc Cert.BandDqRefIdeal.main_arg3)
      ∧ r.2.mem ((c.tc : Thread Cert.BandDqRefIdeal.nD Cert.BandDqRefIdeal.τ).loc Cert.BandDqRefIdeal.main_arg4) = m ((c.tc : Thread Cert.BandDqRefIdeal.nD Cert.BandDqRefIdeal.τ).loc Cert.BandDqRefIdeal.main_arg4))
      ∧ r.2.sem = fun _ => 0)

def quiescent_BandDkv [hBandDkv : Cert.BandDkv.Facts] : Prop :=
  ∀ (m : (ℓ : Loc Cert.BandDkv.nD Cert.BandDkv.τ Cert.BandDkv.sig) → Buf (Elt Bits) ℓ) (g : Dev Cert.BandDkv.nD → PrngReg), Pre_BandDkv m →
    θ_run (Cert.BandDkv.defs (F := Bits)) (onTc (τ := Cert.BandDkv.τ) (Cert.BandDkv.main (F := Bits))) ⟨m, fun _ => 0, g⟩ (fun r => (∀ c : Dev Cert.BandDkv.nD,
      r.2.mem ((c.tc : Thread Cert.BandDkv.nD Cert.BandDkv.τ).loc Cert.BandDkv.main_arg0) = m ((c.tc : Thread Cert.BandDkv.nD Cert.BandDkv.τ).loc Cert.BandDkv.main_arg0)
      ∧ r.2.mem ((c.tc : Thread Cert.BandDkv.nD Cert.BandDkv.τ).loc Cert.BandDkv.main_arg1) = m ((c.tc : Thread Cert.BandDkv.nD Cert.BandDkv.τ).loc Cert.BandDkv.main_arg1)
      ∧ r.2.mem ((c.tc : Thread Cert.BandDkv.nD Cert.BandDkv.τ).loc Cert.BandDkv.main_arg2) = m ((c.tc : Thread Cert.BandDkv.nD Cert.BandDkv.τ).loc Cert.BandDkv.main_arg2)
      ∧ r.2.mem ((c.tc : Thread Cert.BandDkv.nD Cert.BandDkv.τ).loc Cert.BandDkv.main_arg3) = m ((c.tc : Thread Cert.BandDkv.nD Cert.BandDkv.τ).loc Cert.BandDkv.main_arg3)
      ∧ r.2.mem ((c.tc : Thread Cert.BandDkv.nD Cert.BandDkv.τ).loc Cert.BandDkv.main_arg4) = m ((c.tc : Thread Cert.BandDkv.nD Cert.BandDkv.τ).loc Cert.BandDkv.main_arg4))
      ∧ r.2.sem = fun _ => 0)

def quiescent_BandDkvIdeal [hBandDkvIdeal : Cert.BandDkvIdeal.Facts] : Prop :=
  ∀ (m : (ℓ : Loc Cert.BandDkvIdeal.nD Cert.BandDkvIdeal.τ Cert.BandDkvIdeal.sig) → Buf (Elt Ideal) ℓ) (g : Dev Cert.BandDkvIdeal.nD → PrngReg), Pre_BandDkvIdeal m →
    θ_run (Cert.BandDkvIdeal.defs (F := Ideal)) (onTc (τ := Cert.BandDkvIdeal.τ) (Cert.BandDkvIdeal.main (F := Ideal))) ⟨m, fun _ => 0, g⟩ (fun r => (∀ c : Dev Cert.BandDkvIdeal.nD,
      r.2.mem ((c.tc : Thread Cert.BandDkvIdeal.nD Cert.BandDkvIdeal.τ).loc Cert.BandDkvIdeal.main_arg0) = m ((c.tc : Thread Cert.BandDkvIdeal.nD Cert.BandDkvIdeal.τ).loc Cert.BandDkvIdeal.main_arg0)
      ∧ r.2.mem ((c.tc : Thread Cert.BandDkvIdeal.nD Cert.BandDkvIdeal.τ).loc Cert.BandDkvIdeal.main_arg1) = m ((c.tc : Thread Cert.BandDkvIdeal.nD Cert.BandDkvIdeal.τ).loc Cert.BandDkvIdeal.main_arg1)
      ∧ r.2.mem ((c.tc : Thread Cert.BandDkvIdeal.nD Cert.BandDkvIdeal.τ).loc Cert.BandDkvIdeal.main_arg2) = m ((c.tc : Thread Cert.BandDkvIdeal.nD Cert.BandDkvIdeal.τ).loc Cert.BandDkvIdeal.main_arg2)
      ∧ r.2.mem ((c.tc : Thread Cert.BandDkvIdeal.nD Cert.BandDkvIdeal.τ).loc Cert.BandDkvIdeal.main_arg3) = m ((c.tc : Thread Cert.BandDkvIdeal.nD Cert.BandDkvIdeal.τ).loc Cert.BandDkvIdeal.main_arg3)
      ∧ r.2.mem ((c.tc : Thread Cert.BandDkvIdeal.nD Cert.BandDkvIdeal.τ).loc Cert.BandDkvIdeal.main_arg4) = m ((c.tc : Thread Cert.BandDkvIdeal.nD Cert.BandDkvIdeal.τ).loc Cert.BandDkvIdeal.main_arg4))
      ∧ r.2.sem = fun _ => 0)

def quiescent_BandDkvRefIdeal [hBandDkvRefIdeal : Cert.BandDkvRefIdeal.Facts] : Prop :=
  ∀ (m : (ℓ : Loc Cert.BandDkvRefIdeal.nD Cert.BandDkvRefIdeal.τ Cert.BandDkvRefIdeal.sig) → Buf (Elt Ideal) ℓ) (g : Dev Cert.BandDkvRefIdeal.nD → PrngReg), Pre_BandDkvRefIdeal m →
    θ_run (Cert.BandDkvRefIdeal.defs (F := Ideal)) (onTc (τ := Cert.BandDkvRefIdeal.τ) (Cert.BandDkvRefIdeal.main (F := Ideal))) ⟨m, fun _ => 0, g⟩ (fun r => (∀ c : Dev Cert.BandDkvRefIdeal.nD,
      r.2.mem ((c.tc : Thread Cert.BandDkvRefIdeal.nD Cert.BandDkvRefIdeal.τ).loc Cert.BandDkvRefIdeal.main_arg0) = m ((c.tc : Thread Cert.BandDkvRefIdeal.nD Cert.BandDkvRefIdeal.τ).loc Cert.BandDkvRefIdeal.main_arg0)
      ∧ r.2.mem ((c.tc : Thread Cert.BandDkvRefIdeal.nD Cert.BandDkvRefIdeal.τ).loc Cert.BandDkvRefIdeal.main_arg1) = m ((c.tc : Thread Cert.BandDkvRefIdeal.nD Cert.BandDkvRefIdeal.τ).loc Cert.BandDkvRefIdeal.main_arg1)
      ∧ r.2.mem ((c.tc : Thread Cert.BandDkvRefIdeal.nD Cert.BandDkvRefIdeal.τ).loc Cert.BandDkvRefIdeal.main_arg2) = m ((c.tc : Thread Cert.BandDkvRefIdeal.nD Cert.BandDkvRefIdeal.τ).loc Cert.BandDkvRefIdeal.main_arg2)
      ∧ r.2.mem ((c.tc : Thread Cert.BandDkvRefIdeal.nD Cert.BandDkvRefIdeal.τ).loc Cert.BandDkvRefIdeal.main_arg3) = m ((c.tc : Thread Cert.BandDkvRefIdeal.nD Cert.BandDkvRefIdeal.τ).loc Cert.BandDkvRefIdeal.main_arg3)
      ∧ r.2.mem ((c.tc : Thread Cert.BandDkvRefIdeal.nD Cert.BandDkvRefIdeal.τ).loc Cert.BandDkvRefIdeal.main_arg4) = m ((c.tc : Thread Cert.BandDkvRefIdeal.nD Cert.BandDkvRefIdeal.τ).loc Cert.BandDkvRefIdeal.main_arg4))
      ∧ r.2.sem = fun _ => 0)

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)) (v5 : (c : Dev Cert.PleIdeal.nD) → Buf (Elt Ideal) ((c.tc : Thread Cert.PleIdeal.nD Cert.PleIdeal.τ).loc Cert.PleIdeal.main_v2_5)) (v6 : (c : Dev Cert.PleIdeal.nD) → Buf (Elt Ideal) ((c.tc : Thread Cert.PleIdeal.nD Cert.PleIdeal.τ).loc Cert.PleIdeal.main_v2_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_v2_5) = v5 c
          ∧ r.2.mem ((c.tc : Thread Cert.PleIdeal.nD Cert.PleIdeal.τ).loc Cert.PleIdeal.main_v2_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v69) = v0 c
          ∧ r.2.mem ((c.tc : Thread Cert.PleRefIdeal.nD Cert.PleRefIdeal.τ).loc Cert.PleRefIdeal.main_v71) = v1 c
          ∧ r.2.mem ((c.tc : Thread Cert.PleRefIdeal.nD Cert.PleRefIdeal.τ).loc Cert.PleRefIdeal.main_v52) = v2 c
          ∧ r.2.mem ((c.tc : Thread Cert.PleRefIdeal.nD Cert.PleRefIdeal.τ).loc Cert.PleRefIdeal.main_v84) = v3 c
          ∧ r.2.mem ((c.tc : Thread Cert.PleRefIdeal.nD Cert.PleRefIdeal.τ).loc Cert.PleRefIdeal.main_v85) = v4 c
          ∧ r.2.mem ((c.tc : Thread Cert.PleRefIdeal.nD Cert.PleRefIdeal.τ).loc Cert.PleRefIdeal.main_v86) = v5 c
          ∧ r.2.mem ((c.tc : Thread Cert.PleRefIdeal.nD Cert.PleRefIdeal.τ).loc Cert.PleRefIdeal.main_v87) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v41_0)) (v1 : (c : Dev Cert.AttnBwdIdeal.nD) → Buf (Elt Ideal) ((c.tc : Thread Cert.AttnBwdIdeal.nD Cert.AttnBwdIdeal.τ).loc Cert.AttnBwdIdeal.main_v41_1)) (v2 : (c : Dev Cert.AttnBwdIdeal.nD) → Buf (Elt Ideal) ((c.tc : Thread Cert.AttnBwdIdeal.nD Cert.AttnBwdIdeal.τ).loc Cert.AttnBwdIdeal.main_v41_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v41_0) = v0 c
          ∧ r.2.mem ((c.tc : Thread Cert.AttnBwdIdeal.nD Cert.AttnBwdIdeal.τ).loc Cert.AttnBwdIdeal.main_v41_1) = v1 c
          ∧ r.2.mem ((c.tc : Thread Cert.AttnBwdIdeal.nD Cert.AttnBwdIdeal.τ).loc Cert.AttnBwdIdeal.main_v41_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v57) = v0 c
          ∧ r.2.mem ((c.tc : Thread Cert.AttnBwdRefIdeal.nD Cert.AttnBwdRefIdeal.τ).loc Cert.AttnBwdRefIdeal.main_v59) = v1 c
          ∧ r.2.mem ((c.tc : Thread Cert.AttnBwdRefIdeal.nD Cert.AttnBwdRefIdeal.τ).loc Cert.AttnBwdRefIdeal.main_v61) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MlpBwd_MlpBwdIdeal : Prop :=
  True

def algebraic_MlpBwdIdeal_MlpBwdRefIdeal_pre_finite_mlp [hMlpBwdIdeal : Cert.MlpBwdIdeal.Facts] [hMlpBwdRefIdeal : Cert.MlpBwdRefIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_finite_mlp m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v20_0)) (v1 : (c : Dev Cert.MlpBwdIdeal.nD) → Buf (Elt Ideal) ((c.tc : Thread Cert.MlpBwdIdeal.nD Cert.MlpBwdIdeal.τ).loc Cert.MlpBwdIdeal.main_v20_1)) (v2 : (c : Dev Cert.MlpBwdIdeal.nD) → Buf (Elt Ideal) ((c.tc : Thread Cert.MlpBwdIdeal.nD Cert.MlpBwdIdeal.τ).loc Cert.MlpBwdIdeal.main_v20_2)) (v3 : (c : Dev Cert.MlpBwdIdeal.nD) → Buf (Elt Ideal) ((c.tc : Thread Cert.MlpBwdIdeal.nD Cert.MlpBwdIdeal.τ).loc Cert.MlpBwdIdeal.main_v20_3)) (v4 : (c : Dev Cert.MlpBwdIdeal.nD) → Buf (Elt Ideal) ((c.tc : Thread Cert.MlpBwdIdeal.nD Cert.MlpBwdIdeal.τ).loc Cert.MlpBwdIdeal.main_v20_4)) (v5 : (c : Dev Cert.MlpBwdIdeal.nD) → Buf (Elt Ideal) ((c.tc : Thread Cert.MlpBwdIdeal.nD Cert.MlpBwdIdeal.τ).loc Cert.MlpBwdIdeal.main_v20_5)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v20_0) = v0 c
          ∧ r.2.mem ((c.tc : Thread Cert.MlpBwdIdeal.nD Cert.MlpBwdIdeal.τ).loc Cert.MlpBwdIdeal.main_v20_1) = v1 c
          ∧ r.2.mem ((c.tc : Thread Cert.MlpBwdIdeal.nD Cert.MlpBwdIdeal.τ).loc Cert.MlpBwdIdeal.main_v20_2) = v2 c
          ∧ r.2.mem ((c.tc : Thread Cert.MlpBwdIdeal.nD Cert.MlpBwdIdeal.τ).loc Cert.MlpBwdIdeal.main_v20_3) = v3 c
          ∧ r.2.mem ((c.tc : Thread Cert.MlpBwdIdeal.nD Cert.MlpBwdIdeal.τ).loc Cert.MlpBwdIdeal.main_v20_4) = v4 c
          ∧ r.2.mem ((c.tc : Thread Cert.MlpBwdIdeal.nD Cert.MlpBwdIdeal.τ).loc Cert.MlpBwdIdeal.main_v20_5) = v5 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v88) = v0 c
          ∧ r.2.mem ((c.tc : Thread Cert.MlpBwdRefIdeal.nD Cert.MlpBwdRefIdeal.τ).loc Cert.MlpBwdRefIdeal.main_v89) = v1 c
          ∧ r.2.mem ((c.tc : Thread Cert.MlpBwdRefIdeal.nD Cert.MlpBwdRefIdeal.τ).loc Cert.MlpBwdRefIdeal.main_v90) = v2 c
          ∧ r.2.mem ((c.tc : Thread Cert.MlpBwdRefIdeal.nD Cert.MlpBwdRefIdeal.τ).loc Cert.MlpBwdRefIdeal.main_v91) = v3 c
          ∧ r.2.mem ((c.tc : Thread Cert.MlpBwdRefIdeal.nD Cert.MlpBwdRefIdeal.τ).loc Cert.MlpBwdRefIdeal.main_v47) = v4 c
          ∧ r.2.mem ((c.tc : Thread Cert.MlpBwdRefIdeal.nD Cert.MlpBwdRefIdeal.τ).loc Cert.MlpBwdRefIdeal.main_v71) = v5 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5))

def preserves_OutBwd_OutBwdIdeal : Prop :=
  True

def algebraic_OutBwdIdeal_OutBwdRefIdeal_pre_finite_out [hOutBwdIdeal : Cert.OutBwdIdeal.Facts] [hOutBwdRefIdeal : Cert.OutBwdRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v56_0)) (v1 : (c : Dev Cert.OutBwdIdeal.nD) → Buf (Elt Ideal) ((c.tc : Thread Cert.OutBwdIdeal.nD Cert.OutBwdIdeal.τ).loc Cert.OutBwdIdeal.main_v56_1)) (v2 : (c : Dev Cert.OutBwdIdeal.nD) → Buf (Elt Ideal) ((c.tc : Thread Cert.OutBwdIdeal.nD Cert.OutBwdIdeal.τ).loc Cert.OutBwdIdeal.main_v56_2)) (v3 : (c : Dev Cert.OutBwdIdeal.nD) → Buf (Elt Ideal) ((c.tc : Thread Cert.OutBwdIdeal.nD Cert.OutBwdIdeal.τ).loc Cert.OutBwdIdeal.main_v56_3)) (v4 : (c : Dev Cert.OutBwdIdeal.nD) → Buf (Elt Ideal) ((c.tc : Thread Cert.OutBwdIdeal.nD Cert.OutBwdIdeal.τ).loc Cert.OutBwdIdeal.main_v56_4)) (v5 : (c : Dev Cert.OutBwdIdeal.nD) → Buf (Elt Ideal) ((c.tc : Thread Cert.OutBwdIdeal.nD Cert.OutBwdIdeal.τ).loc Cert.OutBwdIdeal.main_v56_5)) (v6 : (c : Dev Cert.OutBwdIdeal.nD) → Buf (Elt Ideal) ((c.tc : Thread Cert.OutBwdIdeal.nD Cert.OutBwdIdeal.τ).loc Cert.OutBwdIdeal.main_v56_6)) (v7 : (c : Dev Cert.OutBwdIdeal.nD) → Buf (Elt Ideal) ((c.tc : Thread Cert.OutBwdIdeal.nD Cert.OutBwdIdeal.τ).loc Cert.OutBwdIdeal.main_v56_7)) (v8 : (c : Dev Cert.OutBwdIdeal.nD) → Buf (Elt Ideal) ((c.tc : Thread Cert.OutBwdIdeal.nD Cert.OutBwdIdeal.τ).loc Cert.OutBwdIdeal.main_v56_8)) (v9 : (c : Dev Cert.OutBwdIdeal.nD) → Buf (Elt Ideal) ((c.tc : Thread Cert.OutBwdIdeal.nD Cert.OutBwdIdeal.τ).loc Cert.OutBwdIdeal.main_v56_9)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v56_0) = v0 c
          ∧ r.2.mem ((c.tc : Thread Cert.OutBwdIdeal.nD Cert.OutBwdIdeal.τ).loc Cert.OutBwdIdeal.main_v56_1) = v1 c
          ∧ r.2.mem ((c.tc : Thread Cert.OutBwdIdeal.nD Cert.OutBwdIdeal.τ).loc Cert.OutBwdIdeal.main_v56_2) = v2 c
          ∧ r.2.mem ((c.tc : Thread Cert.OutBwdIdeal.nD Cert.OutBwdIdeal.τ).loc Cert.OutBwdIdeal.main_v56_3) = v3 c
          ∧ r.2.mem ((c.tc : Thread Cert.OutBwdIdeal.nD Cert.OutBwdIdeal.τ).loc Cert.OutBwdIdeal.main_v56_4) = v4 c
          ∧ r.2.mem ((c.tc : Thread Cert.OutBwdIdeal.nD Cert.OutBwdIdeal.τ).loc Cert.OutBwdIdeal.main_v56_5) = v5 c
          ∧ r.2.mem ((c.tc : Thread Cert.OutBwdIdeal.nD Cert.OutBwdIdeal.τ).loc Cert.OutBwdIdeal.main_v56_6) = v6 c
          ∧ r.2.mem ((c.tc : Thread Cert.OutBwdIdeal.nD Cert.OutBwdIdeal.τ).loc Cert.OutBwdIdeal.main_v56_7) = v7 c
          ∧ r.2.mem ((c.tc : Thread Cert.OutBwdIdeal.nD Cert.OutBwdIdeal.τ).loc Cert.OutBwdIdeal.main_v56_8) = v8 c
          ∧ r.2.mem ((c.tc : Thread Cert.OutBwdIdeal.nD Cert.OutBwdIdeal.τ).loc Cert.OutBwdIdeal.main_v56_9) = v9 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v120) = v0 c
          ∧ r.2.mem ((c.tc : Thread Cert.OutBwdRefIdeal.nD Cert.OutBwdRefIdeal.τ).loc Cert.OutBwdRefIdeal.main_v121) = v1 c
          ∧ r.2.mem ((c.tc : Thread Cert.OutBwdRefIdeal.nD Cert.OutBwdRefIdeal.τ).loc Cert.OutBwdRefIdeal.main_v122) = v2 c
          ∧ r.2.mem ((c.tc : Thread Cert.OutBwdRefIdeal.nD Cert.OutBwdRefIdeal.τ).loc Cert.OutBwdRefIdeal.main_v114) = v3 c
          ∧ r.2.mem ((c.tc : Thread Cert.OutBwdRefIdeal.nD Cert.OutBwdRefIdeal.τ).loc Cert.OutBwdRefIdeal.main_v119) = v4 c
          ∧ r.2.mem ((c.tc : Thread Cert.OutBwdRefIdeal.nD Cert.OutBwdRefIdeal.τ).loc Cert.OutBwdRefIdeal.main_v51) = v5 c
          ∧ r.2.mem ((c.tc : Thread Cert.OutBwdRefIdeal.nD Cert.OutBwdRefIdeal.τ).loc Cert.OutBwdRefIdeal.main_v92) = v6 c
          ∧ r.2.mem ((c.tc : Thread Cert.OutBwdRefIdeal.nD Cert.OutBwdRefIdeal.τ).loc Cert.OutBwdRefIdeal.main_v73) = v7 c
          ∧ r.2.mem ((c.tc : Thread Cert.OutBwdRefIdeal.nD Cert.OutBwdRefIdeal.τ).loc Cert.OutBwdRefIdeal.main_v124) = v8 c
          ∧ r.2.mem ((c.tc : Thread Cert.OutBwdRefIdeal.nD Cert.OutBwdRefIdeal.τ).loc Cert.OutBwdRefIdeal.main_v126) = v9 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_InpBwd_InpBwdIdeal : Prop :=
  True

def algebraic_InpBwdIdeal_InpBwdRefIdeal_pre_finite_inp [hInpBwdIdeal : Cert.InpBwdIdeal.Facts] [hInpBwdRefIdeal : Cert.InpBwdRefIdeal.Facts] [hPre_finite_inp : Cert.Pre_finite_inp.Facts] : Prop :=
  ∀ (m : (ℓ : Loc Cert.InpBwdIdeal.nD Cert.InpBwdIdeal.τ Cert.InpBwdIdeal.sig) → Buf (Elt Ideal) ℓ) (g : Dev Cert.InpBwdIdeal.nD → PrngReg)
    (m' : (ℓ : Loc Cert.InpBwdRefIdeal.nD Cert.InpBwdRefIdeal.τ Cert.InpBwdRefIdeal.sig) → Buf (Elt Ideal) ℓ) (g' : Dev Cert.InpBwdRefIdeal.nD → PrngReg), Pre_InpBwdIdeal_finite_inp m →
    (∀ c : Dev Cert.InpBwdIdeal.nD,
      m' ((c.tc : Thread Cert.InpBwdRefIdeal.nD Cert.InpBwdRefIdeal.τ).loc Cert.InpBwdRefIdeal.main_arg0) = m ((c.tc : Thread Cert.InpBwdIdeal.nD Cert.InpBwdIdeal.τ).loc Cert.InpBwdIdeal.main_arg0)
      ∧ m' ((c.tc : Thread Cert.InpBwdRefIdeal.nD Cert.InpBwdRefIdeal.τ).loc Cert.InpBwdRefIdeal.main_arg1) = m ((c.tc : Thread Cert.InpBwdIdeal.nD Cert.InpBwdIdeal.τ).loc Cert.InpBwdIdeal.main_arg1)
      ∧ m' ((c.tc : Thread Cert.InpBwdRefIdeal.nD Cert.InpBwdRefIdeal.τ).loc Cert.InpBwdRefIdeal.main_arg2) = m ((c.tc : Thread Cert.InpBwdIdeal.nD Cert.InpBwdIdeal.τ).loc Cert.InpBwdIdeal.main_arg2)
      ∧ m' ((c.tc : Thread Cert.InpBwdRefIdeal.nD Cert.InpBwdRefIdeal.τ).loc Cert.InpBwdRefIdeal.main_arg3) = m ((c.tc : Thread Cert.InpBwdIdeal.nD Cert.InpBwdIdeal.τ).loc Cert.InpBwdIdeal.main_arg3)
      ∧ m' ((c.tc : Thread Cert.InpBwdRefIdeal.nD Cert.InpBwdRefIdeal.τ).loc Cert.InpBwdRefIdeal.main_arg4) = m ((c.tc : Thread Cert.InpBwdIdeal.nD Cert.InpBwdIdeal.τ).loc Cert.InpBwdIdeal.main_arg4)
      ∧ m' ((c.tc : Thread Cert.InpBwdRefIdeal.nD Cert.InpBwdRefIdeal.τ).loc Cert.InpBwdRefIdeal.main_arg5) = m ((c.tc : Thread Cert.InpBwdIdeal.nD Cert.InpBwdIdeal.τ).loc Cert.InpBwdIdeal.main_arg5)
      ∧ m' ((c.tc : Thread Cert.InpBwdRefIdeal.nD Cert.InpBwdRefIdeal.τ).loc Cert.InpBwdRefIdeal.main_arg6) = m ((c.tc : Thread Cert.InpBwdIdeal.nD Cert.InpBwdIdeal.τ).loc Cert.InpBwdIdeal.main_arg6)
      ∧ m' ((c.tc : Thread Cert.InpBwdRefIdeal.nD Cert.InpBwdRefIdeal.τ).loc Cert.InpBwdRefIdeal.main_arg7) = m ((c.tc : Thread Cert.InpBwdIdeal.nD Cert.InpBwdIdeal.τ).loc Cert.InpBwdIdeal.main_arg7)
      ∧ m' ((c.tc : Thread Cert.InpBwdRefIdeal.nD Cert.InpBwdRefIdeal.τ).loc Cert.InpBwdRefIdeal.main_arg8) = m ((c.tc : Thread Cert.InpBwdIdeal.nD Cert.InpBwdIdeal.τ).loc Cert.InpBwdIdeal.main_arg8)
      ∧ m' ((c.tc : Thread Cert.InpBwdRefIdeal.nD Cert.InpBwdRefIdeal.τ).loc Cert.InpBwdRefIdeal.main_arg9) = m ((c.tc : Thread Cert.InpBwdIdeal.nD Cert.InpBwdIdeal.τ).loc Cert.InpBwdIdeal.main_arg9)
      ∧ m' ((c.tc : Thread Cert.InpBwdRefIdeal.nD Cert.InpBwdRefIdeal.τ).loc Cert.InpBwdRefIdeal.main_arg10) = m ((c.tc : Thread Cert.InpBwdIdeal.nD Cert.InpBwdIdeal.τ).loc Cert.InpBwdIdeal.main_arg10)
      ∧ m' ((c.tc : Thread Cert.InpBwdRefIdeal.nD Cert.InpBwdRefIdeal.τ).loc Cert.InpBwdRefIdeal.main_arg11) = m ((c.tc : Thread Cert.InpBwdIdeal.nD Cert.InpBwdIdeal.τ).loc Cert.InpBwdIdeal.main_arg11)
      ∧ m' ((c.tc : Thread Cert.InpBwdRefIdeal.nD Cert.InpBwdRefIdeal.τ).loc Cert.InpBwdRefIdeal.main_arg12) = m ((c.tc : Thread Cert.InpBwdIdeal.nD Cert.InpBwdIdeal.τ).loc Cert.InpBwdIdeal.main_arg12)
      ∧ m' ((c.tc : Thread Cert.InpBwdRefIdeal.nD Cert.InpBwdRefIdeal.τ).loc Cert.InpBwdRefIdeal.main_arg13) = m ((c.tc : Thread Cert.InpBwdIdeal.nD Cert.InpBwdIdeal.τ).loc Cert.InpBwdIdeal.main_arg13)
      ∧ m' ((c.tc : Thread Cert.InpBwdRefIdeal.nD Cert.InpBwdRefIdeal.τ).loc Cert.InpBwdRefIdeal.main_arg14) = m ((c.tc : Thread Cert.InpBwdIdeal.nD Cert.InpBwdIdeal.τ).loc Cert.InpBwdIdeal.main_arg14)
      ∧ m' ((c.tc : Thread Cert.InpBwdRefIdeal.nD Cert.InpBwdRefIdeal.τ).loc Cert.InpBwdRefIdeal.main_arg15) = m ((c.tc : Thread Cert.InpBwdIdeal.nD Cert.InpBwdIdeal.τ).loc Cert.InpBwdIdeal.main_arg15)
      ∧ m' ((c.tc : Thread Cert.InpBwdRefIdeal.nD Cert.InpBwdRefIdeal.τ).loc Cert.InpBwdRefIdeal.main_arg16) = m ((c.tc : Thread Cert.InpBwdIdeal.nD Cert.InpBwdIdeal.τ).loc Cert.InpBwdIdeal.main_arg16)
      ∧ m' ((c.tc : Thread Cert.InpBwdRefIdeal.nD Cert.InpBwdRefIdeal.τ).loc Cert.InpBwdRefIdeal.main_arg17) = m ((c.tc : Thread Cert.InpBwdIdeal.nD Cert.InpBwdIdeal.τ).loc Cert.InpBwdIdeal.main_arg17)) →
    ∃ (v0 : (c : Dev Cert.InpBwdIdeal.nD) → Buf (Elt Ideal) ((c.tc : Thread Cert.InpBwdIdeal.nD Cert.InpBwdIdeal.τ).loc Cert.InpBwdIdeal.main_v108_0)) (v1 : (c : Dev Cert.InpBwdIdeal.nD) → Buf (Elt Ideal) ((c.tc : Thread Cert.InpBwdIdeal.nD Cert.InpBwdIdeal.τ).loc Cert.InpBwdIdeal.main_v108_1)) (v2 : (c : Dev Cert.InpBwdIdeal.nD) → Buf (Elt Ideal) ((c.tc : Thread Cert.InpBwdIdeal.nD Cert.InpBwdIdeal.τ).loc Cert.InpBwdIdeal.main_v108_2)) (v3 : (c : Dev Cert.InpBwdIdeal.nD) → Buf (Elt Ideal) ((c.tc : Thread Cert.InpBwdIdeal.nD Cert.InpBwdIdeal.τ).loc Cert.InpBwdIdeal.main_v108_3)) (v4 : (c : Dev Cert.InpBwdIdeal.nD) → Buf (Elt Ideal) ((c.tc : Thread Cert.InpBwdIdeal.nD Cert.InpBwdIdeal.τ).loc Cert.InpBwdIdeal.main_v108_4)),
      θ_run (Cert.InpBwdIdeal.defs (F := Ideal)) (onTc (τ := Cert.InpBwdIdeal.τ) (Cert.InpBwdIdeal.main (F := Ideal))) ⟨m, fun _ => 0, g⟩ (fun r => ∀ c : Dev Cert.InpBwdIdeal.nD,
          r.2.mem ((c.tc : Thread Cert.InpBwdIdeal.nD Cert.InpBwdIdeal.τ).loc Cert.InpBwdIdeal.main_v108_0) = v0 c
          ∧ r.2.mem ((c.tc : Thread Cert.InpBwdIdeal.nD Cert.InpBwdIdeal.τ).loc Cert.InpBwdIdeal.main_v108_1) = v1 c
          ∧ r.2.mem ((c.tc : Thread Cert.InpBwdIdeal.nD Cert.InpBwdIdeal.τ).loc Cert.InpBwdIdeal.main_v108_2) = v2 c
          ∧ r.2.mem ((c.tc : Thread Cert.InpBwdIdeal.nD Cert.InpBwdIdeal.τ).loc Cert.InpBwdIdeal.main_v108_3) = v3 c
          ∧ r.2.mem ((c.tc : Thread Cert.InpBwdIdeal.nD Cert.InpBwdIdeal.τ).loc Cert.InpBwdIdeal.main_v108_4) = v4 c
          ∧ r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
          ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
          ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
          ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
          ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
          ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
          ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
          ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
          ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8)
          ∧ r.2.mem ((c.tc : Thread Cert.InpBwdIdeal.nD Cert.InpBwdIdeal.τ).loc Cert.InpBwdIdeal.main_arg9) = m ((c.tc : Thread Cert.InpBwdIdeal.nD Cert.InpBwdIdeal.τ).loc Cert.InpBwdIdeal.main_arg9)
          ∧ r.2.mem ((c.tc : Thread Cert.InpBwdIdeal.nD Cert.InpBwdIdeal.τ).loc Cert.InpBwdIdeal.main_arg10) = m ((c.tc : Thread Cert.InpBwdIdeal.nD Cert.InpBwdIdeal.τ).loc Cert.InpBwdIdeal.main_arg10)
          ∧ r.2.mem ((c.tc : Thread Cert.InpBwdIdeal.nD Cert.InpBwdIdeal.τ).loc Cert.InpBwdIdeal.main_arg11) = m ((c.tc : Thread Cert.InpBwdIdeal.nD Cert.InpBwdIdeal.τ).loc Cert.InpBwdIdeal.main_arg11)
          ∧ r.2.mem ((c.tc : Thread Cert.InpBwdIdeal.nD Cert.InpBwdIdeal.τ).loc Cert.InpBwdIdeal.main_arg12) = m ((c.tc : Thread Cert.InpBwdIdeal.nD Cert.InpBwdIdeal.τ).loc Cert.InpBwdIdeal.main_arg12)
          ∧ r.2.mem ((c.tc : Thread Cert.InpBwdIdeal.nD Cert.InpBwdIdeal.τ).loc Cert.InpBwdIdeal.main_arg13) = m ((c.tc : Thread Cert.InpBwdIdeal.nD Cert.InpBwdIdeal.τ).loc Cert.InpBwdIdeal.main_arg13)
          ∧ r.2.mem ((c.tc : Thread Cert.InpBwdIdeal.nD Cert.InpBwdIdeal.τ).loc Cert.InpBwdIdeal.main_arg14) = m ((c.tc : Thread Cert.InpBwdIdeal.nD Cert.InpBwdIdeal.τ).loc Cert.InpBwdIdeal.main_arg14)
          ∧ r.2.mem ((c.tc : Thread Cert.InpBwdIdeal.nD Cert.InpBwdIdeal.τ).loc Cert.InpBwdIdeal.main_arg15) = m ((c.tc : Thread Cert.InpBwdIdeal.nD Cert.InpBwdIdeal.τ).loc Cert.InpBwdIdeal.main_arg15)
          ∧ r.2.mem ((c.tc : Thread Cert.InpBwdIdeal.nD Cert.InpBwdIdeal.τ).loc Cert.InpBwdIdeal.main_arg16) = m ((c.tc : Thread Cert.InpBwdIdeal.nD Cert.InpBwdIdeal.τ).loc Cert.InpBwdIdeal.main_arg16)
          ∧ r.2.mem ((c.tc : Thread Cert.InpBwdIdeal.nD Cert.InpBwdIdeal.τ).loc Cert.InpBwdIdeal.main_arg17) = m ((c.tc : Thread Cert.InpBwdIdeal.nD Cert.InpBwdIdeal.τ).loc Cert.InpBwdIdeal.main_arg17))
      ∧ θ_run (Cert.InpBwdRefIdeal.defs (F := Ideal)) (onTc (τ := Cert.InpBwdRefIdeal.τ) (Cert.InpBwdRefIdeal.main (F := Ideal))) ⟨m', fun _ => 0, g'⟩ (fun r => ∀ c : Dev Cert.InpBwdRefIdeal.nD,
          r.2.mem ((c.tc : Thread Cert.InpBwdRefIdeal.nD Cert.InpBwdRefIdeal.τ).loc Cert.InpBwdRefIdeal.main_v222) = v0 c
          ∧ r.2.mem ((c.tc : Thread Cert.InpBwdRefIdeal.nD Cert.InpBwdRefIdeal.τ).loc Cert.InpBwdRefIdeal.main_v223) = v1 c
          ∧ r.2.mem ((c.tc : Thread Cert.InpBwdRefIdeal.nD Cert.InpBwdRefIdeal.τ).loc Cert.InpBwdRefIdeal.main_v205) = v2 c
          ∧ r.2.mem ((c.tc : Thread Cert.InpBwdRefIdeal.nD Cert.InpBwdRefIdeal.τ).loc Cert.InpBwdRefIdeal.main_v224) = v3 c
          ∧ r.2.mem ((c.tc : Thread Cert.InpBwdRefIdeal.nD Cert.InpBwdRefIdeal.τ).loc Cert.InpBwdRefIdeal.main_v225) = v4 c
          ∧ r.2.mem ((c.tc : Thread Cert.InpBwdRefIdeal.nD Cert.InpBwdRefIdeal.τ).loc Cert.InpBwdRefIdeal.main_arg0) = m' ((c.tc : Thread Cert.InpBwdRefIdeal.nD Cert.InpBwdRefIdeal.τ).loc Cert.InpBwdRefIdeal.main_arg0)
          ∧ r.2.mem ((c.tc : Thread Cert.InpBwdRefIdeal.nD Cert.InpBwdRefIdeal.τ).loc Cert.InpBwdRefIdeal.main_arg1) = m' ((c.tc : Thread Cert.InpBwdRefIdeal.nD Cert.InpBwdRefIdeal.τ).loc Cert.InpBwdRefIdeal.main_arg1)
          ∧ r.2.mem ((c.tc : Thread Cert.InpBwdRefIdeal.nD Cert.InpBwdRefIdeal.τ).loc Cert.InpBwdRefIdeal.main_arg2) = m' ((c.tc : Thread Cert.InpBwdRefIdeal.nD Cert.InpBwdRefIdeal.τ).loc Cert.InpBwdRefIdeal.main_arg2)
          ∧ r.2.mem ((c.tc : Thread Cert.InpBwdRefIdeal.nD Cert.InpBwdRefIdeal.τ).loc Cert.InpBwdRefIdeal.main_arg3) = m' ((c.tc : Thread Cert.InpBwdRefIdeal.nD Cert.InpBwdRefIdeal.τ).loc Cert.InpBwdRefIdeal.main_arg3)
          ∧ r.2.mem ((c.tc : Thread Cert.InpBwdRefIdeal.nD Cert.InpBwdRefIdeal.τ).loc Cert.InpBwdRefIdeal.main_arg4) = m' ((c.tc : Thread Cert.InpBwdRefIdeal.nD Cert.InpBwdRefIdeal.τ).loc Cert.InpBwdRefIdeal.main_arg4)
          ∧ r.2.mem ((c.tc : Thread Cert.InpBwdRefIdeal.nD Cert.InpBwdRefIdeal.τ).loc Cert.InpBwdRefIdeal.main_arg5) = m' ((c.tc : Thread Cert.InpBwdRefIdeal.nD Cert.InpBwdRefIdeal.τ).loc Cert.InpBwdRefIdeal.main_arg5)
          ∧ r.2.mem ((c.tc : Thread Cert.InpBwdRefIdeal.nD Cert.InpBwdRefIdeal.τ).loc Cert.InpBwdRefIdeal.main_arg6) = m' ((c.tc : Thread Cert.InpBwdRefIdeal.nD Cert.InpBwdRefIdeal.τ).loc Cert.InpBwdRefIdeal.main_arg6)
          ∧ r.2.mem ((c.tc : Thread Cert.InpBwdRefIdeal.nD Cert.InpBwdRefIdeal.τ).loc Cert.InpBwdRefIdeal.main_arg7) = m' ((c.tc : Thread Cert.InpBwdRefIdeal.nD Cert.InpBwdRefIdeal.τ).loc Cert.InpBwdRefIdeal.main_arg7)
          ∧ r.2.mem ((c.tc : Thread Cert.InpBwdRefIdeal.nD Cert.InpBwdRefIdeal.τ).loc Cert.InpBwdRefIdeal.main_arg8) = m' ((c.tc : Thread Cert.InpBwdRefIdeal.nD Cert.InpBwdRefIdeal.τ).loc Cert.InpBwdRefIdeal.main_arg8)
          ∧ r.2.mem ((c.tc : Thread Cert.InpBwdRefIdeal.nD Cert.InpBwdRefIdeal.τ).loc Cert.InpBwdRefIdeal.main_arg9) = m' ((c.tc : Thread Cert.InpBwdRefIdeal.nD Cert.InpBwdRefIdeal.τ).loc Cert.InpBwdRefIdeal.main_arg9)
          ∧ r.2.mem ((c.tc : Thread Cert.InpBwdRefIdeal.nD Cert.InpBwdRefIdeal.τ).loc Cert.InpBwdRefIdeal.main_arg10) = m' ((c.tc : Thread Cert.InpBwdRefIdeal.nD Cert.InpBwdRefIdeal.τ).loc Cert.InpBwdRefIdeal.main_arg10)
          ∧ r.2.mem ((c.tc : Thread Cert.InpBwdRefIdeal.nD Cert.InpBwdRefIdeal.τ).loc Cert.InpBwdRefIdeal.main_arg11) = m' ((c.tc : Thread Cert.InpBwdRefIdeal.nD Cert.InpBwdRefIdeal.τ).loc Cert.InpBwdRefIdeal.main_arg11)
          ∧ r.2.mem ((c.tc : Thread Cert.InpBwdRefIdeal.nD Cert.InpBwdRefIdeal.τ).loc Cert.InpBwdRefIdeal.main_arg12) = m' ((c.tc : Thread Cert.InpBwdRefIdeal.nD Cert.InpBwdRefIdeal.τ).loc Cert.InpBwdRefIdeal.main_arg12)
          ∧ r.2.mem ((c.tc : Thread Cert.InpBwdRefIdeal.nD Cert.InpBwdRefIdeal.τ).loc Cert.InpBwdRefIdeal.main_arg13) = m' ((c.tc : Thread Cert.InpBwdRefIdeal.nD Cert.InpBwdRefIdeal.τ).loc Cert.InpBwdRefIdeal.main_arg13)
          ∧ r.2.mem ((c.tc : Thread Cert.InpBwdRefIdeal.nD Cert.InpBwdRefIdeal.τ).loc Cert.InpBwdRefIdeal.main_arg14) = m' ((c.tc : Thread Cert.InpBwdRefIdeal.nD Cert.InpBwdRefIdeal.τ).loc Cert.InpBwdRefIdeal.main_arg14)
          ∧ r.2.mem ((c.tc : Thread Cert.InpBwdRefIdeal.nD Cert.InpBwdRefIdeal.τ).loc Cert.InpBwdRefIdeal.main_arg15) = m' ((c.tc : Thread Cert.InpBwdRefIdeal.nD Cert.InpBwdRefIdeal.τ).loc Cert.InpBwdRefIdeal.main_arg15)
          ∧ r.2.mem ((c.tc : Thread Cert.InpBwdRefIdeal.nD Cert.InpBwdRefIdeal.τ).loc Cert.InpBwdRefIdeal.main_arg16) = m' ((c.tc : Thread Cert.InpBwdRefIdeal.nD Cert.InpBwdRefIdeal.τ).loc Cert.InpBwdRefIdeal.main_arg16)
          ∧ r.2.mem ((c.tc : Thread Cert.InpBwdRefIdeal.nD Cert.InpBwdRefIdeal.τ).loc Cert.InpBwdRefIdeal.main_arg17) = m' ((c.tc : Thread Cert.InpBwdRefIdeal.nD Cert.InpBwdRefIdeal.τ).loc Cert.InpBwdRefIdeal.main_arg17))

def preserves_Dbias_DbiasIdeal : Prop :=
  True

def algebraic_DbiasIdeal_DbiasRefIdeal [hDbiasIdeal : Cert.DbiasIdeal.Facts] [hDbiasRefIdeal : Cert.DbiasRefIdeal.Facts] : Prop :=
  ∀ (m : (ℓ : Loc Cert.DbiasIdeal.nD Cert.DbiasIdeal.τ Cert.DbiasIdeal.sig) → Buf (Elt Ideal) ℓ) (g : Dev Cert.DbiasIdeal.nD → PrngReg)
    (m' : (ℓ : Loc Cert.DbiasRefIdeal.nD Cert.DbiasRefIdeal.τ Cert.DbiasRefIdeal.sig) → Buf (Elt Ideal) ℓ) (g' : Dev Cert.DbiasRefIdeal.nD → PrngReg), Pre_DbiasIdeal m →
    (∀ c : Dev Cert.DbiasIdeal.nD,
      m' ((c.tc : Thread Cert.DbiasRefIdeal.nD Cert.DbiasRefIdeal.τ).loc Cert.DbiasRefIdeal.main_arg0) = m ((c.tc : Thread Cert.DbiasIdeal.nD Cert.DbiasIdeal.τ).loc Cert.DbiasIdeal.main_arg0)
      ∧ m' ((c.tc : Thread Cert.DbiasRefIdeal.nD Cert.DbiasRefIdeal.τ).loc Cert.DbiasRefIdeal.main_arg1) = m ((c.tc : Thread Cert.DbiasIdeal.nD Cert.DbiasIdeal.τ).loc Cert.DbiasIdeal.main_arg1)
      ∧ m' ((c.tc : Thread Cert.DbiasRefIdeal.nD Cert.DbiasRefIdeal.τ).loc Cert.DbiasRefIdeal.main_arg2) = m ((c.tc : Thread Cert.DbiasIdeal.nD Cert.DbiasIdeal.τ).loc Cert.DbiasIdeal.main_arg2)) →
    ∃ (v0 : (c : Dev Cert.DbiasIdeal.nD) → Buf (Elt Ideal) ((c.tc : Thread Cert.DbiasIdeal.nD Cert.DbiasIdeal.τ).loc Cert.DbiasIdeal.main_v120)),
      θ_run (Cert.DbiasIdeal.defs (F := Ideal)) (onTc (τ := Cert.DbiasIdeal.τ) (Cert.DbiasIdeal.main (F := Ideal))) ⟨m, fun _ => 0, g⟩ (fun r => ∀ c : Dev Cert.DbiasIdeal.nD,
          r.2.mem ((c.tc : Thread Cert.DbiasIdeal.nD Cert.DbiasIdeal.τ).loc Cert.DbiasIdeal.main_v120) = v0 c
          ∧ r.2.mem ((c.tc : Thread Cert.DbiasIdeal.nD Cert.DbiasIdeal.τ).loc Cert.DbiasIdeal.main_arg0) = m ((c.tc : Thread Cert.DbiasIdeal.nD Cert.DbiasIdeal.τ).loc Cert.DbiasIdeal.main_arg0)
          ∧ r.2.mem ((c.tc : Thread Cert.DbiasIdeal.nD Cert.DbiasIdeal.τ).loc Cert.DbiasIdeal.main_arg1) = m ((c.tc : Thread Cert.DbiasIdeal.nD Cert.DbiasIdeal.τ).loc Cert.DbiasIdeal.main_arg1)
          ∧ r.2.mem ((c.tc : Thread Cert.DbiasIdeal.nD Cert.DbiasIdeal.τ).loc Cert.DbiasIdeal.main_arg2) = m ((c.tc : Thread Cert.DbiasIdeal.nD Cert.DbiasIdeal.τ).loc Cert.DbiasIdeal.main_arg2))
      ∧ θ_run (Cert.DbiasRefIdeal.defs (F := Ideal)) (onTc (τ := Cert.DbiasRefIdeal.τ) (Cert.DbiasRefIdeal.main (F := Ideal))) ⟨m', fun _ => 0, g'⟩ (fun r => ∀ c : Dev Cert.DbiasRefIdeal.nD,
          r.2.mem ((c.tc : Thread Cert.DbiasRefIdeal.nD Cert.DbiasRefIdeal.τ).loc Cert.DbiasRefIdeal.main_v138) = v0 c
          ∧ r.2.mem ((c.tc : Thread Cert.DbiasRefIdeal.nD Cert.DbiasRefIdeal.τ).loc Cert.DbiasRefIdeal.main_arg0) = m' ((c.tc : Thread Cert.DbiasRefIdeal.nD Cert.DbiasRefIdeal.τ).loc Cert.DbiasRefIdeal.main_arg0)
          ∧ r.2.mem ((c.tc : Thread Cert.DbiasRefIdeal.nD Cert.DbiasRefIdeal.τ).loc Cert.DbiasRefIdeal.main_arg1) = m' ((c.tc : Thread Cert.DbiasRefIdeal.nD Cert.DbiasRefIdeal.τ).loc Cert.DbiasRefIdeal.main_arg1)
          ∧ r.2.mem ((c.tc : Thread Cert.DbiasRefIdeal.nD Cert.DbiasRefIdeal.τ).loc Cert.DbiasRefIdeal.main_arg2) = m' ((c.tc : Thread Cert.DbiasRefIdeal.nD Cert.DbiasRefIdeal.τ).loc Cert.DbiasRefIdeal.main_arg2))

def preserves_BandDq_BandDqIdeal : Prop :=
  IdealRules.named_const.Statement Cert.BandDqIdeal.κ "mask" .f32 0xF149F2CA#32 ⊥

def preserves_BandDkv_BandDkvIdeal : Prop :=
  IdealRules.named_const.Statement Cert.BandDkvIdeal.κ "mask" .f32 0xF149F2CA#32 ⊥

def Claim : Prop :=
  ∃ (hPle : Cert.Ple.Facts) (hPleIdeal : Cert.PleIdeal.Facts) (hPleRefIdeal : Cert.PleRefIdeal.Facts) (hAttnBwd : Cert.AttnBwd.Facts) (hAttnBwdIdeal : Cert.AttnBwdIdeal.Facts) (hAttnBwdRefIdeal : Cert.AttnBwdRefIdeal.Facts) (hMlpBwd : Cert.MlpBwd.Facts) (hMlpBwdIdeal : Cert.MlpBwdIdeal.Facts) (hMlpBwdRefIdeal : Cert.MlpBwdRefIdeal.Facts) (hOutBwd : Cert.OutBwd.Facts) (hOutBwdIdeal : Cert.OutBwdIdeal.Facts) (hOutBwdRefIdeal : Cert.OutBwdRefIdeal.Facts) (hInpBwd : Cert.InpBwd.Facts) (hInpBwdIdeal : Cert.InpBwdIdeal.Facts) (hInpBwdRefIdeal : Cert.InpBwdRefIdeal.Facts) (hDbias : Cert.Dbias.Facts) (hDbiasIdeal : Cert.DbiasIdeal.Facts) (hDbiasRefIdeal : Cert.DbiasRefIdeal.Facts) (hBandDq : Cert.BandDq.Facts) (hBandDqIdeal : Cert.BandDqIdeal.Facts) (hBandDqRefIdeal : Cert.BandDqRefIdeal.Facts) (hBandDkv : Cert.BandDkv.Facts) (hBandDkvIdeal : Cert.BandDkvIdeal.Facts) (hBandDkvRefIdeal : Cert.BandDkvRefIdeal.Facts) (hPre_finite_ple : Cert.Pre_finite_ple.Facts) (hPre_finite_attn : Cert.Pre_finite_attn.Facts) (hPre_finite_mlp : Cert.Pre_finite_mlp.Facts) (hPre_finite_out : Cert.Pre_finite_out.Facts) (hPre_finite_inp : Cert.Pre_finite_inp.Facts),
    quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_MlpBwd (hMlpBwd := hMlpBwd)
    ∧ quiescent_MlpBwdIdeal (hMlpBwdIdeal := hMlpBwdIdeal)
    ∧ quiescent_MlpBwdIdeal_pre_finite_mlp (hMlpBwdIdeal := hMlpBwdIdeal) (hPre_finite_mlp := hPre_finite_mlp)
    ∧ quiescent_MlpBwdRefIdeal (hMlpBwdRefIdeal := hMlpBwdRefIdeal)
    ∧ quiescent_MlpBwdRefIdeal_pre_finite_mlp (hMlpBwdRefIdeal := hMlpBwdRefIdeal) (hPre_finite_mlp := hPre_finite_mlp)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdRefIdeal (hOutBwdRefIdeal := hOutBwdRefIdeal)
    ∧ quiescent_OutBwdRefIdeal_pre_finite_out (hOutBwdRefIdeal := hOutBwdRefIdeal) (hPre_finite_out := hPre_finite_out)
    ∧ quiescent_InpBwd (hInpBwd := hInpBwd)
    ∧ quiescent_InpBwdIdeal (hInpBwdIdeal := hInpBwdIdeal)
    ∧ quiescent_InpBwdIdeal_pre_finite_inp (hInpBwdIdeal := hInpBwdIdeal) (hPre_finite_inp := hPre_finite_inp)
    ∧ quiescent_InpBwdRefIdeal (hInpBwdRefIdeal := hInpBwdRefIdeal)
    ∧ quiescent_InpBwdRefIdeal_pre_finite_inp (hInpBwdRefIdeal := hInpBwdRefIdeal) (hPre_finite_inp := hPre_finite_inp)
    ∧ quiescent_Dbias (hDbias := hDbias)
    ∧ quiescent_DbiasIdeal (hDbiasIdeal := hDbiasIdeal)
    ∧ quiescent_DbiasRefIdeal (hDbiasRefIdeal := hDbiasRefIdeal)
    ∧ quiescent_BandDq (hBandDq := hBandDq)
    ∧ quiescent_BandDqIdeal (hBandDqIdeal := hBandDqIdeal)
    ∧ quiescent_BandDqRefIdeal (hBandDqRefIdeal := hBandDqRefIdeal)
    ∧ quiescent_BandDkv (hBandDkv := hBandDkv)
    ∧ quiescent_BandDkvIdeal (hBandDkvIdeal := hBandDkvIdeal)
    ∧ quiescent_BandDkvRefIdeal (hBandDkvRefIdeal := hBandDkvRefIdeal)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_MlpBwd_MlpBwdIdeal
    ∧ algebraic_MlpBwdIdeal_MlpBwdRefIdeal_pre_finite_mlp (hMlpBwdIdeal := hMlpBwdIdeal) (hMlpBwdRefIdeal := hMlpBwdRefIdeal) (hPre_finite_mlp := hPre_finite_mlp)
    ∧ preserves_OutBwd_OutBwdIdeal
    ∧ algebraic_OutBwdIdeal_OutBwdRefIdeal_pre_finite_out (hOutBwdIdeal := hOutBwdIdeal) (hOutBwdRefIdeal := hOutBwdRefIdeal) (hPre_finite_out := hPre_finite_out)
    ∧ preserves_InpBwd_InpBwdIdeal
    ∧ algebraic_InpBwdIdeal_InpBwdRefIdeal_pre_finite_inp (hInpBwdIdeal := hInpBwdIdeal) (hInpBwdRefIdeal := hInpBwdRefIdeal) (hPre_finite_inp := hPre_finite_inp)
    ∧ preserves_Dbias_DbiasIdeal
    ∧ algebraic_DbiasIdeal_DbiasRefIdeal (hDbiasIdeal := hDbiasIdeal) (hDbiasRefIdeal := hDbiasRefIdeal)
    ∧ preserves_BandDq_BandDqIdeal
    ∧ preserves_BandDkv_BandDkvIdeal
-- ==== Pre_finite_attn.lean ====
abbrev S16384x2x4x64 : Shape := ⟨4, ![16384, 2, 4, 64]⟩
abbrev S16384x2x64 : Shape := ⟨3, ![16384, 2, 64]⟩
abbrev S_ : Shape := ⟨0, ![]⟩

class Facts : Prop where
  bcast_S_S16384x2x4x64 : S_.BroadcastsInDim S16384x2x4x64 (![] : Fin 0 → Fin S16384x2x4x64.rank)
  reducesTo_S16384x2x4x64_S_d0_1_2_3 : S16384x2x4x64.ReducesTo [0, 1, 2, 3] S_
  h_S_ : 0 < S_.numel
  bcast_S_S16384x2x64 : S_.BroadcastsInDim S16384x2x64 (![] : Fin 0 → Fin S16384x2x64.rank)
  reducesTo_S16384x2x64_S_d0_1_2 : S16384x2x64.ReducesTo [0, 1, 2] S_

variable [Facts]

def fn_part1 {F : FTy → Type} [FloatOps F] (main_v13 : IVec S_ 1) (main_v16 : IVec S16384x2x4x64 1) : IVec S_ 1 :=
  let main_c_5 : IVec S_ 1 := constantI S_ 1 1#1
  let main_v17 : IVec S_ 1 := (fun x v => Host.reduce IntOp.andi x v reducesTo_S16384x2x4x64_S_d0_1_2_3 h_S_) main_v16 main_c_5
  let main_v18 : IVec S_ 1 := andi main_v13 main_v17
  main_v18

def fn {F : FTy → Type} [FloatOps F] (main_arg0 : FVec F S16384x2x4x64 .f32) (main_arg1 : FVec F S16384x2x64 .f32) (main_arg2 : FVec F S16384x2x64 .f32) (main_arg3 : FVec F S16384x2x4x64 .f32) : IVec S_ 1 :=
  let main_v0 : FVec F S16384x2x4x64 .f32 := Host.absf main_arg0
  let main_cst : FVec F S_ .f32 := constant S_ .f32 0x7F800000#32
  let main_v1 : FVec F S16384x2x4x64 .f32 := broadcastInDim S16384x2x4x64 ![] bcast_S_S16384x2x4x64 main_cst
  let main_v2 : IVec S16384x2x4x64 1 := cmpf .olt main_v0 main_v1
  let main_c : IVec S_ 1 := constantI S_ 1 1#1
  let main_v3 : IVec S_ 1 := (fun x v => Host.reduce IntOp.andi x v reducesTo_S16384x2x4x64_S_d0_1_2_3 h_S_) main_v2 main_c
  let main_v4 : FVec F S16384x2x64 .f32 := Host.absf main_arg1
  let main_cst_0 : FVec F S_ .f32 := constant S_ .f32 0x7F800000#32
  let main_v5 : FVec F S16384x2x64 .f32 := broadcastInDim S16384x2x64 ![] bcast_S_S16384x2x64 main_cst_0
  let main_v6 : IVec S16384x2x64 1 := cmpf .olt main_v4 main_v5
  let main_c_1 : IVec S_ 1 := constantI S_ 1 1#1
  let main_v7 : IVec S_ 1 := (fun x v => Host.reduce IntOp.andi x v reducesTo_S16384x2x64_S_d0_1_2 h_S_) main_v6 main_c_1
  let main_v8 : IVec S_ 1 := andi main_v3 main_v7
  let main_v9 : FVec F S16384x2x64 .f32 := Host.absf main_arg2
  let main_cst_2 : FVec F S_ .f32 := constant S_ .f32 0x7F800000#32
  let main_v10 : FVec F S16384x2x64 .f32 := broadcastInDim S16384x2x64 ![] bcast_S_S16384x2x64 main_cst_2
  let main_v11 : IVec S16384x2x64 1 := cmpf .olt main_v9 main_v10
  let main_c_3 : IVec S_ 1 := constantI S_ 1 1#1
  let main_v12 : IVec S_ 1 := (fun x v => Host.reduce IntOp.andi x v reducesTo_S16384x2x64_S_d0_1_2 h_S_) main_v11 main_c_3
  let main_v13 : IVec S_ 1 := andi main_v8 main_v12
  let main_v14 : FVec F S16384x2x4x64 .f32 := Host.absf main_arg3
  let main_cst_4 : FVec F S_ .f32 := constant S_ .f32 0x7F800000#32
  let main_v15 : FVec F S16384x2x4x64 .f32 := broadcastInDim S16384x2x4x64 ![] bcast_S_S16384x2x4x64 main_cst_4
  let main_v16 : IVec S16384x2x4x64 1 := cmpf .olt main_v14 main_v15
  fn_part1 (F := F) main_v13 main_v16
-- ==== Pre_finite_inp.lean ====
abbrev S16384x512 : Shape := ⟨2, ![16384, 512]⟩
abbrev S16384x128 : Shape := ⟨2, ![16384, 128]⟩
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S1x64 : S_.BroadcastsInDim S1x64 (![] : Fin 0 → Fin S1x64.rank)
  reducesTo_S1x64_S_d0_1 : S1x64.ReducesTo [0, 1] S_

variable [Facts]

def fn_part5 {F : FTy → Type} [FloatOps F] (main_v83 : IVec S_ 1) (main_v84 : FVec F S1x64 .f32) (main_cst_32 : FVec F S_ .f32) : IVec S_ 1 :=
  let main_v85 : FVec F S1x64 .f32 := broadcastInDim S1x64 ![] bcast_S_S1x64 main_cst_32
  let main_v86 : IVec S1x64 1 := cmpf .olt main_v84 main_v85
  let main_c_33 : IVec S_ 1 := constantI S_ 1 1#1
  let main_v87 : IVec S_ 1 := (fun x v => Host.reduce IntOp.andi x v reducesTo_S1x64_S_d0_1 h_S_) main_v86 main_c_33
  let main_v88 : IVec S_ 1 := andi main_v83 main_v87
  main_v88

def fn_part4 {F : FTy → Type} [FloatOps F] (main_arg14 : FVec F S1x1024 .f32) (main_arg15 : FVec F S1024x2304 .f32) (main_arg16 : FVec F S1x64 .f32) (main_arg17 : FVec F S1x64 .f32) (main_v63 : IVec S_ 1) (main_v67 : IVec S_ 1) : IVec S_ 1 :=
  let main_v68 : IVec S_ 1 := andi main_v63 main_v67
  let main_v69 : FVec F S1x1024 .f32 := Host.absf main_arg14
  let main_cst_26 : FVec F S_ .f32 := constant S_ .f32 0x7F800000#32
  let main_v70 : FVec F S1x1024 .f32 := broadcastInDim S1x1024 ![] bcast_S_S1x1024 main_cst_26
  let main_v71 : IVec S1x1024 1 := cmpf .olt main_v69 main_v70
  let main_c_27 : IVec S_ 1 := constantI S_ 1 1#1
  let main_v72 : IVec S_ 1 := (fun x v => Host.reduce IntOp.andi x v reducesTo_S1x1024_S_d0_1 h_S_) main_v71 main_c_27
  let main_v73 : IVec S_ 1 := andi main_v68 main_v72
  let main_v74 : FVec F S1024x2304 .f32 := Host.absf main_arg15
  let main_cst_28 : FVec F S_ .f32 := constant S_ .f32 0x7F800000#32
  let main_v75 : FVec F S1024x2304 .f32 := broadcastInDim S1024x2304 ![] bcast_S_S1024x2304 main_cst_28
  let main_v76 : IVec S1024x2304 1 := cmpf .olt main_v74 main_v75
  let main_c_29 : IVec S_ 1 := constantI S_ 1 1#1
  let main_v77 : IVec S_ 1 := (fun x v => Host.reduce IntOp.andi x v reducesTo_S1024x2304_S_d0_1 h_S_) main_v76 main_c_29
  let main_v78 : IVec S_ 1 := andi main_v73 main_v77
  let main_v79 : FVec F S1x64 .f32 := Host.absf main_arg16
  let main_cst_30 : FVec F S_ .f32 := constant S_ .f32 0x7F800000#32
  let main_v80 : FVec F S1x64 .f32 := broadcastInDim S1x64 ![] bcast_S_S1x64 main_cst_30
  let main_v81 : IVec S1x64 1 := cmpf .olt main_v79 main_v80
  let main_c_31 : IVec S_ 1 := constantI S_ 1 1#1
  let main_v82 : IVec S_ 1 := (fun x v => Host.reduce IntOp.andi x v reducesTo_S1x64_S_d0_1 h_S_) main_v81 main_c_31
  let main_v83 : IVec S_ 1 := andi main_v78 main_v82
  let main_v84 : FVec F S1x64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S16384x512 .f32) (main_arg12 : FVec F S16384x1024 .f32) (main_arg13 : FVec F S16384x1024 .f32) (main_arg14 : FVec F S1x1024 .f32) (main_arg15 : FVec F S1024x2304 .f32) (main_arg16 : FVec F S1x64 .f32) (main_arg17 : FVec F S1x64 .f32) (main_v48 : IVec S_ 1) (main_v49 : FVec F S16384x512 .f32) (main_v50 : FVec F S16384x512 .f32) : IVec S_ 1 :=
  let main_v51 : IVec S16384x512 1 := cmpf .olt main_v49 main_v50
  let main_c_19 : IVec S_ 1 := constantI S_ 1 1#1
  let main_v52 : IVec S_ 1 := (fun x v => Host.reduce IntOp.andi x v reducesTo_S16384x512_S_d0_1 h_S_) main_v51 main_c_19
  let main_v53 : IVec S_ 1 := andi main_v48 main_v52
  let main_v54 : FVec F S16384x512 .f32 := Host.absf main_arg11
  let main_cst_20 : FVec F S_ .f32 := constant S_ .f32 0x7F800000#32
  let main_v55 : FVec F S16384x512 .f32 := broadcastInDim S16384x512 ![] bcast_S_S16384x512 main_cst_20
  let main_v56 : IVec S16384x512 1 := cmpf .olt main_v54 main_v55
  let main_c_21 : IVec S_ 1 := constantI S_ 1 1#1
  let main_v57 : IVec S_ 1 := (fun x v => Host.reduce IntOp.andi x v reducesTo_S16384x512_S_d0_1 h_S_) main_v56 main_c_21
  let main_v58 : IVec S_ 1 := andi main_v53 main_v57
  let main_v59 : FVec F S16384x1024 .f32 := Host.absf main_arg12
  let main_cst_22 : FVec F S_ .f32 := constant S_ .f32 0x7F800000#32
  let main_v60 : FVec F S16384x1024 .f32 := broadcastInDim S16384x1024 ![] bcast_S_S16384x1024 main_cst_22
  let main_v61 : IVec S16384x1024 1 := cmpf .olt main_v59 main_v60
  let main_c_23 : IVec S_ 1 := constantI S_ 1 1#1
  let main_v62 : IVec S_ 1 := (fun x v => Host.reduce IntOp.andi x v reducesTo_S16384x1024_S_d0_1 h_S_) main_v61 main_c_23
  let main_v63 : IVec S_ 1 := andi main_v58 main_v62
  let main_v64 : FVec F S16384x1024 .f32 := Host.absf main_arg13
  let main_cst_24 : FVec F S_ .f32 := constant S_ .f32 0x7F800000#32
  let main_v65 : FVec F S16384x1024 .f32 := broadcastInDim S16384x1024 ![] bcast_S_S16384x1024 main_cst_24
  let main_v66 : IVec S16384x1024 1 := cmpf .olt main_v64 main_v65
  let main_c_25 : IVec S_ 1 := constantI S_ 1 1#1
  let main_v67 : IVec S_ 1 := (fun x v => Host.reduce IntOp.andi x v reducesTo_S16384x1024_S_d0_1 h_S_) main_v66 main_c_25
  fn_part4 (F := F) main_arg14 main_arg15 main_arg16 main_arg17 main_v63 main_v67

def fn_part2 {F : FTy → Type} [FloatOps F] (main_arg7 : FVec F S16384x512 .f32) (main_arg8 : FVec F S16384x512 .f32) (main_arg9 : FVec F S16384x512 .f32) (main_arg10 : FVec F S16384x512 .f32) (main_arg11 : FVec F S16384x512 .f32) (main_arg12 : FVec F S16384x1024 .f32) (main_arg13 : FVec F S16384x1024 .f32) (main_arg14 : FVec F S1x1024 .f32) (main_arg15 : FVec F S1024x2304 .f32) (main_arg16 : FVec F S1x64 .f32) (main_arg17 : FVec F S1x64 .f32) (main_v33 : IVec S_ 1) : IVec S_ 1 :=
  let main_v34 : FVec F S16384x512 .f32 := Host.absf main_arg7
  let main_cst_12 : FVec F S_ .f32 := constant S_ .f32 0x7F800000#32
  let main_v35 : FVec F S16384x512 .f32 := broadcastInDim S16384x512 ![] bcast_S_S16384x512 main_cst_12
  let main_v36 : IVec S16384x512 1 := cmpf .olt main_v34 main_v35
  let main_c_13 : IVec S_ 1 := constantI S_ 1 1#1
  let main_v37 : IVec S_ 1 := (fun x v => Host.reduce IntOp.andi x v reducesTo_S16384x512_S_d0_1 h_S_) main_v36 main_c_13
  let main_v38 : IVec S_ 1 := andi main_v33 main_v37
  let main_v39 : FVec F S16384x512 .f32 := Host.absf main_arg8
  let main_cst_14 : FVec F S_ .f32 := constant S_ .f32 0x7F800000#32
  let main_v40 : FVec F S16384x512 .f32 := broadcastInDim S16384x512 ![] bcast_S_S16384x512 main_cst_14
  let main_v41 : IVec S16384x512 1 := cmpf .olt main_v39 main_v40
  let main_c_15 : IVec S_ 1 := constantI S_ 1 1#1
  let main_v42 : IVec S_ 1 := (fun x v => Host.reduce IntOp.andi x v reducesTo_S16384x512_S_d0_1 h_S_) main_v41 main_c_15
  let main_v43 : IVec S_ 1 := andi main_v38 main_v42
  let main_v44 : FVec F S16384x512 .f32 := Host.absf main_arg9
  let main_cst_16 : FVec F S_ .f32 := constant S_ .f32 0x7F800000#32
  let main_v45 : FVec F S16384x512 .f32 := broadcastInDim S16384x512 ![] bcast_S_S16384x512 main_cst_16
  let main_v46 : IVec S16384x512 1 := cmpf .olt main_v44 main_v45
  let main_c_17 : IVec S_ 1 := constantI S_ 1 1#1
  let main_v47 : IVec S_ 1 := (fun x v => Host.reduce IntOp.andi x v reducesTo_S16384x512_S_d0_1 h_S_) main_v46 main_c_17
  let main_v48 : IVec S_ 1 := andi main_v43 main_v47
  let main_v49 : FVec F S16384x512 .f32 := Host.absf main_arg10
  let main_cst_18 : FVec F S_ .f32 := constant S_ .f32 0x7F800000#32
  let main_v50 : FVec F S16384x512 .f32 := broadcastInDim S16384x512 ![] bcast_S_S16384x512 main_cst_18
  fn_part3 (F := F) main_arg11 main_arg12 main_arg13 main_arg14 main_arg15 main_arg16 main_arg17 main_v48 main_v49 main_v50

def fn_part1 {F : FTy → Type} [FloatOps F] (main_arg4 : FVec F S16384x512 .f32) (main_arg5 : FVec F S16384x512 .f32) (main_arg6 : FVec F S16384x512 .f32) (main_arg7 : FVec F S16384x512 .f32) (main_arg8 : FVec F S16384x512 .f32) (main_arg9 : FVec F S16384x512 .f32) (main_arg10 : FVec F S16384x512 .f32) (main_arg11 : FVec F S16384x512 .f32) (main_arg12 : FVec F S16384x1024 .f32) (main_arg13 : FVec F S16384x1024 .f32) (main_arg14 : FVec F S1x1024 .f32) (main_arg15 : FVec F S1024x2304 .f32) (main_arg16 : FVec F S1x64 .f32) (main_arg17 : FVec F S1x64 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  let main_v29 : FVec F S16384x512 .f32 := Host.absf main_arg6
  let main_cst_10 : FVec F S_ .f32 := constant S_ .f32 0x7F800000#32
  let main_v30 : FVec F S16384x512 .f32 := broadcastInDim S16384x512 ![] bcast_S_S16384x512 main_cst_10
  let main_v31 : IVec S16384x512 1 := cmpf .olt main_v29 main_v30
  let main_c_11 : IVec S_ 1 := constantI S_ 1 1#1
  let main_v32 : IVec S_ 1 := (fun x v => Host.reduce IntOp.andi x v reducesTo_S16384x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x512 .f32) (main_arg1 : FVec F S16384x128 .f32) (main_arg2 : FVec F S16384x128 .f32) (main_arg3 : FVec F S16384x512 .f32) (main_arg4 : FVec F S16384x512 .f32) (main_arg5 : FVec F S16384x512 .f32) (main_arg6 : FVec F S16384x512 .f32) (main_arg7 : FVec F S16384x512 .f32) (main_arg8 : FVec F S16384x512 .f32) (main_arg9 : FVec F S16384x512 .f32) (main_arg10 : FVec F S16384x512 .f32) (main_arg11 : FVec F S16384x512 .f32) (main_arg12 : FVec F S16384x1024 .f32) (main_arg13 : FVec F S16384x1024 .f32) (main_arg14 : FVec F S1x1024 .f32) (main_arg15 : FVec F S1024x2304 .f32) (main_arg16 : FVec F S1x64 .f32) (main_arg17 : FVec F S1x64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Pre_finite_mlp.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_arg5 : FVec F S1x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S1x1024 .f32) (main_arg3 : FVec F S1024x4096 .f32) (main_arg4 : FVec F S4096x1024 .f32) (main_arg5 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Pre_finite_out.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x512 .f32) (main_arg5 : FVec F S1024x1024 .f32) (main_arg6 : FVec F S1x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S16384x1024 .f32) (main_arg1 : FVec F S16384x512 .f32) (main_arg2 : FVec F S16384x512 .f32) (main_arg3 : FVec F S1x512 .f32) (main_arg4 : FVec F S1x512 .f32) (main_arg5 : FVec F S1024x1024 .f32) (main_arg6 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Pre_finite_ple.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S16384x1024 .f32) (main_arg1 : FVec F S16384x256 .f32) (main_arg2 : FVec F S16384x1024 .f32) (main_arg3 : FVec F S1x1024 .f32) (main_arg4 : FVec F S1024x1024 .f32) (main_arg5 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Ple.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .f32⟩
  | .hbm, ⟨3, _⟩ => ⟨S1x1024, .f32⟩
  | .hbm, ⟨4, _⟩ => ⟨S1024x1024, .f32⟩
  | .hbm, ⟨5, _⟩ => ⟨S256x1024, .f32⟩
  | .hbm, ⟨6, _⟩ => ⟨S1024x1024, .bf16⟩
  | .hbm, ⟨7, _⟩ => ⟨S256x1024, .bf16⟩
  | .hbm, ⟨8, _⟩ => ⟨S16384x1024, .f32⟩
  | .hbm, ⟨9, _⟩ => ⟨S8x128, .f32⟩
  | .hbm, ⟨10, _⟩ => ⟨S1x1024, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S8x128, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PleRefIdeal.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S8x128 : Shape := ⟨2, ![8, 128]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .f32⟩
  | .hbm, ⟨3, _⟩ => ⟨S1x1024, .f32⟩
  | .hbm, ⟨4, _⟩ => ⟨S1024x1024, .f32⟩
  | .hbm, ⟨5, _⟩ => ⟨S256x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S_, .f32⟩
  | .hbm, ⟨98, _⟩ => ⟨S8x128, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S16384x1, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .bf16⟩
  | .hbm, ⟨115, _⟩ => ⟨S16384x1024, .bf16⟩
  | .hbm, ⟨116, _⟩ => ⟨S16384x1024, .bf16⟩
  | .hbm, ⟨117, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_20 : Ref sig .tc := ⟨.hbm, 100, rfl⟩
abbrev main_v73 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_v76 : Ref sig .tc := ⟨.hbm, 105, rfl⟩
abbrev main_cst_22 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== AttnBwd.lean ====
abbrev S16384x2x4x64 : Shape := ⟨4, ![16384, 2, 4, 64]⟩
abbrev S16384x2x64 : Shape := ⟨3, ![16384, 2, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x4x16384x64 : Shape := ⟨4, ![2, 4, 16384, 64]⟩
abbrev S16384x2x4x1 : Shape := ⟨4, ![16384, 2, 4, 1]⟩
abbrev S16384x2x4 : Shape := ⟨3, ![16384, 2, 4]⟩
abbrev S16384x512 : Shape := ⟨2, ![16384, 512]⟩
abbrev S8x2048x2x64 : Shape := ⟨4, ![8, 2048, 2, 64]⟩
abbrev S2x8x64x2048 : Shape := ⟨4, ![2, 8, 64, 2048]⟩
abbrev S2x8x16x2048 : Shape := ⟨4, ![2, 8, 16, 2048]⟩
abbrev S2x8x80x2048 : Shape := ⟨4, ![2, 8, 80, 2048]⟩
abbrev S2x16384x64 : Shape := ⟨3, ![2, 16384, 64]⟩
abbrev S128x256 : Shape := ⟨2, ![128, 256]⟩
abbrev S1x8x64x2048 : Shape := ⟨4, ![1, 8, 64, 2048]⟩
abbrev S1x16384x64 : Shape := ⟨3, ![1, 16384, 64]⟩
abbrev S1x8x80x2048 : Shape := ⟨4, ![1, 8, 80, 2048]⟩
abbrev S8x64x2048 : Shape := ⟨3, ![8, 64, 2048]⟩
abbrev S2x512x2048 : Shape := ⟨3, ![2, 512, 2048]⟩
abbrev S128x64 : Shape := ⟨2, ![128, 64]⟩
abbrev S512x64 : Shape := ⟨2, ![512, 64]⟩
abbrev S64x512 : Shape := ⟨2, ![64, 512]⟩
abbrev S128x1 : Shape := ⟨2, ![128, 1]⟩
abbrev S512x1 : Shape := ⟨2, ![512, 1]⟩
abbrev S1x1x64x2048 : Shape := ⟨4, ![1, 1, 64, 2048]⟩
abbrev S64x2048 : Shape := ⟨2, ![64, 2048]⟩
abbrev S512x2048 : Shape := ⟨2, ![512, 2048]⟩
abbrev S1x512x2048 : Shape := ⟨3, ![1, 512, 2048]⟩
abbrev S1x64x2048 : Shape := ⟨3, ![1, 64, 2048]⟩
abbrev S1x2048x64 : Shape := ⟨3, ![1, 2048, 64]⟩
abbrev S2048x64 : Shape := ⟨2, ![2048, 64]⟩

abbrev nBuf : Space → Nat
  | .hbm => 54
  | .vmem => 20
  | .smem => 0
  | _ => 0

abbrev bufTy : (tb : Table) → Fin (tcTables nBuf tb) → BufTy
  | .hbm, ⟨0, _⟩ => ⟨S16384x2x4x64, .f32⟩
  | .hbm, ⟨1, _⟩ => ⟨S16384x2x64, .f32⟩
  | .hbm, ⟨2, _⟩ => ⟨S16384x2x64, .f32⟩
  | .hbm, ⟨3, _⟩ => ⟨S16384x2x4x64, .f32⟩
  | .hbm, ⟨4, _⟩ => ⟨S2x16384x16384x4, .f32⟩
  | .hbm, ⟨5, _⟩ => ⟨S2x4x16384x16384, .f32⟩
  | .hbm, ⟨6, _⟩ => ⟨S_, .f32⟩
  | .hbm, ⟨7, _⟩ => ⟨S2x4x16384x16384, .f32⟩
  | .hbm, ⟨8, _⟩ => ⟨S2x4x16384x16384, .f32⟩
  | .hbm, ⟨9, _⟩ => ⟨S_, .f32⟩
  | .hbm, ⟨10, _⟩ => ⟨S2x4x16384, .f32⟩
  | .hbm, ⟨11, _⟩ => ⟨S2x4x16384x1, .f32⟩
  | .hbm, ⟨12, _⟩ => ⟨S2x4x16384x16384, .f32⟩
  | .hbm, ⟨13, _⟩ => ⟨S2x4x16384x16384, .f32⟩
  | .hbm, ⟨14, _⟩ => ⟨S2x4x16384x16384, .f32⟩
  | .hbm, ⟨15, _⟩ => ⟨S_, .f32⟩
  | .hbm, ⟨16, _⟩ => ⟨S2x4x16384, .f32⟩
  | .hbm, ⟨17, _⟩ => ⟨S2x4x16384x1, .f32⟩
  | .hbm, ⟨18, _⟩ => ⟨S2x4x16384x64, .f32⟩
  | .hbm, ⟨19, _⟩ => ⟨S2x4x16384x64, .f32⟩
  | .hbm, ⟨20, _⟩ => ⟨S2x4x16384x64, .f32⟩
  | .hbm, ⟨21, _⟩ => ⟨S2x4x16384x1, .f32⟩
  | .hbm, ⟨22, _⟩ => ⟨S2x4x16384x1, .f32⟩
  | .hbm, ⟨23, _⟩ => ⟨S16384x2x4x1, .f32⟩
  | .hbm, ⟨24, _⟩ => ⟨S16384x2x4x64, .f32⟩
  | .hbm, ⟨25, _⟩ => ⟨S16384x2x4x64, .f32⟩
  | .hbm, ⟨26, _⟩ => ⟨S_, .f32⟩
  | .hbm, ⟨27, _⟩ => ⟨S16384x2x4, .f32⟩
  | .hbm, ⟨28, _⟩ => ⟨S16384x2x4x1, .f32⟩
  | .hbm, ⟨29, _⟩ => ⟨S_, .f32⟩
  | .hbm, ⟨30, _⟩ => ⟨S16384x2x4x64, .f32⟩
  | .hbm, ⟨31, _⟩ => ⟨S16384x2x4x64, .f32⟩
  | .hbm, ⟨32, _⟩ => ⟨S16384x512, .f32⟩
  | .hbm, ⟨33, _⟩ => ⟨S16384x512, .bf16⟩
  | .hbm, ⟨34, _⟩ => ⟨S8x2048x2x64, .f32⟩
  | .hbm, ⟨35, _⟩ => ⟨S2x8x64x2048, .f32⟩
  | .hbm, ⟨36, _⟩ => ⟨S2x8x64x2048, .bf16⟩
  | .hbm, ⟨37, _⟩ => ⟨S8x2048x2x64, .f32⟩
  | .hbm, ⟨38, _⟩ => ⟨S2x8x64x2048, .f32⟩
  | .hbm, ⟨39, _⟩ => ⟨S_, .f32⟩
  | .hbm, ⟨40, _⟩ => ⟨S2x8x16x2048, .f32⟩
  | .hbm, ⟨41, _⟩ => ⟨S2x8x80x2048, .f32⟩
  | .hbm, ⟨42, _⟩ => ⟨S2x8x80x2048, .bf16⟩
  | .hbm, ⟨43, _⟩ => ⟨S16384x512, .f32⟩
  | .hbm, ⟨44, _⟩ => ⟨S16384x512, .bf16⟩
  | .hbm, ⟨45, _⟩ => ⟨S16384x2x4x64, .f32⟩
  | .hbm, ⟨46, _⟩ => ⟨S16384x512, .f32⟩
  | .hbm, ⟨47, _⟩ => ⟨S16384x2x4x64, .f32⟩
  | .hbm, ⟨48, _⟩ => ⟨S16384x512, .f32⟩
  | .hbm, ⟨49, _⟩ => ⟨S2x16384x64, .f32⟩
  | .hbm, ⟨50, _⟩ => ⟨S2x16384x64, .bf16⟩
  | .hbm, ⟨51, _⟩ => ⟨S16384x512, .f32⟩
  | .hbm, ⟨52, _⟩ => ⟨S2x8x64x2048, .f32⟩
  | .hbm, ⟨53, _⟩ => ⟨S2x8x64x2048, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x8x64x2048, .bf16⟩
  | .local _ .vmem, ⟨9, _⟩ => ⟨S1x8x64x2048, .bf16⟩
  | .local _ .vmem, ⟨10, _⟩ => ⟨S1x16384x64, .bf16⟩
  | .local _ .vmem, ⟨11, _⟩ => ⟨S1x16384x64, .bf16⟩
  | .local _ .vmem, ⟨12, _⟩ => ⟨S1x8x80x2048, .bf16⟩
  | .local _ .vmem, ⟨13, _⟩ => ⟨S1x8x80x2048, .bf16⟩
  | .local _ .vmem, ⟨14, _⟩ => ⟨S128x256, .f32⟩
  | .local _ .vmem, ⟨15, _⟩ => ⟨S128x256, .f32⟩
  | .local _ .vmem, ⟨16, _⟩ => ⟨S8x64x2048, .f32⟩
  | .local _ .vmem, ⟨17, _⟩ => ⟨S8x64x2048, .f32⟩
  | .local _ .vmem, ⟨18, _⟩ => ⟨S2x512x2048, .f32⟩
  | .local _ .vmem, ⟨19, _⟩ => ⟨S2x512x2048, .f32⟩
  | _, _ => ⟨S16384x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32_45 : BitVec 32 := 0#32
  let c3_i32 : BitVec 32 := 3#32
  let v54 : BitVec 32 := Scalar.addi c0_i32_45 c3_i32
  let c1_i32 : BitVec 32 := 1#32
  ⟨c0_i32_45, v54, c1_i32⟩
def k0_off1 (k0_t1 : Fin k0_t1_loop.trips) (c1_i32_116 : BitVec 32) : Fin 4 → Nat :=
  let c0_117 : Index := 0#32
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let v146 : BitVec 32 := Scalar.addi v145 c1_i32_116
  let v147 : Index := Scalar.indexCast v146
  let c0_118 : Index := 0#32
  let c0_119 : Index := 0#32
  ![0, v147.toNat, 0, 0]
def k0_off2 (k0_t1 : Fin k0_t1_loop.trips) (c1_i32_116 : BitVec 32) : Fin 4 → Nat :=
  let c0_124 : Index := 0#32
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let v146 : BitVec 32 := Scalar.addi v145 c1_i32_116
  let v154 : Index := Scalar.indexCast v146
  let c0_125 : Index := 0#32
  let c0_126 : Index := 0#32
  ![0, v154.toNat, 0, 0]
def k0_off3 (k0_t1 : Fin k0_t1_loop.trips) : Fin 3 → Nat :=
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let v172 : Index := Scalar.indexCast v145
  let c0_137 : Index := 0#32
  let c0_138 : Index := 0#32
  ![v172.toNat, 0, 0]
def k0_mult1 (k0_t1 : Fin k0_t1_loop.trips) : BitVec 32 :=
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let c2048_i32 : BitVec 32 := 2048#32
  let v191 : BitVec 32 := Scalar.muli v145 c2048_i32
  v191
def k0_off4 (k0_t1 : Fin k0_t1_loop.trips) : Fin 3 → Nat :=
  let c0_147 : Index := 0#32
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let c2048_i32 : BitVec 32 := 2048#32
  let v191 : BitVec 32 := Scalar.muli v145 c2048_i32
  let v192 : BitVec 32 := v191
  let v193 : Index := Scalar.indexCast v192
  let c0_148 : Index := 0#32
  ![0, v193.toNat, 0]
def k0_off5 (k0_t1 : Fin k0_t1_loop.trips) : Fin 3 → Nat :=
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let c1_i32_165 : BitVec 32 := 1#32
  let v213 : BitVec 32 := Scalar.addi v145 c1_i32_165
  let v225 : Index := Scalar.indexCast v213
  let c0_172 : Index := 0#32
  let c0_173 : Index := 0#32
  ![v225.toNat, 0, 0]
def k0_mult2 (k0_t1 : Fin k0_t1_loop.trips) : BitVec 32 :=
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let c1_i32_165 : BitVec 32 := 1#32
  let v213 : BitVec 32 := Scalar.addi v145 c1_i32_165
  let c2048_i32_182 : BitVec 32 := 2048#32
  let v244 : BitVec 32 := Scalar.muli v213 c2048_i32_182
  v244
def k0_off6 (k0_t1 : Fin k0_t1_loop.trips) : Fin 3 → Nat :=
  let c0_183 : Index := 0#32
  let c2_i32 : BitVec 32 := 2#32
  let c0_i32_45 : BitVec 32 := 0#32
  let c1_i32 : BitVec 32 := 1#32
  let arg16 : BitVec 32 := Scf.iv c0_i32_45 c1_i32 k0_t1
  let v145 : BitVec 32 := Scalar.muli c2_i32 arg16
  let c1_i32_165 : BitVec 32 := 1#32
  let v213 : BitVec 32 := Scalar.addi v145 c1_i32_165
  let c2048_i32_182 : BitVec 32 := 2048#32
  let v244 : BitVec 32 := Scalar.muli v213 c2048_i32_182
  let v245 : BitVec 32 := v244
  let v246 : Index := Scalar.indexCast v245
  let c0_184 : Index := 0#32
  ![0, v246.toNat, 0]
def k0_mult3 : BitVec 32 :=
  let c12288_i32 : BitVec 32 := 12288#32
  c12288_i32
def k0_mult4 : BitVec 32 :=
  let c14336_i32 : BitVec 32 := 14336#32
  c14336_i32
def k0_cond2 (i : grid0.Coords) : BitVec 1 :=
  let arg1 : BitVec 32 := BitVec.ofNat 32 (i 1).val
  let c127_i32 : BitVec 32 := 127#32
  let v142 : BitVec 1 := Scalar.cmpi .eq arg1 c127_i32
  let v143 : BitVec 32 := Scalar.extui v142
  let c0_i32_115 : BitVec 32 := 0#32
  let v144 : BitVec 1 := Scalar.cmpi .ne v143 c0_i32_115
  v144

def k0_off7 (i : grid0.Coords) : Fin 4 → Nat :=
  let arg0 : BitVec 32 := BitVec.ofNat 32 (i 0).val
  let c0_i32_116_r0 : BitVec 32 := 0#32
  let c0_i32_117_r0 : BitVec 32 := 0#32
  let c0_i32_118_r0 : BitVec 32 := 0#32
  ![arg0.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16384x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x80x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnBwdRefIdeal.lean ====
abbrev S16384x2x4x64 : Shape := ⟨4, ![16384, 2, 4, 64]⟩
abbrev S16384x2x64 : Shape := ⟨3, ![16384, 2, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16384 : Shape := ⟨3, ![2, 64, 16384]⟩
abbrev S2x16384x4x64 : Shape := ⟨4, ![2, 16384, 4, 64]⟩
abbrev S2x16384x64 : Shape := ⟨3, ![2, 16384, 64]⟩
abbrev S16384x512 : Shape := ⟨2, ![16384, 512]⟩
abbrev S8x2048x2x64 : Shape := ⟨4, ![8, 2048, 2, 64]⟩
abbrev S2x8x64x2048 : Shape := ⟨4, ![2, 8, 64, 2048]⟩

abbrev nBuf : Space → Nat
  | .hbm => 80
  | .vmem => 0
  | .smem => 0
  | _ => 0

abbrev bufTy : (tb : Table) → Fin (tcTables nBuf tb) → BufTy
  | .hbm, ⟨0, _⟩ => ⟨S16384x2x4x64, .f32⟩
  | .hbm, ⟨1, _⟩ => ⟨S16384x2x64, .f32⟩
  | .hbm, ⟨2, _⟩ => ⟨S16384x2x64, .f32⟩
  | .hbm, ⟨3, _⟩ => ⟨S16384x2x4x64, .f32⟩
  | .hbm, ⟨4, _⟩ => ⟨S2x16384x16384x4, .f32⟩
  | .hbm, ⟨5, _⟩ => ⟨S2x4x16384x16384, .f32⟩
  | .hbm, ⟨6, _⟩ => ⟨S_, .f32⟩
  | .hbm, ⟨7, _⟩ => ⟨S2x4x16384x16384, .f32⟩
  | .hbm, ⟨8, _⟩ => ⟨S2x4x16384x16384, .f32⟩
  | .hbm, ⟨9, _⟩ => ⟨S_, .f32⟩
  | .hbm, ⟨10, _⟩ => ⟨S2x4x16384, .f32⟩
  | .hbm, ⟨11, _⟩ => ⟨S2x4x16384x1, .f32⟩
  | .hbm, ⟨12, _⟩ => ⟨S2x4x16384x16384, .f32⟩
  | .hbm, ⟨13, _⟩ => ⟨S2x4x16384x16384, .i1⟩
  | .hbm, ⟨14, _⟩ => ⟨S2x4x16384x16384, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S_, .f32⟩
  | .hbm, ⟨21, _⟩ => ⟨S2x4x16384, .f32⟩
  | .hbm, ⟨22, _⟩ => ⟨S2x4x16384, .i1⟩
  | .hbm, ⟨23, _⟩ => ⟨S_, .f32⟩
  | .hbm, ⟨24, _⟩ => ⟨S2x4x16384, .f32⟩
  | .hbm, ⟨25, _⟩ => ⟨S2x4x16384, .i1⟩
  | .hbm, ⟨26, _⟩ => ⟨S_, .f32⟩
  | .hbm, ⟨27, _⟩ => ⟨S2x4x16384, .f32⟩
  | .hbm, ⟨28, _⟩ => ⟨S_, .f32⟩
  | .hbm, ⟨29, _⟩ => ⟨S2x4x16384, .f32⟩
  | .hbm, ⟨30, _⟩ => ⟨S_, .f32⟩
  | .hbm, ⟨31, _⟩ => ⟨S2x4x16384, .f32⟩
  | .hbm, ⟨32, _⟩ => ⟨S2x4x16384, .f32⟩
  | .hbm, ⟨33, _⟩ => ⟨S2x4x16384, .f32⟩
  | .hbm, ⟨34, _⟩ => ⟨S2x4x16384x1, .f32⟩
  | .hbm, ⟨35, _⟩ => ⟨S2x4x16384x16384, .f32⟩
  | .hbm, ⟨36, _⟩ => ⟨S2x4x16384x16384, .f32⟩
  | .hbm, ⟨37, _⟩ => ⟨S2x4x16384x16384, .f32⟩
  | .hbm, ⟨38, _⟩ => ⟨S_, .f32⟩
  | .hbm, ⟨39, _⟩ => ⟨S2x4x16384, .f32⟩
  | .hbm, ⟨40, _⟩ => ⟨S2x4x16384x1, .f32⟩
  | .hbm, ⟨41, _⟩ => ⟨S2x4x16384x16384, .f32⟩
  | .hbm, ⟨42, _⟩ => ⟨S2x4x16384x16384, .f32⟩
  | .hbm, ⟨43, _⟩ => ⟨S2x4x16384x1, .f32⟩
  | .hbm, ⟨44, _⟩ => ⟨S_, .f32⟩
  | .hbm, ⟨45, _⟩ => ⟨S2x4x16384x1, .f32⟩
  | .hbm, ⟨46, _⟩ => ⟨S2x4x16384x1, .f32⟩
  | .hbm, ⟨47, _⟩ => ⟨S2x64x4x16384, .f32⟩
  | .hbm, ⟨48, _⟩ => ⟨S16384x2x4x64, .f32⟩
  | .hbm, ⟨49, _⟩ => ⟨S2x64x4x16384, .f32⟩
  | .hbm, ⟨50, _⟩ => ⟨S2x4x16384x16384, .f32⟩
  | .hbm, ⟨51, _⟩ => ⟨S2x64x16384, .f32⟩
  | .hbm, ⟨52, _⟩ => ⟨S16384x2x64, .f32⟩
  | .hbm, ⟨53, _⟩ => ⟨S2x4x16384x16384, .f32⟩
  | .hbm, ⟨54, _⟩ => ⟨S2x4x16384x16384, .f32⟩
  | .hbm, ⟨55, _⟩ => ⟨S2x4x16384x16384, .f32⟩
  | .hbm, ⟨56, _⟩ => ⟨S_, .f32⟩
  | .hbm, ⟨57, _⟩ => ⟨S2x4x16384, .f32⟩
  | .hbm, ⟨58, _⟩ => ⟨S2x4x16384x1, .f32⟩
  | .hbm, ⟨59, _⟩ => ⟨S2x4x16384x1, .f32⟩
  | .hbm, ⟨60, _⟩ => ⟨S2x4x16384x16384, .f32⟩
  | .hbm, ⟨61, _⟩ => ⟨S2x4x16384x16384, .f32⟩
  | .hbm, ⟨62, _⟩ => ⟨S_, .f32⟩
  | .hbm, ⟨63, _⟩ => ⟨S2x4x16384, .f32⟩
  | .hbm, ⟨64, _⟩ => ⟨S2x4x16384x16384, .f32⟩
  | .hbm, ⟨65, _⟩ => ⟨S2x4x16384x16384, .f32⟩
  | .hbm, ⟨66, _⟩ => ⟨S2x4x16384x16384, .f32⟩
  | .hbm, ⟨67, _⟩ => ⟨S_, .f32⟩
  | .hbm, ⟨68, _⟩ => ⟨S2x4x16384x16384, .f32⟩
  | .hbm, ⟨69, _⟩ => ⟨S2x4x16384x16384, .f32⟩
  | .hbm, ⟨70, _⟩ => ⟨S2x16384x16384x4, .f32⟩
  | .hbm, ⟨71, _⟩ => ⟨S2x16384x4x64, .f32⟩
  | .hbm, ⟨72, _⟩ => ⟨S16384x2x4x64, .f32⟩
  | .hbm, ⟨73, _⟩ => ⟨S2x16384x64, .f32⟩
  | .hbm, ⟨74, _⟩ => ⟨S16384x2x64, .f32⟩
  | .hbm, ⟨75, _⟩ => ⟨S16384x512, .f32⟩
  | .hbm, ⟨76, _⟩ => ⟨S8x2048x2x64, .f32⟩
  | .hbm, ⟨77, _⟩ => ⟨S2x8x64x2048, .f32⟩
  | .hbm, ⟨78, _⟩ => ⟨S8x2048x2x64, .f32⟩
  | .hbm, ⟨79, _⟩ => ⟨S2x8x64x2048, .f32⟩
  | _, _ => ⟨S16384x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== MlpBwd.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S1024x1024 : Shape := ⟨2, ![1024, 1024]⟩

abbrev nBuf : Space → Nat
  | .hbm => 36
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .bf16⟩
  | .hbm, ⟨28, _⟩ => ⟨S1024x4096, .bf16⟩
  | .hbm, ⟨29, _⟩ => ⟨S4096x1024, .bf16⟩
  | .hbm, ⟨30, _⟩ => ⟨S16384x1024, .f32⟩
  | .hbm, ⟨31, _⟩ => ⟨S16384x1024, .bf16⟩
  | .hbm, ⟨32, _⟩ => ⟨S16384x4096, .bf16⟩
  | .hbm, ⟨33, _⟩ => ⟨S16384x4096, .bf16⟩
  | .hbm, ⟨34, _⟩ => ⟨S1x1024, .f32⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S1x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpBwdRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384x4096 : Shape := ⟨2, ![16384, 4096]⟩
abbrev S16384 : Shape := ⟨1, ![16384]⟩
abbrev S16384x1 : Shape := ⟨2, ![16384, 1]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S_, .f32⟩
  | .hbm, ⟨7, _⟩ => ⟨S16384x4096, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .i1⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S_, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x4096, .f32⟩
  | .hbm, ⟨90, _⟩ => ⟨S16384x4096, .f32⟩
  | .hbm, ⟨91, _⟩ => ⟨S_, .f32⟩
  | .hbm, ⟨92, _⟩ => ⟨S16384x4096, .f32⟩
  | .hbm, ⟨93, _⟩ => ⟨S16384x4096, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S16384x1024, .f32⟩
  | .hbm, ⟨118, _⟩ => ⟨S16384x1024, .f32⟩
  | .hbm, ⟨119, _⟩ => ⟨S16384x1024, .bf16⟩
  | .hbm, ⟨120, _⟩ => ⟨S16384x4096, .bf16⟩
  | .hbm, ⟨121, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== OutBwd.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S512x1024 : Shape := ⟨2, ![512, 1024]⟩
abbrev S512x512 : Shape := ⟨2, ![512, 512]⟩
abbrev S16384x128 : Shape := ⟨2, ![16384, 128]⟩
abbrev S4096x2048 : Shape := ⟨2, ![4096, 2048]⟩
abbrev S1024x8192 : Shape := ⟨2, ![1024, 8192]⟩
abbrev S512x128 : Shape := ⟨2, ![512, 128]⟩
abbrev S128x2048 : Shape := ⟨2, ![128, 2048]⟩
abbrev S32x8192 : Shape := ⟨2, ![32, 8192]⟩
abbrev S512 : Shape := ⟨1, ![512]⟩
abbrev S512x1 : Shape := ⟨2, ![512, 1]⟩
abbrev S1024 : Shape := ⟨1, ![1024]⟩
abbrev S128x512 : Shape := ⟨2, ![128, 512]⟩
abbrev S32x512 : Shape := ⟨2, ![32, 512]⟩

abbrev nBuf : Space → Nat
  | .hbm => 89
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S16384x512, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S512x1024, .f32⟩
  | .hbm, ⟨38, _⟩ => ⟨S16384x1024, .f32⟩
  | .hbm, ⟨39, _⟩ => ⟨S512x1024, .f32⟩
  | .hbm, ⟨40, _⟩ => ⟨S16384x1024, .f32⟩
  | .hbm, ⟨41, _⟩ => ⟨S16384x1024, .f32⟩
  | .hbm, ⟨42, _⟩ => ⟨S1024x1024, .bf16⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S_, .bf16⟩
  | .hbm, ⟨57, _⟩ => ⟨S512x512, .bf16⟩
  | .hbm, ⟨58, _⟩ => ⟨S_, .bf16⟩
  | .hbm, ⟨59, _⟩ => ⟨S512x512, .bf16⟩
  | .hbm, ⟨60, _⟩ => ⟨S512x512, .bf16⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i32⟩
  | .hbm, ⟨69, _⟩ => ⟨S_, .i32⟩
  | .hbm, ⟨70, _⟩ => ⟨S512x512, .i32⟩
  | .hbm, ⟨71, _⟩ => ⟨S512x512, .i32⟩
  | .hbm, ⟨72, _⟩ => ⟨S512x512, .i32⟩
  | .hbm, ⟨73, _⟩ => ⟨S512x512, .i1⟩
  | .hbm, ⟨74, _⟩ => ⟨S_, .bf16⟩
  | .hbm, ⟨75, _⟩ => ⟨S512x512, .bf16⟩
  | .hbm, ⟨76, _⟩ => ⟨S_, .bf16⟩
  | .hbm, ⟨77, _⟩ => ⟨S512x512, .bf16⟩
  | .hbm, ⟨78, _⟩ => ⟨S512x512, .bf16⟩
  | .hbm, ⟨79, _⟩ => ⟨S16384x1024, .bf16⟩
  | .hbm, ⟨80, _⟩ => ⟨S16384x512, .bf16⟩
  | .hbm, ⟨81, _⟩ => ⟨S16384x512, .bf16⟩
  | .hbm, ⟨82, _⟩ => ⟨S16384x512, .f32⟩
  | .hbm, ⟨83, _⟩ => ⟨S16384x128, .f32⟩
  | .hbm, ⟨84, _⟩ => ⟨S1x1024, .f32⟩
  | .hbm, ⟨85, _⟩ => ⟨S1x512, .f32⟩
  | .hbm, ⟨86, _⟩ => ⟨S1x512, .f32⟩
  | .hbm, ⟨87, _⟩ => ⟨S4096x2048, .bf16⟩
  | .hbm, ⟨88, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S1x1024, .f32⟩
  | .local _ .vmem, ⟨25, _⟩ => ⟨S1x512, .f32⟩
  | .local _ .vmem, ⟨26, _⟩ => ⟨S1x512, .f32⟩
  | .local _ .vmem, ⟨27, _⟩ => ⟨S128x2048, .bf16⟩
  | .local _ .vmem, ⟨28, _⟩ => ⟨S128x2048, .bf16⟩
  | .local _ .vmem, ⟨29, _⟩ => ⟨S32x8192, .bf16⟩
  | .local _ .vmem, ⟨30, _⟩ => ⟨S32x8192, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev main_v56_3 : Ref sig .tc := ⟨.hbm, 82, rfl⟩
abbrev main_v56_4 : Ref sig .tc := ⟨.hbm, 83, rfl⟩
abbrev main_v56_5 : Ref sig .tc := ⟨.hbm, 84, rfl⟩
abbrev main_v56_6 : Ref sig .tc := ⟨.hbm, 85, rfl⟩
abbrev main_v56_7 : Ref sig .tc := ⟨.hbm, 86, rfl⟩
abbrev main_v56_8 : Ref sig .tc := ⟨.hbm, 87, rfl⟩
abbrev main_v56_9 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x8192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== OutBwdRefIdeal.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S512 : Shape := ⟨1, ![512]⟩
abbrev S16384x8x64 : Shape := ⟨3, ![16384, 8, 64]⟩
abbrev S16384x8 : Shape := ⟨2, ![16384, 8]⟩
abbrev S16384x8x1 : Shape := ⟨3, ![16384, 8, 1]⟩
abbrev S16384x120 : Shape := ⟨2, ![16384, 120]⟩
abbrev S16384x128 : Shape := ⟨2, ![16384, 128]⟩
abbrev S4096x2048 : Shape := ⟨2, ![4096, 2048]⟩
abbrev S1024x8192 : Shape := ⟨2, ![1024, 8192]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S1x512, .f32⟩
  | 4 => ⟨S1x512, .f32⟩
  | 5 => ⟨S1024x1024, .f32⟩
  | 6 => ⟨S1x1024, .f32⟩
  | 7 => ⟨S_, .f32⟩
  | 8 => ⟨S16384x1024, .f32⟩
  | 9 => ⟨S16384x512, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x512, .f32⟩
  | 44 => ⟨S16384x512, .f32⟩
  | 45 => ⟨S16384x512, .f32⟩
  | 46 => ⟨S16384x512, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S_, .f32⟩
  | 58 => ⟨S16384x1, .f32⟩
  | 59 => ⟨S16384x1, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S_, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S_, .f32⟩
  | 77 => ⟨S16384, .f32⟩
  | 78 => ⟨S16384x1, .f32⟩
  | 79 => ⟨S16384x1024, .f32⟩
  | 80 => ⟨S16384x1024, .f32⟩
  | 81 => ⟨S16384x1, .f32⟩
  | 82 => ⟨S_, .f32⟩
  | 83 => ⟨S16384x1, .f32⟩
  | 84 => ⟨S16384x1, .f32⟩
  | 85 => ⟨S_, .f32⟩
  | 86 => ⟨S16384, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x512, .f32⟩
  | 94 => ⟨S16384x512, .f32⟩
  | 95 => ⟨S16384x512, .f32⟩
  | 96 => ⟨S_, .f32⟩
  | 97 => ⟨S512, .f32⟩
  | 98 => ⟨S1x512, .f32⟩
  | 99 => ⟨S16384x512, .f32⟩
  | 100 => ⟨S16384x512, .f32⟩
  | 101 => ⟨S16384x512, .f32⟩
  | 102 => ⟨S_, .f32⟩
  | 103 => ⟨S16384, .f32⟩
  | 104 => ⟨S16384x1, .f32⟩
  | 105 => ⟨S16384x512, .f32⟩
  | 106 => ⟨S16384x512, .f32⟩
  | 107 => ⟨S16384x1, .f32⟩
  | 108 => ⟨S_, .f32⟩
  | 109 => ⟨S16384x1, .f32⟩
  | 110 => ⟨S16384x1, .f32⟩
  | 111 => ⟨S_, .f32⟩
  | 112 => ⟨S16384, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S_, .f32⟩
  | 120 => ⟨S512, .f32⟩
  | 121 => ⟨S1x512, .f32⟩
  | 122 => ⟨S16384x512, .f32⟩
  | 123 => ⟨S16384x512, .f32⟩
  | 124 => ⟨S16384x512, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S16384x512, .f32⟩
  | 1 => ⟨S16384x512, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384, .f32⟩
  | 8 => ⟨S16384x512, .f32⟩
  | 9 => ⟨S16384x512, .f32⟩
  | 10 => ⟨S16384x512, .f32⟩
  | 11 => ⟨S16384x512, .f32⟩
  | 12 => ⟨S16384x512, .f32⟩
  | 13 => ⟨S16384x512, .f32⟩
  | 14 => ⟨S16384x8x64, .f32⟩
  | 15 => ⟨S_, .f32⟩
  | 16 => ⟨S16384x8, .f32⟩
  | 17 => ⟨S16384x8x1, .f32⟩
  | 18 => ⟨S16384x8x64, .f32⟩
  | 19 => ⟨S16384x512, .f32⟩
  | 20 => ⟨S16384x512, .f32⟩
  | 21 => ⟨S16384x8x64, .f32⟩
  | 22 => ⟨S_, .f32⟩
  | 23 => ⟨S16384x8, .f32⟩
  | 24 => ⟨S_, .f32⟩
  | 25 => ⟨S16384x120, .f32⟩
  | 26 => ⟨S16384x128, .f32⟩
  | 27 => ⟨S16384x1024, .bf16⟩
  | 28 => ⟨S16384x512, .bf16⟩
  | 29 => ⟨S16384x512, .bf16⟩
  | 30 => ⟨S16384x512, .bf16⟩
  | 31 => ⟨S4096x2048, .bf16⟩
  | 32 => ⟨S16384x512, .bf16⟩
  | 33 => ⟨S1024x8192, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_21 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_22 : Ref sig .tc := ⟨.hbm, 131, rfl⟩
abbrev main_v101 : Ref sig .tc := ⟨.hbm, 132, rfl⟩
abbrev main_v102 : Ref sig .tc := ⟨.hbm, 133, rfl⟩
abbrev main_cst_23 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_24 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_25 : Ref sig .tc := ⟨.hbm, 150, rfl⟩
abbrev main_v117 : Ref sig .tc := ⟨.hbm, 151, rfl⟩
abbrev main_cst_26 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩

abbrev nD : Nat := 1
abbrev τ : Topo := Topo.v7x

variable {F : FTy → Type} [FloatOps F]
-- ==== InpBwd.lean ====
abbrev S16384x512 : Shape := ⟨2, ![16384, 512]⟩
abbrev S16384x128 : Shape := ⟨2, ![16384, 128]⟩
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S1024x512 : Shape := ⟨2, ![1024, 512]⟩
abbrev S1024x128 : Shape := ⟨2, ![1024, 128]⟩
abbrev S256 : Shape := ⟨1, ![256]⟩
abbrev S256x1 : Shape := ⟨2, ![256, 1]⟩
abbrev S256x64 : Shape := ⟨2, ![256, 64]⟩
abbrev S64 : Shape := ⟨1, ![64]⟩
abbrev S16 : Shape := ⟨1, ![16]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S4096x2048 : Shape := ⟨2, ![4096, 2048]⟩
abbrev S1024x8192 : Shape := ⟨2, ![1024, 8192]⟩
abbrev S8x2048x2x64 : Shape := ⟨4, ![8, 2048, 2, 64]⟩
abbrev S2x8x64x2048 : Shape := ⟨4, ![2, 8, 64, 2048]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S512x512 : Shape := ⟨2, ![512, 512]⟩
abbrev S16384x2304 : Shape := ⟨2, ![16384, 2304]⟩
abbrev S2x1x64x512 : Shape := ⟨4, ![2, 1, 64, 512]⟩
abbrev S128x2048 : Shape := ⟨2, ![128, 2048]⟩
abbrev S32x8192 : Shape := ⟨2, ![32, 8192]⟩
abbrev S512x128 : Shape := ⟨2, ![512, 128]⟩
abbrev S512x1024 : Shape := ⟨2, ![512, 1024]⟩
abbrev S512x2304 : Shape := ⟨2, ![512, 2304]⟩
abbrev S2x64x512 : Shape := ⟨3, ![2, 64, 512]⟩
abbrev S128x512 : Shape := ⟨2, ![128, 512]⟩
abbrev S512 : Shape := ⟨1, ![512]⟩
abbrev S512x1 : Shape := ⟨2, ![512, 1]⟩
abbrev S128 : Shape := ⟨1, ![128]⟩
abbrev S32x512 : Shape := ⟨2, ![32, 512]⟩
abbrev S1024 : Shape := ⟨1, ![1024]⟩

abbrev nBuf : Space → Nat
  | .hbm => 146
  | .vmem => 49
  | .smem => 0
  | _ => 0

abbrev hbmTy0_0 (i : Nat) : BufTy := match i % 128 with
  | 0 => ⟨S16384x512, .f32⟩
  | 1 => ⟨S16384x128, .f32⟩
  | 2 => ⟨S16384x128, .f32⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x1024, .f32⟩
  | 13 => ⟨S16384x1024, .f32⟩
  | 14 => ⟨S1x1024, .f32⟩
  | 15 => ⟨S1024x2304, .f32⟩
  | 16 => ⟨S1x64, .f32⟩
  | 17 => ⟨S1x64, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1, .f32⟩
  | 29 => ⟨S16384x1024, .f32⟩
  | 30 => ⟨S16384x1024, .f32⟩
  | 31 => ⟨S16384x1024, .f32⟩
  | 32 => ⟨S16384x1024, .f32⟩
  | 33 => ⟨S1024x512, .f32⟩
  | 34 => ⟨S16384x512, .f32⟩
  | 35 => ⟨S1024x128, .f32⟩
  | 36 => ⟨S16384x128, .f32⟩
  | 37 => ⟨S256, .i32⟩
  | 38 => ⟨S256x1, .i32⟩
  | 39 => ⟨S256x64, .i32⟩
  | 40 => ⟨S16384, .i32⟩
  | 41 => ⟨S16384, .f32⟩
  | 42 => ⟨S64, .i32⟩
  | 43 => ⟨S1x64, .i32⟩
  | 44 => ⟨S256x64, .i32⟩
  | 45 => ⟨S16384, .i32⟩
  | 46 => ⟨S16384, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16384x1, .f32⟩
  | 56 => ⟨S1x16, .f32⟩
  | 57 => ⟨S16384x16, .f32⟩
  | 58 => ⟨S16384x16, .f32⟩
  | 59 => ⟨S16384x16, .f32⟩
  | 60 => ⟨S16384x1, .f32⟩
  | 61 => ⟨S1x16, .f32⟩
  | 62 => ⟨S16384x16, .f32⟩
  | 63 => ⟨S16384x16, .f32⟩
  | 64 => ⟨S16384x16, .f32⟩
  | 65 => ⟨S16384x32, .f32⟩
  | 66 => ⟨S16384x32, .f32⟩
  | 67 => ⟨S16384x32, .f32⟩
  | 68 => ⟨S16384x64, .f32⟩
  | 69 => ⟨S1x16384x1x64, .f32⟩
  | 70 => ⟨S1x16384x2x64, .f32⟩
  | 71 => ⟨S16384x128, .f32⟩
  | 72 => ⟨S16384x32, .f32⟩
  | 73 => ⟨S16384x64, .f32⟩
  | 74 => ⟨S1x16384x1x64, .f32⟩
  | 75 => ⟨S1x16384x2x64, .f32⟩
  | 76 => ⟨S16384x128, .f32⟩
  | 77 => ⟨S16384x512, .bf16⟩
  | 78 => ⟨S16384x512, .bf16⟩
  | 79 => ⟨S4096x2048, .bf16⟩
  | 80 => ⟨S16384x512, .bf16⟩
  | 81 => ⟨S1024x8192, .bf16⟩
  | 82 => ⟨S16384x512, .bf16⟩
  | 83 => ⟨S16384x512, .bf16⟩
  | 84 => ⟨S4096x2048, .bf16⟩
  | 85 => ⟨S16384x512, .bf16⟩
  | 86 => ⟨S1024x8192, .bf16⟩
  | 87 => ⟨S16384x512, .bf16⟩
  | 88 => ⟨S16384x512, .bf16⟩
  | 89 => ⟨S4096x2048, .bf16⟩
  | 90 => ⟨S16384x512, .bf16⟩
  | 91 => ⟨S1024x8192, .bf16⟩
  | 92 => ⟨S8x2048x2x64, .f32⟩
  | 93 => ⟨S2x8x64x2048, .f32⟩
  | 94 => ⟨S8x2048x2x64, .f32⟩
  | 95 => ⟨S2x8x64x2048, .f32⟩
  | 96 => ⟨S1024x2304, .bf16⟩
  | 97 => ⟨S1x1x1x64, .f32⟩
  | 98 => ⟨S1x1x8x64, .f32⟩
  | 99 => ⟨S1x512, .f32⟩
  | 100 => ⟨S1x1x1x64, .f32⟩
  | 101 => ⟨S1x1x2x64, .f32⟩
  | 102 => ⟨S1x128, .f32⟩
  | 103 => ⟨S512x512, .i32⟩
  | 104 => ⟨S512x512, .i32⟩
  | 105 => ⟨S_, .i32⟩
  | 106 => ⟨S512x512, .i32⟩
  | 107 => ⟨S512x512, .i32⟩
  | 108 => ⟨S_, .i32⟩
  | 109 => ⟨S512x512, .i32⟩
  | 110 => ⟨S512x512, .i32⟩
  | 111 => ⟨S_, .i32⟩
  | 112 => ⟨S512x512, .i32⟩
  | 113 => ⟨S512x512, .i32⟩
  | 114 => ⟨S512x512, .i32⟩
  | 115 => ⟨S512x512, .i1⟩
  | 116 => ⟨S_, .bf16⟩
  | 117 => ⟨S512x512, .bf16⟩
  | 118 => ⟨S_, .bf16⟩
  | 119 => ⟨S512x512, .bf16⟩
  | 120 => ⟨S512x512, .bf16⟩
  | 121 => ⟨S512x512, .bf16⟩
  | 122 => ⟨S512x512, .i32⟩
  | 123 => ⟨S512x512, .i32⟩
  | 124 => ⟨S_, .i32⟩
  | 125 => ⟨S512x512, .i32⟩
  | 126 => ⟨S512x512, .i32⟩
  | 127 => ⟨S_, .i32⟩
  | _ => ⟨S16384x512, .f32⟩

abbrev hbmTy0_1 (i : Nat) : BufTy := match i % 128 with
  | 0 => ⟨S512x512, .i32⟩
  | 1 => ⟨S512x512, .i32⟩
  | 2 => ⟨S_, .i32⟩
  | 3 => ⟨S512x512, .i32⟩
  | 4 => ⟨S512x512, .i32⟩
  | 5 => ⟨S512x512, .i32⟩
  | 6 => ⟨S512x512, .i1⟩
  | 7 => ⟨S_, .bf16⟩
  | 8 => ⟨S512x512, .bf16⟩
  | 9 => ⟨S_, .bf16⟩
  | 10 => ⟨S512x512, .bf16⟩
  | 11 => ⟨S512x512, .bf16⟩
  | 12 => ⟨S512x512, .bf16⟩
  | 13 => ⟨S16384x1024, .f32⟩
  | 14 => ⟨S16384x2304, .bf16⟩
  | 15 => ⟨S1x1024, .f32⟩
  | 16 => ⟨S1x512, .f32⟩
  | 17 => ⟨S1x128, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S2x1x64x512, .f32⟩
  | .local _ .vmem, ⟨3, _⟩ => ⟨S2x1x64x512, .f32⟩
  | .local _ .vmem, ⟨4, _⟩ => ⟨S2x1x64x512, .f32⟩
  | .local _ .vmem, ⟨5, _⟩ => ⟨S2x1x64x512, .f32⟩
  | .local _ .vmem, ⟨6, _⟩ => ⟨S512x512, .bf16⟩
  | .local _ .vmem, ⟨7, _⟩ => ⟨S512x512, .bf16⟩
  | .local _ .vmem, ⟨8, _⟩ => ⟨S128x2048, .bf16⟩
  | .local _ .vmem, ⟨9, _⟩ => ⟨S128x2048, .bf16⟩
  | .local _ .vmem, ⟨10, _⟩ => ⟨S32x8192, .bf16⟩
  | .local _ .vmem, ⟨11, _⟩ => ⟨S32x8192, .bf16⟩
  | .local _ .vmem, ⟨12, _⟩ => ⟨S512x512, .bf16⟩
  | .local _ .vmem, ⟨13, _⟩ => ⟨S512x512, .bf16⟩
  | .local _ .vmem, ⟨14, _⟩ => ⟨S128x2048, .bf16⟩
  | .local _ .vmem, ⟨15, _⟩ => ⟨S128x2048, .bf16⟩
  | .local _ .vmem, ⟨16, _⟩ => ⟨S32x8192, .bf16⟩
  | .local _ .vmem, ⟨17, _⟩ => ⟨S32x8192, .bf16⟩
  | .local _ .vmem, ⟨18, _⟩ => ⟨S512x512, .bf16⟩
  | .local _ .vmem, ⟨19, _⟩ => ⟨S512x512, .bf16⟩
  | .local _ .vmem, ⟨20, _⟩ => ⟨S128x2048, .bf16⟩
  | .local _ .vmem, ⟨21, _⟩ => ⟨S128x2048, .bf16⟩
  | .local _ .vmem, ⟨22, _⟩ => ⟨S32x8192, .bf16⟩
  | .local _ .vmem, ⟨23, _⟩ => ⟨S32x8192, .bf16⟩
  | .local _ .vmem, ⟨24, _⟩ => ⟨S512x512, .f32⟩
  | .local _ .vmem, ⟨25, _⟩ => ⟨S512x512, .f32⟩
  | .local _ .vmem, ⟨26, _⟩ => ⟨S512x128, .f32⟩
  | .local _ .vmem, ⟨27, _⟩ => ⟨S512x128, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1024x2304, .bf16⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S1x512, .f32⟩
  | .local _ .vmem, ⟨39, _⟩ => ⟨S1x128, .f32⟩
  | .local _ .vmem, ⟨40, _⟩ => ⟨S512x512, .bf16⟩
  | .local _ .vmem, ⟨41, _⟩ => ⟨S512x512, .bf16⟩
  | .local _ .vmem, ⟨42, _⟩ => ⟨S512x1024, .f32⟩
  | .local _ .vmem, ⟨43, _⟩ => ⟨S512x1024, .f32⟩
  | .local _ .vmem, ⟨44, _⟩ => ⟨S512x2304, .bf16⟩
  | .local _ .vmem, ⟨45, _⟩ => ⟨S512x2304, .bf16⟩
  | .local _ .vmem, ⟨46, _⟩ => ⟨S1x1024, .f32⟩
  | .local _ .vmem, ⟨47, _⟩ => ⟨S1x512, .f32⟩
  | .local _ .vmem, ⟨48, _⟩ => ⟨S1x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c : Ref sig .tc := ⟨.hbm, 105, rfl⟩
abbrev main_v82 : Ref sig .tc := ⟨.hbm, 106, rfl⟩
abbrev main_v83 : Ref sig .tc := ⟨.hbm, 107, rfl⟩
abbrev main_c_4 : Ref sig .tc := ⟨.hbm, 108, rfl⟩
abbrev main_v84 : Ref sig .tc := ⟨.hbm, 109, rfl⟩
abbrev main_v85 : Ref sig .tc := ⟨.hbm, 110, rfl⟩
abbrev main_c_5 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_6 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_8 : Ref sig .tc := ⟨.hbm, 124, rfl⟩
abbrev main_v96 : Ref sig .tc := ⟨.hbm, 125, rfl⟩
abbrev main_v97 : Ref sig .tc := ⟨.hbm, 126, rfl⟩
abbrev main_c_9 : Ref sig .tc := ⟨.hbm, 127, rfl⟩
abbrev main_v98 : Ref sig .tc := ⟨.hbm, 128, rfl⟩
abbrev main_v99 : Ref sig .tc := ⟨.hbm, 129, rfl⟩
abbrev main_c_10 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_11 : Ref sig .tc := ⟨.hbm, 135, rfl⟩
abbrev main_v104 : Ref sig .tc := ⟨.hbm, 136, rfl⟩
abbrev main_cst_12 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108_0 : Ref sig .tc := ⟨.hbm, 141, rfl⟩
abbrev main_v108_1 : Ref sig .tc := ⟨.hbm, 142, rfl⟩
abbrev main_v108_2 : Ref sig .tc := ⟨.hbm, 143, rfl⟩
abbrev main_v108_3 : Ref sig .tc := ⟨.hbm, 144, rfl⟩
abbrev main_v108_4 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg27_0 : Ref sig .tc := ⟨.vmem, 47, rfl⟩
abbrev cc0_stg28_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem27_0 : DmaSem sig := 47
abbrev cc0_sem28_0 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2304 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x2304 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== InpBwdRefIdeal.lean ====
abbrev S16384x512 : Shape := ⟨2, ![16384, 512]⟩
abbrev S16384x128 : Shape := ⟨2, ![16384, 128]⟩
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S64 : Shape := ⟨1, ![64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S8x64 : Shape := ⟨2, ![8, 64]⟩
abbrev S2x64 : Shape := ⟨2, ![2, 64]⟩
abbrev S16384x2304 : Shape := ⟨2, ![16384, 2304]⟩
abbrev S16384x8x64 : Shape := ⟨3, ![16384, 8, 64]⟩
abbrev S16384x8 : Shape := ⟨2, ![16384, 8]⟩
abbrev S16384x8x1 : Shape := ⟨3, ![16384, 8, 1]⟩
abbrev S1x8x64 : Shape := ⟨3, ![1, 8, 64]⟩
abbrev S16384x8x32 : Shape := ⟨3, ![16384, 8, 32]⟩
abbrev S16384x1x32 : Shape := ⟨3, ![16384, 1, 32]⟩
abbrev S16384x2x64 : Shape := ⟨3, ![16384, 2, 64]⟩
abbrev S16384x2 : Shape := ⟨2, ![16384, 2]⟩
abbrev S16384x2x1 : Shape := ⟨3, ![16384, 2, 1]⟩
abbrev S1x2x64 : Shape := ⟨3, ![1, 2, 64]⟩
abbrev S16384x2x32 : Shape := ⟨3, ![16384, 2, 32]⟩
abbrev S1024 : Shape := ⟨1, ![1024]⟩
abbrev S1x512 : Shape := ⟨2, ![1, 512]⟩
abbrev S1x128 : Shape := ⟨2, ![1, 128]⟩

abbrev nBuf : Space → Nat
  | .hbm => 277
  | .vmem => 0
  | .smem => 0
  | _ => 0

abbrev hbmTy0_0 (i : Nat) : BufTy := match i % 128 with
  | 0 => ⟨S16384x512, .f32⟩
  | 1 => ⟨S16384x128, .f32⟩
  | 2 => ⟨S16384x128, .f32⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x1024, .f32⟩
  | 13 => ⟨S16384x1024, .f32⟩
  | 14 => ⟨S1x1024, .f32⟩
  | 15 => ⟨S1024x2304, .f32⟩
  | 16 => ⟨S1x64, .f32⟩
  | 17 => ⟨S1x64, .f32⟩
  | 18 => ⟨S256, .i32⟩
  | 19 => ⟨S256x1, .i32⟩
  | 20 => ⟨S256x64, .i32⟩
  | 21 => ⟨S16384, .i32⟩
  | 22 => ⟨S16384, .f32⟩
  | 23 => ⟨S64, .i32⟩
  | 24 => ⟨S1x64, .i32⟩
  | 25 => ⟨S256x64, .i32⟩
  | 26 => ⟨S16384, .i32⟩
  | 27 => ⟨S16384, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S16384x1, .f32⟩
  | 37 => ⟨S1x16, .f32⟩
  | 38 => ⟨S16384x16, .f32⟩
  | 39 => ⟨S16384x16, .f32⟩
  | 40 => ⟨S16384x16, .f32⟩
  | 41 => ⟨S16384x1, .f32⟩
  | 42 => ⟨S1x16, .f32⟩
  | 43 => ⟨S16384x16, .f32⟩
  | 44 => ⟨S16384x16, .f32⟩
  | 45 => ⟨S16384x16, .f32⟩
  | 46 => ⟨S16384x32, .f32⟩
  | 47 => ⟨S16384x32, .f32⟩
  | 48 => ⟨S16384x32, .f32⟩
  | 49 => ⟨S8x64, .f32⟩
  | 50 => ⟨S2x64, .f32⟩
  | 51 => ⟨S_, .f32⟩
  | 52 => ⟨S16384x2304, .f32⟩
  | 53 => ⟨S16384x1024, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1024, .f32⟩
  | 69 => ⟨S16384x1024, .f32⟩
  | 70 => ⟨S16384x1024, .f32⟩
  | 71 => ⟨S16384x1024, .f32⟩
  | 72 => ⟨S16384x2304, .f32⟩
  | 73 => ⟨S16384x2304, .f32⟩
  | 74 => ⟨S16384x512, .f32⟩
  | 75 => ⟨S16384x128, .f32⟩
  | 76 => ⟨S16384x128, .f32⟩
  | 77 => ⟨S16384x512, .f32⟩
  | 78 => ⟨S16384x512, .f32⟩
  | 79 => ⟨S16384x512, .f32⟩
  | 80 => ⟨S16384x8x64, .f32⟩
  | 81 => ⟨S16384x8x64, .f32⟩
  | 82 => ⟨S_, .f32⟩
  | 83 => ⟨S16384x8, .f32⟩
  | 84 => ⟨S16384x8x1, .f32⟩
  | 85 => ⟨S_, .f32⟩
  | 86 => ⟨S16384x8x1, .f32⟩
  | 87 => ⟨S16384x8x1, .f32⟩
  | 88 => ⟨S_, .f32⟩
  | 89 => ⟨S16384x8x1, .f32⟩
  | 90 => ⟨S16384x8x1, .f32⟩
  | 91 => ⟨S16384x8x1, .f32⟩
  | 92 => ⟨S16384x8x1, .f32⟩
  | 93 => ⟨S_, .f32⟩
  | 94 => ⟨S16384x8x1, .f32⟩
  | 95 => ⟨S16384x8x1, .f32⟩
  | 96 => ⟨S16384x8x64, .f32⟩
  | 97 => ⟨S16384x8x64, .f32⟩
  | 98 => ⟨S1x8x64, .f32⟩
  | 99 => ⟨S16384x8x64, .f32⟩
  | 100 => ⟨S16384x8x64, .f32⟩
  | 101 => ⟨S16384x8x32, .f32⟩
  | 102 => ⟨S16384x8x32, .f32⟩
  | 103 => ⟨S16384x1x32, .f32⟩
  | 104 => ⟨S16384x1x32, .f32⟩
  | 105 => ⟨S16384x8x32, .f32⟩
  | 106 => ⟨S16384x8x32, .f32⟩
  | 107 => ⟨S16384x8x32, .f32⟩
  | 108 => ⟨S16384x8x32, .f32⟩
  | 109 => ⟨S16384x8x32, .f32⟩
  | 110 => ⟨S16384x8x32, .f32⟩
  | 111 => ⟨S16384x8x32, .f32⟩
  | 112 => ⟨S16384x8x32, .f32⟩
  | 113 => ⟨S16384x8x32, .f32⟩
  | 114 => ⟨S16384x8x32, .f32⟩
  | 115 => ⟨S16384x8x64, .f32⟩
  | 116 => ⟨S16384x2x64, .f32⟩
  | 117 => ⟨S16384x2x64, .f32⟩
  | 118 => ⟨S_, .f32⟩
  | 119 => ⟨S16384x2, .f32⟩
  | 120 => ⟨S16384x2x1, .f32⟩
  | 121 => ⟨S_, .f32⟩
  | 122 => ⟨S16384x2x1, .f32⟩
  | 123 => ⟨S16384x2x1, .f32⟩
  | 124 => ⟨S_, .f32⟩
  | 125 => ⟨S16384x2x1, .f32⟩
  | 126 => ⟨S16384x2x1, .f32⟩
  | 127 => ⟨S16384x2x1, .f32⟩
  | _ => ⟨S16384x512, .f32⟩

abbrev hbmTy0_1 (i : Nat) : BufTy := match i % 128 with
  | 0 => ⟨S16384x2x1, .f32⟩
  | 1 => ⟨S_, .f32⟩
  | 2 => ⟨S16384x2x1, .f32⟩
  | 3 => ⟨S16384x2x1, .f32⟩
  | 4 => ⟨S16384x2x64, .f32⟩
  | 5 => ⟨S16384x2x64, .f32⟩
  | 6 => ⟨S1x2x64, .f32⟩
  | 7 => ⟨S16384x2x64, .f32⟩
  | 8 => ⟨S16384x2x64, .f32⟩
  | 9 => ⟨S16384x2x32, .f32⟩
  | 10 => ⟨S16384x2x32, .f32⟩
  | 11 => ⟨S16384x1x32, .f32⟩
  | 12 => ⟨S16384x1x32, .f32⟩
  | 13 => ⟨S16384x2x32, .f32⟩
  | 14 => ⟨S16384x2x32, .f32⟩
  | 15 => ⟨S16384x2x32, .f32⟩
  | 16 => ⟨S16384x2x32, .f32⟩
  | 17 => ⟨S16384x2x32, .f32⟩
  | 18 => ⟨S16384x2x32, .f32⟩
  | 19 => ⟨S16384x2x32, .f32⟩
  | 20 => ⟨S16384x2x32, .f32⟩
  | 21 => ⟨S16384x2x32, .f32⟩
  | 22 => ⟨S16384x2x32, .f32⟩
  | 23 => ⟨S16384x2x64, .f32⟩
  | 24 => ⟨S16384x8x64, .f32⟩
  | 25 => ⟨S16384x2x64, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x2x32, .f32⟩
  | 33 => ⟨S16384x2x32, .f32⟩
  | 34 => ⟨S16384x2x32, .f32⟩
  | 35 => ⟨S16384x2x32, .f32⟩
  | 36 => ⟨S16384x2x32, .f32⟩
  | 37 => ⟨S16384x2x32, .f32⟩
  | 38 => ⟨S16384x2x32, .f32⟩
  | 39 => ⟨S16384x2x32, .f32⟩
  | 40 => ⟨S16384x2x32, .f32⟩
  | 41 => ⟨S16384x2x32, .f32⟩
  | 42 => ⟨S16384x2x32, .f32⟩
  | 43 => ⟨S16384x2x32, .f32⟩
  | 44 => ⟨S16384x2x32, .f32⟩
  | 45 => ⟨S_, .f32⟩
  | 46 => ⟨S16384x2x64, .f32⟩
  | 47 => ⟨S_, .f32⟩
  | 48 => ⟨S16384x2x64, .f32⟩
  | 49 => ⟨S16384x2x64, .f32⟩
  | 50 => ⟨S16384x2x64, .f32⟩
  | 51 => ⟨S_, .f32⟩
  | 52 => ⟨S2x64, .f32⟩
  | 53 => ⟨S1x2x64, .f32⟩
  | 54 => ⟨S16384x2x64, .f32⟩
  | 55 => ⟨S16384x2x64, .f32⟩
  | 56 => ⟨S_, .f32⟩
  | 57 => ⟨S2x64, .f32⟩
  | 58 => ⟨S16384x2x64, .f32⟩
  | 59 => ⟨S_, .f32⟩
  | 60 => ⟨S16384x2, .f32⟩
  | 61 => ⟨S16384x2x1, .f32⟩
  | 62 => ⟨S16384x2x64, .f32⟩
  | 63 => ⟨S16384x2x64, .f32⟩
  | 64 => ⟨S16384x2x1, .f32⟩
  | 65 => ⟨S_, .f32⟩
  | 66 => ⟨S16384x2x1, .f32⟩
  | 67 => ⟨S16384x2x1, .f32⟩
  | 68 => ⟨S_, .f32⟩
  | 69 => ⟨S16384x2, .f32⟩
  | 70 => ⟨S16384x2x64, .f32⟩
  | 71 => ⟨S16384x2x64, .f32⟩
  | 72 => ⟨S16384x2x64, .f32⟩
  | 73 => ⟨S16384x2x64, .f32⟩
  | 74 => ⟨S16384x2x64, .f32⟩
  | 75 => ⟨S16384x128, .f32⟩
  | 76 => ⟨S16384x8x32, .f32⟩
  | 77 => ⟨S16384x8x32, .f32⟩
  | 78 => ⟨S16384x8x32, .f32⟩
  | 79 => ⟨S16384x8x32, .f32⟩
  | 80 => ⟨S16384x8x32, .f32⟩
  | 81 => ⟨S16384x8x32, .f32⟩
  | 82 => ⟨S16384x8x32, .f32⟩
  | 83 => ⟨S16384x8x32, .f32⟩
  | 84 => ⟨S16384x8x32, .f32⟩
  | 85 => ⟨S16384x8x32, .f32⟩
  | 86 => ⟨S16384x8x32, .f32⟩
  | 87 => ⟨S16384x8x32, .f32⟩
  | 88 => ⟨S16384x8x32, .f32⟩
  | 89 => ⟨S_, .f32⟩
  | 90 => ⟨S16384x8x64, .f32⟩
  | 91 => ⟨S_, .f32⟩
  | 92 => ⟨S16384x8x64, .f32⟩
  | 93 => ⟨S16384x8x64, .f32⟩
  | 94 => ⟨S16384x8x64, .f32⟩
  | 95 => ⟨S_, .f32⟩
  | 96 => ⟨S8x64, .f32⟩
  | 97 => ⟨S1x8x64, .f32⟩
  | 98 => ⟨S16384x8x64, .f32⟩
  | 99 => ⟨S16384x8x64, .f32⟩
  | 100 => ⟨S_, .f32⟩
  | 101 => ⟨S8x64, .f32⟩
  | 102 => ⟨S16384x8x64, .f32⟩
  | 103 => ⟨S_, .f32⟩
  | 104 => ⟨S16384x8, .f32⟩
  | 105 => ⟨S16384x8x1, .f32⟩
  | 106 => ⟨S16384x8x64, .f32⟩
  | 107 => ⟨S16384x8x64, .f32⟩
  | 108 => ⟨S16384x8x1, .f32⟩
  | 109 => ⟨S_, .f32⟩
  | 110 => ⟨S16384x8x1, .f32⟩
  | 111 => ⟨S16384x8x1, .f32⟩
  | 112 => ⟨S_, .f32⟩
  | 113 => ⟨S16384x8, .f32⟩
  | 114 => ⟨S16384x8x64, .f32⟩
  | 115 => ⟨S16384x8x64, .f32⟩
  | 116 => ⟨S16384x8x64, .f32⟩
  | 117 => ⟨S16384x8x64, .f32⟩
  | 118 => ⟨S16384x8x64, .f32⟩
  | 119 => ⟨S16384x512, .f32⟩
  | 120 => ⟨S16384x2304, .f32⟩
  | 121 => ⟨S16384x1024, .f32⟩
  | 122 => ⟨S16384x1024, .f32⟩
  | 123 => ⟨S_, .f32⟩
  | 124 => ⟨S1024, .f32⟩
  | 125 => ⟨S1x1024, .f32⟩
  | 126 => ⟨S16384x1024, .f32⟩
  | 127 => ⟨S16384x1024, .f32⟩
  | _ => ⟨S16384x512, .f32⟩

abbrev hbmTy0_2 (i : Nat) : BufTy := match i % 128 with
  | 0 => ⟨S16384x1024, .f32⟩
  | 1 => ⟨S_, .f32⟩
  | 2 => ⟨S16384, .f32⟩
  | 3 => ⟨S16384x1, .f32⟩
  | 4 => ⟨S16384x1024, .f32⟩
  | 5 => ⟨S16384x1024, .f32⟩
  | 6 => ⟨S16384x1024, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x2304, .bf16⟩
  | 19 => ⟨S1x512, .f32⟩
  | 20 => ⟨S1x128, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_cst_11 : Ref sig .tc := ⟨.hbm, 121, rfl⟩
abbrev main_v91 : Ref sig .tc := ⟨.hbm, 122, rfl⟩
abbrev main_v92 : Ref sig .tc := ⟨.hbm, 123, rfl⟩
abbrev main_cst_12 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_13 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_14 : Ref sig .tc := ⟨.hbm, 173, rfl⟩
abbrev main_v140 : Ref sig .tc := ⟨.hbm, 174, rfl⟩
abbrev main_cst_15 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_16 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_17 : Ref sig .tc := ⟨.hbm, 184, rfl⟩
abbrev main_v148 : Ref sig .tc := ⟨.hbm, 185, rfl⟩
abbrev main_v149 : Ref sig .tc := ⟨.hbm, 186, rfl⟩
abbrev main_cst_18 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_19 : Ref sig .tc := ⟨.hbm, 193, rfl⟩
abbrev main_v155 : Ref sig .tc := ⟨.hbm, 194, rfl⟩
abbrev main_v156 : Ref sig .tc := ⟨.hbm, 195, rfl⟩
abbrev main_cst_20 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_21 : Ref sig .tc := ⟨.hbm, 217, rfl⟩
abbrev main_v177 : Ref sig .tc := ⟨.hbm, 218, rfl⟩
abbrev main_cst_22 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_cst_23 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_24 : Ref sig .tc := ⟨.hbm, 228, rfl⟩
abbrev main_v185 : Ref sig .tc := ⟨.hbm, 229, rfl⟩
abbrev main_v186 : Ref sig .tc := ⟨.hbm, 230, rfl⟩
abbrev main_cst_25 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_cst_26 : Ref sig .tc := ⟨.hbm, 237, rfl⟩
abbrev main_v192 : Ref sig .tc := ⟨.hbm, 238, rfl⟩
abbrev main_v193 : Ref sig .tc := ⟨.hbm, 239, rfl⟩
abbrev main_cst_27 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_28 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_29 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_30 : Ref sig .tc := ⟨.hbm, 264, rfl⟩
abbrev main_v215 : Ref sig .tc := ⟨.hbm, 265, rfl⟩
abbrev main_v216 : Ref sig .tc := ⟨.hbm, 266, rfl⟩
abbrev main_cst_31 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩

abbrev nD : Nat := 1
abbrev τ : Topo := Topo.v7x

variable {F : FTy → Type} [FloatOps F]
-- ==== Dbias.lean ====
abbrev S8x256x384 : Shape := ⟨3, ![8, 256, 384]⟩
abbrev S384 : Shape := ⟨1, ![384]⟩
abbrev S1x384 : Shape := ⟨2, ![1, 384]⟩
abbrev S_ : Shape := ⟨0, ![]⟩
abbrev S256 : Shape := ⟨1, ![256]⟩
abbrev S256x1 : Shape := ⟨2, ![256, 1]⟩
abbrev S256x384 : Shape := ⟨2, ![256, 384]⟩
abbrev S32x128 : Shape := ⟨2, ![32, 128]⟩
abbrev S1x256x384 : Shape := ⟨3, ![1, 256, 384]⟩
abbrev S1 : Shape := ⟨1, ![1]⟩
abbrev S1x1 : Shape := ⟨2, ![1, 1]⟩

abbrev nBuf : Space → Nat
  | .hbm => 199
  | .vmem => 7
  | .smem => 0
  | _ => 0

abbrev hbmTy0_0 (i : Nat) : BufTy := match i % 128 with
  | 0 => ⟨S8x256x384, .f32⟩
  | 1 => ⟨S8x256x384, .f32⟩
  | 2 => ⟨S8x256x384, .f32⟩
  | 3 => ⟨S384, .i32⟩
  | 4 => ⟨S1x384, .i32⟩
  | 5 => ⟨S_, .i32⟩
  | 6 => ⟨S1x384, .i32⟩
  | 7 => ⟨S1x384, .i32⟩
  | 8 => ⟨S256, .i32⟩
  | 9 => ⟨S256x1, .i32⟩
  | 10 => ⟨S256x384, .i32⟩
  | 11 => ⟨S256x384, .i32⟩
  | 12 => ⟨S256x384, .i32⟩
  | 13 => ⟨S_, .i32⟩
  | 14 => ⟨S_, .i32⟩
  | 15 => ⟨S_, .i32⟩
  | 16 => ⟨S256x384, .i32⟩
  | 17 => ⟨S256x384, .i32⟩
  | 18 => ⟨S_, .i32⟩
  | 19 => ⟨S256x384, .i32⟩
  | 20 => ⟨S256x384, .i32⟩
  | 21 => ⟨S_, .i32⟩
  | 22 => ⟨S256x384, .i32⟩
  | 23 => ⟨S256x384, .i32⟩
  | 24 => ⟨S_, .i32⟩
  | 25 => ⟨S256x384, .i32⟩
  | 26 => ⟨S256x384, .i1⟩
  | 27 => ⟨S_, .i32⟩
  | 28 => ⟨S_, .i32⟩
  | 29 => ⟨S256x384, .i32⟩
  | 30 => ⟨S256x384, .i32⟩
  | 31 => ⟨S256x384, .i32⟩
  | 32 => ⟨S256x384, .i32⟩
  | 33 => ⟨S_, .i32⟩
  | 34 => ⟨S256x384, .i32⟩
  | 35 => ⟨S256x384, .i32⟩
  | 36 => ⟨S256x384, .f32⟩
  | 37 => ⟨S_, .f32⟩
  | 38 => ⟨S256x384, .f32⟩
  | 39 => ⟨S256x384, .f32⟩
  | 40 => ⟨S256x384, .f32⟩
  | 41 => ⟨S_, .f32⟩
  | 42 => ⟨S256x384, .f32⟩
  | 43 => ⟨S256x384, .f32⟩
  | 44 => ⟨S_, .f32⟩
  | 45 => ⟨S256x384, .f32⟩
  | 46 => ⟨S256x384, .f32⟩
  | 47 => ⟨S256x384, .i32⟩
  | 48 => ⟨S_, .i32⟩
  | 49 => ⟨S256x384, .i32⟩
  | 50 => ⟨S256x384, .i32⟩
  | 51 => ⟨S_, .i32⟩
  | 52 => ⟨S256x384, .i32⟩
  | 53 => ⟨S256x384, .i32⟩
  | 54 => ⟨S_, .i32⟩
  | 55 => ⟨S256x384, .i32⟩
  | 56 => ⟨S256x384, .i1⟩
  | 57 => ⟨S256x384, .i32⟩
  | 58 => ⟨S256x384, .i32⟩
  | 59 => ⟨S256x384, .i32⟩
  | 60 => ⟨S256x384, .i32⟩
  | 61 => ⟨S_, .i32⟩
  | 62 => ⟨S256x384, .i32⟩
  | 63 => ⟨S256x384, .i1⟩
  | 64 => ⟨S_, .i32⟩
  | 65 => ⟨S_, .i32⟩
  | 66 => ⟨S256x384, .i32⟩
  | 67 => ⟨S256x384, .i32⟩
  | 68 => ⟨S384, .i32⟩
  | 69 => ⟨S1x384, .i32⟩
  | 70 => ⟨S_, .i32⟩
  | 71 => ⟨S1x384, .i32⟩
  | 72 => ⟨S1x384, .i32⟩
  | 73 => ⟨S256, .i32⟩
  | 74 => ⟨S256x1, .i32⟩
  | 75 => ⟨S256x384, .i32⟩
  | 76 => ⟨S256x384, .i32⟩
  | 77 => ⟨S256x384, .i32⟩
  | 78 => ⟨S_, .i32⟩
  | 79 => ⟨S_, .i32⟩
  | 80 => ⟨S_, .i32⟩
  | 81 => ⟨S256x384, .i32⟩
  | 82 => ⟨S256x384, .i32⟩
  | 83 => ⟨S_, .i32⟩
  | 84 => ⟨S256x384, .i32⟩
  | 85 => ⟨S256x384, .i32⟩
  | 86 => ⟨S_, .i32⟩
  | 87 => ⟨S256x384, .i32⟩
  | 88 => ⟨S256x384, .i32⟩
  | 89 => ⟨S_, .i32⟩
  | 90 => ⟨S256x384, .i32⟩
  | 91 => ⟨S256x384, .i1⟩
  | 92 => ⟨S_, .i32⟩
  | 93 => ⟨S_, .i32⟩
  | 94 => ⟨S256x384, .i32⟩
  | 95 => ⟨S256x384, .i32⟩
  | 96 => ⟨S256x384, .i32⟩
  | 97 => ⟨S256x384, .i32⟩
  | 98 => ⟨S_, .i32⟩
  | 99 => ⟨S256x384, .i32⟩
  | 100 => ⟨S256x384, .i32⟩
  | 101 => ⟨S256x384, .f32⟩
  | 102 => ⟨S_, .f32⟩
  | 103 => ⟨S256x384, .f32⟩
  | 104 => ⟨S256x384, .f32⟩
  | 105 => ⟨S256x384, .f32⟩
  | 106 => ⟨S_, .f32⟩
  | 107 => ⟨S256x384, .f32⟩
  | 108 => ⟨S256x384, .f32⟩
  | 109 => ⟨S_, .f32⟩
  | 110 => ⟨S256x384, .f32⟩
  | 111 => ⟨S256x384, .f32⟩
  | 112 => ⟨S256x384, .i32⟩
  | 113 => ⟨S_, .i32⟩
  | 114 => ⟨S256x384, .i32⟩
  | 115 => ⟨S256x384, .i32⟩
  | 116 => ⟨S_, .i32⟩
  | 117 => ⟨S256x384, .i32⟩
  | 118 => ⟨S256x384, .i32⟩
  | 119 => ⟨S_, .i32⟩
  | 120 => ⟨S256x384, .i32⟩
  | 121 => ⟨S256x384, .i1⟩
  | 122 => ⟨S256x384, .i32⟩
  | 123 => ⟨S256x384, .i32⟩
  | 124 => ⟨S256x384, .i32⟩
  | 125 => ⟨S256x384, .i32⟩
  | 126 => ⟨S_, .i32⟩
  | 127 => ⟨S256x384, .i32⟩
  | _ => ⟨S8x256x384, .f32⟩

abbrev hbmTy0_1 (i : Nat) : BufTy := match i % 128 with
  | 0 => ⟨S256x384, .i1⟩
  | 1 => ⟨S_, .i32⟩
  | 2 => ⟨S_, .i32⟩
  | 3 => ⟨S256x384, .i32⟩
  | 4 => ⟨S256x384, .i32⟩
  | 5 => ⟨S384, .i32⟩
  | 6 => ⟨S1x384, .i32⟩
  | 7 => ⟨S_, .i32⟩
  | 8 => ⟨S1x384, .i32⟩
  | 9 => ⟨S1x384, .i32⟩
  | 10 => ⟨S256, .i32⟩
  | 11 => ⟨S256x1, .i32⟩
  | 12 => ⟨S256x384, .i32⟩
  | 13 => ⟨S256x384, .i32⟩
  | 14 => ⟨S256x384, .i32⟩
  | 15 => ⟨S_, .i32⟩
  | 16 => ⟨S_, .i32⟩
  | 17 => ⟨S_, .i32⟩
  | 18 => ⟨S256x384, .i32⟩
  | 19 => ⟨S256x384, .i32⟩
  | 20 => ⟨S_, .i32⟩
  | 21 => ⟨S256x384, .i32⟩
  | 22 => ⟨S256x384, .i32⟩
  | 23 => ⟨S_, .i32⟩
  | 24 => ⟨S256x384, .i32⟩
  | 25 => ⟨S256x384, .i32⟩
  | 26 => ⟨S_, .i32⟩
  | 27 => ⟨S256x384, .i32⟩
  | 28 => ⟨S256x384, .i1⟩
  | 29 => ⟨S_, .i32⟩
  | 30 => ⟨S_, .i32⟩
  | 31 => ⟨S256x384, .i32⟩
  | 32 => ⟨S256x384, .i32⟩
  | 33 => ⟨S256x384, .i32⟩
  | 34 => ⟨S256x384, .i32⟩
  | 35 => ⟨S_, .i32⟩
  | 36 => ⟨S256x384, .i32⟩
  | 37 => ⟨S256x384, .i32⟩
  | 38 => ⟨S256x384, .f32⟩
  | 39 => ⟨S_, .f32⟩
  | 40 => ⟨S256x384, .f32⟩
  | 41 => ⟨S256x384, .f32⟩
  | 42 => ⟨S256x384, .f32⟩
  | 43 => ⟨S_, .f32⟩
  | 44 => ⟨S256x384, .f32⟩
  | 45 => ⟨S256x384, .f32⟩
  | 46 => ⟨S_, .f32⟩
  | 47 => ⟨S256x384, .f32⟩
  | 48 => ⟨S256x384, .f32⟩
  | 49 => ⟨S256x384, .i32⟩
  | 50 => ⟨S_, .i32⟩
  | 51 => ⟨S256x384, .i32⟩
  | 52 => ⟨S256x384, .i32⟩
  | 53 => ⟨S_, .i32⟩
  | 54 => ⟨S256x384, .i32⟩
  | 55 => ⟨S256x384, .i32⟩
  | 56 => ⟨S_, .i32⟩
  | 57 => ⟨S256x384, .i32⟩
  | 58 => ⟨S256x384, .i1⟩
  | 59 => ⟨S256x384, .i32⟩
  | 60 => ⟨S256x384, .i32⟩
  | 61 => ⟨S256x384, .i32⟩
  | 62 => ⟨S256x384, .i32⟩
  | 63 => ⟨S_, .i32⟩
  | 64 => ⟨S256x384, .i32⟩
  | 65 => ⟨S256x384, .i1⟩
  | 66 => ⟨S_, .i32⟩
  | 67 => ⟨S_, .i32⟩
  | 68 => ⟨S256x384, .i32⟩
  | 69 => ⟨S256x384, .i32⟩
  | 70 => ⟨S32x128, .f32⟩
  | _ => ⟨S8x256x384, .f32⟩

abbrev hbmTy (i : Nat) : BufTy := match i / 128 with
  | 0 => hbmTy0_0 i
  | 1 => hbmTy0_1 i
  | _ => ⟨S8x256x384, .f32⟩

abbrev bufTy : (tb : Table) → Fin (tcTables nBuf tb) → BufTy
  | .hbm, ⟨i, _⟩ => hbmTy i
  | .local _ .vmem, ⟨0, _⟩ => ⟨S8x256x384, .f32⟩
  | .local _ .vmem, ⟨1, _⟩ => ⟨S8x256x384, .f32⟩
  | .local _ .vmem, ⟨2, _⟩ => ⟨S8x256x384, .f32⟩
  | .local _ .vmem, ⟨3, _⟩ => ⟨S256x384, .i32⟩
  | .local _ .vmem, ⟨4, _⟩ => ⟨S256x384, .i32⟩
  | .local _ .vmem, ⟨5, _⟩ => ⟨S256x384, .i32⟩
  | .local _ .vmem, ⟨6, _⟩ => ⟨S32x128, .f32⟩
  | _, _ => ⟨S8x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_c_5 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_v27 : Ref sig .tc := ⟨.hbm, 49, rfl⟩
abbrev main_v28 : Ref sig .tc := ⟨.hbm, 50, rfl⟩
abbrev main_c_10 : Ref sig .tc := ⟨.hbm, 51, rfl⟩
abbrev main_v29 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_call3_v0 : Ref sig .tc := ⟨.hbm, 65, rfl⟩
abbrev main_call3_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_14 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_15 : Ref sig .tc := ⟨.hbm, 78, rfl⟩
abbrev main_c_16 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v49 : Ref sig .tc := ⟨.hbm, 85, rfl⟩
abbrev main_c_17 : Ref sig .tc := ⟨.hbm, 86, rfl⟩
abbrev main_v50 : Ref sig .tc := ⟨.hbm, 87, rfl⟩
abbrev main_v51 : Ref sig .tc := ⟨.hbm, 88, rfl⟩
abbrev main_c_18 : Ref sig .tc := ⟨.hbm, 89, rfl⟩
abbrev main_v52 : Ref sig .tc := ⟨.hbm, 90, rfl⟩
abbrev main_v53 : Ref sig .tc := ⟨.hbm, 91, rfl⟩
abbrev main_c_19 : Ref sig .tc := ⟨.hbm, 92, rfl⟩
abbrev main_c_20 : Ref sig .tc := ⟨.hbm, 93, rfl⟩
abbrev main_call5_v0 : Ref sig .tc := ⟨.hbm, 94, rfl⟩
abbrev main_call5_v1 : Ref sig .tc := ⟨.hbm, 95, rfl⟩
abbrev main_v54 : Ref sig .tc := ⟨.hbm, 96, rfl⟩
abbrev main_v55 : Ref sig .tc := ⟨.hbm, 97, rfl⟩
abbrev main_c_21 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_22 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_23 : Ref sig .tc := ⟨.hbm, 106, rfl⟩
abbrev main_v62 : Ref sig .tc := ⟨.hbm, 107, rfl⟩
abbrev main_v63 : Ref sig .tc := ⟨.hbm, 108, rfl⟩
abbrev main_cst_24 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_25 : Ref sig .tc := ⟨.hbm, 113, rfl⟩
abbrev main_v67 : Ref sig .tc := ⟨.hbm, 114, rfl⟩
abbrev main_v68 : Ref sig .tc := ⟨.hbm, 115, rfl⟩
abbrev main_c_26 : Ref sig .tc := ⟨.hbm, 116, rfl⟩
abbrev main_v69 : Ref sig .tc := ⟨.hbm, 117, rfl⟩
abbrev main_v70 : Ref sig .tc := ⟨.hbm, 118, rfl⟩
abbrev main_c_27 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_28 : Ref sig .tc := ⟨.hbm, 126, rfl⟩
abbrev main_v77 : Ref sig .tc := ⟨.hbm, 127, rfl⟩
abbrev main_v78 : Ref sig .tc := ⟨.hbm, 128, rfl⟩
abbrev main_c_29 : Ref sig .tc := ⟨.hbm, 129, rfl⟩
abbrev main_call7_v0 : Ref sig .tc := ⟨.hbm, 130, rfl⟩
abbrev main_call7_v1 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_30 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_31 : Ref sig .tc := ⟨.hbm, 143, rfl⟩
abbrev main_c_32 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_v89 : Ref sig .tc := ⟨.hbm, 150, rfl⟩
abbrev main_c_33 : Ref sig .tc := ⟨.hbm, 151, rfl⟩
abbrev main_v90 : Ref sig .tc := ⟨.hbm, 152, rfl⟩
abbrev main_v91 : Ref sig .tc := ⟨.hbm, 153, rfl⟩
abbrev main_c_34 : Ref sig .tc := ⟨.hbm, 154, rfl⟩
abbrev main_v92 : Ref sig .tc := ⟨.hbm, 155, rfl⟩
abbrev main_v93 : Ref sig .tc := ⟨.hbm, 156, rfl⟩
abbrev main_c_35 : Ref sig .tc := ⟨.hbm, 157, rfl⟩
abbrev main_c_36 : Ref sig .tc := ⟨.hbm, 158, rfl⟩
abbrev main_call9_v0 : Ref sig .tc := ⟨.hbm, 159, rfl⟩
abbrev main_call9_v1 : Ref sig .tc := ⟨.hbm, 160, rfl⟩
abbrev main_v94 : Ref sig .tc := ⟨.hbm, 161, rfl⟩
abbrev main_v95 : Ref sig .tc := ⟨.hbm, 162, rfl⟩
abbrev main_c_37 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_38 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_39 : Ref sig .tc := ⟨.hbm, 171, rfl⟩
abbrev main_v102 : Ref sig .tc := ⟨.hbm, 172, rfl⟩
abbrev main_v103 : Ref sig .tc := ⟨.hbm, 173, rfl⟩
abbrev main_cst_40 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_41 : Ref sig .tc := ⟨.hbm, 178, rfl⟩
abbrev main_v107 : Ref sig .tc := ⟨.hbm, 179, rfl⟩
abbrev main_v108 : Ref sig .tc := ⟨.hbm, 180, rfl⟩
abbrev main_c_42 : Ref sig .tc := ⟨.hbm, 181, rfl⟩
abbrev main_v109 : Ref sig .tc := ⟨.hbm, 182, rfl⟩
abbrev main_v110 : Ref sig .tc := ⟨.hbm, 183, rfl⟩
abbrev main_c_43 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_c_44 : Ref sig .tc := ⟨.hbm, 191, rfl⟩
abbrev main_v117 : Ref sig .tc := ⟨.hbm, 192, rfl⟩
abbrev main_v118 : Ref sig .tc := ⟨.hbm, 193, rfl⟩
abbrev main_c_45 : Ref sig .tc := ⟨.hbm, 194, rfl⟩
abbrev main_call11_v0 : Ref sig .tc := ⟨.hbm, 195, rfl⟩
abbrev main_call11_v1 : Ref sig .tc := ⟨.hbm, 196, rfl⟩
abbrev main_v119 : Ref sig .tc := ⟨.hbm, 197, rfl⟩
abbrev main_v120 : Ref sig .tc := ⟨.hbm, 198, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
abbrev stage0_0 : Fin 1 → Memref sig .tc .vmem S8x256x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DbiasRefIdeal.lean ====
abbrev S8x256x384 : Shape := ⟨3, ![8, 256, 384]⟩
abbrev S_ : Shape := ⟨0, ![]⟩
abbrev S32x8 : Shape := ⟨2, ![32, 8]⟩
abbrev S384 : Shape := ⟨1, ![384]⟩
abbrev S1x384 : Shape := ⟨2, ![1, 384]⟩
abbrev S256 : Shape := ⟨1, ![256]⟩
abbrev S256x1 : Shape := ⟨2, ![256, 1]⟩
abbrev S256x384 : Shape := ⟨2, ![256, 384]⟩
abbrev S256x384x1 : Shape := ⟨3, ![256, 384, 1]⟩
abbrev S256x384x8 : Shape := ⟨3, ![256, 384, 8]⟩
abbrev S32x128 : Shape := ⟨2, ![32, 128]⟩

abbrev nBuf : Space → Nat
  | .hbm => 221
  | .vmem => 0
  | .smem => 0
  | _ => 0

abbrev hbmTy0_0 (i : Nat) : BufTy := match i % 128 with
  | 0 => ⟨S8x256x384, .f32⟩
  | 1 => ⟨S8x256x384, .f32⟩
  | 2 => ⟨S8x256x384, .f32⟩
  | 3 => ⟨S_, .f32⟩
  | 4 => ⟨S32x8, .f32⟩
  | 5 => ⟨S384, .i32⟩
  | 6 => ⟨S1x384, .i32⟩
  | 7 => ⟨S_, .i32⟩
  | 8 => ⟨S1x384, .i32⟩
  | 9 => ⟨S1x384, .i32⟩
  | 10 => ⟨S256, .i32⟩
  | 11 => ⟨S256x1, .i32⟩
  | 12 => ⟨S256x384, .i32⟩
  | 13 => ⟨S256x384, .i32⟩
  | 14 => ⟨S256x384, .i32⟩
  | 15 => ⟨S_, .i32⟩
  | 16 => ⟨S256x384, .i32⟩
  | 17 => ⟨S256x384, .i32⟩
  | 18 => ⟨S_, .i32⟩
  | 19 => ⟨S256x384, .i32⟩
  | 20 => ⟨S256x384, .i1⟩
  | 21 => ⟨S_, .i32⟩
  | 22 => ⟨S_, .i32⟩
  | 23 => ⟨S256x384, .i32⟩
  | 24 => ⟨S256x384, .i32⟩
  | 25 => ⟨S256x384, .i32⟩
  | 26 => ⟨S256x384, .i32⟩
  | 27 => ⟨S_, .i32⟩
  | 28 => ⟨S256x384, .i32⟩
  | 29 => ⟨S256x384, .i32⟩
  | 30 => ⟨S256x384, .f32⟩
  | 31 => ⟨S_, .f32⟩
  | 32 => ⟨S256x384, .f32⟩
  | 33 => ⟨S256x384, .f32⟩
  | 34 => ⟨S256x384, .f32⟩
  | 35 => ⟨S_, .f32⟩
  | 36 => ⟨S256x384, .f32⟩
  | 37 => ⟨S256x384, .f32⟩
  | 38 => ⟨S_, .f32⟩
  | 39 => ⟨S256x384, .f32⟩
  | 40 => ⟨S256x384, .f32⟩
  | 41 => ⟨S256x384, .i32⟩
  | 42 => ⟨S_, .i32⟩
  | 43 => ⟨S256x384, .i32⟩
  | 44 => ⟨S256x384, .i32⟩
  | 45 => ⟨S_, .i32⟩
  | 46 => ⟨S256x384, .i32⟩
  | 47 => ⟨S256x384, .i32⟩
  | 48 => ⟨S_, .i32⟩
  | 49 => ⟨S256x384, .i32⟩
  | 50 => ⟨S256x384, .i1⟩
  | 51 => ⟨S256x384, .i32⟩
  | 52 => ⟨S256x384, .i32⟩
  | 53 => ⟨S256x384, .i32⟩
  | 54 => ⟨S_, .i32⟩
  | 55 => ⟨S256x384, .i32⟩
  | 56 => ⟨S256x384, .i1⟩
  | 57 => ⟨S_, .i32⟩
  | 58 => ⟨S256x384, .i32⟩
  | 59 => ⟨S256x384, .i32⟩
  | 60 => ⟨S256x384, .i32⟩
  | 61 => ⟨S256x384x1, .i32⟩
  | 62 => ⟨S256x384x8, .f32⟩
  | 63 => ⟨S8x256x384, .f32⟩
  | 64 => ⟨S256x384, .i32⟩
  | 65 => ⟨S_, .i32⟩
  | 66 => ⟨S256x384, .i32⟩
  | 67 => ⟨S256x384, .i1⟩
  | 68 => ⟨S_, .f32⟩
  | 69 => ⟨S_, .f32⟩
  | 70 => ⟨S8x256x384, .i1⟩
  | 71 => ⟨S8x256x384, .f32⟩
  | 72 => ⟨S8x256x384, .f32⟩
  | 73 => ⟨S_, .f32⟩
  | 74 => ⟨S8x256x384, .f32⟩
  | 75 => ⟨S_, .i32⟩
  | 76 => ⟨S256x384, .i32⟩
  | 77 => ⟨S256x384, .i32⟩
  | 78 => ⟨S_, .i32⟩
  | 79 => ⟨S256x384, .i32⟩
  | 80 => ⟨S256x384, .i1⟩
  | 81 => ⟨S_, .i32⟩
  | 82 => ⟨S_, .i32⟩
  | 83 => ⟨S256x384, .i32⟩
  | 84 => ⟨S256x384, .i32⟩
  | 85 => ⟨S256x384, .i32⟩
  | 86 => ⟨S256x384, .i32⟩
  | 87 => ⟨S_, .i32⟩
  | 88 => ⟨S256x384, .i32⟩
  | 89 => ⟨S256x384, .i32⟩
  | 90 => ⟨S256x384, .f32⟩
  | 91 => ⟨S_, .f32⟩
  | 92 => ⟨S256x384, .f32⟩
  | 93 => ⟨S256x384, .f32⟩
  | 94 => ⟨S256x384, .f32⟩
  | 95 => ⟨S_, .f32⟩
  | 96 => ⟨S256x384, .f32⟩
  | 97 => ⟨S256x384, .f32⟩
  | 98 => ⟨S_, .f32⟩
  | 99 => ⟨S256x384, .f32⟩
  | 100 => ⟨S256x384, .f32⟩
  | 101 => ⟨S256x384, .i32⟩
  | 102 => ⟨S_, .i32⟩
  | 103 => ⟨S256x384, .i32⟩
  | 104 => ⟨S256x384, .i32⟩
  | 105 => ⟨S_, .i32⟩
  | 106 => ⟨S256x384, .i32⟩
  | 107 => ⟨S256x384, .i32⟩
  | 108 => ⟨S_, .i32⟩
  | 109 => ⟨S256x384, .i32⟩
  | 110 => ⟨S256x384, .i1⟩
  | 111 => ⟨S256x384, .i32⟩
  | 112 => ⟨S256x384, .i32⟩
  | 113 => ⟨S256x384, .i32⟩
  | 114 => ⟨S_, .i32⟩
  | 115 => ⟨S256x384, .i32⟩
  | 116 => ⟨S256x384, .i1⟩
  | 117 => ⟨S_, .i32⟩
  | 118 => ⟨S256x384, .i32⟩
  | 119 => ⟨S256x384, .i32⟩
  | 120 => ⟨S256x384, .i32⟩
  | 121 => ⟨S256x384x1, .i32⟩
  | 122 => ⟨S256x384x8, .f32⟩
  | 123 => ⟨S8x256x384, .f32⟩
  | 124 => ⟨S256x384, .i32⟩
  | 125 => ⟨S_, .i32⟩
  | 126 => ⟨S256x384, .i32⟩
  | 127 => ⟨S256x384, .i1⟩
  | _ => ⟨S8x256x384, .f32⟩

abbrev hbmTy0_1 (i : Nat) : BufTy := match i % 128 with
  | 0 => ⟨S_, .f32⟩
  | 1 => ⟨S_, .f32⟩
  | 2 => ⟨S8x256x384, .i1⟩
  | 3 => ⟨S8x256x384, .f32⟩
  | 4 => ⟨S8x256x384, .f32⟩
  | 5 => ⟨S_, .f32⟩
  | 6 => ⟨S8x256x384, .f32⟩
  | 7 => ⟨S_, .i32⟩
  | 8 => ⟨S256x384, .i32⟩
  | 9 => ⟨S256x384, .i32⟩
  | 10 => ⟨S_, .i32⟩
  | 11 => ⟨S256x384, .i32⟩
  | 12 => ⟨S256x384, .i1⟩
  | 13 => ⟨S_, .i32⟩
  | 14 => ⟨S_, .i32⟩
  | 15 => ⟨S256x384, .i32⟩
  | 16 => ⟨S256x384, .i32⟩
  | 17 => ⟨S256x384, .i32⟩
  | 18 => ⟨S256x384, .i32⟩
  | 19 => ⟨S_, .i32⟩
  | 20 => ⟨S256x384, .i32⟩
  | 21 => ⟨S256x384, .i32⟩
  | 22 => ⟨S256x384, .f32⟩
  | 23 => ⟨S_, .f32⟩
  | 24 => ⟨S256x384, .f32⟩
  | 25 => ⟨S256x384, .f32⟩
  | 26 => ⟨S256x384, .f32⟩
  | 27 => ⟨S_, .f32⟩
  | 28 => ⟨S256x384, .f32⟩
  | 29 => ⟨S256x384, .f32⟩
  | 30 => ⟨S_, .f32⟩
  | 31 => ⟨S256x384, .f32⟩
  | 32 => ⟨S256x384, .f32⟩
  | 33 => ⟨S256x384, .i32⟩
  | 34 => ⟨S_, .i32⟩
  | 35 => ⟨S256x384, .i32⟩
  | 36 => ⟨S256x384, .i32⟩
  | 37 => ⟨S_, .i32⟩
  | 38 => ⟨S256x384, .i32⟩
  | 39 => ⟨S256x384, .i32⟩
  | 40 => ⟨S_, .i32⟩
  | 41 => ⟨S256x384, .i32⟩
  | 42 => ⟨S256x384, .i1⟩
  | 43 => ⟨S256x384, .i32⟩
  | 44 => ⟨S256x384, .i32⟩
  | 45 => ⟨S256x384, .i32⟩
  | 46 => ⟨S_, .i32⟩
  | 47 => ⟨S256x384, .i32⟩
  | 48 => ⟨S256x384, .i1⟩
  | 49 => ⟨S_, .i32⟩
  | 50 => ⟨S256x384, .i32⟩
  | 51 => ⟨S256x384, .i32⟩
  | 52 => ⟨S256x384, .i32⟩
  | 53 => ⟨S256x384x1, .i32⟩
  | 54 => ⟨S256x384x8, .f32⟩
  | 55 => ⟨S8x256x384, .f32⟩
  | 56 => ⟨S256x384, .i32⟩
  | 57 => ⟨S_, .i32⟩
  | 58 => ⟨S256x384, .i32⟩
  | 59 => ⟨S256x384, .i1⟩
  | 60 => ⟨S_, .f32⟩
  | 61 => ⟨S_, .f32⟩
  | 62 => ⟨S8x256x384, .i1⟩
  | 63 => ⟨S8x256x384, .f32⟩
  | 64 => ⟨S8x256x384, .f32⟩
  | 65 => ⟨S_, .f32⟩
  | 66 => ⟨S8x256x384, .f32⟩
  | 67 => ⟨S_, .f32⟩
  | 68 => ⟨S8x256x384, .f32⟩
  | 69 => ⟨S8x256x384, .f32⟩
  | 70 => ⟨S256x384x8, .f32⟩
  | 71 => ⟨S_, .f32⟩
  | 72 => ⟨S32x8, .f32⟩
  | 73 => ⟨S32x8, .f32⟩
  | 74 => ⟨S_, .f32⟩
  | 75 => ⟨S8x256x384, .f32⟩
  | 76 => ⟨S8x256x384, .f32⟩
  | 77 => ⟨S256x384x8, .f32⟩
  | 78 => ⟨S_, .f32⟩
  | 79 => ⟨S32x8, .f32⟩
  | 80 => ⟨S32x8, .f32⟩
  | 81 => ⟨S32x8, .f32⟩
  | 82 => ⟨S_, .f32⟩
  | 83 => ⟨S8x256x384, .f32⟩
  | 84 => ⟨S8x256x384, .f32⟩
  | 85 => ⟨S256x384x8, .f32⟩
  | 86 => ⟨S_, .f32⟩
  | 87 => ⟨S32x8, .f32⟩
  | 88 => ⟨S32x8, .f32⟩
  | 89 => ⟨S32x8, .f32⟩
  | 90 => ⟨S_, .i32⟩
  | 91 => ⟨S_, .f32⟩
  | 92 => ⟨S32x128, .f32⟩
  | _ => ⟨S8x256x384, .f32⟩

abbrev hbmTy (i : Nat) : BufTy := match i / 128 with
  | 0 => hbmTy0_0 i
  | 1 => hbmTy0_1 i
  | _ => ⟨S8x256x384, .f32⟩

abbrev bufTy : (tb : Table) → Fin (tcTables nBuf tb) → BufTy
  | .hbm, ⟨i, _⟩ => hbmTy i
  | _, _ => ⟨S8x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_v28 : Ref sig .tc := ⟨.hbm, 44, rfl⟩
abbrev main_c_9 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_11 : Ref sig .tc := ⟨.hbm, 54, rfl⟩
abbrev main_v36 : Ref sig .tc := ⟨.hbm, 55, rfl⟩
abbrev main_v37 : Ref sig .tc := ⟨.hbm, 56, rfl⟩
abbrev main_c_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_call2_v0 : Ref sig .tc := ⟨.hbm, 69, rfl⟩
abbrev main_v47_1 : Ref sig .tc := ⟨.hbm, 70, rfl⟩
abbrev main_call2_v2 : Ref sig .tc := ⟨.hbm, 71, rfl⟩
abbrev main_v47_0 : Ref sig .tc := ⟨.hbm, 72, rfl⟩
abbrev main_call2_cst : Ref sig .tc := ⟨.hbm, 73, rfl⟩
abbrev main_v47_2 : Ref sig .tc := ⟨.hbm, 74, rfl⟩
abbrev main_c_15 : Ref sig .tc := ⟨.hbm, 75, rfl⟩
abbrev main_v48 : Ref sig .tc := ⟨.hbm, 76, rfl⟩
abbrev main_v49 : Ref sig .tc := ⟨.hbm, 77, rfl⟩
abbrev main_c_16 : Ref sig .tc := ⟨.hbm, 78, rfl⟩
abbrev main_v50 : Ref sig .tc := ⟨.hbm, 79, rfl⟩
abbrev main_v51 : Ref sig .tc := ⟨.hbm, 80, rfl⟩
abbrev main_c_17 : Ref sig .tc := ⟨.hbm, 81, rfl⟩
abbrev main_c_18 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_v53 : Ref sig .tc := ⟨.hbm, 86, rfl⟩
abbrev main_c_19 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_21 : Ref sig .tc := ⟨.hbm, 95, rfl⟩
abbrev main_v60 : Ref sig .tc := ⟨.hbm, 96, rfl⟩
abbrev main_v61 : Ref sig .tc := ⟨.hbm, 97, rfl⟩
abbrev main_cst_22 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_23 : Ref sig .tc := ⟨.hbm, 102, rfl⟩
abbrev main_v65 : Ref sig .tc := ⟨.hbm, 103, rfl⟩
abbrev main_v66 : Ref sig .tc := ⟨.hbm, 104, rfl⟩
abbrev main_c_24 : Ref sig .tc := ⟨.hbm, 105, rfl⟩
abbrev main_v67 : Ref sig .tc := ⟨.hbm, 106, rfl⟩
abbrev main_v68 : Ref sig .tc := ⟨.hbm, 107, rfl⟩
abbrev main_c_25 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_26 : Ref sig .tc := ⟨.hbm, 114, rfl⟩
abbrev main_v74 : Ref sig .tc := ⟨.hbm, 115, rfl⟩
abbrev main_v75 : Ref sig .tc := ⟨.hbm, 116, rfl⟩
abbrev main_c_27 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_28 : Ref sig .tc := ⟨.hbm, 125, rfl⟩
abbrev main_v83 : Ref sig .tc := ⟨.hbm, 126, rfl⟩
abbrev main_v84 : Ref sig .tc := ⟨.hbm, 127, rfl⟩
abbrev main_cst_29 : Ref sig .tc := ⟨.hbm, 128, rfl⟩
abbrev main_call5_v0 : Ref sig .tc := ⟨.hbm, 129, rfl⟩
abbrev main_v85_1 : Ref sig .tc := ⟨.hbm, 130, rfl⟩
abbrev main_call5_v2 : Ref sig .tc := ⟨.hbm, 131, rfl⟩
abbrev main_v85_0 : Ref sig .tc := ⟨.hbm, 132, rfl⟩
abbrev main_call5_cst : Ref sig .tc := ⟨.hbm, 133, rfl⟩
abbrev main_v85_2 : Ref sig .tc := ⟨.hbm, 134, rfl⟩
abbrev main_c_30 : Ref sig .tc := ⟨.hbm, 135, rfl⟩
abbrev main_v86 : Ref sig .tc := ⟨.hbm, 136, rfl⟩
abbrev main_v87 : Ref sig .tc := ⟨.hbm, 137, rfl⟩
abbrev main_c_31 : Ref sig .tc := ⟨.hbm, 138, rfl⟩
abbrev main_v88 : Ref sig .tc := ⟨.hbm, 139, rfl⟩
abbrev main_v89 : Ref sig .tc := ⟨.hbm, 140, rfl⟩
abbrev main_c_32 : Ref sig .tc := ⟨.hbm, 141, rfl⟩
abbrev main_c_33 : Ref sig .tc := ⟨.hbm, 142, rfl⟩
abbrev main_call6_v0 : Ref sig .tc := ⟨.hbm, 143, rfl⟩
abbrev main_call6_v1 : Ref sig .tc := ⟨.hbm, 144, rfl⟩
abbrev main_v90 : Ref sig .tc := ⟨.hbm, 145, rfl⟩
abbrev main_v91 : Ref sig .tc := ⟨.hbm, 146, rfl⟩
abbrev main_c_34 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_35 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_cst_37 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_c_38 : Ref sig .tc := ⟨.hbm, 162, rfl⟩
abbrev main_v103 : Ref sig .tc := ⟨.hbm, 163, rfl⟩
abbrev main_v104 : Ref sig .tc := ⟨.hbm, 164, rfl⟩
abbrev main_c_39 : Ref sig .tc := ⟨.hbm, 165, rfl⟩
abbrev main_v105 : Ref sig .tc := ⟨.hbm, 166, rfl⟩
abbrev main_v106 : Ref sig .tc := ⟨.hbm, 167, rfl⟩
abbrev main_c_40 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_41 : Ref sig .tc := ⟨.hbm, 174, rfl⟩
abbrev main_v112 : Ref sig .tc := ⟨.hbm, 175, rfl⟩
abbrev main_v113 : Ref sig .tc := ⟨.hbm, 176, rfl⟩
abbrev main_c_42 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_c_43 : Ref sig .tc := ⟨.hbm, 185, rfl⟩
abbrev main_v121 : Ref sig .tc := ⟨.hbm, 186, rfl⟩
abbrev main_v122 : Ref sig .tc := ⟨.hbm, 187, rfl⟩
abbrev main_cst_44 : Ref sig .tc := ⟨.hbm, 188, rfl⟩
abbrev main_call8_v0 : Ref sig .tc := ⟨.hbm, 189, rfl⟩
abbrev main_v123_1 : Ref sig .tc := ⟨.hbm, 190, rfl⟩
abbrev main_call8_v2 : Ref sig .tc := ⟨.hbm, 191, rfl⟩
abbrev main_v123_0 : Ref sig .tc := ⟨.hbm, 192, rfl⟩
abbrev main_call8_cst : Ref sig .tc := ⟨.hbm, 193, rfl⟩
abbrev main_v123_2 : Ref sig .tc := ⟨.hbm, 194, rfl⟩
abbrev main_call9_cst : Ref sig .tc := ⟨.hbm, 195, rfl⟩
abbrev main_call9_v0 : Ref sig .tc := ⟨.hbm, 196, rfl⟩
abbrev main_v124 : Ref sig .tc := ⟨.hbm, 197, rfl⟩
abbrev main_v125 : Ref sig .tc := ⟨.hbm, 198, rfl⟩
abbrev main_cst_45 : Ref sig .tc := ⟨.hbm, 199, rfl⟩
abbrev main_v126 : Ref sig .tc := ⟨.hbm, 200, rfl⟩
abbrev main_v127 : Ref sig .tc := ⟨.hbm, 201, rfl⟩
abbrev main_call10_cst : Ref sig .tc := ⟨.hbm, 202, rfl⟩
abbrev main_call10_v0 : Ref sig .tc := ⟨.hbm, 203, rfl⟩
abbrev main_v128 : Ref sig .tc := ⟨.hbm, 204, rfl⟩
abbrev main_v129 : Ref sig .tc := ⟨.hbm, 205, rfl⟩
abbrev main_cst_46 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_call11_cst : Ref sig .tc := ⟨.hbm, 210, rfl⟩
abbrev main_call11_v0 : Ref sig .tc := ⟨.hbm, 211, rfl⟩
abbrev main_v133 : Ref sig .tc := ⟨.hbm, 212, rfl⟩
abbrev main_v134 : Ref sig .tc := ⟨.hbm, 213, rfl⟩
abbrev main_cst_47 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_c_48 : Ref sig .tc := ⟨.hbm, 218, rfl⟩
abbrev main_call12_v0 : Ref sig .tc := ⟨.hbm, 219, rfl⟩
abbrev main_v138 : Ref sig .tc := ⟨.hbm, 220, rfl⟩

abbrev nD : Nat := 1
abbrev τ : Topo := Topo.v7x

variable {F : FTy → Type} [FloatOps F]
-- ==== BandDq.lean ====
abbrev S16384x512 : Shape := ⟨2, ![16384, 512]⟩
abbrev S32x8 : Shape := ⟨2, ![32, 8]⟩
abbrev S16384x1x8x64 : Shape := ⟨4, ![16384, 1, 8, 64]⟩
abbrev S1x8x16384x64 : Shape := ⟨4, ![1, 8, 16384, 64]⟩
abbrev S_ : Shape := ⟨0, ![]⟩
abbrev S1x8x64x256x64 : Shape := ⟨5, ![1, 8, 64, 256, 64]⟩
abbrev S64x1x384 : Shape := ⟨3, ![64, 1, 384]⟩
abbrev S1x8x16512x64 : Shape := ⟨4, ![1, 8, 16512, 64]⟩
abbrev S1x8x64x64x64 : Shape := ⟨5, ![1, 8, 64, 64, 64]⟩
abbrev S1x8x64x384x64 : Shape := ⟨5, ![1, 8, 64, 384, 64]⟩
abbrev S1x8x64x256x384 : Shape := ⟨5, ![1, 8, 64, 256, 384]⟩
abbrev S1x8 : Shape := ⟨2, ![1, 8]⟩
abbrev S15x8 : Shape := ⟨2, ![15, 8]⟩
abbrev S23x8 : Shape := ⟨2, ![23, 8]⟩
abbrev S12x8 : Shape := ⟨2, ![12, 8]⟩
abbrev S7x8 : Shape := ⟨2, ![7, 8]⟩
abbrev S69x8 : Shape := ⟨2, ![69, 8]⟩
abbrev S60x8 : Shape := ⟨2, ![60, 8]⟩
abbrev S129x8 : Shape := ⟨2, ![129, 8]⟩
abbrev S8x129 : Shape := ⟨2, ![8, 129]⟩
abbrev S8x255 : Shape := ⟨2, ![8, 255]⟩
abbrev S8x639 : Shape := ⟨2, ![8, 639]⟩
abbrev S8x384 : Shape := ⟨2, ![8, 384]⟩
abbrev S8x2 : Shape := ⟨2, ![8, 2]⟩
abbrev S8x641 : Shape := ⟨2, ![8, 641]⟩
abbrev S8x1x641 : Shape := ⟨3, ![8, 1, 641]⟩
abbrev S8x256x641 : Shape := ⟨3, ![8, 256, 641]⟩
abbrev S8x164096 : Shape := ⟨2, ![8, 164096]⟩
abbrev S8x163840 : Shape := ⟨2, ![8, 163840]⟩
abbrev S8x256x640 : Shape := ⟨3, ![8, 256, 640]⟩
abbrev S8x256x384 : Shape := ⟨3, ![8, 256, 384]⟩
abbrev S8x256 : Shape := ⟨2, ![8, 256]⟩
abbrev S8x383 : Shape := ⟨2, ![8, 383]⟩
abbrev S8x384x641 : Shape := ⟨3, ![8, 384, 641]⟩
abbrev S8x246144 : Shape := ⟨2, ![8, 246144]⟩
abbrev S8x245760 : Shape := ⟨2, ![8, 245760]⟩
abbrev S8x384x640 : Shape := ⟨3, ![8, 384, 640]⟩
abbrev S8x384x256 : Shape := ⟨3, ![8, 384, 256]⟩
abbrev S8x1x256x384 : Shape := ⟨4, ![8, 1, 256, 384]⟩
abbrev S1x8x1x256x384 : Shape := ⟨5, ![1, 8, 1, 256, 384]⟩
abbrev S1x8x64x256 : Shape := ⟨4, ![1, 8, 64, 256]⟩
abbrev S1x8x64x256x1 : Shape := ⟨5, ![1, 8, 64, 256, 1]⟩
abbrev S16384x8x64 : Shape := ⟨3, ![16384, 8, 64]⟩
abbrev S1x8x16384x1 : Shape := ⟨4, ![1, 8, 16384, 1]⟩
abbrev S16384x1x8x1 : Shape := ⟨4, ![16384, 1, 8, 1]⟩
abbrev S16384x8x1 : Shape := ⟨3, ![16384, 8, 1]⟩
abbrev S4096x4x8x64 : Shape := ⟨4, ![4096, 4, 8, 64]⟩
abbrev S4x8x4096x64 : Shape := ⟨4, ![4, 8, 4096, 64]⟩
abbrev S4x8x16x256x64 : Shape := ⟨5, ![4, 8, 16, 256, 64]⟩
abbrev S16x1x384 : Shape := ⟨3, ![16, 1, 384]⟩
abbrev S4x8x4224x64 : Shape := ⟨4, ![4, 8, 4224, 64]⟩
abbrev S4x8x16x64x64 : Shape := ⟨5, ![4, 8, 16, 64, 64]⟩
abbrev S4x8x16x384x64 : Shape := ⟨5, ![4, 8, 16, 384, 64]⟩
abbrev S4x8x16x256x384 : Shape := ⟨5, ![4, 8, 16, 256, 384]⟩
abbrev S19x8 : Shape := ⟨2, ![19, 8]⟩
abbrev S10x8 : Shape := ⟨2, ![10, 8]⟩
abbrev S6x8 : Shape := ⟨2, ![6, 8]⟩
abbrev S3x8 : Shape := ⟨2, ![3, 8]⟩
abbrev S2x8 : Shape := ⟨2, ![2, 8]⟩
abbrev S4x8x16x256 : Shape := ⟨4, ![4, 8, 16, 256]⟩
abbrev S4x8x16x256x1 : Shape := ⟨5, ![4, 8, 16, 256, 1]⟩
abbrev S4x8x4096x1 : Shape := ⟨4, ![4, 8, 4096, 1]⟩
abbrev S4096x4x8x1 : Shape := ⟨4, ![4096, 4, 8, 1]⟩
abbrev S1024x16x8x64 : Shape := ⟨4, ![1024, 16, 8, 64]⟩
abbrev S16x8x1024x64 : Shape := ⟨4, ![16, 8, 1024, 64]⟩
abbrev S16x8x4x256x64 : Shape := ⟨5, ![16, 8, 4, 256, 64]⟩
abbrev S4x1x384 : Shape := ⟨3, ![4, 1, 384]⟩
abbrev S16x8x1152x64 : Shape := ⟨4, ![16, 8, 1152, 64]⟩
abbrev S16x8x4x64x64 : Shape := ⟨5, ![16, 8, 4, 64, 64]⟩
abbrev S16x8x4x384x64 : Shape := ⟨5, ![16, 8, 4, 384, 64]⟩
abbrev S16x8x4x256x384 : Shape := ⟨5, ![16, 8, 4, 256, 384]⟩
abbrev S30x8 : Shape := ⟨2, ![30, 8]⟩
abbrev S9x8 : Shape := ⟨2, ![9, 8]⟩
abbrev S5x8 : Shape := ⟨2, ![5, 8]⟩
abbrev S16x8x4x256 : Shape := ⟨4, ![16, 8, 4, 256]⟩
abbrev S16x8x4x256x1 : Shape := ⟨5, ![16, 8, 4, 256, 1]⟩
abbrev S16x8x1024x1 : Shape := ⟨4, ![16, 8, 1024, 1]⟩
abbrev S1024x16x8x1 : Shape := ⟨4, ![1024, 16, 8, 1]⟩
abbrev S16384x8 : Shape := ⟨2, ![16384, 8]⟩
abbrev S16384x128 : Shape := ⟨2, ![16384, 128]⟩
abbrev S256x512 : Shape := ⟨2, ![256, 512]⟩
abbrev S256x128 : Shape := ⟨2, ![256, 128]⟩
abbrev S64x512 : Shape := ⟨2, ![64, 512]⟩
abbrev S512x384 : Shape := ⟨2, ![512, 384]⟩
abbrev S384x512 : Shape := ⟨2, ![384, 512]⟩
abbrev S1x384 : Shape := ⟨2, ![1, 384]⟩
abbrev S256x64 : Shape := ⟨2, ![256, 64]⟩
abbrev S64x384 : Shape := ⟨2, ![64, 384]⟩
abbrev S256x384 : Shape := ⟨2, ![256, 384]⟩
abbrev S1x256x384 : Shape := ⟨3, ![1, 256, 384]⟩
abbrev S256x1 : Shape := ⟨2, ![256, 1]⟩
abbrev S384x64 : Shape := ⟨2, ![384, 64]⟩

abbrev nBuf : Space → Nat
  | .hbm => 544
  | .vmem => 29
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x1x8x64, .f32⟩
  | 6 => ⟨S1x8x16384x64, .f32⟩
  | 7 => ⟨S_, .f32⟩
  | 8 => ⟨S1x8x16384x64, .f32⟩
  | 9 => ⟨S1x8x16384x64, .f32⟩
  | 10 => ⟨S1x8x64x256x64, .f32⟩
  | 11 => ⟨S64x1x384, .i32⟩
  | 12 => ⟨S_, .i32⟩
  | 13 => ⟨S64x1x384, .i32⟩
  | 14 => ⟨S64x1x384, .i32⟩
  | 15 => ⟨S_, .i32⟩
  | 16 => ⟨S64x1x384, .i32⟩
  | 17 => ⟨S64x1x384, .i32⟩
  | 18 => ⟨S64x1x384, .i32⟩
  | 19 => ⟨S64x1x384, .i32⟩
  | 20 => ⟨S_, .i32⟩
  | 21 => ⟨S64x1x384, .i32⟩
  | 22 => ⟨S64x1x384, .i1⟩
  | 23 => ⟨S_, .i32⟩
  | 24 => ⟨S64x1x384, .i32⟩
  | 25 => ⟨S64x1x384, .i1⟩
  | 26 => ⟨S64x1x384, .i1⟩
  | 27 => ⟨S16384x1x8x64, .f32⟩
  | 28 => ⟨S1x8x16384x64, .f32⟩
  | 29 => ⟨S_, .i32⟩
  | 30 => ⟨S_, .f32⟩
  | 31 => ⟨S1x8x16512x64, .f32⟩
  | 32 => ⟨S1x8x16384x64, .f32⟩
  | 33 => ⟨S1x8x64x256x64, .f32⟩
  | 34 => ⟨S1x8x16384x64, .f32⟩
  | 35 => ⟨S1x8x64x256x64, .f32⟩
  | 36 => ⟨S1x8x64x64x64, .f32⟩
  | 37 => ⟨S1x8x16384x64, .f32⟩
  | 38 => ⟨S1x8x64x256x64, .f32⟩
  | 39 => ⟨S1x8x64x64x64, .f32⟩
  | 40 => ⟨S1x8x64x384x64, .f32⟩
  | 41 => ⟨S1x8x64x256x384, .f32⟩
  | 42 => ⟨S1x8, .f32⟩
  | 43 => ⟨S15x8, .f32⟩
  | 44 => ⟨S1x8, .f32⟩
  | 45 => ⟨S23x8, .f32⟩
  | 46 => ⟨S1x8, .f32⟩
  | 47 => ⟨S12x8, .f32⟩
  | 48 => ⟨S1x8, .f32⟩
  | 49 => ⟨S7x8, .f32⟩
  | 50 => ⟨S1x8, .f32⟩
  | 51 => ⟨S1x8, .f32⟩
  | 52 => ⟨S1x8, .f32⟩
  | 53 => ⟨S1x8, .f32⟩
  | 54 => ⟨S1x8, .f32⟩
  | 55 => ⟨S1x8, .f32⟩
  | 56 => ⟨S1x8, .f32⟩
  | 57 => ⟨S1x8, .f32⟩
  | 58 => ⟨S1x8, .f32⟩
  | 59 => ⟨S1x8, .f32⟩
  | 60 => ⟨S1x8, .f32⟩
  | 61 => ⟨S1x8, .f32⟩
  | 62 => ⟨S1x8, .f32⟩
  | 63 => ⟨S1x8, .f32⟩
  | 64 => ⟨S1x8, .f32⟩
  | 65 => ⟨S1x8, .f32⟩
  | 66 => ⟨S7x8, .f32⟩
  | 67 => ⟨S1x8, .f32⟩
  | 68 => ⟨S12x8, .f32⟩
  | 69 => ⟨S1x8, .f32⟩
  | 70 => ⟨S23x8, .f32⟩
  | 71 => ⟨S1x8, .f32⟩
  | 72 => ⟨S15x8, .f32⟩
  | 73 => ⟨S69x8, .f32⟩
  | 74 => ⟨S60x8, .f32⟩
  | 75 => ⟨S129x8, .f32⟩
  | 76 => ⟨S8x129, .f32⟩
  | 77 => ⟨S_, .f32⟩
  | 78 => ⟨S8x255, .f32⟩
  | 79 => ⟨S_, .f32⟩
  | 80 => ⟨S8x255, .f32⟩
  | 81 => ⟨S8x639, .f32⟩
  | 82 => ⟨S8x384, .f32⟩
  | 83 => ⟨S_, .f32⟩
  | 84 => ⟨S8x2, .f32⟩
  | 85 => ⟨S8x255, .f32⟩
  | 86 => ⟨S8x641, .f32⟩
  | 87 => ⟨S8x1x641, .f32⟩
  | 88 => ⟨S8x256x641, .f32⟩
  | 89 => ⟨S8x164096, .f32⟩
  | 90 => ⟨S8x163840, .f32⟩
  | 91 => ⟨S8x256x640, .f32⟩
  | 92 => ⟨S8x256x384, .f32⟩
  | 93 => ⟨S_, .f32⟩
  | 94 => ⟨S8x255, .f32⟩
  | 95 => ⟨S_, .f32⟩
  | 96 => ⟨S8x255, .f32⟩
  | 97 => ⟨S8x639, .f32⟩
  | 98 => ⟨S8x256, .f32⟩
  | 99 => ⟨S_, .f32⟩
  | 100 => ⟨S8x2, .f32⟩
  | 101 => ⟨S8x383, .f32⟩
  | 102 => ⟨S8x641, .f32⟩
  | 103 => ⟨S8x1x641, .f32⟩
  | 104 => ⟨S8x384x641, .f32⟩
  | 105 => ⟨S8x246144, .f32⟩
  | 106 => ⟨S8x245760, .f32⟩
  | 107 => ⟨S8x384x640, .f32⟩
  | 108 => ⟨S8x384x256, .f32⟩
  | 109 => ⟨S8x1x256x384, .f32⟩
  | 110 => ⟨S1x8x1x256x384, .f32⟩
  | 111 => ⟨S1x8x64x256x384, .f32⟩
  | 112 => ⟨S1x8x64x256x384, .f32⟩
  | 113 => ⟨S_, .f32⟩
  | 114 => ⟨S_, .f32⟩
  | 115 => ⟨S1x8x64x256x384, .i1⟩
  | 116 => ⟨S1x8x64x256x384, .f32⟩
  | 117 => ⟨S1x8x64x256x384, .f32⟩
  | 118 => ⟨S_, .f32⟩
  | 119 => ⟨S1x8x64x256, .f32⟩
  | 120 => ⟨S1x8x64x256x1, .f32⟩
  | 121 => ⟨S1x8x64x256x384, .f32⟩
  | 122 => ⟨S1x8x64x256x384, .f32⟩
  | 123 => ⟨S1x8x64x256x384, .f32⟩
  | 124 => ⟨S_, .f32⟩
  | 125 => ⟨S1x8x64x256, .f32⟩
  | 126 => ⟨S1x8x64x256x1, .f32⟩
  | 127 => ⟨S16384x1x8x64, .f32⟩
  | _ => ⟨S16384x512, .f32⟩

abbrev hbmTy0_1 (i : Nat) : BufTy := match i % 128 with
  | 0 => ⟨S1x8x16384x64, .f32⟩
  | 1 => ⟨S_, .i32⟩
  | 2 => ⟨S_, .f32⟩
  | 3 => ⟨S1x8x16512x64, .f32⟩
  | 4 => ⟨S1x8x16384x64, .f32⟩
  | 5 => ⟨S1x8x64x256x64, .f32⟩
  | 6 => ⟨S1x8x16384x64, .f32⟩
  | 7 => ⟨S1x8x64x256x64, .f32⟩
  | 8 => ⟨S1x8x64x64x64, .f32⟩
  | 9 => ⟨S1x8x16384x64, .f32⟩
  | 10 => ⟨S1x8x64x256x64, .f32⟩
  | 11 => ⟨S1x8x64x64x64, .f32⟩
  | 12 => ⟨S1x8x64x384x64, .f32⟩
  | 13 => ⟨S1x8x64x256x64, .f32⟩
  | 14 => ⟨S1x8x64x256x64, .f32⟩
  | 15 => ⟨S1x8x64x256x64, .f32⟩
  | 16 => ⟨S1x8x16384x64, .f32⟩
  | 17 => ⟨S16384x1x8x64, .f32⟩
  | 18 => ⟨S16384x8x64, .f32⟩
  | 19 => ⟨S1x8x64x256x1, .f32⟩
  | 20 => ⟨S1x8x64x256x1, .f32⟩
  | 21 => ⟨S1x8x16384x1, .f32⟩
  | 22 => ⟨S16384x1x8x1, .f32⟩
  | 23 => ⟨S16384x8x1, .f32⟩
  | 24 => ⟨S4096x4x8x64, .f32⟩
  | 25 => ⟨S4x8x4096x64, .f32⟩
  | 26 => ⟨S_, .f32⟩
  | 27 => ⟨S4x8x4096x64, .f32⟩
  | 28 => ⟨S4x8x4096x64, .f32⟩
  | 29 => ⟨S4x8x16x256x64, .f32⟩
  | 30 => ⟨S16x1x384, .i32⟩
  | 31 => ⟨S_, .i32⟩
  | 32 => ⟨S16x1x384, .i32⟩
  | 33 => ⟨S16x1x384, .i32⟩
  | 34 => ⟨S_, .i32⟩
  | 35 => ⟨S16x1x384, .i32⟩
  | 36 => ⟨S16x1x384, .i32⟩
  | 37 => ⟨S16x1x384, .i32⟩
  | 38 => ⟨S16x1x384, .i32⟩
  | 39 => ⟨S_, .i32⟩
  | 40 => ⟨S16x1x384, .i32⟩
  | 41 => ⟨S16x1x384, .i1⟩
  | 42 => ⟨S_, .i32⟩
  | 43 => ⟨S16x1x384, .i32⟩
  | 44 => ⟨S16x1x384, .i1⟩
  | 45 => ⟨S16x1x384, .i1⟩
  | 46 => ⟨S4096x4x8x64, .f32⟩
  | 47 => ⟨S4x8x4096x64, .f32⟩
  | 48 => ⟨S_, .i32⟩
  | 49 => ⟨S_, .f32⟩
  | 50 => ⟨S4x8x4224x64, .f32⟩
  | 51 => ⟨S4x8x4096x64, .f32⟩
  | 52 => ⟨S4x8x16x256x64, .f32⟩
  | 53 => ⟨S4x8x4096x64, .f32⟩
  | 54 => ⟨S4x8x16x256x64, .f32⟩
  | 55 => ⟨S4x8x16x64x64, .f32⟩
  | 56 => ⟨S4x8x4096x64, .f32⟩
  | 57 => ⟨S4x8x16x256x64, .f32⟩
  | 58 => ⟨S4x8x16x64x64, .f32⟩
  | 59 => ⟨S4x8x16x384x64, .f32⟩
  | 60 => ⟨S4x8x16x256x384, .f32⟩
  | 61 => ⟨S1x8, .f32⟩
  | 62 => ⟨S23x8, .f32⟩
  | 63 => ⟨S1x8, .f32⟩
  | 64 => ⟨S19x8, .f32⟩
  | 65 => ⟨S1x8, .f32⟩
  | 66 => ⟨S10x8, .f32⟩
  | 67 => ⟨S1x8, .f32⟩
  | 68 => ⟨S6x8, .f32⟩
  | 69 => ⟨S1x8, .f32⟩
  | 70 => ⟨S3x8, .f32⟩
  | 71 => ⟨S1x8, .f32⟩
  | 72 => ⟨S2x8, .f32⟩
  | 73 => ⟨S1x8, .f32⟩
  | 74 => ⟨S1x8, .f32⟩
  | 75 => ⟨S1x8, .f32⟩
  | 76 => ⟨S1x8, .f32⟩
  | 77 => ⟨S2x8, .f32⟩
  | 78 => ⟨S1x8, .f32⟩
  | 79 => ⟨S3x8, .f32⟩
  | 80 => ⟨S1x8, .f32⟩
  | 81 => ⟨S6x8, .f32⟩
  | 82 => ⟨S1x8, .f32⟩
  | 83 => ⟨S10x8, .f32⟩
  | 84 => ⟨S1x8, .f32⟩
  | 85 => ⟨S19x8, .f32⟩
  | 86 => ⟨S1x8, .f32⟩
  | 87 => ⟨S23x8, .f32⟩
  | 88 => ⟨S129x8, .f32⟩
  | 89 => ⟨S8x129, .f32⟩
  | 90 => ⟨S_, .f32⟩
  | 91 => ⟨S8x255, .f32⟩
  | 92 => ⟨S_, .f32⟩
  | 93 => ⟨S8x255, .f32⟩
  | 94 => ⟨S8x639, .f32⟩
  | 95 => ⟨S8x384, .f32⟩
  | 96 => ⟨S_, .f32⟩
  | 97 => ⟨S8x2, .f32⟩
  | 98 => ⟨S8x255, .f32⟩
  | 99 => ⟨S8x641, .f32⟩
  | 100 => ⟨S8x1x641, .f32⟩
  | 101 => ⟨S8x256x641, .f32⟩
  | 102 => ⟨S8x164096, .f32⟩
  | 103 => ⟨S8x163840, .f32⟩
  | 104 => ⟨S8x256x640, .f32⟩
  | 105 => ⟨S8x256x384, .f32⟩
  | 106 => ⟨S_, .f32⟩
  | 107 => ⟨S8x255, .f32⟩
  | 108 => ⟨S_, .f32⟩
  | 109 => ⟨S8x255, .f32⟩
  | 110 => ⟨S8x639, .f32⟩
  | 111 => ⟨S8x256, .f32⟩
  | 112 => ⟨S_, .f32⟩
  | 113 => ⟨S8x2, .f32⟩
  | 114 => ⟨S8x383, .f32⟩
  | 115 => ⟨S8x641, .f32⟩
  | 116 => ⟨S8x1x641, .f32⟩
  | 117 => ⟨S8x384x641, .f32⟩
  | 118 => ⟨S8x246144, .f32⟩
  | 119 => ⟨S8x245760, .f32⟩
  | 120 => ⟨S8x384x640, .f32⟩
  | 121 => ⟨S8x384x256, .f32⟩
  | 122 => ⟨S8x1x256x384, .f32⟩
  | 123 => ⟨S1x8x1x256x384, .f32⟩
  | 124 => ⟨S4x8x16x256x384, .f32⟩
  | 125 => ⟨S4x8x16x256x384, .f32⟩
  | 126 => ⟨S_, .f32⟩
  | 127 => ⟨S_, .f32⟩
  | _ => ⟨S16384x512, .f32⟩

abbrev hbmTy0_2 (i : Nat) : BufTy := match i % 128 with
  | 0 => ⟨S4x8x16x256x384, .i1⟩
  | 1 => ⟨S4x8x16x256x384, .f32⟩
  | 2 => ⟨S4x8x16x256x384, .f32⟩
  | 3 => ⟨S_, .f32⟩
  | 4 => ⟨S4x8x16x256, .f32⟩
  | 5 => ⟨S4x8x16x256x1, .f32⟩
  | 6 => ⟨S4x8x16x256x384, .f32⟩
  | 7 => ⟨S4x8x16x256x384, .f32⟩
  | 8 => ⟨S4x8x16x256x384, .f32⟩
  | 9 => ⟨S_, .f32⟩
  | 10 => ⟨S4x8x16x256, .f32⟩
  | 11 => ⟨S4x8x16x256x1, .f32⟩
  | 12 => ⟨S4096x4x8x64, .f32⟩
  | 13 => ⟨S4x8x4096x64, .f32⟩
  | 14 => ⟨S_, .i32⟩
  | 15 => ⟨S_, .f32⟩
  | 16 => ⟨S4x8x4224x64, .f32⟩
  | 17 => ⟨S4x8x4096x64, .f32⟩
  | 18 => ⟨S4x8x16x256x64, .f32⟩
  | 19 => ⟨S4x8x4096x64, .f32⟩
  | 20 => ⟨S4x8x16x256x64, .f32⟩
  | 21 => ⟨S4x8x16x64x64, .f32⟩
  | 22 => ⟨S4x8x4096x64, .f32⟩
  | 23 => ⟨S4x8x16x256x64, .f32⟩
  | 24 => ⟨S4x8x16x64x64, .f32⟩
  | 25 => ⟨S4x8x16x384x64, .f32⟩
  | 26 => ⟨S4x8x16x256x64, .f32⟩
  | 27 => ⟨S4x8x16x256x64, .f32⟩
  | 28 => ⟨S4x8x16x256x64, .f32⟩
  | 29 => ⟨S4x8x4096x64, .f32⟩
  | 30 => ⟨S4096x4x8x64, .f32⟩
  | 31 => ⟨S16384x8x64, .f32⟩
  | 32 => ⟨S4x8x16x256x1, .f32⟩
  | 33 => ⟨S4x8x16x256x1, .f32⟩
  | 34 => ⟨S4x8x4096x1, .f32⟩
  | 35 => ⟨S4096x4x8x1, .f32⟩
  | 36 => ⟨S16384x8x1, .f32⟩
  | 37 => ⟨S1024x16x8x64, .f32⟩
  | 38 => ⟨S16x8x1024x64, .f32⟩
  | 39 => ⟨S_, .f32⟩
  | 40 => ⟨S16x8x1024x64, .f32⟩
  | 41 => ⟨S16x8x1024x64, .f32⟩
  | 42 => ⟨S16x8x4x256x64, .f32⟩
  | 43 => ⟨S4x1x384, .i32⟩
  | 44 => ⟨S_, .i32⟩
  | 45 => ⟨S4x1x384, .i32⟩
  | 46 => ⟨S4x1x384, .i32⟩
  | 47 => ⟨S_, .i32⟩
  | 48 => ⟨S4x1x384, .i32⟩
  | 49 => ⟨S4x1x384, .i32⟩
  | 50 => ⟨S4x1x384, .i32⟩
  | 51 => ⟨S4x1x384, .i32⟩
  | 52 => ⟨S_, .i32⟩
  | 53 => ⟨S4x1x384, .i32⟩
  | 54 => ⟨S4x1x384, .i1⟩
  | 55 => ⟨S_, .i32⟩
  | 56 => ⟨S4x1x384, .i32⟩
  | 57 => ⟨S4x1x384, .i1⟩
  | 58 => ⟨S4x1x384, .i1⟩
  | 59 => ⟨S1024x16x8x64, .f32⟩
  | 60 => ⟨S16x8x1024x64, .f32⟩
  | 61 => ⟨S_, .i32⟩
  | 62 => ⟨S_, .f32⟩
  | 63 => ⟨S16x8x1152x64, .f32⟩
  | 64 => ⟨S16x8x1024x64, .f32⟩
  | 65 => ⟨S16x8x4x256x64, .f32⟩
  | 66 => ⟨S16x8x1024x64, .f32⟩
  | 67 => ⟨S16x8x4x256x64, .f32⟩
  | 68 => ⟨S16x8x4x64x64, .f32⟩
  | 69 => ⟨S16x8x1024x64, .f32⟩
  | 70 => ⟨S16x8x4x256x64, .f32⟩
  | 71 => ⟨S16x8x4x64x64, .f32⟩
  | 72 => ⟨S16x8x4x384x64, .f32⟩
  | 73 => ⟨S16x8x4x256x384, .f32⟩
  | 74 => ⟨S1x8, .f32⟩
  | 75 => ⟨S30x8, .f32⟩
  | 76 => ⟨S1x8, .f32⟩
  | 77 => ⟨S15x8, .f32⟩
  | 78 => ⟨S1x8, .f32⟩
  | 79 => ⟨S9x8, .f32⟩
  | 80 => ⟨S1x8, .f32⟩
  | 81 => ⟨S5x8, .f32⟩
  | 82 => ⟨S1x8, .f32⟩
  | 83 => ⟨S2x8, .f32⟩
  | 84 => ⟨S1x8, .f32⟩
  | 85 => ⟨S2x8, .f32⟩
  | 86 => ⟨S1x8, .f32⟩
  | 87 => ⟨S1x8, .f32⟩
  | 88 => ⟨S1x8, .f32⟩
  | 89 => ⟨S1x8, .f32⟩
  | 90 => ⟨S2x8, .f32⟩
  | 91 => ⟨S1x8, .f32⟩
  | 92 => ⟨S2x8, .f32⟩
  | 93 => ⟨S1x8, .f32⟩
  | 94 => ⟨S5x8, .f32⟩
  | 95 => ⟨S1x8, .f32⟩
  | 96 => ⟨S9x8, .f32⟩
  | 97 => ⟨S1x8, .f32⟩
  | 98 => ⟨S15x8, .f32⟩
  | 99 => ⟨S1x8, .f32⟩
  | 100 => ⟨S30x8, .f32⟩
  | 101 => ⟨S129x8, .f32⟩
  | 102 => ⟨S8x129, .f32⟩
  | 103 => ⟨S_, .f32⟩
  | 104 => ⟨S8x255, .f32⟩
  | 105 => ⟨S_, .f32⟩
  | 106 => ⟨S8x255, .f32⟩
  | 107 => ⟨S8x639, .f32⟩
  | 108 => ⟨S8x384, .f32⟩
  | 109 => ⟨S_, .f32⟩
  | 110 => ⟨S8x2, .f32⟩
  | 111 => ⟨S8x255, .f32⟩
  | 112 => ⟨S8x641, .f32⟩
  | 113 => ⟨S8x1x641, .f32⟩
  | 114 => ⟨S8x256x641, .f32⟩
  | 115 => ⟨S8x164096, .f32⟩
  | 116 => ⟨S8x163840, .f32⟩
  | 117 => ⟨S8x256x640, .f32⟩
  | 118 => ⟨S8x256x384, .f32⟩
  | 119 => ⟨S_, .f32⟩
  | 120 => ⟨S8x255, .f32⟩
  | 121 => ⟨S_, .f32⟩
  | 122 => ⟨S8x255, .f32⟩
  | 123 => ⟨S8x639, .f32⟩
  | 124 => ⟨S8x256, .f32⟩
  | 125 => ⟨S_, .f32⟩
  | 126 => ⟨S8x2, .f32⟩
  | 127 => ⟨S8x383, .f32⟩
  | _ => ⟨S16384x512, .f32⟩

abbrev hbmTy0_3 (i : Nat) : BufTy := match i % 128 with
  | 0 => ⟨S8x641, .f32⟩
  | 1 => ⟨S8x1x641, .f32⟩
  | 2 => ⟨S8x384x641, .f32⟩
  | 3 => ⟨S8x246144, .f32⟩
  | 4 => ⟨S8x245760, .f32⟩
  | 5 => ⟨S8x384x640, .f32⟩
  | 6 => ⟨S8x384x256, .f32⟩
  | 7 => ⟨S8x1x256x384, .f32⟩
  | 8 => ⟨S1x8x1x256x384, .f32⟩
  | 9 => ⟨S16x8x4x256x384, .f32⟩
  | 10 => ⟨S16x8x4x256x384, .f32⟩
  | 11 => ⟨S_, .f32⟩
  | 12 => ⟨S_, .f32⟩
  | 13 => ⟨S16x8x4x256x384, .i1⟩
  | 14 => ⟨S16x8x4x256x384, .f32⟩
  | 15 => ⟨S16x8x4x256x384, .f32⟩
  | 16 => ⟨S_, .f32⟩
  | 17 => ⟨S16x8x4x256, .f32⟩
  | 18 => ⟨S16x8x4x256x1, .f32⟩
  | 19 => ⟨S16x8x4x256x384, .f32⟩
  | 20 => ⟨S16x8x4x256x384, .f32⟩
  | 21 => ⟨S16x8x4x256x384, .f32⟩
  | 22 => ⟨S_, .f32⟩
  | 23 => ⟨S16x8x4x256, .f32⟩
  | 24 => ⟨S16x8x4x256x1, .f32⟩
  | 25 => ⟨S1024x16x8x64, .f32⟩
  | 26 => ⟨S16x8x1024x64, .f32⟩
  | 27 => ⟨S_, .i32⟩
  | 28 => ⟨S_, .f32⟩
  | 29 => ⟨S16x8x1152x64, .f32⟩
  | 30 => ⟨S16x8x1024x64, .f32⟩
  | 31 => ⟨S16x8x4x256x64, .f32⟩
  | 32 => ⟨S16x8x1024x64, .f32⟩
  | 33 => ⟨S16x8x4x256x64, .f32⟩
  | 34 => ⟨S16x8x4x64x64, .f32⟩
  | 35 => ⟨S16x8x1024x64, .f32⟩
  | 36 => ⟨S16x8x4x256x64, .f32⟩
  | 37 => ⟨S16x8x4x64x64, .f32⟩
  | 38 => ⟨S16x8x4x384x64, .f32⟩
  | 39 => ⟨S16x8x4x256x64, .f32⟩
  | 40 => ⟨S16x8x4x256x64, .f32⟩
  | 41 => ⟨S16x8x4x256x64, .f32⟩
  | 42 => ⟨S16x8x1024x64, .f32⟩
  | 43 => ⟨S1024x16x8x64, .f32⟩
  | 44 => ⟨S16384x8x64, .f32⟩
  | 45 => ⟨S16x8x4x256x1, .f32⟩
  | 46 => ⟨S16x8x4x256x1, .f32⟩
  | 47 => ⟨S16x8x1024x1, .f32⟩
  | 48 => ⟨S1024x16x8x1, .f32⟩
  | 49 => ⟨S16384x8x1, .f32⟩
  | 50 => ⟨S16384x8x1, .f32⟩
  | 51 => ⟨S16384x8x1, .f32⟩
  | 52 => ⟨S16384x8x1, .f32⟩
  | 53 => ⟨S16384x8x1, .f32⟩
  | 54 => ⟨S16384x8x1, .f32⟩
  | 55 => ⟨S16384x8x1, .f32⟩
  | 56 => ⟨S16384x8x1, .f32⟩
  | 57 => ⟨S16384x8x1, .f32⟩
  | 58 => ⟨S16384x8x1, .f32⟩
  | 59 => ⟨S16384x8x1, .f32⟩
  | 60 => ⟨S16384x8x1, .f32⟩
  | 61 => ⟨S16384x8x64, .f32⟩
  | 62 => ⟨S16384x8x64, .f32⟩
  | 63 => ⟨S16384x8x1, .f32⟩
  | 64 => ⟨S16384x8x64, .f32⟩
  | 65 => ⟨S16384x8x64, .f32⟩
  | 66 => ⟨S16384x8x64, .f32⟩
  | 67 => ⟨S16384x8x1, .f32⟩
  | 68 => ⟨S16384x8x64, .f32⟩
  | 69 => ⟨S16384x8x64, .f32⟩
  | 70 => ⟨S16384x8x64, .f32⟩
  | 71 => ⟨S16384x8x1, .f32⟩
  | 72 => ⟨S16384x8x1, .f32⟩
  | 73 => ⟨S16384x8, .f32⟩
  | 74 => ⟨S_, .i32⟩
  | 75 => ⟨S_, .f32⟩
  | 76 => ⟨S16384x128, .f32⟩
  | 77 => ⟨S16384x8x64, .f32⟩
  | 78 => ⟨S16384x8x64, .f32⟩
  | 79 => ⟨S_, .f32⟩
  | 80 => ⟨S16384x8, .f32⟩
  | 81 => ⟨S_, .i32⟩
  | 82 => ⟨S_, .f32⟩
  | 83 => ⟨S16384x128, .f32⟩
  | 84 => ⟨S1x8, .f32⟩
  | 85 => ⟨S15x8, .f32⟩
  | 86 => ⟨S1x8, .f32⟩
  | 87 => ⟨S23x8, .f32⟩
  | 88 => ⟨S1x8, .f32⟩
  | 89 => ⟨S12x8, .f32⟩
  | 90 => ⟨S1x8, .f32⟩
  | 91 => ⟨S7x8, .f32⟩
  | 92 => ⟨S1x8, .f32⟩
  | 93 => ⟨S1x8, .f32⟩
  | 94 => ⟨S1x8, .f32⟩
  | 95 => ⟨S1x8, .f32⟩
  | 96 => ⟨S1x8, .f32⟩
  | 97 => ⟨S1x8, .f32⟩
  | 98 => ⟨S1x8, .f32⟩
  | 99 => ⟨S1x8, .f32⟩
  | 100 => ⟨S1x8, .f32⟩
  | 101 => ⟨S1x8, .f32⟩
  | 102 => ⟨S1x8, .f32⟩
  | 103 => ⟨S1x8, .f32⟩
  | 104 => ⟨S1x8, .f32⟩
  | 105 => ⟨S1x8, .f32⟩
  | 106 => ⟨S1x8, .f32⟩
  | 107 => ⟨S1x8, .f32⟩
  | 108 => ⟨S7x8, .f32⟩
  | 109 => ⟨S1x8, .f32⟩
  | 110 => ⟨S12x8, .f32⟩
  | 111 => ⟨S1x8, .f32⟩
  | 112 => ⟨S23x8, .f32⟩
  | 113 => ⟨S1x8, .f32⟩
  | 114 => ⟨S15x8, .f32⟩
  | 115 => ⟨S69x8, .f32⟩
  | 116 => ⟨S60x8, .f32⟩
  | 117 => ⟨S129x8, .f32⟩
  | 118 => ⟨S8x129, .f32⟩
  | 119 => ⟨S_, .f32⟩
  | 120 => ⟨S8x255, .f32⟩
  | 121 => ⟨S_, .f32⟩
  | 122 => ⟨S8x255, .f32⟩
  | 123 => ⟨S8x639, .f32⟩
  | 124 => ⟨S8x384, .f32⟩
  | 125 => ⟨S_, .f32⟩
  | 126 => ⟨S8x2, .f32⟩
  | 127 => ⟨S8x255, .f32⟩
  | _ => ⟨S16384x512, .f32⟩

abbrev hbmTy0_4 (i : Nat) : BufTy := match i % 128 with
  | 0 => ⟨S8x641, .f32⟩
  | 1 => ⟨S8x1x641, .f32⟩
  | 2 => ⟨S8x256x641, .f32⟩
  | 3 => ⟨S8x164096, .f32⟩
  | 4 => ⟨S8x163840, .f32⟩
  | 5 => ⟨S8x256x640, .f32⟩
  | 6 => ⟨S8x256x384, .f32⟩
  | 7 => ⟨S_, .f32⟩
  | 8 => ⟨S8x255, .f32⟩
  | 9 => ⟨S_, .f32⟩
  | 10 => ⟨S8x255, .f32⟩
  | 11 => ⟨S8x639, .f32⟩
  | 12 => ⟨S8x256, .f32⟩
  | 13 => ⟨S_, .f32⟩
  | 14 => ⟨S8x2, .f32⟩
  | 15 => ⟨S8x383, .f32⟩
  | 16 => ⟨S8x641, .f32⟩
  | 17 => ⟨S8x1x641, .f32⟩
  | 18 => ⟨S8x384x641, .f32⟩
  | 19 => ⟨S8x246144, .f32⟩
  | 20 => ⟨S8x245760, .f32⟩
  | 21 => ⟨S8x384x640, .f32⟩
  | 22 => ⟨S8x384x256, .f32⟩
  | 23 => ⟨S_, .f32⟩
  | 24 => ⟨S16384x512, .f32⟩
  | 25 => ⟨S16384x512, .f32⟩
  | 26 => ⟨S16384x512, .bf16⟩
  | 27 => ⟨S16384x512, .bf16⟩
  | 28 => ⟨S16384x512, .bf16⟩
  | 29 => ⟨S16384x512, .bf16⟩
  | 30 => ⟨S16384x512, .bf16⟩
  | 31 => ⟨S8x256x384, .f32⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S64x512, .bf16⟩
  | .local _ .vmem, ⟨9, _⟩ => ⟨S64x512, .bf16⟩
  | .local _ .vmem, ⟨10, _⟩ => ⟨S256x512, .bf16⟩
  | .local _ .vmem, ⟨11, _⟩ => ⟨S256x512, .bf16⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S64x512, .bf16⟩
  | .local _ .vmem, ⟨16, _⟩ => ⟨S256x512, .bf16⟩
  | .local _ .vmem, ⟨17, _⟩ => ⟨S256x512, .bf16⟩
  | .local _ .vmem, ⟨18, _⟩ => ⟨S64x512, .bf16⟩
  | .local _ .vmem, ⟨19, _⟩ => ⟨S64x512, .bf16⟩
  | .local _ .vmem, ⟨20, _⟩ => ⟨S8x256x384, .f32⟩
  | .local _ .vmem, ⟨21, _⟩ => ⟨S256x512, .bf16⟩
  | .local _ .vmem, ⟨22, _⟩ => ⟨S256x512, .bf16⟩
  | .local _ .vmem, ⟨23, _⟩ => ⟨S8x256x384, .f32⟩
  | .local _ .vmem, ⟨24, _⟩ => ⟨S8x256x384, .f32⟩
  | .local _ .vmem, ⟨25, _⟩ => ⟨S8x256x384, .f32⟩
  | .local _ .vmem, ⟨26, _⟩ => ⟨S512x384, .bf16⟩
  | .local _ .vmem, ⟨27, _⟩ => ⟨S512x384, .bf16⟩
  | .local _ .vmem, ⟨28, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_12 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_13 : Ref sig .tc := ⟨.hbm, 129, rfl⟩
abbrev main_call2_v0 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_14 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_c_15 : Ref sig .tc := ⟨.hbm, 159, rfl⟩
abbrev main_v132 : Ref sig .tc := ⟨.hbm, 160, rfl⟩
abbrev main_v133 : Ref sig .tc := ⟨.hbm, 161, rfl⟩
abbrev main_c_16 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_17 : Ref sig .tc := ⟨.hbm, 167, rfl⟩
abbrev main_v138 : Ref sig .tc := ⟨.hbm, 168, rfl⟩
abbrev main_v139 : Ref sig .tc := ⟨.hbm, 169, rfl⟩
abbrev main_c_18 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_c_19 : Ref sig .tc := ⟨.hbm, 176, rfl⟩
abbrev main_call3_v0 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_cst_20 : Ref sig .tc := ⟨.hbm, 218, rfl⟩
abbrev main_v185 : Ref sig .tc := ⟨.hbm, 219, rfl⟩
abbrev main_cst_21 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_cst_22 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_23 : Ref sig .tc := ⟨.hbm, 234, rfl⟩
abbrev main_v198 : Ref sig .tc := ⟨.hbm, 235, rfl⟩
abbrev main_cst_24 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_25 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_cst_26 : Ref sig .tc := ⟨.hbm, 254, rfl⟩
abbrev main_call4_v0 : Ref sig .tc := ⟨.hbm, 255, rfl⟩
abbrev main_call4_v1 : Ref sig .tc := ⟨.hbm, 256, rfl⟩
abbrev main_call4_v2 : Ref sig .tc := ⟨.hbm, 257, rfl⟩
abbrev main_v215 : Ref sig .tc := ⟨.hbm, 258, rfl⟩
abbrev main_cst_27 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_28 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_c_29 : Ref sig .tc := ⟨.hbm, 270, rfl⟩
abbrev main_call5_v0 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_cst_30 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_c_31 : Ref sig .tc := ⟨.hbm, 300, rfl⟩
abbrev main_v252 : Ref sig .tc := ⟨.hbm, 301, rfl⟩
abbrev main_v253 : Ref sig .tc := ⟨.hbm, 302, rfl⟩
abbrev main_c_32 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_c_33 : Ref sig .tc := ⟨.hbm, 308, rfl⟩
abbrev main_v258 : Ref sig .tc := ⟨.hbm, 309, rfl⟩
abbrev main_v259 : Ref sig .tc := ⟨.hbm, 310, rfl⟩
abbrev main_c_34 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_c_35 : Ref sig .tc := ⟨.hbm, 317, rfl⟩
abbrev main_call6_v0 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_cst_36 : Ref sig .tc := ⟨.hbm, 359, rfl⟩
abbrev main_v305 : Ref sig .tc := ⟨.hbm, 360, rfl⟩
abbrev main_cst_37 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_cst_38 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_39 : Ref sig .tc := ⟨.hbm, 375, rfl⟩
abbrev main_v318 : Ref sig .tc := ⟨.hbm, 376, rfl⟩
abbrev main_cst_40 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_cst_41 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_cst_42 : Ref sig .tc := ⟨.hbm, 395, rfl⟩
abbrev main_call7_v0 : Ref sig .tc := ⟨.hbm, 396, rfl⟩
abbrev main_call7_v1 : Ref sig .tc := ⟨.hbm, 397, rfl⟩
abbrev main_call7_v2 : Ref sig .tc := ⟨.hbm, 398, rfl⟩
abbrev main_v335 : Ref sig .tc := ⟨.hbm, 399, rfl⟩
abbrev main_cst_43 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_cst_44 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_c_45 : Ref sig .tc := ⟨.hbm, 411, rfl⟩
abbrev main_call8_v0 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_v383 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_c_46 : Ref sig .tc := ⟨.hbm, 458, rfl⟩
abbrev main_call9_v0 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_cst_47 : Ref sig .tc := ⟨.hbm, 463, rfl⟩
abbrev main_v393 : Ref sig .tc := ⟨.hbm, 464, rfl⟩
abbrev main_c_48 : Ref sig .tc := ⟨.hbm, 465, rfl⟩
abbrev main_call10_v0 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_v413 : Ref sig .tc := ⟨.hbm, 486, rfl⟩
abbrev main_v414 : Ref sig .tc := ⟨.hbm, 487, rfl⟩
abbrev main_v415 : Ref sig .tc := ⟨.hbm, 488, rfl⟩
abbrev main_v416 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_cst_49 : Ref sig .tc := ⟨.hbm, 503, rfl⟩
abbrev main_v430 : Ref sig .tc := ⟨.hbm, 504, rfl⟩
abbrev main_cst_50 : Ref sig .tc := ⟨.hbm, 505, rfl⟩
abbrev main_v431 : Ref sig .tc := ⟨.hbm, 506, rfl⟩
abbrev main_v432 : Ref sig .tc := ⟨.hbm, 507, rfl⟩
abbrev main_v433 : Ref sig .tc := ⟨.hbm, 508, rfl⟩
abbrev main_cst_51 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_cst_52 : Ref sig .tc := ⟨.hbm, 519, rfl⟩
abbrev main_v443 : Ref sig .tc := ⟨.hbm, 520, rfl⟩
abbrev main_cst_53 : Ref sig .tc := ⟨.hbm, 521, rfl⟩
abbrev main_v444 : Ref sig .tc := ⟨.hbm, 522, rfl⟩
abbrev main_v445 : Ref sig .tc := ⟨.hbm, 523, rfl⟩
abbrev main_v446 : Ref sig .tc := ⟨.hbm, 524, rfl⟩
abbrev main_cst_54 : Ref sig .tc := ⟨.hbm, 525, rfl⟩
abbrev main_v447 : Ref sig .tc := ⟨.hbm, 526, rfl⟩
abbrev main_v448 : Ref sig .tc := ⟨.hbm, 527, rfl⟩
abbrev main_v449 : Ref sig .tc := ⟨.hbm, 528, rfl⟩
abbrev main_v450 : Ref sig .tc := ⟨.hbm, 529, rfl⟩
abbrev main_v451 : Ref sig .tc := ⟨.hbm, 530, rfl⟩
abbrev main_v452 : Ref sig .tc := ⟨.hbm, 531, rfl⟩
abbrev main_v453 : Ref sig .tc := ⟨.hbm, 532, rfl⟩
abbrev main_v454 : Ref sig .tc := ⟨.hbm, 533, rfl⟩
abbrev main_v455 : Ref sig .tc := ⟨.hbm, 534, rfl⟩
abbrev main_cst_55 : Ref sig .tc := ⟨.hbm, 535, rfl⟩
abbrev main_v456 : Ref sig .tc := ⟨.hbm, 536, rfl⟩
abbrev main_v457 : Ref sig .tc := ⟨.hbm, 537, rfl⟩
abbrev main_v458 : Ref sig .tc := ⟨.hbm, 538, rfl⟩
abbrev main_v459 : Ref sig .tc := ⟨.hbm, 539, rfl⟩
abbrev main_v460 : Ref sig .tc := ⟨.hbm, 540, rfl⟩
abbrev main_v461 : Ref sig .tc := ⟨.hbm, 541, rfl⟩
abbrev main_v462_0 : Ref sig .tc := ⟨.hbm, 542, rfl⟩
abbrev main_v462_1 : Ref sig .tc := ⟨.hbm, 543, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x256x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x256x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== BandDqIdeal.lean ====
variable {F : FTy → Type} [FloatOps F] [Named F]
def κ : String → Option EReal := fun
  | "mask" => some ⊥
  | _ => none
-- ==== BandDqRefIdeal.lean ====
abbrev S16384x512 : Shape := ⟨2, ![16384, 512]⟩
abbrev S32x8 : Shape := ⟨2, ![32, 8]⟩
abbrev S16384x8x64 : Shape := ⟨3, ![16384, 8, 64]⟩
abbrev S_ : Shape := ⟨0, ![]⟩
abbrev S8x256x384 : Shape := ⟨3, ![8, 256, 384]⟩
abbrev S16384x1x8x64 : Shape := ⟨4, ![16384, 1, 8, 64]⟩
abbrev S1x16384x8x64 : Shape := ⟨4, ![1, 16384, 8, 64]⟩
abbrev S1x256x64x8x64 : Shape := ⟨5, ![1, 256, 64, 8, 64]⟩
abbrev S1x64x8x64 : Shape := ⟨4, ![1, 64, 8, 64]⟩
abbrev S1x16512x8x64 : Shape := ⟨4, ![1, 16512, 8, 64]⟩
abbrev S1x258x64x8x64 : Shape := ⟨5, ![1, 258, 64, 8, 64]⟩
abbrev S1x256x192x8x64 : Shape := ⟨5, ![1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x64x8x192 : Shape := ⟨5, ![1, 1, 64, 8, 192]⟩
abbrev S1x256x8x192x64 : Shape := ⟨5, ![1, 256, 8, 192, 64]⟩
abbrev S1x256x64x8x192 : Shape := ⟨5, ![1, 256, 64, 8, 192]⟩
abbrev S8x64x192 : Shape := ⟨3, ![8, 64, 192]⟩
abbrev S1x8x64x192 : Shape := ⟨4, ![1, 8, 64, 192]⟩
abbrev S4x8x64x192 : Shape := ⟨4, ![4, 8, 64, 192]⟩
abbrev S4x64x8x192 : Shape := ⟨4, ![4, 64, 8, 192]⟩
abbrev S1x64x4x64x8x192 : Shape := ⟨6, ![1, 64, 4, 64, 8, 192]⟩
abbrev S1x1x4x64x8x192 : Shape := ⟨6, ![1, 1, 4, 64, 8, 192]⟩
abbrev S1x256x64x1x192 : Shape := ⟨5, ![1, 256, 64, 1, 192]⟩
abbrev S1x256x64x8 : Shape := ⟨4, ![1, 256, 64, 8]⟩
abbrev S1x256x64x8x1 : Shape := ⟨5, ![1, 256, 64, 8, 1]⟩
abbrev S1x256x8x64x64 : Shape := ⟨5, ![1, 256, 8, 64, 64]⟩
abbrev S1x16384x8 : Shape := ⟨3, ![1, 16384, 8]⟩
abbrev S16384x1x8 : Shape := ⟨3, ![16384, 1, 8]⟩
abbrev S16384x8 : Shape := ⟨2, ![16384, 8]⟩
abbrev S4096x4x8x64 : Shape := ⟨4, ![4096, 4, 8, 64]⟩
abbrev S4x4096x8x64 : Shape := ⟨4, ![4, 4096, 8, 64]⟩
abbrev S4x64x64x8x64 : Shape := ⟨5, ![4, 64, 64, 8, 64]⟩
abbrev S4x64x8x64 : Shape := ⟨4, ![4, 64, 8, 64]⟩
abbrev S4x4224x8x64 : Shape := ⟨4, ![4, 4224, 8, 64]⟩
abbrev S4x66x64x8x64 : Shape := ⟨5, ![4, 66, 64, 8, 64]⟩
abbrev S4x64x192x8x64 : Shape := ⟨5, ![4, 64, 192, 8, 64]⟩
abbrev S64x1x192 : Shape := ⟨3, ![64, 1, 192]⟩
abbrev S64x64x192 : Shape := ⟨3, ![64, 64, 192]⟩
abbrev S4x64x8x192x64 : Shape := ⟨5, ![4, 64, 8, 192, 64]⟩
abbrev S4x64x64x8x192 : Shape := ⟨5, ![4, 64, 64, 8, 192]⟩
abbrev S1x64x64x1x192 : Shape := ⟨5, ![1, 64, 64, 1, 192]⟩
abbrev S4x64x64x8 : Shape := ⟨4, ![4, 64, 64, 8]⟩
abbrev S4x64x64x8x1 : Shape := ⟨5, ![4, 64, 64, 8, 1]⟩
abbrev S4x64x8x64x64 : Shape := ⟨5, ![4, 64, 8, 64, 64]⟩
abbrev S4x4096x8 : Shape := ⟨3, ![4, 4096, 8]⟩
abbrev S4096x4x8 : Shape := ⟨3, ![4096, 4, 8]⟩
abbrev S1024x16x8x64 : Shape := ⟨4, ![1024, 16, 8, 64]⟩
abbrev S16x1024x8x64 : Shape := ⟨4, ![16, 1024, 8, 64]⟩
abbrev S16x16x64x8x64 : Shape := ⟨5, ![16, 16, 64, 8, 64]⟩
abbrev S16x64x8x64 : Shape := ⟨4, ![16, 64, 8, 64]⟩
abbrev S16x1152x8x64 : Shape := ⟨4, ![16, 1152, 8, 64]⟩
abbrev S16x18x64x8x64 : Shape := ⟨5, ![16, 18, 64, 8, 64]⟩
abbrev S16x16x192x8x64 : Shape := ⟨5, ![16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S16x16x8x192x64 : Shape := ⟨5, ![16, 16, 8, 192, 64]⟩
abbrev S16x16x64x8x192 : Shape := ⟨5, ![16, 16, 64, 8, 192]⟩
abbrev S1x16x64x1x192 : Shape := ⟨5, ![1, 16, 64, 1, 192]⟩
abbrev S16x16x64x8 : Shape := ⟨4, ![16, 16, 64, 8]⟩
abbrev S16x16x64x8x1 : Shape := ⟨5, ![16, 16, 64, 8, 1]⟩
abbrev S16x16x8x64x64 : Shape := ⟨5, ![16, 16, 8, 64, 64]⟩
abbrev S16x1024x8 : Shape := ⟨3, ![16, 1024, 8]⟩
abbrev S1024x16x8 : Shape := ⟨3, ![1024, 16, 8]⟩
abbrev S16384x8x1 : Shape := ⟨3, ![16384, 8, 1]⟩
abbrev S256x64x8 : Shape := ⟨3, ![256, 64, 8]⟩
abbrev S1x256x8x64x192 : Shape := ⟨5, ![1, 256, 8, 64, 192]⟩
abbrev S1x4x64x8x192 : Shape := ⟨5, ![1, 4, 64, 8, 192]⟩

abbrev nBuf : Space → Nat
  | .hbm => 663
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x8x64, .f32⟩
  | 6 => ⟨S16384x8x64, .f32⟩
  | 7 => ⟨S16384x8x64, .f32⟩
  | 8 => ⟨S16384x8x64, .f32⟩
  | 9 => ⟨S_, .f32⟩
  | 10 => ⟨S8x256x384, .f32⟩
  | 11 => ⟨S16384x1x8x64, .f32⟩
  | 12 => ⟨S1x16384x8x64, .f32⟩
  | 13 => ⟨S1x256x64x8x64, .f32⟩
  | 14 => ⟨S_, .f32⟩
  | 15 => ⟨S1x64x8x64, .f32⟩
  | 16 => ⟨S16384x1x8x64, .f32⟩
  | 17 => ⟨S1x16384x8x64, .f32⟩
  | 18 => ⟨S1x16512x8x64, .f32⟩
  | 19 => ⟨S1x258x64x8x64, .f32⟩
  | 20 => ⟨S1x256x64x8x64, .f32⟩
  | 21 => ⟨S1x256x64x8x64, .f32⟩
  | 22 => ⟨S1x256x64x8x64, .f32⟩
  | 23 => ⟨S1x256x192x8x64, .f32⟩
  | 24 => ⟨S_, .f32⟩
  | 25 => ⟨S1x64x8x64, .f32⟩
  | 26 => ⟨S16384x1x8x64, .f32⟩
  | 27 => ⟨S1x16384x8x64, .f32⟩
  | 28 => ⟨S1x16512x8x64, .f32⟩
  | 29 => ⟨S1x258x64x8x64, .f32⟩
  | 30 => ⟨S1x256x64x8x64, .f32⟩
  | 31 => ⟨S1x256x64x8x64, .f32⟩
  | 32 => ⟨S1x256x64x8x64, .f32⟩
  | 33 => ⟨S1x256x192x8x64, .f32⟩
  | 34 => ⟨S64, .i32⟩
  | 35 => ⟨S192, .i32⟩
  | 36 => ⟨S1x192, .i32⟩
  | 37 => ⟨S_, .i32⟩
  | 38 => ⟨S1x192, .i32⟩
  | 39 => ⟨S1x192, .i32⟩
  | 40 => ⟨S64x1, .i32⟩
  | 41 => ⟨S64x192, .i32⟩
  | 42 => ⟨S64x192, .i32⟩
  | 43 => ⟨S64x192, .i32⟩
  | 44 => ⟨S256, .i32⟩
  | 45 => ⟨S256x1, .i32⟩
  | 46 => ⟨S_, .i32⟩
  | 47 => ⟨S256x1, .i32⟩
  | 48 => ⟨S256x1, .i32⟩
  | 49 => ⟨S_, .i32⟩
  | 50 => ⟨S256x1, .i32⟩
  | 51 => ⟨S256x1, .i32⟩
  | 52 => ⟨S1x192, .i32⟩
  | 53 => ⟨S256x192, .i32⟩
  | 54 => ⟨S256x192, .i32⟩
  | 55 => ⟨S256x192, .i32⟩
  | 56 => ⟨S64x192, .i32⟩
  | 57 => ⟨S_, .i32⟩
  | 58 => ⟨S64x192, .i32⟩
  | 59 => ⟨S64x192, .i1⟩
  | 60 => ⟨S1x64x192, .i1⟩
  | 61 => ⟨S_, .i32⟩
  | 62 => ⟨S256x192, .i32⟩
  | 63 => ⟨S256x192, .i1⟩
  | 64 => ⟨S256x1x192, .i1⟩
  | 65 => ⟨S256x64x192, .i1⟩
  | 66 => ⟨S256x64x192, .i1⟩
  | 67 => ⟨S256x64x192, .i1⟩
  | 68 => ⟨S_, .i32⟩
  | 69 => ⟨S256x192, .i32⟩
  | 70 => ⟨S256x192, .i1⟩
  | 71 => ⟨S256x1x192, .i1⟩
  | 72 => ⟨S256x64x192, .i1⟩
  | 73 => ⟨S256x64x192, .i1⟩
  | 74 => ⟨S_, .i32⟩
  | 75 => ⟨S64x192, .i32⟩
  | 76 => ⟨S64x192, .i32⟩
  | 77 => ⟨S_, .i32⟩
  | 78 => ⟨S64x192, .i32⟩
  | 79 => ⟨S64x192, .i1⟩
  | 80 => ⟨S_, .i32⟩
  | 81 => ⟨S_, .i32⟩
  | 82 => ⟨S64x192, .i32⟩
  | 83 => ⟨S64x192, .i32⟩
  | 84 => ⟨S64x192, .i32⟩
  | 85 => ⟨S64x192, .i32⟩
  | 86 => ⟨S_, .i32⟩
  | 87 => ⟨S64x192, .i32⟩
  | 88 => ⟨S64x192, .i32⟩
  | 89 => ⟨S64x192, .f32⟩
  | 90 => ⟨S_, .f32⟩
  | 91 => ⟨S64x192, .f32⟩
  | 92 => ⟨S64x192, .f32⟩
  | 93 => ⟨S64x192, .f32⟩
  | 94 => ⟨S_, .f32⟩
  | 95 => ⟨S64x192, .f32⟩
  | 96 => ⟨S64x192, .f32⟩
  | 97 => ⟨S_, .f32⟩
  | 98 => ⟨S64x192, .f32⟩
  | 99 => ⟨S64x192, .f32⟩
  | 100 => ⟨S64x192, .i32⟩
  | 101 => ⟨S_, .i32⟩
  | 102 => ⟨S64x192, .i32⟩
  | 103 => ⟨S64x192, .i32⟩
  | 104 => ⟨S_, .i32⟩
  | 105 => ⟨S64x192, .i32⟩
  | 106 => ⟨S64x192, .i32⟩
  | 107 => ⟨S_, .i32⟩
  | 108 => ⟨S64x192, .i32⟩
  | 109 => ⟨S64x192, .i1⟩
  | 110 => ⟨S64x192, .i32⟩
  | 111 => ⟨S64x192, .i32⟩
  | 112 => ⟨S64x192, .i32⟩
  | 113 => ⟨S_, .i32⟩
  | 114 => ⟨S64x192, .i32⟩
  | 115 => ⟨S64x192, .i1⟩
  | 116 => ⟨S_, .i32⟩
  | 117 => ⟨S64x192, .i32⟩
  | 118 => ⟨S64x192, .i32⟩
  | 119 => ⟨S64x192, .i32⟩
  | 120 => ⟨S64x192x1, .i32⟩
  | 121 => ⟨S64x192x8, .f32⟩
  | 122 => ⟨S64x8x192, .f32⟩
  | 123 => ⟨S1x1x64x8x192, .f32⟩
  | 124 => ⟨S1x256x8x192x64, .f32⟩
  | 125 => ⟨S1x256x64x8x192, .f32⟩
  | 126 => ⟨S_, .f32⟩
  | 127 => ⟨S1x256x64x8x192, .f32⟩
  | _ => ⟨S16384x512, .f32⟩

abbrev hbmTy0_1 (i : Nat) : BufTy := match i % 128 with
  | 0 => ⟨S1x256x64x8x192, .f32⟩
  | 1 => ⟨S1x256x64x8x192, .f32⟩
  | 2 => ⟨S1x256x64x8x192, .f32⟩
  | 3 => ⟨S8x64x192, .f32⟩
  | 4 => ⟨S8x64x192, .f32⟩
  | 5 => ⟨S8x64x192, .f32⟩
  | 6 => ⟨S8x64x192, .f32⟩
  | 7 => ⟨S1x8x64x192, .f32⟩
  | 8 => ⟨S1x8x64x192, .f32⟩
  | 9 => ⟨S1x8x64x192, .f32⟩
  | 10 => ⟨S1x8x64x192, .f32⟩
  | 11 => ⟨S4x8x64x192, .f32⟩
  | 12 => ⟨S4x64x8x192, .f32⟩
  | 13 => ⟨S1x64x4x64x8x192, .f32⟩
  | 14 => ⟨S1x1x4x64x8x192, .f32⟩
  | 15 => ⟨S1x64x4x64x8x192, .f32⟩
  | 16 => ⟨S1x64x4x64x8x192, .f32⟩
  | 17 => ⟨S1x256x64x8x192, .f32⟩
  | 18 => ⟨S1x256x64x1x192, .i1⟩
  | 19 => ⟨S_, .f32⟩
  | 20 => ⟨S_, .f32⟩
  | 21 => ⟨S1x256x64x8x192, .i1⟩
  | 22 => ⟨S1x256x64x8x192, .f32⟩
  | 23 => ⟨S1x256x64x8x192, .f32⟩
  | 24 => ⟨S_, .f32⟩
  | 25 => ⟨S1x256x64x8x192, .f32⟩
  | 26 => ⟨S_, .f32⟩
  | 27 => ⟨S1x256x64x8, .f32⟩
  | 28 => ⟨S1x256x64x8x1, .f32⟩
  | 29 => ⟨S1x256x64x8x192, .f32⟩
  | 30 => ⟨S1x256x64x8x192, .i1⟩
  | 31 => ⟨S1x256x64x8x192, .f32⟩
  | 32 => ⟨S_, .f32⟩
  | 33 => ⟨S1x256x64x8, .f32⟩
  | 34 => ⟨S1x256x64x8x1, .f32⟩
  | 35 => ⟨S1x256x64x8x192, .f32⟩
  | 36 => ⟨S1x256x64x8x192, .f32⟩
  | 37 => ⟨S1x256x64x8x192, .f32⟩
  | 38 => ⟨S_, .f32⟩
  | 39 => ⟨S1x256x64x8, .f32⟩
  | 40 => ⟨S1x256x8x64x64, .f32⟩
  | 41 => ⟨S1x256x64x8x64, .f32⟩
  | 42 => ⟨S1x256x64x8x1, .f32⟩
  | 43 => ⟨S1x256x64x8x64, .f32⟩
  | 44 => ⟨S1x256x64x8x64, .f32⟩
  | 45 => ⟨S1x256x64x8x1, .f32⟩
  | 46 => ⟨S_, .f32⟩
  | 47 => ⟨S1x256x64x8x1, .f32⟩
  | 48 => ⟨S1x256x64x8x1, .f32⟩
  | 49 => ⟨S1x16384x8x64, .f32⟩
  | 50 => ⟨S16384x1x8x64, .f32⟩
  | 51 => ⟨S16384x8x64, .f32⟩
  | 52 => ⟨S1x16384x8, .f32⟩
  | 53 => ⟨S16384x1x8, .f32⟩
  | 54 => ⟨S16384x8, .f32⟩
  | 55 => ⟨S1x16384x8, .f32⟩
  | 56 => ⟨S16384x1x8, .f32⟩
  | 57 => ⟨S16384x8, .f32⟩
  | 58 => ⟨S4096x4x8x64, .f32⟩
  | 59 => ⟨S4x4096x8x64, .f32⟩
  | 60 => ⟨S4x64x64x8x64, .f32⟩
  | 61 => ⟨S_, .f32⟩
  | 62 => ⟨S4x64x8x64, .f32⟩
  | 63 => ⟨S4096x4x8x64, .f32⟩
  | 64 => ⟨S4x4096x8x64, .f32⟩
  | 65 => ⟨S4x4224x8x64, .f32⟩
  | 66 => ⟨S4x66x64x8x64, .f32⟩
  | 67 => ⟨S4x64x64x8x64, .f32⟩
  | 68 => ⟨S4x64x64x8x64, .f32⟩
  | 69 => ⟨S4x64x64x8x64, .f32⟩
  | 70 => ⟨S4x64x192x8x64, .f32⟩
  | 71 => ⟨S_, .f32⟩
  | 72 => ⟨S4x64x8x64, .f32⟩
  | 73 => ⟨S4096x4x8x64, .f32⟩
  | 74 => ⟨S4x4096x8x64, .f32⟩
  | 75 => ⟨S4x4224x8x64, .f32⟩
  | 76 => ⟨S4x66x64x8x64, .f32⟩
  | 77 => ⟨S4x64x64x8x64, .f32⟩
  | 78 => ⟨S4x64x64x8x64, .f32⟩
  | 79 => ⟨S4x64x64x8x64, .f32⟩
  | 80 => ⟨S4x64x192x8x64, .f32⟩
  | 81 => ⟨S64, .i32⟩
  | 82 => ⟨S192, .i32⟩
  | 83 => ⟨S1x192, .i32⟩
  | 84 => ⟨S_, .i32⟩
  | 85 => ⟨S1x192, .i32⟩
  | 86 => ⟨S1x192, .i32⟩
  | 87 => ⟨S64x1, .i32⟩
  | 88 => ⟨S64x192, .i32⟩
  | 89 => ⟨S64x192, .i32⟩
  | 90 => ⟨S64x192, .i32⟩
  | 91 => ⟨S64, .i32⟩
  | 92 => ⟨S64x1, .i32⟩
  | 93 => ⟨S_, .i32⟩
  | 94 => ⟨S64x1, .i32⟩
  | 95 => ⟨S64x1, .i32⟩
  | 96 => ⟨S_, .i32⟩
  | 97 => ⟨S64x1, .i32⟩
  | 98 => ⟨S64x1, .i32⟩
  | 99 => ⟨S1x192, .i32⟩
  | 100 => ⟨S64x192, .i32⟩
  | 101 => ⟨S64x192, .i32⟩
  | 102 => ⟨S64x192, .i32⟩
  | 103 => ⟨S64x192, .i32⟩
  | 104 => ⟨S_, .i32⟩
  | 105 => ⟨S64x192, .i32⟩
  | 106 => ⟨S64x192, .i1⟩
  | 107 => ⟨S1x64x192, .i1⟩
  | 108 => ⟨S_, .i32⟩
  | 109 => ⟨S64x192, .i32⟩
  | 110 => ⟨S64x192, .i1⟩
  | 111 => ⟨S64x1x192, .i1⟩
  | 112 => ⟨S64x64x192, .i1⟩
  | 113 => ⟨S64x64x192, .i1⟩
  | 114 => ⟨S64x64x192, .i1⟩
  | 115 => ⟨S_, .i32⟩
  | 116 => ⟨S64x192, .i32⟩
  | 117 => ⟨S64x192, .i1⟩
  | 118 => ⟨S64x1x192, .i1⟩
  | 119 => ⟨S64x64x192, .i1⟩
  | 120 => ⟨S64x64x192, .i1⟩
  | 121 => ⟨S_, .i32⟩
  | 122 => ⟨S64x192, .i32⟩
  | 123 => ⟨S64x192, .i32⟩
  | 124 => ⟨S_, .i32⟩
  | 125 => ⟨S64x192, .i32⟩
  | 126 => ⟨S64x192, .i1⟩
  | 127 => ⟨S_, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .i32⟩
  | 4 => ⟨S64x192, .i32⟩
  | 5 => ⟨S_, .i32⟩
  | 6 => ⟨S64x192, .i32⟩
  | 7 => ⟨S64x192, .i32⟩
  | 8 => ⟨S64x192, .f32⟩
  | 9 => ⟨S_, .f32⟩
  | 10 => ⟨S64x192, .f32⟩
  | 11 => ⟨S64x192, .f32⟩
  | 12 => ⟨S64x192, .f32⟩
  | 13 => ⟨S_, .f32⟩
  | 14 => ⟨S64x192, .f32⟩
  | 15 => ⟨S64x192, .f32⟩
  | 16 => ⟨S_, .f32⟩
  | 17 => ⟨S64x192, .f32⟩
  | 18 => ⟨S64x192, .f32⟩
  | 19 => ⟨S64x192, .i32⟩
  | 20 => ⟨S_, .i32⟩
  | 21 => ⟨S64x192, .i32⟩
  | 22 => ⟨S64x192, .i32⟩
  | 23 => ⟨S_, .i32⟩
  | 24 => ⟨S64x192, .i32⟩
  | 25 => ⟨S64x192, .i32⟩
  | 26 => ⟨S_, .i32⟩
  | 27 => ⟨S64x192, .i32⟩
  | 28 => ⟨S64x192, .i1⟩
  | 29 => ⟨S64x192, .i32⟩
  | 30 => ⟨S64x192, .i32⟩
  | 31 => ⟨S64x192, .i32⟩
  | 32 => ⟨S_, .i32⟩
  | 33 => ⟨S64x192, .i32⟩
  | 34 => ⟨S64x192, .i1⟩
  | 35 => ⟨S_, .i32⟩
  | 36 => ⟨S64x192, .i32⟩
  | 37 => ⟨S64x192, .i32⟩
  | 38 => ⟨S64x192, .i32⟩
  | 39 => ⟨S64x192x1, .i32⟩
  | 40 => ⟨S64x192x8, .f32⟩
  | 41 => ⟨S64x8x192, .f32⟩
  | 42 => ⟨S1x1x64x8x192, .f32⟩
  | 43 => ⟨S4x64x8x192x64, .f32⟩
  | 44 => ⟨S4x64x64x8x192, .f32⟩
  | 45 => ⟨S_, .f32⟩
  | 46 => ⟨S4x64x64x8x192, .f32⟩
  | 47 => ⟨S4x64x64x8x192, .f32⟩
  | 48 => ⟨S4x64x64x8x192, .f32⟩
  | 49 => ⟨S4x64x64x8x192, .f32⟩
  | 50 => ⟨S1x64x64x1x192, .i1⟩
  | 51 => ⟨S_, .f32⟩
  | 52 => ⟨S_, .f32⟩
  | 53 => ⟨S4x64x64x8x192, .i1⟩
  | 54 => ⟨S4x64x64x8x192, .f32⟩
  | 55 => ⟨S4x64x64x8x192, .f32⟩
  | 56 => ⟨S_, .f32⟩
  | 57 => ⟨S4x64x64x8, .f32⟩
  | 58 => ⟨S4x64x64x8x1, .f32⟩
  | 59 => ⟨S4x64x64x8x192, .f32⟩
  | 60 => ⟨S4x64x64x8x192, .f32⟩
  | 61 => ⟨S4x64x64x8x192, .f32⟩
  | 62 => ⟨S_, .f32⟩
  | 63 => ⟨S4x64x64x8, .f32⟩
  | 64 => ⟨S4x64x8x64x64, .f32⟩
  | 65 => ⟨S4x64x64x8x64, .f32⟩
  | 66 => ⟨S4x64x64x8x1, .f32⟩
  | 67 => ⟨S4x64x64x8x64, .f32⟩
  | 68 => ⟨S4x64x64x8x64, .f32⟩
  | 69 => ⟨S4x4096x8x64, .f32⟩
  | 70 => ⟨S4096x4x8x64, .f32⟩
  | 71 => ⟨S16384x8x64, .f32⟩
  | 72 => ⟨S4x4096x8, .f32⟩
  | 73 => ⟨S4096x4x8, .f32⟩
  | 74 => ⟨S16384x8, .f32⟩
  | 75 => ⟨S4x4096x8, .f32⟩
  | 76 => ⟨S4096x4x8, .f32⟩
  | 77 => ⟨S16384x8, .f32⟩
  | 78 => ⟨S1024x16x8x64, .f32⟩
  | 79 => ⟨S16x1024x8x64, .f32⟩
  | 80 => ⟨S16x16x64x8x64, .f32⟩
  | 81 => ⟨S_, .f32⟩
  | 82 => ⟨S16x64x8x64, .f32⟩
  | 83 => ⟨S1024x16x8x64, .f32⟩
  | 84 => ⟨S16x1024x8x64, .f32⟩
  | 85 => ⟨S16x1152x8x64, .f32⟩
  | 86 => ⟨S16x18x64x8x64, .f32⟩
  | 87 => ⟨S16x16x64x8x64, .f32⟩
  | 88 => ⟨S16x16x64x8x64, .f32⟩
  | 89 => ⟨S16x16x64x8x64, .f32⟩
  | 90 => ⟨S16x16x192x8x64, .f32⟩
  | 91 => ⟨S_, .f32⟩
  | 92 => ⟨S16x64x8x64, .f32⟩
  | 93 => ⟨S1024x16x8x64, .f32⟩
  | 94 => ⟨S16x1024x8x64, .f32⟩
  | 95 => ⟨S16x1152x8x64, .f32⟩
  | 96 => ⟨S16x18x64x8x64, .f32⟩
  | 97 => ⟨S16x16x64x8x64, .f32⟩
  | 98 => ⟨S16x16x64x8x64, .f32⟩
  | 99 => ⟨S16x16x64x8x64, .f32⟩
  | 100 => ⟨S16x16x192x8x64, .f32⟩
  | 101 => ⟨S64, .i32⟩
  | 102 => ⟨S192, .i32⟩
  | 103 => ⟨S1x192, .i32⟩
  | 104 => ⟨S_, .i32⟩
  | 105 => ⟨S1x192, .i32⟩
  | 106 => ⟨S1x192, .i32⟩
  | 107 => ⟨S64x1, .i32⟩
  | 108 => ⟨S64x192, .i32⟩
  | 109 => ⟨S64x192, .i32⟩
  | 110 => ⟨S64x192, .i32⟩
  | 111 => ⟨S16, .i32⟩
  | 112 => ⟨S16x1, .i32⟩
  | 113 => ⟨S_, .i32⟩
  | 114 => ⟨S16x1, .i32⟩
  | 115 => ⟨S16x1, .i32⟩
  | 116 => ⟨S_, .i32⟩
  | 117 => ⟨S16x1, .i32⟩
  | 118 => ⟨S16x1, .i32⟩
  | 119 => ⟨S1x192, .i32⟩
  | 120 => ⟨S16x192, .i32⟩
  | 121 => ⟨S16x192, .i32⟩
  | 122 => ⟨S16x192, .i32⟩
  | 123 => ⟨S64x192, .i32⟩
  | 124 => ⟨S_, .i32⟩
  | 125 => ⟨S64x192, .i32⟩
  | 126 => ⟨S64x192, .i1⟩
  | 127 => ⟨S1x64x192, .i1⟩
  | _ => ⟨S16384x512, .f32⟩

abbrev hbmTy0_3 (i : Nat) : BufTy := match i % 128 with
  | 0 => ⟨S_, .i32⟩
  | 1 => ⟨S16x192, .i32⟩
  | 2 => ⟨S16x192, .i1⟩
  | 3 => ⟨S16x1x192, .i1⟩
  | 4 => ⟨S16x64x192, .i1⟩
  | 5 => ⟨S16x64x192, .i1⟩
  | 6 => ⟨S16x64x192, .i1⟩
  | 7 => ⟨S_, .i32⟩
  | 8 => ⟨S16x192, .i32⟩
  | 9 => ⟨S16x192, .i1⟩
  | 10 => ⟨S16x1x192, .i1⟩
  | 11 => ⟨S16x64x192, .i1⟩
  | 12 => ⟨S16x64x192, .i1⟩
  | 13 => ⟨S_, .i32⟩
  | 14 => ⟨S64x192, .i32⟩
  | 15 => ⟨S64x192, .i32⟩
  | 16 => ⟨S_, .i32⟩
  | 17 => ⟨S64x192, .i32⟩
  | 18 => ⟨S64x192, .i1⟩
  | 19 => ⟨S_, .i32⟩
  | 20 => ⟨S_, .i32⟩
  | 21 => ⟨S64x192, .i32⟩
  | 22 => ⟨S64x192, .i32⟩
  | 23 => ⟨S64x192, .i32⟩
  | 24 => ⟨S64x192, .i32⟩
  | 25 => ⟨S_, .i32⟩
  | 26 => ⟨S64x192, .i32⟩
  | 27 => ⟨S64x192, .i32⟩
  | 28 => ⟨S64x192, .f32⟩
  | 29 => ⟨S_, .f32⟩
  | 30 => ⟨S64x192, .f32⟩
  | 31 => ⟨S64x192, .f32⟩
  | 32 => ⟨S64x192, .f32⟩
  | 33 => ⟨S_, .f32⟩
  | 34 => ⟨S64x192, .f32⟩
  | 35 => ⟨S64x192, .f32⟩
  | 36 => ⟨S_, .f32⟩
  | 37 => ⟨S64x192, .f32⟩
  | 38 => ⟨S64x192, .f32⟩
  | 39 => ⟨S64x192, .i32⟩
  | 40 => ⟨S_, .i32⟩
  | 41 => ⟨S64x192, .i32⟩
  | 42 => ⟨S64x192, .i32⟩
  | 43 => ⟨S_, .i32⟩
  | 44 => ⟨S64x192, .i32⟩
  | 45 => ⟨S64x192, .i32⟩
  | 46 => ⟨S_, .i32⟩
  | 47 => ⟨S64x192, .i32⟩
  | 48 => ⟨S64x192, .i1⟩
  | 49 => ⟨S64x192, .i32⟩
  | 50 => ⟨S64x192, .i32⟩
  | 51 => ⟨S64x192, .i32⟩
  | 52 => ⟨S_, .i32⟩
  | 53 => ⟨S64x192, .i32⟩
  | 54 => ⟨S64x192, .i1⟩
  | 55 => ⟨S_, .i32⟩
  | 56 => ⟨S64x192, .i32⟩
  | 57 => ⟨S64x192, .i32⟩
  | 58 => ⟨S64x192, .i32⟩
  | 59 => ⟨S64x192x1, .i32⟩
  | 60 => ⟨S64x192x8, .f32⟩
  | 61 => ⟨S64x8x192, .f32⟩
  | 62 => ⟨S1x1x64x8x192, .f32⟩
  | 63 => ⟨S16x16x8x192x64, .f32⟩
  | 64 => ⟨S16x16x64x8x192, .f32⟩
  | 65 => ⟨S_, .f32⟩
  | 66 => ⟨S16x16x64x8x192, .f32⟩
  | 67 => ⟨S16x16x64x8x192, .f32⟩
  | 68 => ⟨S16x16x64x8x192, .f32⟩
  | 69 => ⟨S16x16x64x8x192, .f32⟩
  | 70 => ⟨S1x16x64x1x192, .i1⟩
  | 71 => ⟨S_, .f32⟩
  | 72 => ⟨S_, .f32⟩
  | 73 => ⟨S16x16x64x8x192, .i1⟩
  | 74 => ⟨S16x16x64x8x192, .f32⟩
  | 75 => ⟨S16x16x64x8x192, .f32⟩
  | 76 => ⟨S_, .f32⟩
  | 77 => ⟨S16x16x64x8, .f32⟩
  | 78 => ⟨S16x16x64x8x1, .f32⟩
  | 79 => ⟨S16x16x64x8x192, .f32⟩
  | 80 => ⟨S16x16x64x8x192, .f32⟩
  | 81 => ⟨S16x16x64x8x192, .f32⟩
  | 82 => ⟨S_, .f32⟩
  | 83 => ⟨S16x16x64x8, .f32⟩
  | 84 => ⟨S16x16x8x64x64, .f32⟩
  | 85 => ⟨S16x16x64x8x64, .f32⟩
  | 86 => ⟨S16x16x64x8x1, .f32⟩
  | 87 => ⟨S16x16x64x8x64, .f32⟩
  | 88 => ⟨S16x16x64x8x64, .f32⟩
  | 89 => ⟨S16x1024x8x64, .f32⟩
  | 90 => ⟨S1024x16x8x64, .f32⟩
  | 91 => ⟨S16384x8x64, .f32⟩
  | 92 => ⟨S16x1024x8, .f32⟩
  | 93 => ⟨S1024x16x8, .f32⟩
  | 94 => ⟨S16384x8, .f32⟩
  | 95 => ⟨S16x1024x8, .f32⟩
  | 96 => ⟨S1024x16x8, .f32⟩
  | 97 => ⟨S16384x8, .f32⟩
  | 98 => ⟨S16384x8, .f32⟩
  | 99 => ⟨S16384x8, .i1⟩
  | 100 => ⟨S16384x8, .i1⟩
  | 101 => ⟨S_, .f32⟩
  | 102 => ⟨S16384x8, .f32⟩
  | 103 => ⟨S_, .f32⟩
  | 104 => ⟨S16384x8, .f32⟩
  | 105 => ⟨S_, .f32⟩
  | 106 => ⟨S16384x8, .f32⟩
  | 107 => ⟨S16384x8, .f32⟩
  | 108 => ⟨S16384x8, .f32⟩
  | 109 => ⟨S16384x8, .f32⟩
  | 110 => ⟨S16384x8, .i1⟩
  | 111 => ⟨S16384x8, .i1⟩
  | 112 => ⟨S_, .f32⟩
  | 113 => ⟨S16384x8, .f32⟩
  | 114 => ⟨S_, .f32⟩
  | 115 => ⟨S16384x8, .f32⟩
  | 116 => ⟨S_, .f32⟩
  | 117 => ⟨S16384x8, .f32⟩
  | 118 => ⟨S16384x8, .f32⟩
  | 119 => ⟨S16384x8, .f32⟩
  | 120 => ⟨S16384x8, .f32⟩
  | 121 => ⟨S16384x8, .f32⟩
  | 122 => ⟨S16384x8, .f32⟩
  | 123 => ⟨S16384x8, .f32⟩
  | 124 => ⟨S16384x8, .f32⟩
  | 125 => ⟨S16384x8, .f32⟩
  | 126 => ⟨S16384x8, .f32⟩
  | 127 => ⟨S16384x8, .f32⟩
  | _ => ⟨S16384x512, .f32⟩

abbrev hbmTy0_4 (i : Nat) : BufTy := match i % 128 with
  | 0 => ⟨S16384x8, .f32⟩
  | 1 => ⟨S16384x8, .f32⟩
  | 2 => ⟨S16384x8, .f32⟩
  | 3 => ⟨S16384x8x1, .f32⟩
  | 4 => ⟨S16384x8x64, .f32⟩
  | 5 => ⟨S16384x8x64, .f32⟩
  | 6 => ⟨S16384x8x1, .f32⟩
  | 7 => ⟨S16384x8x64, .f32⟩
  | 8 => ⟨S16384x8x64, .f32⟩
  | 9 => ⟨S16384x8x64, .f32⟩
  | 10 => ⟨S16384x8x1, .f32⟩
  | 11 => ⟨S16384x8x64, .f32⟩
  | 12 => ⟨S16384x8x64, .f32⟩
  | 13 => ⟨S16384x8x64, .f32⟩
  | 14 => ⟨S16384x8x1, .f32⟩
  | 15 => ⟨S16384x8x64, .f32⟩
  | 16 => ⟨S16384x8x64, .f32⟩
  | 17 => ⟨S16384x8x1, .f32⟩
  | 18 => ⟨S_, .f32⟩
  | 19 => ⟨S16384x8x1, .f32⟩
  | 20 => ⟨S16384x8x1, .f32⟩
  | 21 => ⟨S16384x8x64, .f32⟩
  | 22 => ⟨S16384x8x64, .f32⟩
  | 23 => ⟨S16384x8x64, .f32⟩
  | 24 => ⟨S_, .f32⟩
  | 25 => ⟨S16384x8, .f32⟩
  | 26 => ⟨S16384x8x1, .f32⟩
  | 27 => ⟨S16384x8x1, .f32⟩
  | 28 => ⟨S16384x8x64, .f32⟩
  | 29 => ⟨S16384x8x64, .f32⟩
  | 30 => ⟨S_, .f32⟩
  | 31 => ⟨S16384x8, .f32⟩
  | 32 => ⟨S16384x8x64, .f32⟩
  | 33 => ⟨S_, .f32⟩
  | 34 => ⟨S16384x8, .f32⟩
  | 35 => ⟨S16384x8x1, .f32⟩
  | 36 => ⟨S_, .f32⟩
  | 37 => ⟨S16384x8, .f32⟩
  | 38 => ⟨S16384x8x64, .f32⟩
  | 39 => ⟨S_, .f32⟩
  | 40 => ⟨S16384x8, .f32⟩
  | 41 => ⟨S16384x8x1, .f32⟩
  | 42 => ⟨S_, .f32⟩
  | 43 => ⟨S16384x8, .f32⟩
  | 44 => ⟨S16384x8x64, .f32⟩
  | 45 => ⟨S16384x8x64, .f32⟩
  | 46 => ⟨S16384x8x64, .f32⟩
  | 47 => ⟨S_, .f32⟩
  | 48 => ⟨S16384x8, .f32⟩
  | 49 => ⟨S16384x8x1, .f32⟩
  | 50 => ⟨S_, .f32⟩
  | 51 => ⟨S16384x8, .f32⟩
  | 52 => ⟨S16384x8, .f32⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S16384x8, .f32⟩
  | 61 => ⟨S16384x8, .f32⟩
  | 62 => ⟨S16384x8, .f32⟩
  | 63 => ⟨S16384x8, .f32⟩
  | 64 => ⟨S16384x8, .f32⟩
  | 65 => ⟨S16384x8, .f32⟩
  | 66 => ⟨S16384x8, .f32⟩
  | 67 => ⟨S16384x8, .f32⟩
  | 68 => ⟨S16384x8, .f32⟩
  | 69 => ⟨S16384x8, .f32⟩
  | 70 => ⟨S16384x1x8, .f32⟩
  | 71 => ⟨S1x16384x8, .f32⟩
  | 72 => ⟨S1x256x64x8, .f32⟩
  | 73 => ⟨S16384x1x8, .f32⟩
  | 74 => ⟨S1x16384x8, .f32⟩
  | 75 => ⟨S1x256x64x8, .f32⟩
  | 76 => ⟨S16384x1x8x64, .f32⟩
  | 77 => ⟨S1x16384x8x64, .f32⟩
  | 78 => ⟨S1x256x64x8x64, .f32⟩
  | 79 => ⟨S1x256x64x8x64, .f32⟩
  | 80 => ⟨S1x256x64x8x64, .f32⟩
  | 81 => ⟨S1x256x64x8x64, .f32⟩
  | 82 => ⟨S_, .f32⟩
  | 83 => ⟨S1x256x64x8, .f32⟩
  | 84 => ⟨S1x256x64x8x1, .f32⟩
  | 85 => ⟨S1x256x64x8x1, .f32⟩
  | 86 => ⟨S1x256x64x8x64, .f32⟩
  | 87 => ⟨S1x256x64x8x64, .f32⟩
  | 88 => ⟨S_, .f32⟩
  | 89 => ⟨S256x64x8, .f32⟩
  | 90 => ⟨S1x256x64x8, .f32⟩
  | 91 => ⟨S1x256x64x8, .f32⟩
  | 92 => ⟨S1x256x8x64x64, .f32⟩
  | 93 => ⟨S1x256x8x64x192, .f32⟩
  | 94 => ⟨S1x256x64x8x192, .f32⟩
  | 95 => ⟨S1x256x64x8x192, .f32⟩
  | 96 => ⟨S1x256x64x8x192, .f32⟩
  | 97 => ⟨S1x256x64x8x192, .f32⟩
  | 98 => ⟨S1x256x64x8x192, .f32⟩
  | 99 => ⟨S_, .f32⟩
  | 100 => ⟨S1x256x64x8, .f32⟩
  | 101 => ⟨S1x256x64x8x1, .f32⟩
  | 102 => ⟨S_, .f32⟩
  | 103 => ⟨S256x64x8, .f32⟩
  | 104 => ⟨S1x256x64x8, .f32⟩
  | 105 => ⟨S1x256x64x8, .f32⟩
  | 106 => ⟨S1x256x64x8, .f32⟩
  | 107 => ⟨S1x256x64x8x192, .f32⟩
  | 108 => ⟨S1x256x64x8x192, .f32⟩
  | 109 => ⟨S1x256x64x8x192, .f32⟩
  | 110 => ⟨S_, .f32⟩
  | 111 => ⟨S1x256x64x8x192, .f32⟩
  | 112 => ⟨S1x256x64x8x192, .f32⟩
  | 113 => ⟨S1x64x4x64x8x192, .f32⟩
  | 114 => ⟨S_, .f32⟩
  | 115 => ⟨S1x4x64x8x192, .f32⟩
  | 116 => ⟨S1x1x4x64x8x192, .f32⟩
  | 117 => ⟨S_, .f32⟩
  | 118 => ⟨S4x64x8x192, .f32⟩
  | 119 => ⟨S1x256x64x8x192, .f32⟩
  | 120 => ⟨S4x8x64x192, .f32⟩
  | 121 => ⟨S1x8x64x192, .f32⟩
  | 122 => ⟨S8x64x192, .f32⟩
  | 123 => ⟨S1x8x64x192, .f32⟩
  | 124 => ⟨S8x64x192, .f32⟩
  | 125 => ⟨S1x8x64x192, .f32⟩
  | 126 => ⟨S8x64x192, .f32⟩
  | 127 => ⟨S1x8x64x192, .f32⟩
  | _ => ⟨S16384x512, .f32⟩

abbrev hbmTy0_5 (i : Nat) : BufTy := match i % 128 with
  | 0 => ⟨S8x64x192, .f32⟩
  | 1 => ⟨S_, .f32⟩
  | 2 => ⟨S8x256x384, .f32⟩
  | 3 => ⟨S_, .f32⟩
  | 4 => ⟨S8x256x384, .f32⟩
  | 5 => ⟨S8x256x384, .f32⟩
  | 6 => ⟨S_, .f32⟩
  | 7 => ⟨S8x256x384, .f32⟩
  | 8 => ⟨S8x256x384, .f32⟩
  | 9 => ⟨S_, .f32⟩
  | 10 => ⟨S8x256x384, .f32⟩
  | 11 => ⟨S8x256x384, .f32⟩
  | 12 => ⟨S_, .f32⟩
  | 13 => ⟨S1x256x64x8x192, .f32⟩
  | 14 => ⟨S1x256x64x8x192, .f32⟩
  | 15 => ⟨S1x256x8x192x64, .f32⟩
  | 16 => ⟨S1x256x8x64x64, .f32⟩
  | 17 => ⟨S1x256x64x8x64, .f32⟩
  | 18 => ⟨S1x16384x8x64, .f32⟩
  | 19 => ⟨S16384x1x8x64, .f32⟩
  | 20 => ⟨S16384x8x64, .f32⟩
  | 21 => ⟨S16384x512, .f32⟩
  | 22 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_7 : Ref sig .tc := ⟨.hbm, 74, rfl⟩
abbrev main_v60 : Ref sig .tc := ⟨.hbm, 75, rfl⟩
abbrev main_v61 : Ref sig .tc := ⟨.hbm, 76, rfl⟩
abbrev main_c_8 : Ref sig .tc := ⟨.hbm, 77, rfl⟩
abbrev main_v62 : Ref sig .tc := ⟨.hbm, 78, rfl⟩
abbrev main_v63 : Ref sig .tc := ⟨.hbm, 79, rfl⟩
abbrev main_c_9 : Ref sig .tc := ⟨.hbm, 80, rfl⟩
abbrev main_c_10 : Ref sig .tc := ⟨.hbm, 81, rfl⟩
abbrev main_call0_v0 : Ref sig .tc := ⟨.hbm, 82, rfl⟩
abbrev main_call0_v1 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_15 : Ref sig .tc := ⟨.hbm, 101, rfl⟩
abbrev main_v77 : Ref sig .tc := ⟨.hbm, 102, rfl⟩
abbrev main_v78 : Ref sig .tc := ⟨.hbm, 103, rfl⟩
abbrev main_c_16 : Ref sig .tc := ⟨.hbm, 104, rfl⟩
abbrev main_v79 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_18 : Ref sig .tc := ⟨.hbm, 113, rfl⟩
abbrev main_v86 : Ref sig .tc := ⟨.hbm, 114, rfl⟩
abbrev main_v87 : Ref sig .tc := ⟨.hbm, 115, rfl⟩
abbrev main_c_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_21 : Ref sig .tc := ⟨.hbm, 147, rfl⟩
abbrev main_call2_v0 : Ref sig .tc := ⟨.hbm, 148, rfl⟩
abbrev main_v117_1 : Ref sig .tc := ⟨.hbm, 149, rfl⟩
abbrev main_call2_v2 : Ref sig .tc := ⟨.hbm, 150, rfl⟩
abbrev main_v117_0 : Ref sig .tc := ⟨.hbm, 151, rfl⟩
abbrev main_call2_cst : Ref sig .tc := ⟨.hbm, 152, rfl⟩
abbrev main_v117_2 : Ref sig .tc := ⟨.hbm, 153, rfl⟩
abbrev main_cst_22 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_23 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_24 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_25 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_26 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_27 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_c_28 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_c_29 : Ref sig .tc := ⟨.hbm, 221, rfl⟩
abbrev main_v178 : Ref sig .tc := ⟨.hbm, 222, rfl⟩
abbrev main_v179 : Ref sig .tc := ⟨.hbm, 223, rfl⟩
abbrev main_c_30 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_c_31 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_c_32 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_33 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_c_34 : Ref sig .tc := ⟨.hbm, 249, rfl⟩
abbrev main_v201 : Ref sig .tc := ⟨.hbm, 250, rfl⟩
abbrev main_v202 : Ref sig .tc := ⟨.hbm, 251, rfl⟩
abbrev main_c_35 : Ref sig .tc := ⟨.hbm, 252, rfl⟩
abbrev main_v203 : Ref sig .tc := ⟨.hbm, 253, rfl⟩
abbrev main_v204 : Ref sig .tc := ⟨.hbm, 254, rfl⟩
abbrev main_c_36 : Ref sig .tc := ⟨.hbm, 255, rfl⟩
abbrev main_c_37 : Ref sig .tc := ⟨.hbm, 256, rfl⟩
abbrev main_call3_v0 : Ref sig .tc := ⟨.hbm, 257, rfl⟩
abbrev main_call3_v1 : Ref sig .tc := ⟨.hbm, 258, rfl⟩
abbrev main_v205 : Ref sig .tc := ⟨.hbm, 259, rfl⟩
abbrev main_v206 : Ref sig .tc := ⟨.hbm, 260, rfl⟩
abbrev main_c_38 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_39 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_40 : Ref sig .tc := ⟨.hbm, 269, rfl⟩
abbrev main_v213 : Ref sig .tc := ⟨.hbm, 270, rfl⟩
abbrev main_v214 : Ref sig .tc := ⟨.hbm, 271, rfl⟩
abbrev main_cst_41 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_c_42 : Ref sig .tc := ⟨.hbm, 276, rfl⟩
abbrev main_v218 : Ref sig .tc := ⟨.hbm, 277, rfl⟩
abbrev main_v219 : Ref sig .tc := ⟨.hbm, 278, rfl⟩
abbrev main_c_43 : Ref sig .tc := ⟨.hbm, 279, rfl⟩
abbrev main_v220 : Ref sig .tc := ⟨.hbm, 280, rfl⟩
abbrev main_v221 : Ref sig .tc := ⟨.hbm, 281, rfl⟩
abbrev main_c_44 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_c_45 : Ref sig .tc := ⟨.hbm, 288, rfl⟩
abbrev main_v227 : Ref sig .tc := ⟨.hbm, 289, rfl⟩
abbrev main_v228 : Ref sig .tc := ⟨.hbm, 290, rfl⟩
abbrev main_c_46 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_47 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_cst_48 : Ref sig .tc := ⟨.hbm, 307, rfl⟩
abbrev main_call5_v0 : Ref sig .tc := ⟨.hbm, 308, rfl⟩
abbrev main_call5_v1 : Ref sig .tc := ⟨.hbm, 309, rfl⟩
abbrev main_call5_v2 : Ref sig .tc := ⟨.hbm, 310, rfl⟩
abbrev main_v243 : Ref sig .tc := ⟨.hbm, 311, rfl⟩
abbrev main_cst_49 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_cst_50 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_cst_51 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_cst_52 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_c_53 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_c_54 : Ref sig .tc := ⟨.hbm, 369, rfl⟩
abbrev main_v296 : Ref sig .tc := ⟨.hbm, 370, rfl⟩
abbrev main_v297 : Ref sig .tc := ⟨.hbm, 371, rfl⟩
abbrev main_c_55 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_c_56 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_c_57 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_c_58 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_c_59 : Ref sig .tc := ⟨.hbm, 397, rfl⟩
abbrev main_v319 : Ref sig .tc := ⟨.hbm, 398, rfl⟩
abbrev main_v320 : Ref sig .tc := ⟨.hbm, 399, rfl⟩
abbrev main_c_60 : Ref sig .tc := ⟨.hbm, 400, rfl⟩
abbrev main_v321 : Ref sig .tc := ⟨.hbm, 401, rfl⟩
abbrev main_v322 : Ref sig .tc := ⟨.hbm, 402, rfl⟩
abbrev main_c_61 : Ref sig .tc := ⟨.hbm, 403, rfl⟩
abbrev main_c_62 : Ref sig .tc := ⟨.hbm, 404, rfl⟩
abbrev main_call6_v0 : Ref sig .tc := ⟨.hbm, 405, rfl⟩
abbrev main_call6_v1 : Ref sig .tc := ⟨.hbm, 406, rfl⟩
abbrev main_v323 : Ref sig .tc := ⟨.hbm, 407, rfl⟩
abbrev main_v324 : Ref sig .tc := ⟨.hbm, 408, rfl⟩
abbrev main_c_63 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_cst_64 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_cst_65 : Ref sig .tc := ⟨.hbm, 417, rfl⟩
abbrev main_v331 : Ref sig .tc := ⟨.hbm, 418, rfl⟩
abbrev main_v332 : Ref sig .tc := ⟨.hbm, 419, rfl⟩
abbrev main_cst_66 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_c_67 : Ref sig .tc := ⟨.hbm, 424, rfl⟩
abbrev main_v336 : Ref sig .tc := ⟨.hbm, 425, rfl⟩
abbrev main_v337 : Ref sig .tc := ⟨.hbm, 426, rfl⟩
abbrev main_c_68 : Ref sig .tc := ⟨.hbm, 427, rfl⟩
abbrev main_v338 : Ref sig .tc := ⟨.hbm, 428, rfl⟩
abbrev main_v339 : Ref sig .tc := ⟨.hbm, 429, rfl⟩
abbrev main_c_69 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_c_70 : Ref sig .tc := ⟨.hbm, 436, rfl⟩
abbrev main_v345 : Ref sig .tc := ⟨.hbm, 437, rfl⟩
abbrev main_v346 : Ref sig .tc := ⟨.hbm, 438, rfl⟩
abbrev main_c_71 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_cst_72 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_cst_73 : Ref sig .tc := ⟨.hbm, 455, rfl⟩
abbrev main_call8_v0 : Ref sig .tc := ⟨.hbm, 456, rfl⟩
abbrev main_call8_v1 : Ref sig .tc := ⟨.hbm, 457, rfl⟩
abbrev main_call8_v2 : Ref sig .tc := ⟨.hbm, 458, rfl⟩
abbrev main_v361 : Ref sig .tc := ⟨.hbm, 459, rfl⟩
abbrev main_cst_74 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_cst_75 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_cst_76 : Ref sig .tc := ⟨.hbm, 485, rfl⟩
abbrev main_v385 : Ref sig .tc := ⟨.hbm, 486, rfl⟩
abbrev main_cst_77 : Ref sig .tc := ⟨.hbm, 487, rfl⟩
abbrev main_v386 : Ref sig .tc := ⟨.hbm, 488, rfl⟩
abbrev main_cst_78 : Ref sig .tc := ⟨.hbm, 489, rfl⟩
abbrev main_v387 : Ref sig .tc := ⟨.hbm, 490, rfl⟩
abbrev main_v388 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_v392 : Ref sig .tc := ⟨.hbm, 495, rfl⟩
abbrev main_cst_79 : Ref sig .tc := ⟨.hbm, 496, rfl⟩
abbrev main_v393 : Ref sig .tc := ⟨.hbm, 497, rfl⟩
abbrev main_cst_80 : Ref sig .tc := ⟨.hbm, 498, rfl⟩
abbrev main_v394 : Ref sig .tc := ⟨.hbm, 499, rfl⟩
abbrev main_cst_81 : Ref sig .tc := ⟨.hbm, 500, rfl⟩
abbrev main_v395 : Ref sig .tc := ⟨.hbm, 501, rfl⟩
abbrev main_v396 : Ref sig .tc := ⟨.hbm, 502, rfl⟩
abbrev main_v397 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_v402 : Ref sig .tc := ⟨.hbm, 508, rfl⟩
abbrev main_v403 : Ref sig .tc := ⟨.hbm, 509, rfl⟩
abbrev main_v404 : Ref sig .tc := ⟨.hbm, 510, rfl⟩
abbrev main_v405 : Ref sig .tc := ⟨.hbm, 511, rfl⟩
abbrev main_v406 : Ref sig .tc := ⟨.hbm, 512, rfl⟩
abbrev main_v407 : Ref sig .tc := ⟨.hbm, 513, rfl⟩
abbrev main_v408 : Ref sig .tc := ⟨.hbm, 514, rfl⟩
abbrev main_v409 : Ref sig .tc := ⟨.hbm, 515, rfl⟩
abbrev main_v410 : Ref sig .tc := ⟨.hbm, 516, rfl⟩
abbrev main_v411 : Ref sig .tc := ⟨.hbm, 517, rfl⟩
abbrev main_v412 : Ref sig .tc := ⟨.hbm, 518, rfl⟩
abbrev main_v413 : Ref sig .tc := ⟨.hbm, 519, rfl⟩
abbrev main_v414 : Ref sig .tc := ⟨.hbm, 520, rfl⟩
abbrev main_v415 : Ref sig .tc := ⟨.hbm, 521, rfl⟩
abbrev main_v416 : Ref sig .tc := ⟨.hbm, 522, rfl⟩
abbrev main_v417 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_v423 : Ref sig .tc := ⟨.hbm, 529, rfl⟩
abbrev main_cst_82 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_cst_83 : Ref sig .tc := ⟨.hbm, 536, rfl⟩
abbrev main_v429 : Ref sig .tc := ⟨.hbm, 537, rfl⟩
abbrev main_v430 : Ref sig .tc := ⟨.hbm, 538, rfl⟩
abbrev main_v431 : Ref sig .tc := ⟨.hbm, 539, rfl⟩
abbrev main_v432 : Ref sig .tc := ⟨.hbm, 540, rfl⟩
abbrev main_v433 : Ref sig .tc := ⟨.hbm, 541, rfl⟩
abbrev main_cst_84 : Ref sig .tc := ⟨.hbm, 542, rfl⟩
abbrev main_v434 : Ref sig .tc := ⟨.hbm, 543, rfl⟩
abbrev main_v435 : Ref sig .tc := ⟨.hbm, 544, rfl⟩
abbrev main_cst_85 : Ref sig .tc := ⟨.hbm, 545, rfl⟩
abbrev main_v436 : Ref sig .tc := ⟨.hbm, 546, rfl⟩
abbrev main_v437 : Ref sig .tc := ⟨.hbm, 547, rfl⟩
abbrev main_cst_86 : Ref sig .tc := ⟨.hbm, 548, rfl⟩
abbrev main_v438 : Ref sig .tc := ⟨.hbm, 549, rfl⟩
abbrev main_v439 : Ref sig .tc := ⟨.hbm, 550, rfl⟩
abbrev main_cst_87 : Ref sig .tc := ⟨.hbm, 551, rfl⟩
abbrev main_v440 : Ref sig .tc := ⟨.hbm, 552, rfl⟩
abbrev main_v441 : Ref sig .tc := ⟨.hbm, 553, rfl⟩
abbrev main_cst_88 : Ref sig .tc := ⟨.hbm, 554, rfl⟩
abbrev main_v442 : Ref sig .tc := ⟨.hbm, 555, rfl⟩
abbrev main_v443 : Ref sig .tc := ⟨.hbm, 556, rfl⟩
abbrev main_v444 : Ref sig .tc := ⟨.hbm, 557, rfl⟩
abbrev main_v445 : Ref sig .tc := ⟨.hbm, 558, rfl⟩
abbrev main_cst_89 : Ref sig .tc := ⟨.hbm, 559, rfl⟩
abbrev main_v446 : Ref sig .tc := ⟨.hbm, 560, rfl⟩
abbrev main_v447 : Ref sig .tc := ⟨.hbm, 561, rfl⟩
abbrev main_cst_90 : Ref sig .tc := ⟨.hbm, 562, rfl⟩
abbrev main_v448 : Ref sig .tc := ⟨.hbm, 563, rfl⟩
abbrev main_v449 : Ref sig .tc := ⟨.hbm, 564, rfl⟩
abbrev main_v450 : Ref sig .tc := ⟨.hbm, 565, rfl⟩
abbrev main_v451 : Ref sig .tc := ⟨.hbm, 566, rfl⟩
abbrev main_v452 : Ref sig .tc := ⟨.hbm, 567, rfl⟩
abbrev main_v453 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_v459 : Ref sig .tc := ⟨.hbm, 574, rfl⟩
abbrev main_v460 : Ref sig .tc := ⟨.hbm, 575, rfl⟩
abbrev main_v461 : Ref sig .tc := ⟨.hbm, 576, rfl⟩
abbrev main_v462 : Ref sig .tc := ⟨.hbm, 577, rfl⟩
abbrev main_v463 : Ref sig .tc := ⟨.hbm, 578, rfl⟩
abbrev main_v464 : Ref sig .tc := ⟨.hbm, 579, rfl⟩
abbrev main_v465 : Ref sig .tc := ⟨.hbm, 580, rfl⟩
abbrev main_v466 : Ref sig .tc := ⟨.hbm, 581, rfl⟩
abbrev main_v467 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_v471 : Ref sig .tc := ⟨.hbm, 586, rfl⟩
abbrev main_v472 : Ref sig .tc := ⟨.hbm, 587, rfl⟩
abbrev main_v473 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_v478 : Ref sig .tc := ⟨.hbm, 593, rfl⟩
abbrev main_cst_91 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_v482 : Ref sig .tc := ⟨.hbm, 598, rfl⟩
abbrev main_v483 : Ref sig .tc := ⟨.hbm, 599, rfl⟩
abbrev main_cst_92 : Ref sig .tc := ⟨.hbm, 600, rfl⟩
abbrev main_v484 : Ref sig .tc := ⟨.hbm, 601, rfl⟩
abbrev main_v485 : Ref sig .tc := ⟨.hbm, 602, rfl⟩
abbrev main_v486 : Ref sig .tc := ⟨.hbm, 603, rfl⟩
abbrev main_v487 : Ref sig .tc := ⟨.hbm, 604, rfl⟩
abbrev main_v488 : Ref sig .tc := ⟨.hbm, 605, rfl⟩
abbrev main_v489 : Ref sig .tc := ⟨.hbm, 606, rfl⟩
abbrev main_v490 : Ref sig .tc := ⟨.hbm, 607, rfl⟩
abbrev main_v491 : Ref sig .tc := ⟨.hbm, 608, rfl⟩
abbrev main_v492 : Ref sig .tc := ⟨.hbm, 609, rfl⟩
abbrev main_v493 : Ref sig .tc := ⟨.hbm, 610, rfl⟩
abbrev main_cst_93 : Ref sig .tc := ⟨.hbm, 611, rfl⟩
abbrev main_v494 : Ref sig .tc := ⟨.hbm, 612, rfl⟩
abbrev main_v495 : Ref sig .tc := ⟨.hbm, 613, rfl⟩
abbrev main_cst_94 : Ref sig .tc := ⟨.hbm, 614, rfl⟩
abbrev main_v496 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_call9_cst : Ref sig .tc := ⟨.hbm, 622, rfl⟩
abbrev main_call9_v0 : Ref sig .tc := ⟨.hbm, 623, rfl⟩
abbrev main_v503 : Ref sig .tc := ⟨.hbm, 624, rfl⟩
abbrev main_v504 : Ref sig .tc := ⟨.hbm, 625, rfl⟩
abbrev main_cst_95 : Ref sig .tc := ⟨.hbm, 626, rfl⟩
abbrev main_v505 : Ref sig .tc := ⟨.hbm, 627, rfl⟩
abbrev main_v506 : Ref sig .tc := ⟨.hbm, 628, rfl⟩
abbrev main_cst_96 : Ref sig .tc := ⟨.hbm, 629, rfl⟩
abbrev main_v507 : Ref sig .tc := ⟨.hbm, 630, rfl⟩
abbrev main_v508 : Ref sig .tc := ⟨.hbm, 631, rfl⟩
abbrev main_v509 : Ref sig .tc := ⟨.hbm, 632, rfl⟩
abbrev main_v510 : Ref sig .tc := ⟨.hbm, 633, rfl⟩
abbrev main_v511 : Ref sig .tc := ⟨.hbm, 634, rfl⟩
abbrev main_v512 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_cst_97 : Ref sig .tc := ⟨.hbm, 641, rfl⟩
abbrev main_v518 : Ref sig .tc := ⟨.hbm, 642, rfl⟩
abbrev main_cst_98 : Ref sig .tc := ⟨.hbm, 643, rfl⟩
abbrev main_v519 : Ref sig .tc := ⟨.hbm, 644, rfl⟩
abbrev main_v520 : Ref sig .tc := ⟨.hbm, 645, rfl⟩
abbrev main_cst_99 : Ref sig .tc := ⟨.hbm, 646, rfl⟩
abbrev main_v521 : Ref sig .tc := ⟨.hbm, 647, rfl⟩
abbrev main_v522 : Ref sig .tc := ⟨.hbm, 648, rfl⟩
abbrev main_cst_100 : Ref sig .tc := ⟨.hbm, 649, rfl⟩
abbrev main_v523 : Ref sig .tc := ⟨.hbm, 650, rfl⟩
abbrev main_v524 : Ref sig .tc := ⟨.hbm, 651, rfl⟩
abbrev main_cst_101 : Ref sig .tc := ⟨.hbm, 652, rfl⟩
abbrev main_v525 : Ref sig .tc := ⟨.hbm, 653, rfl⟩
abbrev main_v526 : Ref sig .tc := ⟨.hbm, 654, rfl⟩
abbrev main_v527 : Ref sig .tc := ⟨.hbm, 655, rfl⟩
abbrev main_v528 : Ref sig .tc := ⟨.hbm, 656, rfl⟩
abbrev main_v529 : Ref sig .tc := ⟨.hbm, 657, rfl⟩
abbrev main_v530 : Ref sig .tc := ⟨.hbm, 658, rfl⟩
abbrev main_v531 : Ref sig .tc := ⟨.hbm, 659, rfl⟩
abbrev main_v532 : Ref sig .tc := ⟨.hbm, 660, rfl⟩
abbrev main_v533 : Ref sig .tc := ⟨.hbm, 661, rfl⟩
abbrev main_v534 : Ref sig .tc := ⟨.hbm, 662, rfl⟩

abbrev nD : Nat := 1
abbrev τ : Topo := Topo.v7x

variable {F : FTy → Type} [FloatOps F]

def κ : String → Option EReal := fun
  | "mask" => some ⊥
  | _ => none
-- ==== BandDkv.lean ====
abbrev S16384x512 : Shape := ⟨2, ![16384, 512]⟩
abbrev S32x8 : Shape := ⟨2, ![32, 8]⟩
abbrev S16384x1x8x64 : Shape := ⟨4, ![16384, 1, 8, 64]⟩
abbrev S1x8x16384x64 : Shape := ⟨4, ![1, 8, 16384, 64]⟩
abbrev S_ : Shape := ⟨0, ![]⟩
abbrev S1x8x64x256x64 : Shape := ⟨5, ![1, 8, 64, 256, 64]⟩
abbrev S64x1x384 : Shape := ⟨3, ![64, 1, 384]⟩
abbrev S1x8x16512x64 : Shape := ⟨4, ![1, 8, 16512, 64]⟩
abbrev S1x8x64x64x64 : Shape := ⟨5, ![1, 8, 64, 64, 64]⟩
abbrev S1x8x64x384x64 : Shape := ⟨5, ![1, 8, 64, 384, 64]⟩
abbrev S1x8x64x256x384 : Shape := ⟨5, ![1, 8, 64, 256, 384]⟩
abbrev S1x8 : Shape := ⟨2, ![1, 8]⟩
abbrev S15x8 : Shape := ⟨2, ![15, 8]⟩
abbrev S23x8 : Shape := ⟨2, ![23, 8]⟩
abbrev S12x8 : Shape := ⟨2, ![12, 8]⟩
abbrev S7x8 : Shape := ⟨2, ![7, 8]⟩
abbrev S69x8 : Shape := ⟨2, ![69, 8]⟩
abbrev S60x8 : Shape := ⟨2, ![60, 8]⟩
abbrev S129x8 : Shape := ⟨2, ![129, 8]⟩
abbrev S8x129 : Shape := ⟨2, ![8, 129]⟩
abbrev S8x255 : Shape := ⟨2, ![8, 255]⟩
abbrev S8x639 : Shape := ⟨2, ![8, 639]⟩
abbrev S8x384 : Shape := ⟨2, ![8, 384]⟩
abbrev S8x2 : Shape := ⟨2, ![8, 2]⟩
abbrev S8x641 : Shape := ⟨2, ![8, 641]⟩
abbrev S8x1x641 : Shape := ⟨3, ![8, 1, 641]⟩
abbrev S8x256x641 : Shape := ⟨3, ![8, 256, 641]⟩
abbrev S8x164096 : Shape := ⟨2, ![8, 164096]⟩
abbrev S8x163840 : Shape := ⟨2, ![8, 163840]⟩
abbrev S8x256x640 : Shape := ⟨3, ![8, 256, 640]⟩
abbrev S8x256x384 : Shape := ⟨3, ![8, 256, 384]⟩
abbrev S8x256 : Shape := ⟨2, ![8, 256]⟩
abbrev S8x383 : Shape := ⟨2, ![8, 383]⟩
abbrev S8x384x641 : Shape := ⟨3, ![8, 384, 641]⟩
abbrev S8x246144 : Shape := ⟨2, ![8, 246144]⟩
abbrev S8x245760 : Shape := ⟨2, ![8, 245760]⟩
abbrev S8x384x640 : Shape := ⟨3, ![8, 384, 640]⟩
abbrev S8x384x256 : Shape := ⟨3, ![8, 384, 256]⟩
abbrev S8x1x256x384 : Shape := ⟨4, ![8, 1, 256, 384]⟩
abbrev S1x8x1x256x384 : Shape := ⟨5, ![1, 8, 1, 256, 384]⟩
abbrev S1x8x64x256 : Shape := ⟨4, ![1, 8, 64, 256]⟩
abbrev S1x8x64x256x1 : Shape := ⟨5, ![1, 8, 64, 256, 1]⟩
abbrev S16384x8x64 : Shape := ⟨3, ![16384, 8, 64]⟩
abbrev S1x8x16384x1 : Shape := ⟨4, ![1, 8, 16384, 1]⟩
abbrev S16384x1x8x1 : Shape := ⟨4, ![16384, 1, 8, 1]⟩
abbrev S16384x8x1 : Shape := ⟨3, ![16384, 8, 1]⟩
abbrev S4096x4x8x64 : Shape := ⟨4, ![4096, 4, 8, 64]⟩
abbrev S4x8x4096x64 : Shape := ⟨4, ![4, 8, 4096, 64]⟩
abbrev S4x8x16x256x64 : Shape := ⟨5, ![4, 8, 16, 256, 64]⟩
abbrev S16x1x384 : Shape := ⟨3, ![16, 1, 384]⟩
abbrev S4x8x4224x64 : Shape := ⟨4, ![4, 8, 4224, 64]⟩
abbrev S4x8x16x64x64 : Shape := ⟨5, ![4, 8, 16, 64, 64]⟩
abbrev S4x8x16x384x64 : Shape := ⟨5, ![4, 8, 16, 384, 64]⟩
abbrev S4x8x16x256x384 : Shape := ⟨5, ![4, 8, 16, 256, 384]⟩
abbrev S19x8 : Shape := ⟨2, ![19, 8]⟩
abbrev S10x8 : Shape := ⟨2, ![10, 8]⟩
abbrev S6x8 : Shape := ⟨2, ![6, 8]⟩
abbrev S3x8 : Shape := ⟨2, ![3, 8]⟩
abbrev S2x8 : Shape := ⟨2, ![2, 8]⟩
abbrev S4x8x16x256 : Shape := ⟨4, ![4, 8, 16, 256]⟩
abbrev S4x8x16x256x1 : Shape := ⟨5, ![4, 8, 16, 256, 1]⟩
abbrev S4x8x4096x1 : Shape := ⟨4, ![4, 8, 4096, 1]⟩
abbrev S4096x4x8x1 : Shape := ⟨4, ![4096, 4, 8, 1]⟩
abbrev S1024x16x8x64 : Shape := ⟨4, ![1024, 16, 8, 64]⟩
abbrev S16x8x1024x64 : Shape := ⟨4, ![16, 8, 1024, 64]⟩
abbrev S16x8x4x256x64 : Shape := ⟨5, ![16, 8, 4, 256, 64]⟩
abbrev S4x1x384 : Shape := ⟨3, ![4, 1, 384]⟩
abbrev S16x8x1152x64 : Shape := ⟨4, ![16, 8, 1152, 64]⟩
abbrev S16x8x4x64x64 : Shape := ⟨5, ![16, 8, 4, 64, 64]⟩
abbrev S16x8x4x384x64 : Shape := ⟨5, ![16, 8, 4, 384, 64]⟩
abbrev S16x8x4x256x384 : Shape := ⟨5, ![16, 8, 4, 256, 384]⟩
abbrev S30x8 : Shape := ⟨2, ![30, 8]⟩
abbrev S9x8 : Shape := ⟨2, ![9, 8]⟩
abbrev S5x8 : Shape := ⟨2, ![5, 8]⟩
abbrev S16x8x4x256 : Shape := ⟨4, ![16, 8, 4, 256]⟩
abbrev S16x8x4x256x1 : Shape := ⟨5, ![16, 8, 4, 256, 1]⟩
abbrev S16x8x1024x1 : Shape := ⟨4, ![16, 8, 1024, 1]⟩
abbrev S1024x16x8x1 : Shape := ⟨4, ![1024, 16, 8, 1]⟩
abbrev S16384x8 : Shape := ⟨2, ![16384, 8]⟩
abbrev S16384x128 : Shape := ⟨2, ![16384, 128]⟩
abbrev S256x512 : Shape := ⟨2, ![256, 512]⟩
abbrev S64x512 : Shape := ⟨2, ![64, 512]⟩
abbrev S64x128 : Shape := ⟨2, ![64, 128]⟩
abbrev S256x128 : Shape := ⟨2, ![256, 128]⟩
abbrev S512x256 : Shape := ⟨2, ![512, 256]⟩
abbrev S384x512 : Shape := ⟨2, ![384, 512]⟩
abbrev S384x128 : Shape := ⟨2, ![384, 128]⟩
abbrev S384x1 : Shape := ⟨2, ![384, 1]⟩
abbrev S384x64 : Shape := ⟨2, ![384, 64]⟩
abbrev S64x256 : Shape := ⟨2, ![64, 256]⟩
abbrev S384x256 : Shape := ⟨2, ![384, 256]⟩
abbrev S1x384x256 : Shape := ⟨3, ![1, 384, 256]⟩
abbrev S512x384 : Shape := ⟨2, ![512, 384]⟩
abbrev S64x384 : Shape := ⟨2, ![64, 384]⟩

abbrev nBuf : Space → Nat
  | .hbm => 544
  | .vmem => 37
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x1x8x64, .f32⟩
  | 6 => ⟨S1x8x16384x64, .f32⟩
  | 7 => ⟨S_, .f32⟩
  | 8 => ⟨S1x8x16384x64, .f32⟩
  | 9 => ⟨S1x8x16384x64, .f32⟩
  | 10 => ⟨S1x8x64x256x64, .f32⟩
  | 11 => ⟨S64x1x384, .i32⟩
  | 12 => ⟨S_, .i32⟩
  | 13 => ⟨S64x1x384, .i32⟩
  | 14 => ⟨S64x1x384, .i32⟩
  | 15 => ⟨S_, .i32⟩
  | 16 => ⟨S64x1x384, .i32⟩
  | 17 => ⟨S64x1x384, .i32⟩
  | 18 => ⟨S64x1x384, .i32⟩
  | 19 => ⟨S64x1x384, .i32⟩
  | 20 => ⟨S_, .i32⟩
  | 21 => ⟨S64x1x384, .i32⟩
  | 22 => ⟨S64x1x384, .i1⟩
  | 23 => ⟨S_, .i32⟩
  | 24 => ⟨S64x1x384, .i32⟩
  | 25 => ⟨S64x1x384, .i1⟩
  | 26 => ⟨S64x1x384, .i1⟩
  | 27 => ⟨S16384x1x8x64, .f32⟩
  | 28 => ⟨S1x8x16384x64, .f32⟩
  | 29 => ⟨S_, .i32⟩
  | 30 => ⟨S_, .f32⟩
  | 31 => ⟨S1x8x16512x64, .f32⟩
  | 32 => ⟨S1x8x16384x64, .f32⟩
  | 33 => ⟨S1x8x64x256x64, .f32⟩
  | 34 => ⟨S1x8x16384x64, .f32⟩
  | 35 => ⟨S1x8x64x256x64, .f32⟩
  | 36 => ⟨S1x8x64x64x64, .f32⟩
  | 37 => ⟨S1x8x16384x64, .f32⟩
  | 38 => ⟨S1x8x64x256x64, .f32⟩
  | 39 => ⟨S1x8x64x64x64, .f32⟩
  | 40 => ⟨S1x8x64x384x64, .f32⟩
  | 41 => ⟨S1x8x64x256x384, .f32⟩
  | 42 => ⟨S1x8, .f32⟩
  | 43 => ⟨S15x8, .f32⟩
  | 44 => ⟨S1x8, .f32⟩
  | 45 => ⟨S23x8, .f32⟩
  | 46 => ⟨S1x8, .f32⟩
  | 47 => ⟨S12x8, .f32⟩
  | 48 => ⟨S1x8, .f32⟩
  | 49 => ⟨S7x8, .f32⟩
  | 50 => ⟨S1x8, .f32⟩
  | 51 => ⟨S1x8, .f32⟩
  | 52 => ⟨S1x8, .f32⟩
  | 53 => ⟨S1x8, .f32⟩
  | 54 => ⟨S1x8, .f32⟩
  | 55 => ⟨S1x8, .f32⟩
  | 56 => ⟨S1x8, .f32⟩
  | 57 => ⟨S1x8, .f32⟩
  | 58 => ⟨S1x8, .f32⟩
  | 59 => ⟨S1x8, .f32⟩
  | 60 => ⟨S1x8, .f32⟩
  | 61 => ⟨S1x8, .f32⟩
  | 62 => ⟨S1x8, .f32⟩
  | 63 => ⟨S1x8, .f32⟩
  | 64 => ⟨S1x8, .f32⟩
  | 65 => ⟨S1x8, .f32⟩
  | 66 => ⟨S7x8, .f32⟩
  | 67 => ⟨S1x8, .f32⟩
  | 68 => ⟨S12x8, .f32⟩
  | 69 => ⟨S1x8, .f32⟩
  | 70 => ⟨S23x8, .f32⟩
  | 71 => ⟨S1x8, .f32⟩
  | 72 => ⟨S15x8, .f32⟩
  | 73 => ⟨S69x8, .f32⟩
  | 74 => ⟨S60x8, .f32⟩
  | 75 => ⟨S129x8, .f32⟩
  | 76 => ⟨S8x129, .f32⟩
  | 77 => ⟨S_, .f32⟩
  | 78 => ⟨S8x255, .f32⟩
  | 79 => ⟨S_, .f32⟩
  | 80 => ⟨S8x255, .f32⟩
  | 81 => ⟨S8x639, .f32⟩
  | 82 => ⟨S8x384, .f32⟩
  | 83 => ⟨S_, .f32⟩
  | 84 => ⟨S8x2, .f32⟩
  | 85 => ⟨S8x255, .f32⟩
  | 86 => ⟨S8x641, .f32⟩
  | 87 => ⟨S8x1x641, .f32⟩
  | 88 => ⟨S8x256x641, .f32⟩
  | 89 => ⟨S8x164096, .f32⟩
  | 90 => ⟨S8x163840, .f32⟩
  | 91 => ⟨S8x256x640, .f32⟩
  | 92 => ⟨S8x256x384, .f32⟩
  | 93 => ⟨S_, .f32⟩
  | 94 => ⟨S8x255, .f32⟩
  | 95 => ⟨S_, .f32⟩
  | 96 => ⟨S8x255, .f32⟩
  | 97 => ⟨S8x639, .f32⟩
  | 98 => ⟨S8x256, .f32⟩
  | 99 => ⟨S_, .f32⟩
  | 100 => ⟨S8x2, .f32⟩
  | 101 => ⟨S8x383, .f32⟩
  | 102 => ⟨S8x641, .f32⟩
  | 103 => ⟨S8x1x641, .f32⟩
  | 104 => ⟨S8x384x641, .f32⟩
  | 105 => ⟨S8x246144, .f32⟩
  | 106 => ⟨S8x245760, .f32⟩
  | 107 => ⟨S8x384x640, .f32⟩
  | 108 => ⟨S8x384x256, .f32⟩
  | 109 => ⟨S8x1x256x384, .f32⟩
  | 110 => ⟨S1x8x1x256x384, .f32⟩
  | 111 => ⟨S1x8x64x256x384, .f32⟩
  | 112 => ⟨S1x8x64x256x384, .f32⟩
  | 113 => ⟨S_, .f32⟩
  | 114 => ⟨S_, .f32⟩
  | 115 => ⟨S1x8x64x256x384, .i1⟩
  | 116 => ⟨S1x8x64x256x384, .f32⟩
  | 117 => ⟨S1x8x64x256x384, .f32⟩
  | 118 => ⟨S_, .f32⟩
  | 119 => ⟨S1x8x64x256, .f32⟩
  | 120 => ⟨S1x8x64x256x1, .f32⟩
  | 121 => ⟨S1x8x64x256x384, .f32⟩
  | 122 => ⟨S1x8x64x256x384, .f32⟩
  | 123 => ⟨S1x8x64x256x384, .f32⟩
  | 124 => ⟨S_, .f32⟩
  | 125 => ⟨S1x8x64x256, .f32⟩
  | 126 => ⟨S1x8x64x256x1, .f32⟩
  | 127 => ⟨S16384x1x8x64, .f32⟩
  | _ => ⟨S16384x512, .f32⟩

abbrev hbmTy0_1 (i : Nat) : BufTy := match i % 128 with
  | 0 => ⟨S1x8x16384x64, .f32⟩
  | 1 => ⟨S_, .i32⟩
  | 2 => ⟨S_, .f32⟩
  | 3 => ⟨S1x8x16512x64, .f32⟩
  | 4 => ⟨S1x8x16384x64, .f32⟩
  | 5 => ⟨S1x8x64x256x64, .f32⟩
  | 6 => ⟨S1x8x16384x64, .f32⟩
  | 7 => ⟨S1x8x64x256x64, .f32⟩
  | 8 => ⟨S1x8x64x64x64, .f32⟩
  | 9 => ⟨S1x8x16384x64, .f32⟩
  | 10 => ⟨S1x8x64x256x64, .f32⟩
  | 11 => ⟨S1x8x64x64x64, .f32⟩
  | 12 => ⟨S1x8x64x384x64, .f32⟩
  | 13 => ⟨S1x8x64x256x64, .f32⟩
  | 14 => ⟨S1x8x64x256x64, .f32⟩
  | 15 => ⟨S1x8x64x256x64, .f32⟩
  | 16 => ⟨S1x8x16384x64, .f32⟩
  | 17 => ⟨S16384x1x8x64, .f32⟩
  | 18 => ⟨S16384x8x64, .f32⟩
  | 19 => ⟨S1x8x64x256x1, .f32⟩
  | 20 => ⟨S1x8x64x256x1, .f32⟩
  | 21 => ⟨S1x8x16384x1, .f32⟩
  | 22 => ⟨S16384x1x8x1, .f32⟩
  | 23 => ⟨S16384x8x1, .f32⟩
  | 24 => ⟨S4096x4x8x64, .f32⟩
  | 25 => ⟨S4x8x4096x64, .f32⟩
  | 26 => ⟨S_, .f32⟩
  | 27 => ⟨S4x8x4096x64, .f32⟩
  | 28 => ⟨S4x8x4096x64, .f32⟩
  | 29 => ⟨S4x8x16x256x64, .f32⟩
  | 30 => ⟨S16x1x384, .i32⟩
  | 31 => ⟨S_, .i32⟩
  | 32 => ⟨S16x1x384, .i32⟩
  | 33 => ⟨S16x1x384, .i32⟩
  | 34 => ⟨S_, .i32⟩
  | 35 => ⟨S16x1x384, .i32⟩
  | 36 => ⟨S16x1x384, .i32⟩
  | 37 => ⟨S16x1x384, .i32⟩
  | 38 => ⟨S16x1x384, .i32⟩
  | 39 => ⟨S_, .i32⟩
  | 40 => ⟨S16x1x384, .i32⟩
  | 41 => ⟨S16x1x384, .i1⟩
  | 42 => ⟨S_, .i32⟩
  | 43 => ⟨S16x1x384, .i32⟩
  | 44 => ⟨S16x1x384, .i1⟩
  | 45 => ⟨S16x1x384, .i1⟩
  | 46 => ⟨S4096x4x8x64, .f32⟩
  | 47 => ⟨S4x8x4096x64, .f32⟩
  | 48 => ⟨S_, .i32⟩
  | 49 => ⟨S_, .f32⟩
  | 50 => ⟨S4x8x4224x64, .f32⟩
  | 51 => ⟨S4x8x4096x64, .f32⟩
  | 52 => ⟨S4x8x16x256x64, .f32⟩
  | 53 => ⟨S4x8x4096x64, .f32⟩
  | 54 => ⟨S4x8x16x256x64, .f32⟩
  | 55 => ⟨S4x8x16x64x64, .f32⟩
  | 56 => ⟨S4x8x4096x64, .f32⟩
  | 57 => ⟨S4x8x16x256x64, .f32⟩
  | 58 => ⟨S4x8x16x64x64, .f32⟩
  | 59 => ⟨S4x8x16x384x64, .f32⟩
  | 60 => ⟨S4x8x16x256x384, .f32⟩
  | 61 => ⟨S1x8, .f32⟩
  | 62 => ⟨S23x8, .f32⟩
  | 63 => ⟨S1x8, .f32⟩
  | 64 => ⟨S19x8, .f32⟩
  | 65 => ⟨S1x8, .f32⟩
  | 66 => ⟨S10x8, .f32⟩
  | 67 => ⟨S1x8, .f32⟩
  | 68 => ⟨S6x8, .f32⟩
  | 69 => ⟨S1x8, .f32⟩
  | 70 => ⟨S3x8, .f32⟩
  | 71 => ⟨S1x8, .f32⟩
  | 72 => ⟨S2x8, .f32⟩
  | 73 => ⟨S1x8, .f32⟩
  | 74 => ⟨S1x8, .f32⟩
  | 75 => ⟨S1x8, .f32⟩
  | 76 => ⟨S1x8, .f32⟩
  | 77 => ⟨S2x8, .f32⟩
  | 78 => ⟨S1x8, .f32⟩
  | 79 => ⟨S3x8, .f32⟩
  | 80 => ⟨S1x8, .f32⟩
  | 81 => ⟨S6x8, .f32⟩
  | 82 => ⟨S1x8, .f32⟩
  | 83 => ⟨S10x8, .f32⟩
  | 84 => ⟨S1x8, .f32⟩
  | 85 => ⟨S19x8, .f32⟩
  | 86 => ⟨S1x8, .f32⟩
  | 87 => ⟨S23x8, .f32⟩
  | 88 => ⟨S129x8, .f32⟩
  | 89 => ⟨S8x129, .f32⟩
  | 90 => ⟨S_, .f32⟩
  | 91 => ⟨S8x255, .f32⟩
  | 92 => ⟨S_, .f32⟩
  | 93 => ⟨S8x255, .f32⟩
  | 94 => ⟨S8x639, .f32⟩
  | 95 => ⟨S8x384, .f32⟩
  | 96 => ⟨S_, .f32⟩
  | 97 => ⟨S8x2, .f32⟩
  | 98 => ⟨S8x255, .f32⟩
  | 99 => ⟨S8x641, .f32⟩
  | 100 => ⟨S8x1x641, .f32⟩
  | 101 => ⟨S8x256x641, .f32⟩
  | 102 => ⟨S8x164096, .f32⟩
  | 103 => ⟨S8x163840, .f32⟩
  | 104 => ⟨S8x256x640, .f32⟩
  | 105 => ⟨S8x256x384, .f32⟩
  | 106 => ⟨S_, .f32⟩
  | 107 => ⟨S8x255, .f32⟩
  | 108 => ⟨S_, .f32⟩
  | 109 => ⟨S8x255, .f32⟩
  | 110 => ⟨S8x639, .f32⟩
  | 111 => ⟨S8x256, .f32⟩
  | 112 => ⟨S_, .f32⟩
  | 113 => ⟨S8x2, .f32⟩
  | 114 => ⟨S8x383, .f32⟩
  | 115 => ⟨S8x641, .f32⟩
  | 116 => ⟨S8x1x641, .f32⟩
  | 117 => ⟨S8x384x641, .f32⟩
  | 118 => ⟨S8x246144, .f32⟩
  | 119 => ⟨S8x245760, .f32⟩
  | 120 => ⟨S8x384x640, .f32⟩
  | 121 => ⟨S8x384x256, .f32⟩
  | 122 => ⟨S8x1x256x384, .f32⟩
  | 123 => ⟨S1x8x1x256x384, .f32⟩
  | 124 => ⟨S4x8x16x256x384, .f32⟩
  | 125 => ⟨S4x8x16x256x384, .f32⟩
  | 126 => ⟨S_, .f32⟩
  | 127 => ⟨S_, .f32⟩
  | _ => ⟨S16384x512, .f32⟩

abbrev hbmTy0_2 (i : Nat) : BufTy := match i % 128 with
  | 0 => ⟨S4x8x16x256x384, .i1⟩
  | 1 => ⟨S4x8x16x256x384, .f32⟩
  | 2 => ⟨S4x8x16x256x384, .f32⟩
  | 3 => ⟨S_, .f32⟩
  | 4 => ⟨S4x8x16x256, .f32⟩
  | 5 => ⟨S4x8x16x256x1, .f32⟩
  | 6 => ⟨S4x8x16x256x384, .f32⟩
  | 7 => ⟨S4x8x16x256x384, .f32⟩
  | 8 => ⟨S4x8x16x256x384, .f32⟩
  | 9 => ⟨S_, .f32⟩
  | 10 => ⟨S4x8x16x256, .f32⟩
  | 11 => ⟨S4x8x16x256x1, .f32⟩
  | 12 => ⟨S4096x4x8x64, .f32⟩
  | 13 => ⟨S4x8x4096x64, .f32⟩
  | 14 => ⟨S_, .i32⟩
  | 15 => ⟨S_, .f32⟩
  | 16 => ⟨S4x8x4224x64, .f32⟩
  | 17 => ⟨S4x8x4096x64, .f32⟩
  | 18 => ⟨S4x8x16x256x64, .f32⟩
  | 19 => ⟨S4x8x4096x64, .f32⟩
  | 20 => ⟨S4x8x16x256x64, .f32⟩
  | 21 => ⟨S4x8x16x64x64, .f32⟩
  | 22 => ⟨S4x8x4096x64, .f32⟩
  | 23 => ⟨S4x8x16x256x64, .f32⟩
  | 24 => ⟨S4x8x16x64x64, .f32⟩
  | 25 => ⟨S4x8x16x384x64, .f32⟩
  | 26 => ⟨S4x8x16x256x64, .f32⟩
  | 27 => ⟨S4x8x16x256x64, .f32⟩
  | 28 => ⟨S4x8x16x256x64, .f32⟩
  | 29 => ⟨S4x8x4096x64, .f32⟩
  | 30 => ⟨S4096x4x8x64, .f32⟩
  | 31 => ⟨S16384x8x64, .f32⟩
  | 32 => ⟨S4x8x16x256x1, .f32⟩
  | 33 => ⟨S4x8x16x256x1, .f32⟩
  | 34 => ⟨S4x8x4096x1, .f32⟩
  | 35 => ⟨S4096x4x8x1, .f32⟩
  | 36 => ⟨S16384x8x1, .f32⟩
  | 37 => ⟨S1024x16x8x64, .f32⟩
  | 38 => ⟨S16x8x1024x64, .f32⟩
  | 39 => ⟨S_, .f32⟩
  | 40 => ⟨S16x8x1024x64, .f32⟩
  | 41 => ⟨S16x8x1024x64, .f32⟩
  | 42 => ⟨S16x8x4x256x64, .f32⟩
  | 43 => ⟨S4x1x384, .i32⟩
  | 44 => ⟨S_, .i32⟩
  | 45 => ⟨S4x1x384, .i32⟩
  | 46 => ⟨S4x1x384, .i32⟩
  | 47 => ⟨S_, .i32⟩
  | 48 => ⟨S4x1x384, .i32⟩
  | 49 => ⟨S4x1x384, .i32⟩
  | 50 => ⟨S4x1x384, .i32⟩
  | 51 => ⟨S4x1x384, .i32⟩
  | 52 => ⟨S_, .i32⟩
  | 53 => ⟨S4x1x384, .i32⟩
  | 54 => ⟨S4x1x384, .i1⟩
  | 55 => ⟨S_, .i32⟩
  | 56 => ⟨S4x1x384, .i32⟩
  | 57 => ⟨S4x1x384, .i1⟩
  | 58 => ⟨S4x1x384, .i1⟩
  | 59 => ⟨S1024x16x8x64, .f32⟩
  | 60 => ⟨S16x8x1024x64, .f32⟩
  | 61 => ⟨S_, .i32⟩
  | 62 => ⟨S_, .f32⟩
  | 63 => ⟨S16x8x1152x64, .f32⟩
  | 64 => ⟨S16x8x1024x64, .f32⟩
  | 65 => ⟨S16x8x4x256x64, .f32⟩
  | 66 => ⟨S16x8x1024x64, .f32⟩
  | 67 => ⟨S16x8x4x256x64, .f32⟩
  | 68 => ⟨S16x8x4x64x64, .f32⟩
  | 69 => ⟨S16x8x1024x64, .f32⟩
  | 70 => ⟨S16x8x4x256x64, .f32⟩
  | 71 => ⟨S16x8x4x64x64, .f32⟩
  | 72 => ⟨S16x8x4x384x64, .f32⟩
  | 73 => ⟨S16x8x4x256x384, .f32⟩
  | 74 => ⟨S1x8, .f32⟩
  | 75 => ⟨S30x8, .f32⟩
  | 76 => ⟨S1x8, .f32⟩
  | 77 => ⟨S15x8, .f32⟩
  | 78 => ⟨S1x8, .f32⟩
  | 79 => ⟨S9x8, .f32⟩
  | 80 => ⟨S1x8, .f32⟩
  | 81 => ⟨S5x8, .f32⟩
  | 82 => ⟨S1x8, .f32⟩
  | 83 => ⟨S2x8, .f32⟩
  | 84 => ⟨S1x8, .f32⟩
  | 85 => ⟨S2x8, .f32⟩
  | 86 => ⟨S1x8, .f32⟩
  | 87 => ⟨S1x8, .f32⟩
  | 88 => ⟨S1x8, .f32⟩
  | 89 => ⟨S1x8, .f32⟩
  | 90 => ⟨S2x8, .f32⟩
  | 91 => ⟨S1x8, .f32⟩
  | 92 => ⟨S2x8, .f32⟩
  | 93 => ⟨S1x8, .f32⟩
  | 94 => ⟨S5x8, .f32⟩
  | 95 => ⟨S1x8, .f32⟩
  | 96 => ⟨S9x8, .f32⟩
  | 97 => ⟨S1x8, .f32⟩
  | 98 => ⟨S15x8, .f32⟩
  | 99 => ⟨S1x8, .f32⟩
  | 100 => ⟨S30x8, .f32⟩
  | 101 => ⟨S129x8, .f32⟩
  | 102 => ⟨S8x129, .f32⟩
  | 103 => ⟨S_, .f32⟩
  | 104 => ⟨S8x255, .f32⟩
  | 105 => ⟨S_, .f32⟩
  | 106 => ⟨S8x255, .f32⟩
  | 107 => ⟨S8x639, .f32⟩
  | 108 => ⟨S8x384, .f32⟩
  | 109 => ⟨S_, .f32⟩
  | 110 => ⟨S8x2, .f32⟩
  | 111 => ⟨S8x255, .f32⟩
  | 112 => ⟨S8x641, .f32⟩
  | 113 => ⟨S8x1x641, .f32⟩
  | 114 => ⟨S8x256x641, .f32⟩
  | 115 => ⟨S8x164096, .f32⟩
  | 116 => ⟨S8x163840, .f32⟩
  | 117 => ⟨S8x256x640, .f32⟩
  | 118 => ⟨S8x256x384, .f32⟩
  | 119 => ⟨S_, .f32⟩
  | 120 => ⟨S8x255, .f32⟩
  | 121 => ⟨S_, .f32⟩
  | 122 => ⟨S8x255, .f32⟩
  | 123 => ⟨S8x639, .f32⟩
  | 124 => ⟨S8x256, .f32⟩
  | 125 => ⟨S_, .f32⟩
  | 126 => ⟨S8x2, .f32⟩
  | 127 => ⟨S8x383, .f32⟩
  | _ => ⟨S16384x512, .f32⟩

abbrev hbmTy0_3 (i : Nat) : BufTy := match i % 128 with
  | 0 => ⟨S8x641, .f32⟩
  | 1 => ⟨S8x1x641, .f32⟩
  | 2 => ⟨S8x384x641, .f32⟩
  | 3 => ⟨S8x246144, .f32⟩
  | 4 => ⟨S8x245760, .f32⟩
  | 5 => ⟨S8x384x640, .f32⟩
  | 6 => ⟨S8x384x256, .f32⟩
  | 7 => ⟨S8x1x256x384, .f32⟩
  | 8 => ⟨S1x8x1x256x384, .f32⟩
  | 9 => ⟨S16x8x4x256x384, .f32⟩
  | 10 => ⟨S16x8x4x256x384, .f32⟩
  | 11 => ⟨S_, .f32⟩
  | 12 => ⟨S_, .f32⟩
  | 13 => ⟨S16x8x4x256x384, .i1⟩
  | 14 => ⟨S16x8x4x256x384, .f32⟩
  | 15 => ⟨S16x8x4x256x384, .f32⟩
  | 16 => ⟨S_, .f32⟩
  | 17 => ⟨S16x8x4x256, .f32⟩
  | 18 => ⟨S16x8x4x256x1, .f32⟩
  | 19 => ⟨S16x8x4x256x384, .f32⟩
  | 20 => ⟨S16x8x4x256x384, .f32⟩
  | 21 => ⟨S16x8x4x256x384, .f32⟩
  | 22 => ⟨S_, .f32⟩
  | 23 => ⟨S16x8x4x256, .f32⟩
  | 24 => ⟨S16x8x4x256x1, .f32⟩
  | 25 => ⟨S1024x16x8x64, .f32⟩
  | 26 => ⟨S16x8x1024x64, .f32⟩
  | 27 => ⟨S_, .i32⟩
  | 28 => ⟨S_, .f32⟩
  | 29 => ⟨S16x8x1152x64, .f32⟩
  | 30 => ⟨S16x8x1024x64, .f32⟩
  | 31 => ⟨S16x8x4x256x64, .f32⟩
  | 32 => ⟨S16x8x1024x64, .f32⟩
  | 33 => ⟨S16x8x4x256x64, .f32⟩
  | 34 => ⟨S16x8x4x64x64, .f32⟩
  | 35 => ⟨S16x8x1024x64, .f32⟩
  | 36 => ⟨S16x8x4x256x64, .f32⟩
  | 37 => ⟨S16x8x4x64x64, .f32⟩
  | 38 => ⟨S16x8x4x384x64, .f32⟩
  | 39 => ⟨S16x8x4x256x64, .f32⟩
  | 40 => ⟨S16x8x4x256x64, .f32⟩
  | 41 => ⟨S16x8x4x256x64, .f32⟩
  | 42 => ⟨S16x8x1024x64, .f32⟩
  | 43 => ⟨S1024x16x8x64, .f32⟩
  | 44 => ⟨S16384x8x64, .f32⟩
  | 45 => ⟨S16x8x4x256x1, .f32⟩
  | 46 => ⟨S16x8x4x256x1, .f32⟩
  | 47 => ⟨S16x8x1024x1, .f32⟩
  | 48 => ⟨S1024x16x8x1, .f32⟩
  | 49 => ⟨S16384x8x1, .f32⟩
  | 50 => ⟨S16384x8x1, .f32⟩
  | 51 => ⟨S16384x8x1, .f32⟩
  | 52 => ⟨S16384x8x1, .f32⟩
  | 53 => ⟨S16384x8x1, .f32⟩
  | 54 => ⟨S16384x8x1, .f32⟩
  | 55 => ⟨S16384x8x1, .f32⟩
  | 56 => ⟨S16384x8x1, .f32⟩
  | 57 => ⟨S16384x8x1, .f32⟩
  | 58 => ⟨S16384x8x1, .f32⟩
  | 59 => ⟨S16384x8x1, .f32⟩
  | 60 => ⟨S16384x8x1, .f32⟩
  | 61 => ⟨S16384x8x64, .f32⟩
  | 62 => ⟨S16384x8x64, .f32⟩
  | 63 => ⟨S16384x8x1, .f32⟩
  | 64 => ⟨S16384x8x64, .f32⟩
  | 65 => ⟨S16384x8x64, .f32⟩
  | 66 => ⟨S16384x8x64, .f32⟩
  | 67 => ⟨S16384x8x1, .f32⟩
  | 68 => ⟨S16384x8x64, .f32⟩
  | 69 => ⟨S16384x8x64, .f32⟩
  | 70 => ⟨S16384x8x64, .f32⟩
  | 71 => ⟨S16384x8x1, .f32⟩
  | 72 => ⟨S16384x8x1, .f32⟩
  | 73 => ⟨S16384x8, .f32⟩
  | 74 => ⟨S_, .i32⟩
  | 75 => ⟨S_, .f32⟩
  | 76 => ⟨S16384x128, .f32⟩
  | 77 => ⟨S16384x8x64, .f32⟩
  | 78 => ⟨S16384x8x64, .f32⟩
  | 79 => ⟨S_, .f32⟩
  | 80 => ⟨S16384x8, .f32⟩
  | 81 => ⟨S_, .i32⟩
  | 82 => ⟨S_, .f32⟩
  | 83 => ⟨S16384x128, .f32⟩
  | 84 => ⟨S1x8, .f32⟩
  | 85 => ⟨S15x8, .f32⟩
  | 86 => ⟨S1x8, .f32⟩
  | 87 => ⟨S23x8, .f32⟩
  | 88 => ⟨S1x8, .f32⟩
  | 89 => ⟨S12x8, .f32⟩
  | 90 => ⟨S1x8, .f32⟩
  | 91 => ⟨S7x8, .f32⟩
  | 92 => ⟨S1x8, .f32⟩
  | 93 => ⟨S1x8, .f32⟩
  | 94 => ⟨S1x8, .f32⟩
  | 95 => ⟨S1x8, .f32⟩
  | 96 => ⟨S1x8, .f32⟩
  | 97 => ⟨S1x8, .f32⟩
  | 98 => ⟨S1x8, .f32⟩
  | 99 => ⟨S1x8, .f32⟩
  | 100 => ⟨S1x8, .f32⟩
  | 101 => ⟨S1x8, .f32⟩
  | 102 => ⟨S1x8, .f32⟩
  | 103 => ⟨S1x8, .f32⟩
  | 104 => ⟨S1x8, .f32⟩
  | 105 => ⟨S1x8, .f32⟩
  | 106 => ⟨S1x8, .f32⟩
  | 107 => ⟨S1x8, .f32⟩
  | 108 => ⟨S7x8, .f32⟩
  | 109 => ⟨S1x8, .f32⟩
  | 110 => ⟨S12x8, .f32⟩
  | 111 => ⟨S1x8, .f32⟩
  | 112 => ⟨S23x8, .f32⟩
  | 113 => ⟨S1x8, .f32⟩
  | 114 => ⟨S15x8, .f32⟩
  | 115 => ⟨S69x8, .f32⟩
  | 116 => ⟨S60x8, .f32⟩
  | 117 => ⟨S129x8, .f32⟩
  | 118 => ⟨S8x129, .f32⟩
  | 119 => ⟨S_, .f32⟩
  | 120 => ⟨S8x255, .f32⟩
  | 121 => ⟨S_, .f32⟩
  | 122 => ⟨S8x255, .f32⟩
  | 123 => ⟨S8x639, .f32⟩
  | 124 => ⟨S8x384, .f32⟩
  | 125 => ⟨S_, .f32⟩
  | 126 => ⟨S8x2, .f32⟩
  | 127 => ⟨S8x255, .f32⟩
  | _ => ⟨S16384x512, .f32⟩

abbrev hbmTy0_4 (i : Nat) : BufTy := match i % 128 with
  | 0 => ⟨S8x641, .f32⟩
  | 1 => ⟨S8x1x641, .f32⟩
  | 2 => ⟨S8x256x641, .f32⟩
  | 3 => ⟨S8x164096, .f32⟩
  | 4 => ⟨S8x163840, .f32⟩
  | 5 => ⟨S8x256x640, .f32⟩
  | 6 => ⟨S8x256x384, .f32⟩
  | 7 => ⟨S_, .f32⟩
  | 8 => ⟨S8x255, .f32⟩
  | 9 => ⟨S_, .f32⟩
  | 10 => ⟨S8x255, .f32⟩
  | 11 => ⟨S8x639, .f32⟩
  | 12 => ⟨S8x256, .f32⟩
  | 13 => ⟨S_, .f32⟩
  | 14 => ⟨S8x2, .f32⟩
  | 15 => ⟨S8x383, .f32⟩
  | 16 => ⟨S8x641, .f32⟩
  | 17 => ⟨S8x1x641, .f32⟩
  | 18 => ⟨S8x384x641, .f32⟩
  | 19 => ⟨S8x246144, .f32⟩
  | 20 => ⟨S8x245760, .f32⟩
  | 21 => ⟨S8x384x640, .f32⟩
  | 22 => ⟨S8x384x256, .f32⟩
  | 23 => ⟨S16384x512, .bf16⟩
  | 24 => ⟨S16384x512, .bf16⟩
  | 25 => ⟨S_, .f32⟩
  | 26 => ⟨S16384x512, .f32⟩
  | 27 => ⟨S16384x512, .f32⟩
  | 28 => ⟨S16384x512, .bf16⟩
  | 29 => ⟨S16384x512, .bf16⟩
  | 30 => ⟨S16384x512, .bf16⟩
  | 31 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S64x512, .bf16⟩
  | .local _ .vmem, ⟨5, _⟩ => ⟨S64x512, .bf16⟩
  | .local _ .vmem, ⟨6, _⟩ => ⟨S256x512, .bf16⟩
  | .local _ .vmem, ⟨7, _⟩ => ⟨S256x512, .bf16⟩
  | .local _ .vmem, ⟨8, _⟩ => ⟨S64x512, .bf16⟩
  | .local _ .vmem, ⟨9, _⟩ => ⟨S64x512, .bf16⟩
  | .local _ .vmem, ⟨10, _⟩ => ⟨S64x512, .bf16⟩
  | .local _ .vmem, ⟨11, _⟩ => ⟨S64x512, .bf16⟩
  | .local _ .vmem, ⟨12, _⟩ => ⟨S256x512, .bf16⟩
  | .local _ .vmem, ⟨13, _⟩ => ⟨S256x512, .bf16⟩
  | .local _ .vmem, ⟨14, _⟩ => ⟨S64x512, .bf16⟩
  | .local _ .vmem, ⟨15, _⟩ => ⟨S64x512, .bf16⟩
  | .local _ .vmem, ⟨16, _⟩ => ⟨S64x128, .f32⟩
  | .local _ .vmem, ⟨17, _⟩ => ⟨S64x128, .f32⟩
  | .local _ .vmem, ⟨18, _⟩ => ⟨S256x128, .f32⟩
  | .local _ .vmem, ⟨19, _⟩ => ⟨S256x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S256x128, .f32⟩
  | .local _ .vmem, ⟨25, _⟩ => ⟨S256x128, .f32⟩
  | .local _ .vmem, ⟨26, _⟩ => ⟨S64x128, .f32⟩
  | .local _ .vmem, ⟨27, _⟩ => ⟨S64x128, .f32⟩
  | .local _ .vmem, ⟨28, _⟩ => ⟨S8x384x256, .f32⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S8x384x256, .f32⟩
  | .local _ .vmem, ⟨34, _⟩ => ⟨S8x384x256, .f32⟩
  | .local _ .vmem, ⟨35, _⟩ => ⟨S512x256, .bf16⟩
  | .local _ .vmem, ⟨36, _⟩ => ⟨S512x256, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_12 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_13 : Ref sig .tc := ⟨.hbm, 129, rfl⟩
abbrev main_call2_v0 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_14 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_c_15 : Ref sig .tc := ⟨.hbm, 159, rfl⟩
abbrev main_v132 : Ref sig .tc := ⟨.hbm, 160, rfl⟩
abbrev main_v133 : Ref sig .tc := ⟨.hbm, 161, rfl⟩
abbrev main_c_16 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_17 : Ref sig .tc := ⟨.hbm, 167, rfl⟩
abbrev main_v138 : Ref sig .tc := ⟨.hbm, 168, rfl⟩
abbrev main_v139 : Ref sig .tc := ⟨.hbm, 169, rfl⟩
abbrev main_c_18 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_c_19 : Ref sig .tc := ⟨.hbm, 176, rfl⟩
abbrev main_call3_v0 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_cst_20 : Ref sig .tc := ⟨.hbm, 218, rfl⟩
abbrev main_v185 : Ref sig .tc := ⟨.hbm, 219, rfl⟩
abbrev main_cst_21 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_cst_22 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_23 : Ref sig .tc := ⟨.hbm, 234, rfl⟩
abbrev main_v198 : Ref sig .tc := ⟨.hbm, 235, rfl⟩
abbrev main_cst_24 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_25 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_cst_26 : Ref sig .tc := ⟨.hbm, 254, rfl⟩
abbrev main_call4_v0 : Ref sig .tc := ⟨.hbm, 255, rfl⟩
abbrev main_call4_v1 : Ref sig .tc := ⟨.hbm, 256, rfl⟩
abbrev main_call4_v2 : Ref sig .tc := ⟨.hbm, 257, rfl⟩
abbrev main_v215 : Ref sig .tc := ⟨.hbm, 258, rfl⟩
abbrev main_cst_27 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_28 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_c_29 : Ref sig .tc := ⟨.hbm, 270, rfl⟩
abbrev main_call5_v0 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_cst_30 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_c_31 : Ref sig .tc := ⟨.hbm, 300, rfl⟩
abbrev main_v252 : Ref sig .tc := ⟨.hbm, 301, rfl⟩
abbrev main_v253 : Ref sig .tc := ⟨.hbm, 302, rfl⟩
abbrev main_c_32 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_c_33 : Ref sig .tc := ⟨.hbm, 308, rfl⟩
abbrev main_v258 : Ref sig .tc := ⟨.hbm, 309, rfl⟩
abbrev main_v259 : Ref sig .tc := ⟨.hbm, 310, rfl⟩
abbrev main_c_34 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_c_35 : Ref sig .tc := ⟨.hbm, 317, rfl⟩
abbrev main_call6_v0 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_cst_36 : Ref sig .tc := ⟨.hbm, 359, rfl⟩
abbrev main_v305 : Ref sig .tc := ⟨.hbm, 360, rfl⟩
abbrev main_cst_37 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_cst_38 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_39 : Ref sig .tc := ⟨.hbm, 375, rfl⟩
abbrev main_v318 : Ref sig .tc := ⟨.hbm, 376, rfl⟩
abbrev main_cst_40 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_cst_41 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_cst_42 : Ref sig .tc := ⟨.hbm, 395, rfl⟩
abbrev main_call7_v0 : Ref sig .tc := ⟨.hbm, 396, rfl⟩
abbrev main_call7_v1 : Ref sig .tc := ⟨.hbm, 397, rfl⟩
abbrev main_call7_v2 : Ref sig .tc := ⟨.hbm, 398, rfl⟩
abbrev main_v335 : Ref sig .tc := ⟨.hbm, 399, rfl⟩
abbrev main_cst_43 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_cst_44 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_c_45 : Ref sig .tc := ⟨.hbm, 411, rfl⟩
abbrev main_call8_v0 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_v383 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_c_46 : Ref sig .tc := ⟨.hbm, 458, rfl⟩
abbrev main_call9_v0 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_cst_47 : Ref sig .tc := ⟨.hbm, 463, rfl⟩
abbrev main_v393 : Ref sig .tc := ⟨.hbm, 464, rfl⟩
abbrev main_c_48 : Ref sig .tc := ⟨.hbm, 465, rfl⟩
abbrev main_call10_v0 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_v413 : Ref sig .tc := ⟨.hbm, 486, rfl⟩
abbrev main_v414 : Ref sig .tc := ⟨.hbm, 487, rfl⟩
abbrev main_v415 : Ref sig .tc := ⟨.hbm, 488, rfl⟩
abbrev main_v416 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_cst_49 : Ref sig .tc := ⟨.hbm, 503, rfl⟩
abbrev main_v430 : Ref sig .tc := ⟨.hbm, 504, rfl⟩
abbrev main_cst_50 : Ref sig .tc := ⟨.hbm, 505, rfl⟩
abbrev main_v431 : Ref sig .tc := ⟨.hbm, 506, rfl⟩
abbrev main_v432 : Ref sig .tc := ⟨.hbm, 507, rfl⟩
abbrev main_v433 : Ref sig .tc := ⟨.hbm, 508, rfl⟩
abbrev main_cst_51 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_cst_52 : Ref sig .tc := ⟨.hbm, 519, rfl⟩
abbrev main_v443 : Ref sig .tc := ⟨.hbm, 520, rfl⟩
abbrev main_cst_53 : Ref sig .tc := ⟨.hbm, 521, rfl⟩
abbrev main_v444 : Ref sig .tc := ⟨.hbm, 522, rfl⟩
abbrev main_v445 : Ref sig .tc := ⟨.hbm, 523, rfl⟩
abbrev main_v446 : Ref sig .tc := ⟨.hbm, 524, rfl⟩
abbrev main_cst_54 : Ref sig .tc := ⟨.hbm, 525, rfl⟩
abbrev main_v447 : Ref sig .tc := ⟨.hbm, 526, rfl⟩
abbrev main_v448 : Ref sig .tc := ⟨.hbm, 527, rfl⟩
abbrev main_v449 : Ref sig .tc := ⟨.hbm, 528, rfl⟩
abbrev main_v450 : Ref sig .tc := ⟨.hbm, 529, rfl⟩
abbrev main_v451 : Ref sig .tc := ⟨.hbm, 530, rfl⟩
abbrev main_v452 : Ref sig .tc := ⟨.hbm, 531, rfl⟩
abbrev main_v453 : Ref sig .tc := ⟨.hbm, 532, rfl⟩
abbrev main_v454 : Ref sig .tc := ⟨.hbm, 533, rfl⟩
abbrev main_v455 : Ref sig .tc := ⟨.hbm, 534, rfl⟩
abbrev main_v456 : Ref sig .tc := ⟨.hbm, 535, rfl⟩
abbrev main_v457 : Ref sig .tc := ⟨.hbm, 536, rfl⟩
abbrev main_cst_55 : Ref sig .tc := ⟨.hbm, 537, rfl⟩
abbrev main_v458 : Ref sig .tc := ⟨.hbm, 538, rfl⟩
abbrev main_v459 : Ref sig .tc := ⟨.hbm, 539, rfl⟩
abbrev main_v460 : Ref sig .tc := ⟨.hbm, 540, rfl⟩
abbrev main_v461 : Ref sig .tc := ⟨.hbm, 541, rfl⟩
abbrev main_v462_0 : Ref sig .tc := ⟨.hbm, 542, rfl⟩
abbrev main_v462_1 : Ref sig .tc := ⟨.hbm, 543, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  ![v2.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x384x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== BandDkvIdeal.lean ====
variable {F : FTy → Type} [FloatOps F] [Named F]
def κ : String → Option EReal := fun
  | "mask" => some ⊥
  | _ => none
-- ==== BandDkvRefIdeal.lean ====
abbrev S16384x512 : Shape := ⟨2, ![16384, 512]⟩
abbrev S32x8 : Shape := ⟨2, ![32, 8]⟩
abbrev S16384x8x64 : Shape := ⟨3, ![16384, 8, 64]⟩
abbrev S16384x1x8x64 : Shape := ⟨4, ![16384, 1, 8, 64]⟩
abbrev S1x16384x8x64 : Shape := ⟨4, ![1, 16384, 8, 64]⟩
abbrev S1x256x64x8x64 : Shape := ⟨5, ![1, 256, 64, 8, 64]⟩
abbrev S_ : Shape := ⟨0, ![]⟩
abbrev S1x64x8x64 : Shape := ⟨4, ![1, 64, 8, 64]⟩
abbrev S1x16512x8x64 : Shape := ⟨4, ![1, 16512, 8, 64]⟩
abbrev S1x258x64x8x64 : Shape := ⟨5, ![1, 258, 64, 8, 64]⟩
abbrev S1x256x192x8x64 : Shape := ⟨5, ![1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x64x8x192 : Shape := ⟨5, ![1, 1, 64, 8, 192]⟩
abbrev S1x256x8x192x64 : Shape := ⟨5, ![1, 256, 8, 192, 64]⟩
abbrev S1x256x64x8x192 : Shape := ⟨5, ![1, 256, 64, 8, 192]⟩
abbrev S1x256x64x1x192 : Shape := ⟨5, ![1, 256, 64, 1, 192]⟩
abbrev S1x256x64x8 : Shape := ⟨4, ![1, 256, 64, 8]⟩
abbrev S1x256x64x8x1 : Shape := ⟨5, ![1, 256, 64, 8, 1]⟩
abbrev S1x256x8x64x64 : Shape := ⟨5, ![1, 256, 8, 64, 64]⟩
abbrev S1x16384x8 : Shape := ⟨3, ![1, 16384, 8]⟩
abbrev S16384x1x8 : Shape := ⟨3, ![16384, 1, 8]⟩
abbrev S16384x8 : Shape := ⟨2, ![16384, 8]⟩
abbrev S4096x4x8x64 : Shape := ⟨4, ![4096, 4, 8, 64]⟩
abbrev S4x4096x8x64 : Shape := ⟨4, ![4, 4096, 8, 64]⟩
abbrev S4x64x64x8x64 : Shape := ⟨5, ![4, 64, 64, 8, 64]⟩
abbrev S4x64x8x64 : Shape := ⟨4, ![4, 64, 8, 64]⟩
abbrev S4x4224x8x64 : Shape := ⟨4, ![4, 4224, 8, 64]⟩
abbrev S4x66x64x8x64 : Shape := ⟨5, ![4, 66, 64, 8, 64]⟩
abbrev S4x64x192x8x64 : Shape := ⟨5, ![4, 64, 192, 8, 64]⟩
abbrev S64x1x192 : Shape := ⟨3, ![64, 1, 192]⟩
abbrev S64x64x192 : Shape := ⟨3, ![64, 64, 192]⟩
abbrev S4x64x8x192x64 : Shape := ⟨5, ![4, 64, 8, 192, 64]⟩
abbrev S4x64x64x8x192 : Shape := ⟨5, ![4, 64, 64, 8, 192]⟩
abbrev S1x64x64x1x192 : Shape := ⟨5, ![1, 64, 64, 1, 192]⟩
abbrev S4x64x64x8 : Shape := ⟨4, ![4, 64, 64, 8]⟩
abbrev S4x64x64x8x1 : Shape := ⟨5, ![4, 64, 64, 8, 1]⟩
abbrev S4x64x8x64x64 : Shape := ⟨5, ![4, 64, 8, 64, 64]⟩
abbrev S4x4096x8 : Shape := ⟨3, ![4, 4096, 8]⟩
abbrev S4096x4x8 : Shape := ⟨3, ![4096, 4, 8]⟩
abbrev S1024x16x8x64 : Shape := ⟨4, ![1024, 16, 8, 64]⟩
abbrev S16x1024x8x64 : Shape := ⟨4, ![16, 1024, 8, 64]⟩
abbrev S16x16x64x8x64 : Shape := ⟨5, ![16, 16, 64, 8, 64]⟩
abbrev S16x64x8x64 : Shape := ⟨4, ![16, 64, 8, 64]⟩
abbrev S16x1152x8x64 : Shape := ⟨4, ![16, 1152, 8, 64]⟩
abbrev S16x18x64x8x64 : Shape := ⟨5, ![16, 18, 64, 8, 64]⟩
abbrev S16x16x192x8x64 : Shape := ⟨5, ![16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S16x16x8x192x64 : Shape := ⟨5, ![16, 16, 8, 192, 64]⟩
abbrev S16x16x64x8x192 : Shape := ⟨5, ![16, 16, 64, 8, 192]⟩
abbrev S1x16x64x1x192 : Shape := ⟨5, ![1, 16, 64, 1, 192]⟩
abbrev S16x16x64x8 : Shape := ⟨4, ![16, 16, 64, 8]⟩
abbrev S16x16x64x8x1 : Shape := ⟨5, ![16, 16, 64, 8, 1]⟩
abbrev S16x16x8x64x64 : Shape := ⟨5, ![16, 16, 8, 64, 64]⟩
abbrev S16x1024x8 : Shape := ⟨3, ![16, 1024, 8]⟩
abbrev S1024x16x8 : Shape := ⟨3, ![1024, 16, 8]⟩
abbrev S16384x8x1 : Shape := ⟨3, ![16384, 8, 1]⟩
abbrev S256x64x8 : Shape := ⟨3, ![256, 64, 8]⟩
abbrev S1x256x8x64x192 : Shape := ⟨5, ![1, 256, 8, 64, 192]⟩

abbrev nBuf : Space → Nat
  | .hbm => 662
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x8x64, .f32⟩
  | 6 => ⟨S16384x8x64, .f32⟩
  | 7 => ⟨S16384x8x64, .f32⟩
  | 8 => ⟨S16384x8x64, .f32⟩
  | 9 => ⟨S16384x1x8x64, .f32⟩
  | 10 => ⟨S1x16384x8x64, .f32⟩
  | 11 => ⟨S1x256x64x8x64, .f32⟩
  | 12 => ⟨S_, .f32⟩
  | 13 => ⟨S1x64x8x64, .f32⟩
  | 14 => ⟨S16384x1x8x64, .f32⟩
  | 15 => ⟨S1x16384x8x64, .f32⟩
  | 16 => ⟨S1x16512x8x64, .f32⟩
  | 17 => ⟨S_, .f32⟩
  | 18 => ⟨S1x64x8x64, .f32⟩
  | 19 => ⟨S_, .f32⟩
  | 20 => ⟨S1x64x8x64, .f32⟩
  | 21 => ⟨S1x258x64x8x64, .f32⟩
  | 22 => ⟨S1x256x64x8x64, .f32⟩
  | 23 => ⟨S1x256x64x8x64, .f32⟩
  | 24 => ⟨S1x256x64x8x64, .f32⟩
  | 25 => ⟨S1x256x192x8x64, .f32⟩
  | 26 => ⟨S_, .f32⟩
  | 27 => ⟨S1x64x8x64, .f32⟩
  | 28 => ⟨S16384x1x8x64, .f32⟩
  | 29 => ⟨S1x16384x8x64, .f32⟩
  | 30 => ⟨S1x16512x8x64, .f32⟩
  | 31 => ⟨S_, .f32⟩
  | 32 => ⟨S1x64x8x64, .f32⟩
  | 33 => ⟨S_, .f32⟩
  | 34 => ⟨S1x64x8x64, .f32⟩
  | 35 => ⟨S1x258x64x8x64, .f32⟩
  | 36 => ⟨S1x256x64x8x64, .f32⟩
  | 37 => ⟨S1x256x64x8x64, .f32⟩
  | 38 => ⟨S1x256x64x8x64, .f32⟩
  | 39 => ⟨S1x256x192x8x64, .f32⟩
  | 40 => ⟨S64, .i32⟩
  | 41 => ⟨S192, .i32⟩
  | 42 => ⟨S1x192, .i32⟩
  | 43 => ⟨S_, .i32⟩
  | 44 => ⟨S1x192, .i32⟩
  | 45 => ⟨S1x192, .i32⟩
  | 46 => ⟨S64x1, .i32⟩
  | 47 => ⟨S64x192, .i32⟩
  | 48 => ⟨S64x192, .i32⟩
  | 49 => ⟨S64x192, .i32⟩
  | 50 => ⟨S256, .i32⟩
  | 51 => ⟨S256x1, .i32⟩
  | 52 => ⟨S_, .i32⟩
  | 53 => ⟨S256x1, .i32⟩
  | 54 => ⟨S256x1, .i32⟩
  | 55 => ⟨S_, .i32⟩
  | 56 => ⟨S256x1, .i32⟩
  | 57 => ⟨S256x1, .i32⟩
  | 58 => ⟨S1x192, .i32⟩
  | 59 => ⟨S256x192, .i32⟩
  | 60 => ⟨S256x192, .i32⟩
  | 61 => ⟨S256x192, .i32⟩
  | 62 => ⟨S64x192, .i32⟩
  | 63 => ⟨S_, .i32⟩
  | 64 => ⟨S64x192, .i32⟩
  | 65 => ⟨S64x192, .i1⟩
  | 66 => ⟨S1x64x192, .i1⟩
  | 67 => ⟨S_, .i32⟩
  | 68 => ⟨S256x192, .i32⟩
  | 69 => ⟨S256x192, .i1⟩
  | 70 => ⟨S256x1x192, .i1⟩
  | 71 => ⟨S256x64x192, .i1⟩
  | 72 => ⟨S256x64x192, .i1⟩
  | 73 => ⟨S256x64x192, .i1⟩
  | 74 => ⟨S_, .i32⟩
  | 75 => ⟨S256x192, .i32⟩
  | 76 => ⟨S256x192, .i1⟩
  | 77 => ⟨S256x1x192, .i1⟩
  | 78 => ⟨S256x64x192, .i1⟩
  | 79 => ⟨S256x64x192, .i1⟩
  | 80 => ⟨S_, .i32⟩
  | 81 => ⟨S64x192, .i32⟩
  | 82 => ⟨S64x192, .i32⟩
  | 83 => ⟨S_, .i32⟩
  | 84 => ⟨S64x192, .i32⟩
  | 85 => ⟨S64x192, .i1⟩
  | 86 => ⟨S_, .i32⟩
  | 87 => ⟨S_, .i32⟩
  | 88 => ⟨S64x192, .i32⟩
  | 89 => ⟨S64x192, .i32⟩
  | 90 => ⟨S64x192, .i32⟩
  | 91 => ⟨S64x192, .i32⟩
  | 92 => ⟨S_, .i32⟩
  | 93 => ⟨S64x192, .i32⟩
  | 94 => ⟨S64x192, .i32⟩
  | 95 => ⟨S64x192, .f32⟩
  | 96 => ⟨S_, .f32⟩
  | 97 => ⟨S64x192, .f32⟩
  | 98 => ⟨S64x192, .f32⟩
  | 99 => ⟨S64x192, .f32⟩
  | 100 => ⟨S_, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S64x192, .i32⟩
  | 107 => ⟨S_, .i32⟩
  | 108 => ⟨S64x192, .i32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i1⟩
  | 116 => ⟨S64x192, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S64x192, .i32⟩
  | 124 => ⟨S64x192, .i32⟩
  | 125 => ⟨S64x192, .i32⟩
  | 126 => ⟨S64x192x1, .i32⟩
  | 127 => ⟨S64x192x8, .f32⟩
  | _ => ⟨S16384x512, .f32⟩

abbrev hbmTy0_1 (i : Nat) : BufTy := match i % 128 with
  | 0 => ⟨S64x8x192, .f32⟩
  | 1 => ⟨S1x1x64x8x192, .f32⟩
  | 2 => ⟨S1x256x8x192x64, .f32⟩
  | 3 => ⟨S1x256x64x8x192, .f32⟩
  | 4 => ⟨S_, .f32⟩
  | 5 => ⟨S1x256x64x8x192, .f32⟩
  | 6 => ⟨S1x256x64x8x192, .f32⟩
  | 7 => ⟨S1x256x64x8x192, .f32⟩
  | 8 => ⟨S1x256x64x8x192, .f32⟩
  | 9 => ⟨S1x256x64x1x192, .i1⟩
  | 10 => ⟨S_, .f32⟩
  | 11 => ⟨S_, .f32⟩
  | 12 => ⟨S1x256x64x8x192, .i1⟩
  | 13 => ⟨S1x256x64x8x192, .f32⟩
  | 14 => ⟨S1x256x64x8x192, .f32⟩
  | 15 => ⟨S_, .f32⟩
  | 16 => ⟨S1x256x64x8x192, .f32⟩
  | 17 => ⟨S_, .f32⟩
  | 18 => ⟨S1x256x64x8, .f32⟩
  | 19 => ⟨S1x256x64x8x1, .f32⟩
  | 20 => ⟨S1x256x64x8x192, .f32⟩
  | 21 => ⟨S1x256x64x8x192, .i1⟩
  | 22 => ⟨S1x256x64x8x192, .f32⟩
  | 23 => ⟨S_, .f32⟩
  | 24 => ⟨S1x256x64x8, .f32⟩
  | 25 => ⟨S1x256x64x8x1, .f32⟩
  | 26 => ⟨S1x256x64x8x192, .f32⟩
  | 27 => ⟨S1x256x64x8x192, .f32⟩
  | 28 => ⟨S1x256x64x8x192, .f32⟩
  | 29 => ⟨S_, .f32⟩
  | 30 => ⟨S1x256x64x8, .f32⟩
  | 31 => ⟨S1x256x8x64x64, .f32⟩
  | 32 => ⟨S1x256x64x8x64, .f32⟩
  | 33 => ⟨S1x256x64x8x1, .f32⟩
  | 34 => ⟨S1x256x64x8x64, .f32⟩
  | 35 => ⟨S1x256x64x8x64, .f32⟩
  | 36 => ⟨S1x256x64x8x1, .f32⟩
  | 37 => ⟨S_, .f32⟩
  | 38 => ⟨S1x256x64x8x1, .f32⟩
  | 39 => ⟨S1x256x64x8x1, .f32⟩
  | 40 => ⟨S1x16384x8x64, .f32⟩
  | 41 => ⟨S16384x1x8x64, .f32⟩
  | 42 => ⟨S16384x8x64, .f32⟩
  | 43 => ⟨S1x16384x8, .f32⟩
  | 44 => ⟨S16384x1x8, .f32⟩
  | 45 => ⟨S16384x8, .f32⟩
  | 46 => ⟨S1x16384x8, .f32⟩
  | 47 => ⟨S16384x1x8, .f32⟩
  | 48 => ⟨S16384x8, .f32⟩
  | 49 => ⟨S4096x4x8x64, .f32⟩
  | 50 => ⟨S4x4096x8x64, .f32⟩
  | 51 => ⟨S4x64x64x8x64, .f32⟩
  | 52 => ⟨S_, .f32⟩
  | 53 => ⟨S4x64x8x64, .f32⟩
  | 54 => ⟨S4096x4x8x64, .f32⟩
  | 55 => ⟨S4x4096x8x64, .f32⟩
  | 56 => ⟨S4x4224x8x64, .f32⟩
  | 57 => ⟨S4x66x64x8x64, .f32⟩
  | 58 => ⟨S4x64x64x8x64, .f32⟩
  | 59 => ⟨S4x64x64x8x64, .f32⟩
  | 60 => ⟨S4x64x64x8x64, .f32⟩
  | 61 => ⟨S4x64x192x8x64, .f32⟩
  | 62 => ⟨S_, .f32⟩
  | 63 => ⟨S4x64x8x64, .f32⟩
  | 64 => ⟨S4096x4x8x64, .f32⟩
  | 65 => ⟨S4x4096x8x64, .f32⟩
  | 66 => ⟨S4x4224x8x64, .f32⟩
  | 67 => ⟨S4x66x64x8x64, .f32⟩
  | 68 => ⟨S4x64x64x8x64, .f32⟩
  | 69 => ⟨S4x64x64x8x64, .f32⟩
  | 70 => ⟨S4x64x64x8x64, .f32⟩
  | 71 => ⟨S4x64x192x8x64, .f32⟩
  | 72 => ⟨S64, .i32⟩
  | 73 => ⟨S192, .i32⟩
  | 74 => ⟨S1x192, .i32⟩
  | 75 => ⟨S_, .i32⟩
  | 76 => ⟨S1x192, .i32⟩
  | 77 => ⟨S1x192, .i32⟩
  | 78 => ⟨S64x1, .i32⟩
  | 79 => ⟨S64x192, .i32⟩
  | 80 => ⟨S64x192, .i32⟩
  | 81 => ⟨S64x192, .i32⟩
  | 82 => ⟨S64, .i32⟩
  | 83 => ⟨S64x1, .i32⟩
  | 84 => ⟨S_, .i32⟩
  | 85 => ⟨S64x1, .i32⟩
  | 86 => ⟨S64x1, .i32⟩
  | 87 => ⟨S_, .i32⟩
  | 88 => ⟨S64x1, .i32⟩
  | 89 => ⟨S64x1, .i32⟩
  | 90 => ⟨S1x192, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i1⟩
  | 98 => ⟨S1x64x192, .i1⟩
  | 99 => ⟨S_, .i32⟩
  | 100 => ⟨S64x192, .i32⟩
  | 101 => ⟨S64x192, .i1⟩
  | 102 => ⟨S64x1x192, .i1⟩
  | 103 => ⟨S64x64x192, .i1⟩
  | 104 => ⟨S64x64x192, .i1⟩
  | 105 => ⟨S64x64x192, .i1⟩
  | 106 => ⟨S_, .i32⟩
  | 107 => ⟨S64x192, .i32⟩
  | 108 => ⟨S64x192, .i1⟩
  | 109 => ⟨S64x1x192, .i1⟩
  | 110 => ⟨S64x64x192, .i1⟩
  | 111 => ⟨S64x64x192, .i1⟩
  | 112 => ⟨S_, .i32⟩
  | 113 => ⟨S64x192, .i32⟩
  | 114 => ⟨S64x192, .i32⟩
  | 115 => ⟨S_, .i32⟩
  | 116 => ⟨S64x192, .i32⟩
  | 117 => ⟨S64x192, .i1⟩
  | 118 => ⟨S_, .i32⟩
  | 119 => ⟨S_, .i32⟩
  | 120 => ⟨S64x192, .i32⟩
  | 121 => ⟨S64x192, .i32⟩
  | 122 => ⟨S64x192, .i32⟩
  | 123 => ⟨S64x192, .i32⟩
  | 124 => ⟨S_, .i32⟩
  | 125 => ⟨S64x192, .i32⟩
  | 126 => ⟨S64x192, .i32⟩
  | 127 => ⟨S64x192, .f32⟩
  | _ => ⟨S16384x512, .f32⟩

abbrev hbmTy0_2 (i : Nat) : BufTy := match i % 128 with
  | 0 => ⟨S_, .f32⟩
  | 1 => ⟨S64x192, .f32⟩
  | 2 => ⟨S64x192, .f32⟩
  | 3 => ⟨S64x192, .f32⟩
  | 4 => ⟨S_, .f32⟩
  | 5 => ⟨S64x192, .f32⟩
  | 6 => ⟨S64x192, .f32⟩
  | 7 => ⟨S_, .f32⟩
  | 8 => ⟨S64x192, .f32⟩
  | 9 => ⟨S64x192, .f32⟩
  | 10 => ⟨S64x192, .i32⟩
  | 11 => ⟨S_, .i32⟩
  | 12 => ⟨S64x192, .i32⟩
  | 13 => ⟨S64x192, .i32⟩
  | 14 => ⟨S_, .i32⟩
  | 15 => ⟨S64x192, .i32⟩
  | 16 => ⟨S64x192, .i32⟩
  | 17 => ⟨S_, .i32⟩
  | 18 => ⟨S64x192, .i32⟩
  | 19 => ⟨S64x192, .i1⟩
  | 20 => ⟨S64x192, .i32⟩
  | 21 => ⟨S64x192, .i32⟩
  | 22 => ⟨S64x192, .i32⟩
  | 23 => ⟨S_, .i32⟩
  | 24 => ⟨S64x192, .i32⟩
  | 25 => ⟨S64x192, .i1⟩
  | 26 => ⟨S_, .i32⟩
  | 27 => ⟨S64x192, .i32⟩
  | 28 => ⟨S64x192, .i32⟩
  | 29 => ⟨S64x192, .i32⟩
  | 30 => ⟨S64x192x1, .i32⟩
  | 31 => ⟨S64x192x8, .f32⟩
  | 32 => ⟨S64x8x192, .f32⟩
  | 33 => ⟨S1x1x64x8x192, .f32⟩
  | 34 => ⟨S4x64x8x192x64, .f32⟩
  | 35 => ⟨S4x64x64x8x192, .f32⟩
  | 36 => ⟨S_, .f32⟩
  | 37 => ⟨S4x64x64x8x192, .f32⟩
  | 38 => ⟨S4x64x64x8x192, .f32⟩
  | 39 => ⟨S4x64x64x8x192, .f32⟩
  | 40 => ⟨S4x64x64x8x192, .f32⟩
  | 41 => ⟨S1x64x64x1x192, .i1⟩
  | 42 => ⟨S_, .f32⟩
  | 43 => ⟨S_, .f32⟩
  | 44 => ⟨S4x64x64x8x192, .i1⟩
  | 45 => ⟨S4x64x64x8x192, .f32⟩
  | 46 => ⟨S4x64x64x8x192, .f32⟩
  | 47 => ⟨S_, .f32⟩
  | 48 => ⟨S4x64x64x8, .f32⟩
  | 49 => ⟨S4x64x64x8x1, .f32⟩
  | 50 => ⟨S4x64x64x8x192, .f32⟩
  | 51 => ⟨S4x64x64x8x192, .f32⟩
  | 52 => ⟨S4x64x64x8x192, .f32⟩
  | 53 => ⟨S_, .f32⟩
  | 54 => ⟨S4x64x64x8, .f32⟩
  | 55 => ⟨S4x64x8x64x64, .f32⟩
  | 56 => ⟨S4x64x64x8x64, .f32⟩
  | 57 => ⟨S4x64x64x8x1, .f32⟩
  | 58 => ⟨S4x64x64x8x64, .f32⟩
  | 59 => ⟨S4x64x64x8x64, .f32⟩
  | 60 => ⟨S4x4096x8x64, .f32⟩
  | 61 => ⟨S4096x4x8x64, .f32⟩
  | 62 => ⟨S16384x8x64, .f32⟩
  | 63 => ⟨S4x4096x8, .f32⟩
  | 64 => ⟨S4096x4x8, .f32⟩
  | 65 => ⟨S16384x8, .f32⟩
  | 66 => ⟨S4x4096x8, .f32⟩
  | 67 => ⟨S4096x4x8, .f32⟩
  | 68 => ⟨S16384x8, .f32⟩
  | 69 => ⟨S1024x16x8x64, .f32⟩
  | 70 => ⟨S16x1024x8x64, .f32⟩
  | 71 => ⟨S16x16x64x8x64, .f32⟩
  | 72 => ⟨S_, .f32⟩
  | 73 => ⟨S16x64x8x64, .f32⟩
  | 74 => ⟨S1024x16x8x64, .f32⟩
  | 75 => ⟨S16x1024x8x64, .f32⟩
  | 76 => ⟨S16x1152x8x64, .f32⟩
  | 77 => ⟨S16x18x64x8x64, .f32⟩
  | 78 => ⟨S16x16x64x8x64, .f32⟩
  | 79 => ⟨S16x16x64x8x64, .f32⟩
  | 80 => ⟨S16x16x64x8x64, .f32⟩
  | 81 => ⟨S16x16x192x8x64, .f32⟩
  | 82 => ⟨S_, .f32⟩
  | 83 => ⟨S16x64x8x64, .f32⟩
  | 84 => ⟨S1024x16x8x64, .f32⟩
  | 85 => ⟨S16x1024x8x64, .f32⟩
  | 86 => ⟨S16x1152x8x64, .f32⟩
  | 87 => ⟨S16x18x64x8x64, .f32⟩
  | 88 => ⟨S16x16x64x8x64, .f32⟩
  | 89 => ⟨S16x16x64x8x64, .f32⟩
  | 90 => ⟨S16x16x64x8x64, .f32⟩
  | 91 => ⟨S16x16x192x8x64, .f32⟩
  | 92 => ⟨S64, .i32⟩
  | 93 => ⟨S192, .i32⟩
  | 94 => ⟨S1x192, .i32⟩
  | 95 => ⟨S_, .i32⟩
  | 96 => ⟨S1x192, .i32⟩
  | 97 => ⟨S1x192, .i32⟩
  | 98 => ⟨S64x1, .i32⟩
  | 99 => ⟨S64x192, .i32⟩
  | 100 => ⟨S64x192, .i32⟩
  | 101 => ⟨S64x192, .i32⟩
  | 102 => ⟨S16, .i32⟩
  | 103 => ⟨S16x1, .i32⟩
  | 104 => ⟨S_, .i32⟩
  | 105 => ⟨S16x1, .i32⟩
  | 106 => ⟨S16x1, .i32⟩
  | 107 => ⟨S_, .i32⟩
  | 108 => ⟨S16x1, .i32⟩
  | 109 => ⟨S16x1, .i32⟩
  | 110 => ⟨S1x192, .i32⟩
  | 111 => ⟨S16x192, .i32⟩
  | 112 => ⟨S16x192, .i32⟩
  | 113 => ⟨S16x192, .i32⟩
  | 114 => ⟨S64x192, .i32⟩
  | 115 => ⟨S_, .i32⟩
  | 116 => ⟨S64x192, .i32⟩
  | 117 => ⟨S64x192, .i1⟩
  | 118 => ⟨S1x64x192, .i1⟩
  | 119 => ⟨S_, .i32⟩
  | 120 => ⟨S16x192, .i32⟩
  | 121 => ⟨S16x192, .i1⟩
  | 122 => ⟨S16x1x192, .i1⟩
  | 123 => ⟨S16x64x192, .i1⟩
  | 124 => ⟨S16x64x192, .i1⟩
  | 125 => ⟨S16x64x192, .i1⟩
  | 126 => ⟨S_, .i32⟩
  | 127 => ⟨S16x192, .i32⟩
  | _ => ⟨S16384x512, .f32⟩

abbrev hbmTy0_3 (i : Nat) : BufTy := match i % 128 with
  | 0 => ⟨S16x192, .i1⟩
  | 1 => ⟨S16x1x192, .i1⟩
  | 2 => ⟨S16x64x192, .i1⟩
  | 3 => ⟨S16x64x192, .i1⟩
  | 4 => ⟨S_, .i32⟩
  | 5 => ⟨S64x192, .i32⟩
  | 6 => ⟨S64x192, .i32⟩
  | 7 => ⟨S_, .i32⟩
  | 8 => ⟨S64x192, .i32⟩
  | 9 => ⟨S64x192, .i1⟩
  | 10 => ⟨S_, .i32⟩
  | 11 => ⟨S_, .i32⟩
  | 12 => ⟨S64x192, .i32⟩
  | 13 => ⟨S64x192, .i32⟩
  | 14 => ⟨S64x192, .i32⟩
  | 15 => ⟨S64x192, .i32⟩
  | 16 => ⟨S_, .i32⟩
  | 17 => ⟨S64x192, .i32⟩
  | 18 => ⟨S64x192, .i32⟩
  | 19 => ⟨S64x192, .f32⟩
  | 20 => ⟨S_, .f32⟩
  | 21 => ⟨S64x192, .f32⟩
  | 22 => ⟨S64x192, .f32⟩
  | 23 => ⟨S64x192, .f32⟩
  | 24 => ⟨S_, .f32⟩
  | 25 => ⟨S64x192, .f32⟩
  | 26 => ⟨S64x192, .f32⟩
  | 27 => ⟨S_, .f32⟩
  | 28 => ⟨S64x192, .f32⟩
  | 29 => ⟨S64x192, .f32⟩
  | 30 => ⟨S64x192, .i32⟩
  | 31 => ⟨S_, .i32⟩
  | 32 => ⟨S64x192, .i32⟩
  | 33 => ⟨S64x192, .i32⟩
  | 34 => ⟨S_, .i32⟩
  | 35 => ⟨S64x192, .i32⟩
  | 36 => ⟨S64x192, .i32⟩
  | 37 => ⟨S_, .i32⟩
  | 38 => ⟨S64x192, .i32⟩
  | 39 => ⟨S64x192, .i1⟩
  | 40 => ⟨S64x192, .i32⟩
  | 41 => ⟨S64x192, .i32⟩
  | 42 => ⟨S64x192, .i32⟩
  | 43 => ⟨S_, .i32⟩
  | 44 => ⟨S64x192, .i32⟩
  | 45 => ⟨S64x192, .i1⟩
  | 46 => ⟨S_, .i32⟩
  | 47 => ⟨S64x192, .i32⟩
  | 48 => ⟨S64x192, .i32⟩
  | 49 => ⟨S64x192, .i32⟩
  | 50 => ⟨S64x192x1, .i32⟩
  | 51 => ⟨S64x192x8, .f32⟩
  | 52 => ⟨S64x8x192, .f32⟩
  | 53 => ⟨S1x1x64x8x192, .f32⟩
  | 54 => ⟨S16x16x8x192x64, .f32⟩
  | 55 => ⟨S16x16x64x8x192, .f32⟩
  | 56 => ⟨S_, .f32⟩
  | 57 => ⟨S16x16x64x8x192, .f32⟩
  | 58 => ⟨S16x16x64x8x192, .f32⟩
  | 59 => ⟨S16x16x64x8x192, .f32⟩
  | 60 => ⟨S16x16x64x8x192, .f32⟩
  | 61 => ⟨S1x16x64x1x192, .i1⟩
  | 62 => ⟨S_, .f32⟩
  | 63 => ⟨S_, .f32⟩
  | 64 => ⟨S16x16x64x8x192, .i1⟩
  | 65 => ⟨S16x16x64x8x192, .f32⟩
  | 66 => ⟨S16x16x64x8x192, .f32⟩
  | 67 => ⟨S_, .f32⟩
  | 68 => ⟨S16x16x64x8, .f32⟩
  | 69 => ⟨S16x16x64x8x1, .f32⟩
  | 70 => ⟨S16x16x64x8x192, .f32⟩
  | 71 => ⟨S16x16x64x8x192, .f32⟩
  | 72 => ⟨S16x16x64x8x192, .f32⟩
  | 73 => ⟨S_, .f32⟩
  | 74 => ⟨S16x16x64x8, .f32⟩
  | 75 => ⟨S16x16x8x64x64, .f32⟩
  | 76 => ⟨S16x16x64x8x64, .f32⟩
  | 77 => ⟨S16x16x64x8x1, .f32⟩
  | 78 => ⟨S16x16x64x8x64, .f32⟩
  | 79 => ⟨S16x16x64x8x64, .f32⟩
  | 80 => ⟨S16x1024x8x64, .f32⟩
  | 81 => ⟨S1024x16x8x64, .f32⟩
  | 82 => ⟨S16384x8x64, .f32⟩
  | 83 => ⟨S16x1024x8, .f32⟩
  | 84 => ⟨S1024x16x8, .f32⟩
  | 85 => ⟨S16384x8, .f32⟩
  | 86 => ⟨S16x1024x8, .f32⟩
  | 87 => ⟨S1024x16x8, .f32⟩
  | 88 => ⟨S16384x8, .f32⟩
  | 89 => ⟨S16384x8, .f32⟩
  | 90 => ⟨S16384x8, .i1⟩
  | 91 => ⟨S16384x8, .i1⟩
  | 92 => ⟨S_, .f32⟩
  | 93 => ⟨S16384x8, .f32⟩
  | 94 => ⟨S_, .f32⟩
  | 95 => ⟨S16384x8, .f32⟩
  | 96 => ⟨S_, .f32⟩
  | 97 => ⟨S16384x8, .f32⟩
  | 98 => ⟨S16384x8, .f32⟩
  | 99 => ⟨S16384x8, .f32⟩
  | 100 => ⟨S16384x8, .f32⟩
  | 101 => ⟨S16384x8, .i1⟩
  | 102 => ⟨S16384x8, .i1⟩
  | 103 => ⟨S_, .f32⟩
  | 104 => ⟨S16384x8, .f32⟩
  | 105 => ⟨S_, .f32⟩
  | 106 => ⟨S16384x8, .f32⟩
  | 107 => ⟨S_, .f32⟩
  | 108 => ⟨S16384x8, .f32⟩
  | 109 => ⟨S16384x8, .f32⟩
  | 110 => ⟨S16384x8, .f32⟩
  | 111 => ⟨S16384x8, .f32⟩
  | 112 => ⟨S16384x8, .f32⟩
  | 113 => ⟨S16384x8, .f32⟩
  | 114 => ⟨S16384x8, .f32⟩
  | 115 => ⟨S16384x8, .f32⟩
  | 116 => ⟨S16384x8, .f32⟩
  | 117 => ⟨S16384x8, .f32⟩
  | 118 => ⟨S16384x8, .f32⟩
  | 119 => ⟨S16384x8, .f32⟩
  | 120 => ⟨S16384x8, .f32⟩
  | 121 => ⟨S16384x8, .f32⟩
  | 122 => ⟨S16384x8x1, .f32⟩
  | 123 => ⟨S16384x8x64, .f32⟩
  | 124 => ⟨S16384x8x64, .f32⟩
  | 125 => ⟨S16384x8x1, .f32⟩
  | 126 => ⟨S16384x8x64, .f32⟩
  | 127 => ⟨S16384x8x64, .f32⟩
  | _ => ⟨S16384x512, .f32⟩

abbrev hbmTy0_4 (i : Nat) : BufTy := match i % 128 with
  | 0 => ⟨S16384x8x64, .f32⟩
  | 1 => ⟨S16384x8x1, .f32⟩
  | 2 => ⟨S16384x8x64, .f32⟩
  | 3 => ⟨S16384x8x64, .f32⟩
  | 4 => ⟨S16384x8x64, .f32⟩
  | 5 => ⟨S16384x8x1, .f32⟩
  | 6 => ⟨S16384x8x64, .f32⟩
  | 7 => ⟨S16384x8x64, .f32⟩
  | 8 => ⟨S16384x8x1, .f32⟩
  | 9 => ⟨S_, .f32⟩
  | 10 => ⟨S16384x8x1, .f32⟩
  | 11 => ⟨S16384x8x1, .f32⟩
  | 12 => ⟨S16384x8x64, .f32⟩
  | 13 => ⟨S16384x8x64, .f32⟩
  | 14 => ⟨S16384x8x64, .f32⟩
  | 15 => ⟨S_, .f32⟩
  | 16 => ⟨S16384x8, .f32⟩
  | 17 => ⟨S16384x8x1, .f32⟩
  | 18 => ⟨S16384x8x1, .f32⟩
  | 19 => ⟨S16384x8x64, .f32⟩
  | 20 => ⟨S16384x8x64, .f32⟩
  | 21 => ⟨S_, .f32⟩
  | 22 => ⟨S16384x8, .f32⟩
  | 23 => ⟨S16384x8x64, .f32⟩
  | 24 => ⟨S_, .f32⟩
  | 25 => ⟨S16384x8, .f32⟩
  | 26 => ⟨S16384x8x1, .f32⟩
  | 27 => ⟨S_, .f32⟩
  | 28 => ⟨S16384x8, .f32⟩
  | 29 => ⟨S16384x8x64, .f32⟩
  | 30 => ⟨S_, .f32⟩
  | 31 => ⟨S16384x8, .f32⟩
  | 32 => ⟨S16384x8x1, .f32⟩
  | 33 => ⟨S_, .f32⟩
  | 34 => ⟨S16384x8, .f32⟩
  | 35 => ⟨S16384x8x64, .f32⟩
  | 36 => ⟨S16384x8x64, .f32⟩
  | 37 => ⟨S16384x8x64, .f32⟩
  | 38 => ⟨S_, .f32⟩
  | 39 => ⟨S16384x8, .f32⟩
  | 40 => ⟨S16384x8x1, .f32⟩
  | 41 => ⟨S_, .f32⟩
  | 42 => ⟨S16384x8, .f32⟩
  | 43 => ⟨S16384x8, .f32⟩
  | 44 => ⟨S16384x8, .f32⟩
  | 45 => ⟨S16384x8, .f32⟩
  | 46 => ⟨S16384x8, .f32⟩
  | 47 => ⟨S16384x8, .f32⟩
  | 48 => ⟨S16384x8, .f32⟩
  | 49 => ⟨S16384x8, .f32⟩
  | 50 => ⟨S16384x8, .f32⟩
  | 51 => ⟨S16384x8, .f32⟩
  | 52 => ⟨S16384x8, .f32⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S16384x8, .f32⟩
  | 61 => ⟨S16384x1x8, .f32⟩
  | 62 => ⟨S1x16384x8, .f32⟩
  | 63 => ⟨S1x256x64x8, .f32⟩
  | 64 => ⟨S16384x1x8, .f32⟩
  | 65 => ⟨S1x16384x8, .f32⟩
  | 66 => ⟨S1x256x64x8, .f32⟩
  | 67 => ⟨S16384x1x8x64, .f32⟩
  | 68 => ⟨S1x16384x8x64, .f32⟩
  | 69 => ⟨S1x256x64x8x64, .f32⟩
  | 70 => ⟨S1x256x64x8x64, .f32⟩
  | 71 => ⟨S1x256x64x8x64, .f32⟩
  | 72 => ⟨S1x256x64x8x64, .f32⟩
  | 73 => ⟨S_, .f32⟩
  | 74 => ⟨S1x256x64x8, .f32⟩
  | 75 => ⟨S1x256x64x8x1, .f32⟩
  | 76 => ⟨S1x256x64x8x1, .f32⟩
  | 77 => ⟨S1x256x64x8x64, .f32⟩
  | 78 => ⟨S1x256x64x8x64, .f32⟩
  | 79 => ⟨S_, .f32⟩
  | 80 => ⟨S256x64x8, .f32⟩
  | 81 => ⟨S1x256x64x8, .f32⟩
  | 82 => ⟨S1x256x64x8, .f32⟩
  | 83 => ⟨S1x256x8x64x64, .f32⟩
  | 84 => ⟨S1x256x8x64x192, .f32⟩
  | 85 => ⟨S1x256x64x8x192, .f32⟩
  | 86 => ⟨S1x256x8x64x192, .f32⟩
  | 87 => ⟨S1x256x192x8x64, .f32⟩
  | 88 => ⟨S1x256x64x8x192, .f32⟩
  | 89 => ⟨S1x256x64x8x192, .f32⟩
  | 90 => ⟨S1x256x64x8x192, .f32⟩
  | 91 => ⟨S1x256x64x8x192, .f32⟩
  | 92 => ⟨S_, .f32⟩
  | 93 => ⟨S1x256x64x8, .f32⟩
  | 94 => ⟨S1x256x64x8x1, .f32⟩
  | 95 => ⟨S_, .f32⟩
  | 96 => ⟨S256x64x8, .f32⟩
  | 97 => ⟨S1x256x64x8, .f32⟩
  | 98 => ⟨S1x256x64x8, .f32⟩
  | 99 => ⟨S1x256x64x8, .f32⟩
  | 100 => ⟨S1x256x64x8x192, .f32⟩
  | 101 => ⟨S1x256x64x8x192, .f32⟩
  | 102 => ⟨S1x256x64x8x192, .f32⟩
  | 103 => ⟨S_, .f32⟩
  | 104 => ⟨S1x256x64x8x192, .f32⟩
  | 105 => ⟨S1x256x64x8x192, .f32⟩
  | 106 => ⟨S_, .f32⟩
  | 107 => ⟨S1x256x64x8x192, .f32⟩
  | 108 => ⟨S1x256x64x8x192, .f32⟩
  | 109 => ⟨S1x256x8x192x64, .f32⟩
  | 110 => ⟨S1x256x8x192x64, .f32⟩
  | 111 => ⟨S1x256x192x8x64, .f32⟩
  | 112 => ⟨S1x256x64x8x64, .f32⟩
  | 113 => ⟨S1x256x64x8x64, .f32⟩
  | 114 => ⟨S1x256x64x8x64, .f32⟩
  | 115 => ⟨S_, .f32⟩
  | 116 => ⟨S1x258x64x8x64, .f32⟩
  | 117 => ⟨S_, .f32⟩
  | 118 => ⟨S1x258x64x8x64, .f32⟩
  | 119 => ⟨S1x258x64x8x64, .f32⟩
  | 120 => ⟨S_, .f32⟩
  | 121 => ⟨S1x258x64x8x64, .f32⟩
  | 122 => ⟨S1x258x64x8x64, .f32⟩
  | 123 => ⟨S1x16512x8x64, .f32⟩
  | 124 => ⟨S1x64x8x64, .f32⟩
  | 125 => ⟨S1x16384x8x64, .f32⟩
  | 126 => ⟨S1x64x8x64, .f32⟩
  | 127 => ⟨S16384x1x8x64, .f32⟩
  | _ => ⟨S16384x512, .f32⟩

abbrev hbmTy0_5 (i : Nat) : BufTy := match i % 128 with
  | 0 => ⟨S16384x8x64, .f32⟩
  | 1 => ⟨S1x256x64x8x64, .f32⟩
  | 2 => ⟨S1x256x64x8x64, .f32⟩
  | 3 => ⟨S1x256x64x8x64, .f32⟩
  | 4 => ⟨S_, .f32⟩
  | 5 => ⟨S1x258x64x8x64, .f32⟩
  | 6 => ⟨S_, .f32⟩
  | 7 => ⟨S1x258x64x8x64, .f32⟩
  | 8 => ⟨S1x258x64x8x64, .f32⟩
  | 9 => ⟨S_, .f32⟩
  | 10 => ⟨S1x258x64x8x64, .f32⟩
  | 11 => ⟨S1x258x64x8x64, .f32⟩
  | 12 => ⟨S1x16512x8x64, .f32⟩
  | 13 => ⟨S1x64x8x64, .f32⟩
  | 14 => ⟨S1x16384x8x64, .f32⟩
  | 15 => ⟨S1x64x8x64, .f32⟩
  | 16 => ⟨S16384x1x8x64, .f32⟩
  | 17 => ⟨S16384x8x64, .f32⟩
  | 18 => ⟨S16384x512, .f32⟩
  | 19 => ⟨S16384x512, .bf16⟩
  | 20 => ⟨S16384x512, .f32⟩
  | 21 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_c_12 : Ref sig .tc := ⟨.hbm, 86, rfl⟩
abbrev main_c_13 : Ref sig .tc := ⟨.hbm, 87, rfl⟩
abbrev main_call0_v0 : Ref sig .tc := ⟨.hbm, 88, rfl⟩
abbrev main_call0_v1 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_18 : Ref sig .tc := ⟨.hbm, 107, rfl⟩
abbrev main_v80 : Ref sig .tc := ⟨.hbm, 108, rfl⟩
abbrev main_v81 : Ref sig .tc := ⟨.hbm, 109, rfl⟩
abbrev main_c_19 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_c_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_23 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_24 : Ref sig .tc := ⟨.hbm, 138, rfl⟩
abbrev main_call2_v0 : Ref sig .tc := ⟨.hbm, 139, rfl⟩
abbrev main_v105_1 : Ref sig .tc := ⟨.hbm, 140, rfl⟩
abbrev main_call2_v2 : Ref sig .tc := ⟨.hbm, 141, rfl⟩
abbrev main_v105_0 : Ref sig .tc := ⟨.hbm, 142, rfl⟩
abbrev main_call2_cst : Ref sig .tc := ⟨.hbm, 143, rfl⟩
abbrev main_v105_2 : Ref sig .tc := ⟨.hbm, 144, rfl⟩
abbrev main_cst_25 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_26 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_27 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_28 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_29 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_30 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_c_31 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_32 : Ref sig .tc := ⟨.hbm, 212, rfl⟩
abbrev main_v166 : Ref sig .tc := ⟨.hbm, 213, rfl⟩
abbrev main_v167 : Ref sig .tc := ⟨.hbm, 214, rfl⟩
abbrev main_c_33 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_c_34 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_c_35 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_c_36 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_c_37 : Ref sig .tc := ⟨.hbm, 240, rfl⟩
abbrev main_v189 : Ref sig .tc := ⟨.hbm, 241, rfl⟩
abbrev main_v190 : Ref sig .tc := ⟨.hbm, 242, rfl⟩
abbrev main_c_38 : Ref sig .tc := ⟨.hbm, 243, rfl⟩
abbrev main_v191 : Ref sig .tc := ⟨.hbm, 244, rfl⟩
abbrev main_v192 : Ref sig .tc := ⟨.hbm, 245, rfl⟩
abbrev main_c_39 : Ref sig .tc := ⟨.hbm, 246, rfl⟩
abbrev main_c_40 : Ref sig .tc := ⟨.hbm, 247, rfl⟩
abbrev main_call3_v0 : Ref sig .tc := ⟨.hbm, 248, rfl⟩
abbrev main_call3_v1 : Ref sig .tc := ⟨.hbm, 249, rfl⟩
abbrev main_v193 : Ref sig .tc := ⟨.hbm, 250, rfl⟩
abbrev main_v194 : Ref sig .tc := ⟨.hbm, 251, rfl⟩
abbrev main_c_41 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_cst_42 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_43 : Ref sig .tc := ⟨.hbm, 260, rfl⟩
abbrev main_v201 : Ref sig .tc := ⟨.hbm, 261, rfl⟩
abbrev main_v202 : Ref sig .tc := ⟨.hbm, 262, rfl⟩
abbrev main_cst_44 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_c_45 : Ref sig .tc := ⟨.hbm, 267, rfl⟩
abbrev main_v206 : Ref sig .tc := ⟨.hbm, 268, rfl⟩
abbrev main_v207 : Ref sig .tc := ⟨.hbm, 269, rfl⟩
abbrev main_c_46 : Ref sig .tc := ⟨.hbm, 270, rfl⟩
abbrev main_v208 : Ref sig .tc := ⟨.hbm, 271, rfl⟩
abbrev main_v209 : Ref sig .tc := ⟨.hbm, 272, rfl⟩
abbrev main_c_47 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_c_48 : Ref sig .tc := ⟨.hbm, 279, rfl⟩
abbrev main_v215 : Ref sig .tc := ⟨.hbm, 280, rfl⟩
abbrev main_v216 : Ref sig .tc := ⟨.hbm, 281, rfl⟩
abbrev main_c_49 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_50 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_cst_51 : Ref sig .tc := ⟨.hbm, 298, rfl⟩
abbrev main_call5_v0 : Ref sig .tc := ⟨.hbm, 299, rfl⟩
abbrev main_call5_v1 : Ref sig .tc := ⟨.hbm, 300, rfl⟩
abbrev main_call5_v2 : Ref sig .tc := ⟨.hbm, 301, rfl⟩
abbrev main_v231 : Ref sig .tc := ⟨.hbm, 302, rfl⟩
abbrev main_cst_52 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_53 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_cst_54 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_cst_55 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_c_56 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_c_57 : Ref sig .tc := ⟨.hbm, 360, rfl⟩
abbrev main_v284 : Ref sig .tc := ⟨.hbm, 361, rfl⟩
abbrev main_v285 : Ref sig .tc := ⟨.hbm, 362, rfl⟩
abbrev main_c_58 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_c_59 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_c_60 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_c_61 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_c_62 : Ref sig .tc := ⟨.hbm, 388, rfl⟩
abbrev main_v307 : Ref sig .tc := ⟨.hbm, 389, rfl⟩
abbrev main_v308 : Ref sig .tc := ⟨.hbm, 390, rfl⟩
abbrev main_c_63 : Ref sig .tc := ⟨.hbm, 391, rfl⟩
abbrev main_v309 : Ref sig .tc := ⟨.hbm, 392, rfl⟩
abbrev main_v310 : Ref sig .tc := ⟨.hbm, 393, rfl⟩
abbrev main_c_64 : Ref sig .tc := ⟨.hbm, 394, rfl⟩
abbrev main_c_65 : Ref sig .tc := ⟨.hbm, 395, rfl⟩
abbrev main_call6_v0 : Ref sig .tc := ⟨.hbm, 396, rfl⟩
abbrev main_call6_v1 : Ref sig .tc := ⟨.hbm, 397, rfl⟩
abbrev main_v311 : Ref sig .tc := ⟨.hbm, 398, rfl⟩
abbrev main_v312 : Ref sig .tc := ⟨.hbm, 399, rfl⟩
abbrev main_c_66 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_cst_67 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_cst_68 : Ref sig .tc := ⟨.hbm, 408, rfl⟩
abbrev main_v319 : Ref sig .tc := ⟨.hbm, 409, rfl⟩
abbrev main_v320 : Ref sig .tc := ⟨.hbm, 410, rfl⟩
abbrev main_cst_69 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_c_70 : Ref sig .tc := ⟨.hbm, 415, rfl⟩
abbrev main_v324 : Ref sig .tc := ⟨.hbm, 416, rfl⟩
abbrev main_v325 : Ref sig .tc := ⟨.hbm, 417, rfl⟩
abbrev main_c_71 : Ref sig .tc := ⟨.hbm, 418, rfl⟩
abbrev main_v326 : Ref sig .tc := ⟨.hbm, 419, rfl⟩
abbrev main_v327 : Ref sig .tc := ⟨.hbm, 420, rfl⟩
abbrev main_c_72 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_v332 : Ref sig .tc := ⟨.hbm, 426, rfl⟩
abbrev main_c_73 : Ref sig .tc := ⟨.hbm, 427, rfl⟩
abbrev main_v333 : Ref sig .tc := ⟨.hbm, 428, rfl⟩
abbrev main_v334 : Ref sig .tc := ⟨.hbm, 429, rfl⟩
abbrev main_c_74 : Ref sig .tc := ⟨.hbm, 430, rfl⟩
abbrev main_v335 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_v339 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_cst_75 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_cst_76 : Ref sig .tc := ⟨.hbm, 446, rfl⟩
abbrev main_call8_v0 : Ref sig .tc := ⟨.hbm, 447, rfl⟩
abbrev main_call8_v1 : Ref sig .tc := ⟨.hbm, 448, rfl⟩
abbrev main_call8_v2 : Ref sig .tc := ⟨.hbm, 449, rfl⟩
abbrev main_v349 : Ref sig .tc := ⟨.hbm, 450, rfl⟩
abbrev main_cst_77 : Ref sig .tc := ⟨.hbm, 451, rfl⟩
abbrev main_v350 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_cst_78 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_cst_79 : Ref sig .tc := ⟨.hbm, 476, rfl⟩
abbrev main_v373 : Ref sig .tc := ⟨.hbm, 477, rfl⟩
abbrev main_cst_80 : Ref sig .tc := ⟨.hbm, 478, rfl⟩
abbrev main_v374 : Ref sig .tc := ⟨.hbm, 479, rfl⟩
abbrev main_cst_81 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_cst_82 : Ref sig .tc := ⟨.hbm, 487, rfl⟩
abbrev main_v381 : Ref sig .tc := ⟨.hbm, 488, rfl⟩
abbrev main_cst_83 : Ref sig .tc := ⟨.hbm, 489, rfl⟩
abbrev main_v382 : Ref sig .tc := ⟨.hbm, 490, rfl⟩
abbrev main_cst_84 : Ref sig .tc := ⟨.hbm, 491, rfl⟩
abbrev main_v383 : Ref sig .tc := ⟨.hbm, 492, rfl⟩
abbrev main_v384 : Ref sig .tc := ⟨.hbm, 493, rfl⟩
abbrev main_v385 : Ref sig .tc := ⟨.hbm, 494, rfl⟩
abbrev main_v386 : Ref sig .tc := ⟨.hbm, 495, rfl⟩
abbrev main_v387 : Ref sig .tc := ⟨.hbm, 496, rfl⟩
abbrev main_v388 : Ref sig .tc := ⟨.hbm, 497, rfl⟩
abbrev main_v389 : Ref sig .tc := ⟨.hbm, 498, rfl⟩
abbrev main_v390 : Ref sig .tc := ⟨.hbm, 499, rfl⟩
abbrev main_v391 : Ref sig .tc := ⟨.hbm, 500, rfl⟩
abbrev main_v392 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_v403 : Ref sig .tc := ⟨.hbm, 512, rfl⟩
abbrev main_v404 : Ref sig .tc := ⟨.hbm, 513, rfl⟩
abbrev main_v405 : Ref sig .tc := ⟨.hbm, 514, rfl⟩
abbrev main_v406 : Ref sig .tc := ⟨.hbm, 515, rfl⟩
abbrev main_v407 : Ref sig .tc := ⟨.hbm, 516, rfl⟩
abbrev main_v408 : Ref sig .tc := ⟨.hbm, 517, rfl⟩
abbrev main_v409 : Ref sig .tc := ⟨.hbm, 518, rfl⟩
abbrev main_v410 : Ref sig .tc := ⟨.hbm, 519, rfl⟩
abbrev main_v411 : Ref sig .tc := ⟨.hbm, 520, rfl⟩
abbrev main_cst_85 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_v415 : Ref sig .tc := ⟨.hbm, 525, rfl⟩
abbrev main_v416 : Ref sig .tc := ⟨.hbm, 526, rfl⟩
abbrev main_cst_86 : Ref sig .tc := ⟨.hbm, 527, rfl⟩
abbrev main_v417 : Ref sig .tc := ⟨.hbm, 528, rfl⟩
abbrev main_v418 : Ref sig .tc := ⟨.hbm, 529, rfl⟩
abbrev main_v419 : Ref sig .tc := ⟨.hbm, 530, rfl⟩
abbrev main_v420 : Ref sig .tc := ⟨.hbm, 531, rfl⟩
abbrev main_v421 : Ref sig .tc := ⟨.hbm, 532, rfl⟩
abbrev main_cst_87 : Ref sig .tc := ⟨.hbm, 533, rfl⟩
abbrev main_v422 : Ref sig .tc := ⟨.hbm, 534, rfl⟩
abbrev main_v423 : Ref sig .tc := ⟨.hbm, 535, rfl⟩
abbrev main_cst_88 : Ref sig .tc := ⟨.hbm, 536, rfl⟩
abbrev main_v424 : Ref sig .tc := ⟨.hbm, 537, rfl⟩
abbrev main_v425 : Ref sig .tc := ⟨.hbm, 538, rfl⟩
abbrev main_cst_89 : Ref sig .tc := ⟨.hbm, 539, rfl⟩
abbrev main_v426 : Ref sig .tc := ⟨.hbm, 540, rfl⟩
abbrev main_v427 : Ref sig .tc := ⟨.hbm, 541, rfl⟩
abbrev main_cst_90 : Ref sig .tc := ⟨.hbm, 542, rfl⟩
abbrev main_v428 : Ref sig .tc := ⟨.hbm, 543, rfl⟩
abbrev main_v429 : Ref sig .tc := ⟨.hbm, 544, rfl⟩
abbrev main_cst_91 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩
abbrev main_cst_92 : Ref sig .tc := ⟨.hbm, 550, rfl⟩
abbrev main_v434 : Ref sig .tc := ⟨.hbm, 551, rfl⟩
abbrev main_v435 : Ref sig .tc := ⟨.hbm, 552, rfl⟩
abbrev main_cst_93 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_v446 : Ref sig .tc := ⟨.hbm, 564, rfl⟩
abbrev main_v447 : Ref sig .tc := ⟨.hbm, 565, rfl⟩
abbrev main_v448 : Ref sig .tc := ⟨.hbm, 566, rfl⟩
abbrev main_v449 : Ref sig .tc := ⟨.hbm, 567, rfl⟩
abbrev main_v450 : Ref sig .tc := ⟨.hbm, 568, rfl⟩
abbrev main_v451 : Ref sig .tc := ⟨.hbm, 569, rfl⟩
abbrev main_v452 : Ref sig .tc := ⟨.hbm, 570, rfl⟩
abbrev main_v453 : Ref sig .tc := ⟨.hbm, 571, rfl⟩
abbrev main_v454 : Ref sig .tc := ⟨.hbm, 572, rfl⟩
abbrev main_v455 : Ref sig .tc := ⟨.hbm, 573, rfl⟩
abbrev main_v456 : Ref sig .tc := ⟨.hbm, 574, rfl⟩
abbrev main_v457 : Ref sig .tc := ⟨.hbm, 575, rfl⟩
abbrev main_v458 : Ref sig .tc := ⟨.hbm, 576, rfl⟩
abbrev main_v459 : Ref sig .tc := ⟨.hbm, 577, rfl⟩
abbrev main_v460 : Ref sig .tc := ⟨.hbm, 578, rfl⟩
abbrev main_v461 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_cst_94 : Ref sig .tc := ⟨.hbm, 585, rfl⟩
abbrev main_v467 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_cst_95 : Ref sig .tc := ⟨.hbm, 591, rfl⟩
abbrev main_v472 : Ref sig .tc := ⟨.hbm, 592, rfl⟩
abbrev main_v473 : Ref sig .tc := ⟨.hbm, 593, rfl⟩
abbrev main_v474 : Ref sig .tc := ⟨.hbm, 594, rfl⟩
abbrev main_v475 : Ref sig .tc := ⟨.hbm, 595, rfl⟩
abbrev main_v476 : Ref sig .tc := ⟨.hbm, 596, rfl⟩
abbrev main_v477 : Ref sig .tc := ⟨.hbm, 597, rfl⟩
abbrev main_v478 : Ref sig .tc := ⟨.hbm, 598, rfl⟩
abbrev main_v479 : Ref sig .tc := ⟨.hbm, 599, rfl⟩
abbrev main_v480 : Ref sig .tc := ⟨.hbm, 600, rfl⟩
abbrev main_v481 : Ref sig .tc := ⟨.hbm, 601, rfl⟩
abbrev main_v482 : Ref sig .tc := ⟨.hbm, 602, rfl⟩
abbrev main_v483 : Ref sig .tc := ⟨.hbm, 603, rfl⟩
abbrev main_cst_96 : Ref sig .tc := ⟨.hbm, 604, rfl⟩
abbrev main_v484 : Ref sig .tc := ⟨.hbm, 605, rfl⟩
abbrev main_v485 : Ref sig .tc := ⟨.hbm, 606, rfl⟩
abbrev main_cst_97 : Ref sig .tc := ⟨.hbm, 607, rfl⟩
abbrev main_v486 : Ref sig .tc := ⟨.hbm, 608, rfl⟩
abbrev main_v487 : Ref sig .tc := ⟨.hbm, 609, rfl⟩
abbrev main_v488 : Ref sig .tc := ⟨.hbm, 610, rfl⟩
abbrev main_v489 : Ref sig .tc := ⟨.hbm, 611, rfl⟩
abbrev main_v490 : Ref sig .tc := ⟨.hbm, 612, rfl⟩
abbrev main_v491 : Ref sig .tc := ⟨.hbm, 613, rfl⟩
abbrev main_v492 : Ref sig .tc := ⟨.hbm, 614, rfl⟩
abbrev main_call9_cst : Ref sig .tc := ⟨.hbm, 615, rfl⟩
abbrev main_call9_v0 : Ref sig .tc := ⟨.hbm, 616, rfl⟩
abbrev main_v493 : Ref sig .tc := ⟨.hbm, 617, rfl⟩
abbrev main_cst_98 : Ref sig .tc := ⟨.hbm, 618, rfl⟩
abbrev main_v494 : Ref sig .tc := ⟨.hbm, 619, rfl⟩
abbrev main_v495 : Ref sig .tc := ⟨.hbm, 620, rfl⟩
abbrev main_v496 : Ref sig .tc := ⟨.hbm, 621, rfl⟩
abbrev main_v497 : Ref sig .tc := ⟨.hbm, 622, rfl⟩
abbrev main_v498 : Ref sig .tc := ⟨.hbm, 623, rfl⟩
abbrev main_v499 : Ref sig .tc := ⟨.hbm, 624, rfl⟩
abbrev main_v500 : Ref sig .tc := ⟨.hbm, 625, rfl⟩
abbrev main_v501 : Ref sig .tc := ⟨.hbm, 626, rfl⟩
abbrev main_cst_99 : Ref sig .tc := ⟨.hbm, 627, rfl⟩
abbrev main_v502 : Ref sig .tc := ⟨.hbm, 628, rfl⟩
abbrev main_cst_100 : Ref sig .tc := ⟨.hbm, 629, rfl⟩
abbrev main_v503 : Ref sig .tc := ⟨.hbm, 630, rfl⟩
abbrev main_v504 : Ref sig .tc := ⟨.hbm, 631, rfl⟩
abbrev main_cst_101 : Ref sig .tc := ⟨.hbm, 632, rfl⟩
abbrev main_v505 : Ref sig .tc := ⟨.hbm, 633, rfl⟩
abbrev main_v506 : Ref sig .tc := ⟨.hbm, 634, rfl⟩
abbrev main_v507 : Ref sig .tc := ⟨.hbm, 635, rfl⟩
abbrev main_v508 : Ref sig .tc := ⟨.hbm, 636, rfl⟩
abbrev main_v509 : Ref sig .tc := ⟨.hbm, 637, rfl⟩
abbrev main_v510 : Ref sig .tc := ⟨.hbm, 638, rfl⟩
abbrev main_v511 : Ref sig .tc := ⟨.hbm, 639, rfl⟩
abbrev main_v512 : Ref sig .tc := ⟨.hbm, 640, rfl⟩
abbrev main_v513 : Ref sig .tc := ⟨.hbm, 641, rfl⟩
abbrev main_v514 : Ref sig .tc := ⟨.hbm, 642, rfl⟩
abbrev main_v515 : Ref sig .tc := ⟨.hbm, 643, rfl⟩
abbrev main_cst_102 : Ref sig .tc := ⟨.hbm, 644, rfl⟩
abbrev main_v516 : Ref sig .tc := ⟨.hbm, 645, rfl⟩
abbrev main_cst_103 : Ref sig .tc := ⟨.hbm, 646, rfl⟩
abbrev main_v517 : Ref sig .tc := ⟨.hbm, 647, rfl⟩
abbrev main_v518 : Ref sig .tc := ⟨.hbm, 648, rfl⟩
abbrev main_cst_104 : Ref sig .tc := ⟨.hbm, 649, rfl⟩
abbrev main_v519 : Ref sig .tc := ⟨.hbm, 650, rfl⟩
abbrev main_v520 : Ref sig .tc := ⟨.hbm, 651, rfl⟩
abbrev main_v521 : Ref sig .tc := ⟨.hbm, 652, rfl⟩
abbrev main_v522 : Ref sig .tc := ⟨.hbm, 653, rfl⟩
abbrev main_v523 : Ref sig .tc := ⟨.hbm, 654, rfl⟩
abbrev main_v524 : Ref sig .tc := ⟨.hbm, 655, rfl⟩
abbrev main_v525 : Ref sig .tc := ⟨.hbm, 656, rfl⟩
abbrev main_v526 : Ref sig .tc := ⟨.hbm, 657, rfl⟩
abbrev main_v527 : Ref sig .tc := ⟨.hbm, 658, rfl⟩
abbrev main_v528 : Ref sig .tc := ⟨.hbm, 659, rfl⟩
abbrev main_v529 : Ref sig .tc := ⟨.hbm, 660, rfl⟩
abbrev main_v530 : Ref sig .tc := ⟨.hbm, 661, rfl⟩

abbrev nD : Nat := 1
abbrev τ : Topo := Topo.v7x

variable {F : FTy → Type} [FloatOps F]

def κ : String → Option EReal := fun
  | "mask" => some ⊥
  | _ => none
-- ==== Proof.Lift.lean ====
/- Finite extended reals as real numbers: a value of the ideal arithmetic that is known to be finite is the image of a
   real number, and the arithmetic of such values is the arithmetic of the reals. -/
module

public import Idealize.ShloMosaic.Lib.Pipeline.ValueKit
public import Idealize.ShloMosaic.Lib.IdealHost
public import Idealize.ShloMosaic.Lib.ReduceAll
public import Idealize.ShloMosaic.Lib.StableHlo.Run
public import Mathlib.Tactic.Positivity
public import Mathlib.Tactic.FieldSimp
public import Mathlib.Analysis.SpecialFunctions.Exp

@[expose] public section

set_option maxRecDepth 16384

noncomputable section

namespace Cert.Lift

open Idealize.ShloMosaic

/-- A sum of finite values is the sum of the reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of finite values, the divisor not zero. -/
theorem div_coe_coe {a b : ℝ} (h : b ≠ 0) : Ideal.div (a : EReal) (b : EReal) = ((a / b : ℝ) : EReal) := by
  rw [Ideal.div_coe h, ← EReal.coe_mul, mul_one_div]

/-- The reciprocal root of a positive value. -/
theorem rsqrt_pos {a : ℝ} (h : 0 < a) : Ideal.rsqrt (a : EReal) = (((Real.sqrt a)⁻¹ : ℝ) : EReal) := by
  rw [Ideal.rsqrt_coe, if_neg (not_lt.mpr h.le), if_neg h.ne']

/-- The logarithm of a positive value. -/
theorem log_pos {a : ℝ} (h : 0 < a) : Ideal.log (a : EReal) = ((Real.log a : ℝ) : EReal) := by
  rw [Ideal.log_coe, if_neg (not_le.mpr h)]

theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

theorem zero_coe : (0 : EReal) = ((0 : ℝ) : EReal) := rfl
theorem one_coe : (1 : EReal) = ((1 : ℝ) : EReal) := rfl

/-! ## Constants -/

theorem c_1024 : Ideal.ofBits .f32 0x44800000#32 = ((1024 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_one : Ideal.ofBits .f32 0x3F800000#32 = ((1 : ℝ) : EReal) := by
  rw [Ideal.ofBits_one_f32]; rfl
theorem c_zero : Ideal.ofBits .f32 0x00000000#32 = ((0 : ℝ) : EReal) := by
  rw [Ideal.ofBits_zero_f32]; rfl
theorem c_2048 : Ideal.ofBits .f32 0x45000000#32 = ((2048 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_top : Ideal.ofBits .f32 0x7F800000#32 = ⊤ := by
  simp [Ideal.ofBits, Ideal.ieee]

/-- The rounded 1e-6 added under the roots of the norms. -/
def eps : ℝ := 8796093 * 2 ^ (-43 : ℤ)
theorem eps_pos : 0 < eps := by unfold eps; positivity
theorem c_eps : Ideal.ofBits .f32 0x358637BD#32 = ((eps : ℝ) : EReal) := by
  simp [Ideal.ofBits, Ideal.ieee, -EReal.coe_mul, eps]

/-! ## A finite array is the image of its real parts -/

/-- Two arrays of rank 2 are equal when they agree at every row and column. -/
theorem ext2 {n k : ℕ} {α : Type*} {f g : (⟨2, ![n, k]⟩ : Shape).Idx → α} (h : ∀ i j, f (ix2 i j) = g (ix2 i j)) : f = g := by
  funext i
  rw [eq_ix2 i]
  exact h _ _

theorem fin_of_abs_lt {x : EReal} (h : max x (-x) < ⊤) : x = ((x.toReal : ℝ) : EReal) := by
  refine (EReal.coe_toReal ?_ ?_).symm
  · rintro rfl; simp at h
  · rintro rfl; simp at h

theorem bit_and (a b : BitVec 1) : IntOp.andi a b = 1#1 ↔ a = 1#1 ∧ b = 1#1 := by
  revert a b; decide

/-- An array all of whose absolute values are below infinity is finite. -/
theorem fin_of_all {s u : Shape} {ax : List (Fin s.rank)} {x : FVec Ideal s .f32} {h : s.ReducesTo ax (⟨0, ![]⟩ : Shape)} {hu : 0 < u.numel}
    {init : IVec u 1} {d : Fin 0 → Fin s.rank} {hb : (⟨0, ![]⟩ : Shape).BroadcastsInDim s d} {j}
    (e : Host.reduce IntOp.andi (cmpf .olt (Host.absf x) (broadcastInDim s d hb (constant (⟨0, ![]⟩ : Shape) .f32 0x7F800000#32)))
      init h hu j = 1#1) (i : s.Idx) : x i = (((x i).toReal : ℝ) : EReal) := by
  have h1 := Host.reduce_andi_all _ _ _ _ _ e i
  pointwise [] at h1
  rw [c_top] at h1
  have h2 : decide (max (x i) (-(x i)) < ⊤) = true := by
    rcases hd : decide (max (x i) (-(x i)) < ⊤) with _ | _
    · have h3 : BitVec.ofBool (decide (max (x i) (-(x i)) < ⊤)) = 1#1 := h1
      rw [hd] at h3; exact absurd h3 (by decide)
    · rfl
  exact fin_of_abs_lt (of_decide_eq_true h2)

end Cert.Lift

end
-- ==== Proof.PleFinite.lean ====
/- What the loss head's condition says: every argument is finite. -/
module

public import proofs.«01_k».proof.Pre_finite_ple
public import proofs.«01_k».proof.Proof.Lift

@[expose] public section

set_option maxRecDepth 16384

noncomputable section

namespace Cert.Pre_finite_ple

open Idealize.ShloMosaic Cert.Lift

instance facts : Facts where
  bcast_S_S16384x1024 := by decide
  reducesTo_S16384x1024_S_d0_1 := by decide
  h_S_ := by decide
  bcast_S_S16384x256 := by decide
  reducesTo_S16384x256_S_d0_1 := by decide
  bcast_S_S1x1024 := by decide
  reducesTo_S1x1024_S_d0_1 := by decide
  bcast_S_S1024x1024 := by decide
  reducesTo_S1024x1024_S_d0_1 := by decide
  bcast_S_S256x1024 := by decide
  reducesTo_S256x1024_S_d0_1 := by decide

theorem finite_of_fn {x0 : FVec Ideal S16384x1024 .f32} {x1 : FVec Ideal S16384x256 .f32} {x2 : FVec Ideal S16384x1024 .f32}
    {x3 : FVec Ideal S1x1024 .f32} {x4 : FVec Ideal S1024x1024 .f32} {x5 : FVec Ideal S256x1024 .f32}
    (h : fn (F := Ideal) x0 x1 x2 x3 x4 x5 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ ∀ i, x5 i = ((x5 i).toReal : EReal) := by
  have h' := congrFun h (fun a => a.elim0)
  unfold fn fn_part1 at h'
  dsimp only at h'
  simp only [andi, bit_and] at h'
  obtain ⟨⟨⟨⟨⟨h0, h1⟩, h2⟩, h3⟩, h4⟩, h5⟩ := h'
  exact ⟨fin_of_all h0, fin_of_all h1, fin_of_all h2, fin_of_all h3, fin_of_all h4, fin_of_all h5⟩

end Cert.Pre_finite_ple

end
-- ==== Proof.Line.lean ====
/- A straight line of host operations in which every operation writes the next buffer and reads earlier ones: the final
   contents satisfy every operation's equation at once, so a buffer is read off its own operation and the final contents of
   its operands. -/
module

public import Idealize.ShloMosaic.Lib.StableHlo.Run

@[expose] public section

noncomputable section

namespace Cert.Line

open Idealize.ShloMosaic Idealize.ShloMosaic.TcCoe Idealize.SL.Sem Idealize.ShloMosaic.StableHlo

variable {τ : Topo} {sig : RefSig} {Val : EltTy → Type}

/-- The operation writes one buffer, number `n`, and touches none with a larger number. -/
def Step (op : HloOp τ sig Val) (n : ℕ) : Prop :=
  (∃ y : Ref sig .tc, y.idx.val = n ∧ op.writes = {Proc.devRef (τ := τ) .tc y})
    ∧ ∀ b ∈ op.bufs, ∃ r : Ref sig .tc, r.idx.val ≤ n ∧ b = Proc.devRef (τ := τ) .tc r

/-- The operations write the buffers `n`, `n + 1`, … in order. -/
def Line : List (HloOp τ sig Val) → ℕ → Prop
  | [], _ => True
  | op :: ops, n => Step op n ∧ Line ops (n + 1)

/-- The contents `E` agree, on the operation's buffers, with what the operation left. -/
def Eqn (op : HloOp τ sig Val) (E : Valuation τ sig Val) : Prop :=
  ∃ V : Valuation τ sig Val, ∀ b ∈ op.bufs, E b = op.result V b

theorem after_keep {r : Ref sig .tc} : ∀ (ops : List (HloOp τ sig Val)) (n : ℕ) (V : Valuation τ sig Val),
    Line ops n → r.idx.val < n → after ops V (Proc.devRef .tc r) = V (Proc.devRef .tc r)
  | [], _, _, _, _ => rfl
  | op :: ops, n, V, h, hr => by
    obtain ⟨⟨⟨y, hy, hw⟩, _⟩, hl⟩ := h
    rw [after_cons, after_keep ops (n + 1) _ hl (by omega)]
    exact result_of_writes_ne op V y r hw (by rintro rfl; omega)

/-- Every operation's equation holds of the contents after the whole line. -/
theorem eqn_of_line : ∀ {ops : List (HloOp τ sig Val)} {n : ℕ} (V : Valuation τ sig Val), Line ops n →
    ∀ {i : ℕ} {op : HloOp τ sig Val}, ops[i]? = some op → Eqn op (after ops V)
  | [], _, _, _, _, _, h => by simp at h
  | o :: ops, n, V, hl, 0, op, h => by
    obtain rfl : o = op := by simpa using h
    refine ⟨V, fun b hb => ?_⟩
    obtain ⟨r, hr, rfl⟩ := hl.1.2 b hb
    exact after_keep ops (n + 1) _ hl.2 (by omega)
  | o :: ops, n, V, hl, i + 1, op, h => eqn_of_line (o.result V) hl.2 (by simpa using h)

/-- The contents satisfy the equations of a line whose first operation writes buffer `n`. -/
def Solves (ops : List (HloOp τ sig Val)) (n : ℕ) (E : Valuation τ sig Val) : Prop :=
  ∀ (i : ℕ) (op : HloOp τ sig Val), ops[i - n]? = some op → Eqn op E

theorem solves_after {ops : List (HloOp τ sig Val)} {n : ℕ} (V : Valuation τ sig Val) (h : Line ops n) :
    Solves ops n (after ops V) := fun _ _ hi => eqn_of_line V h hi

variable {x a b c y : Ref sig .tc} {E : Valuation τ sig Val}

theorem step_nullary {v : y.ty.Contents Val} {hy} {n : ℕ} (h : y.idx.val = n) : Step (nullary (τ := τ) y v hy) n :=
  ⟨⟨y, h, rfl⟩, fun d hd => ⟨y, h.le, Finset.mem_singleton.mp hd⟩⟩

theorem step_unary {f : x.ty.Contents Val → y.ty.Contents Val} {hx hy} {n : ℕ} (h : y.idx.val = n) (ha : x.idx.val ≤ n) :
    Step (unary (τ := τ) x y f hx hy) n := by
  refine ⟨⟨y, h, rfl⟩, fun d hd => ?_⟩
  rcases Finset.mem_insert.mp hd with e | e
  · exact ⟨x, ha, e⟩
  · exact ⟨y, h.le, Finset.mem_singleton.mp e⟩

theorem step_reshape {he hn hx hy} {n : ℕ} (h : y.idx.val = n) (ha : x.idx.val ≤ n) :
    Step (reshape (τ := τ) (Val := Val) x y he hn hx hy) n := by
  refine ⟨⟨y, h, rfl⟩, fun d hd => ?_⟩
  rcases Finset.mem_insert.mp hd with e | e
  · exact ⟨x, ha, e⟩
  · exact ⟨y, h.le, Finset.mem_singleton.mp e⟩

theorem step_binary {f : a.ty.Contents Val → b.ty.Contents Val → y.ty.Contents Val} {h1 h2 h3} {n : ℕ} (h : y.idx.val = n)
    (ha : a.idx.val ≤ n) (hb : b.idx.val ≤ n) : Step (binary (τ := τ) a b y f h1 h2 h3) n := by
  refine ⟨⟨y, h, rfl⟩, fun d hd => ?_⟩
  rcases Finset.mem_insert.mp hd with e | hd
  · exact ⟨a, ha, e⟩
  rcases Finset.mem_insert.mp hd with e | e
  · exact ⟨b, hb, e⟩
  · exact ⟨y, h.le, Finset.mem_singleton.mp e⟩

theorem step_ternary {f : c.ty.Contents Val → a.ty.Contents Val → b.ty.Contents Val → y.ty.Contents Val} {h0 h1 h2 h3}
    {n : ℕ} (h : y.idx.val = n) (hc : c.idx.val ≤ n) (ha : a.idx.val ≤ n) (hb : b.idx.val ≤ n) :
    Step (ternary (τ := τ) c a b y f h0 h1 h2 h3) n := by
  refine ⟨⟨y, h, rfl⟩, fun d hd => ?_⟩
  rcases Finset.mem_insert.mp hd with e | hd
  · exact ⟨c, hc, e⟩
  rcases Finset.mem_insert.mp hd with e | hd
  · exact ⟨a, ha, e⟩
  rcases Finset.mem_insert.mp hd with e | e
  · exact ⟨b, hb, e⟩
  · exact ⟨y, h.le, Finset.mem_singleton.mp e⟩

section Read

variable {ops : List (HloOp τ sig Val)} {n : ℕ}

private theorem keep_of_ne {op : HloOp τ sig Val} {V : Valuation τ sig Val} (hw : op.writes = {Proc.devRef (τ := τ) .tc y})
    (hV : ∀ b ∈ op.bufs, E b = op.result V b) (hx : Proc.devRef .tc x ∈ op.bufs) (h : x ≠ y) :
    V (Proc.devRef .tc x) = E (Proc.devRef .tc x) := by
  rw [hV _ hx, result_of_writes_ne op V y x hw h]

/-- The contents of a buffer written by a constant. -/
theorem Solves.nullary (hl : Solves ops n E) (y : Ref sig .tc) {v : y.ty.Contents Val} {hy}
    (h : ops[y.idx.val - n]? = some (StableHlo.nullary y v hy)) : E (Proc.devRef .tc y) = v := by
  obtain ⟨W, hW⟩ := hl _ _ h
  rw [hW _ (Finset.mem_singleton_self _), nullary_result]

theorem Solves.unary (hl : Solves ops n E) (y : Ref sig .tc) {f : x.ty.Contents Val → y.ty.Contents Val} {hx hy}
    (h : ops[y.idx.val - n]? = some (StableHlo.unary x y f hx hy)) (hne : x ≠ y := by decide) :
    E (Proc.devRef .tc y) = f (E (Proc.devRef .tc x)) := by
  obtain ⟨W, hW⟩ := hl _ _ h
  rw [hW (Proc.devRef .tc y) (by simp [unary_bufs]), unary_result,
    keep_of_ne (unary_writes ..) hW (by simp [unary_bufs]) hne]

theorem Solves.reshape (hl : Solves ops n E) (y : Ref sig .tc) {he hn hx hy}
    (h : ops[y.idx.val - n]? = some (StableHlo.reshape x y he hn hx hy)) (hne : x ≠ y := by decide) :
    E (Proc.devRef .tc y)
      = fun j => he ▸ shapeCast y.ty.shape (E (Proc.devRef .tc x)) hn j := by
  obtain ⟨W, hW⟩ := hl _ _ h
  rw [hW (Proc.devRef .tc y) (by simp [reshape_bufs]), reshape_result,
    keep_of_ne (reshape_writes ..) hW (by simp [reshape_bufs]) hne]

theorem Solves.binary (hl : Solves ops n E) (y : Ref sig .tc) {f : a.ty.Contents Val → b.ty.Contents Val → y.ty.Contents Val} {h1 h2 h3}
    (h : ops[y.idx.val - n]? = some (StableHlo.binary a b y f h1 h2 h3)) (ha : a ≠ y := by decide) (hb : b ≠ y := by decide) :
    E (Proc.devRef .tc y) = f (E (Proc.devRef .tc a)) (E (Proc.devRef .tc b)) := by
  obtain ⟨W, hW⟩ := hl _ _ h
  rw [hW (Proc.devRef .tc y) (by simp [binary_bufs]), binary_result,
    keep_of_ne (binary_writes ..) hW (by simp [binary_bufs]) ha,
    keep_of_ne (binary_writes ..) hW (by simp [binary_bufs]) hb]

theorem Solves.ternary (hl : Solves ops n E) (y : Ref sig .tc)
    {f : c.ty.Contents Val → a.ty.Contents Val → b.ty.Contents Val → y.ty.Contents Val} {h0 h1 h2 h3}
    (h : ops[y.idx.val - n]? = some (StableHlo.ternary c a b y f h0 h1 h2 h3)) (hc : c ≠ y := by decide) (ha : a ≠ y := by decide)
    (hb : b ≠ y := by decide) :
    E (Proc.devRef .tc y)
      = f (E (Proc.devRef .tc c)) (E (Proc.devRef .tc a)) (E (Proc.devRef .tc b)) := by
  obtain ⟨W, hW⟩ := hl _ _ h
  rw [hW (Proc.devRef .tc y) (by simp [ternary_bufs]), ternary_result,
    keep_of_ne (ternary_writes ..) hW (by simp [ternary_bufs]) hc,
    keep_of_ne (ternary_writes ..) hW (by simp [ternary_bufs]) ha,
    keep_of_ne (ternary_writes ..) hW (by simp [ternary_bufs]) hb]

end Read

end Cert.Line

end
-- ==== Proof.PleMath.lean ====
/- The per-row mathematics of the loss head: norm, gate, error, and their gradients, over the reals. -/
module

public import proofs.«01_k».proof.Proof.Lift

@[expose] public section

noncomputable section

namespace Cert.Ple.Math

open Cert.Lift

/-- The mean square of a row. -/
def ms (x : Fin 1024 → ℝ) : ℝ := (∑ k, x k * x k) / 1024
/-- The reciprocal root mean square of a row. -/
def rr (x : Fin 1024 → ℝ) : ℝ := (√(ms x + eps))⁻¹
/-- The normed row, scaled by the gain. -/
def xn (x g : Fin 1024 → ℝ) (k : Fin 1024) : ℝ := x k * rr x * g k
/-- The gate of a row. -/
def gate (x g : Fin 1024 → ℝ) (W : Fin 1024 → Fin 1024 → ℝ) (j : Fin 1024) : ℝ :=
  1 / (1 + Real.exp (-∑ k, xn x g k * W k j))
/-- The projected embedding of a row. -/
def pp (p : Fin 256 → ℝ) (U : Fin 256 → Fin 1024 → ℝ) (j : Fin 1024) : ℝ := ∑ k, p k * U k j
/-- The error of a row. -/
def err (x g : Fin 1024 → ℝ) (W : Fin 1024 → Fin 1024 → ℝ) (p : Fin 256 → ℝ) (U : Fin 256 → Fin 1024 → ℝ)
    (t : Fin 1024 → ℝ) (j : Fin 1024) : ℝ := x j + gate x g W j * pp p U j - t j
/-- The gradient of the loss at the row after the gate. -/
def dh (x g : Fin 1024 → ℝ) (W : Fin 1024 → Fin 1024 → ℝ) (p : Fin 256 → ℝ) (U : Fin 256 → Fin 1024 → ℝ)
    (t : Fin 1024 → ℝ) (j : Fin 1024) : ℝ := err x g W p U t j * (1 / 1024)
/-- The gradient at the gate's logits. -/
def dgl (x g : Fin 1024 → ℝ) (W : Fin 1024 → Fin 1024 → ℝ) (p : Fin 256 → ℝ) (U : Fin 256 → Fin 1024 → ℝ)
    (t : Fin 1024 → ℝ) (j : Fin 1024) : ℝ :=
  dh x g W p U t j * pp p U j * gate x g W j * (1 - gate x g W j)
/-- The gradient at the normed row. -/
def dxn (x g : Fin 1024 → ℝ) (W : Fin 1024 → Fin 1024 → ℝ) (p : Fin 256 → ℝ) (U : Fin 256 → Fin 1024 → ℝ)
    (t : Fin 1024 → ℝ) (k : Fin 1024) : ℝ := ∑ j, dgl x g W p U t j * W k j
/-- The gradient of a norm: from the gradient `c` at the scaled row to the gradient at the row itself. -/
def normBack (x c : Fin 1024 → ℝ) (k : Fin 1024) : ℝ :=
  rr x * (c k - x k * rr x * ((∑ j, c j * (x j * rr x)) / 1024))

theorem rsqrt_ms (x : Fin 1024 → ℝ) :
    Idealize.ShloMosaic.Ideal.rsqrt (((∑ k, x k * x k) / 1024 + eps : ℝ) : EReal) = ((rr x : ℝ) : EReal) :=
  rsqrt_pos (add_pos_of_nonneg_of_pos (div_nonneg (Finset.sum_nonneg fun k _ => mul_self_nonneg _) (by norm_num)) eps_pos)
theorem sigm (a : ℝ) : Idealize.ShloMosaic.Ideal.div ((1 : ℝ) : EReal) ((1 + Real.exp a : ℝ) : EReal)
    = ((1 / (1 + Real.exp a) : ℝ) : EReal) := div_coe_coe (by positivity)

theorem ms_nonneg (x : Fin 1024 → ℝ) : 0 ≤ ms x := div_nonneg (Finset.sum_nonneg fun k _ => mul_self_nonneg _) (by norm_num)
theorem ms_eps_pos (x : Fin 1024 → ℝ) : 0 < ms x + eps := add_pos_of_nonneg_of_pos (ms_nonneg x) eps_pos
theorem one_add_exp_ne (a : ℝ) : 1 + Real.exp a ≠ 0 := by positivity
theorem rr_sq (x : Fin 1024 → ℝ) : rr x * rr x * (ms x + eps) = 1 := by
  have h := ms_eps_pos x
  unfold rr
  rw [← mul_inv, Real.mul_self_sqrt h.le, inv_mul_cancel₀ h.ne']

/-- The derivative of a reciprocal root, taken by way of the root itself, is the cubed reciprocal root. -/
theorem rr_div (x : Fin 1024 → ℝ) : rr x / (ms x + eps) = rr x * rr x * rr x := by
  have h := rr_sq x
  rw [div_eq_iff (ms_eps_pos x).ne']
  linear_combination -rr x * h

/-- The gradient of the norm as the chain rule writes it. -/
theorem normBack_eq (x c : Fin 1024 → ℝ) (k : Fin 1024) :
    c k * rr x + x k * ((∑ j, x j * c j) * (-1 / 2 * (rr x / (ms x + eps))) / 1024)
      + (∑ j, x j * c j) * (-1 / 2 * (rr x / (ms x + eps))) / 1024 * x k = normBack x c k := by
  have hs : ∑ j, c j * (x j * rr x) = (∑ j, x j * c j) * rr x := by
    rw [Finset.sum_mul]; exact Finset.sum_congr rfl fun j _ => by ring
  rw [normBack, rr_div, hs]; ring

end Cert.Ple.Math

end
-- ==== Proof.PleRef.lean ====
/- What the loss head's reference leaves, on finite arguments, row by row. -/
module

public import proofs.«01_k».proof.Proof.Gen.PleRefIdeal.Run
public import proofs.«01_k».proof.Proof.Line
public import proofs.«01_k».proof.Proof.PleMath

@[expose] public section

set_option maxRecDepth 16384

noncomputable section

namespace Cert.PleRefIdeal.Rows

open Cert.PleRefIdeal Cert.PleRefIdeal.Gen Cert.PleRefIdeal.Value Idealize.ShloMosaic Idealize.ShloMosaic.TcCoe
open Idealize.SL.Sem Idealize.ShloMosaic.StableHlo Cert.Line Cert.Lift Cert.Ple.Math

theorem line : Line (ops (F := Ideal)) 6 := by
  unfold ops
  repeat'
    refine ⟨?_, ?_⟩
    · first
        | (with_reducible apply step_nullary) <;> decide
        | (with_reducible apply step_unary) <;> decide
        | (with_reducible apply step_binary) <;> decide
        | (with_reducible apply step_reshape) <;> decide
  trivial

theorem div1024 (a : ℝ) : Ideal.div (a : EReal) ((1024 : ℝ) : EReal) = ((a / 1024 : ℝ) : EReal) := div_coe_coe (by norm_num)

variable {x tg : Fin 16384 → Fin 1024 → ℝ} {g : Fin 1024 → ℝ} {W : Fin 1024 → Fin 1024 → ℝ} {p : Fin 16384 → Fin 256 → ℝ}
  {U : Fin 256 → Fin 1024 → ℝ}
variable {E : Valuation τ sig (Elt Ideal)} (h : Solves (ops (F := Ideal)) 6 E)
  (hx : ∀ i j, (E main_arg0 : S16384x1024.Idx → EReal) (ix2 i j) = ((x i j : ℝ) : EReal))
  (hp : ∀ i j, (E main_arg1 : S16384x256.Idx → EReal) (ix2 i j) = ((p i j : ℝ) : EReal))
  (ht : ∀ i j, (E main_arg2 : S16384x1024.Idx → EReal) (ix2 i j) = ((tg i j : ℝ) : EReal))
  (hg : ∀ j, (E main_arg3 : S1x1024.Idx → EReal) (ix2 0 j) = ((g j : ℝ) : EReal))
  (hW : ∀ i j, (E main_arg4 : S1024x1024.Idx → EReal) (ix2 i j) = ((W i j : ℝ) : EReal))
  (hU : ∀ i j, (E main_arg5 : S256x1024.Idx → EReal) (ix2 i j) = ((U i j : ℝ) : EReal))
include h hx hp ht hg hW hU

/-- The mean square plus the small constant. -/
theorem v7 (i : Fin 16384) (j : Fin 1) : (E main_v7 : S16384x1.Idx → EReal) (ix2 i j) = ((ms (x i) + eps : ℝ) : EReal) := by
  rw [h.binary main_v7 rfl, h.binary main_v5 rfl, h.unary main_v6 rfl, h.unary main_v4 rfl, h.unary main_v3 rfl,
    h.binary main_v2 rfl, h.binary main_v1 rfl, h.nullary main_cst_2 rfl, h.nullary main_cst_1 rfl, h.nullary main_cst_0 rfl]
  pointwise []
  simp only [hx, c_1024, c_eps, zero_coe, ← EReal.coe_mul, ← EReal.coe_add, zero_add, coe_sum, div1024, ms]

theorem v8 (i : Fin 16384) (j : Fin 1) : (E main_v8 : S16384x1.Idx → EReal) (ix2 i j) = ((rr (x i) : ℝ) : EReal) := by
  rw [h.unary main_v8 rfl]
  pointwise []
  rw [v7 h hx hp ht hg hW hU, rsqrt_pos (ms_eps_pos _), rr]

theorem v23 (i : Fin 16384) (j : Fin 1024) : (E main_v23 : S16384x1024.Idx → EReal) (ix2 i j) = ((gate (x i) g W j : ℝ) : EReal) := by
  rw [h.binary main_v23 rfl, h.unary main_v22 rfl, h.nullary main_cst_5 rfl, h.binary main_v21 rfl, h.unary main_v20 rfl,
    h.nullary main_cst_4 rfl, h.unary main_v19 rfl, h.unary main_v18 rfl, h.binary main_v17 rfl, h.unary main_v0 rfl,
    h.nullary main_cst rfl, h.binary main_v16 rfl, h.binary main_v15 rfl, h.unary main_v14 rfl, h.binary main_v13 rfl,
    h.unary main_v12 rfl]
  pointwise []
  simp only [v8 h hx hp ht hg hW hU, hx, hg, hW, zero_coe, one_coe, ← EReal.coe_mul, ← EReal.coe_add, ← EReal.coe_neg, add_zero,
    coe_sum, Ideal.exp_coe, sigm, gate, xn]

theorem v28 (i : Fin 16384) (j : Fin 1024) : (E main_v28 : S16384x1024.Idx → EReal) (ix2 i j) = ((pp (p i) U j : ℝ) : EReal) := by
  rw [h.binary main_v28 rfl, h.unary main_v0 rfl, h.nullary main_cst rfl, h.binary main_v27 rfl]
  pointwise []
  simp only [hp, hU, zero_coe, ← EReal.coe_mul, ← EReal.coe_add, add_zero, coe_sum, pp]

theorem v31 (i : Fin 16384) (j : Fin 1024) : (E main_v31 : S16384x1024.Idx → EReal) (ix2 i j)
    = ((err (x i) g W (p i) U (tg i) j : ℝ) : EReal) := by
  rw [h.binary main_v31 rfl, h.binary main_v30 rfl, h.binary main_v29 rfl]
  pointwise []
  simp only [v23 h hx hp ht hg hW hU, v28 h hx hp ht hg hW hU, hx, ht, ← EReal.coe_mul, ← EReal.coe_add, ← EReal.coe_sub, err]

/-- Half the derivative of the square, over the width. -/
theorem v45 (i : Fin 16384) (j : Fin 1024) : (E main_v45 : S16384x1024.Idx → EReal) (ix2 i j)
    = ((dh (x i) g W (p i) U (tg i) j : ℝ) : EReal) := by
  rw [h.binary main_v45 rfl, h.unary main_v44 rfl, h.binary main_v43 rfl, h.unary main_v42 rfl, h.nullary main_cst_14 rfl,
    h.unary main_v41 rfl, h.binary main_v40 rfl, h.nullary main_cst_13 rfl, h.nullary main_cst_12 rfl, h.binary main_v34 rfl,
    h.unary main_v33 rfl, h.nullary main_cst_7 rfl]
  pointwise []
  simp only [v31 h hx hp ht hg hW hU, c_half, c_two, c_1024, one_coe, ← EReal.coe_mul, div1024, dh]
  congr 1; ring

theorem v48 (i : Fin 16384) (j : Fin 1024) : (E main_v48 : S16384x1024.Idx → EReal) (ix2 i j)
    = ((dgl (x i) g W (p i) U (tg i) j : ℝ) : EReal) := by
  rw [h.binary main_v48 rfl, h.binary main_v47 rfl, h.binary main_v26 rfl, h.binary main_v25 rfl, h.unary main_v24 rfl,
    h.nullary main_cst_6 rfl]
  pointwise []
  simp only [v45 h hx hp ht hg hW hU, v28 h hx hp ht hg hW hU, v23 h hx hp ht hg hW hU, one_coe, ← EReal.coe_mul,
    ← EReal.coe_sub, dgl]
  congr 1; ring

theorem v49 (i : Fin 16384) (j : Fin 1024) : (E main_v49 : S16384x1024.Idx → EReal) (ix2 i j)
    = ((dxn (x i) g W (p i) U (tg i) j : ℝ) : EReal) := by
  rw [h.binary main_v49 rfl]
  pointwise []
  simp only [v48 h hx hp ht hg hW hU, hW, ← EReal.coe_mul, coe_sum, dxn]

theorem v54 (i : Fin 16384) (j : Fin 1024) : (E main_v54 : S16384x1024.Idx → EReal) (ix2 i j)
    = ((dxn (x i) g W (p i) U (tg i) j * g j : ℝ) : EReal) := by
  rw [h.binary main_v54 rfl, h.unary main_v53 rfl]
  pointwise []
  simp only [v49 h hx hp ht hg hW hU, hg, ← EReal.coe_mul]

theorem v65 (i : Fin 16384) (j : Fin 1024) : (E main_v65 : S16384x1024.Idx → EReal) (ix2 i j)
    = (((∑ k, x i k * (dxn (x i) g W (p i) U (tg i) k * g k)) * (-1 / 2 * (rr (x i) / (ms (x i) + eps))) / 1024 : ℝ) : EReal) := by
  rw [h.unary main_v65 rfl, h.binary main_v64 rfl, h.nullary main_cst_18 rfl, h.binary main_v63 rfl, h.unary main_v62 rfl,
    h.nullary main_cst_17 rfl, h.binary main_v61 rfl, h.binary main_v11 rfl, h.unary main_v10 rfl, h.nullary main_cst_3 rfl,
    h.binary main_v9 rfl, h.reshape main_v57 rfl, h.binary main_v56 rfl, h.nullary main_cst_16 rfl, h.binary main_v55 rfl]
  pointwise []
  simp only [v54 h hx hp ht hg hW hU, v8 h hx hp ht hg hW hU, v7 h hx hp ht hg hW hU, hx, c_1024, c_neg_half, zero_coe,
    ← EReal.coe_mul, ← EReal.coe_add, zero_add, coe_sum, div_coe_coe (ms_eps_pos _).ne', div1024]
  rw [Fin.sum_univ_one]

/-- The gradient at the residual stream. -/
theorem v69 (i : Fin 16384) (j : Fin 1024) : (E main_v69 : S16384x1024.Idx → EReal) (ix2 i j)
    = ((dh (x i) g W (p i) U (tg i) j + normBack (x i) (fun k => dxn (x i) g W (p i) U (tg i) k * g k) j : ℝ) : EReal) := by
  rw [h.binary main_v69 rfl, h.binary main_v68 rfl, h.binary main_v67 rfl, h.binary main_v66 rfl, h.binary main_v60 rfl,
    h.binary main_v59 rfl, h.unary main_v58 rfl]
  pointwise []
  simp only [v65 h hx hp ht hg hW hU, v45 h hx hp ht hg hW hU, v54 h hx hp ht hg hW hU, v8 h hx hp ht hg hW hU, hx,
    ← EReal.coe_mul, ← EReal.coe_add]
  congr 1
  rw [← normBack_eq]; ring

/-- The loss, scaled as the kernel keeps it. -/
theorem v71 (i : Fin 8) (j : Fin 128) : (E main_v71 : S8x128.Idx → EReal) (ix2 i j)
    = ((∑ r, ∑ k, err (x r) g W (p r) U (tg r) k * err (x r) g W (p r) U (tg r) k : ℝ) : EReal) := by
  rw [h.unary main_v71 rfl, h.binary main_v70 rfl, h.nullary main_cst_19 rfl, h.binary main_v39 rfl, h.nullary main_cst_11 rfl,
    h.binary main_v38 rfl, h.nullary main_cst_10 rfl, h.binary main_v37 rfl, h.unary main_v36 rfl, h.nullary main_cst_9 rfl,
    h.binary main_v35 rfl, h.nullary main_cst_8 rfl, h.binary main_v32 rfl]
  pointwise []
  simp only [v31 h hx hp ht hg hW hU, c_1024, c_half, c_2048, zero_coe, ← EReal.coe_mul, ← EReal.coe_add, zero_add, coe_sum, div1024]
  rw [← Finset.sum_div]
  exact congrArg _ (by ring)

/-- The gradient of the gain. -/
theorem v52 (i : Fin 1) (j : Fin 1024) : (E main_v52 : S1x1024.Idx → EReal) (ix2 i j)
    = ((∑ r, dxn (x r) g W (p r) U (tg r) j * (x r j * rr (x r)) : ℝ) : EReal) := by
  rw [h.reshape main_v52 rfl, h.binary main_v51 rfl, h.nullary main_cst_15 rfl, h.binary main_v50 rfl, h.binary main_v13 rfl,
    h.unary main_v12 rfl]
  pointwise []
  simp only [v49 h hx hp ht hg hW hU, v8 h hx hp ht hg hW hU, hx, zero_coe, ← EReal.coe_mul, ← EReal.coe_add, zero_add, coe_sum]
  exact congrArg _ (Finset.sum_congr rfl fun r _ => by ring)

theorem v84 (i : Fin 16384) (j : Fin 1024) : (E main_v84 : S16384x1024.Idx → EReal) (ix2 i j) = ((xn (x i) g j : ℝ) : EReal) := by
  rw [h.unary main_v84 rfl, h.binary main_v83 rfl, h.unary main_v82 rfl, h.binary main_v81 rfl, h.unary main_v80 rfl,
    h.unary main_v79 rfl, h.binary main_v78 rfl, h.unary main_v77 rfl, h.nullary main_cst_22 rfl, h.binary main_v76 rfl,
    h.unary main_v75 rfl, h.nullary main_cst_21 rfl, h.unary main_v74 rfl, h.binary main_v73 rfl, h.nullary main_cst_20 rfl,
    h.binary main_v72 rfl]
  pointwise []
  simp only [hx, hg, c_1024, c_eps, zero_coe, ← EReal.coe_mul, ← EReal.coe_add, zero_add, coe_sum, div1024, rsqrt_ms, xn]

theorem v85 (i : Fin 16384) (j : Fin 1024) : (E main_v85 : S16384x1024.Idx → EReal) (ix2 i j)
    = ((dgl (x i) g W (p i) U (tg i) j : ℝ) : EReal) := by
  rw [h.unary main_v85 rfl]
  pointwise []
  exact v48 h hx hp ht hg hW hU i j

theorem v86 (i : Fin 16384) (j : Fin 1024) : (E main_v86 : S16384x1024.Idx → EReal) (ix2 i j)
    = ((dh (x i) g W (p i) U (tg i) j * gate (x i) g W j : ℝ) : EReal) := by
  rw [h.unary main_v86 rfl, h.binary main_v46 rfl]
  pointwise []
  simp only [v45 h hx hp ht hg hW hU, v23 h hx hp ht hg hW hU, ← EReal.coe_mul, mul_comm]

theorem v87 (i : Fin 16384) (j : Fin 256) : (E main_v87 : S16384x256.Idx → EReal) (ix2 i j) = ((p i j : ℝ) : EReal) := by
  rw [h.unary main_v87 rfl]
  pointwise []
  exact hp i j

end Cert.PleRefIdeal.Rows

end
-- ==== Proof.PleKernel.lean ====
/- What the loss head's kernel computes at one grid point, on finite blocks, row by row. -/
module

public import proofs.«01_k».proof.Proof.Gen.PleIdeal.Skeleton
public import proofs.«01_k».proof.Proof.PleMath

@[expose] public section

set_option maxRecDepth 16384

noncomputable section

namespace Cert.PleIdeal.Kernel

open Cert.PleIdeal Cert.PleIdeal.Gen Idealize.ShloMosaic Idealize.ShloMosaic.TcCoe Idealize.SL.Sem
open Cert.Lift Cert.Ple.Math

variable (x : Fin 512 → Fin 1024 → ℝ) (g : Fin 1024 → ℝ) (W : Fin 1024 → Fin 1024 → ℝ) (p : Fin 512 → Fin 256 → ℝ)
  (U : Fin 256 → Fin 1024 → ℝ) (tg : Fin 512 → Fin 1024 → ℝ)

/-- A matrix of reals as an array of the ideal arithmetic. -/
def up2 {n k : ℕ} (f : Fin n → Fin k → ℝ) : (⟨2, ![n, k]⟩ : Shape).Idx → EReal := fun i => ((f (i 0) (i 1) : ℝ) : EReal)

theorem up2_apply {n k : ℕ} (f : Fin n → Fin k → ℝ) (i : Fin n) (j : Fin k) : up2 f (ix2 i j) = ((f i j : ℝ) : EReal) := rfl

/-- The ideal arithmetic of finite values, as the arithmetic of the reals. -/
theorem div1024 (a : ℝ) : Ideal.div (a : EReal) ((1024 : ℝ) : EReal) = ((a / 1024 : ℝ) : EReal) := div_coe_coe (by norm_num)

variable {x g W p U tg}
variable {X : FVec Ideal S512x1024 .f32} {G : FVec Ideal S1x1024 .f32} {WW : FVec Ideal S1024x1024 .bf16}
  {P : FVec Ideal S512x256 .f32} {UU : FVec Ideal S256x1024 .bf16} {T : FVec Ideal S512x1024 .f32}

theorem pay17 (hx : ∀ i j, X (ix2 i j) = ((x i j : ℝ) : EReal)) (i : Fin 512) (j : Fin 1) :
    k0_pay17 (F := Ideal) X (ix2 i j) = ((ms (x i) : ℝ) : EReal) := by
  pointwise [k0_pay17]
  simp only [hx, c_1024, ← EReal.coe_mul, coe_sum, div1024, ms]

theorem pay7 (hx : ∀ i j, X (ix2 i j) = ((x i j : ℝ) : EReal)) (hg : ∀ j, G (ix2 0 j) = ((g j : ℝ) : EReal))
    (i : Fin 512) (j : Fin 1024) : k0_pay7 (F := Ideal) X G (ix2 i j) = ((xn (x i) g j : ℝ) : EReal) := by
  pointwise [k0_pay7]
  simp only [hx, hg, c_1024, c_eps, ← EReal.coe_mul, ← EReal.coe_add, coe_sum, div1024, rsqrt_ms, xn]

theorem pay8 (hx : ∀ i j, X (ix2 i j) = ((x i j : ℝ) : EReal)) (hg : ∀ j, G (ix2 0 j) = ((g j : ℝ) : EReal))
    (hW : ∀ i j, WW (ix2 i j) = ((W i j : ℝ) : EReal)) (i : Fin 512) (j : Fin 1024) :
    k0_pay8 (F := Ideal) X G WW (ix2 i j) = ((gate (x i) g W j : ℝ) : EReal) := by
  pointwise [k0_pay8]
  simp only [pay7 hx hg, hW, zero_coe, one_coe, ← EReal.coe_mul, ← EReal.coe_add, ← EReal.coe_sub, zero_sub, coe_sum, Ideal.exp_coe,
    sigm, gate]

theorem pay10 (hp : ∀ i j, P (ix2 i j) = ((p i j : ℝ) : EReal)) (hU : ∀ i j, UU (ix2 i j) = ((U i j : ℝ) : EReal))
    (i : Fin 512) (j : Fin 1024) :
    k0_pay10 (F := Ideal) (k0_pay9 P) UU (ix2 i j) = ((pp (p i) U j : ℝ) : EReal) := by
  pointwise [k0_pay10, k0_pay9]
  simp only [hp, hU, zero_coe, ← EReal.coe_mul, ← EReal.coe_add, zero_add, coe_sum, pp]

section Whole

variable (hx : ∀ i j, X (ix2 i j) = ((x i j : ℝ) : EReal)) (hg : ∀ j, G (ix2 0 j) = ((g j : ℝ) : EReal))
  (hW : ∀ i j, WW (ix2 i j) = ((W i j : ℝ) : EReal)) (hp : ∀ i j, P (ix2 i j) = ((p i j : ℝ) : EReal))
  (hU : ∀ i j, UU (ix2 i j) = ((U i j : ℝ) : EReal)) (ht : ∀ i j, T (ix2 i j) = ((tg i j : ℝ) : EReal))
include hx hg hW hp hU ht

theorem pay11 (i : Fin 512) (j : Fin 1024) : k0_pay11 (F := Ideal) X (k0_pay8 X G WW) (k0_pay9 P) UU T (ix2 i j)
    = ((err (x i) g W (p i) U (tg i) j : ℝ) : EReal) := by
  pointwise [k0_pay11]
  simp only [pay8 hx hg hW, pay10 hp hU, hx, ht, ← EReal.coe_mul, ← EReal.coe_add, ← EReal.coe_sub, err]

theorem pay13 (i : Fin 512) (j : Fin 1024) : k0_pay13 (F := Ideal) X (k0_pay8 X G WW) (k0_pay9 P) UU T (ix2 i j)
    = ((dh (x i) g W (p i) U (tg i) j : ℝ) : EReal) := by
  pointwise [k0_pay13]
  simp only [pay11 hx hg hW hp hU ht, c_inv1024, ← EReal.coe_mul, dh]

theorem pay14 (i : Fin 512) (j : Fin 1024) : k0_pay14 (F := Ideal) X (k0_pay8 X G WW) (k0_pay9 P) UU T (ix2 i j)
    = ((dh (x i) g W (p i) U (tg i) j * gate (x i) g W j : ℝ) : EReal) := by
  pointwise [k0_pay14]
  simp only [pay13 hx hg hW hp hU ht, pay8 hx hg hW, ← EReal.coe_mul]

theorem pay15 (i : Fin 512) (j : Fin 1024) : k0_pay15 (F := Ideal) X (k0_pay8 X G WW) (k0_pay9 P) UU T (ix2 i j)
    = ((dgl (x i) g W (p i) U (tg i) j : ℝ) : EReal) := by
  pointwise [k0_pay15]
  simp only [pay13 hx hg hW hp hU ht, pay8 hx hg hW, pay10 hp hU, one_coe, ← EReal.coe_mul, ← EReal.coe_sub, dgl]

theorem pay16 (i : Fin 512) (j : Fin 1024) : k0_pay16 (F := Ideal) X (k0_pay8 X G WW) (k0_pay9 P) UU T WW (ix2 i j)
    = ((dxn (x i) g W (p i) U (tg i) j : ℝ) : EReal) := by
  pointwise [k0_pay16]
  simp only [pay15 hx hg hW hp hU ht, hW, ← EReal.coe_mul, coe_sum, dxn]

theorem pay4 (i : Fin 512) (j : Fin 1024) : k0_pay4 (F := Ideal) X G (k0_pay13 X (k0_pay8 X G WW) (k0_pay9 P) UU T)
      (k0_pay16 X (k0_pay8 X G WW) (k0_pay9 P) UU T WW) (k0_pay17 X) k0_pay18 (ix2 i j)
    = ((dh (x i) g W (p i) U (tg i) j + normBack (x i) (fun k => dxn (x i) g W (p i) U (tg i) k * g k) j : ℝ) : EReal) := by
  pointwise [k0_pay4, k0_pay2, k0_pay1, k0_pay18]
  simp only [pay13 hx hg hW hp hU ht, pay16 hx hg hW hp hU ht, pay17 hx, hx, hg, c_eps, c_1024, ← EReal.coe_mul,
    ← EReal.coe_add, ← EReal.coe_sub, coe_sum, rsqrt_ms, ms, div1024, normBack]

/-- What a grid point adds to the accumulated loss. -/
theorem pay12 (L : FVec Ideal S8x128 .f32) (i : Fin 8) (j : Fin 128) :
    k0_pay12 (F := Ideal) X (k0_pay8 X G WW) (k0_pay9 P) UU T L (ix2 i j)
    = L (ix2 i j) + ((∑ r, ∑ k, err (x r) g W (p r) U (tg r) k * err (x r) g W (p r) U (tg r) k : ℝ) : EReal) := by
  pointwise [k0_pay12]
  simp only [pay11 hx hg hW hp hU ht, ← EReal.coe_mul, coe_sum]

/-- What a grid point adds to the accumulated gradient of the gain. -/
theorem pay3 (L : FVec Ideal S1x1024 .f32) (i : Fin 1) (j : Fin 1024) :
    k0_pay3 (F := Ideal) X (k0_pay16 X (k0_pay8 X G WW) (k0_pay9 P) UU T WW) (k0_pay17 X) k0_pay18 L (ix2 i j)
    = L (ix2 i j) + ((∑ r, dxn (x r) g W (p r) U (tg r) j * (x r j * rr (x r)) : ℝ) : EReal) := by
  pointwise [k0_pay3, k0_pay2, k0_pay1, k0_pay18]
  simp only [pay16 hx hg hW hp hU ht, pay17 hx, hx, c_eps, ← EReal.coe_mul,
    ← EReal.coe_add, coe_sum, rsqrt_ms, ms]

end Whole

end Cert.PleIdeal.Kernel

end
-- ==== Proof.PleValue.lean ====
/- The arrays the loss head's kernel leaves, on finite arguments. -/
module

public import proofs.«01_k».proof.Proof.Gen.PleIdeal.Value
public import proofs.«01_k».proof.Proof.PleKernel

@[expose] public section

set_option maxRecDepth 16384

noncomputable section

namespace Cert.PleIdeal.Arrays

open Cert.PleIdeal Cert.PleIdeal.Gen Idealize.ShloMosaic Idealize.ShloMosaic.TcCoe Idealize.SL.Sem
open Idealize.ShloMosaic.Pipeline (Dat)
open Cert.Lift Cert.Ple.Math Cert.PleIdeal.Kernel

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The last point. -/
abbrev tL : Fin cfg0.N := ⟨31, by decide⟩

/-- Row `i` of tile `t`. -/
def row (t : Fin 32) (i : Fin 512) : Fin 16384 := ⟨512 * t.val + i.val, by omega⟩

theorem in0 (c : Dev nD) (t : Fin cfg0.N) (i : Fin 512) (j : Fin 1024) :
    iblk m c 0 t (ix2 i j) = m ((c : Thread nD τ).loc main_arg0) (ix2 (row t i) j) := by
  unfold row
  blk_ext [iblk, V, idx t]
theorem in1 (c : Dev nD) (t : Fin cfg0.N) (i : Fin 512) (j : Fin 256) :
    iblk m c 1 t (ix2 i j) = m ((c : Thread nD τ).loc main_arg1) (ix2 (row t i) j) := by
  unfold row
  blk_ext [iblk, V, idx t]
theorem in2 (c : Dev nD) (t : Fin cfg0.N) (i : Fin 512) (j : Fin 1024) :
    iblk m c 2 t (ix2 i j) = m ((c : Thread nD τ).loc main_arg2) (ix2 (row t i) j) := by
  unfold row
  blk_ext [iblk, V, idx t]
theorem in3 (c : Dev nD) (t : Fin cfg0.N) (j : Fin 1024) :
    iblk m c 3 t (ix2 0 j) = m ((c : Thread nD τ).loc main_arg3) (ix2 0 j) := by
  blk_ext [iblk, V, idx t]
theorem in4 (c : Dev nD) (t : Fin cfg0.N) (i : Fin 1024) (j : Fin 1024) :
    iblk m c 4 t (ix2 i j) = m ((c : Thread nD τ).loc main_arg4) (ix2 i j) := by
  blk_ext [iblk, V, idx t]
theorem in5 (c : Dev nD) (t : Fin cfg0.N) (i : Fin 256) (j : Fin 1024) :
    iblk m c 5 t (ix2 i j) = m ((c : Thread nD τ).loc main_arg5) (ix2 i j) := by
  blk_ext [iblk, V, idx t]

section Finite

variable (c : Dev nD) {x tg : Fin 16384 → Fin 1024 → ℝ} {g : Fin 1024 → ℝ} {W : Fin 1024 → Fin 1024 → ℝ}
  {p : Fin 16384 → Fin 256 → ℝ} {U : Fin 256 → Fin 1024 → ℝ}
  (hx : ∀ i j, m ((c : Thread nD τ).loc main_arg0) (ix2 i j) = ((x i j : ℝ) : EReal))
  (hp : ∀ i j, m ((c : Thread nD τ).loc main_arg1) (ix2 i j) = ((p i j : ℝ) : EReal))
  (ht : ∀ i j, m ((c : Thread nD τ).loc main_arg2) (ix2 i j) = ((tg i j : ℝ) : EReal))
  (hg : ∀ j, m ((c : Thread nD τ).loc main_arg3) (ix2 0 j) = ((g j : ℝ) : EReal))
  (hW : ∀ i j, m ((c : Thread nD τ).loc main_arg4) (ix2 i j) = ((W i j : ℝ) : EReal))
  (hU : ∀ i j, m ((c : Thread nD τ).loc main_arg5) (ix2 i j) = ((U i j : ℝ) : EReal))
include hx in
theorem bx (t : Fin cfg0.N) (i : Fin 512) (j : Fin 1024) : iblk m c 0 t (ix2 i j) = ((x (row t i) j : ℝ) : EReal) :=
  (in0 m c t i j).trans (hx _ _)
include hp in
theorem bp (t : Fin cfg0.N) (i : Fin 512) (j : Fin 256) : iblk m c 1 t (ix2 i j) = ((p (row t i) j : ℝ) : EReal) :=
  (in1 m c t i j).trans (hp _ _)
include ht in
theorem bt (t : Fin cfg0.N) (i : Fin 512) (j : Fin 1024) : iblk m c 2 t (ix2 i j) = ((tg (row t i) j : ℝ) : EReal) :=
  (in2 m c t i j).trans (ht _ _)
include hg in
theorem bg (t : Fin cfg0.N) (j : Fin 1024) : iblk m c 3 t (ix2 0 j) = ((g j : ℝ) : EReal) := (in3 m c t j).trans (hg _)
include hW in
theorem bW (t : Fin cfg0.N) (i j : Fin 1024) : iblk m c 4 t (ix2 i j) = ((W i j : ℝ) : EReal) := (in4 m c t i j).trans (hW _ _)
include hU in
theorem bU (t : Fin cfg0.N) (i : Fin 256) (j : Fin 1024) : iblk m c 5 t (ix2 i j) = ((U i j : ℝ) : EReal) :=
  (in5 m c t i j).trans (hU _ _)

include hx hp ht hg hW hU

/-- The gradient at the residual stream. -/
theorem arr6 : (dats m 0 c).arrAt 6 cfg0.N = (fun i => ((dh (x (i 0)) g W (p (i 0)) U (tg (i 0)) (i 1) + normBack (x (i 0)) (fun k => dxn (x (i 0)) g W (p (i 0)) U (tg (i 0)) k * g k) (i 1) : ℝ) : EReal) : S16384x1024.Idx → EReal) := by
  refine (dats m 0 c).arrAt_eq_of_covers 6 _ (by decide +kernel) fun t _ (y : S512x1024.Idx) => ?_
  blk_simp
  have e : ((View.whole main_v2_0).slice (win0_6.rect t)).emb y = ix2 (row t (y 0)) (y 1) := by
    unfold row
    blk_ext [idx t]
  rw [after0_6, e]
  by_cases h0 : t.val % 32 = 0
  · rw [outsAt0_A m c t h0]; frame_out; idx_vars y; exact pay4 (bx m c hx t) (bg m c hg t) (bW m c hW t) (bp m c hp t) (bU m c hU t) (bt m c ht t) _ _
  · rw [outsAt0_B m c t h0]; frame_out; idx_vars y; exact pay4 (bx m c hx t) (bg m c hg t) (bW m c hW t) (bp m c hp t) (bU m c hU t) (bt m c ht t) _ _

/-- The kept copy of the normed rows. -/
theorem arr9 : (dats m 0 c).arrAt 9 cfg0.N = (fun i => ((xn (x (i 0)) g (i 1) : ℝ) : EReal) : S16384x1024.Idx → EReal) := by
  refine (dats m 0 c).arrAt_eq_of_covers 9 _ (by decide +kernel) fun t _ (y : S512x1024.Idx) => ?_
  blk_simp
  have e : ((View.whole main_v2_3).slice (win0_9.rect t)).emb y = ix2 (row t (y 0)) (y 1) := by
    unfold row
    blk_ext [idx t]
  rw [after0_9, e]
  by_cases h0 : t.val % 32 = 0
  · rw [outsAt0_A m c t h0]; frame_out; idx_vars y; exact pay7 (bx m c hx t) (bg m c hg t) _ _
  · rw [outsAt0_B m c t h0]; frame_out; idx_vars y; exact pay7 (bx m c hx t) (bg m c hg t) _ _

/-- The gradient at the gate's logits. -/
theorem arr10 : (dats m 0 c).arrAt 10 cfg0.N = (fun i => ((dgl (x (i 0)) g W (p (i 0)) U (tg (i 0)) (i 1) : ℝ) : EReal) : S16384x1024.Idx → EReal) := by
  refine (dats m 0 c).arrAt_eq_of_covers 10 _ (by decide +kernel) fun t _ (y : S512x1024.Idx) => ?_
  blk_simp
  have e : ((View.whole main_v2_4).slice (win0_10.rect t)).emb y = ix2 (row t (y 0)) (y 1) := by
    unfold row
    blk_ext [idx t]
  rw [after0_10, e]
  by_cases h0 : t.val % 32 = 0
  · rw [outsAt0_A m c t h0]; frame_out; idx_vars y; exact pay15 (bx m c hx t) (bg m c hg t) (bW m c hW t) (bp m c hp t) (bU m c hU t) (bt m c ht t) _ _
  · rw [outsAt0_B m c t h0]; frame_out; idx_vars y; exact pay15 (bx m c hx t) (bg m c hg t) (bW m c hW t) (bp m c hp t) (bU m c hU t) (bt m c ht t) _ _

/-- The gradient at the projected embedding. -/
theorem arr11 : (dats m 0 c).arrAt 11 cfg0.N = (fun i => ((dh (x (i 0)) g W (p (i 0)) U (tg (i 0)) (i 1) * gate (x (i 0)) g W (i 1) : ℝ) : EReal) : S16384x1024.Idx → EReal) := by
  refine (dats m 0 c).arrAt_eq_of_covers 11 _ (by decide +kernel) fun t _ (y : S512x1024.Idx) => ?_
  blk_simp
  have e : ((View.whole main_v2_5).slice (win0_11.rect t)).emb y = ix2 (row t (y 0)) (y 1) := by
    unfold row
    blk_ext [idx t]
  rw [after0_11, e]
  by_cases h0 : t.val % 32 = 0
  · rw [outsAt0_A m c t h0]; frame_out; idx_vars y; exact pay14 (bx m c hx t) (bg m c hg t) (bW m c hW t) (bp m c hp t) (bU m c hU t) (bt m c ht t) _ _
  · rw [outsAt0_B m c t h0]; frame_out; idx_vars y; exact pay14 (bx m c hx t) (bg m c hg t) (bW m c hW t) (bp m c hp t) (bU m c hU t) (bt m c ht t) _ _

/-- The kept copy of the embedding. -/
theorem arr12 : (dats m 0 c).arrAt 12 cfg0.N = (fun i => ((p (i 0) (i 1) : ℝ) : EReal) : S16384x256.Idx → EReal) := by
  refine (dats m 0 c).arrAt_eq_of_covers 12 _ (by decide +kernel) fun t _ (y : S512x256.Idx) => ?_
  blk_simp
  have e : ((View.whole main_v2_6).slice (win0_12.rect t)).emb y = ix2 (row t (y 0)) (y 1) := by
    unfold row
    blk_ext [idx t]
  rw [after0_12, e]
  by_cases h0 : t.val % 32 = 0
  · rw [outsAt0_A m c t h0]; frame_out; idx_vars y; exact bp m c hp t _ _
  · rw [outsAt0_B m c t h0]; frame_out; idx_vars y; exact bp m c hp t _ _

/-- What point `k` adds to the loss. -/
def lossTerm (x tg : Fin 16384 → Fin 1024 → ℝ) (g : Fin 1024 → ℝ) (W : Fin 1024 → Fin 1024 → ℝ)
    (p : Fin 16384 → Fin 256 → ℝ) (U : Fin 256 → Fin 1024 → ℝ) (r : Fin 16384) : ℝ :=
  ∑ k, err (x r) g W (p r) U (tg r) k * err (x r) g W (p r) U (tg r) k

/-- What row `r` adds to the gradient of the gain. -/
def gainTerm (x tg : Fin 16384 → Fin 1024 → ℝ) (g : Fin 1024 → ℝ) (W : Fin 1024 → Fin 1024 → ℝ)
    (p : Fin 16384 → Fin 256 → ℝ) (U : Fin 256 → Fin 1024 → ℝ) (j : Fin 1024) (r : Fin 16384) : ℝ :=
  dxn (x r) g W (p r) U (tg r) j * (x r j * rr (x r))

omit hx hp ht hg hW hU in
/-- A sum over all rows, tile by tile, of finite terms. -/
theorem sum_tiles (f : Fin 16384 → ℝ) :
    (∑ k : Fin 32, ((∑ r : Fin 512, f (row k r) : ℝ) : EReal)) = ((∑ r, f r : ℝ) : EReal) := by
  rw [coe_sum]
  refine congrArg _ ?_
  have h : ∑ k : Fin 32, ∑ r : Fin 512, f (row k r) = ∑ _a : Fin 1, ∑ r, f r := Fin.sum_points_lanes_congr (N := 32) (n := 512) (A := 1) (L := 16384) 32 (F := fun k r => f (row k r))
    (g := fun _ r => f r) (fun t k ha hl => congrArg f (Fin.ext (by simp only [row]; omega)))
  rw [h, Fin.sum_univ_one]

/-- The accumulated loss. -/
theorem arr7 : (dats m 0 c).arrAt 7 cfg0.N = (fun _ => ((∑ r, lossTerm x tg g W p U r : ℝ) : EReal) : S8x128.Idx → EReal) := by
  refine (dats m 0 c).arrAt_eq_of_after_last 7 tL (by decide +kernel) _ fun (j : S8x128.Idx) => ?_
  blk_simp
  rw [after0_7]
  have h := Pipeline.eq_sum_fin_of_reset_step_apply_last (N := cfg0.N) (fun n h => (outsAt0 m c n h).2.1) 32 (fun _ => 0)
    (fun t _ => ((∑ r, lossTerm x tg g W p U (row t r) : ℝ) : EReal))
    (fun t h0 i => by
      rw [outsAt0_A m c t h0]; frame_out; idx_vars i
      refine (pay12 (bx m c hx t) (bg m c hg t) (bW m c hW t) (bp m c hp t) (bU m c hU t) (bt m c ht t) _ _ _).trans ?_
      pointwise [k0_pay5]; rfl)
    (fun t h0 i => by
      rw [outsAt0_B m c t h0]; frame_out; idx_vars i
      exact pay12 (bx m c hx t) (bg m c hg t) (bW m c hW t) (bp m c hp t) (bU m c hU t) (bt m c ht t) _ _ _)
    (by decide) tL rfl j
  exact h.trans ((zero_add _).trans (sum_tiles _))

/-- The accumulated gradient of the gain. -/
theorem arr8 : (dats m 0 c).arrAt 8 cfg0.N = (fun i => ((∑ r, gainTerm x tg g W p U (i 1) r : ℝ) : EReal) : S1x1024.Idx → EReal) := by
  refine (dats m 0 c).arrAt_eq_of_after_last 8 tL (by decide +kernel) _ fun (j : S1x1024.Idx) => ?_
  blk_simp
  rw [after0_8]
  have h := Pipeline.eq_sum_fin_of_reset_step_apply_last (N := cfg0.N) (fun n h => (outsAt0 m c n h).2.2.1) 32 (fun _ => 0)
    (fun t i => ((∑ r, gainTerm x tg g W p U (i 1) (row t r) : ℝ) : EReal))
    (fun t h0 i => by
      rw [outsAt0_A m c t h0]; frame_out; idx_vars i
      refine (pay3 (bx m c hx t) (bg m c hg t) (bW m c hW t) (bp m c hp t) (bU m c hU t) (bt m c ht t) _ _ _).trans ?_
      pointwise [k0_pay6]; rfl)
    (fun t h0 i => by
      rw [outsAt0_B m c t h0]; frame_out; idx_vars i
      exact pay3 (bx m c hx t) (bg m c hg t) (bW m c hW t) (bp m c hp t) (bU m c hU t) (bt m c ht t) _ _ _)
    (by decide) tL rfl j
  exact h.trans ((zero_add _).trans (sum_tiles _))

end Finite

end Cert.PleIdeal.Arrays

end
-- ==== Proof.PleClaim.lean ====
/- The loss head's kernel and its reference end with the same results on finite arguments. -/
module

public import proofs.«01_k».proof.Defs
public import proofs.«01_k».proof.Proof.PleFinite
public import proofs.«01_k».proof.Proof.PleRef
public import proofs.«01_k».proof.Proof.PleValue

@[expose] public section

set_option maxRecDepth 16384

noncomputable section

namespace Cert.PleRefIdeal.Ends

open Cert.PleRefIdeal Cert.PleRefIdeal.Gen Cert.PleRefIdeal.Value Idealize.ShloMosaic Idealize.ShloMosaic.TcCoe
open Idealize.SL.Sem Idealize.ShloMosaic.StableHlo Cert.Line Cert.Lift Cert.PleRefIdeal.Rows

variable (m : (ℓ : Loc nD τ sig) → Buf (Elt Ideal) ℓ) (c : Dev nD)

/-- What every array holds after the reference has run. -/
abbrev ends : Valuation τ sig (Elt Ideal) := after (ops (F := Ideal)) (launchContents m c)

theorem solves : Solves (ops (F := Ideal)) 6 (ends m c) := solves_after _ line

theorem arg (b : Ref sig .tc) (hb : b.idx.val < 6) : ends m c (Proc.devRef .tc b) = m ((c.tc : Thread nD τ).loc b) :=
  after_keep _ 6 _ line hb

theorem run (ρ : Dev nD → PrngReg) : θ_run defs (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq scopedRefs_eq scopedSems_eq defs main (fun _ => ops) main_eq (fun _ => ops_sub) m ρ

end Cert.PleRefIdeal.Ends

namespace Cert.Proof

open Idealize.ShloMosaic Idealize.SL.Sem Cert.Lift

theorem ple_algebraic [Cert.Pre_finite_ple.Facts] : Cert.algebraic_PleIdeal_PleRefIdeal_pre_finite_ple := by
  pair_intro
  · run_from Cert.PleIdeal.Value.run_blocks m g
  · refine (θ_run _ _ _).mono (fun r hr c => ?_) (Cert.PleRefIdeal.Ends.run m' g')
    obtain ⟨h0, h1, h2, h3, h4, h5⟩ := Cert.Pre_finite_ple.finite_of_fn (hpre c)
    obtain ⟨e0, e1, e2, e3, e4, e5⟩ := hagree c
    have h := Cert.PleRefIdeal.Ends.solves m' c
    have hx := fun i j => (congrFun ((Cert.PleRefIdeal.Ends.arg m' c Cert.PleRefIdeal.main_arg0 (by decide)).trans e0) (ix2 i j)).trans (h0 (ix2 i j))
    have hp := fun i j => (congrFun ((Cert.PleRefIdeal.Ends.arg m' c Cert.PleRefIdeal.main_arg1 (by decide)).trans e1) (ix2 i j)).trans (h1 (ix2 i j))
    have ht := fun i j => (congrFun ((Cert.PleRefIdeal.Ends.arg m' c Cert.PleRefIdeal.main_arg2 (by decide)).trans e2) (ix2 i j)).trans (h2 (ix2 i j))
    have hg := fun j => (congrFun ((Cert.PleRefIdeal.Ends.arg m' c Cert.PleRefIdeal.main_arg3 (by decide)).trans e3) (ix2 0 j)).trans (h3 (ix2 0 j))
    have hW := fun i j => (congrFun ((Cert.PleRefIdeal.Ends.arg m' c Cert.PleRefIdeal.main_arg4 (by decide)).trans e4) (ix2 i j)).trans (h4 (ix2 i j))
    have hU := fun i j => (congrFun ((Cert.PleRefIdeal.Ends.arg m' c Cert.PleRefIdeal.main_arg5 (by decide)).trans e5) (ix2 i j)).trans (h5 (ix2 i j))
    refine ⟨(hr c _).trans ?_, (hr c _).trans ?_, (hr c _).trans ?_, (hr c _).trans ?_, (hr c _).trans ?_, (hr c _).trans ?_,
      (hr c _).trans ?_, (hr c _).trans (Cert.PleRefIdeal.Ends.arg m' c _ (by decide)),
      (hr c _).trans (Cert.PleRefIdeal.Ends.arg m' c _ (by decide)), (hr c _).trans (Cert.PleRefIdeal.Ends.arg m' c _ (by decide)),
      (hr c _).trans (Cert.PleRefIdeal.Ends.arg m' c _ (by decide)), (hr c _).trans (Cert.PleRefIdeal.Ends.arg m' c _ (by decide)),
      (hr c _).trans (Cert.PleRefIdeal.Ends.arg m' c _ (by decide))⟩
    · refine Eq.trans (ext2 fun i j => ?_) (Cert.PleIdeal.Arrays.arr6 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v69 h hx hp ht hg hW hU i j
    · refine Eq.trans (ext2 fun i j => ?_) (Cert.PleIdeal.Arrays.arr7 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v71 h hx hp ht hg hW hU i j
    · refine Eq.trans (ext2 fun i j => ?_) (Cert.PleIdeal.Arrays.arr8 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v52 h hx hp ht hg hW hU i j
    · refine Eq.trans (ext2 fun i j => ?_) (Cert.PleIdeal.Arrays.arr9 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v84 h hx hp ht hg hW hU i j
    · refine Eq.trans (ext2 fun i j => ?_) (Cert.PleIdeal.Arrays.arr10 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v85 h hx hp ht hg hW hU i j
    · refine Eq.trans (ext2 fun i j => ?_) (Cert.PleIdeal.Arrays.arr11 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v86 h hx hp ht hg hW hU i j
    · refine Eq.trans (ext2 fun i j => ?_) (Cert.PleIdeal.Arrays.arr12 m c (fun i j => h0 (ix2 i j)) (fun i j => h1 (ix2 i j)) (fun i j => h2 (ix2 i j))
        (fun j => h3 (ix2 0 j)) (fun i j => h4 (ix2 i j)) (fun i j => h5 (ix2 i j))).symm
      exact Cert.PleRefIdeal.Rows.v87 h hx hp ht hg hW hU i j

end Cert.Proof

end
-- ==== Proof.MlpFinite.lean ====
/- What the channel-mixing gradient's condition says: every argument is finite. -/
module

public import proofs.«01_k».proof.Pre_finite_mlp
public import proofs.«01_k».proof.Proof.Lift

@[expose] public section

set_option maxRecDepth 16384

noncomputable section

namespace Cert.Pre_finite_mlp

open Idealize.ShloMosaic Cert.Lift

instance facts : Facts where
  bcast_S_S16384x1024 := by decide
  reducesTo_S16384x1024_S_d0_1 := by decide
  h_S_ := by decide
  bcast_S_S1x1024 := by decide
  reducesTo_S1x1024_S_d0_1 := by decide
  bcast_S_S1024x4096 := by decide
  reducesTo_S1024x4096_S_d0_1 := by decide
  bcast_S_S4096x1024 := by decide
  reducesTo_S4096x1024_S_d0_1 := by decide

theorem finite_of_fn {x0 x1 : FVec Ideal S16384x1024 .f32} {x2 x5 : FVec Ideal S1x1024 .f32} {x3 : FVec Ideal S1024x4096 .f32}
    {x4 : FVec Ideal S4096x1024 .f32} (h : fn (F := Ideal) x0 x1 x2 x3 x4 x5 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ ∀ i, x5 i = ((x5 i).toReal : EReal) := by
  have h' := congrFun h (fun a => a.elim0)
  unfold fn fn_part1 at h'
  dsimp only at h'
  simp only [andi, bit_and] at h'
  obtain ⟨⟨⟨⟨⟨h0, h1⟩, h2⟩, h3⟩, h4⟩, h5⟩ := h'
  exact ⟨fin_of_all h0, fin_of_all h1, fin_of_all h2, fin_of_all h3, fin_of_all h4, fin_of_all h5⟩

end Cert.Pre_finite_mlp

end
-- ==== Proof.MlpMath.lean ====
/- The squared-ReLU layer's gradient over the reals, one row at a time, and its split over four parts of the hidden width. -/
module

public import proofs.«01_k».proof.Proof.PleMath

@[expose] public section

noncomputable section

namespace Cert.Mlp.Math

open Cert.Lift Cert.Ple.Math

/-- The hidden row before its square. -/
def hid {n : ℕ} (y : Fin 1024 → ℝ) (A : Fin 1024 → Fin n → ℝ) (k : Fin n) : ℝ := max (∑ j, y j * A j k) 0
/-- The layer's output before its norm. -/
def out {n : ℕ} (y : Fin 1024 → ℝ) (A : Fin 1024 → Fin n → ℝ) (B : Fin n → Fin 1024 → ℝ) (j : Fin 1024) : ℝ :=
  ∑ k, hid y A k * hid y A k * B k j
/-- The gradient at the hidden row, from the gradient `e` at the output. -/
def dhid {n : ℕ} (y : Fin 1024 → ℝ) (A : Fin 1024 → Fin n → ℝ) (B : Fin n → Fin 1024 → ℝ) (e : Fin 1024 → ℝ) (k : Fin n) : ℝ :=
  (∑ j, e j * B k j) * (2 * hid y A k)
/-- The gradient at the normed row. -/
def back {n : ℕ} (y : Fin 1024 → ℝ) (A : Fin 1024 → Fin n → ℝ) (B : Fin n → Fin 1024 → ℝ) (e : Fin 1024 → ℝ) (j : Fin 1024) : ℝ :=
  ∑ k, dhid y A B e k * A j k

/-- Entry `k` of part `c` of the hidden width. -/
def part (c : Fin 4) (k : Fin 1024) : Fin 4096 := ⟨1024 * c.val + k.val, by omega⟩

/-- The gradient at the normed row, part by part. -/
theorem back_parts (y : Fin 1024 → ℝ) (A : Fin 1024 → Fin 4096 → ℝ) (B : Fin 4096 → Fin 1024 → ℝ) (e : Fin 1024 → ℝ) (j : Fin 1024) :
    back y A B e j = 0 + back y (fun a k => A a (part 0 k)) (fun k => B (part 0 k)) e j
      + back y (fun a k => A a (part 1 k)) (fun k => B (part 1 k)) e j
      + back y (fun a k => A a (part 2 k)) (fun k => B (part 2 k)) e j
      + back y (fun a k => A a (part 3 k)) (fun k => B (part 3 k)) e j := by
  have h : ∀ f : Fin 4096 → ℝ, ∑ k, f k = ∑ c : Fin 4, ∑ k : Fin 1024, f (part c k) := fun f => by
    rw [← Fintype.sum_prod_type']
    refine (Fintype.sum_equiv (finProdFinEquiv (m := 4) (n := 1024)) _ _ fun p => congrArg f (Fin.ext ?_)).symm
    simp only [part, finProdFinEquiv_apply_val]; omega
  simp only [back, h, Fin.sum_univ_four, zero_add]
  rfl

/-- The gradient at the output before its norm. -/
def dout (x g d go : Fin 1024 → ℝ) (A : Fin 1024 → Fin 4096 → ℝ) (B : Fin 4096 → Fin 1024 → ℝ) : Fin 1024 → ℝ :=
  normBack (out (xn x g) A B) (fun k => d k * go k)
/-- The gradient at the residual stream. -/
def dres (x g d go : Fin 1024 → ℝ) (A : Fin 1024 → Fin 4096 → ℝ) (B : Fin 4096 → Fin 1024 → ℝ) (j : Fin 1024) : ℝ :=
  d j + normBack x (fun k => back (xn x g) A B (dout x g d go A B) k * g k) j
/-- What a row adds to the gradient of the gain after the layer. -/
def gainOut (x g d : Fin 1024 → ℝ) (A : Fin 1024 → Fin 4096 → ℝ) (B : Fin 4096 → Fin 1024 → ℝ) (j : Fin 1024) : ℝ :=
  d j * (out (xn x g) A B j * rr (out (xn x g) A B))
/-- What a row adds to the gradient of the gain before the layer. -/
def gainIn (x g d go : Fin 1024 → ℝ) (A : Fin 1024 → Fin 4096 → ℝ) (B : Fin 4096 → Fin 1024 → ℝ) (j : Fin 1024) : ℝ :=
  back (xn x g) A B (dout x g d go A B) j * (x j * rr x)

/-- A gradient that is dropped where the hidden entry is not positive is unchanged: it is zero there. -/
theorem dhid_drop {n : ℕ} (y : Fin 1024 → ℝ) (A : Fin 1024 → Fin n → ℝ) (a : ℝ) (k : Fin n) :
    (if 0 < ∑ j, y j * A j k then a * (2 * hid y A k) else 0) = a * (2 * hid y A k) := by
  split_ifs with h
  · rfl
  · rw [hid, max_eq_right (not_lt.mp h)]; ring

end Cert.Mlp.Math

end
-- ==== Proof.MlpRef.lean ====
/- What the squared-ReLU layer's reference leaves, on finite arguments, row by row. -/
module

public import proofs.«01_k».proof.Proof.Gen.MlpBwdRefIdeal.Run
public import proofs.«01_k».proof.Proof.Line
public import proofs.«01_k».proof.Proof.MlpMath

@[expose] public section

set_option maxRecDepth 16384

noncomputable section

namespace Cert.MlpBwdRefIdeal.Rows

open Cert.MlpBwdRefIdeal Cert.MlpBwdRefIdeal.Gen Cert.MlpBwdRefIdeal.Value Idealize.ShloMosaic Idealize.ShloMosaic.TcCoe
open Idealize.SL.Sem Idealize.ShloMosaic.StableHlo Cert.Line Cert.Lift Cert.Ple.Math Cert.Mlp.Math

theorem line : Line (ops (F := Ideal)) 6 := by
  unfold ops
  repeat'
    refine ⟨?_, ?_⟩
    · first
        | (with_reducible apply step_nullary) <;> decide
        | (with_reducible apply step_unary) <;> decide
        | (with_reducible apply step_binary) <;> decide
        | (with_reducible apply step_reshape) <;> decide
        | (with_reducible apply step_ternary) <;> decide
        | (apply step_nullary) <;> decide
        | (apply step_unary) <;> decide
        | (apply step_binary) <;> decide
  trivial

theorem div1024 (a : ℝ) : Ideal.div (a : EReal) ((1024 : ℝ) : EReal) = ((a / 1024 : ℝ) : EReal) := div_coe_coe (by norm_num)

variable {x d : Fin 16384 → Fin 1024 → ℝ} {g go : Fin 1024 → ℝ} {A : Fin 1024 → Fin 4096 → ℝ} {B : Fin 4096 → Fin 1024 → ℝ}
variable {E : Valuation τ sig (Elt Ideal)} (h : Solves (ops (F := Ideal)) 6 E)
  (hx : ∀ i j, (E main_arg0 : S16384x1024.Idx → EReal) (ix2 i j) = ((x i j : ℝ) : EReal))
  (hd : ∀ i j, (E main_arg1 : S16384x1024.Idx → EReal) (ix2 i j) = ((d i j : ℝ) : EReal))
  (hg : ∀ j, (E main_arg2 : S1x1024.Idx → EReal) (ix2 0 j) = ((g j : ℝ) : EReal))
  (hA : ∀ i j, (E main_arg3 : S1024x4096.Idx → EReal) (ix2 i j) = ((A i j : ℝ) : EReal))
  (hB : ∀ i j, (E main_arg4 : S4096x1024.Idx → EReal) (ix2 i j) = ((B i j : ℝ) : EReal))
  (ho : ∀ j, (E main_arg5 : S1x1024.Idx → EReal) (ix2 0 j) = ((go j : ℝ) : EReal))
include h hx hd hg hA hB ho

/-- The mean square of the input plus the small constant. -/
theorem v8 (i : Fin 16384) (j : Fin 1) : (E main_v8 : S16384x1.Idx → EReal) (ix2 i j) = ((ms (x i) + eps : ℝ) : EReal) := by
  rw [h.binary main_v8 rfl, h.unary main_v7 rfl, h.nullary main_cst_3 rfl, h.binary main_v6 rfl, h.unary main_v5 rfl,
    h.nullary main_cst_2 rfl, h.unary main_v4 rfl, h.binary main_v3 rfl, h.nullary main_cst_1 rfl, h.binary main_v2 rfl]
  pointwise []
  simp only [hx, c_1024, c_eps, zero_coe, ← EReal.coe_mul, ← EReal.coe_add, zero_add, coe_sum, div1024, ms]

theorem v9 (i : Fin 16384) (j : Fin 1) : (E main_v9 : S16384x1.Idx → EReal) (ix2 i j) = ((rr (x i) : ℝ) : EReal) := by
  rw [h.unary main_v9 rfl]
  pointwise []
  rw [v8 h hx hd hg hA hB ho, rsqrt_pos (ms_eps_pos _), rr]

theorem v14 (i : Fin 16384) (j : Fin 1024) : (E main_v14 : S16384x1024.Idx → EReal) (ix2 i j) = ((x i j * rr (x i) : ℝ) : EReal) := by
  rw [h.binary main_v14 rfl, h.unary main_v13 rfl]
  pointwise []
  simp only [v9 h hx hd hg hA hB ho, hx, ← EReal.coe_mul]

theorem v18 (i : Fin 16384) (k : Fin 4096) : (E main_v18 : S16384x4096.Idx → EReal) (ix2 i k)
    = ((∑ j, xn (x i) g j * A j k : ℝ) : EReal) := by
  rw [h.binary main_v18 rfl, h.unary main_v0 rfl, h.nullary main_cst rfl, h.binary main_v17 rfl, h.binary main_v16 rfl,
    h.unary main_v15 rfl]
  pointwise []
  simp only [v14 h hx hd hg hA hB ho, hg, hA, zero_coe, ← EReal.coe_mul, ← EReal.coe_add, add_zero, coe_sum, xn]

/-- The hidden rows. -/
theorem v19 (i : Fin 16384) (k : Fin 4096) : (E main_v19 : S16384x4096.Idx → EReal) (ix2 i k) = ((hid (xn (x i) g) A k : ℝ) : EReal) := by
  have e0 : (E main_call0_cst : S_.Idx → EReal) = (constant S_ .f32 0x00000000#32 : FVec Ideal S_ .f32) :=
    by rw [h.nullary main_call0_cst rfl]; rfl
  have e1 : (E main_call0_v0 : S16384x4096.Idx → EReal) = broadcastInDim S16384x4096 ![] bcast_S_S16384x4096 (E main_call0_cst : S_.Idx → EReal) :=
    by rw [h.unary main_call0_v0 rfl]; rfl
  have e2 : (E main_v19 : S16384x4096.Idx → EReal)
      = maximumf (F := Ideal) (φ := .f32) (E main_v18 : S16384x4096.Idx → EReal) (E main_call0_v0 : S16384x4096.Idx → EReal) :=
    by rw [h.binary main_v19 rfl]; rfl
  rw [e2, e1, e0]
  pointwise []
  simp only [v18 h hx hd hg hA hB ho, zero_coe, max_coe, hid]

theorem v23 (i : Fin 16384) (k : Fin 4096) : (E main_v23 : S16384x4096.Idx → EReal) (ix2 i k)
    = ((hid (xn (x i) g) A k * hid (xn (x i) g) A k : ℝ) : EReal) := by
  rw [h.binary main_v23 rfl]
  pointwise []
  simp only [v19 h hx hd hg hA hB ho, ← EReal.coe_mul]

/-- The layer's output before its norm. -/
theorem v27 (i : Fin 16384) (j : Fin 1024) : (E main_v27 : S16384x1024.Idx → EReal) (ix2 i j) = ((out (xn (x i) g) A B j : ℝ) : EReal) := by
  rw [h.binary main_v27 rfl, h.unary main_v1 rfl, h.nullary main_cst_0 rfl, h.binary main_v26 rfl]
  pointwise []
  simp only [v23 h hx hd hg hA hB ho, hB, zero_coe, ← EReal.coe_mul, ← EReal.coe_add, add_zero, coe_sum, out]

theorem v34 (i : Fin 16384) (j : Fin 1) : (E main_v34 : S16384x1.Idx → EReal) (ix2 i j)
    = ((ms (out (xn (x i) g) A B) + eps : ℝ) : EReal) := by
  rw [h.binary main_v34 rfl, h.unary main_v33 rfl, h.nullary main_cst_10 rfl, h.binary main_v32 rfl, h.unary main_v31 rfl,
    h.nullary main_cst_9 rfl, h.unary main_v30 rfl, h.binary main_v29 rfl, h.nullary main_cst_8 rfl, h.binary main_v28 rfl]
  pointwise []
  simp only [v27 h hx hd hg hA hB ho, c_1024, c_eps, zero_coe, ← EReal.coe_mul, ← EReal.coe_add, zero_add, coe_sum, div1024, ms]

theorem v35 (i : Fin 16384) (j : Fin 1) : (E main_v35 : S16384x1.Idx → EReal) (ix2 i j) = ((rr (out (xn (x i) g) A B) : ℝ) : EReal) := by
  rw [h.unary main_v35 rfl]
  pointwise []
  rw [v34 h hx hd hg hA hB ho, rsqrt_pos (ms_eps_pos _), rr]

/-- The gradient at the normed output, times the gain. -/
theorem v49 (i : Fin 16384) (j : Fin 1024) : (E main_v49 : S16384x1024.Idx → EReal) (ix2 i j) = ((d i j * go j : ℝ) : EReal) := by
  rw [h.binary main_v49 rfl, h.unary main_v48 rfl, h.reshape main_v44 rfl]
  pointwise []
  simp only [hd, ho, ← EReal.coe_mul]

/-- The gradient of the gain after the layer. -/
theorem v47 (i : Fin 1) (j : Fin 1024) : (E main_v47 : S1x1024.Idx → EReal) (ix2 i j) = ((∑ r, gainOut (x r) g (d r) A B j : ℝ) : EReal) := by
  rw [h.reshape main_v47 rfl, h.binary main_v46 rfl, h.nullary main_cst_12 rfl, h.binary main_v45 rfl, h.reshape main_v44 rfl,
    h.binary main_v40 rfl, h.unary main_v39 rfl]
  pointwise []
  simp only [v27 h hx hd hg hA hB ho, v35 h hx hd hg hA hB ho, hd, zero_coe, ← EReal.coe_mul, ← EReal.coe_add, zero_add, coe_sum]
  exact congrArg _ (Finset.sum_congr rfl fun r _ => by unfold gainOut; ring)

theorem v59 (i : Fin 16384) (j : Fin 1024) : (E main_v59 : S16384x1024.Idx → EReal) (ix2 i j)
    = (((∑ k, out (xn (x i) g) A B k * (d i k * go k))
        * (-1 / 2 * (rr (out (xn (x i) g) A B) / (ms (out (xn (x i) g) A B) + eps))) / 1024 : ℝ) : EReal) := by
  rw [h.unary main_v59 rfl, h.binary main_v58 rfl, h.nullary main_cst_15 rfl, h.binary main_v57 rfl, h.unary main_v56 rfl,
    h.nullary main_cst_14 rfl, h.binary main_v55 rfl, h.binary main_v38 rfl, h.unary main_v37 rfl, h.nullary main_cst_11 rfl,
    h.binary main_v36 rfl, h.reshape main_v52 rfl, h.binary main_v51 rfl, h.nullary main_cst_13 rfl, h.binary main_v50 rfl]
  pointwise []
  simp only [v49 h hx hd hg hA hB ho, v27 h hx hd hg hA hB ho, v35 h hx hd hg hA hB ho, v34 h hx hd hg hA hB ho, c_1024, c_neg_half,
    zero_coe, ← EReal.coe_mul, ← EReal.coe_add, zero_add, coe_sum, div_coe_coe (ms_eps_pos _).ne', div1024]
  rw [Fin.sum_univ_one]

/-- The gradient at the output before its norm. -/
theorem v63 (i : Fin 16384) (j : Fin 1024) : (E main_v63 : S16384x1024.Idx → EReal) (ix2 i j)
    = ((dout (x i) g (d i) go A B j : ℝ) : EReal) := by
  rw [h.binary main_v63 rfl, h.binary main_v62 rfl, h.binary main_v61 rfl, h.binary main_v60 rfl, h.binary main_v54 rfl,
    h.unary main_v53 rfl]
  pointwise []
  simp only [v59 h hx hd hg hA hB ho, v27 h hx hd hg hA hB ho, v49 h hx hd hg hA hB ho, v35 h hx hd hg hA hB ho,
    ← EReal.coe_mul, ← EReal.coe_add]
  refine congrArg _ ?_
  rw [dout, ← normBack_eq]

/-- The gradient at the hidden rows. -/
theorem v67 (i : Fin 16384) (k : Fin 4096) : (E main_v67 : S16384x4096.Idx → EReal) (ix2 i k)
    = ((dhid (xn (x i) g) A B (dout (x i) g (d i) go A B) k : ℝ) : EReal) := by
  rw [h.ternary main_v67 rfl, h.binary main_v65 rfl, h.binary main_v64 rfl, h.unary main_v66 rfl, h.nullary main_cst_16 rfl,
    h.binary main_v25 rfl, h.unary main_v24 rfl, h.nullary main_cst_7 rfl, h.binary main_v21 rfl, h.unary main_v20 rfl,
    h.nullary main_cst_5 rfl]
  pointwise []
  simp only [v63 h hx hd hg hA hB ho, v19 h hx hd hg hA hB ho, v18 h hx hd hg hA hB ho, hB, c_two, zero_coe, ← EReal.coe_mul, coe_sum]
  refine Eq.trans ?_ (congrArg _ (dhid_drop (xn (x i) g) A (∑ j, dout (x i) g (d i) go A B j * B k j) k))
  split_ifs with h1 h2 h2
  · rfl
  · exact absurd (EReal.coe_lt_coe_iff.mp h1) h2
  · exact absurd (EReal.coe_lt_coe_iff.mpr h2) h1
  · rfl

theorem v68 (i : Fin 16384) (j : Fin 1024) : (E main_v68 : S16384x1024.Idx → EReal) (ix2 i j)
    = ((back (xn (x i) g) A B (dout (x i) g (d i) go A B) j : ℝ) : EReal) := by
  rw [h.binary main_v68 rfl]
  pointwise []
  simp only [v67 h hx hd hg hA hB ho, hA, ← EReal.coe_mul, coe_sum, back]

/-- The gradient of the gain before the layer. -/
theorem v71 (i : Fin 1) (j : Fin 1024) : (E main_v71 : S1x1024.Idx → EReal) (ix2 i j) = ((∑ r, gainIn (x r) g (d r) go A B j : ℝ) : EReal) := by
  rw [h.reshape main_v71 rfl, h.binary main_v70 rfl, h.nullary main_cst_17 rfl, h.binary main_v69 rfl]
  pointwise []
  simp only [v68 h hx hd hg hA hB ho, v14 h hx hd hg hA hB ho, zero_coe, ← EReal.coe_mul, ← EReal.coe_add, zero_add, coe_sum]
  exact congrArg _ (Finset.sum_congr rfl fun r _ => by unfold gainIn; ring)

theorem v73 (i : Fin 16384) (j : Fin 1024) : (E main_v73 : S16384x1024.Idx → EReal) (ix2 i j)
    = ((back (xn (x i) g) A B (dout (x i) g (d i) go A B) j * g j : ℝ) : EReal) := by
  rw [h.binary main_v73 rfl, h.unary main_v72 rfl]
  pointwise []
  simp only [v68 h hx hd hg hA hB ho, hg, ← EReal.coe_mul]

theorem v84 (i : Fin 16384) (j : Fin 1024) : (E main_v84 : S16384x1024.Idx → EReal) (ix2 i j)
    = (((∑ k, x i k * (back (xn (x i) g) A B (dout (x i) g (d i) go A B) k * g k))
        * (-1 / 2 * (rr (x i) / (ms (x i) + eps))) / 1024 : ℝ) : EReal) := by
  rw [h.unary main_v84 rfl, h.binary main_v83 rfl, h.nullary main_cst_20 rfl, h.binary main_v82 rfl, h.unary main_v81 rfl,
    h.nullary main_cst_19 rfl, h.binary main_v80 rfl, h.binary main_v12 rfl, h.unary main_v11 rfl, h.nullary main_cst_4 rfl,
    h.binary main_v10 rfl, h.reshape main_v76 rfl, h.binary main_v75 rfl, h.nullary main_cst_18 rfl, h.binary main_v74 rfl]
  pointwise []
  simp only [v73 h hx hd hg hA hB ho, hx, v9 h hx hd hg hA hB ho, v8 h hx hd hg hA hB ho, c_1024, c_neg_half,
    zero_coe, ← EReal.coe_mul, ← EReal.coe_add, zero_add, coe_sum, div_coe_coe (ms_eps_pos _).ne', div1024]
  rw [Fin.sum_univ_one]

/-- The gradient at the residual stream. -/
theorem v88 (i : Fin 16384) (j : Fin 1024) : (E main_v88 : S16384x1024.Idx → EReal) (ix2 i j)
    = ((dres (x i) g (d i) go A B j : ℝ) : EReal) := by
  rw [h.binary main_v88 rfl, h.binary main_v87 rfl, h.binary main_v86 rfl, h.binary main_v85 rfl, h.binary main_v79 rfl,
    h.binary main_v78 rfl, h.unary main_v77 rfl]
  pointwise []
  simp only [v84 h hx hd hg hA hB ho, hd, v73 h hx hd hg hA hB ho, v9 h hx hd hg hA hB ho, hx, ← EReal.coe_mul, ← EReal.coe_add]
  refine congrArg _ ?_
  rw [dres, ← normBack_eq]; ring

theorem v89 (i : Fin 16384) (j : Fin 1024) : (E main_v89 : S16384x1024.Idx → EReal) (ix2 i j)
    = ((dout (x i) g (d i) go A B j : ℝ) : EReal) := by
  rw [h.unary main_v89 rfl]
  pointwise []
  exact v63 h hx hd hg hA hB ho i j

theorem v90 (i : Fin 16384) (k : Fin 4096) : (E main_v90 : S16384x4096.Idx → EReal) (ix2 i k)
    = ((dhid (xn (x i) g) A B (dout (x i) g (d i) go A B) k : ℝ) : EReal) := by
  rw [h.unary main_v90 rfl]
  pointwise []
  exact v67 h hx hd hg hA hB ho i k

theorem v91 (i : Fin 16384) (k : Fin 4096) : (E main_v91 : S16384x4096.Idx → EReal) (ix2 i k)
    = ((hid (xn (x i) g) A k * hid (xn (x i) g) A k : ℝ) : EReal) := by
  rw [h.unary main_v91 rfl]
  pointwise []
  exact v23 h hx hd hg hA hB ho i k

end Cert.MlpBwdRefIdeal.Rows

end
-- ==== Proof.MlpHost.lean ====
/- What the squared-ReLU layer's forward lines hand its gradient's kernel, on finite arguments. -/
module

public import proofs.«01_k».proof.Proof.Gen.MlpBwdIdeal.Frame
public import proofs.«01_k».proof.Proof.Line
public import proofs.«01_k».proof.Proof.MlpMath

@[expose] public section

set_option maxRecDepth 16384

noncomputable section

namespace Cert.MlpBwdIdeal.HostRows

open Cert.MlpBwdIdeal Cert.MlpBwdIdeal.Gen Idealize.ShloMosaic Idealize.ShloMosaic.TcCoe
open Idealize.SL.Sem Idealize.ShloMosaic.StableHlo Cert.Line Cert.Lift Cert.Ple.Math Cert.Mlp.Math

theorem line : Line (hostOps0 (F := Ideal)) 6 := by
  unfold hostOps0
  repeat'
    refine ⟨?_, ?_⟩
    · first
        | (with_reducible apply step_nullary) <;> decide
        | (with_reducible apply step_unary) <;> decide
        | (with_reducible apply step_binary) <;> decide
        | (with_reducible apply step_reshape) <;> decide
  trivial

theorem div1024 (a : ℝ) : Ideal.div (a : EReal) ((1024 : ℝ) : EReal) = ((a / 1024 : ℝ) : EReal) := div_coe_coe (by norm_num)

variable {x : Fin 16384 → Fin 1024 → ℝ} {g : Fin 1024 → ℝ} {A : Fin 1024 → Fin 4096 → ℝ} {B : Fin 4096 → Fin 1024 → ℝ}
variable {E : Valuation τ sig (Elt Ideal)} (h : Solves (hostOps0 (F := Ideal)) 6 E)
  (hx : ∀ i j, (E main_arg0 : S16384x1024.Idx → EReal) (ix2 i j) = ((x i j : ℝ) : EReal))
  (hg : ∀ j, (E main_arg2 : S1x1024.Idx → EReal) (ix2 0 j) = ((g j : ℝ) : EReal))
  (hA : ∀ i j, (E main_arg3 : S1024x4096.Idx → EReal) (ix2 i j) = ((A i j : ℝ) : EReal))
  (hB : ∀ i j, (E main_arg4 : S4096x1024.Idx → EReal) (ix2 i j) = ((B i j : ℝ) : EReal))
include h hx hg hA hB

/-- The normed rows. -/
theorem v11 (i : Fin 16384) (j : Fin 1024) : (E main_v11 : S16384x1024.Idx → EReal) (ix2 i j) = ((xn (x i) g j : ℝ) : EReal) := by
  rw [h.binary main_v11 rfl, h.unary main_v10 rfl, h.binary main_v9 rfl, h.unary main_v8 rfl, h.unary main_v7 rfl,
    h.binary main_v6 rfl, h.unary main_v5 rfl, h.nullary main_cst_1 rfl, h.binary main_v4 rfl, h.unary main_v3 rfl,
    h.nullary main_cst_0 rfl, h.unary main_v2 rfl, h.binary main_v1 rfl, h.nullary main_cst rfl, h.binary main_v0 rfl]
  pointwise []
  simp only [hx, hg, c_1024, c_eps, zero_coe, ← EReal.coe_mul, ← EReal.coe_add, zero_add, coe_sum, div1024, rsqrt_ms, xn]

theorem v14 (i : Fin 16384) (k : Fin 4096) : (E main_v14 : S16384x4096.Idx → EReal) (ix2 i k) = ((hid (xn (x i) g) A k : ℝ) : EReal) := by
  rw [h.binary main_v14 rfl, h.unary main_v13 rfl, h.nullary main_cst_2 rfl, h.binary main_v12 rfl]
  pointwise []
  simp only [v11 h hx hg hA hB, hA, zero_coe, ← EReal.coe_mul, coe_sum, max_coe, hid]

/-- The layer's output before its norm. -/
theorem v16 (i : Fin 16384) (j : Fin 1024) : (E main_v16 : S16384x1024.Idx → EReal) (ix2 i j) = ((out (xn (x i) g) A B j : ℝ) : EReal) := by
  rw [h.binary main_v16 rfl, h.binary main_v15 rfl]
  pointwise []
  simp only [v14 h hx hg hA hB, hB, ← EReal.coe_mul, coe_sum, out]

/-- The normed rows, as the kernel keeps them. -/
theorem v17 (i : Fin 16384) (j : Fin 1024) : (E main_v17 : S16384x1024.Idx → EReal) (ix2 i j) = ((xn (x i) g j : ℝ) : EReal) := by
  rw [h.unary main_v17 rfl]
  pointwise []
  exact v11 h hx hg hA hB i j

theorem v18 (i : Fin 1024) (k : Fin 4096) : (E main_v18 : S1024x4096.Idx → EReal) (ix2 i k) = ((A i k : ℝ) : EReal) := by
  rw [h.unary main_v18 rfl]
  pointwise []
  exact hA i k

theorem v19 (k : Fin 4096) (j : Fin 1024) : (E main_v19 : S4096x1024.Idx → EReal) (ix2 k j) = ((B k j : ℝ) : EReal) := by
  rw [h.unary main_v19 rfl]
  pointwise []
  exact hB k j

end Cert.MlpBwdIdeal.HostRows

end
-- ==== Proof.MlpKernel.lean ====
/- What the squared-ReLU layer's gradient computes at one grid point, on finite blocks: 256 rows, the hidden width in four parts. -/
module

public import proofs.«01_k».proof.Proof.Gen.MlpBwdIdeal.Skeleton
public import proofs.«01_k».proof.Proof.MlpMath

@[expose] public section

set_option maxRecDepth 16384

noncomputable section

namespace Cert.MlpBwdIdeal.Kernel

open Cert.MlpBwdIdeal Cert.MlpBwdIdeal.Gen Idealize.ShloMosaic
open Cert.Lift Cert.Ple.Math Cert.Mlp.Math

theorem div1024 (a : ℝ) : Ideal.div (a : EReal) ((1024 : ℝ) : EReal) = ((a / 1024 : ℝ) : EReal) := div_coe_coe (by norm_num)

variable {x d fo y e z : Fin 256 → Fin 1024 → ℝ} {g go : Fin 1024 → ℝ} {A B A0 A1 A2 A3 B0 B1 B2 B3 : Fin 1024 → Fin 1024 → ℝ}
variable {X D FO : FVec Ideal S256x1024 .f32} {Y DE : FVec Ideal S256x1024 .bf16} {G GO : FVec Ideal S1x1024 .f32} {Z : FVec Ideal S256x1024 .f32}
  {MA MB MA0 MB0 MA1 MB1 MA2 MB2 MA3 MB3 : FVec Ideal S1024x1024 .bf16}

section Out

variable (hd : ∀ i j, D (ix2 i j) = ((d i j : ℝ) : EReal)) (hf : ∀ i j, FO (ix2 i j) = ((fo i j : ℝ) : EReal))
  (ho : ∀ j, GO (ix2 0 j) = ((go j : ℝ) : EReal))

include hf in
theorem pay6 (i : Fin 256) (j : Fin 1) : k0_pay6 (F := Ideal) FO (ix2 i j) = ((rr (fo i) : ℝ) : EReal) := by
  pointwise [k0_pay6, k0_pay5]
  simp only [hf, c_1024, c_eps, ← EReal.coe_mul, ← EReal.coe_add, coe_sum, div1024, rsqrt_ms]

include hf in
theorem pay7 (i : Fin 256) (j : Fin 1024) : k0_pay7 (F := Ideal) FO (ix2 i j) = ((fo i j * rr (fo i) : ℝ) : EReal) := by
  pointwise [k0_pay7, k0_pay5]
  simp only [hf, pay6 hf, ← EReal.coe_mul]

include hd hf ho in
/-- The gradient at the output before its norm. -/
theorem pay8 (i : Fin 256) (j : Fin 1024) : k0_pay8 (F := Ideal) D FO GO (ix2 i j)
    = ((normBack (fo i) (fun k => d i k * go k) j : ℝ) : EReal) := by
  pointwise [k0_pay8]
  simp only [hd, ho, pay6 hf, pay7 hf, c_1024, ← EReal.coe_mul, ← EReal.coe_sub, coe_sum, div1024, normBack]

include hd hf in
/-- What a grid point adds to the gradient of the gain after the layer. -/
theorem pay9 (L : FVec Ideal S1x1024 .f32) (i : Fin 1) (j : Fin 1024) : k0_pay9 (F := Ideal) D FO L (ix2 i j)
    = L (ix2 i j) + ((∑ r, d r j * (fo r j * rr (fo r)) : ℝ) : EReal) := by
  pointwise [k0_pay9]
  simp only [hd, pay7 hf, ← EReal.coe_mul, coe_sum]

end Out

section Hidden

variable (hy : ∀ i j, Y (ix2 i j) = ((y i j : ℝ) : EReal)) (hA : ∀ j k, MA (ix2 j k) = ((A j k : ℝ) : EReal))
  (he : ∀ i j, DE (ix2 i j) = ((e i j : ℝ) : EReal)) (hB : ∀ k j, MB (ix2 k j) = ((B k j : ℝ) : EReal))

include hy hA in
/-- One part of the hidden rows. -/
theorem pay18 (i : Fin 256) (k : Fin 1024) : k0_pay18 (F := Ideal) Y MA (ix2 i k) = ((hid (y i) A k : ℝ) : EReal) := by
  pointwise [k0_pay18]
  simp only [hy, hA, zero_coe, ← EReal.coe_mul, ← EReal.coe_add, zero_add, coe_sum, max_coe, hid]

include hy hA in
theorem pay19 (i : Fin 256) (k : Fin 1024) : k0_pay19 (F := Ideal) Y MA (ix2 i k) = ((hid (y i) A k * hid (y i) A k : ℝ) : EReal) := by
  pointwise [k0_pay19]
  simp only [pay18 hy hA, ← EReal.coe_mul]

include hy hA he hB in
/-- One part of the gradient at the hidden rows. -/
theorem pay20 (i : Fin 256) (k : Fin 1024) : k0_pay20 (F := Ideal) DE Y MA MB (ix2 i k) = ((dhid (y i) A B (e i) k : ℝ) : EReal) := by
  pointwise [k0_pay20]
  simp only [pay18 hy hA, he, hB, zero_coe, c_two, ← EReal.coe_mul, ← EReal.coe_add, zero_add, coe_sum, dhid]

end Hidden

/-- The four parts are computed alike. -/
theorem pay10_eq : k0_pay10 (F := Ideal) Y = Y := ext2 fun i j => by pointwise [k0_pay10]
theorem pay11_eq : k0_pay11 (F := Ideal) Y MA = k0_pay18 Y MA := by unfold k0_pay11; rw [pay10_eq]; rfl
theorem pay12_eq : k0_pay12 (F := Ideal) Y MA = k0_pay19 Y MA := by unfold k0_pay12; rw [pay11_eq]; rfl
theorem pay13_eq : k0_pay13 (F := Ideal) DE Y MA MB = k0_pay20 DE Y MA MB := by unfold k0_pay13; rw [pay11_eq]; rfl
theorem pay15_eq : k0_pay15 (F := Ideal) Y MA = k0_pay18 Y MA := by unfold k0_pay15; rw [pay10_eq]; rfl
theorem pay16_eq : k0_pay16 (F := Ideal) Y MA = k0_pay19 Y MA := by unfold k0_pay16; rw [pay15_eq]; rfl
theorem pay17_eq : k0_pay17 (F := Ideal) DE (k0_pay15 Y MA) MB = k0_pay20 DE Y MA MB := by unfold k0_pay17; rw [pay15_eq]; rfl
theorem pay23_eq : k0_pay23 (F := Ideal) Y MA = k0_pay19 Y MA := rfl
theorem pay24_eq : k0_pay24 (F := Ideal) DE Y MA MB = k0_pay20 DE Y MA MB := rfl

section Whole

variable (hy : ∀ i j, Y (ix2 i j) = ((y i j : ℝ) : EReal)) (he : ∀ i j, DE (ix2 i j) = ((e i j : ℝ) : EReal))
  (hA0 : ∀ j k, MA0 (ix2 j k) = ((A0 j k : ℝ) : EReal)) (hB0 : ∀ k j, MB0 (ix2 k j) = ((B0 k j : ℝ) : EReal))
  (hA1 : ∀ j k, MA1 (ix2 j k) = ((A1 j k : ℝ) : EReal)) (hB1 : ∀ k j, MB1 (ix2 k j) = ((B1 k j : ℝ) : EReal))
  (hA2 : ∀ j k, MA2 (ix2 j k) = ((A2 j k : ℝ) : EReal)) (hB2 : ∀ k j, MB2 (ix2 k j) = ((B2 k j : ℝ) : EReal))
  (hA3 : ∀ j k, MA3 (ix2 j k) = ((A3 j k : ℝ) : EReal)) (hB3 : ∀ k j, MB3 (ix2 k j) = ((B3 k j : ℝ) : EReal))
include hy he hA0 hB0 hA1 hB1 hA2 hB2 hA3 hB3

/-- The gradient at the normed rows, the four parts added up. -/
theorem pay25 (i : Fin 256) (j : Fin 1024) :
    k0_pay25 (F := Ideal) DE (k0_pay10 Y) (k0_pay21 DE (k0_pay10 Y) (k0_pay14 DE Y MA0 MB0 MA0) (k0_pay15 Y MA1) MB1 MA1 MA2 MB2 MA2) MA3 MB3 MA3 (ix2 i j)
    = ((0 + back (y i) A0 B0 (e i) j + back (y i) A1 B1 (e i) j + back (y i) A2 B2 (e i) j + back (y i) A3 B3 (e i) j : ℝ) : EReal) := by
  pointwise [k0_pay25, k0_pay21, k0_pay14]
  simp only [pay10_eq, pay13_eq, pay17_eq, pay24_eq, pay20 hy hA0 he hB0, pay20 hy hA1 he hB1, pay20 hy hA2 he hB2, pay20 hy hA3 he hB3,
    hA0, hA1, hA2, hA3, zero_coe, ← EReal.coe_mul, ← EReal.coe_add, zero_add, coe_sum, back]

end Whole

section Norm

variable (hx : ∀ i j, X (ix2 i j) = ((x i j : ℝ) : EReal))
include hx

theorem pay26 (i : Fin 256) (j : Fin 1) : k0_pay26 (F := Ideal) X (ix2 i j) = ((rr (x i) : ℝ) : EReal) := by
  pointwise [k0_pay26]
  simp only [hx, c_1024, c_eps, ← EReal.coe_mul, ← EReal.coe_add, coe_sum, div1024, rsqrt_ms]

theorem pay27 (i : Fin 256) (j : Fin 1024) : k0_pay27 (F := Ideal) X (ix2 i j) = ((x i j * rr (x i) : ℝ) : EReal) := by
  pointwise [k0_pay27]
  simp only [hx, pay26 hx, ← EReal.coe_mul]

/-- What a grid point adds to the gradient of the gain before the layer, from the gradient at the normed rows. -/
theorem pay1 (hz : ∀ i j, Z (ix2 i j) = ((z i j : ℝ) : EReal)) (L : FVec Ideal S1x1024 .f32) (i : Fin 1) (j : Fin 1024) :
    k0_pay1 (F := Ideal) Z (k0_pay27 X) L (ix2 i j) = L (ix2 i j) + ((∑ r, z r j * (x r j * rr (x r)) : ℝ) : EReal) := by
  pointwise [k0_pay1]
  simp only [hz, pay27 hx, ← EReal.coe_mul, coe_sum]

/-- The gradient at the residual stream, from the gradient at the normed rows. -/
theorem pay2 {N : FVec Ideal S256x1024 .bf16} {W : FVec Ideal S256x1024 .f32} {M1 M2 M3 : FVec Ideal S1024x1024 .bf16}
    (hd : ∀ i j, D (ix2 i j) = ((d i j : ℝ) : EReal)) (hg : ∀ j, G (ix2 0 j) = ((g j : ℝ) : EReal))
    (hz : ∀ i j, k0_pay25 (F := Ideal) DE N W M1 M2 M3 (ix2 i j) = ((z i j : ℝ) : EReal)) (i : Fin 256) (j : Fin 1024) :
    k0_pay2 (F := Ideal) D (k0_pay26 X) (k0_pay27 X) (k0_pay28 DE N W M1 M2 M3 G) (k0_pay29 DE N W M1 M2 M3 X G) (ix2 i j)
    = ((d i j + normBack (x i) (fun k => z i k * g k) j : ℝ) : EReal) := by
  pointwise [k0_pay2, k0_pay28, k0_pay29]
  simp only [hz, hd, hg, pay26 hx, pay27 hx, c_1024, ← EReal.coe_mul, ← EReal.coe_add, ← EReal.coe_sub, coe_sum, div1024, normBack]

end Norm

end Cert.MlpBwdIdeal.Kernel

end
-- ==== Proof.MlpValue.lean ====
/- The arrays the squared-ReLU layer's gradient leaves, on finite arguments. -/
module

public import proofs.«01_k».proof.Proof.Gen.MlpBwdIdeal.Value
public import proofs.«01_k».proof.Proof.MlpHost
public import proofs.«01_k».proof.Proof.MlpKernel

@[expose] public section

set_option maxRecDepth 16384

noncomputable section

namespace Cert.MlpBwdIdeal.Arrays

open Cert.MlpBwdIdeal Cert.MlpBwdIdeal.Gen Idealize.ShloMosaic Idealize.ShloMosaic.TcCoe Idealize.SL.Sem
open Idealize.ShloMosaic.Pipeline (Dat)
open Cert.Lift Cert.Ple.Math Cert.Mlp.Math Cert.MlpBwdIdeal.Kernel Cert.Line

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- The last point. -/
abbrev tL : Fin cfg0.N := ⟨63, by decide⟩

/-- Row `i` of tile `t`. -/
def row (t : Fin 64) (i : Fin 256) : Fin 16384 := ⟨256 * t.val + i.val, by omega⟩

variable (c : Dev nD)

theorem read0 (A : S16384x1024.Idx → Elt Ideal .f32) (t : Fin cfg0.N) (i : Fin 256) (j : Fin 1024) :
    ((cfg0.win 0).blk t).view.read (Elt Ideal) A (ix2 i j) = A (ix2 (row t i) j) := by
  unfold row
  blk_ext [idx t]
theorem read1 (A : S16384x1024.Idx → Elt Ideal .f32) (t : Fin cfg0.N) (i : Fin 256) (j : Fin 1024) :
    ((cfg0.win 1).blk t).view.read (Elt Ideal) A (ix2 i j) = A (ix2 (row t i) j) := by
  unfold row
  blk_ext [idx t]
theorem read2 (A : S16384x1024.Idx → Elt Ideal .f32) (t : Fin cfg0.N) (i : Fin 256) (j : Fin 1024) :
    ((cfg0.win 2).blk t).view.read (Elt Ideal) A (ix2 i j) = A (ix2 (row t i) j) := by
  unfold row
  blk_ext [idx t]
theorem read3 (A : S16384x1024.Idx → Elt Ideal .bf16) (t : Fin cfg0.N) (i : Fin 256) (j : Fin 1024) :
    ((cfg0.win 3).blk t).view.read (Elt Ideal) A (ix2 i j) = A (ix2 (row t i) j) := by
  unfold row
  blk_ext [idx t]
theorem read4 (A : S1x1024.Idx → Elt Ideal .f32) (t : Fin cfg0.N) (j : Fin 1024) :
    ((cfg0.win 4).blk t).view.read (Elt Ideal) A (ix2 0 j) = A (ix2 0 j) := by
  blk_ext [idx t]
theorem read5 (A : S1024x4096.Idx → Elt Ideal .bf16) (t : Fin cfg0.N) (j : Fin 1024) (k : Fin 4096) :
    ((cfg0.win 5).blk t).view.read (Elt Ideal) A (ix2 j k) = A (ix2 j k) := by
  blk_ext [idx t]
theorem read6 (A : S4096x1024.Idx → Elt Ideal .bf16) (t : Fin cfg0.N) (k : Fin 4096) (j : Fin 1024) :
    ((cfg0.win 6).blk t).view.read (Elt Ideal) A (ix2 k j) = A (ix2 k j) := by
  blk_ext [idx t]
theorem read7 (A : S1x1024.Idx → Elt Ideal .f32) (t : Fin cfg0.N) (j : Fin 1024) :
    ((cfg0.win 7).blk t).view.read (Elt Ideal) A (ix2 0 j) = A (ix2 0 j) := by
  blk_ext [idx t]

/-- Four column parts written side by side hold `G` when every part holds its columns of `G`. -/
theorem four (G : S256x4096.Idx → Elt Ideal .bf16) {w0 w1 w2 w3 : S256x1024.Idx → Elt Ideal .bf16}
    (h0 : ∀ i k, w0 (ix2 i k) = G (ix2 i (part 0 k))) (h1 : ∀ i k, w1 (ix2 i k) = G (ix2 i (part 1 k)))
    (h2 : ∀ i k, w2 (ix2 i k) = G (ix2 i (part 2 k))) (h3 : ∀ i k, w3 (ix2 i k) = G (ix2 i (part 3 k))) (y : S256x4096.Idx) :
    View.canon (Val := Elt Ideal) [⟨Rect.unit ![0, 3072] ![256, 1024] inb_S256x4096_S256x1024_0_3072, w3⟩,
      ⟨Rect.unit ![0, 2048] ![256, 1024] inb_S256x4096_S256x1024_0_2048, w2⟩,
      ⟨Rect.unit ![0, 1024] ![256, 1024] inb_S256x4096_S256x1024_0_1024, w1⟩,
      ⟨Rect.unit ![0, 0] ![256, 1024] inb_S256x4096_S256x1024_0_0, w0⟩] y = G y := by
  have e0 : ∀ x : S256x1024.Idx, (Rect.unit ![0, 0] ![256, 1024] inb_S256x4096_S256x1024_0_0).emb x = ix2 (x 0) (part 0 (x 1)) := fun x =>
    funext (Fin.forall_fin_two.mpr ⟨Fin.ext (by show 0 + 1 * (x 0).val = (x 0).val; omega), Fin.ext (by show 0 + 1 * (x 1).val = 1024 * 0 + (x 1).val; omega)⟩)
  have e1 : ∀ x : S256x1024.Idx, (Rect.unit ![0, 1024] ![256, 1024] inb_S256x4096_S256x1024_0_1024).emb x = ix2 (x 0) (part 1 (x 1)) := fun x =>
    funext (Fin.forall_fin_two.mpr ⟨Fin.ext (by show 0 + 1 * (x 0).val = (x 0).val; omega), Fin.ext (by show 1024 + 1 * (x 1).val = 1024 * 1 + (x 1).val; omega)⟩)
  have e2 : ∀ x : S256x1024.Idx, (Rect.unit ![0, 2048] ![256, 1024] inb_S256x4096_S256x1024_0_2048).emb x = ix2 (x 0) (part 2 (x 1)) := fun x =>
    funext (Fin.forall_fin_two.mpr ⟨Fin.ext (by show 0 + 1 * (x 0).val = (x 0).val; omega), Fin.ext (by show 2048 + 1 * (x 1).val = 1024 * 2 + (x 1).val; omega)⟩)
  have e3 : ∀ x : S256x1024.Idx, (Rect.unit ![0, 3072] ![256, 1024] inb_S256x4096_S256x1024_0_3072).emb x = ix2 (x 0) (part 3 (x 1)) := fun x =>
    funext (Fin.forall_fin_two.mpr ⟨Fin.ext (by show 0 + 1 * (x 0).val = (x 0).val; omega), Fin.ext (by show 3072 + 1 * (x 1).val = 1024 * 3 + (x 1).val; omega)⟩)
  refine View.canon_apply_of_pieces G _ ?_ y ?_
  · intro p hp
    simp only [List.mem_cons, List.not_mem_nil, or_false] at hp
    obtain rfl | rfl | rfl | rfl := hp
    · intro (x : S256x1024.Idx); idx_vars x; exact (h3 _ _).trans (congrArg G (e3 (ix2 x0 x1)).symm)
    · intro (x : S256x1024.Idx); idx_vars x; exact (h2 _ _).trans (congrArg G (e2 (ix2 x0 x1)).symm)
    · intro (x : S256x1024.Idx); idx_vars x; exact (h1 _ _).trans (congrArg G (e1 (ix2 x0 x1)).symm)
    · intro (x : S256x1024.Idx); idx_vars x; exact (h0 _ _).trans (congrArg G (e0 (ix2 x0 x1)).symm)
  · idx_vars y
    have hm : ∀ (o : ℕ) (inb), o ≤ y1.val → y1.val < o + 1024 → (ix2 y0 y1 : S256x4096.Idx) ∈ (Rect.unit (s := S256x4096) ![0, o] ![256, 1024] inb).set :=
      fun o inb ha hb => Rect.mem_set_unit.mpr (Fin.forall_fin_two.mpr ⟨⟨Nat.zero_le _, by show y0.val < 0 + 256; omega⟩, ⟨ha, hb⟩⟩)
    by_cases c3 : 3072 ≤ y1.val
    · exact ⟨_, .head _, hm 3072 inb_S256x4096_S256x1024_0_3072 c3 (by omega)⟩
    by_cases c2 : 2048 ≤ y1.val
    · exact ⟨_, .tail _ (.head _), hm 2048 inb_S256x4096_S256x1024_0_2048 c2 (by omega)⟩
    by_cases c1 : 1024 ≤ y1.val
    · exact ⟨_, .tail _ (.tail _ (.head _)), hm 1024 inb_S256x4096_S256x1024_0_1024 c1 (by omega)⟩
    · exact ⟨_, .tail _ (.tail _ (.tail _ (.head _))), hm 0 inb_S256x4096_S256x1024_0_0 (Nat.zero_le _) (by omega)⟩

/-- A quarter of the columns, and a quarter of the rows, as a partial load reads them. -/
theorem ld_cols (X : S1024x4096.Idx → Elt Ideal .bf16) (q : Fin 4) (o : ℕ) (ho : o = 1024 * q.val) (inb) (j k : Fin 1024) :
    View.ld (Val := Elt Ideal) (e' := .bf16) X (Rect.unit (s := S1024x4096) ![0, o] ![1024, 1024] inb) (ix2 j k) = X (ix2 j (part q k)) :=
  congrArg X (funext (Fin.forall_fin_two.mpr ⟨Fin.ext (by show 0 + 1 * j.val = j.val; omega), Fin.ext (by show o + 1 * k.val = 1024 * q.val + k.val; omega)⟩))
@[inherit_doc ld_cols] theorem ld_rows (X : S4096x1024.Idx → Elt Ideal .bf16) (q : Fin 4) (o : ℕ) (ho : o = 1024 * q.val) (inb) (k j : Fin 1024) :
    View.ld (Val := Elt Ideal) (e' := .bf16) X (Rect.unit (s := S4096x1024) ![o, 0] ![1024, 1024] inb) (ix2 k j) = X (ix2 (part q k) j) :=
  congrArg X (funext (Fin.forall_fin_two.mpr ⟨Fin.ext (by show o + 1 * k.val = 1024 * q.val + k.val; omega), Fin.ext (by show 0 + 1 * j.val = j.val; omega)⟩))

section Finite

variable {x d : Fin 16384 → Fin 1024 → ℝ} {g go : Fin 1024 → ℝ} {A : Fin 1024 → Fin 4096 → ℝ} {B : Fin 4096 → Fin 1024 → ℝ}
  (hx : ∀ i j, m ((c : Thread nD τ).loc main_arg0) (ix2 i j) = ((x i j : ℝ) : EReal))
  (hd : ∀ i j, m ((c : Thread nD τ).loc main_arg1) (ix2 i j) = ((d i j : ℝ) : EReal))
  (hg : ∀ j, m ((c : Thread nD τ).loc main_arg2) (ix2 0 j) = ((g j : ℝ) : EReal))
  (hA : ∀ i j, m ((c : Thread nD τ).loc main_arg3) (ix2 i j) = ((A i j : ℝ) : EReal))
  (hB : ∀ i j, m ((c : Thread nD τ).loc main_arg4) (ix2 i j) = ((B i j : ℝ) : EReal))
  (ho : ∀ j, m ((c : Thread nD τ).loc main_arg5) (ix2 0 j) = ((go j : ℝ) : EReal))

/-- 1024 columns of the first weight as a point loads them, and 1024 rows of the second. -/
abbrev colA (t : Fin cfg0.N) (o : ℕ) (inb) := View.ld (iblk m c 5 t) (Rect.unit (s := S1024x4096) ![0, o] ![1024, 1024] inb)
@[inherit_doc colA] abbrev rowB (t : Fin cfg0.N) (o : ℕ) (inb) := View.ld (iblk m c 6 t) (Rect.unit (s := S4096x1024) ![o, 0] ![1024, 1024] inb)

/-- The reals a point works on. -/
structure Real (t : Fin cfg0.N) (x d : Fin 16384 → Fin 1024 → ℝ) (g go : Fin 1024 → ℝ) (A : Fin 1024 → Fin 4096 → ℝ)
    (B : Fin 4096 → Fin 1024 → ℝ) : Prop where
  px : ∀ i j, iblk m c 0 t (ix2 i j) = ((x (row t i) j : ℝ) : EReal)
  pd : ∀ i j, iblk m c 1 t (ix2 i j) = ((d (row t i) j : ℝ) : EReal)
  pf : ∀ i j, iblk m c 2 t (ix2 i j) = ((out (xn (x (row t i)) g) A B j : ℝ) : EReal)
  py : ∀ i j, iblk m c 3 t (ix2 i j) = ((xn (x (row t i)) g j : ℝ) : EReal)
  pg : ∀ j, iblk m c 4 t (ix2 0 j) = ((g j : ℝ) : EReal)
  po : ∀ j, iblk m c 7 t (ix2 0 j) = ((go j : ℝ) : EReal)
  A0 : ∀ j k, colA m c t 0 inb_S1024x4096_S1024x1024_0_0 (ix2 j k) = ((A j (part 0 k) : ℝ) : EReal)
  A1 : ∀ j k, colA m c t 1024 inb_S1024x4096_S1024x1024_0_1024 (ix2 j k) = ((A j (part 1 k) : ℝ) : EReal)
  A2 : ∀ j k, colA m c t 2048 inb_S1024x4096_S1024x1024_0_2048 (ix2 j k) = ((A j (part 2 k) : ℝ) : EReal)
  A3 : ∀ j k, colA m c t 3072 inb_S1024x4096_S1024x1024_0_3072 (ix2 j k) = ((A j (part 3 k) : ℝ) : EReal)
  B0 : ∀ k j, rowB m c t 0 inb_S4096x1024_S1024x1024_0_0 (ix2 k j) = ((B (part 0 k) j : ℝ) : EReal)
  B1 : ∀ k j, rowB m c t 1024 inb_S4096x1024_S1024x1024_1024_0 (ix2 k j) = ((B (part 1 k) j : ℝ) : EReal)
  B2 : ∀ k j, rowB m c t 2048 inb_S4096x1024_S1024x1024_2048_0 (ix2 k j) = ((B (part 2 k) j : ℝ) : EReal)
  B3 : ∀ k j, rowB m c t 3072 inb_S4096x1024_S1024x1024_3072_0 (ix2 k j) = ((B (part 3 k) j : ℝ) : EReal)

include hx hd hg hA hB ho in
theorem real (t : Fin cfg0.N) : Real m c t x d g go A B := by
  have h := solves_after (StableHlo.launchContents m c) (HostRows.line)
  have h0 := fun i j => (congrFun (V_main_arg0 m c) (ix2 i j)).trans (hx i j)
  have h1 := fun i j => (congrFun (V_main_arg1 m c) (ix2 i j)).trans (hd i j)
  have h2 := fun j => (congrFun (V_main_arg2 m c) (ix2 0 j)).trans (hg j)
  have h3 := fun i j => (congrFun (V_main_arg3 m c) (ix2 i j)).trans (hA i j)
  have h4 := fun i j => (congrFun (V_main_arg4 m c) (ix2 i j)).trans (hB i j)
  have h5 := fun j => (congrFun (V_main_arg5 m c) (ix2 0 j)).trans (ho j)
  have hA' : ∀ j k, iblk m c 5 t (ix2 j k) = ((A j k : ℝ) : EReal) := fun j k =>
    (read5 (V m c main_v18) t j k).trans (HostRows.v18 h h0 h2 h3 h4 j k)
  have hB' : ∀ k j, iblk m c 6 t (ix2 k j) = ((B k j : ℝ) : EReal) := fun k j =>
    (read6 (V m c main_v19) t k j).trans (HostRows.v19 h h0 h2 h3 h4 k j)
  refine ⟨fun i j => (read0 (V m c main_arg0) t i j).trans (h0 _ _), fun i j => (read1 (V m c main_arg1) t i j).trans (h1 _ _),
    fun i j => (read2 (V m c main_v16) t i j).trans (HostRows.v16 h h0 h2 h3 h4 _ _),
    fun i j => (read3 (V m c main_v17) t i j).trans (HostRows.v17 h h0 h2 h3 h4 _ _),
    fun j => (read4 (V m c main_arg2) t j).trans (h2 _), fun j => (read7 (V m c main_arg5) t j).trans (h5 _), ?_, ?_, ?_, ?_, ?_, ?_, ?_, ?_⟩
  · exact fun j k => (ld_cols _ 0 _ rfl _ j k).trans (hA' _ _)
  · exact fun j k => (ld_cols _ 1 _ rfl _ j k).trans (hA' _ _)
  · exact fun j k => (ld_cols _ 2 _ rfl _ j k).trans (hA' _ _)
  · exact fun j k => (ld_cols _ 3 _ rfl _ j k).trans (hA' _ _)
  · exact fun k j => (ld_rows _ 0 _ rfl _ k j).trans (hB' _ _)
  · exact fun k j => (ld_rows _ 1 _ rfl _ k j).trans (hB' _ _)
  · exact fun k j => (ld_rows _ 2 _ rfl _ k j).trans (hB' _ _)
  · exact fun k j => (ld_rows _ 3 _ rfl _ k j).trans (hB' _ _)

variable {m c}

/-- The gradient at the output before its norm, on a point's rows. -/
theorem Real.e {t : Fin cfg0.N} (h : Real m c t x d g go A B) (i : Fin 256) (j : Fin 1024) :
    k0_pay8 (iblk m c 1 t) (iblk m c 2 t) (iblk m c 7 t) (ix2 i j) = ((dout (x (row t i)) g (d (row t i)) go A B j : ℝ) : EReal) :=
  pay8 h.pd h.pf h.po i j

/-- The gradient at the normed rows, on a point's rows. -/
theorem Real.z {t : Fin cfg0.N} (h : Real m c t x d g go A B) (i : Fin 256) (j : Fin 1024) :
    k0_pay25 (k0_pay8 (iblk m c 1 t) (iblk m c 2 t) (iblk m c 7 t)) (k0_pay10 (iblk m c 3 t))
      (k0_pay21 (k0_pay8 (iblk m c 1 t) (iblk m c 2 t) (iblk m c 7 t)) (k0_pay10 (iblk m c 3 t))
        (k0_pay14 (k0_pay8 (iblk m c 1 t) (iblk m c 2 t) (iblk m c 7 t)) (iblk m c 3 t) (colA m c t 0 inb_S1024x4096_S1024x1024_0_0)
          (rowB m c t 0 inb_S4096x1024_S1024x1024_0_0) (colA m c t 0 inb_S1024x4096_S1024x1024_0_0))
        (k0_pay15 (iblk m c 3 t) (colA m c t 1024 inb_S1024x4096_S1024x1024_0_1024)) (rowB m c t 1024 inb_S4096x1024_S1024x1024_1024_0)
        (colA m c t 1024 inb_S1024x4096_S1024x1024_0_1024) (colA m c t 2048 inb_S1024x4096_S1024x1024_0_2048)
        (rowB m c t 2048 inb_S4096x1024_S1024x1024_2048_0) (colA m c t 2048 inb_S1024x4096_S1024x1024_0_2048))
      (colA m c t 3072 inb_S1024x4096_S1024x1024_0_3072) (rowB m c t 3072 inb_S4096x1024_S1024x1024_3072_0)
      (colA m c t 3072 inb_S1024x4096_S1024x1024_0_3072) (ix2 i j)
    = ((back (xn (x (row t i)) g) A B (dout (x (row t i)) g (d (row t i)) go A B) j : ℝ) : EReal) :=
  (pay25 h.py h.e h.A0 h.B0 h.A1 h.B1 h.A2 h.B2 h.A3 h.B3 i j).trans (congrArg _ (back_parts _ _ _ _ _).symm)

variable (m c)

include hx hd hg hA hB ho

/-- The gradient at the residual stream. -/
theorem arr8 : (dats m 0 c).arrAt 8 cfg0.N = (fun i => ((dres (x (i 0)) g (d (i 0)) go A B (i 1) : ℝ) : EReal) : S16384x1024.Idx → EReal) := by
  refine (dats m 0 c).arrAt_eq_of_covers 8 _ (by decide +kernel) fun t _ (y : S256x1024.Idx) => ?_
  blk_simp
  have e : ((View.whole main_v20_0).slice (win0_8.rect t)).emb y = ix2 (row t (y 0)) (y 1) := by
    unfold row
    blk_ext [idx t]
  have h := real m c hx hd hg hA hB ho t
  rw [after0_8, e]
  by_cases h0 : t.val % 64 = 0
  · rw [outsAt0_A m c t h0]; frame_out; idx_vars y; exact pay2 h.px h.pd h.pg h.z _ _
  · rw [outsAt0_B m c t h0]; frame_out; idx_vars y; exact pay2 h.px h.pd h.pg h.z _ _

/-- The gradient at the output before its norm. -/
theorem arr9 : (dats m 0 c).arrAt 9 cfg0.N = (fun i => ((dout (x (i 0)) g (d (i 0)) go A B (i 1) : ℝ) : EReal) : S16384x1024.Idx → EReal) := by
  refine (dats m 0 c).arrAt_eq_of_covers 9 _ (by decide +kernel) fun t _ (y : S256x1024.Idx) => ?_
  blk_simp
  have e : ((View.whole main_v20_1).slice (win0_9.rect t)).emb y = ix2 (row t (y 0)) (y 1) := by
    unfold row
    blk_ext [idx t]
  have h := real m c hx hd hg hA hB ho t
  rw [after0_9, e]
  by_cases h0 : t.val % 64 = 0
  · rw [outsAt0_A m c t h0]; frame_out; idx_vars y; exact h.e _ _
  · rw [outsAt0_B m c t h0]; frame_out; idx_vars y; exact h.e _ _

/-- The gradient at the hidden rows. -/
theorem arr10 : (dats m 0 c).arrAt 10 cfg0.N
    = (fun i => ((dhid (xn (x (i 0)) g) A B (dout (x (i 0)) g (d (i 0)) go A B) (i 1) : ℝ) : EReal) : S16384x4096.Idx → EReal) := by
  refine (dats m 0 c).arrAt_eq_of_covers 10 _ (by decide +kernel) fun t _ (y : S256x4096.Idx) => ?_
  blk_simp
  have e : ((View.whole main_v20_2).slice (win0_10.rect t)).emb y = ix2 (row t (y 0)) (y 1) := by
    unfold row
    blk_ext [idx t]
  have h := real m c hx hd hg hA hB ho t
  have hG := four (fun i => ((dhid (xn (x (row t (i 0))) g) A B (dout (x (row t (i 0))) g (d (row t (i 0))) go A B) (i 1) : ℝ) : EReal))
    (fun i k => (congrFun pay13_eq _).trans (pay20 h.py h.A0 h.e h.B0 i k))
    (fun i k => (congrFun pay17_eq _).trans (pay20 h.py h.A1 h.e h.B1 i k))
    (fun i k => (congrFun (congrArg (fun q => k0_pay20 _ q _ _) pay10_eq) _).trans (pay20 h.py h.A2 h.e h.B2 i k))
    (fun i k => (congrFun (congrArg (fun q => k0_pay24 _ q _ _) pay10_eq) _).trans (pay20 h.py h.A3 h.e h.B3 i k)) y
  rw [after0_10, e]
  by_cases h0 : t.val % 64 = 0
  · rw [outsAt0_A m c t h0]; frame_out; exact hG
  · rw [outsAt0_B m c t h0]; frame_out; exact hG

/-- The squared hidden rows. -/
theorem arr11 : (dats m 0 c).arrAt 11 cfg0.N
    = (fun i => ((hid (xn (x (i 0)) g) A (i 1) * hid (xn (x (i 0)) g) A (i 1) : ℝ) : EReal) : S16384x4096.Idx → EReal) := by
  refine (dats m 0 c).arrAt_eq_of_covers 11 _ (by decide +kernel) fun t _ (y : S256x4096.Idx) => ?_
  blk_simp
  have e : ((View.whole main_v20_3).slice (win0_11.rect t)).emb y = ix2 (row t (y 0)) (y 1) := by
    unfold row
    blk_ext [idx t]
  have h := real m c hx hd hg hA hB ho t
  have hG := four (fun i => ((hid (xn (x (row t (i 0))) g) A (i 1) * hid (xn (x (row t (i 0))) g) A (i 1) : ℝ) : EReal))
    (fun i k => (congrFun pay12_eq _).trans (pay19 h.py h.A0 i k))
    (fun i k => (congrFun pay16_eq _).trans (pay19 h.py h.A1 i k))
    (fun i k => (congrFun (congrArg (fun q => k0_pay19 q _) pay10_eq) _).trans (pay19 h.py h.A2 i k))
    (fun i k => (congrFun (congrArg (fun q => k0_pay23 q _) pay10_eq) _).trans (pay19 h.py h.A3 i k)) y
  rw [after0_11, e]
  by_cases h0 : t.val % 64 = 0
  · rw [outsAt0_A m c t h0]; frame_out; exact hG
  · rw [outsAt0_B m c t h0]; frame_out; exact hG

omit hx hd hg hA hB ho in
/-- A sum over all rows, tile by tile, of finite terms. -/
theorem sum_tiles (f : Fin 16384 → ℝ) :
    (∑ k : Fin 64, ((∑ r : Fin 256, f (row k r) : ℝ) : EReal)) = ((∑ r, f r : ℝ) : EReal) := by
  rw [coe_sum]
  refine congrArg _ ?_
  have h : ∑ k : Fin 64, ∑ r : Fin 256, f (row k r) = ∑ _a : Fin 1, ∑ r, f r := Fin.sum_points_lanes_congr (N := 64) (n := 256) (A := 1) (L := 16384) 64 (F := fun k r => f (row k r))
    (g := fun _ r => f r) (fun t k ha hl => congrArg f (Fin.ext (by simp only [row]; omega)))
  rw [h, Fin.sum_univ_one]

/-- The gradient of the gain after the layer. -/
theorem arr12 : (dats m 0 c).arrAt 12 cfg0.N = (fun i => ((∑ r, gainOut (x r) g (d r) A B (i 1) : ℝ) : EReal) : S1x1024.Idx → EReal) := by
  refine (dats m 0 c).arrAt_eq_of_after_last 12 tL (by decide +kernel) _ fun (j : S1x1024.Idx) => ?_
  blk_simp
  rw [after0_12]
  have h := Pipeline.eq_sum_fin_of_reset_step_apply_last (N := cfg0.N) (fun n h => (outsAt0 m c n h).2.2.2.2.1) 64 (fun _ => 0)
    (fun t i => ((∑ r, gainOut (x (row t r)) g (d (row t r)) A B (i 1) : ℝ) : EReal))
    (fun t h0 i => by
      have h := real m c hx hd hg hA hB ho t
      rw [outsAt0_A m c t h0]; frame_out; idx_vars i
      refine (pay9 (d := fun r => d (row t r)) (fo := fun r => out (xn (x (row t r)) g) A B) h.pd h.pf _ _ _).trans ?_
      pointwise [k0_pay3]; rfl)
    (fun t h0 i => by
      have h := real m c hx hd hg hA hB ho t
      rw [outsAt0_B m c t h0]; frame_out; idx_vars i
      exact pay9 (d := fun r => d (row t r)) (fo := fun r => out (xn (x (row t r)) g) A B) h.pd h.pf _ _ _)
    (by decide) tL rfl j
  exact h.trans ((zero_add _).trans (sum_tiles fun r => gainOut (x r) g (d r) A B (j 1)))

/-- The gradient of the gain before the layer. -/
theorem arr13 : (dats m 0 c).arrAt 13 cfg0.N = (fun i => ((∑ r, gainIn (x r) g (d r) go A B (i 1) : ℝ) : EReal) : S1x1024.Idx → EReal) := by
  refine (dats m 0 c).arrAt_eq_of_after_last 13 tL (by decide +kernel) _ fun (j : S1x1024.Idx) => ?_
  blk_simp
  rw [after0_13]
  have h := Pipeline.eq_sum_fin_of_reset_step_apply_last (N := cfg0.N) (fun n h => (outsAt0 m c n h).2.2.2.2.2) 64 (fun _ => 0)
    (fun t i => ((∑ r, gainIn (x (row t r)) g (d (row t r)) go A B (i 1) : ℝ) : EReal))
    (fun t h0 i => by
      have h := real m c hx hd hg hA hB ho t
      rw [outsAt0_A m c t h0]; frame_out; idx_vars i
      refine (pay1 (z := fun r => back (xn (x (row t r)) g) A B (dout (x (row t r)) g (d (row t r)) go A B)) h.px h.z _ _ _).trans ?_
      pointwise [k0_pay4]; rfl)
    (fun t h0 i => by
      have h := real m c hx hd hg hA hB ho t
      rw [outsAt0_B m c t h0]; frame_out; idx_vars i
      exact pay1 (z := fun r => back (xn (x (row t r)) g) A B (dout (x (row t r)) g (d (row t r)) go A B)) h.px h.z _ _ _)
    (by decide) tL rfl j
  exact h.trans ((zero_add _).trans (sum_tiles fun r => gainIn (x r) g (d r) go A B (j 1)))

end Finite

end Cert.MlpBwdIdeal.Arrays

end
-- ==== Proof.MlpClaim.lean ====
/- The channel-mixing gradient's kernel and its reference end with the same results on finite arguments. -/
module

public import proofs.«01_k».proof.Defs
public import proofs.«01_k».proof.Proof.MlpFinite
public import proofs.«01_k».proof.Proof.MlpRef
public import proofs.«01_k».proof.Proof.MlpValue

@[expose] public section

set_option maxRecDepth 16384

noncomputable section

namespace Cert.MlpBwdRefIdeal.Ends

open Cert.MlpBwdRefIdeal Cert.MlpBwdRefIdeal.Gen Cert.MlpBwdRefIdeal.Value Idealize.ShloMosaic Idealize.ShloMosaic.TcCoe
open Idealize.SL.Sem Idealize.ShloMosaic.StableHlo Cert.Line Cert.Lift Cert.MlpBwdRefIdeal.Rows

variable (m : (ℓ : Loc nD τ sig) → Buf (Elt Ideal) ℓ) (c : Dev nD)

/-- What every array holds after the reference has run. -/
abbrev ends : Valuation τ sig (Elt Ideal) := after (ops (F := Ideal)) (launchContents m c)

theorem solves : Solves (ops (F := Ideal)) 6 (ends m c) := solves_after _ line

theorem arg (b : Ref sig .tc) (hb : b.idx.val < 6) : ends m c (Proc.devRef .tc b) = m ((c.tc : Thread nD τ).loc b) :=
  after_keep _ 6 _ line hb

theorem run (ρ : Dev nD → PrngReg) : θ_run defs (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq scopedRefs_eq scopedSems_eq defs main (fun _ => ops) main_eq (fun _ => ops_sub) m ρ

end Cert.MlpBwdRefIdeal.Ends

namespace Cert.Proof

open Idealize.ShloMosaic Idealize.SL.Sem Cert.Lift
open Cert.MlpBwdRefIdeal (main_arg0 main_arg1 main_arg2 main_arg3 main_arg4 main_arg5)
open Cert.MlpBwdRefIdeal.Ends (arg)
open Cert.MlpBwdIdeal.Arrays (arr8 arr9 arr10 arr11 arr12 arr13)
open Cert.MlpBwdRefIdeal.Rows (v88 v89 v90 v91 v47 v71)

theorem mlp_algebraic [Cert.Pre_finite_mlp.Facts] : Cert.algebraic_MlpBwdIdeal_MlpBwdRefIdeal_pre_finite_mlp := by
  pair_intro
  · run_from Cert.MlpBwdIdeal.Value.run_blocks m g
  · refine (θ_run _ _ _).mono (fun r hr c => ?_) (Cert.MlpBwdRefIdeal.Ends.run m' g')
    obtain ⟨h0, h1, h2, h3, h4, h5⟩ := Cert.Pre_finite_mlp.finite_of_fn (hpre c)
    obtain ⟨e0, e1, e2, e3, e4, e5⟩ := hagree c
    have k0 := fun i j => h0 (ix2 i j)
    have k1 := fun i j => h1 (ix2 i j)
    have k2 := fun j => h2 (ix2 0 j)
    have k3 := fun i j => h3 (ix2 i j)
    have k4 := fun i j => h4 (ix2 i j)
    have k5 := fun j => h5 (ix2 0 j)
    have h := Cert.MlpBwdRefIdeal.Ends.solves m' c
    have hx := fun i j => (congrFun ((arg m' c main_arg0 (by decide)).trans e0) (ix2 i j)).trans (k0 i j)
    have hd := fun i j => (congrFun ((arg m' c main_arg1 (by decide)).trans e1) (ix2 i j)).trans (k1 i j)
    have hg := fun j => (congrFun ((arg m' c main_arg2 (by decide)).trans e2) (ix2 0 j)).trans (k2 j)
    have hA := fun i j => (congrFun ((arg m' c main_arg3 (by decide)).trans e3) (ix2 i j)).trans (k3 i j)
    have hB := fun i j => (congrFun ((arg m' c main_arg4 (by decide)).trans e4) (ix2 i j)).trans (k4 i j)
    have ho := fun j => (congrFun ((arg m' c main_arg5 (by decide)).trans e5) (ix2 0 j)).trans (k5 j)
    refine ⟨(hr c _).trans ?_, (hr c _).trans ?_, (hr c _).trans ?_, (hr c _).trans ?_, (hr c _).trans ?_, (hr c _).trans ?_,
      (hr c _).trans (arg m' c _ (by decide)), (hr c _).trans (arg m' c _ (by decide)), (hr c _).trans (arg m' c _ (by decide)),
      (hr c _).trans (arg m' c _ (by decide)), (hr c _).trans (arg m' c _ (by decide)), (hr c _).trans (arg m' c _ (by decide))⟩
    · refine Eq.trans (ext2 fun i j => ?_) (arr8 m c k0 k1 k2 k3 k4 k5).symm; exact v88 h hx hd hg hA hB ho i j
    · refine Eq.trans (ext2 fun i j => ?_) (arr9 m c k0 k1 k2 k3 k4 k5).symm; exact v89 h hx hd hg hA hB ho i j
    · refine Eq.trans (ext2 fun i j => ?_) (arr10 m c k0 k1 k2 k3 k4 k5).symm; exact v90 h hx hd hg hA hB ho i j
    · refine Eq.trans (ext2 fun i j => ?_) (arr11 m c k0 k1 k2 k3 k4 k5).symm; exact v91 h hx hd hg hA hB ho i j
    · refine Eq.trans (ext2 fun i j => ?_) (arr12 m c k0 k1 k2 k3 k4 k5).symm; exact v47 h hx hd hg hA hB ho i j
    · refine Eq.trans (ext2 fun i j => ?_) (arr13 m c k0 k1 k2 k3 k4 k5).symm; exact v71 h hx hd hg hA hB ho i j

end Cert.Proof

end
-- ==== Proof.OutFinite.lean ====
/- What the output projection's gradient's condition says: every argument is finite. -/
module

public import proofs.«01_k».proof.Pre_finite_out
public import proofs.«01_k».proof.Proof.Lift

@[expose] public section

set_option maxRecDepth 16384

noncomputable section

namespace Cert.Pre_finite_out

open Idealize.ShloMosaic Cert.Lift

instance facts : Facts where
  bcast_S_S16384x1024 := by decide
  reducesTo_S16384x1024_S_d0_1 := by decide
  h_S_ := by decide
  bcast_S_S16384x512 := by decide
  reducesTo_S16384x512_S_d0_1 := by decide
  bcast_S_S1x512 := by decide
  reducesTo_S1x512_S_d0_1 := by decide
  bcast_S_S1024x1024 := by decide
  reducesTo_S1024x1024_S_d0_1 := by decide
  bcast_S_S1x1024 := by decide
  reducesTo_S1x1024_S_d0_1 := by decide

theorem finite_of_fn {x0 : FVec Ideal S16384x1024 .f32} {x1 x2 : FVec Ideal S16384x512 .f32} {x3 x4 : FVec Ideal S1x512 .f32}
    {x5 : FVec Ideal S1024x1024 .f32} {x6 : FVec Ideal S1x1024 .f32} (h : fn (F := Ideal) x0 x1 x2 x3 x4 x5 x6 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ ∀ i, x6 i = ((x6 i).toReal : EReal) := by
  have h' := congrFun h (fun a => a.elim0)
  unfold fn fn_part1 at h'
  dsimp only at h'
  simp only [andi, bit_and] at h'
  obtain ⟨⟨⟨⟨⟨⟨h0, h1⟩, h2⟩, h3⟩, h4⟩, h5⟩, h6⟩ := h'
  exact ⟨fin_of_all h0, fin_of_all h1, fin_of_all h2, fin_of_all h3, fin_of_all h4, fin_of_all h5, fin_of_all h6⟩

end Cert.Pre_finite_out

end
-- ==== Proof.NormMath.lean ====
/- Norms over the reals, for rows of any width, and their gradient. -/
module

public import proofs.«01_k».proof.Proof.PleMath

@[expose] public section

noncomputable section

namespace Cert.Norm

open Cert.Lift

variable {n : ℕ} (N : ℝ)

/-- The mean square of a row of width `N`. -/
def ms (x : Fin n → ℝ) : ℝ := (∑ k, x k * x k) / N
/-- The reciprocal root mean square. -/
def rr (x : Fin n → ℝ) : ℝ := (√(ms N x + eps))⁻¹
/-- The normed row, scaled by the gain. -/
def xn (x g : Fin n → ℝ) (k : Fin n) : ℝ := x k * rr N x * g k
/-- The gradient of a norm: from the gradient `c` at the scaled row to the gradient at the row itself. -/
def normBack (x c : Fin n → ℝ) (k : Fin n) : ℝ :=
  rr N x * (c k - x k * rr N x * ((∑ j, c j * (x j * rr N x)) / N))

variable {N} (hN : 0 < N)
include hN

theorem ms_eps_pos (x : Fin n → ℝ) : 0 < ms N x + eps :=
  add_pos_of_nonneg_of_pos (div_nonneg (Finset.sum_nonneg fun k _ => mul_self_nonneg _) hN.le) eps_pos
theorem rsqrt_ms (x : Fin n → ℝ) :
    Idealize.ShloMosaic.Ideal.rsqrt (((∑ k, x k * x k) / N + eps : ℝ) : EReal) = ((rr N x : ℝ) : EReal) :=
  rsqrt_pos (ms_eps_pos hN x)
theorem rr_div (x : Fin n → ℝ) : rr N x / (ms N x + eps) = rr N x * rr N x * rr N x := by
  have hp := ms_eps_pos hN x
  have h : rr N x * rr N x * (ms N x + eps) = 1 := by
    unfold rr
    rw [← mul_inv, Real.mul_self_sqrt hp.le, inv_mul_cancel₀ hp.ne']
  rw [div_eq_iff hp.ne']
  linear_combination -rr N x * h

/-- The gradient of the norm as the chain rule writes it. -/
theorem normBack_eq (x c : Fin n → ℝ) (k : Fin n) :
    c k * rr N x + x k * ((∑ j, x j * c j) * (-1 / 2 * (rr N x / (ms N x + eps))) / N)
      + (∑ j, x j * c j) * (-1 / 2 * (rr N x / (ms N x + eps))) / N * x k = normBack N x c k := by
  have hs : ∑ j, c j * (x j * rr N x) = (∑ j, x j * c j) * rr N x := by
    rw [Finset.sum_mul]; exact Finset.sum_congr rfl fun j _ => by ring
  rw [normBack, rr_div hN, hs]; ring

end Cert.Norm

end
-- ==== Proof.OutMath.lean ====
/- The output projection's gradient over the reals, one row at a time, with the sums over heads and the rows' regrouping. -/
module

public import proofs.«01_k».proof.Proof.NormMath

@[expose] public section

noncomputable section

namespace Cert.Out.Math

open Cert.Lift Cert.Norm

/-- The two halves of the projection's input. -/
def lo (k : Fin 512) : Fin 1024 := ⟨k.val, by omega⟩
@[inherit_doc lo] def hi (k : Fin 512) : Fin 1024 := ⟨512 + k.val, by omega⟩
/-- Entry `l` of head `h`. -/
def lane (h : Fin 8) (l : Fin 64) : Fin 512 := ⟨h.val * 64 + l.val, by omega⟩
/-- The head an entry lies in. -/
def head (k : Fin 512) : Fin 8 := ⟨k.val / 64, by omega⟩

/-- The projection of the two normed halves, before its norm. -/
def proj (a b ga gb : Fin 512 → ℝ) (W : Fin 1024 → Fin 1024 → ℝ) (j : Fin 1024) : ℝ :=
  ∑ k, xn 512 a ga k * W (lo k) j + ∑ k, xn 512 b gb k * W (hi k) j
/-- The gradient at the projection. -/
def dproj (d gp : Fin 1024 → ℝ) (a b ga gb : Fin 512 → ℝ) (W : Fin 1024 → Fin 1024 → ℝ) : Fin 1024 → ℝ :=
  normBack 1024 (proj a b ga gb W) (fun j => d j * gp j)
/-- The gradient at a normed half, from the gradient `e` at the projection; `s` picks the half. -/
def dhalf (s : Fin 512 → Fin 1024) (e : Fin 1024 → ℝ) (W : Fin 1024 → Fin 1024 → ℝ) (k : Fin 512) : ℝ := ∑ j, e j * W (s k) j
/-- The gradient at a half. -/
def dy (s : Fin 512 → Fin 1024) (y g : Fin 512 → ℝ) (e : Fin 1024 → ℝ) (W : Fin 1024 → Fin 1024 → ℝ) : Fin 512 → ℝ :=
  normBack 512 y (fun k => dhalf s e W k * g k)
/-- What a row adds to the gradient of a half's gain. -/
def gain (s : Fin 512 → Fin 1024) (y : Fin 512 → ℝ) (e : Fin 1024 → ℝ) (W : Fin 1024 → Fin 1024 → ℝ) (k : Fin 512) : ℝ :=
  dhalf s e W k * (y k * rr 512 y)
/-- What a row adds to the gradient of the gain after the projection. -/
def gainPost (d : Fin 1024 → ℝ) (o : Fin 1024 → ℝ) (j : Fin 1024) : ℝ := d j * (o j * rr 1024 o)
/-- One head's sum of products. -/
def hsum (u y : Fin 512 → ℝ) (h : Fin 8) : ℝ := ∑ l, u (lane h l) * y (lane h l)

/-- A sum over the whole width of the terms of one head alone. -/
theorem sum_head (f : Fin 512 → ℝ) (h : Fin 8) : (∑ k, if head k = h then f k else 0) = ∑ l, f (lane h l) := by
  rw [← Fintype.sum_equiv (finProdFinEquiv (m := 8) (n := 64)) (fun p => if p.1 = h then f (lane p.1 p.2) else 0)
    (fun k => if head k = h then f k else 0) fun p => ?_, Fintype.sum_prod_type, Finset.sum_eq_single h]
  · simp
  · intro b _ hb; simp [hb]
  · intro hh; exact absurd (Finset.mem_univ h) hh
  · have e : finProdFinEquiv (m := 8) (n := 64) p = lane p.1 p.2 := Fin.ext (by simp only [finProdFinEquiv_apply_val, lane]; omega)
    have e' : head (lane p.1 p.2) = p.1 := Fin.ext (by simp only [head, lane]; omega)
    rw [e, e']

/-- Which row of a 512-row tile the regrouping by `n` rows brings to row `p`. -/
def from4 (p : Fin 512) : Fin 512 := ⟨4 * (p.val % 128) + p.val / 128, by omega⟩
@[inherit_doc from4] def from16 (p : Fin 512) : Fin 512 := ⟨16 * (p.val % 32) + p.val / 32, by omega⟩
/-- The 0/1 matrices of the two regroupings. -/
def move4 (p c : Fin 512) : ℝ := if p.val = c.val % 4 * 128 + c.val / 4 then 1 else 0
@[inherit_doc move4] def move16 (p c : Fin 512) : ℝ := if p.val = c.val % 16 * 32 + c.val / 16 then 1 else 0

theorem sum_move4 (f : Fin 512 → ℝ) (p : Fin 512) : ∑ c, move4 p c * f c = f (from4 p) := by
  rw [Finset.sum_eq_single (from4 p)]
  · rw [move4, if_pos (by simp only [from4]; omega), one_mul]
  · intro c _ hc
    rw [move4, if_neg (fun e => hc (Fin.ext (by simp only [from4]; omega))), zero_mul]
  · intro h; exact absurd (Finset.mem_univ _) h
theorem sum_move16 (f : Fin 512 → ℝ) (p : Fin 512) : ∑ c, move16 p c * f c = f (from16 p) := by
  rw [Finset.sum_eq_single (from16 p)]
  · rw [move16, if_pos (by simp only [from16]; omega), one_mul]
  · intro c _ hc
    rw [move16, if_neg (fun e => hc (Fin.ext (by simp only [from16]; omega))), zero_mul]
  · intro h; exact absurd (Finset.mem_univ _) h

/-- The row and the column an entry of the regrouped array comes from. -/
def at4 (R : Fin 4096) (C : Fin 2048) : Fin 16384 := ⟨R.val * 4 + C.val / 512, by omega⟩
@[inherit_doc at4] def col4 (C : Fin 2048) : Fin 512 := ⟨C.val % 512, by omega⟩
@[inherit_doc at4] def at16 (R : Fin 1024) (C : Fin 8192) : Fin 16384 := ⟨R.val * 16 + C.val / 512, by omega⟩
@[inherit_doc at4] def col16 (C : Fin 8192) : Fin 512 := ⟨C.val % 512, by omega⟩

/-- The eight head sums of a row on the first eight of 128 lanes, zeros on the rest. -/
def hlanes (u y : Fin 512 → ℝ) (k : Fin 128) : ℝ := if h : k.val < 8 then hsum u y ⟨k.val, h⟩ else 0

theorem hlanes_pos (u y : Fin 512 → ℝ) {k : Fin 128} (h : k.val < 8) : hlanes u y k = hsum u y ⟨k.val, h⟩ := dif_pos h
theorem hlanes_neg (u y : Fin 512 → ℝ) {k : Fin 128} (h : ¬ k.val < 8) : hlanes u y k = 0 := dif_neg h

end Cert.Out.Math

end
-- ==== Proof.OutRef.lean ====
/- What the output projection's reference leaves, on finite arguments, row by row. -/
module

public import proofs.«01_k».proof.Proof.Gen.OutBwdRefIdeal.Run
public import proofs.«01_k».proof.Proof.Line
public import proofs.«01_k».proof.Proof.OutMath

@[expose] public section

set_option maxRecDepth 16384

noncomputable section

namespace Cert.OutBwdRefIdeal.Rows

open Cert.OutBwdRefIdeal Cert.OutBwdRefIdeal.Gen Cert.OutBwdRefIdeal.Value Idealize.ShloMosaic Idealize.ShloMosaic.TcCoe
open Idealize.SL.Sem Idealize.ShloMosaic.StableHlo Cert.Line Cert.Lift Cert.Norm Cert.Out.Math

theorem line : Line (ops (F := Ideal)) 7 := by
  unfold ops
  repeat'
    refine ⟨?_, ?_⟩
    · first
        | (with_reducible apply step_nullary) <;> decide
        | (with_reducible apply step_unary) <;> decide
        | (with_reducible apply step_binary) <;> decide
        | (with_reducible apply step_reshape) <;> decide
  trivial

theorem div1024 (a : ℝ) : Ideal.div (a : EReal) ((1024 : ℝ) : EReal) = ((a / 1024 : ℝ) : EReal) := div_coe_coe (by norm_num)
theorem div512 (a : ℝ) : Ideal.div (a : EReal) ((512 : ℝ) : EReal) = ((a / 512 : ℝ) : EReal) := div_coe_coe (by norm_num)
theorem c_512 : Ideal.ofBits .f32 0x44000000#32 = ((512 : ℝ) : EReal) := by
  simp [Ideal.ofBits, Ideal.ieee, -EReal.coe_mul]; norm_num
theorem h512 : (0 : ℝ) < 512 := by norm_num
theorem h1024 : (0 : ℝ) < 1024 := by norm_num

variable {d : Fin 16384 → Fin 1024 → ℝ} {a b : Fin 16384 → Fin 512 → ℝ} {ga gb : Fin 512 → ℝ} {W : Fin 1024 → Fin 1024 → ℝ} {gp : Fin 1024 → ℝ}
variable {E : Valuation τ sig (Elt Ideal)} (h : Solves (ops (F := Ideal)) 7 E)
  (hd : ∀ i j, (E main_arg0 : S16384x1024.Idx → EReal) (ix2 i j) = ((d i j : ℝ) : EReal))
  (ha : ∀ i j, (E main_arg1 : S16384x512.Idx → EReal) (ix2 i j) = ((a i j : ℝ) : EReal))
  (hb : ∀ i j, (E main_arg2 : S16384x512.Idx → EReal) (ix2 i j) = ((b i j : ℝ) : EReal))
  (hga : ∀ j, (E main_arg3 : S1x512.Idx → EReal) (ix2 0 j) = ((ga j : ℝ) : EReal))
  (hgb : ∀ j, (E main_arg4 : S1x512.Idx → EReal) (ix2 0 j) = ((gb j : ℝ) : EReal))
  (hW : ∀ i j, (E main_arg5 : S1024x1024.Idx → EReal) (ix2 i j) = ((W i j : ℝ) : EReal))
  (hp : ∀ j, (E main_arg6 : S1x1024.Idx → EReal) (ix2 0 j) = ((gp j : ℝ) : EReal))
include h hd ha hb hga hgb hW hp

/-! ## The norms of the two halves -/

theorem v7 (i : Fin 16384) (j : Fin 1) : (E main_v7 : S16384x1.Idx → EReal) (ix2 i j) = ((ms 512 (a i) + eps : ℝ) : EReal) := by
  rw [h.binary main_v7 rfl, h.unary main_v6 rfl, h.nullary main_cst_2 rfl, h.binary main_v5 rfl, h.unary main_v4 rfl,
    h.nullary main_cst_1 rfl, h.unary main_v3 rfl, h.binary main_v2 rfl, h.nullary main_cst_0 rfl, h.binary main_v1 rfl]
  pointwise []
  simp only [ha, c_512, c_eps, zero_coe, ← EReal.coe_mul, ← EReal.coe_add, zero_add, coe_sum, div512, ms]

theorem v8 (i : Fin 16384) (j : Fin 1) : (E main_v8 : S16384x1.Idx → EReal) (ix2 i j) = ((rr 512 (a i) : ℝ) : EReal) := by
  rw [h.unary main_v8 rfl]
  pointwise []
  rw [v7 h hd ha hb hga hgb hW hp, rsqrt_pos (ms_eps_pos h512 _), rr]

theorem v13 (i : Fin 16384) (j : Fin 512) : (E main_v13 : S16384x512.Idx → EReal) (ix2 i j) = ((a i j * rr 512 (a i) : ℝ) : EReal) := by
  rw [h.binary main_v13 rfl, h.unary main_v12 rfl]
  pointwise []
  simp only [v8 h hd ha hb hga hgb hW hp, ha, ← EReal.coe_mul]

theorem v22 (i : Fin 16384) (j : Fin 1) : (E main_v22 : S16384x1.Idx → EReal) (ix2 i j) = ((ms 512 (b i) + eps : ℝ) : EReal) := by
  rw [h.binary main_v22 rfl, h.unary main_v21 rfl, h.nullary main_cst_6 rfl, h.binary main_v20 rfl, h.unary main_v19 rfl,
    h.nullary main_cst_5 rfl, h.unary main_v18 rfl, h.binary main_v17 rfl, h.nullary main_cst_4 rfl, h.binary main_v16 rfl]
  pointwise []
  simp only [hb, c_512, c_eps, zero_coe, ← EReal.coe_mul, ← EReal.coe_add, zero_add, coe_sum, div512, ms]

theorem v23 (i : Fin 16384) (j : Fin 1) : (E main_v23 : S16384x1.Idx → EReal) (ix2 i j) = ((rr 512 (b i) : ℝ) : EReal) := by
  rw [h.unary main_v23 rfl]
  pointwise []
  rw [v22 h hd ha hb hga hgb hW hp, rsqrt_pos (ms_eps_pos h512 _), rr]

theorem v28 (i : Fin 16384) (j : Fin 512) : (E main_v28 : S16384x512.Idx → EReal) (ix2 i j) = ((b i j * rr 512 (b i) : ℝ) : EReal) := by
  rw [h.binary main_v28 rfl, h.unary main_v27 rfl]
  pointwise []
  simp only [v23 h hd ha hb hga hgb hW hp, hb, ← EReal.coe_mul]

/-! ## The projection and its norm -/

/-- The projection before its norm. -/
theorem v33 (i : Fin 16384) (j : Fin 1024) : (E main_v33 : S16384x1024.Idx → EReal) (ix2 i j) = ((proj (a i) (b i) ga gb W j : ℝ) : EReal) := by
  rw [h.binary main_v33 rfl, h.unary main_v0 rfl, h.nullary main_cst rfl, h.binary main_v32 rfl, h.binary main_v31 rfl,
    h.binary main_v30 rfl, h.unary main_v29 rfl, h.binary main_v15 rfl, h.unary main_v14 rfl]
  pointwise [fn_main_v31]
  simp only [v13 h hd ha hb hga hgb hW hp, v28 h hd ha hb hga hgb hW hp, hga, hgb, hW, zero_coe, ← EReal.coe_mul, ← EReal.coe_add, add_zero, coe_sum]
  simp only [proj, lo, hi, xn]

theorem v40 (i : Fin 16384) (j : Fin 1) : (E main_v40 : S16384x1.Idx → EReal) (ix2 i j)
    = ((ms 1024 (proj (a i) (b i) ga gb W) + eps : ℝ) : EReal) := by
  rw [h.binary main_v40 rfl, h.unary main_v39 rfl, h.nullary main_cst_10 rfl, h.binary main_v38 rfl, h.unary main_v37 rfl,
    h.nullary main_cst_9 rfl, h.unary main_v36 rfl, h.binary main_v35 rfl, h.nullary main_cst_8 rfl, h.binary main_v34 rfl]
  pointwise []
  simp only [v33 h hd ha hb hga hgb hW hp, c_1024, c_eps, zero_coe, ← EReal.coe_mul, ← EReal.coe_add, zero_add, coe_sum, div1024, ms]

theorem v41 (i : Fin 16384) (j : Fin 1) : (E main_v41 : S16384x1.Idx → EReal) (ix2 i j) = ((rr 1024 (proj (a i) (b i) ga gb W) : ℝ) : EReal) := by
  rw [h.unary main_v41 rfl]
  pointwise []
  rw [v40 h hd ha hb hga hgb hW hp, rsqrt_pos (ms_eps_pos h1024 _), rr]

/-- The gradient of the gain after the projection. -/
theorem v51 (i : Fin 1) (j : Fin 1024) : (E main_v51 : S1x1024.Idx → EReal) (ix2 i j)
    = ((∑ r, gainPost (d r) (proj (a r) (b r) ga gb W) j : ℝ) : EReal) := by
  rw [h.reshape main_v51 rfl, h.binary main_v50 rfl, h.nullary main_cst_12 rfl, h.binary main_v49 rfl, h.binary main_v46 rfl, h.unary main_v45 rfl]
  pointwise []
  simp only [v33 h hd ha hb hga hgb hW hp, v41 h hd ha hb hga hgb hW hp, hd, zero_coe, ← EReal.coe_mul, ← EReal.coe_add, zero_add, coe_sum]
  exact congrArg _ (Finset.sum_congr rfl fun r _ => by unfold gainPost; ring)

theorem v53 (i : Fin 16384) (j : Fin 1024) : (E main_v53 : S16384x1024.Idx → EReal) (ix2 i j) = ((d i j * gp j : ℝ) : EReal) := by
  rw [h.binary main_v53 rfl, h.unary main_v52 rfl]
  pointwise []
  simp only [hd, hp, ← EReal.coe_mul]

theorem v63 (i : Fin 16384) (j : Fin 1024) : (E main_v63 : S16384x1024.Idx → EReal) (ix2 i j)
    = (((∑ k, proj (a i) (b i) ga gb W k * (d i k * gp k))
        * (-1 / 2 * (rr 1024 (proj (a i) (b i) ga gb W) / (ms 1024 (proj (a i) (b i) ga gb W) + eps))) / 1024 : ℝ) : EReal) := by
  rw [h.unary main_v63 rfl, h.binary main_v62 rfl, h.nullary main_cst_15 rfl, h.binary main_v61 rfl, h.unary main_v60 rfl,
    h.nullary main_cst_14 rfl, h.binary main_v59 rfl, h.binary main_v44 rfl, h.unary main_v43 rfl, h.nullary main_cst_11 rfl,
    h.binary main_v42 rfl, h.reshape main_v56 rfl, h.binary main_v55 rfl, h.nullary main_cst_13 rfl, h.binary main_v54 rfl]
  pointwise []
  simp only [v53 h hd ha hb hga hgb hW hp, v33 h hd ha hb hga hgb hW hp, v41 h hd ha hb hga hgb hW hp, v40 h hd ha hb hga hgb hW hp,
    c_1024, c_neg_half, zero_coe, ← EReal.coe_mul, ← EReal.coe_add, zero_add, coe_sum, div_coe_coe (ms_eps_pos h1024 _).ne', div1024]
  rw [Fin.sum_univ_one]

/-- The gradient at the projection. -/
theorem v67 (i : Fin 16384) (j : Fin 1024) : (E main_v67 : S16384x1024.Idx → EReal) (ix2 i j)
    = ((dproj (d i) gp (a i) (b i) ga gb W j : ℝ) : EReal) := by
  rw [h.binary main_v67 rfl, h.binary main_v66 rfl, h.binary main_v65 rfl, h.binary main_v64 rfl, h.binary main_v58 rfl, h.unary main_v57 rfl]
  pointwise []
  simp only [v63 h hd ha hb hga hgb hW hp, v33 h hd ha hb hga hgb hW hp, v53 h hd ha hb hga hgb hW hp, v41 h hd ha hb hga hgb hW hp,
    ← EReal.coe_mul, ← EReal.coe_add]
  refine congrArg _ ?_
  rw [dproj, ← normBack_eq h1024]

theorem v68 (i : Fin 16384) (k : Fin 1024) : (E main_v68 : S16384x1024.Idx → EReal) (ix2 i k)
    = ((∑ j, dproj (d i) gp (a i) (b i) ga gb W j * W k j : ℝ) : EReal) := by
  rw [h.binary main_v68 rfl]
  pointwise []
  simp only [v67 h hd ha hb hga hgb hW hp, hW, ← EReal.coe_mul, coe_sum]

/-! ## The second half -/

theorem v70 (i : Fin 16384) (k : Fin 512) : (E main_v70 : S16384x512.Idx → EReal) (ix2 i k)
    = ((dhalf hi (dproj (d i) gp (a i) (b i) ga gb W) W k : ℝ) : EReal) := by
  rw [h.unary main_v70 rfl]
  pointwise []
  exact v68 h hd ha hb hga hgb hW hp i (hi k)

/-- The gradient of the second half's gain. -/
theorem v73 (i : Fin 1) (k : Fin 512) : (E main_v73 : S1x512.Idx → EReal) (ix2 i k)
    = ((∑ r, gain hi (b r) (dproj (d r) gp (a r) (b r) ga gb W) W k : ℝ) : EReal) := by
  rw [h.reshape main_v73 rfl, h.binary main_v72 rfl, h.nullary main_cst_16 rfl, h.binary main_v71 rfl]
  pointwise []
  simp only [v28 h hd ha hb hga hgb hW hp, v70 h hd ha hb hga hgb hW hp, zero_coe, ← EReal.coe_mul, ← EReal.coe_add, zero_add, coe_sum]
  exact congrArg _ (Finset.sum_congr rfl fun r _ => by unfold gain; ring)

theorem v75 (i : Fin 16384) (k : Fin 512) : (E main_v75 : S16384x512.Idx → EReal) (ix2 i k)
    = ((dhalf hi (dproj (d i) gp (a i) (b i) ga gb W) W k * gb k : ℝ) : EReal) := by
  rw [h.binary main_v75 rfl, h.unary main_v74 rfl]
  pointwise []
  simp only [v70 h hd ha hb hga hgb hW hp, hgb, ← EReal.coe_mul]

theorem v85 (i : Fin 16384) (k : Fin 512) : (E main_v85 : S16384x512.Idx → EReal) (ix2 i k)
    = (((∑ k, b i k * (dhalf hi (dproj (d i) gp (a i) (b i) ga gb W) W k * gb k))
        * (-1 / 2 * (rr 512 (b i) / (ms 512 (b i) + eps))) / 512 : ℝ) : EReal) := by
  rw [h.unary main_v85 rfl, h.binary main_v84 rfl, h.nullary main_cst_19 rfl, h.binary main_v83 rfl, h.unary main_v82 rfl,
    h.nullary main_cst_18 rfl, h.binary main_v81 rfl, h.binary main_v26 rfl, h.unary main_v25 rfl, h.nullary main_cst_7 rfl,
    h.binary main_v24 rfl, h.reshape main_v78 rfl, h.binary main_v77 rfl, h.nullary main_cst_17 rfl, h.binary main_v76 rfl]
  pointwise []
  simp only [v75 h hd ha hb hga hgb hW hp, hb, v23 h hd ha hb hga hgb hW hp, v22 h hd ha hb hga hgb hW hp,
    c_512, c_neg_half, zero_coe, ← EReal.coe_mul, ← EReal.coe_add, zero_add, coe_sum, div_coe_coe (ms_eps_pos h512 _).ne', div512]
  rw [Fin.sum_univ_one]

/-- The gradient at the second half. -/
theorem v89 (i : Fin 16384) (k : Fin 512) : (E main_v89 : S16384x512.Idx → EReal) (ix2 i k)
    = ((dy hi (b i) gb (dproj (d i) gp (a i) (b i) ga gb W) W k : ℝ) : EReal) := by
  rw [h.binary main_v89 rfl, h.binary main_v88 rfl, h.binary main_v87 rfl, h.binary main_v86 rfl, h.binary main_v80 rfl, h.unary main_v79 rfl]
  pointwise []
  simp only [v85 h hd ha hb hga hgb hW hp, v75 h hd ha hb hga hgb hW hp, v23 h hd ha hb hga hgb hW hp, hb, ← EReal.coe_mul, ← EReal.coe_add]
  refine congrArg _ ?_
  rw [dy, ← normBack_eq h512]

/-! ## The first half -/

theorem v69 (i : Fin 16384) (k : Fin 512) : (E main_v69 : S16384x512.Idx → EReal) (ix2 i k)
    = ((dhalf lo (dproj (d i) gp (a i) (b i) ga gb W) W k : ℝ) : EReal) := by
  rw [h.unary main_v69 rfl]
  pointwise []
  exact v68 h hd ha hb hga hgb hW hp i (lo k)

/-- The gradient of the first half's gain. -/
theorem v92 (i : Fin 1) (k : Fin 512) : (E main_v92 : S1x512.Idx → EReal) (ix2 i k)
    = ((∑ r, gain lo (a r) (dproj (d r) gp (a r) (b r) ga gb W) W k : ℝ) : EReal) := by
  rw [h.reshape main_v92 rfl, h.binary main_v91 rfl, h.nullary main_cst_20 rfl, h.binary main_v90 rfl]
  pointwise []
  simp only [v13 h hd ha hb hga hgb hW hp, v69 h hd ha hb hga hgb hW hp, zero_coe, ← EReal.coe_mul, ← EReal.coe_add, zero_add, coe_sum]
  exact congrArg _ (Finset.sum_congr rfl fun r _ => by unfold gain; ring)

theorem v94 (i : Fin 16384) (k : Fin 512) : (E main_v94 : S16384x512.Idx → EReal) (ix2 i k)
    = ((dhalf lo (dproj (d i) gp (a i) (b i) ga gb W) W k * ga k : ℝ) : EReal) := by
  rw [h.binary main_v94 rfl, h.unary main_v93 rfl]
  pointwise []
  simp only [v69 h hd ha hb hga hgb hW hp, hga, ← EReal.coe_mul]

theorem v104 (i : Fin 16384) (k : Fin 512) : (E main_v104 : S16384x512.Idx → EReal) (ix2 i k)
    = (((∑ k, a i k * (dhalf lo (dproj (d i) gp (a i) (b i) ga gb W) W k * ga k))
        * (-1 / 2 * (rr 512 (a i) / (ms 512 (a i) + eps))) / 512 : ℝ) : EReal) := by
  rw [h.unary main_v104 rfl, h.binary main_v103 rfl, h.nullary main_cst_23 rfl, h.binary main_v102 rfl, h.unary main_v101 rfl,
    h.nullary main_cst_22 rfl, h.binary main_v100 rfl, h.binary main_v11 rfl, h.unary main_v10 rfl, h.nullary main_cst_3 rfl,
    h.binary main_v9 rfl, h.reshape main_v97 rfl, h.binary main_v96 rfl, h.nullary main_cst_21 rfl, h.binary main_v95 rfl]
  pointwise []
  simp only [v94 h hd ha hb hga hgb hW hp, ha, v8 h hd ha hb hga hgb hW hp, v7 h hd ha hb hga hgb hW hp,
    c_512, c_neg_half, zero_coe, ← EReal.coe_mul, ← EReal.coe_add, zero_add, coe_sum, div_coe_coe (ms_eps_pos h512 _).ne', div512]
  rw [Fin.sum_univ_one]

/-- The gradient at the first half. -/
theorem v108 (i : Fin 16384) (k : Fin 512) : (E main_v108 : S16384x512.Idx → EReal) (ix2 i k)
    = ((dy lo (a i) ga (dproj (d i) gp (a i) (b i) ga gb W) W k : ℝ) : EReal) := by
  rw [h.binary main_v108 rfl, h.binary main_v107 rfl, h.binary main_v106 rfl, h.binary main_v105 rfl, h.binary main_v99 rfl, h.unary main_v98 rfl]
  pointwise []
  simp only [v104 h hd ha hb hga hgb hW hp, v94 h hd ha hb hga hgb hW hp, v8 h hd ha hb hga hgb hW hp, ha, ← EReal.coe_mul, ← EReal.coe_add]
  refine congrArg _ ?_
  rw [dy, ← normBack_eq h512]

/-! ## The heads' sums and the regroupings -/

/-- The first half's head sums, each spread over its head. -/
theorem v114 (i : Fin 16384) (k : Fin 512) : (E main_v114 : S16384x512.Idx → EReal) (ix2 i k)
    = ((hsum (dy lo (a i) ga (dproj (d i) gp (a i) (b i) ga gb W) W) (a i) (head k) : ℝ) : EReal) := by
  rw [h.reshape main_v114 rfl, h.unary main_v113 rfl, h.unary main_v112 rfl, h.binary main_v111 rfl, h.nullary main_cst_24 rfl,
    h.reshape main_v110 rfl, h.binary main_v109 rfl]
  pointwise []
  simp only [v108 h hd ha hb hga hgb hW hp, ha, ← EReal.coe_mul, coe_sum]
  rfl

omit h hd ha hb hga hgb hW hp in
/-- The eight head sums of a row of two finite arrays, on the first eight lanes. -/
theorem lanes {U V : S16384x512.Idx → EReal} {u v : Fin 16384 → Fin 512 → ℝ} (hu : ∀ i k, U (ix2 i k) = ((u i k : ℝ) : EReal))
    (hv : ∀ i k, V (ix2 i k) = ((v i k : ℝ) : EReal)) (i : Fin 16384) (k : Fin 128) :
    (if q : k.val < 8 then ∑ l : Fin 64, U (ix2 i (lane ⟨k.val, q⟩ l)) * V (ix2 i (lane ⟨k.val, q⟩ l)) else 0)
      = ((hlanes (u i) (v i) k : ℝ) : EReal) := by
  by_cases q : k.val < 8
  · rw [dif_pos q, hlanes_pos _ _ q]
    simp only [hu, hv, ← EReal.coe_mul, coe_sum, hsum]
  · rw [dif_neg q, hlanes_neg _ _ q, zero_coe]

/-- The second half's head sums on the first eight lanes. -/
theorem v119 (i : Fin 16384) (k : Fin 128) : (E main_v119 : S16384x128.Idx → EReal) (ix2 i k)
    = ((hlanes (dy hi (b i) gb (dproj (d i) gp (a i) (b i) ga gb W) W) (b i) k : ℝ) : EReal) := by
  rw [h.binary main_v119 rfl, h.unary main_v118 rfl, h.nullary main_cst_26 rfl, h.binary main_v117 rfl, h.nullary main_cst_25 rfl,
    h.reshape main_v116 rfl, h.binary main_v115 rfl]
  pointwise [fn_main_v119]
  exact lanes (v89 h hd ha hb hga hgb hW hp) hb i k

theorem v120 (i : Fin 16384) (j : Fin 1024) : (E main_v120 : S16384x1024.Idx → EReal) (ix2 i j)
    = ((dproj (d i) gp (a i) (b i) ga gb W j : ℝ) : EReal) := by
  rw [h.unary main_v120 rfl]
  pointwise []
  exact v67 h hd ha hb hga hgb hW hp i j

theorem v121 (i : Fin 16384) (k : Fin 512) : (E main_v121 : S16384x512.Idx → EReal) (ix2 i k)
    = ((dy lo (a i) ga (dproj (d i) gp (a i) (b i) ga gb W) W k : ℝ) : EReal) := by
  rw [h.unary main_v121 rfl]
  pointwise []
  exact v108 h hd ha hb hga hgb hW hp i k

theorem v122 (i : Fin 16384) (k : Fin 512) : (E main_v122 : S16384x512.Idx → EReal) (ix2 i k)
    = ((dy hi (b i) gb (dproj (d i) gp (a i) (b i) ga gb W) W k : ℝ) : EReal) := by
  rw [h.unary main_v122 rfl]
  pointwise []
  exact v89 h hd ha hb hga hgb hW hp i k

/-- Row `4 R + q` as columns `512 q` to `512 q + 511` of row `R`. -/
theorem v124 (R : Fin 4096) (C : Fin 2048) : (E main_v124 : S4096x2048.Idx → EReal) (ix2 R C)
    = ((dy hi (b (at4 R C)) gb (dproj (d (at4 R C)) gp (a (at4 R C)) (b (at4 R C)) ga gb W) W (col4 C) : ℝ) : EReal) := by
  rw [h.reshape main_v124 rfl, h.unary main_v123 rfl]
  pointwise []
  exact v89 h hd ha hb hga hgb hW hp (at4 R C) (col4 C)

/-- Row `16 R + q` as columns `512 q` to `512 q + 511` of row `R`. -/
theorem v126 (R : Fin 1024) (C : Fin 8192) : (E main_v126 : S1024x8192.Idx → EReal) (ix2 R C)
    = ((dy hi (b (at16 R C)) gb (dproj (d (at16 R C)) gp (a (at16 R C)) (b (at16 R C)) ga gb W) W (col16 C) : ℝ) : EReal) := by
  rw [h.reshape main_v126 rfl, h.unary main_v125 rfl]
  pointwise []
  exact v89 h hd ha hb hga hgb hW hp (at16 R C) (col16 C)

end Cert.OutBwdRefIdeal.Rows

end
-- ==== Proof.OutHost.lean ====
/- What the output projection's forward lines and the two regrouping matrices hand its gradient's kernel, on finite arguments. -/
module

public import proofs.«01_k».proof.Proof.Gen.OutBwdIdeal.Frame
public import proofs.«01_k».proof.Proof.Line
public import proofs.«01_k».proof.Proof.OutMath

@[expose] public section

set_option maxRecDepth 16384

noncomputable section

namespace Cert.OutBwdIdeal.HostRows

open Cert.OutBwdIdeal Cert.OutBwdIdeal.Gen Idealize.ShloMosaic Idealize.ShloMosaic.TcCoe
open Idealize.SL.Sem Idealize.ShloMosaic.StableHlo Cert.Line Cert.Lift Cert.Norm Cert.Out.Math

theorem line : Line (hostOps0 (F := Ideal)) 7 := by
  unfold hostOps0
  repeat'
    refine ⟨?_, ?_⟩
    · first
        | (with_reducible apply step_nullary) <;> decide
        | (with_reducible apply step_unary) <;> decide
        | (with_reducible apply step_binary) <;> decide
        | (with_reducible apply step_ternary) <;> decide
  trivial

theorem div512 (a : ℝ) : Ideal.div (a : EReal) ((512 : ℝ) : EReal) = ((a / 512 : ℝ) : EReal) := div_coe_coe (by norm_num)
theorem c_512 : Ideal.ofBits .f32 0x44000000#32 = ((512 : ℝ) : EReal) := by
  simp [Ideal.ofBits, Ideal.ieee, -EReal.coe_mul]; norm_num
theorem h512 : (0 : ℝ) < 512 := by norm_num

theorem word4 : ∀ c : Fin 512, IntOp.addi (IntOp.muli (IntOp.remsi ArithUnit.host (BitVec.ofNat 32 c.val) 4#32) 128#32)
    (IntOp.divsi ArithUnit.host (BitVec.ofNat 32 c.val) 4#32) = BitVec.ofNat 32 (c.val % 4 * 128 + c.val / 4) := by decide +kernel
theorem word16 : ∀ c : Fin 512, IntOp.addi (IntOp.muli (IntOp.remsi ArithUnit.host (BitVec.ofNat 32 c.val) 16#32) 32#32)
    (IntOp.divsi ArithUnit.host (BitVec.ofNat 32 c.val) 16#32) = BitVec.ofNat 32 (c.val % 16 * 32 + c.val / 16) := by decide +kernel

/-- One where two small numbers agree, zero elsewhere. -/
theorem pick {u v : ℕ} (hu : u < 2 ^ 32) (hv : v < 2 ^ 32) :
    Scalar.select (α := EReal) (IntOp.cmpi CmpIPredicate.eq (BitVec.ofNat 32 u) (BitVec.ofNat 32 v)) 1 0
      = ((if u = v then 1 else 0 : ℝ) : EReal) := by
  by_cases e : u = v
  · subst e; simp [Scalar.select, IntOp.cmpi]
  · have : ¬ BitVec.ofNat 32 u = BitVec.ofNat 32 v := fun q => e (by
      have := congrArg BitVec.toNat q
      rwa [BitVec.toNat_ofNat, BitVec.toNat_ofNat, Nat.mod_eq_of_lt hu, Nat.mod_eq_of_lt hv] at this)
    have hf : (BitVec.ofNat 32 u == BitVec.ofNat 32 v) = false := beq_eq_false_iff_ne.mpr this
    simp [Scalar.select, IntOp.cmpi, hf, e]

variable {a b : Fin 16384 → Fin 512 → ℝ} {ga gb : Fin 512 → ℝ} {W : Fin 1024 → Fin 1024 → ℝ}
variable {E : Valuation τ sig (Elt Ideal)} (h : Solves (hostOps0 (F := Ideal)) 7 E)

section Rows

variable (ha : ∀ i j, (E main_arg1 : S16384x512.Idx → EReal) (ix2 i j) = ((a i j : ℝ) : EReal))
  (hb : ∀ i j, (E main_arg2 : S16384x512.Idx → EReal) (ix2 i j) = ((b i j : ℝ) : EReal))
  (hga : ∀ j, (E main_arg3 : S1x512.Idx → EReal) (ix2 0 j) = ((ga j : ℝ) : EReal))
  (hgb : ∀ j, (E main_arg4 : S1x512.Idx → EReal) (ix2 0 j) = ((gb j : ℝ) : EReal))
  (hW : ∀ i j, (E main_arg5 : S1024x1024.Idx → EReal) (ix2 i j) = ((W i j : ℝ) : EReal))
include h ha hb hga hgb hW

theorem v11 (i : Fin 16384) (j : Fin 512) : (E main_v11 : S16384x512.Idx → EReal) (ix2 i j) = ((xn 512 (a i) ga j : ℝ) : EReal) := by
  rw [h.binary main_v11 rfl, h.unary main_v10 rfl, h.binary main_v9 rfl, h.unary main_v8 rfl, h.unary main_v7 rfl,
    h.binary main_v6 rfl, h.unary main_v5 rfl, h.nullary main_cst_1 rfl, h.binary main_v4 rfl, h.unary main_v3 rfl,
    h.nullary main_cst_0 rfl, h.unary main_v2 rfl, h.binary main_v1 rfl, h.nullary main_cst rfl, h.binary main_v0 rfl]
  pointwise []
  simp only [ha, hga, c_512, c_eps, zero_coe, ← EReal.coe_mul, ← EReal.coe_add, zero_add, coe_sum, div512, rsqrt_ms h512, xn]

theorem v23 (i : Fin 16384) (j : Fin 512) : (E main_v23 : S16384x512.Idx → EReal) (ix2 i j) = ((xn 512 (b i) gb j : ℝ) : EReal) := by
  rw [h.binary main_v23 rfl, h.unary main_v22 rfl, h.binary main_v21 rfl, h.unary main_v20 rfl, h.unary main_v19 rfl,
    h.binary main_v18 rfl, h.unary main_v17 rfl, h.nullary main_cst_4 rfl, h.binary main_v16 rfl, h.unary main_v15 rfl,
    h.nullary main_cst_3 rfl, h.unary main_v14 rfl, h.binary main_v13 rfl, h.nullary main_cst_2 rfl, h.binary main_v12 rfl]
  pointwise []
  simp only [hb, hgb, c_512, c_eps, zero_coe, ← EReal.coe_mul, ← EReal.coe_add, zero_add, coe_sum, div512, rsqrt_ms h512, xn]

/-- The projection before its norm. -/
theorem v28 (i : Fin 16384) (j : Fin 1024) : (E main_v28 : S16384x1024.Idx → EReal) (ix2 i j)
    = ((proj (a i) (b i) ga gb W j : ℝ) : EReal) := by
  rw [h.binary main_v28 rfl, h.binary main_v27 rfl, h.unary main_v26 rfl, h.binary main_v25 rfl, h.unary main_v24 rfl]
  pointwise []
  simp only [v11 h ha hb hga hgb hW, v23 h ha hb hga hgb hW, hW, ← EReal.coe_mul, ← EReal.coe_add, coe_sum]
  simp only [proj, lo, hi]

theorem v29 (i j : Fin 1024) : (E main_v29 : S1024x1024.Idx → EReal) (ix2 i j) = ((W i j : ℝ) : EReal) := by
  rw [h.unary main_v29 rfl]
  pointwise []
  exact hW i j

end Rows

include h

/-- The matrix that regroups a tile's rows by four. -/
theorem v42 (p c : Fin 512) : (E main_v42 : S512x512.Idx → EReal) (ix2 p c) = ((move4 p c : ℝ) : EReal) := by
  rw [h.ternary main_v42 rfl, h.unary main_v41 rfl, h.nullary main_cst_8 rfl, h.unary main_v40 rfl, h.nullary main_cst_7 rfl,
    h.binary main_v39 rfl, h.binary main_v38 rfl, h.binary main_v37 rfl, h.unary main_v36 rfl, h.nullary main_c_6 rfl,
    h.binary main_v35 rfl, h.unary main_v34 rfl, h.nullary main_c_5 rfl, h.binary main_v33 rfl, h.unary main_v32 rfl,
    h.nullary main_c rfl, h.nullary main_v31 rfl, h.nullary main_v30 rfl]
  pointwise []
  rw [word4 c]
  exact pick (by omega) (by omega)

/-- The matrix that regroups a tile's rows by sixteen. -/
theorem v55 (p c : Fin 512) : (E main_v55 : S512x512.Idx → EReal) (ix2 p c) = ((move16 p c : ℝ) : EReal) := by
  rw [h.ternary main_v55 rfl, h.unary main_v54 rfl, h.nullary main_cst_13 rfl, h.unary main_v53 rfl, h.nullary main_cst_12 rfl,
    h.binary main_v52 rfl, h.binary main_v51 rfl, h.binary main_v50 rfl, h.unary main_v49 rfl, h.nullary main_c_11 rfl,
    h.binary main_v48 rfl, h.unary main_v47 rfl, h.nullary main_c_10 rfl, h.binary main_v46 rfl, h.unary main_v45 rfl,
    h.nullary main_c_9 rfl, h.nullary main_v44 rfl, h.nullary main_v43 rfl]
  pointwise []
  rw [word16 c]
  exact pick (by omega) (by omega)

end Cert.OutBwdIdeal.HostRows

end
-- ==== Proof.OutKernel.lean ====
/- What the output projection's gradient computes at one grid point, on finite blocks of 512 rows. -/
module

public import proofs.«01_k».proof.Proof.Gen.OutBwdIdeal.Skeleton
public import proofs.«01_k».proof.Proof.OutMath

@[expose] public section

set_option maxRecDepth 16384

noncomputable section

namespace Cert.OutBwdIdeal.Kernel

open Cert.OutBwdIdeal Cert.OutBwdIdeal.Gen Idealize.ShloMosaic
open Cert.Lift Cert.Norm Cert.Out.Math

theorem div1024 (a : ℝ) : Ideal.div (a : EReal) ((1024 : ℝ) : EReal) = ((a / 1024 : ℝ) : EReal) := div_coe_coe (by norm_num)
theorem div512 (a : ℝ) : Ideal.div (a : EReal) ((512 : ℝ) : EReal) = ((a / 512 : ℝ) : EReal) := div_coe_coe (by norm_num)
theorem c_512 : Ideal.ofBits .f32 0x44000000#32 = ((512 : ℝ) : EReal) := by
  simp [Ideal.ofBits, Ideal.ieee, -EReal.coe_mul]; norm_num
theorem h512 : (0 : ℝ) < 512 := by norm_num
theorem h1024 : (0 : ℝ) < 1024 := by norm_num

variable {d o e : Fin 512 → Fin 1024 → ℝ} {gp : Fin 1024 → ℝ} {y u z : Fin 512 → Fin 512 → ℝ} {g : Fin 512 → ℝ}
  {W : Fin 1024 → Fin 1024 → ℝ} {s : Fin 512 → Fin 1024}
variable {D O : FVec Ideal S512x1024 .f32} {DE M : FVec Ideal S512x1024 .bf16} {GP : FVec Ideal S1x1024 .f32}
  {Y U Z : FVec Ideal S512x512 .f32} {G : FVec Ideal S1x512 .f32} {P C : FVec Ideal S512x512 .bf16}

section Post

variable (hd : ∀ i j, D (ix2 i j) = ((d i j : ℝ) : EReal)) (ho : ∀ i j, O (ix2 i j) = ((o i j : ℝ) : EReal))
  (hp : ∀ j, GP (ix2 0 j) = ((gp j : ℝ) : EReal))

include ho in
theorem pay6 (i : Fin 512) (j : Fin 1) : k0_pay6 (F := Ideal) O (ix2 i j) = ((rr 1024 (o i) : ℝ) : EReal) := by
  pointwise [k0_pay6, k0_pay5]
  simp only [ho, c_1024, c_eps, ← EReal.coe_mul, ← EReal.coe_add, coe_sum, div1024, rsqrt_ms h1024]

include ho in
theorem pay7 (i : Fin 512) (j : Fin 1024) : k0_pay7 (F := Ideal) O (ix2 i j) = ((o i j * rr 1024 (o i) : ℝ) : EReal) := by
  pointwise [k0_pay7, k0_pay5]
  simp only [ho, pay6 ho, ← EReal.coe_mul]

include hd ho hp in
/-- The gradient at the projection. -/
theorem pay8 (i : Fin 512) (j : Fin 1024) : k0_pay8 (F := Ideal) O GP D (ix2 i j)
    = ((normBack 1024 (o i) (fun k => d i k * gp k) j : ℝ) : EReal) := by
  pointwise [k0_pay8]
  simp only [hd, hp, pay6 ho, pay7 ho, c_1024, ← EReal.coe_mul, ← EReal.coe_sub, coe_sum, div1024, normBack]

include hd ho in
/-- What a grid point adds to the gradient of the gain after the projection. -/
theorem pay9 (L : FVec Ideal S1x1024 .f32) (i : Fin 1) (j : Fin 1024) : k0_pay9 (F := Ideal) O D L (ix2 i j)
    = L (ix2 i j) + ((∑ r, gainPost (d r) (o r) j : ℝ) : EReal) := by
  pointwise [k0_pay9]
  simp only [hd, pay7 ho, ← EReal.coe_mul, coe_sum, gainPost]

end Post

section Half

variable (he : ∀ i j, DE (ix2 i j) = ((e i j : ℝ) : EReal)) (hM : ∀ k j, M (ix2 k j) = ((W (s k) j : ℝ) : EReal))
  (hy : ∀ i k, Y (ix2 i k) = ((y i k : ℝ) : EReal)) (hg : ∀ k, G (ix2 0 k) = ((g k : ℝ) : EReal))

include he hM in
/-- The gradient at a normed half. -/
theorem pay10 (i k : Fin 512) : k0_pay10 (F := Ideal) DE M (ix2 i k) = ((dhalf s (e i) W k : ℝ) : EReal) := by
  pointwise [k0_pay10]
  simp only [he, hM, zero_coe, ← EReal.coe_mul, ← EReal.coe_add, zero_add, coe_sum, dhalf]

include hy in
theorem pay12 (i : Fin 512) (j : Fin 1) : k0_pay12 (F := Ideal) Y (ix2 i j) = ((rr 512 (y i) : ℝ) : EReal) := by
  pointwise [k0_pay12]
  simp only [hy, c_512, c_eps, ← EReal.coe_mul, ← EReal.coe_add, coe_sum, div512, rsqrt_ms h512]

include hy in
theorem pay13 (i k : Fin 512) : k0_pay13 (F := Ideal) Y (ix2 i k) = ((y i k * rr 512 (y i) : ℝ) : EReal) := by
  pointwise [k0_pay13]
  simp only [hy, pay12 hy, ← EReal.coe_mul]

include he hM hy hg in
/-- The gradient at a half. -/
theorem pay14 (i k : Fin 512) : k0_pay14 (F := Ideal) DE M Y G (ix2 i k) = ((dy s (y i) g (e i) W k : ℝ) : EReal) := by
  pointwise [k0_pay14]
  simp only [pay10 he hM, pay12 hy, pay13 hy, hg, c_512, ← EReal.coe_mul, ← EReal.coe_sub, coe_sum, div512, dy, normBack]

include he hM hy in
theorem pay15 (i : Fin 1) (k : Fin 512) : k0_pay15 (F := Ideal) DE M Y (ix2 i k) = ((∑ r, gain s (y r) (e r) W k : ℝ) : EReal) := by
  pointwise [k0_pay15]
  simp only [pay10 he hM, pay13 hy, ← EReal.coe_mul, coe_sum, gain]

/-- The two halves are computed alike. -/
theorem pay19_eq : k0_pay19 (F := Ideal) (k0_pay11 DE M) Y G (k0_pay16 Y) = k0_pay14 DE M Y G := rfl

include he hM hy in
/-- What a grid point adds to the gradient of the second half's gain. -/
theorem pay21 (L : FVec Ideal S1x512 .f32) (i : Fin 1) (k : Fin 512) :
    k0_pay21 (F := Ideal) (k0_pay11 DE M) Y (k0_pay16 Y) L (ix2 i k) = L (ix2 i k) + ((∑ r, gain s (y r) (e r) W k : ℝ) : EReal) := by
  have h : ∀ i k, k0_pay18 (F := Ideal) Y (k0_pay16 Y) (ix2 i k) = ((y i k * rr 512 (y i) : ℝ) : EReal) := pay13 hy
  have h' : ∀ i k, k0_pay11 (F := Ideal) DE M (ix2 i k) = ((dhalf s (e i) W k : ℝ) : EReal) := pay10 he hM
  pointwise [k0_pay21]
  simp only [h, h', ← EReal.coe_mul, coe_sum, gain]

include he hM hy in
/-- What a grid point adds to the gradient of the first half's gain. -/
theorem pay20 (L : FVec Ideal S1x512 .f32) (i : Fin 1) (k : Fin 512) :
    k0_pay20 (F := Ideal) (k0_pay15 DE M Y) L (ix2 i k) = L (ix2 i k) + ((∑ r, gain s (y r) (e r) W k : ℝ) : EReal) := by
  pointwise [k0_pay20]
  simp only [pay15 he hM hy]

end Half

section Regroup

variable (hu : ∀ i k, C (ix2 i k) = ((u i k : ℝ) : EReal))
include hu

/-- A tile's rows regrouped by four, and by sixteen. -/
theorem pay25 (hP : ∀ p c, P (ix2 p c) = ((move4 p c : ℝ) : EReal)) (p k : Fin 512) :
    k0_pay25 (F := Ideal) C P (ix2 p k) = ((u (from4 p) k : ℝ) : EReal) := by
  pointwise [k0_pay25]
  simp only [hu, hP, zero_coe, ← EReal.coe_mul, ← EReal.coe_add, zero_add, coe_sum, sum_move4 (fun c => u c k)]

@[inherit_doc pay25]
theorem pay30 (hP : ∀ p c, P (ix2 p c) = ((move16 p c : ℝ) : EReal)) (p k : Fin 512) :
    k0_pay30 (F := Ideal) C P (ix2 p k) = ((u (from16 p) k : ℝ) : EReal) := by
  pointwise [k0_pay30]
  simp only [hu, hP, zero_coe, ← EReal.coe_mul, ← EReal.coe_add, zero_add, coe_sum, sum_move16 (fun c => u c k)]

end Regroup

section Heads

/-- Which head an entry lies in, as the kernel finds it. -/
theorem word : ∀ k : Fin 512, IntOp.shrsi ArithUnit.vector (BitVec.ofNat 32 k.val) 6#32 = BitVec.ofNat 32 (head k).val := by decide +kernel
theorem lanes (i k : Fin 512) : k0_pay48 (ix2 i k) = BitVec.ofNat 32 (head k).val := by
  pointwise [k0_pay48]
  exact word k

theorem bit : ∀ a h : Fin 8, (IntOp.cmpi CmpIPredicate.eq (BitVec.ofNat 32 a.val) (BitVec.ofNat 32 h.val)) = 1#1 ↔ a = h := by decide +kernel
theorem bit128 : ∀ (a : Fin 128) (h : Fin 8),
    (IntOp.cmpi CmpIPredicate.eq (BitVec.ofNat 32 a.val) (BitVec.ofNat 32 h.val)) = 1#1 ↔ a.val = h.val := by decide +kernel

/-- The sum over head `h` of an array's row, as the kernel computes it. -/
abbrev red (X : FVec Ideal S512x512 .f32) (h : BitVec 32) : FVec Ideal S512x1 .f32 :=
  shapeCast S512x1 (multiReduction .add [1] S512 (select (cmpi .eq k0_pay48 (broadcast S512x512 h)) X
    (broadcast S512x512 (Scalar.ofBits (F := Ideal) .f32 0x00000000#32))) 0x00000000#32 reduces_S512x512_S512 (.inl rfl) rfl) shapeCasts_S512_S512x1

/-- One head's sum put on that head's lanes. -/
abbrev put (X Q : FVec Ideal S512x512 .f32) (h : BitVec 32) : FVec Ideal S512x512 .f32 :=
  select (cmpi .eq k0_pay48 (broadcast S512x512 h))
    (broadcastTo S512x512 (shapeCast S512x1 (red X h) shapeCasts_S512x1_S512x1) broadcasts_S512x1_S512x512) Q

/-- One head's sum put on one lane. -/
abbrev lay (R : FVec Ideal S512x1 .f32) (Q : FVec Ideal S512x128 .f32) (h : BitVec 32) : FVec Ideal S512x128 .f32 :=
  select (cmpi .eq (iota .tc S512x128 32 [1] iota_S512x128_d1_w32) (broadcast S512x128 h))
    (broadcastTo S512x128 (shapeCast S512x1 R shapeCasts_S512x1_S512x1) broadcasts_S512x1_S512x128) Q

theorem put_eq (h : Fin 8) (X Q : FVec Ideal S512x512 .f32) (i k : Fin 512) :
    put X Q (BitVec.ofNat 32 h.val) (ix2 i k) = if head k = h then red X (BitVec.ofNat 32 h.val) (ix2 i 0) else Q (ix2 i k) := by
  pointwise [put]
  rw [lanes i k]
  exact if_congr (bit _ _) rfl rfl

theorem lay_eq (h : Fin 8) (R : FVec Ideal S512x1 .f32) (Q : FVec Ideal S512x128 .f32) (i : Fin 512) (k : Fin 128) :
    lay R Q (BitVec.ofNat 32 h.val) (ix2 i k) = if k.val = h.val then R (ix2 i 0) else Q (ix2 i k) := by
  pointwise [lay]
  exact if_congr (bit128 _ _) rfl rfl

variable (hu : ∀ i k, U (ix2 i k) = ((u i k : ℝ) : EReal)) (hy : ∀ i k, Y (ix2 i k) = ((y i k : ℝ) : EReal))
include hu hy

theorem red_eq (h : Fin 8) (i : Fin 512) (j : Fin 1) : red (mulf U Y) (BitVec.ofNat 32 h.val) (ix2 i j) = ((hsum (u i) (y i) h : ℝ) : EReal) := by
  pointwise [red]
  simp only [lanes, hu, hy, ← EReal.coe_mul]
  rw [hsum, ← sum_head (fun k => u i k * y i k), ← coe_sum]
  refine Finset.sum_congr rfl fun k _ => ?_
  refine (if_congr (bit _ _) rfl rfl).trans ?_
  split_ifs <;> rfl

/-- The heads' sums, each spread over its head. -/
theorem pay51 (i k : Fin 512) :
    k0_pay51 (F := Ideal) (k0_pay47 Y U) k0_pay48 (k0_pay50 (k0_pay47 Y U) k0_pay48 k0_pay49 0#32) 5#32 (ix2 i k)
      = ((hsum (u i) (y i) (head k) : ℝ) : EReal) := by
  have e : k0_pay51 (F := Ideal) (k0_pay47 Y U) k0_pay48 (k0_pay50 (k0_pay47 Y U) k0_pay48 k0_pay49 0#32) 5#32
      = put (mulf U Y) (put (mulf U Y) (put (mulf U Y) (put (mulf U Y) (put (mulf U Y) (put (mulf U Y) (put (mulf U Y) (put (mulf U Y) k0_pay49
        (BitVec.ofNat 32 (0 : Fin 8).val)) (BitVec.ofNat 32 (1 : Fin 8).val)) (BitVec.ofNat 32 (2 : Fin 8).val)) (BitVec.ofNat 32 (3 : Fin 8).val))
        (BitVec.ofNat 32 (4 : Fin 8).val)) (BitVec.ofNat 32 (5 : Fin 8).val)) (BitVec.ofNat 32 (6 : Fin 8).val)) (BitVec.ofNat 32 (7 : Fin 8).val) := rfl
  rw [e]
  simp only [put_eq, red_eq hu hy]
  generalize head k = q
  fin_cases q <;> rfl

/-- The heads' sums on the first eight lanes, zeros on the rest. -/
theorem pay1 (i : Fin 512) (k : Fin 128) :
    k0_pay1 (F := Ideal) (k0_pay54 Y U) (k0_pay56 (k0_pay55 Y U)) (k0_pay57 (k0_pay52 Y U) k0_pay53) (k0_pay58 (k0_pay52 Y U) k0_pay53)
        (k0_pay59 (k0_pay52 Y U) k0_pay53) (k0_pay60 (k0_pay52 Y U) k0_pay53) (k0_pay61 (k0_pay52 Y U) k0_pay53) (k0_pay62 (k0_pay52 Y U) k0_pay53)
        (iota .tc S512x128 32 [1] iota_S512x128_d1_w32) k0_pay63 0#32 (ix2 i k)
      = ((hlanes (u i) (y i) k : ℝ) : EReal) := by
  have e : k0_pay1 (F := Ideal) (k0_pay54 Y U) (k0_pay56 (k0_pay55 Y U)) (k0_pay57 (k0_pay52 Y U) k0_pay53) (k0_pay58 (k0_pay52 Y U) k0_pay53)
        (k0_pay59 (k0_pay52 Y U) k0_pay53) (k0_pay60 (k0_pay52 Y U) k0_pay53) (k0_pay61 (k0_pay52 Y U) k0_pay53) (k0_pay62 (k0_pay52 Y U) k0_pay53)
        (iota .tc S512x128 32 [1] iota_S512x128_d1_w32) k0_pay63 0#32
      = lay (red (mulf U Y) (BitVec.ofNat 32 (7 : Fin 8).val)) (lay (red (mulf U Y) (BitVec.ofNat 32 (6 : Fin 8).val))
        (lay (red (mulf U Y) (BitVec.ofNat 32 (5 : Fin 8).val)) (lay (red (mulf U Y) (BitVec.ofNat 32 (4 : Fin 8).val))
        (lay (red (mulf U Y) (BitVec.ofNat 32 (3 : Fin 8).val)) (lay (red (mulf U Y) (BitVec.ofNat 32 (2 : Fin 8).val))
        (lay (red (mulf U Y) (BitVec.ofNat 32 (1 : Fin 8).val)) (lay (red (mulf U Y) (BitVec.ofNat 32 (0 : Fin 8).val)) k0_pay63
        (BitVec.ofNat 32 (0 : Fin 8).val)) (BitVec.ofNat 32 (1 : Fin 8).val)) (BitVec.ofNat 32 (2 : Fin 8).val)) (BitVec.ofNat 32 (3 : Fin 8).val))
        (BitVec.ofNat 32 (4 : Fin 8).val)) (BitVec.ofNat 32 (5 : Fin 8).val)) (BitVec.ofNat 32 (6 : Fin 8).val)) (BitVec.ofNat 32 (7 : Fin 8).val) := rfl
  rw [e]
  simp only [lay_eq, red_eq hu hy]
  unfold hlanes
  by_cases h : k.val < 8
  · rw [dif_pos h]
    have hk : k.val = (⟨k.val, h⟩ : Fin 8).val := rfl
    generalize (⟨k.val, h⟩ : Fin 8) = q at hk ⊢
    rw [hk]
    fin_cases q <;> rfl
  · rw [dif_neg h]
    have hn : ∀ q : Fin 8, k.val ≠ q.val := fun q hq => h (hq ▸ q.isLt)
    simp only [hn, if_false]
    pointwise [k0_pay63]
    rfl

end Heads

end Cert.OutBwdIdeal.Kernel

end
-- ==== Proof.OutBlocks.lean ====
/- A block of regrouped rows, as its stores leave it. Each store writes 512 columns: a stretch of rows of one product. -/
module

public import proofs.«01_k».proof.Proof.OutKernel

@[expose] public section

set_option maxRecDepth 16384

noncomputable section

namespace Cert.OutBwdIdeal.Kernel

open Cert.OutBwdIdeal Cert.OutBwdIdeal.Gen Idealize.ShloMosaic Cert.Lift Cert.Out.Math

theorem inb16 (q : Fin 16) : ∀ a, (![0, 512 * q.val] : Fin 2 → ℕ) a + (![32, 512] : Fin 2 → ℕ) a ≤ S32x8192.size a :=
  Fin.forall_fin_two.mpr ⟨by show 0 + 32 ≤ 32; omega, by show 512 * q.val + 512 ≤ 8192; omega⟩

/-- One store of a block of 32 rows. -/
def piece16 (w : Fin 16 → S32x512.Idx → Elt Ideal .bf16) (q : Fin 16) : View.Piece (Elt Ideal) S32x8192 .bf16 :=
  ⟨Rect.unit (s := S32x8192) ![0, 512 * q.val] ![32, 512] (inb16 q), w q⟩

/-- The stores of a block of 32 rows, the last first. -/
def stores16 (w : Fin 16 → S32x512.Idx → Elt Ideal .bf16) : List (View.Piece (Elt Ideal) S32x8192 .bf16) :=
  List.ofFn fun q : Fin 16 => piece16 w q.rev

theorem canon16 (G : S32x8192.Idx → Elt Ideal .bf16) (w : Fin 16 → S32x512.Idx → Elt Ideal .bf16)
    (h : ∀ q r k, w q (ix2 r k) = G (ix2 r ⟨512 * q.val + k.val, by omega⟩)) (y : S32x8192.Idx) : View.canon (stores16 w) y = G y := by
  refine View.canon_apply_of_pieces G _ ?_ y ?_
  · intro p hp
    obtain ⟨q, rfl⟩ := List.mem_ofFn.mp hp
    intro (x : S32x512.Idx)
    idx_vars x
    exact (h q.rev _ _).trans (congrArg G (funext (Fin.forall_fin_two.mpr ⟨Fin.ext (by show x0.val = 0 + 1 * x0.val; omega),
      Fin.ext (by show 512 * q.rev.val + x1.val = 512 * q.rev.val + 1 * x1.val; omega)⟩)))
  · idx_vars y
    refine ⟨piece16 w ⟨y1.val / 512, by omega⟩, List.mem_ofFn.mpr ⟨(⟨y1.val / 512, by omega⟩ : Fin 16).rev, congrArg (piece16 w) (Fin.rev_rev _)⟩,
      (Rect.mem_set_unit (inb := inb16 ⟨y1.val / 512, by omega⟩)).mpr (Fin.forall_fin_two.mpr ⟨⟨Nat.zero_le _, by show y0.val < 0 + 32; omega⟩,
        by show 512 * (y1.val / 512) ≤ y1.val; omega, by show y1.val < 512 * (y1.val / 512) + 512; omega⟩)⟩

theorem inb4 (q : Fin 4) : ∀ a, (![0, 512 * q.val] : Fin 2 → ℕ) a + (![128, 512] : Fin 2 → ℕ) a ≤ S128x2048.size a :=
  Fin.forall_fin_two.mpr ⟨by show 0 + 128 ≤ 128; omega, by show 512 * q.val + 512 ≤ 2048; omega⟩

/-- One store of a block of 128 rows. -/
def piece4 (w : Fin 4 → S128x512.Idx → Elt Ideal .bf16) (q : Fin 4) : View.Piece (Elt Ideal) S128x2048 .bf16 :=
  ⟨Rect.unit (s := S128x2048) ![0, 512 * q.val] ![128, 512] (inb4 q), w q⟩

@[inherit_doc stores16] def stores4 (w : Fin 4 → S128x512.Idx → Elt Ideal .bf16) : List (View.Piece (Elt Ideal) S128x2048 .bf16) :=
  List.ofFn fun q : Fin 4 => piece4 w q.rev

theorem canon4 (G : S128x2048.Idx → Elt Ideal .bf16) (w : Fin 4 → S128x512.Idx → Elt Ideal .bf16)
    (h : ∀ q r k, w q (ix2 r k) = G (ix2 r ⟨512 * q.val + k.val, by omega⟩)) (y : S128x2048.Idx) : View.canon (stores4 w) y = G y := by
  refine View.canon_apply_of_pieces G _ ?_ y ?_
  · intro p hp
    obtain ⟨q, rfl⟩ := List.mem_ofFn.mp hp
    intro (x : S128x512.Idx)
    idx_vars x
    exact (h q.rev _ _).trans (congrArg G (funext (Fin.forall_fin_two.mpr ⟨Fin.ext (by show x0.val = 0 + 1 * x0.val; omega),
      Fin.ext (by show 512 * q.rev.val + x1.val = 512 * q.rev.val + 1 * x1.val; omega)⟩)))
  · idx_vars y
    refine ⟨piece4 w ⟨y1.val / 512, by omega⟩, List.mem_ofFn.mpr ⟨(⟨y1.val / 512, by omega⟩ : Fin 4).rev, congrArg (piece4 w) (Fin.rev_rev _)⟩,
      (Rect.mem_set_unit (inb := inb4 ⟨y1.val / 512, by omega⟩)).mpr (Fin.forall_fin_two.mpr ⟨⟨Nat.zero_le _, by show y0.val < 0 + 128; omega⟩,
        by show 512 * (y1.val / 512) ≤ y1.val; omega, by show y1.val < 512 * (y1.val / 512) + 512; omega⟩)⟩

/-- The stretch of 32 rows a store takes from the product `Q`. -/
def cut16 (Q : FVec Ideal S512x512 .bf16) (q : Fin 16) : S32x512.Idx → Elt Ideal .bf16 := fun x =>
  Q (ix2 ⟨32 * q.val + (x 0).val, by have h : (x 0).val < 32 := (x 0).isLt; omega⟩ (x 1))
@[inherit_doc cut16] def cut4 (Q : FVec Ideal S512x512 .bf16) (q : Fin 4) : S128x512.Idx → Elt Ideal .bf16 := fun x =>
  Q (ix2 ⟨128 * q.val + (x 0).val, by have h : (x 0).val < 128 := (x 0).isLt; omega⟩ (x 1))

theorem strided16 (Q : FVec Ideal S512x512 .bf16) (q : Fin 16) (o : ℕ) (ho : o = 32 * q.val) (inb : S512x512.Slices ![o, 0] S32x512) :
    extractStridedSlice S32x512 ![o, 0] Q inb = cut16 Q q := by
  subst ho
  refine ext2 fun r k => ?_
  exact congrArg Q (funext (Fin.forall_fin_two.mpr ⟨Fin.ext (by show 32 * q.val + r.val = 32 * q.val + r.val; rfl), Fin.ext (by show 0 + k.val = k.val; omega)⟩))
theorem strided4 (Q : FVec Ideal S512x512 .bf16) (q : Fin 4) (o : ℕ) (ho : o = 128 * q.val) (inb : S512x512.Slices ![o, 0] S128x512) :
    extractStridedSlice S128x512 ![o, 0] Q inb = cut4 Q q := by
  subst ho
  refine ext2 fun r k => ?_
  exact congrArg Q (funext (Fin.forall_fin_two.mpr ⟨Fin.ext (by show 128 * q.val + r.val = 128 * q.val + r.val; rfl), Fin.ext (by show 0 + k.val = k.val; omega)⟩))

/-- The block's stores, one by one. -/
theorem list4 {Q : FVec Ideal S512x512 .bf16} {w0 w1 w2 w3 : S128x512.Idx → Elt Ideal .bf16}
    (h0 : w0 = cut4 Q 0) (h1 : w1 = cut4 Q 1) (h2 : w2 = cut4 Q 2) (h3 : w3 = cut4 Q 3) :
    ([⟨Rect.unit ![0, 1536] ![128, 512] inb_S128x2048_S128x512_0_1536, w3⟩,
      ⟨Rect.unit ![0, 1024] ![128, 512] inb_S128x2048_S128x512_0_1024, w2⟩,
      ⟨Rect.unit ![0, 512] ![128, 512] inb_S128x2048_S128x512_0_512, w1⟩,
      ⟨Rect.unit ![0, 0] ![128, 512] inb_S128x2048_S128x512_0_0, w0⟩] : List (View.Piece (Elt Ideal) S128x2048 .bf16)) = stores4 (cut4 Q) := by
  subst h0 h1 h2 h3
  rfl

@[inherit_doc list4] theorem list16 {Q : FVec Ideal S512x512 .bf16} {w0 w1 w2 w3 w4 w5 w6 w7 w8 w9 w10 w11 w12 w13 w14 w15 : S32x512.Idx → Elt Ideal .bf16}
    (h0 : w0 = cut16 Q 0) (h1 : w1 = cut16 Q 1) (h2 : w2 = cut16 Q 2) (h3 : w3 = cut16 Q 3) (h4 : w4 = cut16 Q 4) (h5 : w5 = cut16 Q 5) (h6 : w6 = cut16 Q 6) (h7 : w7 = cut16 Q 7) (h8 : w8 = cut16 Q 8) (h9 : w9 = cut16 Q 9) (h10 : w10 = cut16 Q 10) (h11 : w11 = cut16 Q 11) (h12 : w12 = cut16 Q 12) (h13 : w13 = cut16 Q 13) (h14 : w14 = cut16 Q 14) (h15 : w15 = cut16 Q 15) :
    ([⟨Rect.unit ![0, 7680] ![32, 512] inb_S32x8192_S32x512_0_7680, w15⟩,
      ⟨Rect.unit ![0, 7168] ![32, 512] inb_S32x8192_S32x512_0_7168, w14⟩,
      ⟨Rect.unit ![0, 6656] ![32, 512] inb_S32x8192_S32x512_0_6656, w13⟩,
      ⟨Rect.unit ![0, 6144] ![32, 512] inb_S32x8192_S32x512_0_6144, w12⟩,
      ⟨Rect.unit ![0, 5632] ![32, 512] inb_S32x8192_S32x512_0_5632, w11⟩,
      ⟨Rect.unit ![0, 5120] ![32, 512] inb_S32x8192_S32x512_0_5120, w10⟩,
      ⟨Rect.unit ![0, 4608] ![32, 512] inb_S32x8192_S32x512_0_4608, w9⟩,
      ⟨Rect.unit ![0, 4096] ![32, 512] inb_S32x8192_S32x512_0_4096, w8⟩,
      ⟨Rect.unit ![0, 3584] ![32, 512] inb_S32x8192_S32x512_0_3584, w7⟩,
      ⟨Rect.unit ![0, 3072] ![32, 512] inb_S32x8192_S32x512_0_3072, w6⟩,
      ⟨Rect.unit ![0, 2560] ![32, 512] inb_S32x8192_S32x512_0_2560, w5⟩,
      ⟨Rect.unit ![0, 2048] ![32, 512] inb_S32x8192_S32x512_0_2048, w4⟩,
      ⟨Rect.unit ![0, 1536] ![32, 512] inb_S32x8192_S32x512_0_1536, w3⟩,
      ⟨Rect.unit ![0, 1024] ![32, 512] inb_S32x8192_S32x512_0_1024, w2⟩,
      ⟨Rect.unit ![0, 512] ![32, 512] inb_S32x8192_S32x512_0_512, w1⟩,
      ⟨Rect.unit ![0, 0] ![32, 512] inb_S32x8192_S32x512_0_0, w0⟩] : List (View.Piece (Elt Ideal) S32x8192 .bf16)) = stores16 (cut16 Q) := by
  subst h0 h1 h2 h3 h4 h5 h6 h7 h8 h9 h10 h11 h12 h13 h14 h15
  rfl

section Blocks

variable {u : Fin 512 → Fin 512 → ℝ} {Q : FVec Ideal S512x512 .bf16}

/-- Column `512 q + k` of row `r` is entry `k` of row `16 r + q`. -/
theorem block16 (hQ : ∀ p k, Q (ix2 p k) = ((u (from16 p) k : ℝ) : EReal)) (y : S32x8192.Idx) :
    View.canon (stores16 (cut16 Q)) y = ((u ⟨16 * (y 0).val + (y 1).val / 512, by have h : (y 0).val < 32 := (y 0).isLt; have h' : (y 1).val < 8192 := (y 1).isLt; omega⟩
      ⟨(y 1).val % 512, by omega⟩ : ℝ) : EReal) := by
  refine canon16 (fun y => ((u ⟨16 * (y 0).val + (y 1).val / 512, by have h : (y 0).val < 32 := (y 0).isLt; have h' : (y 1).val < 8192 := (y 1).isLt; omega⟩
      ⟨(y 1).val % 512, by omega⟩ : ℝ) : EReal)) _ (fun q r k => (hQ _ _).trans ?_) y
  refine congrArg _ (congrArg₂ u (Fin.ext ?_) (Fin.ext ?_))
  · show 16 * ((32 * q.val + r.val) % 32) + (32 * q.val + r.val) / 32 = 16 * r.val + (512 * q.val + k.val) / 512
    omega
  · show k.val = (512 * q.val + k.val) % 512
    omega

/-- Column `512 q + k` of row `r` is entry `k` of row `4 r + q`. -/
theorem block4 (hQ : ∀ p k, Q (ix2 p k) = ((u (from4 p) k : ℝ) : EReal)) (y : S128x2048.Idx) :
    View.canon (stores4 (cut4 Q)) y = ((u ⟨4 * (y 0).val + (y 1).val / 512, by have h : (y 0).val < 128 := (y 0).isLt; have h' : (y 1).val < 2048 := (y 1).isLt; omega⟩
      ⟨(y 1).val % 512, by omega⟩ : ℝ) : EReal) := by
  refine canon4 (fun y => ((u ⟨4 * (y 0).val + (y 1).val / 512, by have h : (y 0).val < 128 := (y 0).isLt; have h' : (y 1).val < 2048 := (y 1).isLt; omega⟩
      ⟨(y 1).val % 512, by omega⟩ : ℝ) : EReal)) _ (fun q r k => (hQ _ _).trans ?_) y
  refine congrArg _ (congrArg₂ u (Fin.ext ?_) (Fin.ext ?_))
  · show 4 * ((128 * q.val + r.val) % 128) + (128 * q.val + r.val) / 128 = 4 * r.val + (512 * q.val + k.val) / 512
    omega
  · show k.val = (512 * q.val + k.val) % 512
    omega

end Blocks

end Cert.OutBwdIdeal.Kernel

end
-- ==== Proof.OutValue.lean ====
/- The arrays the output projection's gradient leaves, on finite arguments. -/
module

public import proofs.«01_k».proof.Proof.Gen.OutBwdIdeal.Value
public import proofs.«01_k».proof.Proof.OutHost
public import proofs.«01_k».proof.Proof.OutBlocks

@[expose] public section

set_option maxRecDepth 16384

noncomputable section

namespace Cert.OutBwdIdeal.Arrays

open Cert.OutBwdIdeal Cert.OutBwdIdeal.Gen Idealize.ShloMosaic Idealize.ShloMosaic.TcCoe Idealize.SL.Sem
open Idealize.ShloMosaic.Pipeline (Dat)
open Cert.Lift Cert.Norm Cert.Out.Math Cert.OutBwdIdeal.Kernel Cert.Line

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![0, 0] ∧ win0_16.index t = ![0, 0] ∧ win0_17.index t = ![0, 0] ∧ win0_18.index t = ![t.val, 0]
    ∧ win0_19.index t = ![t.val, 0] :=
  (by decide +kernel : ∀ t : Fin grid0.N, _)

/-- The last point. -/
abbrev tL : Fin cfg0.N := ⟨31, by decide⟩

/-- Row `i` of tile `t`. -/
def row (t : Fin 32) (i : Fin 512) : Fin 16384 := ⟨512 * t.val + i.val, by omega⟩
/-- Row `i` of tile `t` of the rows regrouped by four, and by sixteen. -/
def row4 (t : Fin 32) (i : Fin 128) : Fin 4096 := ⟨128 * t.val + i.val, by omega⟩
@[inherit_doc row4] def row16 (t : Fin 32) (i : Fin 32) : Fin 1024 := ⟨32 * t.val + i.val, by omega⟩

variable (c : Dev nD)

theorem read0 (A : S16384x1024.Idx → Elt Ideal .f32) (t : Fin cfg0.N) (i : Fin 512) (j : Fin 1024) :
    ((cfg0.win 0).blk t).view.read (Elt Ideal) A (ix2 i j) = A (ix2 (row t i) j) := by
  unfold row
  blk_ext [idx t]
theorem read1 (A : S16384x1024.Idx → Elt Ideal .f32) (t : Fin cfg0.N) (i : Fin 512) (j : Fin 1024) :
    ((cfg0.win 1).blk t).view.read (Elt Ideal) A (ix2 i j) = A (ix2 (row t i) j) := by
  unfold row
  blk_ext [idx t]
theorem read2 (A : S16384x512.Idx → Elt Ideal .f32) (t : Fin cfg0.N) (i k : Fin 512) :
    ((cfg0.win 2).blk t).view.read (Elt Ideal) A (ix2 i k) = A (ix2 (row t i) k) := by
  unfold row
  blk_ext [idx t]
theorem read3 (A : S16384x512.Idx → Elt Ideal .f32) (t : Fin cfg0.N) (i k : Fin 512) :
    ((cfg0.win 3).blk t).view.read (Elt Ideal) A (ix2 i k) = A (ix2 (row t i) k) := by
  unfold row
  blk_ext [idx t]
theorem read4 (A : S1x512.Idx → Elt Ideal .f32) (t : Fin cfg0.N) (k : Fin 512) :
    ((cfg0.win 4).blk t).view.read (Elt Ideal) A (ix2 0 k) = A (ix2 0 k) := by
  blk_ext [idx t]
theorem read5 (A : S1x512.Idx → Elt Ideal .f32) (t : Fin cfg0.N) (k : Fin 512) :
    ((cfg0.win 5).blk t).view.read (Elt Ideal) A (ix2 0 k) = A (ix2 0 k) := by
  blk_ext [idx t]
theorem read6 (A : S1024x1024.Idx → Elt Ideal .bf16) (t : Fin cfg0.N) (k j : Fin 1024) :
    ((cfg0.win 6).blk t).view.read (Elt Ideal) A (ix2 k j) = A (ix2 k j) := by
  blk_ext [idx t]
theorem read7 (A : S1x1024.Idx → Elt Ideal .f32) (t : Fin cfg0.N) (j : Fin 1024) :
    ((cfg0.win 7).blk t).view.read (Elt Ideal) A (ix2 0 j) = A (ix2 0 j) := by
  blk_ext [idx t]
theorem read8 (A : S512x512.Idx → Elt Ideal .bf16) (t : Fin cfg0.N) (p k : Fin 512) :
    ((cfg0.win 8).blk t).view.read (Elt Ideal) A (ix2 p k) = A (ix2 p k) := by
  blk_ext [idx t]
theorem read9 (A : S512x512.Idx → Elt Ideal .bf16) (t : Fin cfg0.N) (p k : Fin 512) :
    ((cfg0.win 9).blk t).view.read (Elt Ideal) A (ix2 p k) = A (ix2 p k) := by
  blk_ext [idx t]

/-- Half the rows of the weight, as a partial load reads them. -/
theorem ld_rows (X : S1024x1024.Idx → Elt Ideal .bf16) (o : ℕ) (ho : o + 512 ≤ 1024) (inb) (k : Fin 512) (j : Fin 1024) :
    View.ld (Val := Elt Ideal) (e' := .bf16) X (Rect.unit (s := S1024x1024) ![o, 0] ![512, 1024] inb) (ix2 k j) = X (ix2 ⟨o + k.val, by omega⟩ j) :=
  congrArg X (funext (Fin.forall_fin_two.mpr ⟨Fin.ext (by show o + 1 * k.val = o + k.val; omega), Fin.ext (by show 0 + 1 * j.val = j.val; omega)⟩))

/-- The gradient at the second half of row `r`. -/
abbrev dyb (d : Fin 16384 → Fin 1024 → ℝ) (a b : Fin 16384 → Fin 512 → ℝ) (ga gb : Fin 512 → ℝ) (W : Fin 1024 → Fin 1024 → ℝ) (gp : Fin 1024 → ℝ)
    (r : Fin 16384) : Fin 512 → ℝ := dy hi (b r) gb (dproj (d r) gp (a r) (b r) ga gb W) W

section Finite

variable {d : Fin 16384 → Fin 1024 → ℝ} {a b : Fin 16384 → Fin 512 → ℝ} {ga gb : Fin 512 → ℝ} {W : Fin 1024 → Fin 1024 → ℝ} {gp : Fin 1024 → ℝ}
  (hd : ∀ i j, m ((c : Thread nD τ).loc main_arg0) (ix2 i j) = ((d i j : ℝ) : EReal))
  (ha : ∀ i j, m ((c : Thread nD τ).loc main_arg1) (ix2 i j) = ((a i j : ℝ) : EReal))
  (hb : ∀ i j, m ((c : Thread nD τ).loc main_arg2) (ix2 i j) = ((b i j : ℝ) : EReal))
  (hga : ∀ j, m ((c : Thread nD τ).loc main_arg3) (ix2 0 j) = ((ga j : ℝ) : EReal))
  (hgb : ∀ j, m ((c : Thread nD τ).loc main_arg4) (ix2 0 j) = ((gb j : ℝ) : EReal))
  (hW : ∀ i j, m ((c : Thread nD τ).loc main_arg5) (ix2 i j) = ((W i j : ℝ) : EReal))
  (hp : ∀ j, m ((c : Thread nD τ).loc main_arg6) (ix2 0 j) = ((gp j : ℝ) : EReal))

/-- Half the rows of the weight as a point loads them. -/
abbrev half (t : Fin cfg0.N) (o : ℕ) (inb) := View.ld (iblk m c 6 t) (Rect.unit (s := S1024x1024) ![o, 0] ![512, 1024] inb)

/-- The reals a point works on. -/
structure Real (t : Fin cfg0.N) (d : Fin 16384 → Fin 1024 → ℝ) (a b : Fin 16384 → Fin 512 → ℝ) (ga gb : Fin 512 → ℝ)
    (W : Fin 1024 → Fin 1024 → ℝ) (gp : Fin 1024 → ℝ) : Prop where
  pd : ∀ i j, iblk m c 0 t (ix2 i j) = ((d (row t i) j : ℝ) : EReal)
  po : ∀ i j, iblk m c 1 t (ix2 i j) = ((proj (a (row t i)) (b (row t i)) ga gb W j : ℝ) : EReal)
  pa : ∀ i k, iblk m c 2 t (ix2 i k) = ((a (row t i) k : ℝ) : EReal)
  pb : ∀ i k, iblk m c 3 t (ix2 i k) = ((b (row t i) k : ℝ) : EReal)
  pga : ∀ k, iblk m c 4 t (ix2 0 k) = ((ga k : ℝ) : EReal)
  pgb : ∀ k, iblk m c 5 t (ix2 0 k) = ((gb k : ℝ) : EReal)
  pl : ∀ k j, half m c t 0 inb_S1024x1024_S512x1024_0_0 (ix2 k j) = ((W (lo k) j : ℝ) : EReal)
  ph : ∀ k j, half m c t 512 inb_S1024x1024_S512x1024_512_0 (ix2 k j) = ((W (hi k) j : ℝ) : EReal)
  pp : ∀ j, iblk m c 7 t (ix2 0 j) = ((gp j : ℝ) : EReal)
  p4 : ∀ p k, iblk m c 8 t (ix2 p k) = ((move4 p k : ℝ) : EReal)
  p16 : ∀ p k, iblk m c 9 t (ix2 p k) = ((move16 p k : ℝ) : EReal)

include hd ha hb hga hgb hW hp in
theorem real (t : Fin cfg0.N) : Real m c t d a b ga gb W gp := by
  have h := solves_after (StableHlo.launchContents m c) (HostRows.line)
  have h0 := fun i j => (congrFun (V_main_arg0 m c) (ix2 i j)).trans (hd i j)
  have h1 := fun i j => (congrFun (V_main_arg1 m c) (ix2 i j)).trans (ha i j)
  have h2 := fun i j => (congrFun (V_main_arg2 m c) (ix2 i j)).trans (hb i j)
  have h3 := fun j => (congrFun (V_main_arg3 m c) (ix2 0 j)).trans (hga j)
  have h4 := fun j => (congrFun (V_main_arg4 m c) (ix2 0 j)).trans (hgb j)
  have h5 := fun i j => (congrFun (V_main_arg5 m c) (ix2 i j)).trans (hW i j)
  have h6 := fun j => (congrFun (V_main_arg6 m c) (ix2 0 j)).trans (hp j)
  have hW' : ∀ k j, iblk m c 6 t (ix2 k j) = ((W k j : ℝ) : EReal) := fun k j =>
    (read6 (V m c main_v29) t k j).trans (HostRows.v29 h h1 h2 h3 h4 h5 k j)
  refine ⟨fun i j => (read0 (V m c main_arg0) t i j).trans (h0 _ _), fun i j => (read1 (V m c main_v28) t i j).trans (HostRows.v28 h h1 h2 h3 h4 h5 _ _),
    fun i k => (read2 (V m c main_arg1) t i k).trans (h1 _ _), fun i k => (read3 (V m c main_arg2) t i k).trans (h2 _ _),
    fun k => (read4 (V m c main_arg3) t k).trans (h3 _), fun k => (read5 (V m c main_arg4) t k).trans (h4 _), ?_, ?_,
    fun j => (read7 (V m c main_arg6) t j).trans (h6 _), fun p k => (read8 (V m c main_v42) t p k).trans (HostRows.v42 h p k),
    fun p k => (read9 (V m c main_v55) t p k).trans (HostRows.v55 h p k)⟩
  · refine fun k j => (ld_rows _ 0 (by omega) _ k j).trans ((hW' _ _).trans ?_)
    simp only [zero_add, lo]
  · exact fun k j => (ld_rows _ 512 (by omega) _ k j).trans (hW' _ _)

variable {m c}

/-- The gradient at the projection, as a point computes it. -/
abbrev eP (m : (ℓ : Loc nD τ sig) → Buf (Elt Ideal) ℓ) (c : Dev nD) (t : Fin cfg0.N) := k0_pay8 (iblk m c 1 t) (iblk m c 7 t) (iblk m c 0 t)
/-- The gradients at the two halves, as a point computes them. -/
abbrev aP (m : (ℓ : Loc nD τ sig) → Buf (Elt Ideal) ℓ) (c : Dev nD) (t : Fin cfg0.N) :=
  k0_pay14 (eP m c t) (half m c t 0 inb_S1024x1024_S512x1024_0_0) (iblk m c 2 t) (iblk m c 4 t)
@[inherit_doc aP] abbrev bP (m : (ℓ : Loc nD τ sig) → Buf (Elt Ideal) ℓ) (c : Dev nD) (t : Fin cfg0.N) :=
  k0_pay19 (k0_pay11 (eP m c t) (half m c t 512 inb_S1024x1024_S512x1024_512_0)) (iblk m c 3 t) (iblk m c 5 t) (k0_pay16 (iblk m c 3 t))

/-- The gradient at the second half, cast. -/
abbrev bT (m : (ℓ : Loc nD τ sig) → Buf (Elt Ideal) ℓ) (c : Dev nD) (t : Fin cfg0.N) :=
  k0_pay24 (k0_pay11 (eP m c t) (half m c t 512 inb_S1024x1024_S512x1024_512_0)) (iblk m c 3 t) (iblk m c 5 t) (k0_pay16 (iblk m c 3 t))

theorem Real.e {t : Fin cfg0.N} (h : Real m c t d a b ga gb W gp) (i : Fin 512) (j : Fin 1024) :
    eP m c t (ix2 i j) = ((dproj (d (row t i)) gp (a (row t i)) (b (row t i)) ga gb W j : ℝ) : EReal) :=
  Kernel.pay8 h.pd h.po h.pp i j
theorem Real.ya {t : Fin cfg0.N} (h : Real m c t d a b ga gb W gp) (i k : Fin 512) :
    aP m c t (ix2 i k) = ((dy lo (a (row t i)) ga (dproj (d (row t i)) gp (a (row t i)) (b (row t i)) ga gb W) W k : ℝ) : EReal) :=
  Kernel.pay14 (y := fun i => a (row t i)) h.e h.pl h.pa h.pga i k
theorem Real.yb {t : Fin cfg0.N} (h : Real m c t d a b ga gb W gp) (i k : Fin 512) :
    bP m c t (ix2 i k) = ((dy hi (b (row t i)) gb (dproj (d (row t i)) gp (a (row t i)) (b (row t i)) ga gb W) W k : ℝ) : EReal) :=
  (congrFun pay19_eq _).trans (Kernel.pay14 (y := fun i => b (row t i)) h.e h.ph h.pb h.pgb i k)

theorem Real.yT {t : Fin cfg0.N} (h : Real m c t d a b ga gb W gp) (i k : Fin 512) :
    bT m c t (ix2 i k) = ((dy hi (b (row t i)) gb (dproj (d (row t i)) gp (a (row t i)) (b (row t i)) ga gb W) W k : ℝ) : EReal) :=
  h.yb i k

variable (m c)

include hd ha hb hga hgb hW hp

/-- The gradient at the projection. -/
theorem arr10 : (dats m 0 c).arrAt 10 cfg0.N
    = (fun i => ((dproj (d (i 0)) gp (a (i 0)) (b (i 0)) ga gb W (i 1) : ℝ) : EReal) : S16384x1024.Idx → EReal) := by
  refine (dats m 0 c).arrAt_eq_of_covers 10 _ (by decide +kernel) fun t _ (y : S512x1024.Idx) => ?_
  blk_simp
  have e : ((View.whole main_v56_0).slice (win0_10.rect t)).emb y = ix2 (row t (y 0)) (y 1) := by
    unfold row
    blk_ext [idx t]
  have h := real m c hd ha hb hga hgb hW hp t
  rw [after0_10, e]
  by_cases h0 : t.val % 32 = 0
  · rw [outsAt0_A m c t h0]; frame_out; idx_vars y; exact h.e _ _
  · rw [outsAt0_B m c t h0]; frame_out; idx_vars y; exact h.e _ _

/-- The gradient at the first half. -/
theorem arr11 : (dats m 0 c).arrAt 11 cfg0.N
    = (fun i => ((dy lo (a (i 0)) ga (dproj (d (i 0)) gp (a (i 0)) (b (i 0)) ga gb W) W (i 1) : ℝ) : EReal) : S16384x512.Idx → EReal) := by
  refine (dats m 0 c).arrAt_eq_of_covers 11 _ (by decide +kernel) fun t _ (y : S512x512.Idx) => ?_
  blk_simp
  have e : ((View.whole main_v56_1).slice (win0_11.rect t)).emb y = ix2 (row t (y 0)) (y 1) := by
    unfold row
    blk_ext [idx t]
  have h := real m c hd ha hb hga hgb hW hp t
  rw [after0_11, e]
  by_cases h0 : t.val % 32 = 0
  · rw [outsAt0_A m c t h0]; frame_out; idx_vars y; exact h.ya _ _
  · rw [outsAt0_B m c t h0]; frame_out; idx_vars y; exact h.ya _ _

/-- The gradient at the second half. -/
theorem arr12 : (dats m 0 c).arrAt 12 cfg0.N
    = (fun i => ((dy hi (b (i 0)) gb (dproj (d (i 0)) gp (a (i 0)) (b (i 0)) ga gb W) W (i 1) : ℝ) : EReal) : S16384x512.Idx → EReal) := by
  refine (dats m 0 c).arrAt_eq_of_covers 12 _ (by decide +kernel) fun t _ (y : S512x512.Idx) => ?_
  blk_simp
  have e : ((View.whole main_v56_2).slice (win0_12.rect t)).emb y = ix2 (row t (y 0)) (y 1) := by
    unfold row
    blk_ext [idx t]
  have h := real m c hd ha hb hga hgb hW hp t
  rw [after0_12, e]
  by_cases h0 : t.val % 32 = 0
  · rw [outsAt0_A m c t h0]; frame_out; idx_vars y; exact h.yb _ _
  · rw [outsAt0_B m c t h0]; frame_out; idx_vars y; exact h.yb _ _

/-- The first half's head sums, each spread over its head. -/
theorem arr13 : (dats m 0 c).arrAt 13 cfg0.N
    = (fun i => ((hsum (dy lo (a (i 0)) ga (dproj (d (i 0)) gp (a (i 0)) (b (i 0)) ga gb W) W) (a (i 0)) (head (i 1)) : ℝ) : EReal) : S16384x512.Idx → EReal) := by
  refine (dats m 0 c).arrAt_eq_of_covers 13 _ (by decide +kernel) fun t _ (y : S512x512.Idx) => ?_
  blk_simp
  have e : ((View.whole main_v56_3).slice (win0_13.rect t)).emb y = ix2 (row t (y 0)) (y 1) := by
    unfold row
    blk_ext [idx t]
  have h := real m c hd ha hb hga hgb hW hp t
  rw [after0_13, e]
  by_cases h0 : t.val % 32 = 0
  · rw [outsAt0_A m c t h0]; frame_out; idx_vars y; exact Kernel.pay51 (y := fun i => a (row t i)) h.ya h.pa _ _
  · rw [outsAt0_B m c t h0]; frame_out; idx_vars y; exact Kernel.pay51 (y := fun i => a (row t i)) h.ya h.pa _ _

/-- The second half's head sums on the first eight lanes. -/
theorem arr14 : (dats m 0 c).arrAt 14 cfg0.N
    = (fun i => ((hlanes (dy hi (b (i 0)) gb (dproj (d (i 0)) gp (a (i 0)) (b (i 0)) ga gb W) W) (b (i 0)) (i 1) : ℝ) : EReal) : S16384x128.Idx → EReal) := by
  refine (dats m 0 c).arrAt_eq_of_covers 14 _ (by decide +kernel) fun t _ (y : S512x128.Idx) => ?_
  blk_simp
  have e : ((View.whole main_v56_4).slice (win0_14.rect t)).emb y = ix2 (row t (y 0)) (y 1) := by
    unfold row
    blk_ext [idx t]
  have h := real m c hd ha hb hga hgb hW hp t
  rw [after0_14, e]
  by_cases h0 : t.val % 32 = 0
  · rw [outsAt0_A m c t h0]; frame_out; idx_vars y; exact Kernel.pay1 (y := fun i => b (row t i)) h.yb h.pb _ _
  · rw [outsAt0_B m c t h0]; frame_out; idx_vars y; exact Kernel.pay1 (y := fun i => b (row t i)) h.yb h.pb _ _

omit hd ha hb hga hgb hW hp in
/-- A sum over all rows, tile by tile, of finite terms. -/
theorem sum_tiles (f : Fin 16384 → ℝ) :
    (∑ k : Fin 32, ((∑ r : Fin 512, f (row k r) : ℝ) : EReal)) = ((∑ r, f r : ℝ) : EReal) := by
  rw [coe_sum]
  refine congrArg _ ?_
  have h : ∑ k : Fin 32, ∑ r : Fin 512, f (row k r) = ∑ _a : Fin 1, ∑ r, f r := Fin.sum_points_lanes_congr (N := 32) (n := 512) (A := 1) (L := 16384) 32 (F := fun k r => f (row k r))
    (g := fun _ r => f r) (fun t k ha hl => congrArg f (Fin.ext (by simp only [row]; omega)))
  rw [h, Fin.sum_univ_one]

/-- The gradient of the gain after the projection. -/
theorem arr15 : (dats m 0 c).arrAt 15 cfg0.N
    = (fun i => ((∑ r, gainPost (d r) (proj (a r) (b r) ga gb W) (i 1) : ℝ) : EReal) : S1x1024.Idx → EReal) := by
  refine (dats m 0 c).arrAt_eq_of_after_last 15 tL (by decide +kernel) _ fun (j : S1x1024.Idx) => ?_
  blk_simp
  rw [after0_15]
  have h := Pipeline.eq_sum_fin_of_reset_step_apply_last (N := cfg0.N) (fun n h => (outsAt0 m c n h).2.2.2.2.2.1) 32 (fun _ => 0)
    (fun t i => ((∑ r, gainPost (d (row t r)) (proj (a (row t r)) (b (row t r)) ga gb W) (i 1) : ℝ) : EReal))
    (fun t h0 i => by
      have h := real m c hd ha hb hga hgb hW hp t
      rw [outsAt0_A m c t h0]; frame_out; idx_vars i
      refine (Kernel.pay9 (d := fun r => d (row t r)) (o := fun r => proj (a (row t r)) (b (row t r)) ga gb W) h.pd h.po _ _ _).trans ?_
      pointwise [k0_pay2])
    (fun t h0 i => by
      have h := real m c hd ha hb hga hgb hW hp t
      rw [outsAt0_B m c t h0]; frame_out; idx_vars i
      exact Kernel.pay9 (d := fun r => d (row t r)) (o := fun r => proj (a (row t r)) (b (row t r)) ga gb W) h.pd h.po _ _ _)
    (by decide) tL rfl j
  exact h.trans ((zero_add _).trans (sum_tiles fun r => gainPost (d r) (proj (a r) (b r) ga gb W) (j 1)))

/-- The gradient of the first half's gain. -/
theorem arr16 : (dats m 0 c).arrAt 16 cfg0.N
    = (fun i => ((∑ r, gain lo (a r) (dproj (d r) gp (a r) (b r) ga gb W) W (i 1) : ℝ) : EReal) : S1x512.Idx → EReal) := by
  refine (dats m 0 c).arrAt_eq_of_after_last 16 tL (by decide +kernel) _ fun (j : S1x512.Idx) => ?_
  blk_simp
  rw [after0_16]
  have h := Pipeline.eq_sum_fin_of_reset_step_apply_last (N := cfg0.N) (fun n h => (outsAt0 m c n h).2.2.2.2.2.2.1) 32 (fun _ => 0)
    (fun t i => ((∑ r, gain lo (a (row t r)) (dproj (d (row t r)) gp (a (row t r)) (b (row t r)) ga gb W) W (i 1) : ℝ) : EReal))
    (fun t h0 i => by
      have h := real m c hd ha hb hga hgb hW hp t
      rw [outsAt0_A m c t h0]; frame_out; idx_vars i
      refine (Kernel.pay20 (y := fun r => a (row t r)) (e := fun r => dproj (d (row t r)) gp (a (row t r)) (b (row t r)) ga gb W) h.e h.pl h.pa _ _ _).trans ?_
      pointwise [k0_pay3])
    (fun t h0 i => by
      have h := real m c hd ha hb hga hgb hW hp t
      rw [outsAt0_B m c t h0]; frame_out; idx_vars i
      exact Kernel.pay20 (y := fun r => a (row t r)) (e := fun r => dproj (d (row t r)) gp (a (row t r)) (b (row t r)) ga gb W) h.e h.pl h.pa _ _ _)
    (by decide) tL rfl j
  exact h.trans ((zero_add _).trans (sum_tiles fun r => gain lo (a r) (dproj (d r) gp (a r) (b r) ga gb W) W (j 1)))

/-- The gradient of the second half's gain. -/
theorem arr17 : (dats m 0 c).arrAt 17 cfg0.N
    = (fun i => ((∑ r, gain hi (b r) (dproj (d r) gp (a r) (b r) ga gb W) W (i 1) : ℝ) : EReal) : S1x512.Idx → EReal) := by
  refine (dats m 0 c).arrAt_eq_of_after_last 17 tL (by decide +kernel) _ fun (j : S1x512.Idx) => ?_
  blk_simp
  rw [after0_17]
  have h := Pipeline.eq_sum_fin_of_reset_step_apply_last (N := cfg0.N) (fun n h => (outsAt0 m c n h).2.2.2.2.2.2.2.1) 32 (fun _ => 0)
    (fun t i => ((∑ r, gain hi (b (row t r)) (dproj (d (row t r)) gp (a (row t r)) (b (row t r)) ga gb W) W (i 1) : ℝ) : EReal))
    (fun t h0 i => by
      have h := real m c hd ha hb hga hgb hW hp t
      rw [outsAt0_A m c t h0]; frame_out; idx_vars i
      refine (Kernel.pay21 (y := fun r => b (row t r)) (e := fun r => dproj (d (row t r)) gp (a (row t r)) (b (row t r)) ga gb W) h.e h.ph h.pb _ _ _).trans ?_
      pointwise [k0_pay4])
    (fun t h0 i => by
      have h := real m c hd ha hb hga hgb hW hp t
      rw [outsAt0_B m c t h0]; frame_out; idx_vars i
      exact Kernel.pay21 (y := fun r => b (row t r)) (e := fun r => dproj (d (row t r)) gp (a (row t r)) (b (row t r)) ga gb W) h.e h.ph h.pb _ _ _)
    (by decide) tL rfl j
  exact h.trans ((zero_add _).trans (sum_tiles fun r => gain hi (b r) (dproj (d r) gp (a r) (b r) ga gb W) W (j 1)))

omit hd ha hb hga hgb hW hp in
theorem row_at4 (t : Fin 32) (r : Fin 128) (k : Fin 2048) : row t ⟨4 * r.val + k.val / 512, by omega⟩ = at4 (row4 t r) k :=
  Fin.ext (by show 512 * t.val + (4 * r.val + k.val / 512) = (128 * t.val + r.val) * 4 + k.val / 512; omega)
omit hd ha hb hga hgb hW hp in
theorem row_at16 (t : Fin 32) (r : Fin 32) (k : Fin 8192) : row t ⟨16 * r.val + k.val / 512, by omega⟩ = at16 (row16 t r) k :=
  Fin.ext (by show 512 * t.val + (16 * r.val + k.val / 512) = (32 * t.val + r.val) * 16 + k.val / 512; omega)

/-- The second half's gradient with its rows regrouped by four. -/
theorem arr18 : (dats m 0 c).arrAt 18 cfg0.N
    = (fun i => ((dy hi (b (at4 (i 0) (i 1))) gb (dproj (d (at4 (i 0) (i 1))) gp (a (at4 (i 0) (i 1))) (b (at4 (i 0) (i 1))) ga gb W) W
        (col4 (i 1)) : ℝ) : EReal) : S4096x2048.Idx → EReal) := by
  refine (dats m 0 c).arrAt_eq_of_covers 18 _ (by decide +kernel) fun t _ (y : S128x2048.Idx) => ?_
  blk_simp
  have e : ((View.whole main_v56_8).slice (win0_18.rect t)).emb y = ix2 (row4 t (y 0)) (y 1) := by
    unfold row4
    blk_ext [idx t]
  have h := real m c hd ha hb hga hgb hW hp t
  have hQ : View.canon (stores4 (cut4 (k0_pay25 (bT m c t) (iblk m c 8 t)))) y = ((dyb d a b ga gb W gp (at4 (row4 t (y 0)) (y 1)) (col4 (y 1)) : ℝ) : EReal) :=
    (block4 (u := fun i => dyb d a b ga gb W gp (row t i)) (Kernel.pay25 (u := fun i => dyb d a b ga gb W gp (row t i)) h.yT h.p4) y).trans
      (congrArg (fun q => ((dyb d a b ga gb W gp q (col4 (y 1)) : ℝ) : EReal)) (row_at4 t (y 0) (y 1)))
  have hL := list4 (Q := k0_pay25 (bT m c t) (iblk m c 8 t))
    (strided4 _ 0 0 rfl slices_S512x512_o0_0_S128x512) (strided4 _ 1 128 rfl slices_S512x512_o128_0_S128x512) (strided4 _ 2 256 rfl slices_S512x512_o256_0_S128x512) (strided4 _ 3 384 rfl slices_S512x512_o384_0_S128x512)
  rw [after0_18, e]
  by_cases h0 : t.val % 32 = 0
  · rw [outsAt0_A m c t h0]; frame_out; exact (congrArg (fun L => View.canon L y) hL).trans hQ
  · rw [outsAt0_B m c t h0]; frame_out; exact (congrArg (fun L => View.canon L y) hL).trans hQ

/-- The second half's gradient with its rows regrouped by sixteen. -/
theorem arr19 : (dats m 0 c).arrAt 19 cfg0.N
    = (fun i => ((dy hi (b (at16 (i 0) (i 1))) gb (dproj (d (at16 (i 0) (i 1))) gp (a (at16 (i 0) (i 1))) (b (at16 (i 0) (i 1))) ga gb W) W
        (col16 (i 1)) : ℝ) : EReal) : S1024x8192.Idx → EReal) := by
  refine (dats m 0 c).arrAt_eq_of_covers 19 _ (by decide +kernel) fun t _ (y : S32x8192.Idx) => ?_
  blk_simp
  have e : ((View.whole main_v56_9).slice (win0_19.rect t)).emb y = ix2 (row16 t (y 0)) (y 1) := by
    unfold row16
    blk_ext [idx t]
  have h := real m c hd ha hb hga hgb hW hp t
  have hQ : View.canon (stores16 (cut16 (k0_pay30 (bP m c t) (iblk m c 9 t)))) y = ((dyb d a b ga gb W gp (at16 (row16 t (y 0)) (y 1)) (col16 (y 1)) : ℝ) : EReal) :=
    (block16 (u := fun i => dyb d a b ga gb W gp (row t i)) (Kernel.pay30 (u := fun i => dyb d a b ga gb W gp (row t i)) h.yb h.p16) y).trans
      (congrArg (fun q => ((dyb d a b ga gb W gp q (col16 (y 1)) : ℝ) : EReal)) (row_at16 t (y 0) (y 1)))
  have hL := list16 (Q := k0_pay30 (bP m c t) (iblk m c 9 t))
    (strided16 _ 0 0 rfl slices_S512x512_o0_0_S32x512) (strided16 _ 1 32 rfl slices_S512x512_o32_0_S32x512) (strided16 _ 2 64 rfl slices_S512x512_o64_0_S32x512) (strided16 _ 3 96 rfl slices_S512x512_o96_0_S32x512)
    (strided16 _ 4 128 rfl slices_S512x512_o128_0_S32x512) (strided16 _ 5 160 rfl slices_S512x512_o160_0_S32x512) (strided16 _ 6 192 rfl slices_S512x512_o192_0_S32x512) (strided16 _ 7 224 rfl slices_S512x512_o224_0_S32x512)
    (strided16 _ 8 256 rfl slices_S512x512_o256_0_S32x512) (strided16 _ 9 288 rfl slices_S512x512_o288_0_S32x512) (strided16 _ 10 320 rfl slices_S512x512_o320_0_S32x512) (strided16 _ 11 352 rfl slices_S512x512_o352_0_S32x512)
    (strided16 _ 12 384 rfl slices_S512x512_o384_0_S32x512) (strided16 _ 13 416 rfl slices_S512x512_o416_0_S32x512) (strided16 _ 14 448 rfl slices_S512x512_o448_0_S32x512) (strided16 _ 15 480 rfl slices_S512x512_o480_0_S32x512)
  rw [after0_19, e]
  by_cases h0 : t.val % 32 = 0
  · rw [outsAt0_A m c t h0]; frame_out; exact (congrArg (fun L => View.canon L y) hL).trans hQ
  · rw [outsAt0_B m c t h0]; frame_out; exact (congrArg (fun L => View.canon L y) hL).trans hQ

end Finite

end Cert.OutBwdIdeal.Arrays

end
-- ==== Proof.OutClaim.lean ====
/- The output projection's gradient's kernel and its reference end with the same results on finite arguments. -/
module

public import proofs.«01_k».proof.Defs
public import proofs.«01_k».proof.Proof.OutFinite
public import proofs.«01_k».proof.Proof.OutRef
public import proofs.«01_k».proof.Proof.OutValue

@[expose] public section

set_option maxRecDepth 16384

noncomputable section

namespace Cert.OutBwdRefIdeal.Ends

open Cert.OutBwdRefIdeal Cert.OutBwdRefIdeal.Gen Cert.OutBwdRefIdeal.Value Idealize.ShloMosaic Idealize.ShloMosaic.TcCoe
open Idealize.SL.Sem Idealize.ShloMosaic.StableHlo Cert.Line Cert.Lift Cert.OutBwdRefIdeal.Rows

variable (m : (ℓ : Loc nD τ sig) → Buf (Elt Ideal) ℓ) (c : Dev nD)

/-- What every array holds after the reference has run. -/
abbrev ends : Valuation τ sig (Elt Ideal) := after (ops (F := Ideal)) (launchContents m c)

theorem solves : Solves (ops (F := Ideal)) 7 (ends m c) := solves_after _ line

theorem arg (b : Ref sig .tc) (hb : b.idx.val < 7) : ends m c (Proc.devRef .tc b) = m ((c.tc : Thread nD τ).loc b) :=
  after_keep _ 7 _ line hb

theorem run (ρ : Dev nD → PrngReg) : θ_run defs (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq scopedRefs_eq scopedSems_eq defs main (fun _ => ops) main_eq (fun _ => ops_sub) m ρ

end Cert.OutBwdRefIdeal.Ends

namespace Cert.Proof

open Idealize.ShloMosaic Idealize.SL.Sem Cert.Lift
open Cert.OutBwdRefIdeal (main_arg0 main_arg1 main_arg2 main_arg3 main_arg4 main_arg5 main_arg6)
open Cert.OutBwdRefIdeal.Ends (arg)
open Cert.OutBwdIdeal.Arrays (arr10 arr11 arr12 arr13 arr14 arr15 arr16 arr17 arr18 arr19)
open Cert.OutBwdRefIdeal.Rows (v120 v121 v122 v114 v119 v51 v92 v73 v124 v126)

set_option maxHeartbeats 1600000 in
theorem out_algebraic [Cert.Pre_finite_out.Facts] : Cert.algebraic_OutBwdIdeal_OutBwdRefIdeal_pre_finite_out := by
  pair_intro
  · run_from Cert.OutBwdIdeal.Value.run_blocks m g
  · refine (θ_run _ _ _).mono (fun r hr c => ?_) (Cert.OutBwdRefIdeal.Ends.run m' g')
    obtain ⟨h0, h1, h2, h3, h4, h5, h6⟩ := Cert.Pre_finite_out.finite_of_fn (hpre c)
    obtain ⟨e0, e1, e2, e3, e4, e5, e6⟩ := hagree c
    have k0 := fun i j => h0 (ix2 i j)
    have k1 := fun i j => h1 (ix2 i j)
    have k2 := fun i j => h2 (ix2 i j)
    have k3 := fun j => h3 (ix2 0 j)
    have k4 := fun j => h4 (ix2 0 j)
    have k5 := fun i j => h5 (ix2 i j)
    have k6 := fun j => h6 (ix2 0 j)
    have h := Cert.OutBwdRefIdeal.Ends.solves m' c
    have hd := fun i j => (congrFun ((arg m' c main_arg0 (by decide)).trans e0) (ix2 i j)).trans (k0 i j)
    have ha := fun i j => (congrFun ((arg m' c main_arg1 (by decide)).trans e1) (ix2 i j)).trans (k1 i j)
    have hb := fun i j => (congrFun ((arg m' c main_arg2 (by decide)).trans e2) (ix2 i j)).trans (k2 i j)
    have hga := fun j => (congrFun ((arg m' c main_arg3 (by decide)).trans e3) (ix2 0 j)).trans (k3 j)
    have hgb := fun j => (congrFun ((arg m' c main_arg4 (by decide)).trans e4) (ix2 0 j)).trans (k4 j)
    have hW := fun i j => (congrFun ((arg m' c main_arg5 (by decide)).trans e5) (ix2 i j)).trans (k5 i j)
    have hp := fun j => (congrFun ((arg m' c main_arg6 (by decide)).trans e6) (ix2 0 j)).trans (k6 j)
    refine ⟨(hr c _).trans ?_, (hr c _).trans ?_, (hr c _).trans ?_, (hr c _).trans ?_, (hr c _).trans ?_,
      (hr c _).trans ?_, (hr c _).trans ?_, (hr c _).trans ?_, (hr c _).trans ?_, (hr c _).trans ?_,
      (hr c _).trans (arg m' c _ (by decide)), (hr c _).trans (arg m' c _ (by decide)), (hr c _).trans (arg m' c _ (by decide)),
      (hr c _).trans (arg m' c _ (by decide)), (hr c _).trans (arg m' c _ (by decide)), (hr c _).trans (arg m' c _ (by decide)), (hr c _).trans (arg m' c _ (by decide))⟩
    · refine Eq.trans (ext2 fun i j => ?_) (arr10 m c k0 k1 k2 k3 k4 k5 k6).symm; exact v120 h hd ha hb hga hgb hW hp i j
    · refine Eq.trans (ext2 fun i j => ?_) (arr11 m c k0 k1 k2 k3 k4 k5 k6).symm; exact v121 h hd ha hb hga hgb hW hp i j
    · refine Eq.trans (ext2 fun i j => ?_) (arr12 m c k0 k1 k2 k3 k4 k5 k6).symm; exact v122 h hd ha hb hga hgb hW hp i j
    · refine Eq.trans (ext2 fun i j => ?_) (arr13 m c k0 k1 k2 k3 k4 k5 k6).symm; exact v114 h hd ha hb hga hgb hW hp i j
    · refine Eq.trans (ext2 fun i j => ?_) (arr14 m c k0 k1 k2 k3 k4 k5 k6).symm; exact v119 h hd ha hb hga hgb hW hp i j
    · refine Eq.trans (ext2 fun i j => ?_) (arr15 m c k0 k1 k2 k3 k4 k5 k6).symm; exact v51 h hd ha hb hga hgb hW hp i j
    · refine Eq.trans (ext2 fun i j => ?_) (arr16 m c k0 k1 k2 k3 k4 k5 k6).symm; exact v92 h hd ha hb hga hgb hW hp i j
    · refine Eq.trans (ext2 fun i j => ?_) (arr17 m c k0 k1 k2 k3 k4 k5 k6).symm; exact v73 h hd ha hb hga hgb hW hp i j
    · refine Eq.trans (ext2 fun i j => ?_) (arr18 m c k0 k1 k2 k3 k4 k5 k6).symm; exact v124 h hd ha hb hga hgb hW hp i j
    · refine Eq.trans (ext2 fun i j => ?_) (arr19 m c k0 k1 k2 k3 k4 k5 k6).symm; exact v126 h hd ha hb hga hgb hW hp i j

end Cert.Proof

end
-- ==== Proof.InpRun.lean ====
/-
  One point of the input projection's gradient, run at any scalars: at the first point, which clears the three sums, and
  at a later one, which adds to them.
-/
module

public import proofs.«01_k».proof.Proof.Gen.InpBwdIdeal.Frame.Runs

@[expose] public section

set_option maxRecDepth 16384

noncomputable section

namespace Cert.InpBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InpBwdIdeal.Gen

variable {F : FTy → Type} [FloatOps F]

local notation "𝕄" => MT nD τ sig Unit (Elt F) ℕ (UR sig nD τ) ℕ

/-- The 24 input windows hold these blocks. -/
def ins (c : Dev nD)
  (arg1 : Memref sig .tc .vmem S512x512 .f32) (arg2 : Memref sig .tc .vmem S2x1x64x512 .f32) (arg3 : Memref sig .tc .vmem S2x1x64x512 .f32) (arg4 : Memref sig .tc .vmem S512x512 .bf16)
  (arg5 : Memref sig .tc .vmem S128x2048 .bf16) (arg6 : Memref sig .tc .vmem S32x8192 .bf16) (arg7 : Memref sig .tc .vmem S512x512 .bf16) (arg8 : Memref sig .tc .vmem S128x2048 .bf16)
  (arg9 : Memref sig .tc .vmem S32x8192 .bf16) (arg10 : Memref sig .tc .vmem S512x512 .bf16) (arg11 : Memref sig .tc .vmem S128x2048 .bf16) (arg12 : Memref sig .tc .vmem S32x8192 .bf16)
  (arg13 : Memref sig .tc .vmem S512x512 .f32) (arg14 : Memref sig .tc .vmem S512x128 .f32) (arg15 : Memref sig .tc .vmem S512x1024 .f32) (arg16 : Memref sig .tc .vmem S512x1024 .f32)
  (arg17 : Memref sig .tc .vmem S1x1024 .f32) (arg18 : Memref sig .tc .vmem S1024x2304 .bf16) (arg19 : Memref sig .tc .vmem S512x128 .f32) (arg20 : Memref sig .tc .vmem S512x128 .f32)
  (arg21 : Memref sig .tc .vmem S1x512 .f32) (arg22 : Memref sig .tc .vmem S1x128 .f32) (arg23 : Memref sig .tc .vmem S512x512 .bf16) (arg24 : Memref sig .tc .vmem S512x512 .bf16)
  (x0 : Vec F S512x512 .f32) (x1 : Vec F S2x1x64x512 .f32) (x2 : Vec F S2x1x64x512 .f32) (x3 : Vec F S512x512 .bf16) (x4 : Vec F S128x2048 .bf16) (x5 : Vec F S32x8192 .bf16)
  (x6 : Vec F S512x512 .bf16) (x7 : Vec F S128x2048 .bf16) (x8 : Vec F S32x8192 .bf16) (x9 : Vec F S512x512 .bf16) (x10 : Vec F S128x2048 .bf16) (x11 : Vec F S32x8192 .bf16)
  (x12 : Vec F S512x512 .f32) (x13 : Vec F S512x128 .f32) (x14 : Vec F S512x1024 .f32) (x15 : Vec F S512x1024 .f32) (x16 : Vec F S1x1024 .f32) (x17 : Vec F S1024x2304 .bf16)
  (x18 : Vec F S512x128 .f32) (x19 : Vec F S512x128 .f32) (x20 : Vec F S1x512 .f32) (x21 : Vec F S1x128 .f32) (x22 : Vec F S512x512 .bf16) (x23 : Vec F S512x512 .bf16) : sProp 𝕄 :=
  iprop(owns (c : Thread nD τ) arg1 fullShare x0 ∗ owns (c : Thread nD τ) arg2 fullShare x1 ∗ owns (c : Thread nD τ) arg3 fullShare x2 ∗
  owns (c : Thread nD τ) arg4 fullShare x3 ∗ owns (c : Thread nD τ) arg5 fullShare x4 ∗ owns (c : Thread nD τ) arg6 fullShare x5 ∗
  owns (c : Thread nD τ) arg7 fullShare x6 ∗ owns (c : Thread nD τ) arg8 fullShare x7 ∗ owns (c : Thread nD τ) arg9 fullShare x8 ∗
  owns (c : Thread nD τ) arg10 fullShare x9 ∗ owns (c : Thread nD τ) arg11 fullShare x10 ∗ owns (c : Thread nD τ) arg12 fullShare x11 ∗
  owns (c : Thread nD τ) arg13 fullShare x12 ∗ owns (c : Thread nD τ) arg14 fullShare x13 ∗ owns (c : Thread nD τ) arg15 fullShare x14 ∗
  owns (c : Thread nD τ) arg16 fullShare x15 ∗ owns (c : Thread nD τ) arg17 fullShare x16 ∗ owns (c : Thread nD τ) arg18 fullShare x17 ∗
  owns (c : Thread nD τ) arg19 fullShare x18 ∗ owns (c : Thread nD τ) arg20 fullShare x19 ∗ owns (c : Thread nD τ) arg21 fullShare x20 ∗
  owns (c : Thread nD τ) arg22 fullShare x21 ∗ owns (c : Thread nD τ) arg23 fullShare x22 ∗ owns (c : Thread nD τ) arg24 fullShare x23)

variable (c : Dev nD) (i : grid0.Coords)
  (arg1 : Memref sig .tc .vmem S512x512 .f32) (harg1 : arg1.IsWhole) (arg2 : Memref sig .tc .vmem S2x1x64x512 .f32) (harg2 : arg2.IsWhole)
  (arg3 : Memref sig .tc .vmem S2x1x64x512 .f32) (harg3 : arg3.IsWhole) (arg4 : Memref sig .tc .vmem S512x512 .bf16) (harg4 : arg4.IsWhole)
  (arg5 : Memref sig .tc .vmem S128x2048 .bf16) (harg5 : arg5.IsWhole) (arg6 : Memref sig .tc .vmem S32x8192 .bf16) (harg6 : arg6.IsWhole)
  (arg7 : Memref sig .tc .vmem S512x512 .bf16) (harg7 : arg7.IsWhole) (arg8 : Memref sig .tc .vmem S128x2048 .bf16) (harg8 : arg8.IsWhole)
  (arg9 : Memref sig .tc .vmem S32x8192 .bf16) (harg9 : arg9.IsWhole) (arg10 : Memref sig .tc .vmem S512x512 .bf16) (harg10 : arg10.IsWhole)
  (arg11 : Memref sig .tc .vmem S128x2048 .bf16) (harg11 : arg11.IsWhole) (arg12 : Memref sig .tc .vmem S32x8192 .bf16) (harg12 : arg12.IsWhole)
  (arg13 : Memref sig .tc .vmem S512x512 .f32) (harg13 : arg13.IsWhole) (arg14 : Memref sig .tc .vmem S512x128 .f32) (harg14 : arg14.IsWhole)
  (arg15 : Memref sig .tc .vmem S512x1024 .f32) (harg15 : arg15.IsWhole) (arg16 : Memref sig .tc .vmem S512x1024 .f32) (harg16 : arg16.IsWhole)
  (arg17 : Memref sig .tc .vmem S1x1024 .f32) (harg17 : arg17.IsWhole) (arg18 : Memref sig .tc .vmem S1024x2304 .bf16) (harg18 : arg18.IsWhole)
  (arg19 : Memref sig .tc .vmem S512x128 .f32) (harg19 : arg19.IsWhole) (arg20 : Memref sig .tc .vmem S512x128 .f32) (harg20 : arg20.IsWhole)
  (arg21 : Memref sig .tc .vmem S1x512 .f32) (harg21 : arg21.IsWhole) (arg22 : Memref sig .tc .vmem S1x128 .f32) (harg22 : arg22.IsWhole)
  (arg23 : Memref sig .tc .vmem S512x512 .bf16) (harg23 : arg23.IsWhole) (arg24 : Memref sig .tc .vmem S512x512 .bf16) (harg24 : arg24.IsWhole)
  (arg25 : Memref sig .tc .vmem S512x1024 .f32) (harg25 : arg25.IsWhole) (arg26 : Memref sig .tc .vmem S512x2304 .bf16) (harg26 : arg26.IsWhole)
  (arg27 : Memref sig .tc .vmem S1x1024 .f32) (harg27 : arg27.IsWhole) (arg28 : Memref sig .tc .vmem S1x512 .f32) (harg28 : arg28.IsWhole)
  (arg29 : Memref sig .tc .vmem S1x128 .f32) (harg29 : arg29.IsWhole)
  (x0 : Vec F S512x512 .f32) (x1 : Vec F S2x1x64x512 .f32) (x2 : Vec F S2x1x64x512 .f32) (x3 : Vec F S512x512 .bf16) (x4 : Vec F S128x2048 .bf16) (x5 : Vec F S32x8192 .bf16)
  (x6 : Vec F S512x512 .bf16) (x7 : Vec F S128x2048 .bf16) (x8 : Vec F S32x8192 .bf16) (x9 : Vec F S512x512 .bf16) (x10 : Vec F S128x2048 .bf16) (x11 : Vec F S32x8192 .bf16)
  (x12 : Vec F S512x512 .f32) (x13 : Vec F S512x128 .f32) (x14 : Vec F S512x1024 .f32) (x15 : Vec F S512x1024 .f32) (x16 : Vec F S1x1024 .f32) (x17 : Vec F S1024x2304 .bf16)
  (x18 : Vec F S512x128 .f32) (x19 : Vec F S512x128 .f32) (x20 : Vec F S1x512 .f32) (x21 : Vec F S1x128 .f32) (x22 : Vec F S512x512 .bf16) (x23 : Vec F S512x512 .bf16)

set_option maxHeartbeats 16000000 in
/-- The first point: it clears the sums. The pieces the body stores in its five output windows, with the proof that
    it runs from its inputs to the same inputs and these pieces. -/
noncomputable def runA (hc0 : cond0_0 i) :
    Σ' (L24 : List (View.Piece (Elt F) S512x1024 .f32)), Σ' (L25 : List (View.Piece (Elt F) S512x2304 .bf16)), Σ' (L26 : List (View.Piece (Elt F) S1x1024 .f32)), Σ' (L27 : List (View.Piece (Elt F) S1x512 .f32)), { L28 : List (View.Piece (Elt F) S1x128 .f32) //
      ∀ (E : Set ℕ) (K : PUnit → sProp 𝕄),
        iprop((ins c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 x11 x12 x13 x14 x15 x16 x17 x18 x19 x20 x21 x22 x23)
            ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop((ins c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 x11 x12 x13 x14 x15 x16 x17 x18 x19 x20 x21 x22 x23)
                ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0_inproj_bwd_eq_skeleton]; unfold cc0_inproj_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩,
      ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0 H1 H2 H3 H4 H5 H6 H7 H8 H9 H10 H11 H12 H13 H14 H15 H16 H17 H18 H19 H20 H21 H22 H23]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]
      · iexists _; isplitr; · ipureintro; exact harg21.read_unread _
        iexact H20
      isplitl [H21]
      · iexists _; isplitr; · ipureintro; exact harg22.read_unread _
        iexact H21
      isplitl [H22]
      · iexists _; isplitr; · ipureintro; exact harg23.read_unread _
        iexact H22
      iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

set_option maxHeartbeats 16000000 in
/-- A later point: the sums' windows hold what the point before left. The pieces the body stores in its five output windows, with the proof that
    it runs from its inputs to the same inputs and these pieces. -/
noncomputable def runB (hc0 : ¬cond0_0 i) (xo26 : Vec F S1x1024 .f32) (xo27 : Vec F S1x512 .f32) (xo28 : Vec F S1x128 .f32) :
    Σ' (L24 : List (View.Piece (Elt F) S512x1024 .f32)), Σ' (L25 : List (View.Piece (Elt F) S512x2304 .bf16)), Σ' (L26 : List (View.Piece (Elt F) S1x1024 .f32)), Σ' (L27 : List (View.Piece (Elt F) S1x512 .f32)), { L28 : List (View.Piece (Elt F) S1x128 .f32) //
      ∀ (E : Set ℕ) (K : PUnit → sProp 𝕄),
        iprop((ins c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 x11 x12 x13 x14 x15 x16 x17 x18 x19 x20 x21 x22 x23)
            ∗ (∃ d, owns (c : Thread nD τ) arg25 fullShare d) ∗ (∃ d, owns (c : Thread nD τ) arg26 fullShare d) ∗ owns (c : Thread nD τ) arg27 fullShare xo26 ∗ owns (c : Thread nD τ) arg28 fullShare xo27 ∗ owns (c : Thread nD τ) arg29 fullShare xo28
            ∗ (iprop((ins c arg1 arg2 arg3 arg4 arg5 arg6 arg7 arg8 arg9 arg10 arg11 arg12 arg13 arg14 arg15 arg16 arg17 arg18 arg19 arg20 arg21 arg22 arg23 arg24 x0 x1 x2 x3 x4 x5 x6 x7 x8 x9 x10 x11 x12 x13 x14 x15 x16 x17 x18 x19 x20 x21 x22 x23)
                ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0_inproj_bwd_eq_skeleton]; unfold cc0_inproj_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩,
      ⟨%d24, %f24, -, H24⟩, ⟨%d25, %f25, -, H25⟩, ⟨%f26, %hf26, H26⟩, ⟨%f27, %hf27, H27⟩, ⟨%f28, %hf28, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg27.eq_unread hf26; obtain rfl := harg28.eq_unread hf27; obtain rfl := harg29.eq_unread hf28
    sl_exec (disch := first | sl_exact hc0)
    sl_step
    iapply Hk
    isplitl [H0 H1 H2 H3 H4 H5 H6 H7 H8 H9 H10 H11 H12 H13 H14 H15 H16 H17 H18 H19 H20 H21 H22 H23]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]
      · iexists _; isplitr; · ipureintro; exact harg21.read_unread _
        iexact H20
      isplitl [H21]
      · iexists _; isplitr; · ipureintro; exact harg22.read_unread _
        iexact H21
      isplitl [H22]
      · iexists _; isplitr; · ipureintro; exact harg23.read_unread _
        iexact H22
      iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

end Cert.InpBwdIdeal.Hand

end
-- ==== Proof.InpFrame.lean ====
/-
  The whole run of the input projection's gradient, at any scalars: what the five output windows hold after each point,
  the frame, and the five arrays at the end.
-/
module

public import proofs.«01_k».proof.Proof.InpRun
public import Idealize.ShloMosaic.Lib.Claim
public import Idealize.ShloMosaic.Lib.Pipeline.Value

@[expose] public section

set_option maxRecDepth 16384
set_option maxHeartbeats 4000000

noncomputable section

namespace Cert.InpBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InpBwdIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the output windows hold -/

/-- The contents of the five output windows. -/
abbrev Five (F : FTy → Type) := Vec F S512x1024 .f32 × Vec F S512x2304 .bf16 × Vec F S1x1024 .f32 × Vec F S1x512 .f32 × Vec F S1x128 .f32

/-- Point `t` at its own blocks. -/
def ptA (t : Fin cfg0.N) (h0 : t.val % 32 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t) (ms0_27 t) (hs0_27 t) (ms0_28 t) (hs0_28 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t) ((hcond0_0 t).mpr h0)
@[inherit_doc ptA] def ptB (t : Fin cfg0.N) (h0 : ¬t.val % 32 = 0) (p : Five F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t) (ms0_27 t) (hs0_27 t) (ms0_28 t) (hs0_28 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t) (fun h => h0 ((hcond0_0 t).mp h)) p.2.2.1 p.2.2.2.1 p.2.2.2.2

theorem coverA24 (t : Fin cfg0.N) (h0 : t.val % 32 = 0) (y : S512x1024.Idx) :
    ∃ pc ∈ (ptA m c t h0).1, y ∈ pc.1.set :=
  View.cover_of_tiledL (ptA m c t h0).1 S512x1024.size (by sl_kernel_rfl) y
theorem coverA25 (t : Fin cfg0.N) (h0 : t.val % 32 = 0) (y : S512x2304.Idx) :
    ∃ pc ∈ (ptA m c t h0).2.1, y ∈ pc.1.set :=
  View.cover_of_tiledBy (ptA m c t h0).2.1 ![512, 128] (by sl_kernel_rfl) y
theorem coverA26 (t : Fin cfg0.N) (h0 : t.val % 32 = 0) (y : S1x1024.Idx) :
    ∃ pc ∈ (ptA m c t h0).2.2.1, y ∈ pc.1.set :=
  View.cover_of_tiledL (ptA m c t h0).2.2.1 S1x1024.size (by sl_kernel_rfl) y
theorem coverA27 (t : Fin cfg0.N) (h0 : t.val % 32 = 0) (y : S1x512.Idx) :
    ∃ pc ∈ (ptA m c t h0).2.2.2.1, y ∈ pc.1.set :=
  View.cover_of_tiledL (ptA m c t h0).2.2.2.1 S1x512.size (by sl_kernel_rfl) y
theorem coverA28 (t : Fin cfg0.N) (h0 : t.val % 32 = 0) (y : S1x128.Idx) :
    ∃ pc ∈ (ptA m c t h0).2.2.2.2.1, y ∈ pc.1.set :=
  View.cover_of_tiledL (ptA m c t h0).2.2.2.2.1 S1x128.size (by sl_kernel_rfl) y
theorem coverB24 (t : Fin cfg0.N) (h0 : ¬t.val % 32 = 0) (p : Five F) (y : S512x1024.Idx) :
    ∃ pc ∈ (ptB m c t h0 p).1, y ∈ pc.1.set :=
  View.cover_of_tiledL (ptB m c t h0 p).1 S512x1024.size (by sl_kernel_rfl) y
theorem coverB25 (t : Fin cfg0.N) (h0 : ¬t.val % 32 = 0) (p : Five F) (y : S512x2304.Idx) :
    ∃ pc ∈ (ptB m c t h0 p).2.1, y ∈ pc.1.set :=
  View.cover_of_tiledBy (ptB m c t h0 p).2.1 ![512, 128] (by sl_kernel_rfl) y
theorem coverB26 (t : Fin cfg0.N) (h0 : ¬t.val % 32 = 0) (p : Five F) (y : S1x1024.Idx) :
    ∃ pc ∈ (ptB m c t h0 p).2.2.1, y ∈ pc.1.set :=
  View.cover_of_tiledL (ptB m c t h0 p).2.2.1 S1x1024.size (by sl_kernel_rfl) y
theorem coverB27 (t : Fin cfg0.N) (h0 : ¬t.val % 32 = 0) (p : Five F) (y : S1x512.Idx) :
    ∃ pc ∈ (ptB m c t h0 p).2.2.2.1, y ∈ pc.1.set :=
  View.cover_of_tiledL (ptB m c t h0 p).2.2.2.1 S1x512.size (by sl_kernel_rfl) y
theorem coverB28 (t : Fin cfg0.N) (h0 : ¬t.val % 32 = 0) (p : Five F) (y : S1x128.Idx) :
    ∃ pc ∈ (ptB m c t h0 p).2.2.2.2.1, y ∈ pc.1.set :=
  View.cover_of_tiledL (ptB m c t h0 p).2.2.2.2.1 S1x128.size (by sl_kernel_rfl) y

/-- What the first point leaves in the five output windows. -/
def outsA (t : Fin cfg0.N) (h0 : t.val % 32 = 0) : Five F :=
  (VO0_24.read (Elt F) (VO0_24.writes (Elt F) VO0_24.junk (ptA m c t h0).1),
   VO0_25.read (Elt F) (VO0_25.writes (Elt F) VO0_25.junk (ptA m c t h0).2.1),
   VO0_26.read (Elt F) (VO0_26.writes (Elt F) VO0_26.junk (ptA m c t h0).2.2.1),
   VO0_27.read (Elt F) (VO0_27.writes (Elt F) VO0_27.junk (ptA m c t h0).2.2.2.1),
   VO0_28.read (Elt F) (VO0_28.writes (Elt F) VO0_28.junk (ptA m c t h0).2.2.2.2.1))

/-- What a later point leaves in the five output windows. -/
def outsB (t : Fin cfg0.N) (h0 : ¬t.val % 32 = 0) (p : Five F) : Five F :=
  (VO0_24.read (Elt F) (VO0_24.writes (Elt F) VO0_24.junk (ptB m c t h0 p).1),
   VO0_25.read (Elt F) (VO0_25.writes (Elt F) VO0_25.junk (ptB m c t h0 p).2.1),
   VO0_26.read (Elt F) (VO0_26.writes (Elt F) VO0_26.junk (ptB m c t h0 p).2.2.1),
   VO0_27.read (Elt F) (VO0_27.writes (Elt F) VO0_27.junk (ptB m c t h0 p).2.2.2.1),
   VO0_28.read (Elt F) (VO0_28.writes (Elt F) VO0_28.junk (ptB m c t h0 p).2.2.2.2.1))

/-- What the output windows hold after point `n`. -/
def outsAt0 : (n : ℕ) → n < cfg0.N → Five F
  | 0, hn => outsA m c ⟨0, hn⟩ (Nat.zero_mod _)
  | n + 1, hn => if h0 : (n + 1) % 32 = 0 then outsA m c ⟨n + 1, hn⟩ h0 else outsB m c ⟨n + 1, hn⟩ h0 (outsAt0 n (Nat.lt_of_succ_lt hn))

theorem outsAt0_A (t : Fin cfg0.N) (h0 : t.val % 32 = 0) : outsAt0 m c t.val t.isLt = outsA m c t h0 := by
  obtain ⟨n, hn⟩ := t
  cases n with
  | zero => exact rfl
  | succ n => exact (dif_pos h0).trans rfl

theorem outsAt0_B (t : Fin cfg0.N) (h0 : ¬t.val % 32 = 0) :
    outsAt0 m c t.val t.isLt = outsB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨25, _⟩ => (outsAt0 m c t.val t.isLt).2.1
    | ⟨26, _⟩ => (outsAt0 m c t.val t.isLt).2.2.1
    | ⟨27, _⟩ => (outsAt0 m c t.val t.isLt).2.2.2.1
    | ⟨28, _⟩ => (outsAt0 m c t.val t.isLt).2.2.2.2
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = iblk m c 9 t := by dsimp only [dats]
theorem after0_10 (t : Fin cfg0.N) : (dats m 0 c).after 10 t = iblk m c 10 t := by dsimp only [dats]
theorem after0_11 (t : Fin cfg0.N) : (dats m 0 c).after 11 t = iblk m c 11 t := by dsimp only [dats]
theorem after0_12 (t : Fin cfg0.N) : (dats m 0 c).after 12 t = iblk m c 12 t := by dsimp only [dats]
theorem after0_13 (t : Fin cfg0.N) : (dats m 0 c).after 13 t = iblk m c 13 t := by dsimp only [dats]
theorem after0_14 (t : Fin cfg0.N) : (dats m 0 c).after 14 t = iblk m c 14 t := by dsimp only [dats]
theorem after0_15 (t : Fin cfg0.N) : (dats m 0 c).after 15 t = iblk m c 15 t := by dsimp only [dats]
theorem after0_16 (t : Fin cfg0.N) : (dats m 0 c).after 16 t = iblk m c 16 t := by dsimp only [dats]
theorem after0_17 (t : Fin cfg0.N) : (dats m 0 c).after 17 t = iblk m c 17 t := by dsimp only [dats]
theorem after0_18 (t : Fin cfg0.N) : (dats m 0 c).after 18 t = iblk m c 18 t := by dsimp only [dats]
theorem after0_19 (t : Fin cfg0.N) : (dats m 0 c).after 19 t = iblk m c 19 t := by dsimp only [dats]
theorem after0_20 (t : Fin cfg0.N) : (dats m 0 c).after 20 t = iblk m c 20 t := by dsimp only [dats]
theorem after0_21 (t : Fin cfg0.N) : (dats m 0 c).after 21 t = iblk m c 21 t := by dsimp only [dats]
theorem after0_22 (t : Fin cfg0.N) : (dats m 0 c).after 22 t = iblk m c 22 t := by dsimp only [dats]
theorem after0_23 (t : Fin cfg0.N) : (dats m 0 c).after 23 t = iblk m c 23 t := by dsimp only [dats]
theorem after0_24 (t : Fin cfg0.N) : (dats m 0 c).after 24 t = (outsAt0 m c t.val t.isLt).1 := by dsimp only [dats]
theorem after0_25 (t : Fin cfg0.N) : (dats m 0 c).after 25 t = (outsAt0 m c t.val t.isLt).2.1 := by dsimp only [dats]
theorem after0_26 (t : Fin cfg0.N) : (dats m 0 c).after 26 t = (outsAt0 m c t.val t.isLt).2.2.1 := by dsimp only [dats]
theorem after0_27 (t : Fin cfg0.N) : (dats m 0 c).after 27 t = (outsAt0 m c t.val t.isLt).2.2.2.1 := by dsimp only [dats]
theorem after0_28 (t : Fin cfg0.N) : (dats m 0 c).after 28 t = (outsAt0 m c t.val t.isLt).2.2.2.2 := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d
theorem before0_8 (t : Fin cfg0.N) (d) : (dats m 0 c).before 8 t d = iblk m c 8 t :=
  before0_8_of m (dats m 0 c) (A_eq m c 8) (after0_8 m c) t d
theorem before0_9 (t : Fin cfg0.N) (d) : (dats m 0 c).before 9 t d = iblk m c 9 t :=
  before0_9_of m (dats m 0 c) (A_eq m c 9) (after0_9 m c) t d
theorem before0_10 (t : Fin cfg0.N) (d) : (dats m 0 c).before 10 t d = iblk m c 10 t :=
  before0_10_of m (dats m 0 c) (A_eq m c 10) (after0_10 m c) t d
theorem before0_11 (t : Fin cfg0.N) (d) : (dats m 0 c).before 11 t d = iblk m c 11 t :=
  before0_11_of m (dats m 0 c) (A_eq m c 11) (after0_11 m c) t d
theorem before0_12 (t : Fin cfg0.N) (d) : (dats m 0 c).before 12 t d = iblk m c 12 t :=
  before0_12_of m (dats m 0 c) (A_eq m c 12) (after0_12 m c) t d
theorem before0_13 (t : Fin cfg0.N) (d) : (dats m 0 c).before 13 t d = iblk m c 13 t :=
  before0_13_of m (dats m 0 c) (A_eq m c 13) (after0_13 m c) t d
theorem before0_14 (t : Fin cfg0.N) (d) : (dats m 0 c).before 14 t d = iblk m c 14 t :=
  before0_14_of m (dats m 0 c) (A_eq m c 14) (after0_14 m c) t d
theorem before0_15 (t : Fin cfg0.N) (d) : (dats m 0 c).before 15 t d = iblk m c 15 t :=
  before0_15_of m (dats m 0 c) (A_eq m c 15) (after0_15 m c) t d
theorem before0_16 (t : Fin cfg0.N) (d) : (dats m 0 c).before 16 t d = iblk m c 16 t :=
  before0_16_of m (dats m 0 c) (A_eq m c 16) (after0_16 m c) t d
theorem before0_17 (t : Fin cfg0.N) (d) : (dats m 0 c).before 17 t d = iblk m c 17 t :=
  before0_17_of m (dats m 0 c) (A_eq m c 17) (after0_17 m c) t d
theorem before0_18 (t : Fin cfg0.N) (d) : (dats m 0 c).before 18 t d = iblk m c 18 t :=
  before0_18_of m (dats m 0 c) (A_eq m c 18) (after0_18 m c) t d
theorem before0_19 (t : Fin cfg0.N) (d) : (dats m 0 c).before 19 t d = iblk m c 19 t :=
  before0_19_of m (dats m 0 c) (A_eq m c 19) (after0_19 m c) t d
theorem before0_20 (t : Fin cfg0.N) (d) : (dats m 0 c).before 20 t d = iblk m c 20 t :=
  before0_20_of m (dats m 0 c) (A_eq m c 20) (after0_20 m c) t d
theorem before0_21 (t : Fin cfg0.N) (d) : (dats m 0 c).before 21 t d = iblk m c 21 t :=
  before0_21_of m (dats m 0 c) (A_eq m c 21) (after0_21 m c) t d
theorem before0_22 (t : Fin cfg0.N) (d) : (dats m 0 c).before 22 t d = iblk m c 22 t :=
  before0_22_of m (dats m 0 c) (A_eq m c 22) (after0_22 m c) t d
theorem before0_23 (t : Fin cfg0.N) (d) : (dats m 0 c).before 23 t d = iblk m c 23 t :=
  before0_23_of m (dats m 0 c) (A_eq m c 23) (after0_23 m c) t d
theorem before0_26 (t : Fin cfg0.N) (h0 : ¬t.val % 32 = 0) (d) :
    (dats m 0 c).before 26 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_27 (t : Fin cfg0.N) (h0 : ¬t.val % 32 = 0) (d) :
    (dats m 0 c).before 27 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28 (t : Fin cfg0.N) (h0 : ¬t.val % 32 = 0) (d) :
    (dats m 0 c).before 28 t d = (outsAt0 m c (t.val - 1) (Nat.lt_of_le_of_lt (Nat.sub_le _ _) t.isLt)).2.2.2.2 := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

/-! ## A point, between its invariants -/

/-- The inputs of point `t` at their blocks. -/
abbrev insAt (t : Fin cfg0.N) : sProp 𝕄 :=
  ins c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t)

def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

/-- What holds around a point, the inputs at their blocks gathered. -/
def before (t : Fin cfg0.N) : sProp 𝕄 :=
  iprop((dats m 0 c).Φ t.castSucc ∗ (dats m 0 c).owesAt () t.castSucc ∗ insAt m c t
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))
@[inherit_doc before] def after (t : Fin cfg0.N) : sProp 𝕄 :=
  iprop((dats m 0 c).Φ t.castSucc ∗ (dats m 0 c).owesAt () t.castSucc ∗ insAt m c t
    ∗ owns (c : Thread nD τ) (ms0_24 t) fullShare (outsAt0 m c t.val t.isLt).1
    ∗ owns (c : Thread nD τ) (ms0_25 t) fullShare (outsAt0 m c t.val t.isLt).2.1
    ∗ owns (c : Thread nD τ) (ms0_26 t) fullShare (outsAt0 m c t.val t.isLt).2.2.1
    ∗ owns (c : Thread nD τ) (ms0_27 t) fullShare (outsAt0 m c t.val t.isLt).2.2.2.1
    ∗ owns (c : Thread nD τ) (ms0_28 t) fullShare (outsAt0 m c t.val t.isLt).2.2.2.2)

theorem gather (t : Fin cfg0.N) : bodyPre m c t ⊢ before m c t := by
  unfold bodyPre before insAt ins
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, HO⟩
  isplitl [HΦ]; · iexact HΦ
  isplitl [Ho]; · iexact Ho
  isplitl [H0 H1 H2 H3 H4 H5 H6 H7 H8 H9 H10 H11 H12 H13 H14 H15 H16 H17 H18 H19 H20 H21 H22 H23]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iexact HO

theorem spread (t : Fin cfg0.N) : after m c t ⊢ bodyPost m c t := by
  unfold bodyPost after insAt ins
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨H0, H1, H2, H3, H4, H5, H6, H7, H8, H9, H10, H11, H12, H13, H14, H15, H16, H17, H18, H19, H20, H21, H22, H23⟩, HO⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact HO

theorem point (t : Fin cfg0.N) :
    before m c t ⊢ wp frame (wpE (defs₀ (F := F)) Variants.none c none) Set.univ (bodyAt0 t) (fun _ => after m c t) := by
  unfold before after bodyAt0
  by_cases h0 : t.val % 32 = 0
  · rw [outsAt0_A m c t h0]
    unfold outsA; dsimp only
    iintro ⟨HΦ, Ho, HI, ⟨%d24, H24⟩, ⟨%d25, H25⟩, ⟨%d26, H26⟩, ⟨%d27, H27⟩, ⟨%d28, H28⟩⟩
    iapply ((ptA m c t h0).2.2.2.2.2 Set.univ _)
    isplitl [HI]; · iexact HI
    isplitl [H24]; · iexists _; iexact H24
    isplitl [H25]; · iexists _; iexact H25
    isplitl [H26]; · iexists _; iexact H26
    isplitl [H27]; · iexists _; iexact H27
    isplitl [H28]; · iexists _; iexact H28
    iintro ⟨HI, ⟨%e24, H24⟩, ⟨%e25, H25⟩, ⟨%e26, H26⟩, ⟨%e27, H27⟩, ⟨%e28, H28⟩⟩
    isplitl [HΦ]; · iexact HΦ
    isplitl [Ho]; · iexact Ho
    isplitl [HI]; · iexact HI
    isplitl [H24]
    · unfold owns; iexists _; isplitr
      swap; · iexact H24
      ipureintro; exact View.read_writes_of_cover _ _ _ _ _ (coverA24 m c t h0)
    isplitl [H25]
    · unfold owns; iexists _; isplitr
      swap; · iexact H25
      ipureintro; exact View.read_writes_of_cover _ _ _ _ _ (coverA25 m c t h0)
    isplitl [H26]
    · unfold owns; iexists _; isplitr
      swap; · iexact H26
      ipureintro; exact View.read_writes_of_cover _ _ _ _ _ (coverA26 m c t h0)
    isplitl [H27]
    · unfold owns; iexists _; isplitr
      swap; · iexact H27
      ipureintro; exact View.read_writes_of_cover _ _ _ _ _ (coverA27 m c t h0)
    unfold owns; iexists _; isplitr
    swap; · iexact H28
    ipureintro; exact View.read_writes_of_cover _ _ _ _ _ (coverA28 m c t h0)
  · rw [outsAt0_B m c t h0]
    simp only [before0_26 m c t h0, before0_27 m c t h0, before0_28 m c t h0]
    unfold outsB; dsimp only
    iintro ⟨HΦ, Ho, HI, ⟨%d24, H24⟩, ⟨%d25, H25⟩, ⟨%d26, H26⟩, ⟨%d27, H27⟩, ⟨%d28, H28⟩⟩
    iapply ((ptB m c t h0 _).2.2.2.2.2 Set.univ _)
    isplitl [HI]; · iexact HI
    isplitl [H24]; · iexists _; iexact H24
    isplitl [H25]; · iexists _; iexact H25
    isplitl [H26]; · iexact H26
    isplitl [H27]; · iexact H27
    isplitl [H28]; · iexact H28
    iintro ⟨HI, ⟨%e24, H24⟩, ⟨%e25, H25⟩, ⟨%e26, H26⟩, ⟨%e27, H27⟩, ⟨%e28, H28⟩⟩
    isplitl [HΦ]; · iexact HΦ
    isplitl [Ho]; · iexact Ho
    isplitl [HI]; · iexact HI
    isplitl [H24]
    · unfold owns; iexists _; isplitr
      swap; · iexact H24
      ipureintro; exact View.read_writes_of_cover _ _ _ _ _ (coverB24 m c t h0 _)
    isplitl [H25]
    · unfold owns; iexists _; isplitr
      swap; · iexact H25
      ipureintro; exact View.read_writes_of_cover _ _ _ _ _ (coverB25 m c t h0 _)
    isplitl [H26]
    · unfold owns; iexists _; isplitr
      swap; · iexact H26
      ipureintro; exact View.read_writes_of_cover _ _ _ _ _ (coverB26 m c t h0 _)
    isplitl [H27]
    · unfold owns; iexists _; isplitr
      swap; · iexact H27
      ipureintro; exact View.read_writes_of_cover _ _ _ _ _ (coverB27 m c t h0 _)
    unfold owns; iexists _; isplitr
    swap; · iexact H28
    ipureintro; exact View.read_writes_of_cover _ _ _ _ _ (coverB28 m c t h0 _)

theorem sound_body (t : Fin cfg0.N) :
    bodyPre m c t ⊢ wp frame (wpE (defs₀ (F := F)) Variants.none c none) Set.univ (bodyAt0 t) (fun _ => bodyPost m c t) :=
  triple_restated (point m c t) rfl (gather m c t) fun _ => spread m c t

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame, at any scalars: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) (run_main m ρ)) ((θ_run defs _ _).mono (fun _ h => h.2) (run_quiescent m ρ))

/-- The run with the five arrays at the end named. -/
theorem run_blocks : θ_run defs (onTc (τ := τ) (main (F := F))) ⟨m, fun _ => 0, ρ⟩ (fun r => ∀ c : Dev nD,
      r.2.mem ((c : Thread nD τ).loc main_v108_0) = (dats m 0 c).arrAt 24 cfg0.N
      ∧ r.2.mem ((c : Thread nD τ).loc main_v108_1) = (dats m 0 c).arrAt 25 cfg0.N
      ∧ r.2.mem ((c : Thread nD τ).loc main_v108_2) = (dats m 0 c).arrAt 26 cfg0.N
      ∧ r.2.mem ((c : Thread nD τ).loc main_v108_3) = (dats m 0 c).arrAt 27 cfg0.N
      ∧ r.2.mem ((c : Thread nD τ).loc main_v108_4) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)) :=
  (θ_run defs _ _).mono (fun r h c => ⟨(h.1 c).1 24, (h.1 c).1 25, (h.1 c).1 26, (h.1 c).1 27, (h.1 c).1 28, h.2.1 c⟩)
    (θ_run_and (run_main m ρ) (frame m ρ))

end Cert.InpBwdIdeal.Hand

end
-- ==== Proof.InpSame.lean ====
/- The input projection's gradient as compiled is the same program as its reading over the reals, so its frame is the same. -/
module

public import proofs.«01_k».proof.Defs
public import proofs.«01_k».proof.Proof.Gen.InpBwd.Launch
public import proofs.«01_k».proof.Proof.InpFrame
public import Idealize.ShloMosaic.Lib.Tactic

@[expose] public section

noncomputable section

namespace Cert.Proof

open Idealize.ShloMosaic Idealize.ShloMosaic.TcCoe Idealize.SL.Sem

set_option maxHeartbeats 16000000 in
theorem inp_same_main : Cert.InpBwd.main (F := Bits) = Cert.InpBwdIdeal.main (F := Bits) := by sl_kernel_rfl

set_option maxHeartbeats 16000000 in
theorem inp_same_defs : Cert.InpBwd.defs (F := Bits) = Cert.InpBwdIdeal.defs (F := Bits) := by sl_kernel_rfl

set_option maxHeartbeats 16000000 in
/-- The compiled program keeps its arguments, from the run of the same text. -/
theorem inp_frame : Cert.quiescent_InpBwd := by
  intro m ρ _
  have e : Cert.InpBwd.main (F := Bits) = Cert.InpBwdIdeal.main (F := Bits) := inp_same_main
  have e' : Cert.InpBwd.defs (F := Bits) = Cert.InpBwdIdeal.defs (F := Bits) := inp_same_defs
  rw [e, e']
  exact (θ_run Cert.InpBwdIdeal.defs _ _).mono (fun _ h => h) (Cert.InpBwdIdeal.Hand.frame (F := Bits) m ρ)

end Cert.Proof

end
-- ==== Proof.InpFinite.lean ====
/- What the input projection's gradient's condition says: every argument is finite. -/
module

public import proofs.«01_k».proof.Pre_finite_inp
public import proofs.«01_k».proof.Proof.Lift

@[expose] public section

set_option maxRecDepth 16384

noncomputable section

namespace Cert.Pre_finite_inp

open Idealize.ShloMosaic Cert.Lift

instance facts : Facts where
  bcast_S_S16384x512 := by decide
  reducesTo_S16384x512_S_d0_1 := by decide
  h_S_ := by decide
  bcast_S_S16384x128 := by decide
  reducesTo_S16384x128_S_d0_1 := by decide
  bcast_S_S16384x1024 := by decide
  reducesTo_S16384x1024_S_d0_1 := by decide
  bcast_S_S1x1024 := by decide
  reducesTo_S1x1024_S_d0_1 := by decide
  bcast_S_S1024x2304 := by decide
  reducesTo_S1024x2304_S_d0_1 := by decide
  bcast_S_S1x64 := by decide
  reducesTo_S1x64_S_d0_1 := by decide

theorem finite_of_fn {x0 : FVec Ideal S16384x512 .f32} {x1 : FVec Ideal S16384x128 .f32} {x2 : FVec Ideal S16384x128 .f32} {x3 : FVec Ideal S16384x512 .f32} {x4 : FVec Ideal S16384x512 .f32} {x5 : FVec Ideal S16384x512 .f32} {x6 : FVec Ideal S16384x512 .f32} {x7 : FVec Ideal S16384x512 .f32} {x8 : FVec Ideal S16384x512 .f32}
    {x9 : FVec Ideal S16384x512 .f32} {x10 : FVec Ideal S16384x512 .f32} {x11 : FVec Ideal S16384x512 .f32} {x12 : FVec Ideal S16384x1024 .f32} {x13 : FVec Ideal S16384x1024 .f32} {x14 : FVec Ideal S1x1024 .f32} {x15 : FVec Ideal S1024x2304 .f32} {x16 : FVec Ideal S1x64 .f32} {x17 : FVec Ideal S1x64 .f32}
    (h : fn (F := Ideal) x0 x1 x2 x3 x4 x5 x6 x7 x8 x9 x10 x11 x12 x13 x14 x15 x16 x17 = fun _ => 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal))
      ∧ (∀ i, x4 i = ((x4 i).toReal : EReal)) ∧ (∀ i, x5 i = ((x5 i).toReal : EReal)) ∧ (∀ i, x6 i = ((x6 i).toReal : EReal)) ∧ (∀ i, x7 i = ((x7 i).toReal : EReal))
      ∧ (∀ i, x8 i = ((x8 i).toReal : EReal)) ∧ (∀ i, x9 i = ((x9 i).toReal : EReal)) ∧ (∀ i, x10 i = ((x10 i).toReal : EReal)) ∧ (∀ i, x11 i = ((x11 i).toReal : EReal))
      ∧ (∀ i, x12 i = ((x12 i).toReal : EReal)) ∧ (∀ i, x13 i = ((x13 i).toReal : EReal)) ∧ (∀ i, x14 i = ((x14 i).toReal : EReal)) ∧ (∀ i, x15 i = ((x15 i).toReal : EReal))
      ∧ (∀ i, x16 i = ((x16 i).toReal : EReal)) ∧ (∀ i, x17 i = ((x17 i).toReal : EReal)) := by
  have h' := congrFun h (fun a => a.elim0)
  unfold fn fn_part1 fn_part2 fn_part3 fn_part4 fn_part5 at h'
  dsimp only at h'
  simp only [andi, bit_and] at h'
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h'
  exact ⟨fin_of_all h0, fin_of_all h1, fin_of_all h2, fin_of_all h3, fin_of_all h4, fin_of_all h5, fin_of_all h6, fin_of_all h7, fin_of_all h8, fin_of_all h9, fin_of_all h10, fin_of_all h11, fin_of_all h12, fin_of_all h13, fin_of_all h14, fin_of_all h15, fin_of_all h16, fin_of_all h17⟩

end Cert.Pre_finite_inp

end
-- ==== Proof.LineMany.lean ====
/- Host operations of several operands (a concatenation of more than two arrays) in a straight line of host operations. -/
module

public import proofs.«01_k».proof.Proof.Line

@[expose] public section

noncomputable section

namespace Cert.Line

open Idealize.ShloMosaic Idealize.ShloMosaic.TcCoe Idealize.SL.Sem Idealize.ShloMosaic.StableHlo

variable {τ : Topo} {sig : RefSig} {Val : EltTy → Type} {k : ℕ} {xs : Fin k → Ref sig .tc} {y : Ref sig .tc} {E : Valuation τ sig Val}

theorem step_nary {f : ((q : Fin k) → (xs q).ty.Contents Val) → y.ty.Contents Val} {hxs hy} {n : ℕ} (h : y.idx.val = n)
    (hx : ∀ q, (xs q).idx.val ≤ n) : Step (nary (τ := τ) xs y f hxs hy) n := by
  refine ⟨⟨y, h, rfl⟩, fun d hd => ?_⟩
  rcases Finset.mem_insert.mp hd with e | hd
  · exact ⟨y, h.le, e⟩
  · obtain ⟨q, -, rfl⟩ := Finset.mem_image.mp hd
    exact ⟨xs q, hx q, rfl⟩

/-- The contents of a buffer that an operation of several operands writes. -/
theorem Solves.nary {ops : List (HloOp τ sig Val)} {n : ℕ} (hl : Solves ops n E) (y : Ref sig .tc)
    {f : ((q : Fin k) → (xs q).ty.Contents Val) → y.ty.Contents Val} {hxs hy}
    (h : ops[y.idx.val - n]? = some (StableHlo.nary xs y f hxs hy)) (hne : ∀ q, xs q ≠ y := by decide) :
    E (Proc.devRef .tc y) = f fun q => E (Proc.devRef .tc (xs q)) := by
  obtain ⟨W, hW⟩ := hl _ _ h
  rw [hW (Proc.devRef .tc y) (Finset.mem_insert_self _ _), nary_result]
  refine congrArg f (funext fun q => ?_)
  rw [hW _ (Finset.mem_insert_of_mem (Finset.mem_image_of_mem _ (Finset.mem_univ q)))]
  exact (result_of_writes_ne _ W y (xs q) rfl (hne q)).symm

end Cert.Line

end
-- ==== Proof.InpMath.lean ====
/- The input projection's gradient over the reals, one row at a time: rotary embedding, head norms, the six parts of the projection. -/
module

public import proofs.«01_k».proof.Proof.OutMath

@[expose] public section

noncomputable section

namespace Cert.Inp.Math

open Cert.Lift Cert.Norm

/-! ## The rotary embedding -/

/-- The frequency of rotary lane `d`. -/
def freq (d : ℕ) : ℝ := (10000 : ℝ) ^ (-(d : ℝ) / 16)
/-- The angle of lane `d` at row `i`: the first sixteen lanes turn with the row's line, the rest with its column in a grid of 64 columns. -/
def angle (i : Fin 16384) (d : Fin 32) : ℝ :=
  if d.val < 16 then ((i.val / 64 : ℕ) : ℝ) * freq d.val else ((i.val % 64 : ℕ) : ℝ) * freq (d.val - 16)

/-- A lane's place in the half of its head. -/
def fold (l : Fin 64) : Fin 32 := ⟨l.val % 32, by omega⟩
/-- The lane that a lane is rotated with. -/
def mate (l : Fin 64) : Fin 64 := ⟨(l.val + 32) % 64, by omega⟩
/-- The sine that a lane is rotated with, negative on the first half. -/
def sgn (s : Fin 32 → ℝ) (l : Fin 64) : ℝ := if l.val < 32 then -s (fold l) else s (fold l)
/-- The gradient before the rotation, from the gradient `o` after it, with angles `a`. -/
def back (a : Fin 32 → ℝ) (o : Fin 64 → ℝ) (l : Fin 64) : ℝ :=
  o l * Real.cos (a (fold l)) - o (mate l) * sgn (fun d => Real.sin (a d)) l

/-! ## A head -/

/-- The gradient at a head's entries before their norm. -/
def headBack (a : Fin 32 → ℝ) (o v g : Fin 64 → ℝ) : Fin 64 → ℝ := normBack 64 v (fun l => back a o l * g l)
/-- What a row's head adds to the gradient of the head's gain. -/
def headGain (a : Fin 32 → ℝ) (o v : Fin 64 → ℝ) (l : Fin 64) : ℝ := back a o l * (v l * rr 64 v)

/-- The head of a lane, and the lane's place in it. -/
def hd8 (k : Fin 512) : Fin 8 := ⟨k.val / 64, by omega⟩
@[inherit_doc hd8] def hd2 (k : Fin 128) : Fin 2 := ⟨k.val / 64, by omega⟩
@[inherit_doc hd8] def en {n : ℕ} (k : Fin n) : Fin 64 := ⟨k.val % 64, by omega⟩
/-- Head `h` of a row. -/
def of8 (v : Fin 512 → ℝ) (h : Fin 8) (l : Fin 64) : ℝ := v ⟨h.val * 64 + l.val, by omega⟩
@[inherit_doc of8] def of2 (v : Fin 128 → ℝ) (h : Fin 2) (l : Fin 64) : ℝ := v ⟨h.val * 64 + l.val, by omega⟩

theorem of8_en (v : Fin 512 → ℝ) (k : Fin 512) : of8 v (hd8 k) (en k) = v k :=
  congrArg v (Fin.ext (by show k.val / 64 * 64 + k.val % 64 = k.val; omega))
theorem of2_en (v : Fin 128 → ℝ) (k : Fin 128) : of2 v (hd2 k) (en k) = v k :=
  congrArg v (Fin.ext (by show k.val / 64 * 64 + k.val % 64 = k.val; omega))

theorem of8_mk (f : Fin 8 → Fin 64 → ℝ) (h : Fin 8) : of8 (fun k => f (hd8 k) (en k)) h = f h := funext fun l =>
  congrArg₂ f (Fin.ext (by show (h.val * 64 + l.val) / 64 = h.val; omega)) (Fin.ext (by show (h.val * 64 + l.val) % 64 = l.val; omega))
theorem of2_mk (f : Fin 2 → Fin 64 → ℝ) (h : Fin 2) : of2 (fun k => f (hd2 k) (en k)) h = f h := funext fun l =>
  congrArg₂ f (Fin.ext (by show (h.val * 64 + l.val) / 64 = h.val; omega)) (Fin.ext (by show (h.val * 64 + l.val) % 64 = l.val; omega))

/-- A sum over the whole width of the terms of one head alone. -/
theorem sum_heads {H n : ℕ} (hn : n = H * 64) (f : Fin n → ℝ) (h : Fin H) :
    (∑ k : Fin n, if k.val / 64 = h.val then f k else 0) = ∑ l : Fin 64, f ⟨h.val * 64 + l.val, by have := h.isLt; subst hn; nlinarith [l.isLt]⟩ := by
  subst hn
  rw [← Fintype.sum_equiv (finProdFinEquiv (m := H) (n := 64)) (fun p => if p.1 = h then f (finProdFinEquiv p) else 0)
    (fun k => if k.val / 64 = h.val then f k else 0) fun p => ?_, Fintype.sum_prod_type, Finset.sum_eq_single h]
  · refine Finset.sum_congr rfl fun l _ => ?_
    rw [if_pos rfl]
    exact congrArg f (Fin.ext (by simp only [finProdFinEquiv_apply_val]; omega))
  · intro b _ hb; simp [hb]
  · intro hh; exact absurd (Finset.mem_univ h) hh
  · refine if_congr (Fin.ext_iff.trans ?_) rfl rfl
    rw [finProdFinEquiv_apply_val]
    have e : (p.2.val + 64 * p.1.val) / 64 = p.1.val := by omega
    rw [e]

theorem sum_hd8 (f : Fin 512 → ℝ) (h : Fin 8) : (∑ k, if hd8 k = h then f k else 0) = ∑ l, of8 f h l :=
  (Finset.sum_congr rfl fun k _ => if_congr Fin.ext_iff rfl rfl).trans (sum_heads (H := 8) rfl f h)
theorem sum_hd2 (f : Fin 128 → ℝ) (h : Fin 2) : (∑ k, if hd2 k = h then f k else 0) = ∑ l, of2 f h l :=
  (Finset.sum_congr rfl fun k _ => if_congr Fin.ext_iff rfl rfl).trans (sum_heads (H := 2) rfl f h)

/-! ## The projection -/

/-- Column `k` of the projection's first part, and of its second. -/
def colq (k : Fin 512) : Fin 2304 := ⟨k.val, by omega⟩
@[inherit_doc colq] def colk (k : Fin 128) : Fin 2304 := ⟨512 + k.val, by omega⟩
/-- A column of the projection. -/
def proj (x g : Fin 1024 → ℝ) (W : Fin 1024 → Fin 2304 → ℝ) (C : Fin 2304) : ℝ := ∑ j, xn 1024 x g j * W j C

/-- Six parts side by side. -/
def six (q : Fin 512 → ℝ) (k v : Fin 128 → ℝ) (a b c : Fin 512 → ℝ) (C : Fin 2304) : ℝ :=
  if h : C.val < 512 then q ⟨C.val, h⟩
  else if h : C.val < 640 then k ⟨C.val - 512, by omega⟩
  else if h : C.val < 768 then v ⟨C.val - 640, by omega⟩
  else if h : C.val < 1280 then a ⟨C.val - 768, by omega⟩
  else if h : C.val < 1792 then b ⟨C.val - 1280, by omega⟩
  else c ⟨C.val - 1792, by omega⟩

/-- The inputs of the gradient, on all rows. -/
structure Ins where
  dq : Fin 16384 → Fin 512 → ℝ
  dk : Fin 16384 → Fin 128 → ℝ
  dv : Fin 16384 → Fin 128 → ℝ
  q1 : Fin 16384 → Fin 512 → ℝ
  q4 : Fin 16384 → Fin 512 → ℝ
  q16 : Fin 16384 → Fin 512 → ℝ
  k1 : Fin 16384 → Fin 512 → ℝ
  k4 : Fin 16384 → Fin 512 → ℝ
  k16 : Fin 16384 → Fin 512 → ℝ
  v1 : Fin 16384 → Fin 512 → ℝ
  v4 : Fin 16384 → Fin 512 → ℝ
  v16 : Fin 16384 → Fin 512 → ℝ
  x : Fin 16384 → Fin 1024 → ℝ
  dh : Fin 16384 → Fin 1024 → ℝ
  g : Fin 1024 → ℝ
  W : Fin 1024 → Fin 2304 → ℝ
  gq : Fin 64 → ℝ
  gk : Fin 64 → ℝ

namespace Ins

variable (I : Ins) (i : Fin 16384)

/-- The first and the second part of the projection, before their head norms. -/
def q (k : Fin 512) : ℝ := proj (I.x i) I.g I.W (colq k)
@[inherit_doc q] def k (k : Fin 128) : ℝ := proj (I.x i) I.g I.W (colk k)
/-- The gradients at them. -/
def dqa (k : Fin 512) : ℝ := headBack (angle i) (of8 (I.dq i) (hd8 k)) (of8 (I.q i) (hd8 k)) I.gq (en k)
@[inherit_doc dqa] def dka (k : Fin 128) : ℝ := headBack (angle i) (of2 (I.dk i) (hd2 k)) (of2 (I.k i) (hd2 k)) I.gk (en k)
/-- What a row adds to the gradients of the two head gains. -/
def gainq (k : Fin 512) : ℝ := headGain (angle i) (of8 (I.dq i) (hd8 k)) (of8 (I.q i) (hd8 k)) (en k)
@[inherit_doc gainq] def gaink (k : Fin 128) : ℝ := headGain (angle i) (of2 (I.dk i) (hd2 k)) (of2 (I.k i) (hd2 k)) (en k)
/-- The gradient at the projection. -/
def dproj : Fin 2304 → ℝ := six (I.dqa i) (I.dka i) (I.dv i) (fun k => I.q1 i k + I.q4 i k + I.q16 i k)
  (fun k => I.k1 i k + I.k4 i k + I.k16 i k) (fun k => I.v1 i k + I.v4 i k + I.v16 i k)
/-- The gradient at the normed row. -/
def dxn (j : Fin 1024) : ℝ := ∑ C, I.dproj i C * I.W j C
/-- The gradient at the row. -/
def dx (j : Fin 1024) : ℝ := I.dh i j + normBack 1024 (I.x i) (fun j => I.dxn i j * I.g j) j
/-- What a row adds to the gradient of the gain. -/
def gain (j : Fin 1024) : ℝ := I.dxn i j * (I.x i j * rr 1024 (I.x i))

end Ins

/-! ## Regrouped rows -/

/-- Where the rows that a tile regroups by `n` went. -/
def to4 (p : Fin 512) : Fin 512 := ⟨p.val % 4 * 128 + p.val / 4, by omega⟩
@[inherit_doc to4] def to16 (p : Fin 512) : Fin 512 := ⟨p.val % 16 * 32 + p.val / 16, by omega⟩

theorem sum_to4 (f : Fin 512 → ℝ) (p : Fin 512) : ∑ c, Cert.Out.Math.move4 c p * f c = f (to4 p) := by
  rw [Finset.sum_eq_single (to4 p)]
  · have e : Cert.Out.Math.move4 (to4 p) p = 1 := if_pos rfl
    rw [e, one_mul]
  · intro c _ hc
    have e : Cert.Out.Math.move4 c p = 0 := if_neg (fun e => hc (Fin.ext e))
    rw [e, zero_mul]
  · intro h; exact absurd (Finset.mem_univ _) h
theorem sum_to16 (f : Fin 512 → ℝ) (p : Fin 512) : ∑ c, Cert.Out.Math.move16 c p * f c = f (to16 p) := by
  rw [Finset.sum_eq_single (to16 p)]
  · have e : Cert.Out.Math.move16 (to16 p) p = 1 := if_pos rfl
    rw [e, one_mul]
  · intro c _ hc
    have e : Cert.Out.Math.move16 c p = 0 := if_neg (fun e => hc (Fin.ext e))
    rw [e, zero_mul]
  · intro h; exact absurd (Finset.mem_univ _) h

end Cert.Inp.Math

end
-- ==== Proof.InpHeads.lean ====
/- The head norms and the rotary embedding, backward, as the input projection's gradient computes them on 512 rows. -/
module

public import proofs.«01_k».proof.Proof.Gen.InpBwdIdeal.Skeleton
public import proofs.«01_k».proof.Proof.InpMath

@[expose] public section

set_option maxRecDepth 16384

noncomputable section

namespace Cert.InpBwdIdeal.Kernel

open Cert.InpBwdIdeal Cert.InpBwdIdeal.Gen Idealize.ShloMosaic
open Cert.Lift Cert.Norm Cert.Inp.Math

theorem c_inv64 : Ideal.ofBits .f32 0x3C800000#32 = ((1 / 64 : ℝ) : EReal) := by
  simp [Ideal.ofBits, Ideal.ieee, -EReal.coe_mul]; norm_num
theorem inv64 (a : ℝ) : a * (1 / 64) = a / 64 := mul_one_div a 64
theorem h64 : (0 : ℝ) < 64 := by norm_num

/-- A table of 128 lanes repeated to 512. -/
theorem wide (X : FVec Ideal S512x128 .f32) (i k : Fin 512) :
    concatenate S512x512 1 [⟨S512x128, X⟩, ⟨S512x128, X⟩, ⟨S512x128, X⟩, ⟨S512x128, X⟩] concatenates_S512x128_S512x128_S512x128_S512x128_S512x512_d1 (ix2 i k)
      = X (ix2 i ⟨k.val % 128, by omega⟩) :=
  concatenate_replicate_apply (1 : Fin S512x512.rank) 4 X concatenates_S512x128_S512x128_S512x128_S512x128_S512x512_d1 rfl (ix2 i k) _ rfl
    (Fin.forall_fin_two.mpr ⟨fun _ => rfl, fun h => absurd rfl h⟩)

variable {o v : Fin 512 → Fin 512 → ℝ} {p w : Fin 512 → Fin 128 → ℝ} {g : Fin 64 → ℝ} {a : Fin 512 → Fin 32 → ℝ}
variable {C S P : FVec Ideal S512x128 .f32} {O V X : FVec Ideal S512x512 .f32} {G : FVec Ideal S1x512 .f32} {H : FVec Ideal S1x128 .f32}

section Rotary

theorem first : ∀ k : Fin 512, IntOp.cmpi CmpIPredicate.slt (IntOp.andi (BitVec.ofNat 32 k.val) 63#32) 32#32 = 1#1 ↔ (en k).val < 32 := by
  decide +kernel
theorem first128 : ∀ k : Fin 128, IntOp.cmpi CmpIPredicate.slt (IntOp.andi (BitVec.ofNat 32 k.val) 63#32) 32#32 = 1#1 ↔ (en k).val < 32 := by
  decide +kernel

/-- A table of 128 lanes repeated to 512. -/
def table (X : FVec Ideal S512x128 .f32) : FVec Ideal S512x512 .f32 :=
  concatenate S512x512 1 [⟨S512x128, X⟩, ⟨S512x128, X⟩, ⟨S512x128, X⟩, ⟨S512x128, X⟩] concatenates_S512x128_S512x128_S512x128_S512x128_S512x512_d1
theorem table_eq (X : FVec Ideal S512x128 .f32) (i k : Fin 512) : table X (ix2 i k) = X (ix2 i ⟨k.val % 128, by omega⟩) := wide X i k

/-- The lane that a lane is rotated with, among all lanes. -/
def mt {n : ℕ} (k : Fin n) (h : n = 512 ∨ n = 128) : Fin n := ⟨if k.val % 64 < 32 then k.val + 32 else k.val - 32, by
  rcases h with rfl | rfl <;> split_ifs <;> omega⟩

/-- A row rotated lane by lane with its mates. -/
def turn (O : FVec Ideal S512x512 .f32) : FVec Ideal S512x512 .f32 :=
  select (cmpi .slt (andi (iota .tc S512x512 32 [1] iota_S512x512_d1_w32) (broadcast S512x512 63#32)) (broadcast S512x512 32#32))
    (dynamicRotate 1 480#32 none O rotates_S512x512_d1) (dynamicRotate 1 32#32 none O rotates_S512x512_d1)
@[inherit_doc turn] def turn2 (P : FVec Ideal S512x128 .f32) : FVec Ideal S512x128 .f32 :=
  select k0_pay30 (dynamicRotate 1 96#32 none P rotates_S512x128_d1) (dynamicRotate 1 32#32 none P rotates_S512x128_d1)

theorem turn_eq (O : FVec Ideal S512x512 .f32) (i k : Fin 512) : turn O (ix2 i k) = O (ix2 i (mt k (.inl rfl))) := by
  pointwise [turn]
  refine (if_congr (first k) rfl rfl).trans ?_
  by_cases h : (en k).val < 32
  · have h' : k.val % 64 < 32 := h
    rw [if_pos h]
    exact congrArg (fun q => O (ix2 i q)) (Fin.ext (by
      show (k.val + 512 - 480) % 512 = if k.val % 64 < 32 then k.val + 32 else k.val - 32
      rw [if_pos h']; omega))
  · have h' : ¬ k.val % 64 < 32 := h
    rw [if_neg h]
    exact congrArg (fun q => O (ix2 i q)) (Fin.ext (by
      show (k.val + 512 - 32) % 512 = if k.val % 64 < 32 then k.val + 32 else k.val - 32
      rw [if_neg h']; omega))

theorem turn2_eq (P : FVec Ideal S512x128 .f32) (i : Fin 512) (k : Fin 128) : turn2 P (ix2 i k) = P (ix2 i (mt k (.inr rfl))) := by
  pointwise [turn2, k0_pay30]
  refine (if_congr (first128 k) rfl rfl).trans ?_
  by_cases h : (en k).val < 32
  · have h' : k.val % 64 < 32 := h
    rw [if_pos h]
    exact congrArg (fun q => P (ix2 i q)) (Fin.ext (by
      show (k.val + 128 - 96) % 128 = if k.val % 64 < 32 then k.val + 32 else k.val - 32
      rw [if_pos h']; omega))
  · have h' : ¬ k.val % 64 < 32 := h
    rw [if_neg h]
    exact congrArg (fun q => P (ix2 i q)) (Fin.ext (by
      show (k.val + 128 - 32) % 128 = if k.val % 64 < 32 then k.val + 32 else k.val - 32
      rw [if_neg h']; omega))

theorem pay11_turn (C S : FVec Ideal S512x128 .f32) (O : FVec Ideal S512x512 .f32) :
    k0_pay11 C S O = subf (mulf O (table (k0_pay6 C))) (mulf (turn O) (table (k0_pay7 S))) := rfl
theorem pay31_turn (S P A : FVec Ideal S512x128 .f32) :
    k0_pay31 S P A k0_pay30 96#32 = subf A (mulf (turn2 P) S) := rfl

variable (hC : ∀ i k, C (ix2 i k) = ((Real.cos (a i (fold (en k))) : ℝ) : EReal))
  (hS : ∀ i k, S (ix2 i k) = ((sgn (fun d => Real.sin (a i d)) (en k) : ℝ) : EReal))
include hC hS

/-- The gradient before the rotation of the eight heads. -/
theorem pay11 (hO : ∀ i k, O (ix2 i k) = ((o i k : ℝ) : EReal)) (i k : Fin 512) :
    k0_pay11 (F := Ideal) C S O (ix2 i k) = ((back (a i) (of8 (o i) (hd8 k)) (en k) : ℝ) : EReal) := by
  have e : (⟨k.val % 128 % 64, by omega⟩ : Fin 64) = en k := Fin.ext (by show k.val % 128 % 64 = k.val % 64; omega)
  have e1 : of8 (o i) (hd8 k) (mate (en k)) = o i (mt k (.inl rfl)) := congrArg (o i) (Fin.ext (by
    show k.val / 64 * 64 + (k.val % 64 + 32) % 64 = if k.val % 64 < 32 then k.val + 32 else k.val - 32
    split_ifs <;> omega))
  have e2 : (en (⟨k.val % 128, by omega⟩ : Fin 128)) = en k := e
  rw [pay11_turn]
  pointwise []
  simp only [table_eq, turn_eq]
  pointwise [k0_pay6, k0_pay7]
  simp only [hC, hS, hO, ← EReal.coe_mul, ← EReal.coe_sub, e2]
  rw [back, of8_en, e1]

/-- The gradient before the rotation of the two heads. -/
theorem pay31 (hP : ∀ i k, P (ix2 i k) = ((p i k : ℝ) : EReal)) (i : Fin 512) (k : Fin 128) :
    k0_pay31 (F := Ideal) S P (k0_pay29 C P) k0_pay30 96#32 (ix2 i k) = ((back (a i) (of2 (p i) (hd2 k)) (en k) : ℝ) : EReal) := by
  have e1 : of2 (p i) (hd2 k) (mate (en k)) = p i (mt k (.inr rfl)) := congrArg (p i) (Fin.ext (by
    show k.val / 64 * 64 + (k.val % 64 + 32) % 64 = if k.val % 64 < 32 then k.val + 32 else k.val - 32
    split_ifs <;> omega))
  rw [pay31_turn]
  pointwise [k0_pay29]
  simp only [turn2_eq, hC, hS, hP, ← EReal.coe_mul, ← EReal.coe_sub]
  rw [back, of2_en, e1]

end Rotary

section Sums

/-- Which head an entry lies in, as the kernel finds it. -/
theorem word : ∀ k : Fin 512, IntOp.shrsi ArithUnit.vector (BitVec.ofNat 32 k.val) 6#32 = BitVec.ofNat 32 (hd8 k).val := by decide +kernel
theorem lanes (i k : Fin 512) : k0_pay21 (ix2 i k) = BitVec.ofNat 32 (hd8 k).val := by
  pointwise [k0_pay21]
  exact word k
theorem word128 : ∀ k : Fin 128, IntOp.shrsi ArithUnit.vector (BitVec.ofNat 32 k.val) 6#32 = BitVec.ofNat 32 (hd2 k).val := by decide +kernel
theorem lanes128 (i : Fin 512) (k : Fin 128) : k0_pay36 (ix2 i k) = BitVec.ofNat 32 (hd2 k).val := by
  pointwise [k0_pay36]
  exact word128 k

theorem bit : ∀ a h : Fin 8, (IntOp.cmpi CmpIPredicate.eq (BitVec.ofNat 32 a.val) (BitVec.ofNat 32 h.val)) = 1#1 ↔ a = h := by decide +kernel
theorem bit2 : ∀ a h : Fin 2, (IntOp.cmpi CmpIPredicate.eq (BitVec.ofNat 32 a.val) (BitVec.ofNat 32 h.val)) = 1#1 ↔ a = h := by decide +kernel

/-- The sum over head `h` of an array's row, as the kernel computes it. -/
abbrev red (X : FVec Ideal S512x512 .f32) (h : BitVec 32) : FVec Ideal S512x1 .f32 :=
  shapeCast S512x1 (multiReduction .add [1] S512 (select (cmpi .eq k0_pay21 (broadcast S512x512 h)) X
    (broadcast S512x512 (Scalar.ofBits (F := Ideal) .f32 0x00000000#32))) 0x00000000#32 reduces_S512x512_S512 (.inl rfl) rfl) shapeCasts_S512_S512x1
@[inherit_doc red] abbrev red2 (X : FVec Ideal S512x128 .f32) (h : BitVec 32) : FVec Ideal S512x1 .f32 :=
  shapeCast S512x1 (multiReduction .add [1] S512 (select (cmpi .eq k0_pay36 (broadcast S512x128 h)) X
    (broadcast S512x128 (Scalar.ofBits (F := Ideal) .f32 0x00000000#32))) 0x00000000#32 reduces_S512x128_S512 (.inl rfl) rfl) shapeCasts_S512_S512x1

/-- One head's sum put on that head's lanes. -/
abbrev put (X Q : FVec Ideal S512x512 .f32) (h : BitVec 32) : FVec Ideal S512x512 .f32 :=
  select (cmpi .eq k0_pay21 (broadcast S512x512 h))
    (broadcastTo S512x512 (shapeCast S512x1 (red X h) shapeCasts_S512x1_S512x1) broadcasts_S512x1_S512x512) Q
@[inherit_doc put] abbrev put2 (X Q : FVec Ideal S512x128 .f32) (h : BitVec 32) : FVec Ideal S512x128 .f32 :=
  select (cmpi .eq k0_pay36 (broadcast S512x128 h))
    (broadcastTo S512x128 (shapeCast S512x1 (red2 X h) shapeCasts_S512x1_S512x1) broadcasts_S512x1_S512x128) Q

theorem put_eq (h : Fin 8) (X Q : FVec Ideal S512x512 .f32) (i k : Fin 512) :
    put X Q (BitVec.ofNat 32 h.val) (ix2 i k) = if hd8 k = h then red X (BitVec.ofNat 32 h.val) (ix2 i 0) else Q (ix2 i k) := by
  pointwise [put]
  rw [lanes i k]
  exact if_congr (bit _ _) rfl rfl
theorem put2_eq (h : Fin 2) (X Q : FVec Ideal S512x128 .f32) (i : Fin 512) (k : Fin 128) :
    put2 X Q (BitVec.ofNat 32 h.val) (ix2 i k) = if hd2 k = h then red2 X (BitVec.ofNat 32 h.val) (ix2 i 0) else Q (ix2 i k) := by
  pointwise [put2]
  rw [lanes128 i k]
  exact if_congr (bit2 _ _) rfl rfl

theorem red_eq {x : Fin 512 → Fin 512 → ℝ} (hX : ∀ i k, X (ix2 i k) = ((x i k : ℝ) : EReal)) (h : Fin 8) (i : Fin 512) (j : Fin 1) :
    red X (BitVec.ofNat 32 h.val) (ix2 i j) = ((∑ l, of8 (x i) h l : ℝ) : EReal) := by
  pointwise [red]
  simp only [lanes, hX]
  rw [← sum_hd8, ← coe_sum]
  refine Finset.sum_congr rfl fun k _ => ?_
  refine (if_congr (bit _ _) rfl rfl).trans ?_
  split_ifs <;> rfl
theorem red2_eq {x : Fin 512 → Fin 128 → ℝ} (hX : ∀ i k, P (ix2 i k) = ((x i k : ℝ) : EReal)) (h : Fin 2) (i : Fin 512) (j : Fin 1) :
    red2 P (BitVec.ofNat 32 h.val) (ix2 i j) = ((∑ l, of2 (x i) h l : ℝ) : EReal) := by
  pointwise [red2]
  simp only [lanes128, hX]
  rw [← sum_hd2, ← coe_sum]
  refine Finset.sum_congr rfl fun k _ => ?_
  refine (if_congr (bit2 _ _) rfl rfl).trans ?_
  split_ifs <;> rfl

/-- Every head's sum, spread over its head. -/
def spread (X : FVec Ideal S512x512 .f32) : FVec Ideal S512x512 .f32 :=
  put X (put X (put X (put X (put X (put X (put X (put X k0_pay22
    (BitVec.ofNat 32 (0 : Fin 8).val)) (BitVec.ofNat 32 (1 : Fin 8).val)) (BitVec.ofNat 32 (2 : Fin 8).val)) (BitVec.ofNat 32 (3 : Fin 8).val))
    (BitVec.ofNat 32 (4 : Fin 8).val)) (BitVec.ofNat 32 (5 : Fin 8).val)) (BitVec.ofNat 32 (6 : Fin 8).val)) (BitVec.ofNat 32 (7 : Fin 8).val)
@[inherit_doc spread] def spread2 (X : FVec Ideal S512x128 .f32) : FVec Ideal S512x128 .f32 :=
  put2 X (put2 X k0_pay37 (BitVec.ofNat 32 (0 : Fin 2).val)) (BitVec.ofNat 32 (1 : Fin 2).val)

theorem spread_eq {x : Fin 512 → Fin 512 → ℝ} (hX : ∀ i k, X (ix2 i k) = ((x i k : ℝ) : EReal)) (i k : Fin 512) :
    spread X (ix2 i k) = ((∑ l, of8 (x i) (hd8 k) l : ℝ) : EReal) := by
  unfold spread
  simp only [put_eq, red_eq hX]
  generalize hd8 k = q
  fin_cases q <;> rfl
theorem spread2_eq {x : Fin 512 → Fin 128 → ℝ} (hX : ∀ i k, P (ix2 i k) = ((x i k : ℝ) : EReal)) (i : Fin 512) (k : Fin 128) :
    spread2 P (ix2 i k) = ((∑ l, of2 (x i) (hd2 k) l : ℝ) : EReal) := by
  unfold spread2
  simp only [put2_eq, red2_eq hX]
  generalize hd2 k = q
  fin_cases q <;> rfl

end Sums

/-- The reciprocal root mean squares of the eight heads. -/
abbrev rq (V : FVec Ideal S512x512 .f32) : FVec Ideal S512x512 .f32 :=
  k0_pay17 (k0_pay12 V) (k0_pay13 (iota .tc S512x512 32 [1] iota_S512x512_d1_w32)) (k0_pay14 (k0_pay12 V) (iota .tc S512x512 32 [1] iota_S512x512_d1_w32))
    (k0_pay15 (iota .tc S512x512 32 [1] iota_S512x512_d1_w32)) (k0_pay16 (k0_pay12 V) (iota .tc S512x512 32 [1] iota_S512x512_d1_w32))

theorem rq_spread (V : FVec Ideal S512x512 .f32) : rq V = rsqrt (addf (mulf (spread (k0_pay12 V)) (broadcast S512x512 (Scalar.ofBits .f32 0x3C800000#32)))
    (broadcast S512x512 (Scalar.ofBits .f32 0x358637BD#32))) := rfl

theorem rq_eq (hV : ∀ i k, V (ix2 i k) = ((v i k : ℝ) : EReal)) (i k : Fin 512) :
    rq V (ix2 i k) = ((rr 64 (of8 (v i) (hd8 k)) : ℝ) : EReal) := by
  have h12 : ∀ i k, k0_pay12 (F := Ideal) V (ix2 i k) = ((v i k * v i k : ℝ) : EReal) := fun i k => by
    pointwise [k0_pay12, k0_pay10]
    simp only [hV, ← EReal.coe_mul]
  rw [rq_spread]
  pointwise []
  simp only [spread_eq h12, c_inv64, c_eps, ← EReal.coe_mul, ← EReal.coe_add, inv64]
  exact rsqrt_ms h64 (of8 (v i) (hd8 k))

theorem pay32_spread (P : FVec Ideal S512x128 .f32) : k0_pay32 P = rsqrt (addf (mulf (spread2 (mulf P P)) (broadcast S512x128 (Scalar.ofBits .f32 0x3C800000#32)))
    (broadcast S512x128 (Scalar.ofBits .f32 0x358637BD#32))) := rfl

theorem pay32 (hP : ∀ i k, P (ix2 i k) = ((p i k : ℝ) : EReal)) (i : Fin 512) (k : Fin 128) :
    k0_pay32 P (ix2 i k) = ((rr 64 (of2 (p i) (hd2 k)) : ℝ) : EReal) := by
  have h12 : ∀ i k, mulf P P (ix2 i k) = ((p i k * p i k : ℝ) : EReal) := fun i k => by
    pointwise []
    simp only [hP, ← EReal.coe_mul]
  rw [pay32_spread]
  pointwise []
  simp only [spread2_eq h12, c_inv64, c_eps, ← EReal.coe_mul, ← EReal.coe_add, inv64]
  exact rsqrt_ms h64 (of2 (p i) (hd2 k))

section Back

/-- The eight heads' entries over their roots, the scaled gradients, and the gradient at the entries. -/
abbrev xq (V : FVec Ideal S512x512 .f32) : FVec Ideal S512x512 .f32 := mulf (k0_pay10 V) (rq V)
@[inherit_doc xq] abbrev aq (V D : FVec Ideal S512x512 .f32) (G : FVec Ideal S1x512 .f32) : FVec Ideal S512x512 .f32 :=
  mulf (k0_pay19 G D) (xq V)
@[inherit_doc xq] abbrev bq (V D : FVec Ideal S512x512 .f32) (G : FVec Ideal S1x512 .f32) : FVec Ideal S512x512 .f32 :=
  k0_pay26 (rq V) (xq V) (k0_pay19 G D) (aq V D G) k0_pay21 (k0_pay24 (aq V D G) k0_pay21 k0_pay22 k0_pay23) k0_pay25

theorem bq_spread (V D : FVec Ideal S512x512 .f32) (G : FVec Ideal S1x512 .f32) : bq V D G
    = mulf (rq V) (subf (k0_pay19 G D) (mulf (xq V) (mulf (spread (aq V D G)) (broadcast S512x512 (Scalar.ofBits .f32 0x3C800000#32))))) := rfl

variable {d : Fin 512 → Fin 512 → ℝ} {D : FVec Ideal S512x512 .f32}
  (hV : ∀ i k, V (ix2 i k) = ((v i k : ℝ) : EReal)) (hD : ∀ i k, D (ix2 i k) = ((d i k : ℝ) : EReal))
  (hG : ∀ k, G (ix2 0 k) = ((g (en k) : ℝ) : EReal))

include hV in
theorem xq_eq (i k : Fin 512) : xq V (ix2 i k) = ((v i k * rr 64 (of8 (v i) (hd8 k)) : ℝ) : EReal) := by
  rw [show xq V (ix2 i k) = k0_pay10 V (ix2 i k) * rq V (ix2 i k) from rfl, rq_eq hV]
  pointwise [k0_pay10]
  rw [hV, ← EReal.coe_mul]

include hD hG in
theorem pay19 (i k : Fin 512) : k0_pay19 G D (ix2 i k) = ((d i k * g (en k) : ℝ) : EReal) := by
  pointwise [k0_pay19]
  rw [hD, hG, ← EReal.coe_mul]

include hV hD hG in
/-- The gradient at the entries of the eight heads. -/
theorem bq_eq (i k : Fin 512) : bq V D G (ix2 i k) = ((normBack 64 (of8 (v i) (hd8 k)) (fun l => of8 (d i) (hd8 k) l * g l) (en k) : ℝ) : EReal) := by
  have ha : ∀ i k, aq V D G (ix2 i k) = ((d i k * g (en k) * (v i k * rr 64 (of8 (v i) (hd8 k))) : ℝ) : EReal) := fun i k => by
    rw [show aq V D G (ix2 i k) = k0_pay19 G D (ix2 i k) * xq V (ix2 i k) from rfl, pay19 hD hG, xq_eq hV, ← EReal.coe_mul]
  have hs : ∀ l, of8 (fun k => d i k * g (en k) * (v i k * rr 64 (of8 (v i) (hd8 k)))) (hd8 k) l
      = of8 (d i) (hd8 k) l * g l * (of8 (v i) (hd8 k) l * rr 64 (of8 (v i) (hd8 k))) := fun l => by
    have e : hd8 (⟨(hd8 k).val * 64 + l.val, by omega⟩ : Fin 512) = hd8 k := Fin.ext (by show ((hd8 k).val * 64 + l.val) / 64 = (hd8 k).val; omega)
    have e' : en (⟨(hd8 k).val * 64 + l.val, by omega⟩ : Fin 512) = l := Fin.ext (by show ((hd8 k).val * 64 + l.val) % 64 = l.val; omega)
    simp only [of8, e, e']
  have e : bq V D G (ix2 i k) = rq V (ix2 i k) * (k0_pay19 G D (ix2 i k)
      - xq V (ix2 i k) * (spread (aq V D G) (ix2 i k) * Ideal.ofBits .f32 0x3C800000#32)) := congrFun (bq_spread V D G) (ix2 i k)
  rw [e, rq_eq hV, pay19 hD hG, xq_eq hV, spread_eq ha, c_inv64]
  simp only [← EReal.coe_mul, ← EReal.coe_sub, inv64, hs]
  rw [normBack, of8_en, of8_en]

include hV hD in
/-- What 512 rows add to the gradient of the eight heads' gain. -/
theorem pay27 (i : Fin 1) (k : Fin 512) : k0_pay27 D (xq V) (ix2 i k) = ((∑ r, d r k * (v r k * rr 64 (of8 (v r) (hd8 k))) : ℝ) : EReal) := by
  pointwise [k0_pay27]
  have h : ∀ r, xq V (ix2 r k) = ((v r k * rr 64 (of8 (v r) (hd8 k)) : ℝ) : EReal) := fun r => xq_eq hV r k
  pointwise [xq] at h
  simp only [hD, h, ← EReal.coe_mul, coe_sum]

variable {y : Fin 512 → Fin 128 → ℝ} {Y : FVec Ideal S512x128 .f32}
  (hP : ∀ i k, P (ix2 i k) = ((p i k : ℝ) : EReal)) (hY : ∀ i k, Y (ix2 i k) = ((y i k : ℝ) : EReal))
  (hH : ∀ k, H (ix2 0 k) = ((g (en k) : ℝ) : EReal))

/-- The scaled gradients of the two heads, and the gradient at their entries. -/
abbrev sk (Y : FVec Ideal S512x128 .f32) (H : FVec Ideal S1x128 .f32) : FVec Ideal S512x128 .f32 := mulf Y (broadcastTo S512x128 H broadcasts_S1x128_S512x128)
@[inherit_doc sk] abbrev ak (P Y : FVec Ideal S512x128 .f32) (H : FVec Ideal S1x128 .f32) : FVec Ideal S512x128 .f32 := mulf (sk Y H) (k0_pay33 P)
@[inherit_doc sk] abbrev bk (P Y : FVec Ideal S512x128 .f32) (H : FVec Ideal S1x128 .f32) : FVec Ideal S512x128 .bf16 :=
  k0_pay43 (k0_pay32 P) (k0_pay33 P) (sk Y H) (ak P Y H) k0_pay36 k0_pay37 k0_pay38
    (select k0_pay38 (ak P Y H) (broadcast S512x128 (Scalar.ofBits .f32 0x00000000#32)))

theorem bk_spread (P Y : FVec Ideal S512x128 .f32) (H : FVec Ideal S1x128 .f32) : bk P Y H
    = truncf .bf16 (mulf (k0_pay32 P) (subf (sk Y H) (mulf (k0_pay33 P) (mulf (spread2 (ak P Y H)) (broadcast S512x128 (Scalar.ofBits .f32 0x3C800000#32))))))
      bitsLt_bf16_f32 := rfl

include hP in
theorem pay33 (i : Fin 512) (k : Fin 128) : k0_pay33 P (ix2 i k) = ((p i k * rr 64 (of2 (p i) (hd2 k)) : ℝ) : EReal) := by
  rw [show k0_pay33 P (ix2 i k) = P (ix2 i k) * k0_pay32 P (ix2 i k) from rfl, pay32 hP, hP, ← EReal.coe_mul]

include hY hH in
theorem sk_eq (i : Fin 512) (k : Fin 128) : sk Y H (ix2 i k) = ((y i k * g (en k) : ℝ) : EReal) := by
  pointwise [sk]
  rw [hY, hH, ← EReal.coe_mul]

include hP hY hH in
/-- The gradient at the entries of the two heads. -/
theorem bk_eq (i : Fin 512) (k : Fin 128) : bk P Y H (ix2 i k) = ((normBack 64 (of2 (p i) (hd2 k)) (fun l => of2 (y i) (hd2 k) l * g l) (en k) : ℝ) : EReal) := by
  have ha : ∀ i k, ak P Y H (ix2 i k) = ((y i k * g (en k) * (p i k * rr 64 (of2 (p i) (hd2 k))) : ℝ) : EReal) := fun i k => by
    rw [show ak P Y H (ix2 i k) = sk Y H (ix2 i k) * k0_pay33 P (ix2 i k) from rfl, sk_eq hY hH, pay33 hP, ← EReal.coe_mul]
  have hs : ∀ l, of2 (fun k => y i k * g (en k) * (p i k * rr 64 (of2 (p i) (hd2 k)))) (hd2 k) l
      = of2 (y i) (hd2 k) l * g l * (of2 (p i) (hd2 k) l * rr 64 (of2 (p i) (hd2 k))) := fun l => by
    have e : hd2 (⟨(hd2 k).val * 64 + l.val, by omega⟩ : Fin 128) = hd2 k := Fin.ext (by show ((hd2 k).val * 64 + l.val) / 64 = (hd2 k).val; omega)
    have e' : en (⟨(hd2 k).val * 64 + l.val, by omega⟩ : Fin 128) = l := Fin.ext (by show ((hd2 k).val * 64 + l.val) % 64 = l.val; omega)
    simp only [of2, e, e']
  have e : bk P Y H (ix2 i k) = k0_pay32 P (ix2 i k) * (sk Y H (ix2 i k)
      - k0_pay33 P (ix2 i k) * (spread2 (ak P Y H) (ix2 i k) * Ideal.ofBits .f32 0x3C800000#32)) := congrFun (bk_spread P Y H) (ix2 i k)
  rw [e, pay32 hP, sk_eq hY hH, pay33 hP, spread2_eq ha, c_inv64]
  simp only [← EReal.coe_mul, ← EReal.coe_sub, inv64, hs]
  rw [normBack, of2_en, of2_en]

include hP hY in
/-- What 512 rows add to the gradient of the two heads' gain. -/
theorem pay41 (L : FVec Ideal S1x128 .f32) (i : Fin 1) (k : Fin 128) : k0_pay41 Y (k0_pay33 P) L (ix2 i k)
    = L (ix2 i k) + ((∑ r, y r k * (p r k * rr 64 (of2 (p r) (hd2 k))) : ℝ) : EReal) := by
  pointwise [k0_pay41]
  simp only [hY, pay33 hP, ← EReal.coe_mul, coe_sum]

end Back

end Cert.InpBwdIdeal.Kernel

end
-- ==== Proof.InpKernel.lean ====
/- The regrouped parts and the projection, backward, as the input projection's gradient computes them on 512 rows. -/
module

public import proofs.«01_k».proof.Proof.InpHeads

@[expose] public section

set_option maxRecDepth 16384

noncomputable section

namespace Cert.InpBwdIdeal.Kernel

open Cert.InpBwdIdeal Cert.InpBwdIdeal.Gen Idealize.ShloMosaic
open Cert.Lift Cert.Norm Cert.Inp.Math
open Cert.Out.Math (move4 move16)

section Merge

/-- Four stretches of rows on top of each other, and sixteen. -/
def stack4 (w : Fin 4 → FVec Ideal S128x512 .bf16) : FVec Ideal S512x512 .bf16 :=
  concatenate S512x512 0 [⟨S128x512, w 0⟩, ⟨S128x512, w 1⟩, ⟨S128x512, w 2⟩, ⟨S128x512, w 3⟩] concatenates_S128x512_S128x512_S128x512_S128x512_S512x512_d0
@[inherit_doc stack4] def stack16 (w : Fin 16 → FVec Ideal S32x512 .bf16) : FVec Ideal S512x512 .bf16 :=
  concatenate S512x512 0 [⟨S32x512, w 0⟩, ⟨S32x512, w 1⟩, ⟨S32x512, w 2⟩, ⟨S32x512, w 3⟩, ⟨S32x512, w 4⟩, ⟨S32x512, w 5⟩, ⟨S32x512, w 6⟩, ⟨S32x512, w 7⟩,
    ⟨S32x512, w 8⟩, ⟨S32x512, w 9⟩, ⟨S32x512, w 10⟩, ⟨S32x512, w 11⟩, ⟨S32x512, w 12⟩, ⟨S32x512, w 13⟩, ⟨S32x512, w 14⟩, ⟨S32x512, w 15⟩]
    concatenates_S32x512_S32x512_S32x512_S32x512_S32x512_S32x512_S32x512_S32x512_S32x512_S32x512_S32x512_S32x512_S32x512_S32x512_S32x512_S32x512_S512x512_d0

theorem stack4_eq (w : Fin 4 → FVec Ideal S128x512 .bf16) (c k : Fin 512) :
    stack4 w (ix2 c k) = w ⟨c.val / 128, by omega⟩ (ix2 ⟨c.val % 128, by omega⟩ k) :=
  concatenate_ofFn_apply (0 : Fin S512x512.rank) w concatenates_S128x512_S128x512_S128x512_S128x512_S512x512_d0 rfl 128 rfl (ix2 c k) _ rfl _ rfl
    (Fin.forall_fin_two.mpr ⟨fun h => absurd rfl h, fun _ => rfl⟩)
theorem stack16_eq (w : Fin 16 → FVec Ideal S32x512 .bf16) (c k : Fin 512) :
    stack16 w (ix2 c k) = w ⟨c.val / 32, by omega⟩ (ix2 ⟨c.val % 32, by omega⟩ k) :=
  concatenate_ofFn_apply (0 : Fin S512x512.rank) w
    concatenates_S32x512_S32x512_S32x512_S32x512_S32x512_S32x512_S32x512_S32x512_S32x512_S32x512_S32x512_S32x512_S32x512_S32x512_S32x512_S32x512_S512x512_d0
    rfl 32 rfl (ix2 c k) _ rfl _ rfl (Fin.forall_fin_two.mpr ⟨fun h => absurd rfl h, fun _ => rfl⟩)

/-- A part of the projection's gradient: one array in token order and two regrouped ones. -/
def merge (O P Q : FVec Ideal S512x512 .bf16) (w : Fin 4 → FVec Ideal S128x512 .bf16) (z : Fin 16 → FVec Ideal S32x512 .bf16) : FVec Ideal S512x512 .bf16 :=
  k0_pay53 (k0_pay45 O (w 0) (w 1) (w 2) (w 3) P) (k0_pay46 (z 0)) (k0_pay47 (z 1)) (k0_pay48 (z 2)) (k0_pay49 (z 3)) (k0_pay50 (z 4)) (k0_pay51 (z 5)) (k0_pay52 (z 6))
    (z 7) (z 8) (z 9) (z 10) (z 11) (z 12) (z 13) (z 14) (z 15) Q

theorem same {s : Shape} {e : FTy} (x : FVec Ideal s e) (h : s.ShapeCasts s) : shapeCast s x h = x := by
  funext i
  pointwise []

theorem merge_stack (O P Q : FVec Ideal S512x512 .bf16) (w : Fin 4 → FVec Ideal S128x512 .bf16) (z : Fin 16 → FVec Ideal S32x512 .bf16) : merge O P Q w z
    = truncf .bf16 (addf (addf (extf .f32 O bitsLt_bf16_f32)
        (matmul dot_S512x512_S512x512_S512x512_1_0_0_1_n_n none P (stack4 w) (constant S512x512 .f32 0x00000000#32)))
        (matmul dot_S512x512_S512x512_S512x512_1_0_0_1_n_n none Q (stack16 z) (constant S512x512 .f32 0x00000000#32))) bitsLt_bf16_f32 := by
  unfold merge k0_pay53 k0_pay45 k0_pay46 k0_pay47 k0_pay48 k0_pay49 k0_pay50 k0_pay51 k0_pay52
  have e4 : stack4 (fun q => shapeCast S128x512 (w q) shapeCasts_S128x512_S128x512) = stack4 w := congrArg stack4 (funext fun q => same _ _)
  have e16 : stack16 (fun q => shapeCast S32x512 (z q) shapeCasts_S32x512_S32x512) = stack16 z := congrArg stack16 (funext fun q => same _ _)
  simp only [same]
  rw [← e4, ← e16]
  rfl

variable {o b c : Fin 512 → Fin 512 → ℝ} {O P Q : FVec Ideal S512x512 .bf16} {w : Fin 4 → FVec Ideal S128x512 .bf16} {z : Fin 16 → FVec Ideal S32x512 .bf16}

/-- A merged part: each token's three entries added. -/
theorem merge_eq (hO : ∀ i k, O (ix2 i k) = ((o i k : ℝ) : EReal)) (hP : ∀ p q, P (ix2 p q) = ((move4 q p : ℝ) : EReal))
    (hQ : ∀ p q, Q (ix2 p q) = ((move16 q p : ℝ) : EReal)) (hw : ∀ (q : Fin 4) (r : Fin 128) k, w q (ix2 r k) = ((b ⟨4 * r.val + q.val, by omega⟩ k : ℝ) : EReal))
    (hz : ∀ (q : Fin 16) (r : Fin 32) k, z q (ix2 r k) = ((c ⟨16 * r.val + q.val, by omega⟩ k : ℝ) : EReal)) (i k : Fin 512) :
    merge O P Q w z (ix2 i k) = ((o i k + b i k + c i k : ℝ) : EReal) := by
  rw [merge_stack]
  pointwise []
  simp only [hO, hP, hQ, stack4_eq, stack16_eq, hw, hz, zero_coe, ← EReal.coe_mul, ← EReal.coe_add, zero_add, coe_sum]
  rw [sum_to4 (fun x => b ⟨4 * (x.val % 128) + x.val / 128, by omega⟩ k), sum_to16 (fun x => c ⟨16 * (x.val % 32) + x.val / 32, by omega⟩ k)]
  refine congrArg _ (congrArg₂ _ (congrArg₂ _ rfl (congrArg (fun q => b q k) (Fin.ext ?_))) (congrArg (fun q => c q k) (Fin.ext ?_)))
  · show 4 * ((i.val % 4 * 128 + i.val / 4) % 128) + (i.val % 4 * 128 + i.val / 4) / 128 = i.val
    omega
  · show 16 * ((i.val % 16 * 32 + i.val / 16) % 32) + (i.val % 16 * 32 + i.val / 16) / 32 = i.val
    omega

/-- The three parts are merged alike. -/
theorem merge2_eq (O P Q : FVec Ideal S512x512 .bf16) (w : Fin 4 → FVec Ideal S128x512 .bf16) (z : Fin 16 → FVec Ideal S32x512 .bf16) :
    k0_pay69 (k0_pay57 (k0_pay54 O) (k0_pay55 (w 0)) (k0_pay56 (w 1)) (w 2) (w 3) P) (k0_pay58 (z 0)) (k0_pay59 (z 1)) (k0_pay60 (z 2)) (k0_pay61 (z 3)) (k0_pay62 (z 4))
      (k0_pay63 (z 5)) (k0_pay64 (z 6)) (k0_pay65 (z 7)) (k0_pay66 (z 8)) (k0_pay67 (z 9)) (k0_pay68 (z 10)) (z 11) (z 12) (z 13) (z 14) (z 15) Q = merge O P Q w z := rfl
@[inherit_doc merge2_eq] theorem merge3_eq (O P Q : FVec Ideal S512x512 .bf16) (w : Fin 4 → FVec Ideal S128x512 .bf16) (z : Fin 16 → FVec Ideal S32x512 .bf16) :
    k0_pay88 (k0_pay73 (k0_pay70 O) (k0_pay71 (w 0) (w 1) (w 2) (w 3)) (k0_pay72 P) (constant S512x512 .f32 0x00000000#32)) (k0_pay74 (z 0)) (k0_pay75 (z 1)) (k0_pay76 (z 2))
      (k0_pay77 (z 3)) (k0_pay78 (z 4)) (k0_pay79 (z 5)) (k0_pay80 (z 6)) (k0_pay81 (z 7)) (k0_pay82 (z 8)) (k0_pay83 (z 9)) (k0_pay84 (z 10)) (k0_pay85 (z 11)) (k0_pay86 (z 12))
      (k0_pay87 (z 13)) (z 14) (z 15) Q = merge O P Q w z := rfl

end Merge

section Norm

theorem div1024 (a : ℝ) : Ideal.div (a : EReal) ((1024 : ℝ) : EReal) = ((a / 1024 : ℝ) : EReal) := div_coe_coe (by norm_num)
theorem h1024 : (0 : ℝ) < 1024 := by norm_num

variable {x h : Fin 512 → Fin 1024 → ℝ} {g : Fin 1024 → ℝ} {e : Fin 512 → Fin 2304 → ℝ} {M : Fin 1024 → Fin 2304 → ℝ}
variable {X H : FVec Ideal S512x1024 .f32} {G : FVec Ideal S1x1024 .f32} {D : FVec Ideal S512x2304 .bf16} {W : FVec Ideal S1024x2304 .bf16}
  (hX : ∀ i j, X (ix2 i j) = ((x i j : ℝ) : EReal)) (hG : ∀ j, G (ix2 0 j) = ((g j : ℝ) : EReal))
  (hD : ∀ i c, D (ix2 i c) = ((e i c : ℝ) : EReal)) (hW : ∀ j c, W (ix2 j c) = ((M j c : ℝ) : EReal))

include hD hW in
/-- The gradient at the normed rows. -/
theorem pay89 (i : Fin 512) (j : Fin 1024) : k0_pay89 (F := Ideal) D W (ix2 i j) = ((∑ c, e i c * M j c : ℝ) : EReal) := by
  pointwise [k0_pay89]
  simp only [hD, hW, zero_coe, ← EReal.coe_mul, ← EReal.coe_add, zero_add, coe_sum]

include hX in
theorem pay90 (i : Fin 512) (j : Fin 1) : k0_pay90 (F := Ideal) X (ix2 i j) = ((rr 1024 (x i) : ℝ) : EReal) := by
  pointwise [k0_pay90]
  simp only [hX, c_1024, c_eps, ← EReal.coe_mul, ← EReal.coe_add, coe_sum, div1024, rsqrt_ms h1024]

include hX in
theorem pay91 (i : Fin 512) (j : Fin 1024) : k0_pay91 (F := Ideal) X (ix2 i j) = ((x i j * rr 1024 (x i) : ℝ) : EReal) := by
  pointwise [k0_pay91]
  simp only [hX, pay90 hX, ← EReal.coe_mul]

include hX hG hD hW in
/-- The gradient at the rows. -/
theorem pay2 (hH : ∀ i j, H (ix2 i j) = ((h i j : ℝ) : EReal)) (i : Fin 512) (j : Fin 1024) :
    k0_pay2 (F := Ideal) (k0_pay90 X) (k0_pay92 D W X G) H (ix2 i j)
      = ((h i j + normBack 1024 (x i) (fun j => (∑ c, e i c * M j c) * g j) j : ℝ) : EReal) := by
  pointwise [k0_pay2, k0_pay92]
  simp only [hH, hG, pay89 hD hW, pay90 hX, pay91 hX, c_1024, ← EReal.coe_mul, ← EReal.coe_sub, ← EReal.coe_add, coe_sum, div1024, normBack]

include hX hD hW in
/-- What 512 rows add to the gradient of the gain. -/
theorem pay1 (L : FVec Ideal S1x1024 .f32) (i : Fin 1) (j : Fin 1024) : k0_pay1 (F := Ideal) (k0_pay89 D W) (k0_pay91 X) L (ix2 i j)
    = L (ix2 i j) + ((∑ r, (∑ c, e r c * M j c) * (x r j * rr 1024 (x r)) : ℝ) : EReal) := by
  pointwise [k0_pay1]
  simp only [pay89 hD hW, pay91 hX, ← EReal.coe_mul, coe_sum]

end Norm

/-- A block of the second and third inputs, as rows. -/
theorem pay8 (X : FVec Ideal S2x1x64x512 .f32) (i : Fin 512) (k : Fin 128) : k0_pay8 (F := Ideal) X (ix2 i k) = X (ix4 (hd2 k) 0 (en k) i) := by
  pointwise [k0_pay8]
  rfl
@[inherit_doc pay8] theorem pay9 (X : FVec Ideal S2x1x64x512 .f32) (i : Fin 512) (k : Fin 128) :
    k0_pay9 (F := Ideal) X (ix2 i k) = X (ix4 (hd2 k) 0 (en k) i) := by
  pointwise [k0_pay9]
  rfl

end Cert.InpBwdIdeal.Kernel

end
-- ==== Proof.InpHost.lean ====
/- What the input projection's forward lines and the tables hand its gradient's kernel, on finite arguments. -/
module

public import proofs.«01_k».proof.Proof.Gen.InpBwdIdeal.Launch
public import proofs.«01_k».proof.Proof.Line
public import proofs.«01_k».proof.Proof.OutHost
public import proofs.«01_k».proof.Proof.InpKernel

@[expose] public section

set_option maxRecDepth 16384

noncomputable section

namespace Cert.InpBwdIdeal.HostRows

open Cert.InpBwdIdeal Cert.InpBwdIdeal.Gen Idealize.ShloMosaic Idealize.ShloMosaic.TcCoe
open Idealize.SL.Sem Idealize.ShloMosaic.StableHlo Cert.Line Cert.Lift Cert.Norm Cert.Inp.Math
open Cert.OutBwdIdeal.HostRows (pick word4 word16)
open Cert.InpBwdIdeal.Kernel (div1024 h1024)

theorem line : Line (hostOps0 (F := Ideal)) 18 := by
  unfold hostOps0
  repeat'
    refine ⟨?_, ?_⟩
    · first
        | (with_reducible apply step_nullary) <;> decide
        | (with_reducible apply step_unary) <;> decide
        | (with_reducible apply step_reshape) <;> decide
        | (with_reducible apply step_binary) <;> decide
        | (with_reducible apply step_ternary) <;> decide
  trivial

theorem c_16 : Ideal.ofBits .f32 0x41800000#32 = ((16 : ℝ) : EReal) := by
  simp [Ideal.ofBits, Ideal.ieee, -EReal.coe_mul]; norm_num
theorem c_10000 : Ideal.ofBits .f32 0x461C4000#32 = ((10000 : ℝ) : EReal) := by
  simp [Ideal.ofBits, Ideal.ieee, -EReal.coe_mul]; norm_num

/-- A small number, read back from its word. -/
theorem number {n : ℕ} (hn : n < 2 ^ 31) : (FloatOps.sitofp FTy.f32 (BitVec.ofNat 32 n) : Ideal .f32) = ((n : ℝ) : EReal) := by
  have e : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  show (((BitVec.ofNat 32 n).toInt : ℝ) : EReal) = _
  rw [e, Int.cast_natCast]

/-- Two tables of 16 lanes side by side. -/
theorem beside16 {U V : S16384x16.Idx → EReal} {u v : ℕ → ℝ} {i : Fin 16384} (hU : ∀ d, U (ix2 i d) = ((u d.val : ℝ) : EReal))
    (hV : ∀ d, V (ix2 i d) = ((v d.val : ℝ) : EReal)) (d : Fin 32) :
    (if h : d.val < 16 then U (ix2 i ⟨d.val, h⟩) else V (ix2 i ⟨d.val - 16, by omega⟩)) = ((if d.val < 16 then u d.val else v (d.val - 16) : ℝ) : EReal) := by
  by_cases e : d.val < 16
  · rw [dif_pos e, if_pos e, hU]
  · rw [dif_neg e, if_neg e, hV]

/-- Two tables of 32 lanes side by side. -/
theorem beside32 {U V : S16384x32.Idx → EReal} {u v : Fin 32 → ℝ} {i : Fin 16384} (hU : ∀ d, U (ix2 i d) = ((u d : ℝ) : EReal))
    (hV : ∀ d, V (ix2 i d) = ((v d : ℝ) : EReal)) (l : Fin 64) :
    (if h : l.val < 32 then U (ix2 i ⟨l.val, h⟩) else V (ix2 i ⟨l.val - 32, by omega⟩)) = ((if l.val < 32 then u (fold l) else v (fold l) : ℝ) : EReal) := by
  by_cases e : l.val < 32
  · rw [dif_pos e, if_pos e, hU]
    exact congrArg (fun d => ((u d : ℝ) : EReal)) (Fin.ext (by show l.val = l.val % 32; omega))
  · rw [dif_neg e, if_neg e, hV]
    exact congrArg (fun d => ((v d : ℝ) : EReal)) (Fin.ext (by show l.val - 32 = l.val % 32; omega))

variable {x : Fin 16384 → Fin 1024 → ℝ} {g : Fin 1024 → ℝ} {W : Fin 1024 → Fin 2304 → ℝ}
variable {E : Valuation τ sig (Elt Ideal)} (h : Solves (hostOps0 (F := Ideal)) 18 E)

section Rows

variable (hx : ∀ i j, (E main_arg12 : S16384x1024.Idx → EReal) (ix2 i j) = ((x i j : ℝ) : EReal))
  (hg : ∀ j, (E main_arg14 : S1x1024.Idx → EReal) (ix2 0 j) = ((g j : ℝ) : EReal))
  (hW : ∀ i j, (E main_arg15 : S1024x2304.Idx → EReal) (ix2 i j) = ((W i j : ℝ) : EReal))
include h hx hg hW

theorem v11 (i : Fin 16384) (j : Fin 1024) : (E main_v11 : S16384x1024.Idx → EReal) (ix2 i j) = ((xn 1024 (x i) g j : ℝ) : EReal) := by
  rw [h.binary main_v11 rfl, h.unary main_v10 rfl, h.binary main_v9 rfl, h.unary main_v8 rfl, h.unary main_v7 rfl,
    h.binary main_v6 rfl, h.unary main_v5 rfl, h.nullary main_cst_1 rfl, h.binary main_v4 rfl, h.unary main_v3 rfl,
    h.nullary main_cst_0 rfl, h.unary main_v2 rfl, h.binary main_v1 rfl, h.nullary main_cst rfl, h.binary main_v0 rfl]
  pointwise []
  simp only [hx, hg, c_1024, c_eps, zero_coe, ← EReal.coe_mul, ← EReal.coe_add, zero_add, coe_sum, div1024, rsqrt_ms h1024, xn]

/-- The projection's first part before its head norms. -/
theorem v13 (i : Fin 16384) (k : Fin 512) : (E main_v13 : S16384x512.Idx → EReal) (ix2 i k) = ((proj (x i) g W (colq k) : ℝ) : EReal) := by
  rw [h.binary main_v13 rfl, h.unary main_v12 rfl]
  pointwise []
  simp only [v11 h hx hg hW, hW, ← EReal.coe_mul, coe_sum]
  rfl

/-- The projection's second part before its head norms. -/
theorem v15 (i : Fin 16384) (k : Fin 128) : (E main_v15 : S16384x128.Idx → EReal) (ix2 i k) = ((proj (x i) g W (colk k) : ℝ) : EReal) := by
  rw [h.binary main_v15 rfl, h.unary main_v14 rfl]
  pointwise []
  simp only [v11 h hx hg hW, hW, ← EReal.coe_mul, coe_sum]
  rfl

end Rows

include h

/-! ## The rotary tables -/

theorem v20 (i : Fin 16384) : (E main_v20 : S16384.Idx → EReal) (ix1 i) = (((i.val / 64 : ℕ) : ℝ) : EReal) := by
  rw [h.unary main_v20 rfl, h.reshape main_v19 rfl, h.unary main_v18 rfl, h.unary main_v17 rfl, h.nullary main_v16 rfl]
  pointwise []
  exact number (by omega)
theorem v25 (i : Fin 16384) : (E main_v25 : S16384.Idx → EReal) (ix1 i) = (((i.val % 64 : ℕ) : ℝ) : EReal) := by
  rw [h.unary main_v25 rfl, h.reshape main_v24 rfl, h.unary main_v23 rfl, h.unary main_v22 rfl, h.nullary main_v21 rfl]
  pointwise []
  exact number (by omega)

theorem v31 (d : Fin 16) : (E main_v31 : S16.Idx → EReal) (ix1 d) = ((freq d.val : ℝ) : EReal) := by
  rw [h.binary main_v31 rfl, h.unary main_v30 rfl, h.nullary main_cst_3 rfl, h.binary main_v29 rfl, h.unary main_v28 rfl,
    h.nullary main_cst_2 rfl, h.unary main_v27 rfl, h.nullary main_v26 rfl]
  pointwise []
  rw [number (by omega : d.val < 2 ^ 31), c_16, c_10000, ← EReal.coe_neg, div_coe_coe (by norm_num), Ideal.pow_coe_coe]
  rfl

theorem v36 (i : Fin 16384) (d : Fin 16) : (E main_v36 : S16384x16.Idx → EReal) (ix2 i d) = ((((i.val / 64 : ℕ) : ℝ) * freq d.val : ℝ) : EReal) := by
  rw [h.binary main_v36 rfl, h.unary main_v35 rfl, h.unary main_v34 rfl, h.unary main_v33 rfl, h.unary main_v32 rfl]
  pointwise []
  simp only [v20 h, v31 h, ← EReal.coe_mul]
theorem v41 (i : Fin 16384) (d : Fin 16) : (E main_v41 : S16384x16.Idx → EReal) (ix2 i d) = ((((i.val % 64 : ℕ) : ℝ) * freq d.val : ℝ) : EReal) := by
  rw [h.binary main_v41 rfl, h.unary main_v40 rfl, h.unary main_v39 rfl, h.unary main_v38 rfl, h.unary main_v37 rfl]
  pointwise []
  simp only [v25 h, v31 h, ← EReal.coe_mul]

theorem v42 (i : Fin 16384) (d : Fin 32) : (E main_v42 : S16384x32.Idx → EReal) (ix2 i d) = ((angle i d : ℝ) : EReal) := by
  rw [h.binary main_v42 rfl]
  pointwise []
  exact beside16 (u := fun d => ((i.val / 64 : ℕ) : ℝ) * freq d) (v := fun d => ((i.val % 64 : ℕ) : ℝ) * freq d) (v36 h i) (v41 h i) d

theorem v43 (i : Fin 16384) (d : Fin 32) : (E main_v43 : S16384x32.Idx → EReal) (ix2 i d) = ((Real.cos (angle i d) : ℝ) : EReal) := by
  rw [h.unary main_v43 rfl]
  pointwise []
  rw [v42 h, Ideal.cos_coe]
theorem v44 (i : Fin 16384) (d : Fin 32) : (E main_v44 : S16384x32.Idx → EReal) (ix2 i d) = ((Real.sin (angle i d) : ℝ) : EReal) := by
  rw [h.unary main_v44 rfl]
  pointwise []
  rw [v42 h, Ideal.sin_coe]
theorem v49 (i : Fin 16384) (d : Fin 32) : (E main_v49 : S16384x32.Idx → EReal) (ix2 i d) = ((-Real.sin (angle i d) : ℝ) : EReal) := by
  rw [h.unary main_v49 rfl]
  pointwise []
  rw [v44 h, ← EReal.coe_neg]

theorem v45 (i : Fin 16384) (l : Fin 64) : (E main_v45 : S16384x64.Idx → EReal) (ix2 i l) = ((Real.cos (angle i (fold l)) : ℝ) : EReal) := by
  rw [h.binary main_v45 rfl]
  pointwise []
  exact (beside32 (v43 h i) (v43 h i) l).trans (by rw [ite_self])
theorem v50 (i : Fin 16384) (l : Fin 64) : (E main_v50 : S16384x64.Idx → EReal) (ix2 i l) = ((sgn (fun d => Real.sin (angle i d)) l : ℝ) : EReal) := by
  rw [h.binary main_v50 rfl]
  pointwise []
  exact beside32 (v49 h i) (v44 h i) l

/-- The cosines, on the lanes of two heads. -/
theorem v48 (i : Fin 16384) (k : Fin 128) : (E main_v48 : S16384x128.Idx → EReal) (ix2 i k) = ((Real.cos (angle i (fold (en k))) : ℝ) : EReal) := by
  rw [h.reshape main_v48 rfl, h.unary main_v47 rfl, h.reshape main_v46 rfl]
  pointwise []
  exact v45 h i (en k)
/-- The sines with their signs, on the lanes of two heads. -/
theorem v53 (i : Fin 16384) (k : Fin 128) :
    (E main_v53 : S16384x128.Idx → EReal) (ix2 i k) = ((sgn (fun d => Real.sin (angle i d)) (en k) : ℝ) : EReal) := by
  rw [h.reshape main_v53 rfl, h.unary main_v52 rfl, h.reshape main_v51 rfl]
  pointwise []
  exact v50 h i (en k)

/-! ## The regrouping -/

theorem v92 (p c : Fin 512) : (E main_v92 : S512x512.Idx → EReal) (ix2 p c) = ((Cert.Out.Math.move4 p c : ℝ) : EReal) := by
  rw [h.ternary main_v92 rfl, h.unary main_v91 rfl, h.nullary main_cst_7 rfl, h.unary main_v90 rfl, h.nullary main_cst_6 rfl,
    h.binary main_v89 rfl, h.binary main_v88 rfl, h.binary main_v87 rfl, h.unary main_v86 rfl, h.nullary main_c_5 rfl,
    h.binary main_v85 rfl, h.unary main_v84 rfl, h.nullary main_c_4 rfl, h.binary main_v83 rfl, h.unary main_v82 rfl,
    h.nullary main_c rfl, h.nullary main_v81 rfl, h.nullary main_v80 rfl]
  pointwise []
  rw [word4 c]
  exact pick (by omega) (by omega)
theorem v106 (p c : Fin 512) : (E main_v106 : S512x512.Idx → EReal) (ix2 p c) = ((Cert.Out.Math.move16 p c : ℝ) : EReal) := by
  rw [h.ternary main_v106 rfl, h.unary main_v105 rfl, h.nullary main_cst_12 rfl, h.unary main_v104 rfl, h.nullary main_cst_11 rfl,
    h.binary main_v103 rfl, h.binary main_v102 rfl, h.binary main_v101 rfl, h.unary main_v100 rfl, h.nullary main_c_10 rfl,
    h.binary main_v99 rfl, h.unary main_v98 rfl, h.nullary main_c_9 rfl, h.binary main_v97 rfl, h.unary main_v96 rfl,
    h.nullary main_c_8 rfl, h.nullary main_v95 rfl, h.nullary main_v94 rfl]
  pointwise []
  rw [word16 c]
  exact pick (by omega) (by omega)

/-- The matrices that undo the regrouping of a tile's rows. -/
theorem v93 (p c : Fin 512) : (E main_v93 : S512x512.Idx → EReal) (ix2 p c) = ((Cert.Out.Math.move4 c p : ℝ) : EReal) := by
  rw [h.unary main_v93 rfl]
  pointwise []
  exact v92 h c p
@[inherit_doc v93] theorem v107 (p c : Fin 512) : (E main_v107 : S512x512.Idx → EReal) (ix2 p c) = ((Cert.Out.Math.move16 c p : ℝ) : EReal) := by
  rw [h.unary main_v107 rfl]
  pointwise []
  exact v106 h c p

/-! ## The other arguments -/

/-- The bands' gradients, as the kernel takes them: four rows side by side, or sixteen. -/
theorem v54 (r : Fin 16384) (k : Fin 512) : (E main_v54 : S16384x512.Idx → EReal) (ix2 r k)
    = (E main_arg3 : S16384x512.Idx → EReal) (ix2 r k) := by
  rw [h.unary main_v54 rfl]
  pointwise []
@[inherit_doc v54] theorem v59 (r : Fin 16384) (k : Fin 512) : (E main_v59 : S16384x512.Idx → EReal) (ix2 r k)
    = (E main_arg6 : S16384x512.Idx → EReal) (ix2 r k) := by
  rw [h.unary main_v59 rfl]
  pointwise []
@[inherit_doc v54] theorem v64 (r : Fin 16384) (k : Fin 512) : (E main_v64 : S16384x512.Idx → EReal) (ix2 r k)
    = (E main_arg9 : S16384x512.Idx → EReal) (ix2 r k) := by
  rw [h.unary main_v64 rfl]
  pointwise []
@[inherit_doc v54] theorem v56 (r : Fin 4096) (C : Fin 2048) : (E main_v56 : S4096x2048.Idx → EReal) (ix2 r C)
    = (E main_arg4 : S16384x512.Idx → EReal) (ix2 ⟨r.val * 4 + C.val / 512, by omega⟩ ⟨C.val % 512, by omega⟩) := by
  rw [h.reshape main_v56 rfl, h.unary main_v55 rfl]
  pointwise []
@[inherit_doc v54] theorem v61 (r : Fin 4096) (C : Fin 2048) : (E main_v61 : S4096x2048.Idx → EReal) (ix2 r C)
    = (E main_arg7 : S16384x512.Idx → EReal) (ix2 ⟨r.val * 4 + C.val / 512, by omega⟩ ⟨C.val % 512, by omega⟩) := by
  rw [h.reshape main_v61 rfl, h.unary main_v60 rfl]
  pointwise []
@[inherit_doc v54] theorem v66 (r : Fin 4096) (C : Fin 2048) : (E main_v66 : S4096x2048.Idx → EReal) (ix2 r C)
    = (E main_arg10 : S16384x512.Idx → EReal) (ix2 ⟨r.val * 4 + C.val / 512, by omega⟩ ⟨C.val % 512, by omega⟩) := by
  rw [h.reshape main_v66 rfl, h.unary main_v65 rfl]
  pointwise []
@[inherit_doc v54] theorem v58 (r : Fin 1024) (C : Fin 8192) : (E main_v58 : S1024x8192.Idx → EReal) (ix2 r C)
    = (E main_arg5 : S16384x512.Idx → EReal) (ix2 ⟨r.val * 16 + C.val / 512, by omega⟩ ⟨C.val % 512, by omega⟩) := by
  rw [h.reshape main_v58 rfl, h.unary main_v57 rfl]
  pointwise []
@[inherit_doc v54] theorem v63 (r : Fin 1024) (C : Fin 8192) : (E main_v63 : S1024x8192.Idx → EReal) (ix2 r C)
    = (E main_arg8 : S16384x512.Idx → EReal) (ix2 ⟨r.val * 16 + C.val / 512, by omega⟩ ⟨C.val % 512, by omega⟩) := by
  rw [h.reshape main_v63 rfl, h.unary main_v62 rfl]
  pointwise []
@[inherit_doc v54] theorem v68 (r : Fin 1024) (C : Fin 8192) : (E main_v68 : S1024x8192.Idx → EReal) (ix2 r C)
    = (E main_arg11 : S16384x512.Idx → EReal) (ix2 ⟨r.val * 16 + C.val / 512, by omega⟩ ⟨C.val % 512, by omega⟩) := by
  rw [h.reshape main_v68 rfl, h.unary main_v67 rfl]
  pointwise []
/-- The second and the third input, with their rows last. -/
theorem v70 (a : Fin 2) (b : Fin 8) (d : Fin 64) (t : Fin 2048) : (E main_v70 : S2x8x64x2048.Idx → EReal) (ix4 a b d t)
    = (E main_arg1 : S16384x128.Idx → EReal) (ix2 ⟨b.val * 2048 + t.val, by omega⟩ ⟨a.val * 64 + d.val, by omega⟩) := by
  rw [h.unary main_v70 rfl, h.reshape main_v69 rfl]
  pointwise []
@[inherit_doc v70] theorem v72 (a : Fin 2) (b : Fin 8) (d : Fin 64) (t : Fin 2048) : (E main_v72 : S2x8x64x2048.Idx → EReal) (ix4 a b d t)
    = (E main_arg2 : S16384x128.Idx → EReal) (ix2 ⟨b.val * 2048 + t.val, by omega⟩ ⟨a.val * 64 + d.val, by omega⟩) := by
  rw [h.unary main_v72 rfl, h.reshape main_v71 rfl]
  pointwise []
theorem v73 (i : Fin 1024) (C : Fin 2304) : (E main_v73 : S1024x2304.Idx → EReal) (ix2 i C) = (E main_arg15 : S1024x2304.Idx → EReal) (ix2 i C) := by
  rw [h.unary main_v73 rfl]
  pointwise []

/-- The head gains, once for every head. -/
theorem v76 (k : Fin 512) : (E main_v76 : S1x512.Idx → EReal) (ix2 0 k) = (E main_arg16 : S1x64.Idx → EReal) (ix2 0 (en k)) := by
  rw [h.reshape main_v76 rfl, h.unary main_v75 rfl, h.reshape main_v74 rfl]
  pointwise []
  rfl
@[inherit_doc v76] theorem v79 (k : Fin 128) : (E main_v79 : S1x128.Idx → EReal) (ix2 0 k) = (E main_arg17 : S1x64.Idx → EReal) (ix2 0 (en k)) := by
  rw [h.reshape main_v79 rfl, h.unary main_v78 rfl, h.reshape main_v77 rfl]
  pointwise []
  rfl

end Cert.InpBwdIdeal.HostRows

end
-- ==== Proof.InpRef.lean ====
/- What the input projection's gradient is in the reference, on finite arguments, row by row. -/
module

public import proofs.«01_k».proof.Proof.Gen.InpBwdRefIdeal.Run
public import proofs.«01_k».proof.Proof.LineMany
public import proofs.«01_k».proof.Proof.InpHost

@[expose] public section

set_option maxRecDepth 16384

noncomputable section

namespace Cert.InpBwdRefIdeal.Rows

open Cert.InpBwdRefIdeal Cert.InpBwdRefIdeal.Gen Cert.InpBwdRefIdeal.Value Idealize.ShloMosaic Idealize.ShloMosaic.TcCoe
open Idealize.SL.Sem Idealize.ShloMosaic.StableHlo Cert.Line Cert.Lift Cert.Norm Cert.Inp.Math
open Cert.InpBwdIdeal.Kernel (div1024 h1024 h64)
open Cert.InpBwdIdeal.HostRows (c_16 c_10000 number beside16)

theorem line : Line (ops (F := Ideal)) 18 := by
  unfold ops
  repeat'
    refine ⟨?_, ?_⟩
    · first
        | (with_reducible apply step_nullary) <;> decide
        | (with_reducible apply step_unary) <;> decide
        | (with_reducible apply step_reshape) <;> decide
        | (with_reducible apply step_binary) <;> decide
        | (with_reducible apply step_nary) <;> decide
  trivial

theorem div64 (a : ℝ) : Ideal.div (a : EReal) ((64 : ℝ) : EReal) = ((a / 64 : ℝ) : EReal) := div_coe_coe (by norm_num)
theorem c_64 : Ideal.ofBits .f32 0x42800000#32 = ((64 : ℝ) : EReal) := by
  simp [Ideal.ofBits, Ideal.ieee, -EReal.coe_mul]; norm_num

/-- A head's gradient before the rotation, from its two halves, each padded with zeros. -/
theorem halves {U V : Fin 32 → EReal} {o : Fin 64 → ℝ} {a : Fin 32 → ℝ}
    (hU : ∀ d : Fin 32, U d = ((o ⟨32 + d.val, by omega⟩ * Real.cos (a d) + -o ⟨d.val, by omega⟩ * Real.sin (a d) : ℝ) : EReal))
    (hV : ∀ d : Fin 32, V d = ((o ⟨32 + d.val, by omega⟩ * Real.sin (a d) + o ⟨d.val, by omega⟩ * Real.cos (a d) : ℝ) : EReal)) (l : Fin 64) :
    (if h : 32 ≤ l.val ∧ l.val - 32 < 32 then U ⟨l.val - 32, by omega⟩ else 0) + (if h : l.val < 32 then V ⟨l.val, h⟩ else 0) = ((back a o l : ℝ) : EReal) := by
  by_cases e : l.val < 32
  · have f : fold l = ⟨l.val, e⟩ := Fin.ext (by show l.val % 32 = l.val; omega)
    have g : mate l = ⟨32 + l.val, by omega⟩ := Fin.ext (by show (l.val + 32) % 64 = 32 + l.val; omega)
    rw [dif_pos e, dif_neg (fun q => absurd q.1 (by omega)), hV, zero_add]
    congr 1
    unfold back sgn
    rw [if_pos e, f, g]
    ring
  · have f : fold l = ⟨l.val - 32, by omega⟩ := Fin.ext (by show l.val % 32 = l.val - 32; omega)
    have g : mate l = ⟨l.val - 32, by omega⟩ := Fin.ext (by show (l.val + 32) % 64 = l.val - 32; omega)
    have k : (⟨32 + (l.val - 32), by omega⟩ : Fin 64) = l := Fin.ext (by show 32 + (l.val - 32) = l.val; omega)
    rw [dif_neg e, dif_pos ⟨by omega, by omega⟩, hU, add_zero]
    congr 1
    unfold back sgn
    rw [if_neg e, f, g, k]
    ring

/-- Six arrays side by side. -/
theorem six_eq {q : Fin 512 → EReal} {k v : Fin 128 → EReal} {a b c : Fin 512 → EReal} {q' : Fin 512 → ℝ} {k' v' : Fin 128 → ℝ} {a' b' c' : Fin 512 → ℝ}
    (hq : ∀ i, q i = ((q' i : ℝ) : EReal)) (hk : ∀ i, k i = ((k' i : ℝ) : EReal)) (hv : ∀ i, v i = ((v' i : ℝ) : EReal))
    (ha : ∀ i, a i = ((a' i : ℝ) : EReal)) (hb : ∀ i, b i = ((b' i : ℝ) : EReal)) (hc : ∀ i, c i = ((c' i : ℝ) : EReal)) (C : Fin 2304) :
    (if h : C.val < 512 then q ⟨C.val, h⟩
      else if h : C.val - 512 < 128 then k ⟨C.val - 512, h⟩
      else if h : C.val - 512 - 128 < 128 then v ⟨C.val - 512 - 128, h⟩
      else if h : C.val - 512 - 128 - 128 < 512 then a ⟨C.val - 512 - 128 - 128, h⟩
      else if h : C.val - 512 - 128 - 128 - 512 < 512 then b ⟨C.val - 512 - 128 - 128 - 512, h⟩
      else c ⟨C.val - 512 - 128 - 128 - 512 - 512, by omega⟩) = ((six q' k' v' a' b' c' C : ℝ) : EReal) := by
  unfold six
  by_cases h1 : C.val < 512
  · rw [dif_pos h1, dif_pos h1, hq]
  rw [dif_neg h1, dif_neg h1]
  by_cases h2 : C.val < 640
  · rw [dif_pos (by omega), dif_pos h2, hk]
  rw [dif_neg (by omega), dif_neg h2]
  by_cases h3 : C.val < 768
  · rw [dif_pos (by omega), dif_pos h3, hv]
    exact congrArg (fun z => ((v' z : ℝ) : EReal)) (Fin.ext (by show C.val - 512 - 128 = C.val - 640; omega))
  rw [dif_neg (by omega), dif_neg h3]
  by_cases h4 : C.val < 1280
  · rw [dif_pos (by omega), dif_pos h4, ha]
    exact congrArg (fun z => ((a' z : ℝ) : EReal)) (Fin.ext (by show C.val - 512 - 128 - 128 = C.val - 768; omega))
  rw [dif_neg (by omega), dif_neg h4]
  by_cases h5 : C.val < 1792
  · rw [dif_pos (by omega), dif_pos h5, hb]
    exact congrArg (fun z => ((b' z : ℝ) : EReal)) (Fin.ext (by show C.val - 512 - 128 - 128 - 512 = C.val - 1280; omega))
  rw [dif_neg (by omega), dif_neg h5, hc]
  exact congrArg (fun z => ((c' z : ℝ) : EReal)) (Fin.ext (by show C.val - 512 - 128 - 128 - 512 - 512 = C.val - 1792; omega))

variable {I : Ins} {E : Valuation τ sig (Elt Ideal)} (h : Solves (ops (F := Ideal)) 18 E)

section Angles

include h

theorem v4 (i : Fin 16384) : (E main_v4 : S16384.Idx → EReal) (ix1 i) = (((i.val / 64 : ℕ) : ℝ) : EReal) := by
  rw [h.unary main_v4 rfl, h.reshape main_v3 rfl, h.unary main_v2 rfl, h.unary main_v1 rfl, h.nullary main_v0 rfl]
  pointwise []
  exact number (by omega)
theorem v9 (i : Fin 16384) : (E main_v9 : S16384.Idx → EReal) (ix1 i) = (((i.val % 64 : ℕ) : ℝ) : EReal) := by
  rw [h.unary main_v9 rfl, h.reshape main_v8 rfl, h.unary main_v7 rfl, h.unary main_v6 rfl, h.nullary main_v5 rfl]
  pointwise []
  exact number (by omega)
theorem v15 (d : Fin 16) : (E main_v15 : S16.Idx → EReal) (ix1 d) = ((freq d.val : ℝ) : EReal) := by
  rw [h.binary main_v15 rfl, h.unary main_v14 rfl, h.nullary main_cst_0 rfl, h.binary main_v13 rfl, h.unary main_v12 rfl,
    h.nullary main_cst rfl, h.unary main_v11 rfl, h.nullary main_v10 rfl]
  pointwise []
  rw [number (by omega : d.val < 2 ^ 31), c_16, c_10000, ← EReal.coe_neg, div_coe_coe (by norm_num), Ideal.pow_coe_coe]
  rfl
theorem v20 (i : Fin 16384) (d : Fin 16) : (E main_v20 : S16384x16.Idx → EReal) (ix2 i d) = ((((i.val / 64 : ℕ) : ℝ) * freq d.val : ℝ) : EReal) := by
  rw [h.binary main_v20 rfl, h.unary main_v19 rfl, h.unary main_v18 rfl, h.unary main_v17 rfl, h.unary main_v16 rfl]
  pointwise []
  simp only [v4 h, v15 h, ← EReal.coe_mul]
theorem v25 (i : Fin 16384) (d : Fin 16) : (E main_v25 : S16384x16.Idx → EReal) (ix2 i d) = ((((i.val % 64 : ℕ) : ℝ) * freq d.val : ℝ) : EReal) := by
  rw [h.binary main_v25 rfl, h.unary main_v24 rfl, h.unary main_v23 rfl, h.unary main_v22 rfl, h.unary main_v21 rfl]
  pointwise []
  simp only [v9 h, v15 h, ← EReal.coe_mul]
theorem v26 (i : Fin 16384) (d : Fin 32) : (E main_v26 : S16384x32.Idx → EReal) (ix2 i d) = ((angle i d : ℝ) : EReal) := by
  rw [h.binary main_v26 rfl]
  pointwise [fn_main_v26]
  exact beside16 (u := fun d => ((i.val / 64 : ℕ) : ℝ) * freq d) (v := fun d => ((i.val % 64 : ℕ) : ℝ) * freq d) (v20 h i) (v25 h i) d

/-- The cosines and the sines of the angles. -/
theorem v27 (i : Fin 16384) (d : Fin 32) : (E main_v27 : S16384x32.Idx → EReal) (ix2 i d) = ((Real.cos (angle i d) : ℝ) : EReal) := by
  rw [h.unary main_v27 rfl]
  pointwise []
  rw [v26 h, Ideal.cos_coe]
@[inherit_doc v27] theorem v28 (i : Fin 16384) (d : Fin 32) : (E main_v28 : S16384x32.Idx → EReal) (ix2 i d) = ((Real.sin (angle i d) : ℝ) : EReal) := by
  rw [h.unary main_v28 rfl]
  pointwise []
  rw [v26 h, Ideal.sin_coe]

end Angles

section Norm

variable (hx : ∀ i j, (E main_arg12 : S16384x1024.Idx → EReal) (ix2 i j) = ((I.x i j : ℝ) : EReal))
  (hg : ∀ j, (E main_arg14 : S1x1024.Idx → EReal) (ix2 0 j) = ((I.g j : ℝ) : EReal))
  (hW : ∀ i j, (E main_arg15 : S1024x2304.Idx → EReal) (ix2 i j) = ((I.W i j : ℝ) : EReal))
include h hx

/-! ## The norm of a row -/

theorem v38 (i : Fin 16384) (j : Fin 1) : (E main_v38 : S16384x1.Idx → EReal) (ix2 i j) = ((ms 1024 (I.x i) + eps : ℝ) : EReal) := by
  rw [h.binary main_v38 rfl, h.unary main_v37 rfl, h.nullary main_cst_4 rfl, h.binary main_v36 rfl, h.unary main_v35 rfl,
    h.nullary main_cst_3 rfl, h.unary main_v34 rfl, h.binary main_v33 rfl, h.nullary main_cst_2 rfl, h.binary main_v32 rfl]
  pointwise []
  simp only [hx, c_1024, c_eps, zero_coe, ← EReal.coe_mul, ← EReal.coe_add, zero_add, coe_sum, div1024, ms]
theorem v39 (i : Fin 16384) (j : Fin 1) : (E main_v39 : S16384x1.Idx → EReal) (ix2 i j) = ((rr 1024 (I.x i) : ℝ) : EReal) := by
  rw [h.unary main_v39 rfl]
  pointwise []
  rw [v38 h hx, ms, rsqrt_ms h1024]
theorem v42 (i : Fin 16384) (j : Fin 1) : (E main_v42 : S16384x1.Idx → EReal) (ix2 i j)
    = ((-1 / 2 * (rr 1024 (I.x i) / (ms 1024 (I.x i) + eps)) : ℝ) : EReal) := by
  rw [h.binary main_v42 rfl, h.unary main_v41 rfl, h.nullary main_cst_5 rfl, h.binary main_v40 rfl]
  pointwise []
  rw [v38 h hx, v39 h hx, c_neg_half, div_coe_coe (ms_eps_pos h1024 _).ne', ← EReal.coe_mul]
theorem v44 (i : Fin 16384) (j : Fin 1024) : (E main_v44 : S16384x1024.Idx → EReal) (ix2 i j) = ((I.x i j * rr 1024 (I.x i) : ℝ) : EReal) := by
  rw [h.binary main_v44 rfl, h.unary main_v43 rfl]
  pointwise []
  rw [hx, v39 h hx, ← EReal.coe_mul]

include hg hW

theorem v48 (i : Fin 16384) (C : Fin 2304) : (E main_v48 : S16384x2304.Idx → EReal) (ix2 i C) = ((proj (I.x i) I.g I.W C : ℝ) : EReal) := by
  rw [h.binary main_v48 rfl, h.unary main_v31 rfl, h.nullary main_cst_1 rfl, h.binary main_v47 rfl, h.binary main_v46 rfl, h.unary main_v45 rfl]
  pointwise []
  simp only [v44 h hx, hg, hW, zero_coe, ← EReal.coe_mul, ← EReal.coe_add, coe_sum, add_zero]
  rfl

section First

variable (ho : ∀ i k, (E main_arg0 : S16384x512.Idx → EReal) (ix2 i k) = ((I.dq i k : ℝ) : EReal))
  (hn : ∀ l, (E main_arg16 : S1x64.Idx → EReal) (ix2 0 l) = ((I.gq l : ℝ) : EReal))

/-! ## The first part -/

theorem v55 (i : Fin 16384) (a : Fin 8) (l : Fin 64) : (E main_v55 : S16384x8x64.Idx → EReal) (ix3 i a l) = ((of8 (I.q i) a l : ℝ) : EReal) := by
  rw [h.reshape main_v55 rfl, h.unary main_v49 rfl]
  pointwise []
  exact v48 h hx hg hW i _
theorem v62 (i : Fin 16384) (a : Fin 8) (j : Fin 1) : (E main_v62 : S16384x8x1.Idx → EReal) (ix3 i a j)
    = ((ms 64 (of8 (I.q i) a) + eps : ℝ) : EReal) := by
  rw [h.binary main_v62 rfl, h.unary main_v61 rfl, h.nullary main_cst_8 rfl, h.binary main_v60 rfl, h.unary main_v59 rfl,
    h.nullary main_cst_7 rfl, h.unary main_v58 rfl, h.binary main_v57 rfl, h.nullary main_cst_6 rfl, h.binary main_v56 rfl]
  pointwise []
  simp only [v55 h hx hg hW, c_64, c_eps, zero_coe, ← EReal.coe_mul, ← EReal.coe_add, zero_add, coe_sum, div64, ms]
theorem v63 (i : Fin 16384) (a : Fin 8) (j : Fin 1) : (E main_v63 : S16384x8x1.Idx → EReal) (ix3 i a j)
    = ((rr 64 (of8 (I.q i) a) : ℝ) : EReal) := by
  rw [h.unary main_v63 rfl]
  pointwise []
  rw [v62 h hx hg hW, ms, rsqrt_ms h64]
theorem v66 (i : Fin 16384) (a : Fin 8) (j : Fin 1) : (E main_v66 : S16384x8x1.Idx → EReal) (ix3 i a j)
    = ((-1 / 2 * (rr 64 (of8 (I.q i) a) / (ms 64 (of8 (I.q i) a) + eps)) : ℝ) : EReal) := by
  rw [h.binary main_v66 rfl, h.unary main_v65 rfl, h.nullary main_cst_9 rfl, h.binary main_v64 rfl]
  pointwise []
  rw [v62 h hx hg hW, v63 h hx hg hW, c_neg_half, div_coe_coe (ms_eps_pos h64 _).ne', ← EReal.coe_mul]
theorem v68 (i : Fin 16384) (a : Fin 8) (l : Fin 64) : (E main_v68 : S16384x8x64.Idx → EReal) (ix3 i a l)
    = ((of8 (I.q i) a l * rr 64 (of8 (I.q i) a) : ℝ) : EReal) := by
  rw [h.binary main_v68 rfl, h.unary main_v67 rfl]
  pointwise []
  rw [v55 h hx hg hW, v63 h hx hg hW, ← EReal.coe_mul]

include ho hn

theorem v119 (i : Fin 16384) (a : Fin 8) (l : Fin 64) : (E main_v119 : S16384x8x64.Idx → EReal) (ix3 i a l) = ((of8 (I.dq i) a l : ℝ) : EReal) := by
  rw [h.reshape main_v119 rfl]
  pointwise []
  exact ho i _
/-- The gradient before the rotation. -/
theorem v179 (i : Fin 16384) (a : Fin 8) (l : Fin 64) : (E main_v179 : S16384x8x64.Idx → EReal) (ix3 i a l)
    = ((back (angle i) (of8 (I.dq i) a) l : ℝ) : EReal) := by
  have hU : ∀ d : Fin 32, (E main_v173 : S16384x8x32.Idx → EReal) (ix3 i a d)
      = ((of8 (I.dq i) a ⟨32 + d.val, by omega⟩ * Real.cos (angle i d) + -of8 (I.dq i) a ⟨d.val, by omega⟩ * Real.sin (angle i d) : ℝ) : EReal) := fun d => by
    rw [h.binary main_v173 rfl, h.binary main_v172 rfl, h.unary main_v171 rfl, h.unary main_v170 rfl, h.binary main_v169 rfl,
      h.unary main_v168 rfl, h.unary main_v165 rfl, h.unary main_v164 rfl, h.unary main_v74 rfl, h.unary main_v75 rfl]
    pointwise []
    simp only [v119 h hx hg hW ho hn, v27 h, v28 h, ← EReal.coe_mul, ← EReal.coe_add, ← EReal.coe_neg]
  have hV : ∀ d : Fin 32, (E main_v176 : S16384x8x32.Idx → EReal) (ix3 i a d)
      = ((of8 (I.dq i) a ⟨32 + d.val, by omega⟩ * Real.sin (angle i d) + of8 (I.dq i) a ⟨d.val, by omega⟩ * Real.cos (angle i d) : ℝ) : EReal) := fun d => by
    rw [h.binary main_v176 rfl, h.binary main_v175 rfl, h.unary main_v174 rfl, h.binary main_v167 rfl, h.unary main_v166 rfl,
      h.unary main_v165 rfl, h.unary main_v164 rfl, h.unary main_v74 rfl, h.unary main_v75 rfl]
    pointwise []
    simp only [v119 h hx hg hW ho hn, v27 h, v28 h, ← EReal.coe_mul, ← EReal.coe_add]
  rw [h.binary main_v179 rfl, h.binary main_v178 rfl, h.nullary main_cst_22 rfl, h.binary main_v177 rfl, h.nullary main_cst_21 rfl]
  pointwise []
  exact halves hU hV l

theorem v184 (i : Fin 16384) (a : Fin 8) (l : Fin 64) : (E main_v184 : S16384x8x64.Idx → EReal) (ix3 i a l)
    = ((back (angle i) (of8 (I.dq i) a) l * I.gq l : ℝ) : EReal) := by
  rw [h.binary main_v184 rfl, h.unary main_v183 rfl, h.unary main_v69 rfl, h.unary main_v29 rfl]
  pointwise []
  simp only [v179 h hx hg hW ho hn, hn, ← EReal.coe_mul]
/-- The gradient of the head gain, a head at a time. -/
theorem v224 (i : Fin 1) (k : Fin 512) : (E main_v224 : S1x512.Idx → EReal) (ix2 i k) = ((∑ r, I.gainq r k : ℝ) : EReal) := by
  rw [h.reshape main_v224 rfl, h.binary main_v185 rfl, h.nullary main_cst_24 rfl, h.reshape main_v182 rfl, h.binary main_v181 rfl,
    h.nullary main_cst_23 rfl, h.binary main_v180 rfl]
  pointwise []
  simp only [v179 h hx hg hW ho hn, v68 h hx hg hW, zero_coe, ← EReal.coe_mul, ← EReal.coe_add, zero_add, coe_sum]
  rw [Fin.sum_univ_one]
  exact congrArg _ (Finset.sum_congr rfl fun r _ => by unfold Ins.gainq headGain; exact mul_comm _ _)
theorem v195 (i : Fin 16384) (a : Fin 8) (l : Fin 64) : (E main_v195 : S16384x8x64.Idx → EReal) (ix3 i a l)
    = (((∑ k, of8 (I.q i) a k * (back (angle i) (of8 (I.dq i) a) k * I.gq k))
        * (-1 / 2 * (rr 64 (of8 (I.q i) a) / (ms 64 (of8 (I.q i) a) + eps))) / 64 : ℝ) : EReal) := by
  rw [h.unary main_v195 rfl, h.binary main_v194 rfl, h.nullary main_cst_27 rfl, h.binary main_v193 rfl, h.unary main_v192 rfl,
    h.nullary main_cst_26 rfl, h.binary main_v191 rfl, h.reshape main_v188 rfl, h.binary main_v187 rfl, h.nullary main_cst_25 rfl,
    h.binary main_v186 rfl]
  pointwise []
  simp only [v184 h hx hg hW ho hn, v55 h hx hg hW, v66 h hx hg hW, c_64, zero_coe, ← EReal.coe_mul, ← EReal.coe_add, zero_add, coe_sum, div64]
  rw [Fin.sum_univ_one]
/-- The gradient before the head norms. -/
theorem v200 (i : Fin 16384) (k : Fin 512) : (E main_v200 : S16384x512.Idx → EReal) (ix2 i k) = ((I.dqa i k : ℝ) : EReal) := by
  rw [h.reshape main_v200 rfl, h.binary main_v199 rfl, h.binary main_v198 rfl, h.binary main_v197 rfl, h.binary main_v196 rfl,
    h.binary main_v190 rfl, h.unary main_v189 rfl]
  pointwise []
  simp only [v195 h hx hg hW ho hn, v184 h hx hg hW ho hn, v55 h hx hg hW, v63 h hx hg hW, ← EReal.coe_mul, ← EReal.coe_add]
  exact congrArg _ (normBack_eq h64 _ (fun l => back (angle i) (of8 (I.dq i) (hd8 k)) l * I.gq l) (en k))

end First

section Second

variable (ho : ∀ i k, (E main_arg1 : S16384x128.Idx → EReal) (ix2 i k) = ((I.dk i k : ℝ) : EReal))
  (hn : ∀ l, (E main_arg17 : S1x64.Idx → EReal) (ix2 0 l) = ((I.gk l : ℝ) : EReal))

/-! ## The second part -/

theorem v87 (i : Fin 16384) (a : Fin 2) (l : Fin 64) : (E main_v87 : S16384x2x64.Idx → EReal) (ix3 i a l) = ((of2 (I.k i) a l : ℝ) : EReal) := by
  rw [h.reshape main_v87 rfl, h.unary main_v50 rfl]
  pointwise []
  exact v48 h hx hg hW i _
theorem v94 (i : Fin 16384) (a : Fin 2) (j : Fin 1) : (E main_v94 : S16384x2x1.Idx → EReal) (ix3 i a j)
    = ((ms 64 (of2 (I.k i) a) + eps : ℝ) : EReal) := by
  rw [h.binary main_v94 rfl, h.unary main_v93 rfl, h.nullary main_cst_12 rfl, h.binary main_v92 rfl, h.unary main_v91 rfl,
    h.nullary main_cst_11 rfl, h.unary main_v90 rfl, h.binary main_v89 rfl, h.nullary main_cst_10 rfl, h.binary main_v88 rfl]
  pointwise []
  simp only [v87 h hx hg hW, c_64, c_eps, zero_coe, ← EReal.coe_mul, ← EReal.coe_add, zero_add, coe_sum, div64, ms]
theorem v95 (i : Fin 16384) (a : Fin 2) (j : Fin 1) : (E main_v95 : S16384x2x1.Idx → EReal) (ix3 i a j)
    = ((rr 64 (of2 (I.k i) a) : ℝ) : EReal) := by
  rw [h.unary main_v95 rfl]
  pointwise []
  rw [v94 h hx hg hW, ms, rsqrt_ms h64]
theorem v98 (i : Fin 16384) (a : Fin 2) (j : Fin 1) : (E main_v98 : S16384x2x1.Idx → EReal) (ix3 i a j)
    = ((-1 / 2 * (rr 64 (of2 (I.k i) a) / (ms 64 (of2 (I.k i) a) + eps)) : ℝ) : EReal) := by
  rw [h.binary main_v98 rfl, h.unary main_v97 rfl, h.nullary main_cst_13 rfl, h.binary main_v96 rfl]
  pointwise []
  rw [v94 h hx hg hW, v95 h hx hg hW, c_neg_half, div_coe_coe (ms_eps_pos h64 _).ne', ← EReal.coe_mul]
theorem v100 (i : Fin 16384) (a : Fin 2) (l : Fin 64) : (E main_v100 : S16384x2x64.Idx → EReal) (ix3 i a l)
    = ((of2 (I.k i) a l * rr 64 (of2 (I.k i) a) : ℝ) : EReal) := by
  rw [h.binary main_v100 rfl, h.unary main_v99 rfl]
  pointwise []
  rw [v87 h hx hg hW, v95 h hx hg hW, ← EReal.coe_mul]

include ho hn

theorem v120 (i : Fin 16384) (a : Fin 2) (l : Fin 64) : (E main_v120 : S16384x2x64.Idx → EReal) (ix3 i a l) = ((of2 (I.dk i) a l : ℝ) : EReal) := by
  rw [h.reshape main_v120 rfl]
  pointwise []
  exact ho i _
/-- The gradient before the rotation. -/
theorem v142 (i : Fin 16384) (a : Fin 2) (l : Fin 64) : (E main_v142 : S16384x2x64.Idx → EReal) (ix3 i a l)
    = ((back (angle i) (of2 (I.dk i) a) l : ℝ) : EReal) := by
  have hU : ∀ d : Fin 32, (E main_v136 : S16384x2x32.Idx → EReal) (ix3 i a d)
      = ((of2 (I.dk i) a ⟨32 + d.val, by omega⟩ * Real.cos (angle i d) + -of2 (I.dk i) a ⟨d.val, by omega⟩ * Real.sin (angle i d) : ℝ) : EReal) := fun d => by
    rw [h.binary main_v136 rfl, h.binary main_v135 rfl, h.unary main_v134 rfl, h.unary main_v133 rfl, h.binary main_v132 rfl,
      h.unary main_v131 rfl, h.unary main_v128 rfl, h.unary main_v127 rfl, h.unary main_v106 rfl, h.unary main_v107 rfl]
    pointwise []
    simp only [v120 h hx hg hW ho hn, v27 h, v28 h, ← EReal.coe_mul, ← EReal.coe_add, ← EReal.coe_neg]
  have hV : ∀ d : Fin 32, (E main_v139 : S16384x2x32.Idx → EReal) (ix3 i a d)
      = ((of2 (I.dk i) a ⟨32 + d.val, by omega⟩ * Real.sin (angle i d) + of2 (I.dk i) a ⟨d.val, by omega⟩ * Real.cos (angle i d) : ℝ) : EReal) := fun d => by
    rw [h.binary main_v139 rfl, h.binary main_v138 rfl, h.unary main_v137 rfl, h.binary main_v130 rfl, h.unary main_v129 rfl,
      h.unary main_v128 rfl, h.unary main_v127 rfl, h.unary main_v106 rfl, h.unary main_v107 rfl]
    pointwise []
    simp only [v120 h hx hg hW ho hn, v27 h, v28 h, ← EReal.coe_mul, ← EReal.coe_add]
  rw [h.binary main_v142 rfl, h.binary main_v141 rfl, h.nullary main_cst_15 rfl, h.binary main_v140 rfl, h.nullary main_cst_14 rfl]
  pointwise []
  exact halves hU hV l

theorem v147 (i : Fin 16384) (a : Fin 2) (l : Fin 64) : (E main_v147 : S16384x2x64.Idx → EReal) (ix3 i a l)
    = ((back (angle i) (of2 (I.dk i) a) l * I.gk l : ℝ) : EReal) := by
  rw [h.binary main_v147 rfl, h.unary main_v146 rfl, h.unary main_v101 rfl, h.unary main_v30 rfl]
  pointwise []
  simp only [v142 h hx hg hW ho hn, hn, ← EReal.coe_mul]
/-- The gradient of the head gain, a head at a time. -/
theorem v225 (i : Fin 1) (k : Fin 128) : (E main_v225 : S1x128.Idx → EReal) (ix2 i k) = ((∑ r, I.gaink r k : ℝ) : EReal) := by
  rw [h.reshape main_v225 rfl, h.binary main_v148 rfl, h.nullary main_cst_17 rfl, h.reshape main_v145 rfl, h.binary main_v144 rfl,
    h.nullary main_cst_16 rfl, h.binary main_v143 rfl]
  pointwise []
  simp only [v142 h hx hg hW ho hn, v100 h hx hg hW, zero_coe, ← EReal.coe_mul, ← EReal.coe_add, zero_add, coe_sum]
  rw [Fin.sum_univ_one]
  exact congrArg _ (Finset.sum_congr rfl fun r _ => by unfold Ins.gaink headGain; exact mul_comm _ _)
theorem v158 (i : Fin 16384) (a : Fin 2) (l : Fin 64) : (E main_v158 : S16384x2x64.Idx → EReal) (ix3 i a l)
    = (((∑ k, of2 (I.k i) a k * (back (angle i) (of2 (I.dk i) a) k * I.gk k))
        * (-1 / 2 * (rr 64 (of2 (I.k i) a) / (ms 64 (of2 (I.k i) a) + eps))) / 64 : ℝ) : EReal) := by
  rw [h.unary main_v158 rfl, h.binary main_v157 rfl, h.nullary main_cst_20 rfl, h.binary main_v156 rfl, h.unary main_v155 rfl,
    h.nullary main_cst_19 rfl, h.binary main_v154 rfl, h.reshape main_v151 rfl, h.binary main_v150 rfl, h.nullary main_cst_18 rfl,
    h.binary main_v149 rfl]
  pointwise []
  simp only [v147 h hx hg hW ho hn, v87 h hx hg hW, v98 h hx hg hW, c_64, zero_coe, ← EReal.coe_mul, ← EReal.coe_add, zero_add, coe_sum, div64]
  rw [Fin.sum_univ_one]
/-- The gradient before the head norms. -/
theorem v163 (i : Fin 16384) (k : Fin 128) : (E main_v163 : S16384x128.Idx → EReal) (ix2 i k) = ((I.dka i k : ℝ) : EReal) := by
  rw [h.reshape main_v163 rfl, h.binary main_v162 rfl, h.binary main_v161 rfl, h.binary main_v160 rfl, h.binary main_v159 rfl,
    h.binary main_v153 rfl, h.unary main_v152 rfl]
  pointwise []
  simp only [v158 h hx hg hW ho hn, v147 h hx hg hW ho hn, v87 h hx hg hW, v95 h hx hg hW, ← EReal.coe_mul, ← EReal.coe_add]
  exact congrArg _ (normBack_eq h64 _ (fun l => back (angle i) (of2 (I.dk i) (hd2 k)) l * I.gk l) (en k))

end Second

end Norm

/-- The arguments are these reals. -/
structure Args (E : Valuation τ sig (Elt Ideal)) (I : Ins) : Prop where
  dq : ∀ i j, (E main_arg0 : S16384x512.Idx → EReal) (ix2 i j) = ((I.dq i j : ℝ) : EReal)
  dk : ∀ i j, (E main_arg1 : S16384x128.Idx → EReal) (ix2 i j) = ((I.dk i j : ℝ) : EReal)
  dv : ∀ i j, (E main_arg2 : S16384x128.Idx → EReal) (ix2 i j) = ((I.dv i j : ℝ) : EReal)
  q1 : ∀ i j, (E main_arg3 : S16384x512.Idx → EReal) (ix2 i j) = ((I.q1 i j : ℝ) : EReal)
  q4 : ∀ i j, (E main_arg4 : S16384x512.Idx → EReal) (ix2 i j) = ((I.q4 i j : ℝ) : EReal)
  q16 : ∀ i j, (E main_arg5 : S16384x512.Idx → EReal) (ix2 i j) = ((I.q16 i j : ℝ) : EReal)
  k1 : ∀ i j, (E main_arg6 : S16384x512.Idx → EReal) (ix2 i j) = ((I.k1 i j : ℝ) : EReal)
  k4 : ∀ i j, (E main_arg7 : S16384x512.Idx → EReal) (ix2 i j) = ((I.k4 i j : ℝ) : EReal)
  k16 : ∀ i j, (E main_arg8 : S16384x512.Idx → EReal) (ix2 i j) = ((I.k16 i j : ℝ) : EReal)
  v1 : ∀ i j, (E main_arg9 : S16384x512.Idx → EReal) (ix2 i j) = ((I.v1 i j : ℝ) : EReal)
  v4 : ∀ i j, (E main_arg10 : S16384x512.Idx → EReal) (ix2 i j) = ((I.v4 i j : ℝ) : EReal)
  v16 : ∀ i j, (E main_arg11 : S16384x512.Idx → EReal) (ix2 i j) = ((I.v16 i j : ℝ) : EReal)
  x : ∀ i j, (E main_arg12 : S16384x1024.Idx → EReal) (ix2 i j) = ((I.x i j : ℝ) : EReal)
  dh : ∀ i j, (E main_arg13 : S16384x1024.Idx → EReal) (ix2 i j) = ((I.dh i j : ℝ) : EReal)
  g : ∀ j, (E main_arg14 : S1x1024.Idx → EReal) (ix2 0 j) = ((I.g j : ℝ) : EReal)
  W : ∀ i j, (E main_arg15 : S1024x2304.Idx → EReal) (ix2 i j) = ((I.W i j : ℝ) : EReal)
  gq : ∀ j, (E main_arg16 : S1x64.Idx → EReal) (ix2 0 j) = ((I.gq j : ℝ) : EReal)
  gk : ∀ j, (E main_arg17 : S1x64.Idx → EReal) (ix2 0 j) = ((I.gk j : ℝ) : EReal)

section All

variable (A : Args E I)
include h A

/-- The gradient at the projection. -/
theorem v201 (i : Fin 16384) (C : Fin 2304) : (E main_v201 : S16384x2304.Idx → EReal) (ix2 i C) = ((I.dproj i C : ℝ) : EReal) := by
  have ha : ∀ k, (E main_v122 : S16384x512.Idx → EReal) (ix2 i k) = ((I.q1 i k + I.q4 i k + I.q16 i k : ℝ) : EReal) := fun k => by
    rw [h.binary main_v122 rfl, h.binary main_v121 rfl]
    pointwise []
    simp only [A.q1, A.q4, A.q16, ← EReal.coe_add]
  have hb : ∀ k, (E main_v124 : S16384x512.Idx → EReal) (ix2 i k) = ((I.k1 i k + I.k4 i k + I.k16 i k : ℝ) : EReal) := fun k => by
    rw [h.binary main_v124 rfl, h.binary main_v123 rfl]
    pointwise []
    simp only [A.k1, A.k4, A.k16, ← EReal.coe_add]
  have hc : ∀ k, (E main_v126 : S16384x512.Idx → EReal) (ix2 i k) = ((I.v1 i k + I.v4 i k + I.v16 i k : ℝ) : EReal) := fun k => by
    rw [h.binary main_v126 rfl, h.binary main_v125 rfl]
    pointwise []
    simp only [A.v1, A.v4, A.v16, ← EReal.coe_add]
  rw [h.nary main_v201 rfl]
  pointwise [fn_main_v201]
  exact six_eq (v200 h A.x A.g A.W A.dq A.gq i) (v163 h A.x A.g A.W A.dk A.gk i) (A.dv i) ha hb hc C
theorem v223 (i : Fin 16384) (C : Fin 2304) : (E main_v223 : S16384x2304.Idx → EReal) (ix2 i C) = ((I.dproj i C : ℝ) : EReal) := by
  rw [h.unary main_v223 rfl]
  pointwise []
  exact v201 h A i C
theorem v202 (i : Fin 16384) (j : Fin 1024) : (E main_v202 : S16384x1024.Idx → EReal) (ix2 i j) = ((I.dxn i j : ℝ) : EReal) := by
  rw [h.binary main_v202 rfl]
  pointwise []
  simp only [v201 h A, A.W, ← EReal.coe_mul, coe_sum]
  rfl
/-- The gradient of the gain. -/
theorem v205 (i : Fin 1) (j : Fin 1024) : (E main_v205 : S1x1024.Idx → EReal) (ix2 i j) = ((∑ r, I.gain r j : ℝ) : EReal) := by
  rw [h.reshape main_v205 rfl, h.binary main_v204 rfl, h.nullary main_cst_28 rfl, h.binary main_v203 rfl]
  pointwise []
  simp only [v202 h A, v44 h A.x, zero_coe, ← EReal.coe_mul, ← EReal.coe_add, zero_add, coe_sum]
  exact congrArg _ (Finset.sum_congr rfl fun r _ => by unfold Ins.gain; exact mul_comm _ _)
theorem v207 (i : Fin 16384) (j : Fin 1024) : (E main_v207 : S16384x1024.Idx → EReal) (ix2 i j) = ((I.dxn i j * I.g j : ℝ) : EReal) := by
  rw [h.binary main_v207 rfl, h.unary main_v206 rfl]
  pointwise []
  simp only [v202 h A, A.g, ← EReal.coe_mul]
theorem v218 (i : Fin 16384) (j : Fin 1024) : (E main_v218 : S16384x1024.Idx → EReal) (ix2 i j)
    = (((∑ k, I.x i k * (I.dxn i k * I.g k)) * (-1 / 2 * (rr 1024 (I.x i) / (ms 1024 (I.x i) + eps))) / 1024 : ℝ) : EReal) := by
  rw [h.unary main_v218 rfl, h.binary main_v217 rfl, h.nullary main_cst_31 rfl, h.binary main_v216 rfl, h.unary main_v215 rfl, h.nullary main_cst_30 rfl,
    h.binary main_v214 rfl, h.reshape main_v210 rfl, h.binary main_v209 rfl, h.nullary main_cst_29 rfl, h.binary main_v208 rfl]
  pointwise []
  simp only [v207 h A, A.x, v42 h A.x, c_1024, zero_coe, ← EReal.coe_mul, ← EReal.coe_add, zero_add, coe_sum, div1024]
  rw [Fin.sum_univ_one]
/-- The gradient at the row. -/
theorem v222 (i : Fin 16384) (j : Fin 1024) : (E main_v222 : S16384x1024.Idx → EReal) (ix2 i j) = ((I.dx i j : ℝ) : EReal) := by
  rw [h.binary main_v222 rfl, h.binary main_v221 rfl, h.binary main_v220 rfl, h.binary main_v219 rfl, h.binary main_v213 rfl, h.binary main_v212 rfl, h.unary main_v211 rfl]
  pointwise []
  simp only [v218 h A, v207 h A, A.x, A.dh, v39 h A.x, ← EReal.coe_mul, ← EReal.coe_add]
  refine congrArg _ ?_
  rw [Ins.dx, ← normBack_eq h1024]
  ring

end All

end Cert.InpBwdRefIdeal.Rows

end
-- ==== Proof.InpBlocks.lean ====
/- The block of 2304 columns, as its six stores leave it, and the partial loads of the regrouped rows. -/
module

public import proofs.«01_k».proof.Proof.InpKernel

@[expose] public section

set_option maxRecDepth 16384

noncomputable section

namespace Cert.InpBwdIdeal.Kernel

open Cert.InpBwdIdeal Cert.InpBwdIdeal.Gen Idealize.ShloMosaic Cert.Lift Cert.Inp.Math

/-! ## Partial loads -/

theorem inb4 (q : Fin 4) : ∀ a, (![0, 512 * q.val] : Fin 2 → ℕ) a + (![128, 512] : Fin 2 → ℕ) a ≤ S128x2048.size a :=
  Fin.forall_fin_two.mpr ⟨by show 0 + 128 ≤ 128; omega, by show 512 * q.val + 512 ≤ 2048; omega⟩
theorem inb16 (q : Fin 16) : ∀ a, (![0, 512 * q.val] : Fin 2 → ℕ) a + (![32, 512] : Fin 2 → ℕ) a ≤ S32x8192.size a :=
  Fin.forall_fin_two.mpr ⟨by show 0 + 32 ≤ 32; omega, by show 512 * q.val + 512 ≤ 8192; omega⟩

/-- The `q`-th 512 columns of a block of regrouped rows. -/
def w4 (X : S128x2048.Idx → Elt Ideal .bf16) (q : Fin 4) : FVec Ideal S128x512 .bf16 :=
  View.ld (Val := Elt Ideal) (e' := .bf16) X (Rect.unit (s := S128x2048) ![0, 512 * q.val] ![128, 512] (inb4 q))
@[inherit_doc w4] def w16 (X : S32x8192.Idx → Elt Ideal .bf16) (q : Fin 16) : FVec Ideal S32x512 .bf16 :=
  View.ld (Val := Elt Ideal) (e' := .bf16) X (Rect.unit (s := S32x8192) ![0, 512 * q.val] ![32, 512] (inb16 q))

theorem w4_eq (X : S128x2048.Idx → Elt Ideal .bf16) (q : Fin 4) (r : Fin 128) (k : Fin 512) : w4 X q (ix2 r k) = X (ix2 r ⟨512 * q.val + k.val, by omega⟩) :=
  congrArg X (funext (Fin.forall_fin_two.mpr ⟨Fin.ext (by show 0 + 1 * r.val = r.val; omega),
    Fin.ext (by show 512 * q.val + 1 * k.val = 512 * q.val + k.val; omega)⟩))
theorem w16_eq (X : S32x8192.Idx → Elt Ideal .bf16) (q : Fin 16) (r : Fin 32) (k : Fin 512) :
    w16 X q (ix2 r k) = X (ix2 r ⟨512 * q.val + k.val, by omega⟩) :=
  congrArg X (funext (Fin.forall_fin_two.mpr ⟨Fin.ext (by show 0 + 1 * r.val = r.val; omega),
    Fin.ext (by show 512 * q.val + 1 * k.val = 512 * q.val + k.val; omega)⟩))

/-! ## The six stores -/

/-- The six stores of the block, the last first. -/
def stores (A : S512x512.Idx → Elt Ideal .bf16) (B V : S512x128.Idx → Elt Ideal .bf16) (P Q R : S512x512.Idx → Elt Ideal .bf16) :
    List (View.Piece (Elt Ideal) S512x2304 .bf16) :=
  [⟨Rect.unit ![0, 1792] ![512, 512] inb_S512x2304_S512x512_0_1792, R⟩,
   ⟨Rect.unit ![0, 1280] ![512, 512] inb_S512x2304_S512x512_0_1280, Q⟩,
   ⟨Rect.unit ![0, 768] ![512, 512] inb_S512x2304_S512x512_0_768, P⟩,
   ⟨Rect.unit ![0, 640] ![512, 128] inb_S512x2304_S512x128_0_640, V⟩,
   ⟨Rect.unit ![0, 512] ![512, 128] inb_S512x2304_S512x128_0_512, B⟩,
   ⟨Rect.unit ![0, 0] ![512, 512] inb_S512x2304_S512x512_0_0, A⟩]

theorem six_0 {q : Fin 512 → ℝ} {k v : Fin 128 → ℝ} {a b c : Fin 512 → ℝ} (C : Fin 2304) (i : Fin 512) (h : C.val = i.val) : six q k v a b c C = q i := by
  unfold six
  rw [dif_pos (by omega)]
  exact congrArg q (Fin.ext h)
theorem six_512 {q : Fin 512 → ℝ} {k v : Fin 128 → ℝ} {a b c : Fin 512 → ℝ} (C : Fin 2304) (i : Fin 128) (h : C.val = 512 + i.val) :
    six q k v a b c C = k i := by
  unfold six
  rw [dif_neg (by omega), dif_pos (by omega)]
  exact congrArg k (Fin.ext (by show C.val - 512 = i.val; omega))
theorem six_640 {q : Fin 512 → ℝ} {k v : Fin 128 → ℝ} {a b c : Fin 512 → ℝ} (C : Fin 2304) (i : Fin 128) (h : C.val = 640 + i.val) :
    six q k v a b c C = v i := by
  unfold six
  rw [dif_neg (by omega), dif_neg (by omega), dif_pos (by omega)]
  exact congrArg v (Fin.ext (by show C.val - 640 = i.val; omega))
theorem six_768 {q : Fin 512 → ℝ} {k v : Fin 128 → ℝ} {a b c : Fin 512 → ℝ} (C : Fin 2304) (i : Fin 512) (h : C.val = 768 + i.val) :
    six q k v a b c C = a i := by
  unfold six
  rw [dif_neg (by omega), dif_neg (by omega), dif_neg (by omega), dif_pos (by omega)]
  exact congrArg a (Fin.ext (by show C.val - 768 = i.val; omega))
theorem six_1280 {q : Fin 512 → ℝ} {k v : Fin 128 → ℝ} {a b c : Fin 512 → ℝ} (C : Fin 2304) (i : Fin 512) (h : C.val = 1280 + i.val) :
    six q k v a b c C = b i := by
  unfold six
  rw [dif_neg (by omega), dif_neg (by omega), dif_neg (by omega), dif_neg (by omega), dif_pos (by omega)]
  exact congrArg b (Fin.ext (by show C.val - 1280 = i.val; omega))
theorem six_1792 {q : Fin 512 → ℝ} {k v : Fin 128 → ℝ} {a b c : Fin 512 → ℝ} (C : Fin 2304) (i : Fin 512) (h : C.val = 1792 + i.val) :
    six q k v a b c C = c i := by
  unfold six
  rw [dif_neg (by omega), dif_neg (by omega), dif_neg (by omega), dif_neg (by omega), dif_neg (by omega)]
  exact congrArg c (Fin.ext (by show C.val - 1792 = i.val; omega))

section Stores

variable {q : Fin 512 → Fin 512 → ℝ} {k v : Fin 512 → Fin 128 → ℝ} {a b c : Fin 512 → Fin 512 → ℝ}
variable {A P Q R : S512x512.Idx → Elt Ideal .bf16} {B V : S512x128.Idx → Elt Ideal .bf16}

theorem canon6 (G : S512x2304.Idx → Elt Ideal .bf16) (hA : ∀ i l, A (ix2 i l) = G (ix2 i ⟨l.val, by omega⟩))
    (hB : ∀ i l, B (ix2 i l) = G (ix2 i ⟨512 + l.val, by omega⟩)) (hV : ∀ i l, V (ix2 i l) = G (ix2 i ⟨640 + l.val, by omega⟩))
    (hP : ∀ i l, P (ix2 i l) = G (ix2 i ⟨768 + l.val, by omega⟩)) (hQ : ∀ i l, Q (ix2 i l) = G (ix2 i ⟨1280 + l.val, by omega⟩))
    (hR : ∀ i l, R (ix2 i l) = G (ix2 i ⟨1792 + l.val, by omega⟩)) (y : S512x2304.Idx) : View.canon (stores A B V P Q R) y = G y := by
  refine View.canon_apply_of_pieces G _ ?_ y ?_
  · intro p hp
    simp only [stores, List.mem_cons, List.not_mem_nil, or_false] at hp
    obtain rfl | rfl | rfl | rfl | rfl | rfl := hp
    · intro (x : S512x512.Idx)
      idx_vars x
      exact (hR _ _).trans (congrArg G (funext (Fin.forall_fin_two.mpr ⟨Fin.ext (by show x0.val = 0 + 1 * x0.val; omega),
        Fin.ext (by show 1792 + x1.val = 1792 + 1 * x1.val; omega)⟩)))
    · intro (x : S512x512.Idx)
      idx_vars x
      exact (hQ _ _).trans (congrArg G (funext (Fin.forall_fin_two.mpr ⟨Fin.ext (by show x0.val = 0 + 1 * x0.val; omega),
        Fin.ext (by show 1280 + x1.val = 1280 + 1 * x1.val; omega)⟩)))
    · intro (x : S512x512.Idx)
      idx_vars x
      exact (hP _ _).trans (congrArg G (funext (Fin.forall_fin_two.mpr ⟨Fin.ext (by show x0.val = 0 + 1 * x0.val; omega),
        Fin.ext (by show 768 + x1.val = 768 + 1 * x1.val; omega)⟩)))
    · intro (x : S512x128.Idx)
      idx_vars x
      exact (hV _ _).trans (congrArg G (funext (Fin.forall_fin_two.mpr ⟨Fin.ext (by show x0.val = 0 + 1 * x0.val; omega),
        Fin.ext (by show 640 + x1.val = 640 + 1 * x1.val; omega)⟩)))
    · intro (x : S512x128.Idx)
      idx_vars x
      exact (hB _ _).trans (congrArg G (funext (Fin.forall_fin_two.mpr ⟨Fin.ext (by show x0.val = 0 + 1 * x0.val; omega),
        Fin.ext (by show 512 + x1.val = 512 + 1 * x1.val; omega)⟩)))
    · intro (x : S512x512.Idx)
      idx_vars x
      exact (hA _ _).trans (congrArg G (funext (Fin.forall_fin_two.mpr ⟨Fin.ext (by show x0.val = 0 + 1 * x0.val; omega),
        Fin.ext (by show x1.val = 0 + 1 * x1.val; omega)⟩)))
  · idx_vars y
    unfold stores
    by_cases h1 : y1.val < 512
    · exact ⟨_, .tail _ (.tail _ (.tail _ (.tail _ (.tail _ (.head _))))), (Rect.mem_set_unit (inb := inb_S512x2304_S512x512_0_0)).mpr
        (Fin.forall_fin_two.mpr ⟨⟨Nat.zero_le _, by show y0.val < 0 + 512; omega⟩, by show 0 ≤ y1.val; omega, by show y1.val < 0 + 512; omega⟩)⟩
    by_cases h2 : y1.val < 640
    · exact ⟨_, .tail _ (.tail _ (.tail _ (.tail _ (.head _)))), (Rect.mem_set_unit (inb := inb_S512x2304_S512x128_0_512)).mpr
        (Fin.forall_fin_two.mpr ⟨⟨Nat.zero_le _, by show y0.val < 0 + 512; omega⟩, by show 512 ≤ y1.val; omega, by show y1.val < 512 + 128; omega⟩)⟩
    by_cases h3 : y1.val < 768
    · exact ⟨_, .tail _ (.tail _ (.tail _ (.head _))), (Rect.mem_set_unit (inb := inb_S512x2304_S512x128_0_640)).mpr
        (Fin.forall_fin_two.mpr ⟨⟨Nat.zero_le _, by show y0.val < 0 + 512; omega⟩, by show 640 ≤ y1.val; omega, by show y1.val < 640 + 128; omega⟩)⟩
    by_cases h4 : y1.val < 1280
    · exact ⟨_, .tail _ (.tail _ (.head _)), (Rect.mem_set_unit (inb := inb_S512x2304_S512x512_0_768)).mpr
        (Fin.forall_fin_two.mpr ⟨⟨Nat.zero_le _, by show y0.val < 0 + 512; omega⟩, by show 768 ≤ y1.val; omega, by show y1.val < 768 + 512; omega⟩)⟩
    by_cases h5 : y1.val < 1792
    · exact ⟨_, .tail _ (.head _), (Rect.mem_set_unit (inb := inb_S512x2304_S512x512_0_1280)).mpr
        (Fin.forall_fin_two.mpr ⟨⟨Nat.zero_le _, by show y0.val < 0 + 512; omega⟩, by show 1280 ≤ y1.val; omega, by show y1.val < 1280 + 512; omega⟩)⟩
    · exact ⟨_, .head _, (Rect.mem_set_unit (inb := inb_S512x2304_S512x512_0_1792)).mpr
        (Fin.forall_fin_two.mpr ⟨⟨Nat.zero_le _, by show y0.val < 0 + 512; omega⟩, by show 1792 ≤ y1.val; omega, by show y1.val < 1792 + 512; omega⟩)⟩

/-- The block's six stores put the six parts side by side. -/
theorem stores_eq (hA : ∀ i l, A (ix2 i l) = ((q i l : ℝ) : EReal)) (hB : ∀ i l, B (ix2 i l) = ((k i l : ℝ) : EReal)) (hV : ∀ i l, V (ix2 i l) = ((v i l : ℝ) : EReal))
    (hP : ∀ i l, P (ix2 i l) = ((a i l : ℝ) : EReal)) (hQ : ∀ i l, Q (ix2 i l) = ((b i l : ℝ) : EReal)) (hR : ∀ i l, R (ix2 i l) = ((c i l : ℝ) : EReal))
    (y : S512x2304.Idx) : View.canon (stores A B V P Q R) y = ((six (q (y 0)) (k (y 0)) (v (y 0)) (a (y 0)) (b (y 0)) (c (y 0)) (y 1) : ℝ) : EReal) :=
  canon6 (fun y => ((six (q (y 0)) (k (y 0)) (v (y 0)) (a (y 0)) (b (y 0)) (c (y 0)) (y 1) : ℝ) : EReal))
    (fun i l => (hA i l).trans (congrArg _ (six_0 _ l rfl).symm)) (fun i l => (hB i l).trans (congrArg _ (six_512 _ l rfl).symm))
    (fun i l => (hV i l).trans (congrArg _ (six_640 _ l rfl).symm)) (fun i l => (hP i l).trans (congrArg _ (six_768 _ l rfl).symm))
    (fun i l => (hQ i l).trans (congrArg _ (six_1280 _ l rfl).symm)) (fun i l => (hR i l).trans (congrArg _ (six_1792 _ l rfl).symm)) y

end Stores

end Cert.InpBwdIdeal.Kernel

end
-- ==== Proof.InpValue.lean ====
/- The arrays the input projection's gradient leaves, on finite arguments. -/
module

public import proofs.«01_k».proof.Proof.InpFrame
public import proofs.«01_k».proof.Proof.InpHost
public import proofs.«01_k».proof.Proof.InpBlocks

@[expose] public section

set_option maxRecDepth 16384

noncomputable section

namespace Cert.InpBwdIdeal.Arrays

open Cert.InpBwdIdeal Cert.InpBwdIdeal.Gen Cert.InpBwdIdeal.Hand Idealize.ShloMosaic Idealize.ShloMosaic.TcCoe Idealize.SL.Sem
open Idealize.ShloMosaic.Pipeline (Dat)
open Cert.Lift Cert.Norm Cert.Inp.Math Cert.InpBwdIdeal.Kernel Cert.Line
open Cert.Out.Math (move4 move16)

variable (m : (ℓ : Loc nD τ sig) → Buf (Elt Ideal) ℓ)

theorem idx : ∀ t : Fin cfg0.N, win0_0.index t = ![t.val, 0] ∧ win0_1.index t = ![0, t.val / 4, 0, t.val % 4] ∧ win0_2.index t = ![0, t.val / 4, 0, t.val % 4] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)
theorem idx' : ∀ t : Fin cfg0.N, win0_15.index t = ![t.val, 0] ∧ win0_16.index t = ![0, 0] ∧ win0_17.index t = ![0, 0] ∧ win0_18.index t = ![t.val, 0]
    ∧ win0_19.index t = ![t.val, 0] ∧ win0_20.index t = ![0, 0] ∧ win0_21.index t = ![0, 0] ∧ win0_22.index t = ![0, 0]
    ∧ win0_23.index t = ![0, 0] ∧ win0_24.index t = ![t.val, 0] ∧ win0_25.index t = ![t.val, 0] ∧ win0_26.index t = ![0, 0]
    ∧ win0_27.index t = ![0, 0] ∧ win0_28.index t = ![0, 0] :=
  (by decide +kernel : ∀ t : Fin grid0.N, _)

/-- The last point. -/
abbrev tL : Fin cfg0.N := ⟨31, by decide⟩

/-- Row `i` of tile `t`. -/
def row (t : Fin 32) (i : Fin 512) : Fin 16384 := ⟨512 * t.val + i.val, by omega⟩
/-- Row `i` of tile `t` of the rows regrouped by four, and by sixteen. -/
def row4 (t : Fin 32) (i : Fin 128) : Fin 4096 := ⟨128 * t.val + i.val, by omega⟩
@[inherit_doc row4] def row16 (t : Fin 32) (i : Fin 32) : Fin 1024 := ⟨32 * t.val + i.val, by omega⟩
/-- Row `i` of tile `t` where 2048 rows lie together. -/
def blk8 (t : Fin 32) : Fin 8 := ⟨t.val / 4, by omega⟩
@[inherit_doc blk8] def at8 (t : Fin 32) (i : Fin 512) : Fin 2048 := ⟨512 * (t.val % 4) + i.val, by omega⟩

variable (c : Dev nD)

theorem read0 (A : S16384x512.Idx → Elt Ideal .f32) (t : Fin cfg0.N) (i : Fin 512) (j : Fin 512) :
    ((cfg0.win 0).blk t).view.read (Elt Ideal) A (ix2 i j) = A (ix2 (row t i) j) := by
  unfold row
  blk_ext [idx t]
theorem read1 (A : S2x8x64x2048.Idx → Elt Ideal .f32) (t : Fin cfg0.N) (a : Fin 2) (d : Fin 64) (i : Fin 512) :
    ((cfg0.win 1).blk t).view.read (Elt Ideal) A (ix4 a 0 d i) = A (ix4 a (blk8 t) d (at8 t i)) := by
  unfold blk8 at8
  blk_ext [idx t]
theorem read2 (A : S2x8x64x2048.Idx → Elt Ideal .f32) (t : Fin cfg0.N) (a : Fin 2) (d : Fin 64) (i : Fin 512) :
    ((cfg0.win 2).blk t).view.read (Elt Ideal) A (ix4 a 0 d i) = A (ix4 a (blk8 t) d (at8 t i)) := by
  unfold blk8 at8
  blk_ext [idx t]
theorem read3 (A : S16384x512.Idx → Elt Ideal .bf16) (t : Fin cfg0.N) (i : Fin 512) (j : Fin 512) :
    ((cfg0.win 3).blk t).view.read (Elt Ideal) A (ix2 i j) = A (ix2 (row t i) j) := by
  unfold row
  blk_ext [idx t]
theorem read4 (A : S4096x2048.Idx → Elt Ideal .bf16) (t : Fin cfg0.N) (i : Fin 128) (j : Fin 2048) :
    ((cfg0.win 4).blk t).view.read (Elt Ideal) A (ix2 i j) = A (ix2 (row4 t i) j) := by
  unfold row4
  blk_ext [idx t]
theorem read5 (A : S1024x8192.Idx → Elt Ideal .bf16) (t : Fin cfg0.N) (i : Fin 32) (j : Fin 8192) :
    ((cfg0.win 5).blk t).view.read (Elt Ideal) A (ix2 i j) = A (ix2 (row16 t i) j) := by
  unfold row16
  blk_ext [idx t]
theorem read6 (A : S16384x512.Idx → Elt Ideal .bf16) (t : Fin cfg0.N) (i : Fin 512) (j : Fin 512) :
    ((cfg0.win 6).blk t).view.read (Elt Ideal) A (ix2 i j) = A (ix2 (row t i) j) := by
  unfold row
  blk_ext [idx t]
theorem read7 (A : S4096x2048.Idx → Elt Ideal .bf16) (t : Fin cfg0.N) (i : Fin 128) (j : Fin 2048) :
    ((cfg0.win 7).blk t).view.read (Elt Ideal) A (ix2 i j) = A (ix2 (row4 t i) j) := by
  unfold row4
  blk_ext [idx t]
theorem read8 (A : S1024x8192.Idx → Elt Ideal .bf16) (t : Fin cfg0.N) (i : Fin 32) (j : Fin 8192) :
    ((cfg0.win 8).blk t).view.read (Elt Ideal) A (ix2 i j) = A (ix2 (row16 t i) j) := by
  unfold row16
  blk_ext [idx t]
theorem read9 (A : S16384x512.Idx → Elt Ideal .bf16) (t : Fin cfg0.N) (i : Fin 512) (j : Fin 512) :
    ((cfg0.win 9).blk t).view.read (Elt Ideal) A (ix2 i j) = A (ix2 (row t i) j) := by
  unfold row
  blk_ext [idx t]
theorem read10 (A : S4096x2048.Idx → Elt Ideal .bf16) (t : Fin cfg0.N) (i : Fin 128) (j : Fin 2048) :
    ((cfg0.win 10).blk t).view.read (Elt Ideal) A (ix2 i j) = A (ix2 (row4 t i) j) := by
  unfold row4
  blk_ext [idx t]
theorem read11 (A : S1024x8192.Idx → Elt Ideal .bf16) (t : Fin cfg0.N) (i : Fin 32) (j : Fin 8192) :
    ((cfg0.win 11).blk t).view.read (Elt Ideal) A (ix2 i j) = A (ix2 (row16 t i) j) := by
  unfold row16
  blk_ext [idx t]
theorem read12 (A : S16384x512.Idx → Elt Ideal .f32) (t : Fin cfg0.N) (i : Fin 512) (j : Fin 512) :
    ((cfg0.win 12).blk t).view.read (Elt Ideal) A (ix2 i j) = A (ix2 (row t i) j) := by
  unfold row
  blk_ext [idx t]
theorem read13 (A : S16384x128.Idx → Elt Ideal .f32) (t : Fin cfg0.N) (i : Fin 512) (j : Fin 128) :
    ((cfg0.win 13).blk t).view.read (Elt Ideal) A (ix2 i j) = A (ix2 (row t i) j) := by
  unfold row
  blk_ext [idx t]
theorem read14 (A : S16384x1024.Idx → Elt Ideal .f32) (t : Fin cfg0.N) (i : Fin 512) (j : Fin 1024) :
    ((cfg0.win 14).blk t).view.read (Elt Ideal) A (ix2 i j) = A (ix2 (row t i) j) := by
  unfold row
  blk_ext [idx t]
theorem read15 (A : S16384x1024.Idx → Elt Ideal .f32) (t : Fin cfg0.N) (i : Fin 512) (j : Fin 1024) :
    ((cfg0.win 15).blk t).view.read (Elt Ideal) A (ix2 i j) = A (ix2 (row t i) j) := by
  unfold row
  blk_ext [idx' t]
theorem read16 (A : S1x1024.Idx → Elt Ideal .f32) (t : Fin cfg0.N) (j : Fin 1024) :
    ((cfg0.win 16).blk t).view.read (Elt Ideal) A (ix2 0 j) = A (ix2 0 j) := by
  blk_ext [idx' t]
theorem read17 (A : S1024x2304.Idx → Elt Ideal .bf16) (t : Fin cfg0.N) (i : Fin 1024) (j : Fin 2304) :
    ((cfg0.win 17).blk t).view.read (Elt Ideal) A (ix2 i j) = A (ix2 i j) := by
  blk_ext [idx' t]
theorem read18 (A : S16384x128.Idx → Elt Ideal .f32) (t : Fin cfg0.N) (i : Fin 512) (j : Fin 128) :
    ((cfg0.win 18).blk t).view.read (Elt Ideal) A (ix2 i j) = A (ix2 (row t i) j) := by
  unfold row
  blk_ext [idx' t]
theorem read19 (A : S16384x128.Idx → Elt Ideal .f32) (t : Fin cfg0.N) (i : Fin 512) (j : Fin 128) :
    ((cfg0.win 19).blk t).view.read (Elt Ideal) A (ix2 i j) = A (ix2 (row t i) j) := by
  unfold row
  blk_ext [idx' t]
theorem read20 (A : S1x512.Idx → Elt Ideal .f32) (t : Fin cfg0.N) (j : Fin 512) :
    ((cfg0.win 20).blk t).view.read (Elt Ideal) A (ix2 0 j) = A (ix2 0 j) := by
  blk_ext [idx' t]
theorem read21 (A : S1x128.Idx → Elt Ideal .f32) (t : Fin cfg0.N) (j : Fin 128) :
    ((cfg0.win 21).blk t).view.read (Elt Ideal) A (ix2 0 j) = A (ix2 0 j) := by
  blk_ext [idx' t]
theorem read22 (A : S512x512.Idx → Elt Ideal .bf16) (t : Fin cfg0.N) (i : Fin 512) (j : Fin 512) :
    ((cfg0.win 22).blk t).view.read (Elt Ideal) A (ix2 i j) = A (ix2 i j) := by
  blk_ext [idx' t]
theorem read23 (A : S512x512.Idx → Elt Ideal .bf16) (t : Fin cfg0.N) (i : Fin 512) (j : Fin 512) :
    ((cfg0.win 23).blk t).view.read (Elt Ideal) A (ix2 i j) = A (ix2 i j) := by
  blk_ext [idx' t]

/-- The arguments are these reals. -/
structure Args (I : Ins) : Prop where
  dq : ∀ i j, m ((c : Thread nD τ).loc main_arg0) (ix2 i j) = ((I.dq i j : ℝ) : EReal)
  dk : ∀ i j, m ((c : Thread nD τ).loc main_arg1) (ix2 i j) = ((I.dk i j : ℝ) : EReal)
  dv : ∀ i j, m ((c : Thread nD τ).loc main_arg2) (ix2 i j) = ((I.dv i j : ℝ) : EReal)
  q1 : ∀ i j, m ((c : Thread nD τ).loc main_arg3) (ix2 i j) = ((I.q1 i j : ℝ) : EReal)
  q4 : ∀ i j, m ((c : Thread nD τ).loc main_arg4) (ix2 i j) = ((I.q4 i j : ℝ) : EReal)
  q16 : ∀ i j, m ((c : Thread nD τ).loc main_arg5) (ix2 i j) = ((I.q16 i j : ℝ) : EReal)
  k1 : ∀ i j, m ((c : Thread nD τ).loc main_arg6) (ix2 i j) = ((I.k1 i j : ℝ) : EReal)
  k4 : ∀ i j, m ((c : Thread nD τ).loc main_arg7) (ix2 i j) = ((I.k4 i j : ℝ) : EReal)
  k16 : ∀ i j, m ((c : Thread nD τ).loc main_arg8) (ix2 i j) = ((I.k16 i j : ℝ) : EReal)
  v1 : ∀ i j, m ((c : Thread nD τ).loc main_arg9) (ix2 i j) = ((I.v1 i j : ℝ) : EReal)
  v4 : ∀ i j, m ((c : Thread nD τ).loc main_arg10) (ix2 i j) = ((I.v4 i j : ℝ) : EReal)
  v16 : ∀ i j, m ((c : Thread nD τ).loc main_arg11) (ix2 i j) = ((I.v16 i j : ℝ) : EReal)
  x : ∀ i j, m ((c : Thread nD τ).loc main_arg12) (ix2 i j) = ((I.x i j : ℝ) : EReal)
  dh : ∀ i j, m ((c : Thread nD τ).loc main_arg13) (ix2 i j) = ((I.dh i j : ℝ) : EReal)
  g : ∀ j, m ((c : Thread nD τ).loc main_arg14) (ix2 0 j) = ((I.g j : ℝ) : EReal)
  W : ∀ i j, m ((c : Thread nD τ).loc main_arg15) (ix2 i j) = ((I.W i j : ℝ) : EReal)
  gq : ∀ j, m ((c : Thread nD τ).loc main_arg16) (ix2 0 j) = ((I.gq j : ℝ) : EReal)
  gk : ∀ j, m ((c : Thread nD τ).loc main_arg17) (ix2 0 j) = ((I.gk j : ℝ) : EReal)

/-- The reals a point works on. -/
structure Real (t : Fin cfg0.N) (I : Ins) : Prop where
  pq : ∀ i k, iblk m c 0 t (ix2 i k) = ((I.dq (row t i) k : ℝ) : EReal)
  pk : ∀ i k, k0_pay8 (iblk m c 1 t) (ix2 i k) = ((I.dk (row t i) k : ℝ) : EReal)
  pv : ∀ i k, k0_pay9 (iblk m c 2 t) (ix2 i k) = ((I.dv (row t i) k : ℝ) : EReal)
  q1 : ∀ i k, iblk m c 3 t (ix2 i k) = ((I.q1 (row t i) k : ℝ) : EReal)
  q4 : ∀ (q : Fin 4) (r : Fin 128) k, w4 (iblk m c 4 t) q (ix2 r k) = ((I.q4 (row t ⟨4 * r.val + q.val, by omega⟩) k : ℝ) : EReal)
  q16 : ∀ (q : Fin 16) (r : Fin 32) k, w16 (iblk m c 5 t) q (ix2 r k) = ((I.q16 (row t ⟨16 * r.val + q.val, by omega⟩) k : ℝ) : EReal)
  k1 : ∀ i k, iblk m c 6 t (ix2 i k) = ((I.k1 (row t i) k : ℝ) : EReal)
  k4 : ∀ (q : Fin 4) (r : Fin 128) k, w4 (iblk m c 7 t) q (ix2 r k) = ((I.k4 (row t ⟨4 * r.val + q.val, by omega⟩) k : ℝ) : EReal)
  k16 : ∀ (q : Fin 16) (r : Fin 32) k, w16 (iblk m c 8 t) q (ix2 r k) = ((I.k16 (row t ⟨16 * r.val + q.val, by omega⟩) k : ℝ) : EReal)
  v1 : ∀ i k, iblk m c 9 t (ix2 i k) = ((I.v1 (row t i) k : ℝ) : EReal)
  v4 : ∀ (q : Fin 4) (r : Fin 128) k, w4 (iblk m c 10 t) q (ix2 r k) = ((I.v4 (row t ⟨4 * r.val + q.val, by omega⟩) k : ℝ) : EReal)
  v16 : ∀ (q : Fin 16) (r : Fin 32) k, w16 (iblk m c 11 t) q (ix2 r k) = ((I.v16 (row t ⟨16 * r.val + q.val, by omega⟩) k : ℝ) : EReal)
  yq : ∀ i k, iblk m c 12 t (ix2 i k) = ((I.q (row t i) k : ℝ) : EReal)
  yk : ∀ i k, iblk m c 13 t (ix2 i k) = ((I.k (row t i) k : ℝ) : EReal)
  px : ∀ i j, iblk m c 14 t (ix2 i j) = ((I.x (row t i) j : ℝ) : EReal)
  ph : ∀ i j, iblk m c 15 t (ix2 i j) = ((I.dh (row t i) j : ℝ) : EReal)
  pg : ∀ j, iblk m c 16 t (ix2 0 j) = ((I.g j : ℝ) : EReal)
  pW : ∀ j C, iblk m c 17 t (ix2 j C) = ((I.W j C : ℝ) : EReal)
  pc : ∀ i k, iblk m c 18 t (ix2 i k) = ((Real.cos (angle (row t i) (fold (en k))) : ℝ) : EReal)
  ps : ∀ i k, iblk m c 19 t (ix2 i k) = ((sgn (fun d => Real.sin (angle (row t i) d)) (en k) : ℝ) : EReal)
  gq : ∀ k, iblk m c 20 t (ix2 0 k) = ((I.gq (en k) : ℝ) : EReal)
  gk : ∀ k, iblk m c 21 t (ix2 0 k) = ((I.gk (en k) : ℝ) : EReal)
  p4 : ∀ p q, iblk m c 22 t (ix2 p q) = ((move4 q p : ℝ) : EReal)
  p16 : ∀ p q, iblk m c 23 t (ix2 p q) = ((move16 q p : ℝ) : EReal)

theorem row_of4 (t : Fin 32) (r : Fin 128) (q : Fin 4) (k : Fin 512) (n n') :
    (⟨(row4 t r).val * 4 + (512 * q.val + k.val) / 512, n⟩ : Fin 16384) = row t ⟨4 * r.val + q.val, n'⟩ :=
  Fin.ext (by show (128 * t.val + r.val) * 4 + (512 * q.val + k.val) / 512 = 512 * t.val + (4 * r.val + q.val); omega)
theorem row_of16 (t : Fin 32) (r : Fin 32) (q : Fin 16) (k : Fin 512) (n n') :
    (⟨(row16 t r).val * 16 + (512 * q.val + k.val) / 512, n⟩ : Fin 16384) = row t ⟨16 * r.val + q.val, n'⟩ :=
  Fin.ext (by show (32 * t.val + r.val) * 16 + (512 * q.val + k.val) / 512 = 512 * t.val + (16 * r.val + q.val); omega)
theorem col_of (q : ℕ) (k : Fin 512) (n) : (⟨(512 * q + k.val) % 512, n⟩ : Fin 512) = k := Fin.ext (by show (512 * q + k.val) % 512 = k.val; omega)
theorem row_of8 (t : Fin 32) (i : Fin 512) (n) : (⟨(blk8 t).val * 2048 + (at8 t i).val, n⟩ : Fin 16384) = row t i :=
  Fin.ext (by show t.val / 4 * 2048 + (512 * (t.val % 4) + i.val) = 512 * t.val + i.val; omega)
theorem col_of8 (k : Fin 128) (n) : (⟨(hd2 k).val * 64 + (en k).val, n⟩ : Fin 128) = k :=
  Fin.ext (by show k.val / 64 * 64 + k.val % 64 = k.val; omega)

variable {m c}

theorem real {I : Ins} (A : Args m c I) (t : Fin cfg0.N) : Real m c t I := by
  have h := solves_after (StableHlo.launchContents m c) (HostRows.line)
  have h0 := fun i j => (congrFun (V_main_arg0 m c) (ix2 i j)).trans (A.dq i j)
  have h1 := fun i j => (congrFun (V_main_arg1 m c) (ix2 i j)).trans (A.dk i j)
  have h2 := fun i j => (congrFun (V_main_arg2 m c) (ix2 i j)).trans (A.dv i j)
  have h3 := fun i j => (congrFun (V_main_arg3 m c) (ix2 i j)).trans (A.q1 i j)
  have h4 := fun i j => (congrFun (V_main_arg4 m c) (ix2 i j)).trans (A.q4 i j)
  have h5 := fun i j => (congrFun (V_main_arg5 m c) (ix2 i j)).trans (A.q16 i j)
  have h6 := fun i j => (congrFun (V_main_arg6 m c) (ix2 i j)).trans (A.k1 i j)
  have h7 := fun i j => (congrFun (V_main_arg7 m c) (ix2 i j)).trans (A.k4 i j)
  have h8 := fun i j => (congrFun (V_main_arg8 m c) (ix2 i j)).trans (A.k16 i j)
  have h9 := fun i j => (congrFun (V_main_arg9 m c) (ix2 i j)).trans (A.v1 i j)
  have h10 := fun i j => (congrFun (V_main_arg10 m c) (ix2 i j)).trans (A.v4 i j)
  have h11 := fun i j => (congrFun (V_main_arg11 m c) (ix2 i j)).trans (A.v16 i j)
  have h12 := fun i j => (congrFun (V_main_arg12 m c) (ix2 i j)).trans (A.x i j)
  have h13 := fun i j => (congrFun (V_main_arg13 m c) (ix2 i j)).trans (A.dh i j)
  have h14 := fun j => (congrFun (V_main_arg14 m c) (ix2 0 j)).trans (A.g j)
  have h15 := fun i j => (congrFun (V_main_arg15 m c) (ix2 i j)).trans (A.W i j)
  have h16 := fun j => (congrFun (V_main_arg16 m c) (ix2 0 j)).trans (A.gq j)
  have h17 := fun j => (congrFun (V_main_arg17 m c) (ix2 0 j)).trans (A.gk j)
  refine ⟨fun i k => (read0 (V m c main_arg0) t i k).trans (h0 _ _), fun i k => ?_, fun i k => ?_,
    fun i k => (read3 (V m c main_v54) t i k).trans ((HostRows.v54 h _ _).trans (h3 _ _)), fun q r k => ?_, fun q r k => ?_,
    fun i k => (read6 (V m c main_v59) t i k).trans ((HostRows.v59 h _ _).trans (h6 _ _)), fun q r k => ?_, fun q r k => ?_,
    fun i k => (read9 (V m c main_v64) t i k).trans ((HostRows.v64 h _ _).trans (h9 _ _)), fun q r k => ?_, fun q r k => ?_,
    fun i k => (read12 (V m c main_v13) t i k).trans (HostRows.v13 h h12 h14 h15 _ _), fun i k => (read13 (V m c main_v15) t i k).trans (HostRows.v15 h h12 h14 h15 _ _),
    fun i j => (read14 (V m c main_arg12) t i j).trans (h12 _ _), fun i j => (read15 (V m c main_arg13) t i j).trans (h13 _ _),
    fun j => (read16 (V m c main_arg14) t j).trans (h14 _), fun j C => (read17 (V m c main_v73) t j C).trans ((HostRows.v73 h _ _).trans (h15 _ _)),
    fun i k => (read18 (V m c main_v48) t i k).trans (HostRows.v48 h _ _), fun i k => (read19 (V m c main_v53) t i k).trans (HostRows.v53 h _ _),
    fun k => (read20 (V m c main_v76) t k).trans ((HostRows.v76 h _).trans (h16 _)), fun k => (read21 (V m c main_v79) t k).trans ((HostRows.v79 h _).trans (h17 _)),
    fun p q => (read22 (V m c main_v93) t p q).trans (HostRows.v93 h _ _), fun p q => (read23 (V m c main_v107) t p q).trans (HostRows.v107 h _ _)⟩
  · exact (pay8 _ _ _).trans ((read1 (V m c main_v70) t _ _ _).trans ((HostRows.v70 h _ _ _ _).trans
      ((h1 _ _).trans (congrArg (fun z : ℝ => (z : EReal)) (congrArg₂ I.dk (row_of8 t i _) (col_of8 k _))))))
  · exact (pay9 _ _ _).trans ((read2 (V m c main_v72) t _ _ _).trans ((HostRows.v72 h _ _ _ _).trans
      ((h2 _ _).trans (congrArg (fun z : ℝ => (z : EReal)) (congrArg₂ I.dv (row_of8 t i _) (col_of8 k _))))))
  · exact (w4_eq _ q r k).trans ((read4 (V m c main_v56) t r _).trans ((HostRows.v56 h _ _).trans
      ((h4 _ _).trans (congrArg (fun z : ℝ => (z : EReal)) (congrArg₂ I.q4 (row_of4 t r q k _ _) (col_of q.val k _))))))
  · exact (w16_eq _ q r k).trans ((read5 (V m c main_v58) t r _).trans ((HostRows.v58 h _ _).trans
      ((h5 _ _).trans (congrArg (fun z : ℝ => (z : EReal)) (congrArg₂ I.q16 (row_of16 t r q k _ _) (col_of q.val k _))))))
  · exact (w4_eq _ q r k).trans ((read7 (V m c main_v61) t r _).trans ((HostRows.v61 h _ _).trans
      ((h7 _ _).trans (congrArg (fun z : ℝ => (z : EReal)) (congrArg₂ I.k4 (row_of4 t r q k _ _) (col_of q.val k _))))))
  · exact (w16_eq _ q r k).trans ((read8 (V m c main_v63) t r _).trans ((HostRows.v63 h _ _).trans
      ((h8 _ _).trans (congrArg (fun z : ℝ => (z : EReal)) (congrArg₂ I.k16 (row_of16 t r q k _ _) (col_of q.val k _))))))
  · exact (w4_eq _ q r k).trans ((read10 (V m c main_v66) t r _).trans ((HostRows.v66 h _ _).trans
      ((h10 _ _).trans (congrArg (fun z : ℝ => (z : EReal)) (congrArg₂ I.v4 (row_of4 t r q k _ _) (col_of q.val k _))))))
  · exact (w16_eq _ q r k).trans ((read11 (V m c main_v68) t r _).trans ((HostRows.v68 h _ _).trans
      ((h11 _ _).trans (congrArg (fun z : ℝ => (z : EReal)) (congrArg₂ I.v16 (row_of16 t r q k _ _) (col_of q.val k _))))))

end Cert.InpBwdIdeal.Arrays

end
-- ==== Proof.InpArrays.lean ====
/- The five arrays the input projection's gradient leaves, on finite arguments. -/
module

public import proofs.«01_k».proof.Proof.InpValue

@[expose] public section

set_option maxRecDepth 16384

noncomputable section

namespace Cert.InpBwdIdeal.Arrays

open Cert.InpBwdIdeal Cert.InpBwdIdeal.Gen Cert.InpBwdIdeal.Hand Idealize.ShloMosaic Idealize.ShloMosaic.TcCoe Idealize.SL.Sem
open Idealize.ShloMosaic.Pipeline (Dat)
open Cert.Lift Cert.Norm Cert.Inp.Math Cert.InpBwdIdeal.Kernel Cert.Line
open Cert.Out.Math (move4 move16)

section Point

variable (m : (ℓ : Loc nD τ sig) → Buf (Elt Ideal) ℓ) (c : Dev nD) (t : Fin cfg0.N)

/-- The gradients before the rotation, as a point computes them. -/
abbrev uq := k0_pay11 (F := Ideal) (iblk m c 18 t) (iblk m c 19 t) (iblk m c 0 t)
@[inherit_doc uq] abbrev uk := k0_pay31 (F := Ideal) (k0_pay7 (iblk m c 19 t)) (k0_pay8 (iblk m c 1 t)) (k0_pay29 (k0_pay6 (iblk m c 18 t)) (k0_pay8 (iblk m c 1 t))) k0_pay30 96#32
/-- The six parts of the gradient at the projection. -/
abbrev sA := k0_pay42 (F := Ideal) (bq (iblk m c 12 t) (uq m c t) (iblk m c 20 t))
@[inherit_doc sA] abbrev sB := bk (k0_pay28 (iblk m c 13 t)) (uk m c t) (iblk m c 21 t)
@[inherit_doc sA] abbrev sV := k0_pay44 (F := Ideal) (k0_pay9 (iblk m c 2 t))
@[inherit_doc sA] abbrev sP := merge (iblk m c 3 t) (iblk m c 22 t) (iblk m c 23 t) (w4 (iblk m c 4 t)) (w16 (iblk m c 5 t))
@[inherit_doc sA] abbrev sQ := merge (iblk m c 6 t) (iblk m c 22 t) (iblk m c 23 t) (w4 (iblk m c 7 t)) (w16 (iblk m c 8 t))
@[inherit_doc sA] abbrev sR := merge (iblk m c 9 t) (iblk m c 22 t) (iblk m c 23 t) (w4 (iblk m c 10 t)) (w16 (iblk m c 11 t))
/-- The gradient at the projection. -/
abbrev sD : FVec Ideal S512x2304 .bf16 := View.canon (stores (sA m c t) (sB m c t) (sV m c t) (sP m c t) (sQ m c t) (sR m c t))

variable {m c t}

theorem Real.uq {I : Ins} (h : Real m c t I) (i k : Fin 512) :
    uq m c t (ix2 i k) = ((back (angle (row t i)) (of8 (I.dq (row t i)) (hd8 k)) (en k) : ℝ) : EReal) :=
  pay11 (a := fun i => angle (row t i)) (o := fun i => I.dq (row t i)) h.pc h.ps h.pq i k
theorem Real.uk {I : Ins} (h : Real m c t I) (i : Fin 512) (k : Fin 128) :
    uk m c t (ix2 i k) = ((back (angle (row t i)) (of2 (I.dk (row t i)) (hd2 k)) (en k) : ℝ) : EReal) :=
  pay31 (a := fun i => angle (row t i)) (p := fun i => I.dk (row t i)) (C := k0_pay6 (iblk m c 18 t)) (S := k0_pay7 (iblk m c 19 t))
    (fun i k => (congrFun (same _ _) _).trans (h.pc i k)) (fun i k => (congrFun (same _ _) _).trans (h.ps i k)) h.pk i k
theorem Real.yk' {I : Ins} (h : Real m c t I) (i : Fin 512) (k : Fin 128) : k0_pay28 (F := Ideal) (iblk m c 13 t) (ix2 i k) = ((I.k (row t i) k : ℝ) : EReal) :=
  (congrFun (same _ _) _).trans (h.yk i k)

theorem of8_of (u : Fin 8 → Fin 64 → ℝ) (hq : Fin 8) (l : Fin 64) :
    of8 (fun k => u (hd8 k) (en k)) hq l = u hq l := by
  unfold of8
  exact congrArg₂ u (Fin.ext (by show (hq.val * 64 + l.val) / 64 = hq.val; omega)) (Fin.ext (by show (hq.val * 64 + l.val) % 64 = l.val; omega))
theorem of2_of (u : Fin 2 → Fin 64 → ℝ) (hq : Fin 2) (l : Fin 64) : of2 (fun k => u (hd2 k) (en k)) hq l = u hq l := by
  unfold of2
  exact congrArg₂ u (Fin.ext (by show (hq.val * 64 + l.val) / 64 = hq.val; omega)) (Fin.ext (by show (hq.val * 64 + l.val) % 64 = l.val; omega))

theorem Real.sA {I : Ins} (h : Real m c t I) (i k : Fin 512) : sA m c t (ix2 i k) = ((I.dqa (row t i) k : ℝ) : EReal) := by
  refine (bq_eq (v := fun i => I.q (row t i)) (d := fun i k => back (angle (row t i)) (of8 (I.dq (row t i)) (hd8 k)) (en k)) (g := I.gq) h.yq h.uq h.gq i k).trans ?_
  unfold Ins.dqa headBack
  refine congrArg (fun c => ((normBack 64 (of8 (I.q (row t i)) (hd8 k)) c (en k) : ℝ) : EReal)) (funext fun l => ?_)
  exact congrArg (· * I.gq l) (of8_of (u := fun h l => back (angle (row t i)) (of8 (I.dq (row t i)) h) l) (hd8 k) l)
theorem Real.sB {I : Ins} (h : Real m c t I) (i : Fin 512) (k : Fin 128) : sB m c t (ix2 i k) = ((I.dka (row t i) k : ℝ) : EReal) := by
  refine (bk_eq (p := fun i => I.k (row t i)) (y := fun i k => back (angle (row t i)) (of2 (I.dk (row t i)) (hd2 k)) (en k)) (g := I.gk) h.yk' h.uk h.gk i k).trans ?_
  unfold Ins.dka headBack
  refine congrArg (fun c => ((normBack 64 (of2 (I.k (row t i)) (hd2 k)) c (en k) : ℝ) : EReal)) (funext fun l => ?_)
  exact congrArg (· * I.gk l) (of2_of (u := fun h l => back (angle (row t i)) (of2 (I.dk (row t i)) h) l) (hd2 k) l)
theorem Real.sV {I : Ins} (h : Real m c t I) (i : Fin 512) (k : Fin 128) : sV m c t (ix2 i k) = ((I.dv (row t i) k : ℝ) : EReal) := h.pv i k
theorem Real.sP {I : Ins} (h : Real m c t I) (i k : Fin 512) :
    sP m c t (ix2 i k) = ((I.q1 (row t i) k + I.q4 (row t i) k + I.q16 (row t i) k : ℝ) : EReal) :=
  merge_eq (o := fun i => I.q1 (row t i)) (b := fun i => I.q4 (row t i)) (c := fun i => I.q16 (row t i)) h.q1 h.p4 h.p16 h.q4 h.q16 i k
theorem Real.sQ {I : Ins} (h : Real m c t I) (i k : Fin 512) :
    sQ m c t (ix2 i k) = ((I.k1 (row t i) k + I.k4 (row t i) k + I.k16 (row t i) k : ℝ) : EReal) :=
  merge_eq (o := fun i => I.k1 (row t i)) (b := fun i => I.k4 (row t i)) (c := fun i => I.k16 (row t i)) h.k1 h.p4 h.p16 h.k4 h.k16 i k
theorem Real.sR {I : Ins} (h : Real m c t I) (i k : Fin 512) :
    sR m c t (ix2 i k) = ((I.v1 (row t i) k + I.v4 (row t i) k + I.v16 (row t i) k : ℝ) : EReal) :=
  merge_eq (o := fun i => I.v1 (row t i)) (b := fun i => I.v4 (row t i)) (c := fun i => I.v16 (row t i)) h.v1 h.p4 h.p16 h.v4 h.v16 i k
theorem Real.sD {I : Ins} (h : Real m c t I) (y : S512x2304.Idx) : sD m c t y = ((I.dproj (row t (y 0)) (y 1) : ℝ) : EReal) :=
  stores_eq h.sA h.sB h.sV h.sP h.sQ h.sR y

/-- The gradient at the projection, read back. -/
theorem Real.back {I : Ins} (h : Real m c t I) {κ : Kind} {sp : Space} (v : View sig κ sp S512x2304 .bf16) (inb) (i : Fin 512) (C : Fin 2304) :
    v.readCov (stores (Arrays.sA m c t) (Arrays.sB m c t) (Arrays.sV m c t) (Arrays.sP m c t) (Arrays.sQ m c t) (Arrays.sR m c t))
      (Rect.unit (s := S512x2304) ![0, 0] ![512, 2304] inb).toLoadRect (ix2 i C) = ((I.dproj (row t i) C : ℝ) : EReal) := by
  rw [View.readCov_eq_canon']
  refine (h.sD _).trans (congrArg (fun z : ℝ => (z : EReal)) (congrArg₂ (fun a b => I.dproj (row t a) b) (Fin.ext ?_) (Fin.ext ?_)))
  · show 0 + 1 * i.val = i.val
    omega
  · show 0 + 1 * C.val = C.val
    omega

/-- A sum over all rows, tile by tile, of finite terms. -/
theorem sum_tiles (f : Fin 16384 → ℝ) :
    (∑ k : Fin 32, ((∑ r : Fin 512, f (row k r) : ℝ) : EReal)) = ((∑ r, f r : ℝ) : EReal) := by
  rw [coe_sum]
  refine congrArg _ ?_
  have h : ∑ k : Fin 32, ∑ r : Fin 512, f (row k r) = ∑ _a : Fin 1, ∑ r, f r := Fin.sum_points_lanes_congr (N := 32) (n := 512) (A := 1) (L := 16384) 32 (F := fun k r => f (row k r))
    (g := fun _ r => f r) (fun t k ha hl => congrArg f (Fin.ext (by simp only [row]; omega)))
  rw [h, Fin.sum_univ_one]

/-- What a tile adds to the gradient of the gain. -/
theorem Real.gain1 {I : Ins} (h : Real m c t I) {D : FVec Ideal S512x2304 .bf16} (hD : ∀ i C, D (ix2 i C) = ((I.dproj (row t i) C : ℝ) : EReal))
    (L : FVec Ideal S1x1024 .f32) (i : Fin 1) (j : Fin 1024) :
    k0_pay1 (k0_pay89 D (iblk m c 17 t)) (k0_pay91 (iblk m c 14 t)) L (ix2 i j) = L (ix2 i j) + ((∑ r, I.gain (row t r) j : ℝ) : EReal) :=
  pay1 (x := fun i => I.x (row t i)) (e := fun i => I.dproj (row t i)) h.px hD h.pW L i j
/-- What a tile adds to the gradient of the eight heads' gain. -/
theorem Real.gain8 {I : Ins} (h : Real m c t I) (L : FVec Ideal S1x512 .f32) (i : Fin 1) (k : Fin 512) :
    k0_pay40 (k0_pay27 (Arrays.uq m c t) (xq (iblk m c 12 t))) L (ix2 i k) = L (ix2 i k) + ((∑ r, I.gainq (row t r) k : ℝ) : EReal) := by
  have e := pay27 (v := fun i => I.q (row t i)) (d := fun i k => Cert.Inp.Math.back (angle (row t i)) (of8 (I.dq (row t i)) (hd8 k)) (en k)) h.yq h.uq i k
  have e' : ∀ r, I.gainq (row t r) k = Cert.Inp.Math.back (angle (row t r)) (of8 (I.dq (row t r)) (hd8 k)) (en k)
      * (I.q (row t r) k * rr 64 (of8 (I.q (row t r)) (hd8 k))) := fun r => by rw [Ins.gainq, headGain, of8_en]
  show shapeCast S1x512 L shapeCasts_S1x512_S1x512 (ix2 i k) + k0_pay27 (Arrays.uq m c t) (xq (iblk m c 12 t)) (ix2 i k) = _
  rw [same, e]
  simp only [e']
/-- What a tile adds to the gradient of the two heads' gain. -/
theorem Real.gain2 {I : Ins} (h : Real m c t I) (L : FVec Ideal S1x128 .f32) (i : Fin 1) (k : Fin 128) :
    k0_pay41 (Arrays.uk m c t) (k0_pay33 (k0_pay28 (iblk m c 13 t))) L (ix2 i k) = L (ix2 i k) + ((∑ r, I.gaink (row t r) k : ℝ) : EReal) := by
  have e := pay41 (p := fun i => I.k (row t i)) (y := fun i k => Cert.Inp.Math.back (angle (row t i)) (of2 (I.dk (row t i)) (hd2 k)) (en k)) h.yk' h.uk L i k
  have e' : ∀ r, I.gaink (row t r) k = Cert.Inp.Math.back (angle (row t r)) (of2 (I.dk (row t r)) (hd2 k)) (en k)
      * (I.k (row t r) k * rr 64 (of2 (I.k (row t r)) (hd2 k))) := fun r => by rw [Ins.gaink, headGain, of2_en]
  rw [e]
  simp only [e']

end Point

variable {m : (ℓ : Loc nD τ sig) → Buf (Elt Ideal) ℓ} {c : Dev nD} {I : Ins} (A : Args m c I)
include A

set_option maxHeartbeats 1600000 in
/-- The gradient at the projection. -/
theorem arr25 : (dats m 0 c).arrAt 25 cfg0.N = (fun i => ((I.dproj (i 0) (i 1) : ℝ) : EReal) : S16384x2304.Idx → EReal) := by
  refine (dats m 0 c).arrAt_eq_of_covers 25 _ (by decide +kernel) fun t _ (y : S512x2304.Idx) => ?_
  blk_simp
  have e : ((View.whole main_v108_1).slice (win0_25.rect t)).emb y = ix2 (row t (y 0)) (y 1) := by
    unfold row
    blk_ext [idx' t]
  have h := real A t
  rw [after0_25, e]
  by_cases h0 : t.val % 32 = 0
  · rw [outsAt0_A m c t h0]
    unfold outsA ptA
    dsimp only
    frame_out
    exact h.sD y
  · rw [outsAt0_B m c t h0]
    unfold outsB ptB
    dsimp only
    frame_out
    exact h.sD y

set_option maxHeartbeats 1600000 in
/-- The gradient at the rows. -/
theorem arr24 : (dats m 0 c).arrAt 24 cfg0.N = (fun i => ((I.dx (i 0) (i 1) : ℝ) : EReal) : S16384x1024.Idx → EReal) := by
  refine (dats m 0 c).arrAt_eq_of_covers 24 _ (by decide +kernel) fun t _ (y : S512x1024.Idx) => ?_
  blk_simp
  have e : ((View.whole main_v108_0).slice (win0_24.rect t)).emb y = ix2 (row t (y 0)) (y 1) := by
    unfold row
    blk_ext [idx' t]
  have h := real A t
  rw [after0_24, e]
  by_cases h0 : t.val % 32 = 0
  · rw [outsAt0_A m c t h0]
    unfold outsA ptA
    dsimp only
    frame_out
    idx_vars y
    exact pay2 (x := fun i => I.x (row t i)) (h := fun i => I.dh (row t i)) (e := fun i => I.dproj (row t i)) h.px h.pg (h.back _ _) h.pW h.ph _ _
  · rw [outsAt0_B m c t h0]
    unfold outsB ptB
    dsimp only
    frame_out
    idx_vars y
    exact pay2 (x := fun i => I.x (row t i)) (h := fun i => I.dh (row t i)) (e := fun i => I.dproj (row t i)) h.px h.pg (h.back _ _) h.pW h.ph _ _

set_option maxHeartbeats 1600000 in
/-- The gradient of the gain before the projection. -/
theorem arr26 : (dats m 0 c).arrAt 26 cfg0.N = (fun i => ((∑ r, I.gain r (i 1) : ℝ) : EReal) : S1x1024.Idx → EReal) := by
  refine (dats m 0 c).arrAt_eq_of_after_last 26 tL (by decide +kernel) _ fun (j : S1x1024.Idx) => ?_
  blk_simp
  rw [after0_26]
  have h := Pipeline.eq_sum_fin_of_reset_step_apply_last (N := cfg0.N) (fun n h => (outsAt0 m c n h).2.2.1) 32 (fun _ => 0)
    (fun t i => ((∑ r, I.gain (row t r) (i 1) : ℝ) : EReal))
    (fun t h0 i => by
      have h := real A t
      rw [outsAt0_A m c t h0]
      unfold outsA ptA
      dsimp only
      frame_out
      idx_vars i
      refine (h.gain1 (h.back _ _) _ _ _).trans ?_
      pointwise [k0_pay3])
    (fun t h0 i => by
      have h := real A t
      rw [outsAt0_B m c t h0]
      unfold outsB ptB
      dsimp only
      frame_out
      idx_vars i
      exact h.gain1 (h.back _ _) _ _ _)
    (by decide) tL rfl j
  exact h.trans ((zero_add _).trans (sum_tiles fun r => I.gain r (j 1)))

set_option maxHeartbeats 1600000 in
/-- The gradient of the eight heads' gain. -/
theorem arr27 : (dats m 0 c).arrAt 27 cfg0.N = (fun i => ((∑ r, I.gainq r (i 1) : ℝ) : EReal) : S1x512.Idx → EReal) := by
  refine (dats m 0 c).arrAt_eq_of_after_last 27 tL (by decide +kernel) _ fun (j : S1x512.Idx) => ?_
  blk_simp
  rw [after0_27]
  have h := Pipeline.eq_sum_fin_of_reset_step_apply_last (N := cfg0.N) (fun n h => (outsAt0 m c n h).2.2.2.1) 32 (fun _ => 0)
    (fun t i => ((∑ r, I.gainq (row t r) (i 1) : ℝ) : EReal))
    (fun t h0 i => by
      have h := real A t
      rw [outsAt0_A m c t h0]
      unfold outsA ptA
      dsimp only
      frame_out
      idx_vars i
      refine (h.gain8 _ _ _).trans ?_
      pointwise [k0_pay4])
    (fun t h0 i => by
      have h := real A t
      rw [outsAt0_B m c t h0]
      unfold outsB ptB
      dsimp only
      frame_out
      idx_vars i
      exact h.gain8 _ _ _)
    (by decide) tL rfl j
  exact h.trans ((zero_add _).trans (sum_tiles fun r => I.gainq r (j 1)))

set_option maxHeartbeats 1600000 in
/-- The gradient of the two heads' gain. -/
theorem arr28 : (dats m 0 c).arrAt 28 cfg0.N = (fun i => ((∑ r, I.gaink r (i 1) : ℝ) : EReal) : S1x128.Idx → EReal) := by
  refine (dats m 0 c).arrAt_eq_of_after_last 28 tL (by decide +kernel) _ fun (j : S1x128.Idx) => ?_
  blk_simp
  rw [after0_28]
  have h := Pipeline.eq_sum_fin_of_reset_step_apply_last (N := cfg0.N) (fun n h => (outsAt0 m c n h).2.2.2.2) 32 (fun _ => 0)
    (fun t i => ((∑ r, I.gaink (row t r) (i 1) : ℝ) : EReal))
    (fun t h0 i => by
      have h := real A t
      rw [outsAt0_A m c t h0]
      unfold outsA ptA
      dsimp only
      frame_out
      idx_vars i
      refine (h.gain2 _ _ _).trans ?_
      pointwise [k0_pay5])
    (fun t h0 i => by
      have h := real A t
      rw [outsAt0_B m c t h0]
      unfold outsB ptB
      dsimp only
      frame_out
      idx_vars i
      exact h.gain2 _ _ _)
    (by decide) tL rfl j
  exact h.trans ((zero_add _).trans (sum_tiles fun r => I.gaink r (j 1)))

end Cert.InpBwdIdeal.Arrays

end
-- ==== Proof.InpClaim.lean ====
/- The input projection's gradient's kernel and its reference end with the same results on finite arguments. -/
module

public import proofs.«01_k».proof.Defs
public import proofs.«01_k».proof.Proof.InpFinite
public import proofs.«01_k».proof.Proof.InpRef
public import proofs.«01_k».proof.Proof.InpArrays

@[expose] public section

set_option maxRecDepth 16384

noncomputable section

namespace Cert.InpBwdRefIdeal.Ends

open Cert.InpBwdRefIdeal Cert.InpBwdRefIdeal.Gen Cert.InpBwdRefIdeal.Value Idealize.ShloMosaic Idealize.ShloMosaic.TcCoe
open Idealize.SL.Sem Idealize.ShloMosaic.StableHlo Cert.Line Cert.Lift Cert.InpBwdRefIdeal.Rows

variable (m : (ℓ : Loc nD τ sig) → Buf (Elt Ideal) ℓ) (c : Dev nD)

/-- What every array holds after the reference has run. -/
abbrev ends : Valuation τ sig (Elt Ideal) := after (ops (F := Ideal)) (launchContents m c)

theorem solves : Solves (ops (F := Ideal)) 18 (ends m c) := solves_after _ line

theorem arg (b : Ref sig .tc) (hb : b.idx.val < 18) : ends m c (Proc.devRef .tc b) = m ((c.tc : Thread nD τ).loc b) :=
  after_keep _ 18 _ line hb

theorem run (ρ : Dev nD → PrngReg) : θ_run defs (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq scopedRefs_eq scopedSems_eq defs main (fun _ => ops) main_eq (fun _ => ops_sub) m ρ

end Cert.InpBwdRefIdeal.Ends

namespace Cert.Proof

open Idealize.ShloMosaic Idealize.SL.Sem Cert.Lift Cert.Inp.Math
open Cert.InpBwdRefIdeal (main_arg0 main_arg1 main_arg2 main_arg3 main_arg4 main_arg5 main_arg6 main_arg7 main_arg8 main_arg9 main_arg10 main_arg11
  main_arg12 main_arg13 main_arg14 main_arg15 main_arg16 main_arg17)
open Cert.InpBwdRefIdeal.Ends (arg)
open Cert.InpBwdIdeal.Arrays (arr24 arr25 arr26 arr27 arr28)
open Cert.InpBwdRefIdeal.Rows (v222 v223 v205 v224 v225)

set_option maxHeartbeats 3200000 in
theorem inp_algebraic [Cert.Pre_finite_inp.Facts] : Cert.algebraic_InpBwdIdeal_InpBwdRefIdeal_pre_finite_inp := by
  pair_intro
  · run_from Cert.InpBwdIdeal.Hand.run_blocks m g
  · refine (θ_run _ _ _).mono (fun r hr c => ?_) (Cert.InpBwdRefIdeal.Ends.run m' g')
    obtain ⟨h0, h1, h2, h3, h4, h5, h6, h7, h8, h9, h10, h11, h12, h13, h14, h15, h16, h17⟩ := Cert.Pre_finite_inp.finite_of_fn (hpre c)
    obtain ⟨e0, e1, e2, e3, e4, e5, e6, e7, e8, e9, e10, e11, e12, e13, e14, e15, e16, e17⟩ := hagree c
    have A : Cert.InpBwdIdeal.Arrays.Args m c (Ins.mk
      (fun i j => (m ((c.tc : Thread Cert.InpBwdIdeal.nD Cert.InpBwdIdeal.τ).loc Cert.InpBwdIdeal.main_arg0) (ix2 i j)).toReal)
      (fun i j => (m ((c.tc : Thread Cert.InpBwdIdeal.nD Cert.InpBwdIdeal.τ).loc Cert.InpBwdIdeal.main_arg1) (ix2 i j)).toReal)
      (fun i j => (m ((c.tc : Thread Cert.InpBwdIdeal.nD Cert.InpBwdIdeal.τ).loc Cert.InpBwdIdeal.main_arg2) (ix2 i j)).toReal)
      (fun i j => (m ((c.tc : Thread Cert.InpBwdIdeal.nD Cert.InpBwdIdeal.τ).loc Cert.InpBwdIdeal.main_arg3) (ix2 i j)).toReal)
      (fun i j => (m ((c.tc : Thread Cert.InpBwdIdeal.nD Cert.InpBwdIdeal.τ).loc Cert.InpBwdIdeal.main_arg4) (ix2 i j)).toReal)
      (fun i j => (m ((c.tc : Thread Cert.InpBwdIdeal.nD Cert.InpBwdIdeal.τ).loc Cert.InpBwdIdeal.main_arg5) (ix2 i j)).toReal)
      (fun i j => (m ((c.tc : Thread Cert.InpBwdIdeal.nD Cert.InpBwdIdeal.τ).loc Cert.InpBwdIdeal.main_arg6) (ix2 i j)).toReal)
      (fun i j => (m ((c.tc : Thread Cert.InpBwdIdeal.nD Cert.InpBwdIdeal.τ).loc Cert.InpBwdIdeal.main_arg7) (ix2 i j)).toReal)
      (fun i j => (m ((c.tc : Thread Cert.InpBwdIdeal.nD Cert.InpBwdIdeal.τ).loc Cert.InpBwdIdeal.main_arg8) (ix2 i j)).toReal)
      (fun i j => (m ((c.tc : Thread Cert.InpBwdIdeal.nD Cert.InpBwdIdeal.τ).loc Cert.InpBwdIdeal.main_arg9) (ix2 i j)).toReal)
      (fun i j => (m ((c.tc : Thread Cert.InpBwdIdeal.nD Cert.InpBwdIdeal.τ).loc Cert.InpBwdIdeal.main_arg10) (ix2 i j)).toReal)
      (fun i j => (m ((c.tc : Thread Cert.InpBwdIdeal.nD Cert.InpBwdIdeal.τ).loc Cert.InpBwdIdeal.main_arg11) (ix2 i j)).toReal)
      (fun i j => (m ((c.tc : Thread Cert.InpBwdIdeal.nD Cert.InpBwdIdeal.τ).loc Cert.InpBwdIdeal.main_arg12) (ix2 i j)).toReal)
      (fun i j => (m ((c.tc : Thread Cert.InpBwdIdeal.nD Cert.InpBwdIdeal.τ).loc Cert.InpBwdIdeal.main_arg13) (ix2 i j)).toReal)
      (fun j => (m ((c.tc : Thread Cert.InpBwdIdeal.nD Cert.InpBwdIdeal.τ).loc Cert.InpBwdIdeal.main_arg14) (ix2 0 j)).toReal)
      (fun i j => (m ((c.tc : Thread Cert.InpBwdIdeal.nD Cert.InpBwdIdeal.τ).loc Cert.InpBwdIdeal.main_arg15) (ix2 i j)).toReal)
      (fun j => (m ((c.tc : Thread Cert.InpBwdIdeal.nD Cert.InpBwdIdeal.τ).loc Cert.InpBwdIdeal.main_arg16) (ix2 0 j)).toReal)
      (fun j => (m ((c.tc : Thread Cert.InpBwdIdeal.nD Cert.InpBwdIdeal.τ).loc Cert.InpBwdIdeal.main_arg17) (ix2 0 j)).toReal)) := ⟨fun i j => h0 (ix2 i j), fun i j => h1 (ix2 i j), fun i j => h2 (ix2 i j), fun i j => h3 (ix2 i j), fun i j => h4 (ix2 i j), fun i j => h5 (ix2 i j), fun i j => h6 (ix2 i j), fun i j => h7 (ix2 i j), fun i j => h8 (ix2 i j), fun i j => h9 (ix2 i j), fun i j => h10 (ix2 i j), fun i j => h11 (ix2 i j), fun i j => h12 (ix2 i j), fun i j => h13 (ix2 i j), fun j => h14 (ix2 0 j), fun i j => h15 (ix2 i j), fun j => h16 (ix2 0 j), fun j => h17 (ix2 0 j)⟩
    have h := Cert.InpBwdRefIdeal.Ends.solves m' c
    have B := Cert.InpBwdRefIdeal.Rows.Args.mk (E := Cert.InpBwdRefIdeal.Ends.ends m' c)
      (fun i j => (congrFun ((arg m' c main_arg0 (by decide)).trans e0) (ix2 i j)).trans (A.dq i j))
      (fun i j => (congrFun ((arg m' c main_arg1 (by decide)).trans e1) (ix2 i j)).trans (A.dk i j))
      (fun i j => (congrFun ((arg m' c main_arg2 (by decide)).trans e2) (ix2 i j)).trans (A.dv i j))
      (fun i j => (congrFun ((arg m' c main_arg3 (by decide)).trans e3) (ix2 i j)).trans (A.q1 i j))
      (fun i j => (congrFun ((arg m' c main_arg4 (by decide)).trans e4) (ix2 i j)).trans (A.q4 i j))
      (fun i j => (congrFun ((arg m' c main_arg5 (by decide)).trans e5) (ix2 i j)).trans (A.q16 i j))
      (fun i j => (congrFun ((arg m' c main_arg6 (by decide)).trans e6) (ix2 i j)).trans (A.k1 i j))
      (fun i j => (congrFun ((arg m' c main_arg7 (by decide)).trans e7) (ix2 i j)).trans (A.k4 i j))
      (fun i j => (congrFun ((arg m' c main_arg8 (by decide)).trans e8) (ix2 i j)).trans (A.k16 i j))
      (fun i j => (congrFun ((arg m' c main_arg9 (by decide)).trans e9) (ix2 i j)).trans (A.v1 i j))
      (fun i j => (congrFun ((arg m' c main_arg10 (by decide)).trans e10) (ix2 i j)).trans (A.v4 i j))
      (fun i j => (congrFun ((arg m' c main_arg11 (by decide)).trans e11) (ix2 i j)).trans (A.v16 i j))
      (fun i j => (congrFun ((arg m' c main_arg12 (by decide)).trans e12) (ix2 i j)).trans (A.x i j))
      (fun i j => (congrFun ((arg m' c main_arg13 (by decide)).trans e13) (ix2 i j)).trans (A.dh i j))
      (fun j => (congrFun ((arg m' c main_arg14 (by decide)).trans e14) (ix2 0 j)).trans (A.g j))
      (fun i j => (congrFun ((arg m' c main_arg15 (by decide)).trans e15) (ix2 i j)).trans (A.W i j))
      (fun j => (congrFun ((arg m' c main_arg16 (by decide)).trans e16) (ix2 0 j)).trans (A.gq j))
      (fun j => (congrFun ((arg m' c main_arg17 (by decide)).trans e17) (ix2 0 j)).trans (A.gk j))
    refine ⟨(hr c _).trans ?_, (hr c _).trans ?_, (hr c _).trans ?_, (hr c _).trans ?_, (hr c _).trans ?_,
      (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide)), (hr c _).trans (arg m' c _ (by decide))⟩
    · refine Eq.trans (ext2 fun i j => ?_) (arr24 A).symm; exact v222 h B i j
    · refine Eq.trans (ext2 fun i j => ?_) (arr25 A).symm; exact v223 h B i j
    · refine Eq.trans (ext2 fun i j => ?_) (arr26 A).symm; exact v205 h B i j
    · refine Eq.trans (ext2 fun i j => ?_) (arr27 A).symm; exact v224 h B.x B.g B.W B.dq B.gq i j
    · refine Eq.trans (ext2 fun i j => ?_) (arr28 A).symm; exact v225 h B.x B.g B.W B.dk B.gk i j

end Cert.Proof

end
-- ==== Proof.DbiasMath.lean ====
/- The relative bias' gradient from the windows' partial sums: the sum, by distance bucket, of what the windows of the three
   dilations leave. Sums of extended reals in any order, so nothing has to be finite; and no fact about the logarithm in the
   bucket's formula is used but its sign and a bound. -/
module

public import proofs.«01_k».proof.Proof.Lift

@[expose] public section

noncomputable section

namespace Cert.Dbias.Math

open Idealize.ShloMosaic Cert.Lift

/-- How far key `j` of a window lies after query `i`, as a word. -/
def dist (i : Fin 256) (j : Fin 384) : BitVec 32 :=
  IntOp.subi (IntOp.subi (BitVec.ofNat 32 j.val) 64#32) (BitVec.ofNat 32 i.val)

/-- Whether a distance lies inside the band. -/
def near (r : BitVec 32) : BitVec 1 := IntOp.cmpi .sle (IntOp.absi r) 64#32

/-- A distance as the kernel's tables take it, held inside the band. -/
def clip (r : BitVec 32) : BitVec 32 := IntOp.minsi 64#32 (IntOp.maxsi 4294967232#32 r)

/-- The part of the bucket's formula that takes the logarithm, at the distance's absolute value `n`. -/
def far (n : BitVec 32) : EReal :=
  Ideal.div (Ideal.log (Ideal.div (((IntOp.maxsi n 8#32).toInt : ℝ) : EReal) (Ideal.ofBits .f32 0x41000000#32)))
    (Ideal.ofBits .f32 0x409B43D5#32) * Ideal.ofBits .f32 0x41000000#32

/-- The bucket of a distance. -/
def bucket (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (Ideal.fptosi 32 (far (IntOp.absi r)))) 15#32))

/-- An index counted from the end if it is negative. -/
def wrap (b : BitVec 32) : BitVec 32 := Scalar.select (IntOp.cmpi .slt b 0#32) (IntOp.addi b 32#32) b

theorem dist_toInt (i : Fin 256) (j : Fin 384) : (dist i j).toInt = (j.val : ℤ) - 64 - i.val := by
  have hi := i.isLt
  have hj := j.isLt
  unfold dist IntOp.subi
  have ei : (BitVec.ofNat 32 i.val).toInt = i.val := by rw [BitVec.toInt_ofNat', Int.bmod_def]; omega
  have ej : (BitVec.ofNat 32 j.val).toInt = j.val := by rw [BitVec.toInt_ofNat', Int.bmod_def]; omega
  rw [BitVec.toInt_sub, BitVec.toInt_sub, ei, ej, show (64#32 : BitVec 32).toInt = 64 by decide]
  simp only [Int.bmod_def]
  omega

theorem absi_toInt {r : BitVec 32} (h : -5104 ≤ r.toInt) (h' : r.toInt ≤ 5104) : (IntOp.absi r).toInt = |r.toInt| := by
  unfold IntOp.absi
  by_cases e : r.toInt < 0
  · rw [if_pos (by rw [BitVec.msb_eq_toInt]; exact decide_eq_true e), BitVec.toInt_neg, abs_of_neg e, Int.bmod_def]
    omega
  · rw [if_neg (by rw [BitVec.msb_eq_toInt]; simp; omega), abs_of_nonneg (by omega)]

theorem sle_iff (a b : BitVec 32) : IntOp.cmpi .sle a b = 1#1 ↔ a.toInt ≤ b.toInt := by
  unfold IntOp.cmpi
  by_cases e : a.toInt ≤ b.toInt
  · simp [BitVec.sle, e]
  · simp [BitVec.sle, e]
theorem slt_iff (a b : BitVec 32) : IntOp.cmpi .slt a b = 1#1 ↔ a.toInt < b.toInt := by
  unfold IntOp.cmpi
  by_cases e : a.toInt < b.toInt
  · simp [BitVec.slt, e]
  · simp [BitVec.slt, e]

theorem near_iff (i : Fin 256) (j : Fin 384) : near (dist i j) = 1#1 ↔ |(dist i j).toInt| ≤ 64 := by
  have hi := i.isLt
  have hj := j.isLt
  have e := dist_toInt i j
  unfold near
  rw [sle_iff, absi_toInt (by omega) (by omega)]
  rfl

theorem clip_near {i : Fin 256} {j : Fin 384} (h : near (dist i j) = 1#1) : clip (dist i j) = dist i j := by
  have h := abs_le.1 ((near_iff i j).1 h)
  have e1 : (4294967232#32 : BitVec 32).toInt = -64 := by decide
  have e2 : (64#32 : BitVec 32).toInt = 64 := by decide
  unfold clip IntOp.minsi IntOp.maxsi
  by_cases e : (dist i j).slt 4294967232#32
  · simp only [BitVec.slt, e1, decide_eq_true_eq] at e; omega
  · rw [if_neg e]
    by_cases f : (64#32 : BitVec 32).slt (dist i j)
    · simp only [BitVec.slt, e2, decide_eq_true_eq] at f; omega
    · rw [if_neg f]

theorem times_toInt {r : BitVec 32} (h : |r.toInt| ≤ 64) {d : BitVec 32} (hd : 0 ≤ d.toInt) (hd' : d.toInt ≤ 16) :
    |(IntOp.muli r d).toInt| ≤ 1024 := by
  unfold IntOp.muli
  have e : |r.toInt * d.toInt| ≤ 1024 := by
    rw [abs_mul, abs_of_nonneg hd]
    nlinarith [abs_nonneg r.toInt]
  have := abs_le.1 e
  rw [BitVec.toInt_mul, Int.bmod_def]
  refine le_trans (le_of_eq (congrArg _ ?_)) e
  omega

theorem c_8 : Ideal.ofBits .f32 0x41000000#32 = ((8 : ℝ) : EReal) := by
  simp [Ideal.ofBits, Ideal.ieee, -EReal.coe_mul]; norm_num
/-- The rounded logarithm of 128. -/
theorem c_log : ∃ c : ℝ, 1 ≤ c ∧ Ideal.ofBits .f32 0x409B43D5#32 = ((c : ℝ) : EReal) := by
  refine ⟨10175445 * 2 ^ (-21 : ℤ), by norm_num, ?_⟩
  simp [Ideal.ofBits, Ideal.ieee, -EReal.coe_mul]

theorem far_word {n : BitVec 32} (h : 8 ≤ n.toInt) (h' : n.toInt ≤ 1024) :
    0 ≤ (Ideal.fptosi 32 (far n)).toInt ∧ (Ideal.fptosi 32 (far n)).toInt ≤ 1024 := by
  obtain ⟨c, hc, ec⟩ := c_log
  have e8 : (8#32 : BitVec 32).toInt = 8 := by decide
  have em : IntOp.maxsi n 8#32 = n := by
    unfold IntOp.maxsi
    by_cases e : (8#32 : BitVec 32).slt n
    · rw [if_pos e]
    · rw [if_neg e]
      simp only [BitVec.slt, e8, decide_eq_true_eq] at e
      exact BitVec.eq_of_toInt_eq (by omega)
  have hn : (8 : ℝ) ≤ (n.toInt : ℝ) := by exact_mod_cast h
  have hn' : (n.toInt : ℝ) ≤ 1024 := by exact_mod_cast h'
  have hq : (1 : ℝ) ≤ (n.toInt : ℝ) / 8 := by rw [le_div_iff₀ (by norm_num)]; linarith
  have hl : 0 ≤ Real.log ((n.toInt : ℝ) / 8) := Real.log_nonneg hq
  have hl' : Real.log ((n.toInt : ℝ) / 8) ≤ 128 := (Real.log_le_sub_one_of_pos (by linarith)).trans (by linarith)
  have ef : far n = ((Real.log ((n.toInt : ℝ) / 8) / c * 8 : ℝ) : EReal) := by
    unfold far
    rw [em, c_8, ec, div_coe_coe (by norm_num), log_pos (by linarith), div_coe_coe (by linarith), ← EReal.coe_mul]
  have h0 : 0 ≤ Real.log ((n.toInt : ℝ) / 8) / c * 8 := by positivity
  have h1 : Real.log ((n.toInt : ℝ) / 8) / c * 8 ≤ 1024 := by
    have : Real.log ((n.toInt : ℝ) / 8) / c ≤ 128 := (div_le_self hl hc).trans hl'
    linarith
  have f0 := Int.floor_nonneg.2 h0
  have f1 : ⌊Real.log ((n.toInt : ℝ) / 8) / c * 8⌋ ≤ 1024 := Int.floor_le_iff.2 (by push_cast; linarith)
  rw [ef]
  unfold Ideal.fptosi
  rw [Ideal.toIntClamped_coe, if_pos h0, BitVec.toInt_ofInt, Int.bmod_def]
  norm_num
  omega

/-- A bucket is no negative number. -/
theorem bucket_nonneg {r : BitVec 32} (h : |r.toInt| ≤ 1024) : 0 ≤ (bucket r).toInt := by
  have hb := abs_le.1 h
  have ea := absi_toInt (r := r) (by omega) (by omega)
  have a0 := abs_nonneg r.toInt
  have e8 : (8#32 : BitVec 32).toInt = 8 := by decide
  have e15 : (15#32 : BitVec 32).toInt = 15 := by decide
  have key : ∀ b : BitVec 32, 0 ≤ b.toInt → b.toInt ≤ 15 →
      0 ≤ (IntOp.addi (Scalar.select (IntOp.cmpi .sgt r 0#32) 16#32 0#32) b).toInt := by
    intro b h0 h1
    unfold IntOp.addi Scalar.select
    rw [BitVec.toInt_add]
    split
    · rw [show (16#32 : BitVec 32).toInt = 16 by decide, Int.bmod_def]; omega
    · rw [show (0#32 : BitVec 32).toInt = 0 by decide, Int.bmod_def]; omega
  unfold bucket
  by_cases e : IntOp.cmpi .slt (IntOp.absi r) 8#32 = 1#1
  · have e' := (slt_iff _ _).1 e
    rw [show Scalar.select (IntOp.cmpi .slt (IntOp.absi r) 8#32) (IntOp.absi r) _ = IntOp.absi r from if_pos e]
    exact key _ (by omega) (by omega)
  · have e' : ¬ _ := fun q => e ((slt_iff _ _).2 q)
    rw [show Scalar.select (IntOp.cmpi .slt (IntOp.absi r) 8#32) (IntOp.absi r) _ = _ from if_neg e]
    obtain ⟨f0, f1⟩ := far_word (n := IntOp.absi r) (by omega) (by omega)
    generalize Ideal.fptosi 32 (far (IntOp.absi r)) = t at f0 f1
    have et : (IntOp.addi 8#32 t).toInt = 8 + t.toInt := by
      unfold IntOp.addi
      rw [BitVec.toInt_add, e8, Int.bmod_def]; omega
    unfold IntOp.minsi
    by_cases g : (IntOp.addi 8#32 t).slt 15#32
    · rw [if_pos g]
      simp only [BitVec.slt, e15, et, decide_eq_true_eq] at g
      exact key _ (by omega) (by omega)
    · rw [if_neg g]
      exact key _ (by decide) (by decide)

theorem wrap_bucket {r : BitVec 32} (h : |r.toInt| ≤ 1024) : wrap (bucket r) = bucket r :=
  if_neg fun q => absurd ((slt_iff _ _).1 q) (by
    have := bucket_nonneg h
    rw [show (0#32 : BitVec 32).toInt = 0 by decide]; omega)

/-- Bucket `b` of the pair `(i, j)` at dilation `d`. -/
def hit (d : BitVec 32) (b : Fin 32) (i : Fin 256) (j : Fin 384) : Prop :=
  near (dist i j) = 1#1 ∧ bucket (IntOp.muli (dist i j) d) = BitVec.ofNat 32 b.val

open scoped Classical in
/-- What one dilation's windows add to bucket `b`. -/
def part (d : BitVec 32) (x : Fin 256 → Fin 384 → EReal) (b : Fin 32) : EReal :=
  ∑ i, ∑ j, if hit d b i j then x i j else 0

end Cert.Dbias.Math

end
-- ==== Proof.DbiasRef.lean ====
/- The reference's gradient of the relative bias, entry by entry: each scattered sum collects the pairs whose bucket is its row. -/
module

public import proofs.«01_k».proof.Proof.DbiasMath
public import proofs.«01_k».proof.Proof.Gen.DbiasRefIdeal.Run
public import Idealize.ShloMosaic.Lib.Routing.OpsPair
public import Idealize.ShloMosaic.Lib.KernelVsHost

@[expose] public section

noncomputable section

namespace Cert.DbiasRefIdeal.Value

open Cert.DbiasRefIdeal Cert.DbiasRefIdeal.Gen Idealize.ShloMosaic Idealize.ShloMosaic.TcCoe Idealize.SL.Sem Idealize.ShloMosaic.StableHlo
open Cert.Dbias.Math Cert.Lift

/-- Where an update lands: in the row its index says, in its own lane. -/
theorem lands (idx : IVec S256x384x1 32) (i : Fin 256) (j : Fin 384) (l h : Fin 8) (b : Fin 32) :
    scatter_S32x8_S256x384x1_S256x384x8_2_0_0_2.resultIdx? (ix3 i j l) idx = some (ix2 b h)
      ↔ (idx (ix3 i j (0 : Fin 1))).toInt = b.val ∧ l = h := by
  have w0 : scatter_S32x8_S256x384x1_S256x384x8_2_0_0_2.window (ix3 i j l) (0 : Fin 2) = 0 := rfl
  have w1 : scatter_S32x8_S256x384x1_S256x384x8_2_0_0_2.window (ix3 i j l) (1 : Fin 2) = l.val := rfl
  have s1 : scatter_S32x8_S256x384x1_S256x384x8_2_0_0_2.start (ix3 i j l) idx (1 : Fin 2) = 0 := rfl
  have s0 : scatter_S32x8_S256x384x1_S256x384x8_2_0_0_2.start (ix3 i j l) idx (0 : Fin 2) = (idx (ix3 i j (0 : Fin 1))).toInt := by
    refine congrArg (fun q => (idx q).toInt) (funext fun a => ?_)
    match a with
    | ⟨0, _⟩ => rfl
    | ⟨1, _⟩ => rfl
    | ⟨2, _⟩ => rfl
  refine (Routing.resultIdx?_ix2 _ _ _ b h).trans ?_
  change _ + ((ScatterDims.window _ (ix3 i j l) _ : ℕ) : ℤ) = _ ∧ _ + ((ScatterDims.window _ (ix3 i j l) _ : ℕ) : ℤ) = _ ↔ _
  rw [w0, w1, s0, s1, Fin.ext_iff]
  omega

theorem dist_at (V : Valuation τ sig (Elt Ideal)) (i : Fin 256) (j : Fin 384) : res_main_v9 V (ix2 i j) = dist i j := by
  pointwise [res_main_v9]
  rfl

theorem near_at1 (V : Valuation τ sig (Elt Ideal)) (h : Fin 8) (i : Fin 256) (j : Fin 384) :
    res_main_v47_1 V (ix3 h i j) = near (dist i j) := by
  pointwise [res_main_v47_1]
  rw [dist_at]
  rfl
theorem index_at1 (V : Valuation τ sig (Elt Ideal)) (i : Fin 256) (j : Fin 384) :
    res_main_v41 V (ix3 i j (0 : Fin 1)) = wrap (bucket (IntOp.muli (dist i j) 1#32)) := by
  pointwise [res_main_v41, res_main_v35, res_main_v15, res_main_v11]
  rw [dist_at]
  rfl

theorem near_at4 (V : Valuation τ sig (Elt Ideal)) (h : Fin 8) (i : Fin 256) (j : Fin 384) :
    res_main_v85_1 V (ix3 h i j) = near (dist i j) := by
  pointwise [res_main_v85_1]
  rw [dist_at]
  rfl
theorem index_at4 (V : Valuation τ sig (Elt Ideal)) (i : Fin 256) (j : Fin 384) :
    res_main_v79 V (ix3 i j (0 : Fin 1)) = wrap (bucket (IntOp.muli (dist i j) 4#32)) := by
  pointwise [res_main_v79, res_main_v73, res_main_v53, res_main_v49]
  rw [dist_at]
  rfl

theorem near_at16 (V : Valuation τ sig (Elt Ideal)) (h : Fin 8) (i : Fin 256) (j : Fin 384) :
    res_main_v123_1 V (ix3 h i j) = near (dist i j) := by
  pointwise [res_main_v123_1]
  rw [dist_at]
  rfl
theorem index_at16 (V : Valuation τ sig (Elt Ideal)) (i : Fin 256) (j : Fin 384) :
    res_main_v117 V (ix3 i j (0 : Fin 1)) = wrap (bucket (IntOp.muli (dist i j) 16#32)) := by
  pointwise [res_main_v117, res_main_v111, res_main_v91, res_main_v87]
  rw [dist_at]
  rfl

open scoped Classical in
/-- One scattered sum at an entry. -/
theorem scattered (d : BitVec 32) (hd : 0 ≤ d.toInt) (hd' : d.toInt ≤ 16) (z : FVec Ideal S32x8 .f32) (idx : IVec S256x384x1 32) (u : FVec Ideal S256x384x8 .f32)
    (x : Fin 8 → Fin 256 → Fin 384 → EReal) (hz : ∀ b h, z (ix2 b h) = (0 : EReal))
    (hidx : ∀ i j, idx (ix3 i j (0 : Fin 1)) = wrap (bucket (IntOp.muli (dist i j) d)))
    (hu : ∀ i j l, u (ix3 i j l) = Scalar.select (near (dist i j)) (x l i j) (0 : EReal)) (b : Fin 32) (h : Fin 8) :
    Host.scatterAdd scatter_S32x8_S256x384x1_S256x384x8_2_0_0_2 z idx u (ix2 b h) = part d (x h) b := by
  change Ideal.hostScatterAdd _ z idx u (ix2 b h) = _
  unfold Ideal.hostScatterAdd part
  rw [hz, zero_add, Finset.sum_filter]
  refine (sum_idx3 _).trans (Finset.sum_congr rfl fun i _ => Finset.sum_congr rfl fun j _ => ?_)
  have e : ∀ l : Fin 8, (if scatter_S32x8_S256x384x1_S256x384x8_2_0_0_2.resultIdx? (ix3 i j l) idx = some (ix2 b h) then u (ix3 i j l) else 0)
      = if l = h then (if hit d b i j then x h i j else (0 : EReal)) else 0 := by
    intro l
    by_cases el : l = h
    · subst el
      rw [if_pos rfl]
      by_cases en : near (dist i j) = 1#1
      · have w := wrap_bucket (times_toInt ((near_iff i j).1 en) hd hd')
        have hb : (idx (ix3 i j (0 : Fin 1))).toInt = b.val ↔ bucket (IntOp.muli (dist i j) d) = BitVec.ofNat 32 b.val := by
          rw [hidx, w]
          have := b.isLt
          have eb : (BitVec.ofNat 32 b.val).toInt = b.val := by rw [BitVec.toInt_ofNat', Int.bmod_def]; omega
          rw [← eb]
          exact ⟨fun q => BitVec.eq_of_toInt_eq q, fun q => congrArg _ q⟩
        rw [hu, show Scalar.select (near (dist i j)) (x l i j) (0 : EReal) = x l i j from if_pos en]
        refine if_congr ?_ rfl rfl
        rw [lands, hb]
        exact ⟨fun q => ⟨en, q.1⟩, fun q => ⟨q.2, rfl⟩⟩
      · rw [hu, show Scalar.select (near (dist i j)) (x l i j) (0 : EReal) = 0 from if_neg en, ite_self,
          if_neg fun q : hit d b i j => en q.1]
    · rw [if_neg el, if_neg fun q => el ((lands idx i j l h b).1 q).2]
  rw [Finset.sum_congr rfl fun l _ => e l, Finset.sum_ite_eq' Finset.univ h, if_pos (Finset.mem_univ h)]

/-- The three sums together, widened with zero lanes. -/
theorem widened (A B C : FVec Ideal S32x8 .f32) (b : Fin 32) (l : Fin 128) :
    pad S32x128 ![0, 0] ![0, 120] ![0, 0] (addf (addf A B) C) (sitofp .f32 (constantI S_ 32 0#32) : FVec Ideal S_ .f32) pads_S32x8_S32x128_000_01200 h_S_ (ix2 b l)
      = if h : l.val < 8 then A (ix2 b ⟨l.val, h⟩) + B (ix2 b ⟨l.val, h⟩) + C (ix2 b ⟨l.val, h⟩) else (0 : EReal) := by
  by_cases h : l.val < 8
  · rw [dif_pos h]
    refine (pad_apply_of_inside _ _ _ _ _ _ _ (ix2 b l) (ix2 b (⟨l.val, h⟩ : Fin 8)) fun a => ?_).trans rfl
    match a with
    | ⟨0, _⟩ => simp [ix2]
    | ⟨1, _⟩ => simp [ix2]
  · rw [dif_neg h]
    refine (pad_apply_of_not_inside _ _ _ _ _ _ _ (ix2 b l) (1 : Fin 2) fun q => h ?_).trans ?_
    · have := q.2.2
      simpa [ix2] using this
    · show (((0#32 : BitVec 32).toInt : ℝ) : EReal) = 0
      simp

end Cert.DbiasRefIdeal.Value

end
-- ==== Proof.DbiasTrip.lean ====
/- One trip of the kernel's loop over the buckets: each of the three windows adds, head by head, what its table assigns to the bucket. -/
module

public import proofs.«01_k».proof.Proof.Gen.DbiasIdeal.Loops
public import proofs.«01_k».proof.Proof.DbiasMath

@[expose] public section

set_option maxRecDepth 16384

noncomputable section

namespace Cert.DbiasIdeal.Trip

open Cert.DbiasIdeal Cert.DbiasIdeal.Gen Idealize.ShloMosaic Idealize.ShloMosaic.TcCoe Idealize.SL.Sem

/-- The row and the lane of an entry of the result. -/
abbrev rows : IVec S32x128 32 := iota .tc S32x128 32 [0] iota_S32x128_d0_w32
abbrev lanes : IVec S32x128 32 := iota .tc S32x128 32 [1] iota_S32x128_d1_w32

/-- Where a table holds the bucket `w`. -/
def holds (b : Vec Ideal S256x384 .i32) (w : BitVec 32) : IVec S256x384 1 :=
  cmpi .eq (shapeCast S256x384 b shapeCasts_S256x384_S256x384) (broadcast S256x384 w)
/-- Where the result's row is `w`, and where its lane is `q`. -/
def inRow (w : BitVec 32) : IVec S32x128 1 := cmpi .eq rows (broadcast S32x128 w)
def inLane (q : BitVec 32) : IVec S32x128 1 := cmpi .eq lanes (broadcast S32x128 q)

/-- One head's window where a mask is set, zero elsewhere. -/
def kept (m : IVec S256x384 1) (v : Vec Ideal S1x256x384 .f32) : FVec Ideal S256x384 .f32 :=
  select m (shapeCast S256x384 v shapeCasts_S1x256x384_S256x384) (broadcast S256x384 (Scalar.ofBits .f32 0x00000000#32 : Ideal .f32))

/-- An array's sum, first along the rows, in a one-entry array. -/
def summed (t : FVec Ideal S256x384 .f32) : FVec Ideal S1x1 .f32 :=
  shapeCast S1x1 (multiReduction .add [0] S1 (shapeCast S256x1 (multiReduction .add [1] S256 t 0x00000000#32 reduces_S256x384_S256 (.inl rfl) rfl)
    shapeCasts_S256_S256x1) 0x00000000#32 reduces_S256x1_S1 (.inl rfl) rfl) shapeCasts_S1_S1x1

/-- An array with a one-entry array's number added where both masks are set. -/
def put (r l : IVec S32x128 1) (s : FVec Ideal S1x1 .f32) (acc : FVec Ideal S32x128 .f32) : FVec Ideal S32x128 .f32 :=
  addf acc (select (andi r l) (broadcastTo S32x128 (shapeCast S1x1 s shapeCasts_S1x1_S1x1) broadcasts_S1x1_S32x128)
    (broadcast S32x128 (Scalar.ofBits .f32 0x00000000#32 : Ideal .f32)))

/-- One head's part of a trip. -/
abbrev add (w q : BitVec 32) (m : IVec S256x384 1) (v : Vec Ideal S1x256x384 .f32) (acc : FVec Ideal S32x128 .f32) : FVec Ideal S32x128 .f32 :=
  put (inRow w) (inLane q) (summed (kept m v)) acc

/-- One window's eight heads. -/
def heads (w : BitVec 32) (b : Vec Ideal S256x384 .i32) (L0 L1 L2 L3 L4 L5 L6 L7 : Vec Ideal S1x256x384 .f32) (acc : FVec Ideal S32x128 .f32) :
    FVec Ideal S32x128 .f32 :=
  add w 7#32 (holds b w) L7 (add w 6#32 (holds b w) L6 (add w 5#32 (holds b w) L5 (add w 4#32 (holds b w) L4
    (add w 3#32 (holds b w) L3 (add w 2#32 (holds b w) L2 (add w 1#32 (holds b w) L1 (add w 0#32 (holds b w) L0 acc)))))))

section Texts

variable (w : BitVec 32) (k : Fin k0_t1_loop.trips) (b : Vec Ideal S256x384 .i32) (m : IVec S256x384 1) (u v : Vec Ideal S1x256x384 .f32)
  (t : FVec Ideal S256x384 .f32) (s : FVec Ideal S1x1 .f32) (r l : IVec S32x128 1) (q : BitVec 32) (acc : FVec Ideal S32x128 .f32)

theorem pay3 : k0_pay3 0#32 1#32 k b = holds b (Scf.iv 0#32 1#32 k) := rfl
theorem pay4 : k0_pay4 rows lanes 0#32 1#32 k acc b u v = add (Scf.iv 0#32 1#32 k) 1#32 (holds b (Scf.iv 0#32 1#32 k)) v (add (Scf.iv 0#32 1#32 k) 0#32 (holds b (Scf.iv 0#32 1#32 k)) u acc) := rfl
theorem pay5 : k0_pay5 rows lanes w m acc u v = add w 3#32 m v (add w 2#32 m u acc) := rfl
theorem pay6 : k0_pay6 m v = kept m v := rfl
theorem pay7 : k0_pay7 rows lanes w m acc t v = add w 5#32 m v (put (inRow w) (inLane 4#32) (summed t) acc) := rfl
theorem pay8 : k0_pay8 m v = summed (kept m v) := rfl
theorem pay9 : k0_pay9 rows w = inRow w := rfl
theorem pay10 : k0_pay10 rows lanes w m acc s r q v = add w 7#32 m v (put r (inLane q) s acc) := rfl
theorem pay11 : k0_pay11 w b = holds b w := rfl
theorem pay12 : k0_pay12 w b v = summed (kept (holds b w) v) := rfl
theorem pay13 : k0_pay13 rows w = inRow w := rfl
theorem pay14 : k0_pay14 lanes = inLane 0#32 := rfl
theorem pay15 : k0_pay15 rows lanes w acc m s r l u v = add w 2#32 m v (add w 1#32 m u (put r l s acc)) := rfl
theorem pay16 : k0_pay16 rows lanes w m acc u v = add w 4#32 m v (add w 3#32 m u acc) := rfl
theorem pay17 : k0_pay17 m v = kept m v := rfl
theorem pay18 : k0_pay18 rows lanes w m acc t v = add w 6#32 m v (put (inRow w) (inLane 5#32) (summed t) acc) := rfl
theorem pay19 : k0_pay19 m v = summed (kept m v) := rfl
theorem pay20 : k0_pay20 rows w = inRow w := rfl
theorem pay21 : k0_pay21 w b = holds b w := rfl
theorem pay22 : k0_pay22 rows lanes w acc s r q b v = add w 0#32 (holds b w) v (put r (inLane q) s acc) := rfl
theorem pay23 : k0_pay23 w b v = summed (kept (holds b w) v) := rfl
theorem pay24 : k0_pay24 rows w = inRow w := rfl
theorem pay25 : k0_pay25 lanes = inLane 1#32 := rfl
theorem pay26 : k0_pay26 rows lanes w m acc s r l u v = add w 3#32 m v (add w 2#32 m u (put r l s acc)) := rfl
theorem pay27 : k0_pay27 rows lanes w m acc u v = add w 5#32 m v (add w 4#32 m u acc) := rfl
theorem pay28 : k0_pay28 m v = kept m v := rfl
theorem pay2 : k0_pay2 w m acc t v = add w 7#32 m v (put (inRow w) (inLane 6#32) (summed t) acc) := rfl

end Texts

/-- Head `h` of a window and a table, as the kernel loads them. -/
abbrev head (arg : Memref sig .tc .vmem S8x256x384 .f32) (X : BufTy.Contents (Elt Ideal) arg.view.ty) (h : ℕ)
    (inb : ∀ a : Fin S8x256x384.rank, (![h, 0, 0] : Fin 3 → ℕ) a + S1x256x384.size a ≤ S8x256x384.size a) : Vec Ideal S1x256x384 .f32 :=
  View.readAt (Elt Ideal) arg.view (Rect.unit (s := S8x256x384) ![h, 0, 0] ![1, 256, 384] inb).toLoadRect X
abbrev table (arg : Memref sig .tc .vmem S256x384 .i32) (X : BufTy.Contents (Elt Ideal) arg.view.ty) : Vec Ideal S256x384 .i32 :=
  View.readAt (Elt Ideal) arg.view (Rect.unit (s := S256x384) ![0, 0] ![256, 384] inb_S256x384_S256x384_0_0).toLoadRect X

/-- One window's part of a trip. -/
abbrev window (w : BitVec 32) (argT : Memref sig .tc .vmem S256x384 .i32) (XT : BufTy.Contents (Elt Ideal) argT.view.ty)
    (arg : Memref sig .tc .vmem S8x256x384 .f32) (X : BufTy.Contents (Elt Ideal) arg.view.ty) (acc : FVec Ideal S32x128 .f32) : FVec Ideal S32x128 .f32 :=
  heads w (table argT XT) (head arg X 0 inb_S8x256x384_S1x256x384_0_0_0) (head arg X 1 inb_S8x256x384_S1x256x384_1_0_0)
    (head arg X 2 inb_S8x256x384_S1x256x384_2_0_0) (head arg X 3 inb_S8x256x384_S1x256x384_3_0_0) (head arg X 4 inb_S8x256x384_S1x256x384_4_0_0)
    (head arg X 5 inb_S8x256x384_S1x256x384_5_0_0) (head arg X 6 inb_S8x256x384_S1x256x384_6_0_0) (head arg X 7 inb_S8x256x384_S1x256x384_7_0_0) acc

set_option maxHeartbeats 800000 in
theorem trip (𝒱 : Variants) (c : Dev nD) (bd : Option 𝒱.V)
    (arg0 : Memref sig .tc .vmem S8x256x384 .f32) (harg0 : arg0.IsWhole) (arg1 : Memref sig .tc .vmem S8x256x384 .f32) (harg1 : arg1.IsWhole)
    (arg2 : Memref sig .tc .vmem S8x256x384 .f32) (harg2 : arg2.IsWhole) (arg3 : Memref sig .tc .vmem S256x384 .i32) (harg3 : arg3.IsWhole)
    (arg4 : Memref sig .tc .vmem S256x384 .i32) (harg4 : arg4.IsWhole) (arg5 : Memref sig .tc .vmem S256x384 .i32) (harg5 : arg5.IsWhole)
    (arg6 : Memref sig .tc .vmem S32x128 .f32) (harg6 : arg6.IsWhole)
    (X0 : BufTy.Contents (Elt Ideal) arg0.view.ty) (X1 : BufTy.Contents (Elt Ideal) arg1.view.ty) (X2 : BufTy.Contents (Elt Ideal) arg2.view.ty)
    (X3 : BufTy.Contents (Elt Ideal) arg3.view.ty) (X4 : BufTy.Contents (Elt Ideal) arg4.view.ty) (X5 : BufTy.Contents (Elt Ideal) arg5.view.ty)
    (k : Fin k0_t1_loop.trips) (acc : FVec Ideal S32x128 .f32) :
    tripR_k0_t1 (F := Ideal) 𝒱 c bd arg0 harg0 arg1 harg1 arg2 harg2 arg3 harg3 arg4 harg4 arg5 harg5 arg6 harg6 rows lanes X0 X1 X2 X3 X4 X5 k acc
      = window (Scf.iv 0#32 1#32 k) arg5 X5 arg2 X2 (window (Scf.iv 0#32 1#32 k) arg4 X4 arg1 X1 (window (Scf.iv 0#32 1#32 k) arg3 X3 arg0 X0 acc)) := by
  unfold tripR_k0_t1 trip_k0_t1
  dsimp only
  simp only [trip_k0_t1.sl.arg7, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23]
  simp only [pay2, pay3, pay4, pay5, pay6, pay7, pay8, pay9, pay10, pay11, pay12, pay13, pay14, pay15, pay16, pay17, pay18, pay19, pay20, pay21, pay22, pay23, pay24, pay25, pay26, pay27, pay28]
  rfl

end Cert.DbiasIdeal.Trip

end
-- ==== Proof.DbiasSums.lean ====
/- One trip of the kernel's loop over the buckets, entry by entry. -/
module

public import proofs.«01_k».proof.Proof.DbiasTrip

@[expose] public section

set_option maxRecDepth 16384

noncomputable section

namespace Cert.DbiasIdeal.Trip

open Cert.DbiasIdeal Cert.DbiasIdeal.Gen Idealize.ShloMosaic Idealize.ShloMosaic.TcCoe Idealize.SL.Sem Cert.Lift Cert.Dbias.Math

theorem eq_one (a b : BitVec 32) : IntOp.cmpi .eq a b = 1#1 ↔ a = b := by
  change BitVec.ofBool (a == b) = 1#1 ↔ a = b
  by_cases e : a = b
  · subst e; simp
  · have q : (a == b) = false := by simpa using e
    rw [q]
    simp [e]

theorem eq_word {n : ℕ} (hn : n ≤ 2 ^ 32) (a b : Fin n) : IntOp.cmpi .eq (BitVec.ofNat 32 a.val) (BitVec.ofNat 32 b.val) = 1#1 ↔ a = b := by
  have ha := a.isLt
  have hb := b.isLt
  rw [eq_one]
  refine ⟨fun q => Fin.ext ?_, fun q => by rw [q]⟩
  have := congrArg BitVec.toNat q
  rwa [BitVec.toNat_ofNat, BitVec.toNat_ofNat, Nat.mod_eq_of_lt (by omega), Nat.mod_eq_of_lt (by omega)] at this

theorem summed_at (t : FVec Ideal S256x384 .f32) : summed t (ix2 0 0) = ∑ i : Fin 256, ∑ j : Fin 384, t (ix2 i j) := by
  pointwise [summed]

theorem kept_at (m : IVec S256x384 1) (v : Vec Ideal S1x256x384 .f32) (i : Fin 256) (j : Fin 384) :
    kept m v (ix2 i j) = if m (ix2 i j) = 1#1 then v (ix3 0 i j) else (0 : EReal) := by
  pointwise [kept]
  rfl

theorem holds_at (b : Vec Ideal S256x384 .i32) (w : BitVec 32) (i : Fin 256) (j : Fin 384) : holds b w (ix2 i j) = 1#1 ↔ b (ix2 i j) = w := by
  pointwise [holds]
  exact eq_one _ _

theorem put_at (w : Fin 32) (q : ℕ) (hq : q < 128) (s : FVec Ideal S1x1 .f32) (acc : FVec Ideal S32x128 .f32) (r : Fin 32) (l : Fin 128) :
    put (inRow (BitVec.ofNat 32 w.val)) (inLane (BitVec.ofNat 32 q)) s acc (ix2 r l)
      = acc (ix2 r l) + if r = w ∧ l.val = q then s (ix2 0 0) else (0 : EReal) := by
  pointwise [put, inRow, inLane]
  refine congrArg _ ?_
  have e : (IntOp.andi (IntOp.cmpi .eq (BitVec.ofNat 32 r.val) (BitVec.ofNat 32 w.val)) (IntOp.cmpi .eq (BitVec.ofNat 32 l.val) (BitVec.ofNat 32 q)) = 1#1)
      ↔ (r = w ∧ l.val = q) := by
    have hl : l.val = q ↔ l = ⟨q, hq⟩ := by rw [Fin.ext_iff]
    rw [hl, ← eq_word (by norm_num) r w, ← eq_word (by norm_num) l ⟨q, hq⟩]
    dsimp only
    generalize IntOp.cmpi .eq (BitVec.ofNat 32 r.val) _ = a
    generalize IntOp.cmpi .eq (BitVec.ofNat 32 l.val) _ = b
    revert a b
    decide
  by_cases h : r = w ∧ l.val = q
  · rw [if_pos h, e.mpr h]; rfl
  · rw [if_neg h]
    exact if_neg fun f => h (e.mp f)

theorem add_at (w : Fin 32) (q : ℕ) (hq : q < 128) (m : IVec S256x384 1) (v : Vec Ideal S1x256x384 .f32) (acc : FVec Ideal S32x128 .f32)
    (r : Fin 32) (l : Fin 128) :
    add (BitVec.ofNat 32 w.val) (BitVec.ofNat 32 q) m v acc (ix2 r l)
      = acc (ix2 r l) + if r = w ∧ l.val = q then ∑ i : Fin 256, ∑ j : Fin 384, (if m (ix2 i j) = 1#1 then v (ix3 0 i j) else (0 : EReal)) else 0 := by
  rw [add, put_at w q hq, summed_at]
  simp only [kept_at]

open scoped Classical in
/-- One window's part of a trip: the bucket's row gains the window's partial sums in the first eight lanes. -/
theorem heads_at (d : BitVec 32) (w : Fin 32) (b : Vec Ideal S256x384 .i32) (x : Fin 8 → Fin 256 → Fin 384 → EReal)
    (L0 L1 L2 L3 L4 L5 L6 L7 : Vec Ideal S1x256x384 .f32) (acc : FVec Ideal S32x128 .f32)
    (hb : ∀ i j, b (ix2 i j) = BitVec.ofNat 32 w.val ↔ hit d w i j)
    (h0 : ∀ i j, L0 (ix3 0 i j) = x 0 i j) (h1 : ∀ i j, L1 (ix3 0 i j) = x 1 i j) (h2 : ∀ i j, L2 (ix3 0 i j) = x 2 i j)
    (h3 : ∀ i j, L3 (ix3 0 i j) = x 3 i j) (h4 : ∀ i j, L4 (ix3 0 i j) = x 4 i j) (h5 : ∀ i j, L5 (ix3 0 i j) = x 5 i j)
    (h6 : ∀ i j, L6 (ix3 0 i j) = x 6 i j) (h7 : ∀ i j, L7 (ix3 0 i j) = x 7 i j) (r : Fin 32) (l : Fin 128) :
    heads (BitVec.ofNat 32 w.val) b L0 L1 L2 L3 L4 L5 L6 L7 acc (ix2 r l)
      = acc (ix2 r l) + if r = w then (if h : l.val < 8 then part d (x ⟨l.val, h⟩) w else 0) else 0 := by
  have hm : ∀ i j, (holds b (BitVec.ofNat 32 w.val) (ix2 i j) = 1#1) = hit d w i j := fun i j => propext ((holds_at _ _ _ _).trans (hb i j))
  rw [heads, add_at w 7 (by norm_num), add_at w 6 (by norm_num), add_at w 5 (by norm_num), add_at w 4 (by norm_num),
    add_at w 3 (by norm_num), add_at w 2 (by norm_num), add_at w 1 (by norm_num), add_at w 0 (by norm_num)]
  by_cases hr : r = w
  · subst hr
    by_cases hl : l.val < 8
    · obtain ⟨l, hl'⟩ := l
      dsimp only at hl ⊢
      rw [if_pos rfl, dif_pos hl]
      unfold part
      interval_cases l <;> simp [hm, h0, h1, h2, h3, h4, h5, h6, h7] <;> rfl
    · rw [if_pos rfl, dif_neg hl]
      simp only [show ∀ q : ℕ, q < 8 → ¬ l.val = q from fun q hq e => hl (e ▸ hq), and_false, Nat.reduceLT, if_false, add_zero]
      repeat rw [if_neg (by omega), add_zero]
  · simp only [hr, false_and, if_false, add_zero]

end Cert.DbiasIdeal.Trip

end
-- ==== Proof.DbiasHost.lean ====
/- The three distance tables the host hands the kernel, entry by entry. -/
module

public import proofs.«01_k».proof.Proof.Gen.DbiasIdeal.Launch
public import proofs.«01_k».proof.Proof.Line
public import proofs.«01_k».proof.Proof.DbiasMath

@[expose] public section

set_option maxRecDepth 16384

noncomputable section

namespace Cert.DbiasIdeal.HostRows

open Cert.DbiasIdeal Cert.DbiasIdeal.Gen Idealize.ShloMosaic Idealize.ShloMosaic.TcCoe
open Idealize.SL.Sem Idealize.ShloMosaic.StableHlo Cert.Line Cert.Dbias.Math

/-- The host's operations before the kernel, called functions in place. -/
abbrev ops : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]

theorem line_append : ∀ {a b : List (HloOp τ sig (Elt Ideal))} {n k : ℕ}, Line a n → a.length = k → Line b (n + k) → Line (a ++ b) n
  | [], _, _, _, _, rfl, hb => hb
  | _ :: a, _, n, _, ha, rfl, hb => ⟨ha.1, line_append ha.2 rfl (by rwa [List.length_cons, Nat.add_comm a.length 1, ← Nat.add_assoc] at hb)⟩

set_option maxHeartbeats 4000000 in
theorem line : Line ops 3 := by
  unfold ops
  repeat'
    first
      | exact trivial
      | (refine line_append (k := List.length _) ?_ rfl ?_)
  all_goals
    repeat'
      first
      | exact trivial
      | (with_reducible apply step_nullary) <;> decide
      | (with_reducible apply step_unary) <;> decide
      | (with_reducible apply step_binary) <;> decide
      | (with_reducible apply step_ternary) <;> decide
      | refine ⟨?_, ?_⟩

/-- What a table holds: the bucket where the band is, a number that is no bucket elsewhere. -/
def entry (d : BitVec 32) (i : Fin 256) (j : Fin 384) : BitVec 32 :=
  Scalar.select (near (dist i j)) (bucket (IntOp.muli (clip (dist i j)) d)) 4294967295#32

variable {E : Valuation τ sig (Elt Ideal)} (h : Solves ops 3 E)
include h

theorem v8 (i : Fin 256) (j : Fin 384) : (E main_v8 : S256x384.Idx → BitVec 32) (ix2 i j) = dist i j := by
  rw [h.binary main_v8 rfl, h.unary main_v7 rfl, h.unary main_v5 rfl, h.nullary main_v4 rfl, h.unary main_v6 rfl, h.binary main_v3 rfl,
    h.unary main_v2 rfl, h.nullary main_c rfl, h.unary main_v1 rfl, h.nullary main_v0 rfl]
  pointwise []
  rfl

set_option maxHeartbeats 4000000 in
theorem v39 (i : Fin 256) (j : Fin 384) : (E main_v39 : S256x384.Idx → BitVec 32) (ix2 i j) = entry 1#32 i j := by
  rw [h.ternary main_v39 rfl, h.unary main_call3_v1 rfl, h.unary main_call3_v0 rfl, h.nullary main_c_13 rfl, h.binary main_v35 rfl,
    h.ternary main_v33 rfl, h.binary main_v30 rfl, h.unary main_v29 rfl, h.nullary main_c_10 rfl, h.binary main_v28 rfl, h.unary main_v26 rfl,
    h.binary main_v25 rfl, h.unary main_v24 rfl, h.nullary main_cst_8 rfl, h.binary main_v23 rfl, h.unary main_v22 rfl, h.nullary main_cst_7 rfl,
    h.unary main_v21 rfl, h.binary main_v20 rfl, h.unary main_v19 rfl, h.nullary main_cst rfl, h.unary main_v18 rfl, h.binary main_v17 rfl,
    h.unary main_v16 rfl, h.nullary main_c_6 rfl, h.unary main_v27 rfl, h.nullary main_c_9 rfl, h.binary main_v32 rfl, h.unary main_v31 rfl,
    h.nullary main_c_11 rfl, h.unary main_v15 rfl, h.unary main_v34 rfl, h.ternary main_v14 rfl, h.unary main_call1_v1 rfl, h.nullary main_c_5 rfl,
    h.unary main_call1_v0 rfl, h.nullary main_c_4 rfl, h.binary main_v13 rfl, h.unary main_v12 rfl, h.nullary main_c_3 rfl, h.binary main_v11 rfl,
    h.unary main_v10 rfl, h.nullary main_c_2 rfl, h.binary main_v9 rfl, h.binary main_call0_v2 rfl, h.unary main_call0_v1 rfl,
    h.unary main_call0_v0 rfl, h.nullary main_c_0 rfl, h.unary main_call0_v4 rfl, h.unary main_call0_v3 rfl, h.nullary main_c_1 rfl,
    h.binary main_v38 rfl, h.unary main_v37 rfl, h.nullary main_c_12 rfl, h.unary main_v36 rfl]
  simp -implicitDefEqProofs only [TRef.toBuf, TRef.ofBuf, cast_cast, cast_eq, id_eq]
  pointwise []
  rw [v8 h i j]
  rfl

theorem v48 (i : Fin 256) (j : Fin 384) : (E main_v48 : S256x384.Idx → BitVec 32) (ix2 i j) = dist i j := by
  rw [h.binary main_v48 rfl, h.unary main_v47 rfl, h.unary main_v45 rfl, h.nullary main_v44 rfl, h.unary main_v46 rfl, h.binary main_v43 rfl,
    h.unary main_v42 rfl, h.nullary main_c_14 rfl, h.unary main_v41 rfl, h.nullary main_v40 rfl]
  pointwise []
  rfl

set_option maxHeartbeats 4000000 in
theorem v79 (i : Fin 256) (j : Fin 384) : (E main_v79 : S256x384.Idx → BitVec 32) (ix2 i j) = entry 4#32 i j := by
  rw [h.ternary main_v79 rfl, h.unary main_call7_v1 rfl, h.unary main_call7_v0 rfl, h.nullary main_c_29 rfl, h.binary main_v75 rfl,
    h.ternary main_v73 rfl, h.binary main_v70 rfl, h.unary main_v69 rfl, h.nullary main_c_26 rfl, h.binary main_v68 rfl, h.unary main_v66 rfl,
    h.binary main_v65 rfl, h.unary main_v64 rfl, h.nullary main_cst_24 rfl, h.binary main_v63 rfl, h.unary main_v62 rfl, h.nullary main_cst_23 rfl,
    h.unary main_v61 rfl, h.binary main_v60 rfl, h.unary main_v59 rfl, h.nullary main_cst_22 rfl, h.unary main_v58 rfl, h.binary main_v57 rfl,
    h.unary main_v56 rfl, h.nullary main_c_21 rfl, h.unary main_v67 rfl, h.nullary main_c_25 rfl, h.binary main_v72 rfl, h.unary main_v71 rfl,
    h.nullary main_c_27 rfl, h.unary main_v55 rfl, h.unary main_v74 rfl, h.ternary main_v54 rfl, h.unary main_call5_v1 rfl, h.nullary main_c_20 rfl,
    h.unary main_call5_v0 rfl, h.nullary main_c_19 rfl, h.binary main_v53 rfl, h.unary main_v52 rfl, h.nullary main_c_18 rfl, h.binary main_v51 rfl,
    h.unary main_v50 rfl, h.nullary main_c_17 rfl, h.binary main_v49 rfl, h.binary main_call4_v2 rfl, h.unary main_call4_v1 rfl,
    h.unary main_call4_v0 rfl, h.nullary main_c_15 rfl, h.unary main_call4_v4 rfl, h.unary main_call4_v3 rfl, h.nullary main_c_16 rfl,
    h.binary main_v78 rfl, h.unary main_v77 rfl, h.nullary main_c_28 rfl, h.unary main_v76 rfl]
  simp -implicitDefEqProofs only [TRef.toBuf, TRef.ofBuf, cast_cast, cast_eq, id_eq]
  pointwise []
  rw [v48 h i j]
  rfl

theorem v88 (i : Fin 256) (j : Fin 384) : (E main_v88 : S256x384.Idx → BitVec 32) (ix2 i j) = dist i j := by
  rw [h.binary main_v88 rfl, h.unary main_v87 rfl, h.unary main_v85 rfl, h.nullary main_v84 rfl, h.unary main_v86 rfl, h.binary main_v83 rfl,
    h.unary main_v82 rfl, h.nullary main_c_30 rfl, h.unary main_v81 rfl, h.nullary main_v80 rfl]
  pointwise []
  rfl

set_option maxHeartbeats 4000000 in
theorem v119 (i : Fin 256) (j : Fin 384) : (E main_v119 : S256x384.Idx → BitVec 32) (ix2 i j) = entry 16#32 i j := by
  rw [h.ternary main_v119 rfl, h.unary main_call11_v1 rfl, h.unary main_call11_v0 rfl, h.nullary main_c_45 rfl, h.binary main_v115 rfl,
    h.ternary main_v113 rfl, h.binary main_v110 rfl, h.unary main_v109 rfl, h.nullary main_c_42 rfl, h.binary main_v108 rfl, h.unary main_v106 rfl,
    h.binary main_v105 rfl, h.unary main_v104 rfl, h.nullary main_cst_40 rfl, h.binary main_v103 rfl, h.unary main_v102 rfl, h.nullary main_cst_39 rfl,
    h.unary main_v101 rfl, h.binary main_v100 rfl, h.unary main_v99 rfl, h.nullary main_cst_38 rfl, h.unary main_v98 rfl, h.binary main_v97 rfl,
    h.unary main_v96 rfl, h.nullary main_c_37 rfl, h.unary main_v107 rfl, h.nullary main_c_41 rfl, h.binary main_v112 rfl, h.unary main_v111 rfl,
    h.nullary main_c_43 rfl, h.unary main_v95 rfl, h.unary main_v114 rfl, h.ternary main_v94 rfl, h.unary main_call9_v1 rfl, h.nullary main_c_36 rfl,
    h.unary main_call9_v0 rfl, h.nullary main_c_35 rfl, h.binary main_v93 rfl, h.unary main_v92 rfl, h.nullary main_c_34 rfl, h.binary main_v91 rfl,
    h.unary main_v90 rfl, h.nullary main_c_33 rfl, h.binary main_v89 rfl, h.binary main_call8_v2 rfl, h.unary main_call8_v1 rfl,
    h.unary main_call8_v0 rfl, h.nullary main_c_31 rfl, h.unary main_call8_v4 rfl, h.unary main_call8_v3 rfl, h.nullary main_c_32 rfl,
    h.binary main_v118 rfl, h.unary main_v117 rfl, h.nullary main_c_44 rfl, h.unary main_v116 rfl]
  simp -implicitDefEqProofs only [TRef.toBuf, TRef.ofBuf, cast_cast, cast_eq, id_eq]
  pointwise []
  rw [v88 h i j]
  rfl

end Cert.DbiasIdeal.HostRows

end
-- ==== Proof.DbiasLoop.lean ====
/- The kernel's loop over the buckets: after all trips row `b` holds bucket `b`'s sums. -/
module

public import proofs.«01_k».proof.Proof.DbiasSums
public import proofs.«01_k».proof.Proof.DbiasHost
public import Idealize.ShloMosaic.Lib.WholeRead

@[expose] public section

set_option maxRecDepth 16384

noncomputable section

namespace Cert.DbiasIdeal.Trip

open Cert.DbiasIdeal Cert.DbiasIdeal.Gen Idealize.ShloMosaic Idealize.ShloMosaic.TcCoe Idealize.SL.Sem Cert.Lift Cert.Dbias.Math

/-- A table's entry is a bucket's number exactly where the window's distance falls in that bucket. -/
theorem entry_iff (d : BitVec 32) (b : Fin 32) (i : Fin 256) (j : Fin 384) :
    HostRows.entry d i j = BitVec.ofNat 32 b.val ↔ hit d b i j := by
  unfold HostRows.entry hit
  rcases BitVec.eq_zero_or_eq_one (near (dist i j)) with e | e
  · rw [e]
    have : ∀ b : Fin 32, ¬ (4294967295#32 = BitVec.ofNat 32 b.val) := by decide +kernel
    exact ⟨fun q => absurd q (this b), fun q => absurd q.1 (by decide)⟩
  · rw [e, clip_near e]
    exact ⟨fun q => ⟨rfl, q⟩, fun q => q.2⟩

theorem head_at {arg : Memref sig .tc .vmem S8x256x384 .f32} (harg : arg.IsWhole) (x : Vec Ideal S8x256x384 .f32) (h : ℕ)
    (inb : ∀ a : Fin S8x256x384.rank, (![h, 0, 0] : Fin 3 → ℕ) a + S1x256x384.size a ≤ S8x256x384.size a) (hh : h < 8) (i : Fin 256) (j : Fin 384) :
    head arg (harg.unread x) h inb (ix3 0 i j) = x (ix3 ⟨h, hh⟩ i j) := by
  refine (harg.readAt_unread x _ _).trans (congrArg x ?_)
  funext a
  refine Fin.ext ?_
  fin_cases a
  · exact (by omega : h + 1 * 0 = h)
  · exact (by omega : 0 + 1 * i.val = i.val)
  · exact (by omega : 0 + 1 * j.val = j.val)

theorem table_at {arg : Memref sig .tc .vmem S256x384 .i32} (harg : arg.IsWhole) (x : Vec Ideal S256x384 .i32) (i : Fin 256) (j : Fin 384) :
    table arg (harg.unread x) (ix2 i j) = x (ix2 i j) := by
  refine (harg.readAt_unread x _ _).trans (congrArg x ?_)
  funext a
  refine Fin.ext ?_
  fin_cases a
  · exact (by omega : 0 + 1 * i.val = i.val)
  · exact (by omega : 0 + 1 * j.val = j.val)

/-- One window's part of a trip at bucket `w`. -/
theorem window_at (d : BitVec 32) (w : Fin 32) {argT : Memref sig .tc .vmem S256x384 .i32} (hT : argT.IsWhole) (xT : Vec Ideal S256x384 .i32)
    {arg : Memref sig .tc .vmem S8x256x384 .f32} (harg : arg.IsWhole) (x : Vec Ideal S8x256x384 .f32)
    (hx : ∀ i j, xT (ix2 i j) = HostRows.entry d i j) (acc : FVec Ideal S32x128 .f32) (r : Fin 32) (l : Fin 128) :
    window (BitVec.ofNat 32 w.val) argT (hT.unread xT) arg (harg.unread x) acc (ix2 r l)
      = acc (ix2 r l) + if r = w then (if h : l.val < 8 then part d (fun i j => x (ix3 ⟨l.val, h⟩ i j)) w else 0) else 0 :=
  heads_at d w _ (fun q i j => x (ix3 q i j)) _ _ _ _ _ _ _ _ acc (fun i j => by rw [table_at hT, hx]; exact entry_iff d w i j)
    (head_at harg x 0 _ _) (head_at harg x 1 _ _) (head_at harg x 2 _ _) (head_at harg x 3 _ _) (head_at harg x 4 _ _) (head_at harg x 5 _ _)
    (head_at harg x 6 _ _) (head_at harg x 7 _ _) r l

theorem trips : k0_t1_loop.trips = 32 := by decide +kernel

theorem iv_at (k : ℕ) : Scf.iv 0#32 1#32 k = BitVec.ofNat 32 k := by
  unfold Scf.iv
  rw [BitVec.mul_one, BitVec.zero_add]

/-- The three windows' partial sums of bucket `b` for lane `l`. -/
def total (x0 x1 x2 : Vec Ideal S8x256x384 .f32) (b : Fin 32) (l : Fin 128) : EReal :=
  if h : l.val < 8 then part 1#32 (fun i j => x0 (ix3 ⟨l.val, h⟩ i j)) b + part 4#32 (fun i j => x1 (ix3 ⟨l.val, h⟩ i j)) b
    + part 16#32 (fun i j => x2 (ix3 ⟨l.val, h⟩ i j)) b else 0

section Loop

variable (𝒱 : Variants) (c : Dev nD) (bd : Option 𝒱.V)
  (arg0 : Memref sig .tc .vmem S8x256x384 .f32) (harg0 : arg0.IsWhole) (arg1 : Memref sig .tc .vmem S8x256x384 .f32) (harg1 : arg1.IsWhole)
  (arg2 : Memref sig .tc .vmem S8x256x384 .f32) (harg2 : arg2.IsWhole) (arg3 : Memref sig .tc .vmem S256x384 .i32) (harg3 : arg3.IsWhole)
  (arg4 : Memref sig .tc .vmem S256x384 .i32) (harg4 : arg4.IsWhole) (arg5 : Memref sig .tc .vmem S256x384 .i32) (harg5 : arg5.IsWhole)
  (arg6 : Memref sig .tc .vmem S32x128 .f32) (harg6 : arg6.IsWhole)
  (x0 x1 x2 : Vec Ideal S8x256x384 .f32) (x3 x4 x5 : Vec Ideal S256x384 .i32)
  (h3 : ∀ i j, x3 (ix2 i j) = HostRows.entry 1#32 i j) (h4 : ∀ i j, x4 (ix2 i j) = HostRows.entry 4#32 i j)
  (h5 : ∀ i j, x5 (ix2 i j) = HostRows.entry 16#32 i j)
  (init : FVec Ideal S32x128 .f32) (hi : ∀ r l, init (ix2 r l) = (0 : EReal))

include h3 h4 h5 in
theorem trip_at (k : Fin k0_t1_loop.trips) (acc : FVec Ideal S32x128 .f32) (r : Fin 32) (l : Fin 128) :
    tripR_k0_t1 (F := Ideal) 𝒱 c bd arg0 harg0 arg1 harg1 arg2 harg2 arg3 harg3 arg4 harg4 arg5 harg5 arg6 harg6 rows lanes
        (harg0.unread x0) (harg1.unread x1) (harg2.unread x2) (harg3.unread x3) (harg4.unread x4) (harg5.unread x5) k acc (ix2 r l)
      = acc (ix2 r l) + if r.val = k.val then total x0 x1 x2 r l else 0 := by
  obtain ⟨w, hw⟩ : ∃ w : Fin 32, w.val = k.val := ⟨⟨k.val, lt_of_lt_of_le k.isLt k0_t1_abs.2.1⟩, rfl⟩
  rw [trip, iv_at, ← hw, window_at 16#32 w harg5 x5 harg2 x2 h5, window_at 4#32 w harg4 x4 harg1 x1 h4, window_at 1#32 w harg3 x3 harg0 x0 h3]
  simp only [← Fin.ext_iff]
  by_cases hr : r = w
  · subst hr
    simp only [if_true]
    unfold total
    by_cases hl : l.val < 8
    · simp only [dif_pos hl, add_assoc]
    · simp only [dif_neg hl, add_zero]
  · simp only [if_neg hr, add_zero]

include h3 h4 h5 hi in
theorem loop_at (n : ℕ) (hn : n ≤ 32) (r : Fin 32) (l : Fin 128) :
    st_k0_t1 (F := Ideal) 𝒱 c bd arg0 harg0 arg1 harg1 arg2 harg2 arg3 harg3 arg4 harg4 arg5 harg5 arg6 harg6 rows lanes
        (harg0.unread x0) (harg1.unread x1) (harg2.unread x2) (harg3.unread x3) (harg4.unread x4) (harg5.unread x5) init n (ix2 r l)
      = if r.val < n then total x0 x1 x2 r l else 0 := by
  induction n with
  | zero => rw [st_k0_t1_zero, hi]; rfl
  | succ n ih =>
    rw [st_k0_t1_succ (F := Ideal) 𝒱 c bd arg0 harg0 arg1 harg1 arg2 harg2 arg3 harg3 arg4 harg4 arg5 harg5 arg6 harg6 rows lanes _ _ _ _ _ _ init
        ⟨n, by rw [trips]; omega⟩,
      trip_at 𝒱 c bd arg0 harg0 arg1 harg1 arg2 harg2 arg3 harg3 arg4 harg4 arg5 harg5 arg6 harg6 x0 x1 x2 x3 x4 x5 h3 h4 h5, ih (by omega)]
    dsimp only
    rcases lt_trichotomy r.val n with q | q | q
    · rw [if_pos q, if_neg (by omega), if_pos (by omega), add_zero]
    · rw [if_neg (by omega), if_pos q, if_pos (by omega), zero_add]
    · rw [if_neg (by omega), if_neg (by omega), if_neg (by omega), zero_add]

end Loop

end Cert.DbiasIdeal.Trip

end
-- ==== Proof.DbiasValue.lean ====
/- The array the relative bias' reduction leaves. -/
module

public import proofs.«01_k».proof.Proof.Gen.DbiasIdeal.Value
public import proofs.«01_k».proof.Proof.DbiasLoop

@[expose] public section

set_option maxRecDepth 16384

noncomputable section

namespace Cert.DbiasIdeal.Arrays

open Cert.DbiasIdeal Cert.DbiasIdeal.Gen Idealize.ShloMosaic Idealize.ShloMosaic.TcCoe Idealize.SL.Sem
open Idealize.ShloMosaic.Pipeline (Dat)
open Cert.Lift Cert.Line Cert.Dbias.Math Cert.DbiasIdeal.Trip

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0] :=
  (by decide +kernel : ∀ t : Fin grid0.N, _)

theorem in0 (t : Fin cfg0.N) (h : Fin 8) (i : Fin 256) (j : Fin 384) :
    iblk m c 0 t (ix3 h i j) = m ((c : Thread nD τ).loc main_arg0) (ix3 h i j) := by
  refine Eq.trans ?_ (congrFun (V_main_arg0 m c) (ix3 h i j))
  blk_ext [iblk, idx t]
theorem in1 (t : Fin cfg0.N) (h : Fin 8) (i : Fin 256) (j : Fin 384) :
    iblk m c 1 t (ix3 h i j) = m ((c : Thread nD τ).loc main_arg1) (ix3 h i j) := by
  refine Eq.trans ?_ (congrFun (V_main_arg1 m c) (ix3 h i j))
  blk_ext [iblk, idx t]
theorem in2 (t : Fin cfg0.N) (h : Fin 8) (i : Fin 256) (j : Fin 384) :
    iblk m c 2 t (ix3 h i j) = m ((c : Thread nD τ).loc main_arg2) (ix3 h i j) := by
  refine Eq.trans ?_ (congrFun (V_main_arg2 m c) (ix3 h i j))
  blk_ext [iblk, idx t]
theorem in3 (t : Fin cfg0.N) (i : Fin 256) (j : Fin 384) : iblk m c 3 t (ix2 i j) = HostRows.entry 1#32 i j := by
  refine Eq.trans ?_ (HostRows.v39 (solves_after (StableHlo.launchContents m c) HostRows.line) i j)
  blk_ext [iblk, idx t]
theorem in4 (t : Fin cfg0.N) (i : Fin 256) (j : Fin 384) : iblk m c 4 t (ix2 i j) = HostRows.entry 4#32 i j := by
  refine Eq.trans ?_ (HostRows.v79 (solves_after (StableHlo.launchContents m c) HostRows.line) i j)
  blk_ext [iblk, idx t]
theorem in5 (t : Fin cfg0.N) (i : Fin 256) (j : Fin 384) : iblk m c 5 t (ix2 i j) = HostRows.entry 16#32 i j := by
  refine Eq.trans ?_ (HostRows.v119 (solves_after (StableHlo.launchContents m c) HostRows.line) i j)
  blk_ext [iblk, idx t]

theorem zeros (r : Fin 32) (l : Fin 128) : (k0_pay1 (F := Ideal)) (ix2 r l) = (0 : EReal) := by
  pointwise [k0_pay1]

theorem arr6 : (dats m 0 c).arrAt 6 cfg0.N
    = (fun y => total (m ((c : Thread nD τ).loc main_arg0)) (m ((c : Thread nD τ).loc main_arg1)) (m ((c : Thread nD τ).loc main_arg2)) (y 0) (y 1)
        : S32x128.Idx → EReal) := by
  refine (dats m 0 c).arrAt_eq_of_covers 6 _ (by decide +kernel) fun t _ (y : S32x128.Idx) => ?_
  blk_simp
  have e : ((View.whole main_v120).slice (win0_6.rect t)).emb y = ix2 (y 0) (y 1) := by
    blk_ext [idx t]
  rw [after0_6, e]
  unfold outsAt0
  frame_out
  idx_vars y
  refine (loop_at _ c _ _ _ _ _ _ _ _ _ _ _ _ _ _ _ (iblk m c 0 t) (iblk m c 1 t) (iblk m c 2 t) (iblk m c 3 t) (iblk m c 4 t) (iblk m c 5 t)
    (in3 m c t) (in4 m c t) (in5 m c t) _ zeros _ k0_t1_abs.2.1 y0 y1).trans ?_
  rw [if_pos (y0.isLt.trans_eq trips.symm)]
  unfold total
  simp only [in0, in1, in2]

end Cert.DbiasIdeal.Arrays

end
-- ==== Proof.DbiasClaim.lean ====
/- The relative bias' reduction and its reference end with the same sums. -/
module

public import proofs.«01_k».proof.Defs
public import proofs.«01_k».proof.Proof.DbiasRef
public import proofs.«01_k».proof.Proof.DbiasValue
public import proofs.«01_k».proof.Proof.Gen.DbiasRefIdeal.Run

@[expose] public section

set_option maxRecDepth 16384

noncomputable section

namespace Cert.DbiasRefIdeal.Value

open Cert.DbiasRefIdeal Cert.DbiasRefIdeal.Gen Idealize.ShloMosaic Idealize.ShloMosaic.TcCoe Idealize.SL.Sem Cert.Lift Cert.Dbias.Math

variable (V : Valuation τ sig (Elt Ideal))

theorem zeros_at (b : Fin 32) (h : Fin 8) :
    (broadcastInDim S32x8 ![] bcast_S_S32x8 (constant (F := Ideal) S_ .f32 0x00000000#32) : FVec Ideal S32x8 .f32) (ix2 b h) = (0 : EReal) := by
  pointwise []

/-- The windows' gradients where the band is, heads last. -/
abbrev updates (n : IVec S8x256x384 1) (a : FVec Ideal S8x256x384 .f32) : FVec Ideal S256x384x8 .f32 :=
  transpose S256x384x8 [1, 2, 0] (select n a (broadcastInDim S8x256x384 ![] bcast_S_S8x256x384 (constant (F := Ideal) S_ .f32 0x00000000#32)))
    transposes_S8x256x384_S256x384x8_1_2_0

theorem updates_at (n : IVec S8x256x384 1) (a : FVec Ideal S8x256x384 .f32) (hn : ∀ h i j, n (ix3 h i j) = near (dist i j))
    (i : Fin 256) (j : Fin 384) (l : Fin 8) : updates n a (ix3 i j l) = Scalar.select (near (dist i j)) (a (ix3 l i j)) (0 : EReal) := by
  rw [← hn l i j]
  pointwise [updates]

/-- One dilation's scattered sums. -/
theorem sums_at (d : BitVec 32) (hd : 0 ≤ d.toInt) (hd' : d.toInt ≤ 16) (idx : IVec S256x384x1 32) (n : IVec S8x256x384 1) (a : FVec Ideal S8x256x384 .f32)
    (hidx : ∀ i j, idx (ix3 i j (0 : Fin 1)) = wrap (bucket (IntOp.muli (dist i j) d))) (hn : ∀ h i j, n (ix3 h i j) = near (dist i j))
    (b : Fin 32) (h : Fin 8) :
    Host.scatterAdd scatter_S32x8_S256x384x1_S256x384x8_2_0_0_2 (broadcastInDim S32x8 ![] bcast_S_S32x8 (constant (F := Ideal) S_ .f32 0x00000000#32)) idx
        (updates n a) (ix2 b h) = part d (fun i j => a (ix3 h i j)) b :=
  scattered d hd hd' _ idx _ (fun h i j => a (ix3 h i j)) zeros_at hidx (updates_at n a hn) b h

end Cert.DbiasRefIdeal.Value

namespace Cert.Proof

open Idealize.ShloMosaic Idealize.SL.Sem Cert.Lift Cert.DbiasRefIdeal.Value
open Cert.DbiasIdeal.Arrays (arr6)

theorem dbias_algebraic : Cert.algebraic_DbiasIdeal_DbiasRefIdeal := by
  pair_intro
  · run_from Cert.DbiasIdeal.Value.run_blocks m g
  · refine (θ_run _ _ _).mono (fun r hr c => ?_) (Cert.DbiasRefIdeal.Value.run m' g')
    obtain ⟨e0, e1, e2⟩ := hagree c
    refine ⟨(hr c).1.trans ?_, (hr c).2⟩
    refine Eq.trans (ext2 fun b l => ?_) (arr6 m c).symm
    refine (widened _ _ _ b l).trans ?_
    show _ = Cert.DbiasIdeal.Trip.total _ _ _ b l
    unfold Cert.DbiasIdeal.Trip.total
    by_cases h : l.val < 8
    · rw [dif_pos h, dif_pos h]
      refine Eq.trans (congrArg₂ (· + ·) (congrArg₂ (· + ·)
        (sums_at 16#32 (by decide) (by decide) _ _ _ (index_at16 _) (near_at16 _) b ⟨l.val, h⟩)
        (sums_at 4#32 (by decide) (by decide) _ _ _ (index_at4 _) (near_at4 _) b ⟨l.val, h⟩))
        (sums_at 1#32 (by decide) (by decide) _ _ _ (index_at1 _) (near_at1 _) b ⟨l.val, h⟩)) ?_
      rw [← e0, ← e1, ← e2]
      exact (add_comm _ _).trans ((congrArg _ (add_comm _ _)).trans (add_assoc _ _ _).symm)
    · rw [dif_neg h, dif_neg h]

end Cert.Proof

end
-- ==== Proof.AttnFinite.lean ====
/- What the attention gradient's condition says: every argument is finite. -/
module

public import proofs.«01_k».proof.Pre_finite_attn
public import proofs.«01_k».proof.Proof.Lift

@[expose] public section

set_option maxRecDepth 16384

noncomputable section

namespace Cert.Pre_finite_attn

open Idealize.ShloMosaic Cert.Lift

instance facts : Facts where
  bcast_S_S16384x2x4x64 := by decide
  reducesTo_S16384x2x4x64_S_d0_1_2_3 := by decide
  h_S_ := by decide
  bcast_S_S16384x2x64 := by decide
  reducesTo_S16384x2x64_S_d0_1_2 := by decide

theorem finite_of_fn {x0 x3 : FVec Ideal S16384x2x4x64 .f32} {x1 x2 : FVec Ideal S16384x2x64 .f32}
    (h : fn (F := Ideal) x0 x1 x2 x3 = fun _ => 1#1) :
    (∀ i, x0 i = ((x0 i).toReal : EReal)) ∧ (∀ i, x1 i = ((x1 i).toReal : EReal)) ∧ (∀ i, x2 i = ((x2 i).toReal : EReal))
      ∧ ∀ i, x3 i = ((x3 i).toReal : EReal) := by
  have h' := congrFun h (fun a => a.elim0)
  unfold fn fn_part1 at h'
  dsimp only at h'
  simp only [andi, bit_and] at h'
  obtain ⟨⟨⟨h0, h1⟩, h2⟩, h3⟩ := h'
  exact ⟨fin_of_all h0, fin_of_all h1, fin_of_all h2, fin_of_all h3⟩

end Cert.Pre_finite_attn

end
-- ==== Proof.AttnMath.lean ====
/- The attention's gradient over the reals: rows of weights from their saved log-sums, and what both programs compute of them. -/
module

public import proofs.«01_k».proof.Proof.Lift

@[expose] public section

noncomputable section

namespace Cert.Attn.Math

open Cert.Lift Idealize.ShloMosaic

/-- The queries (or the outputs' gradient): position, key block, head, column. -/
abbrev Qs := Fin 16384 → Fin 2 → Fin 4 → Fin 64 → ℝ
/-- The keys (or the values): position, key block, column. -/
abbrev Ks := Fin 16384 → Fin 2 → Fin 64 → ℝ

variable (Q D : Qs) (K V : Ks) (a : Fin 2) (g : Fin 4) (i s : Fin 16384) (e : Fin 64)

/-- The score of key `s` for query `i`. -/
def sco : ℝ := (∑ e, K s a e * Q i a g e) * (1 / 8)
/-- The largest score of a row. -/
def mx : ℝ := Finset.univ.sup' ⟨0, Finset.mem_univ _⟩ fun s => sco Q K a g i s
def ex : ℝ := Real.exp (sco Q K a g i s - mx Q K a g i)
def len : ℝ := ∑ s, ex Q K a g i s
/-- The weight of key `s` for query `i`. -/
def wt : ℝ := ex Q K a g i s / len Q K a g i
def lse : ℝ := mx Q K a g i + Real.log (len Q K a g i)
/-- The row's sum of its output times the output's gradient. -/
def del : ℝ := ∑ e, D i a g e * ((∑ s, ex Q K a g i s * V s a e) / len Q K a g i)
def dp : ℝ := ∑ e, D i a g e * V s a e
/-- The gradient at a score. -/
def ds : ℝ := wt Q K a g i s * (dp D V a g i s - del Q D K V a g i)

def dq : ℝ := (∑ s, ds Q D K V a g i s * K s a e) * (1 / 8)
def dk : ℝ := ∑ i, ∑ g, Q i a g e * (1 / 8) * ds Q D K V a g i s
def dv : ℝ := ∑ i, ∑ g, D i a g e * wt Q K a g i s

theorem len_pos : 0 < len Q K a g i :=
  Finset.sum_pos (fun _ _ => Real.exp_pos _) ⟨0, Finset.mem_univ _⟩

theorem len_ne : len Q K a g i ≠ 0 := (len_pos Q K a g i).ne'

/-- The largest of finite values is the largest of the reals. -/
theorem fold_max (f : Fin 16384 → ℝ) :
    Finset.fold max (⊥ : EReal) (fun s => ((f s : ℝ) : EReal)) Finset.univ = ((Finset.univ.sup' ⟨0, Finset.mem_univ _⟩ f : ℝ) : EReal) := by
  have e1 : Finset.fold max (⊥ : EReal) (fun s => ((f s : ℝ) : EReal)) Finset.univ = Finset.univ.sup fun s => ((f s : ℝ) : EReal) := rfl
  rw [e1, ← Finset.sup'_eq_sup ⟨0, Finset.mem_univ _⟩]
  exact (Finset.comp_sup'_eq_sup'_comp (f := f) ⟨0, Finset.mem_univ _⟩ (fun x : ℝ => (x : EReal)) fun x y => (max_coe x y).symm).symm

/-- A weight, from the row's saved log-sum. -/
theorem exp_lse : Real.exp (sco Q K a g i s - lse Q K a g i) = wt Q K a g i s := by
  unfold lse wt ex
  rw [← sub_sub, Real.exp_sub, Real.exp_log (len_pos Q K a g i)]

theorem del_eq : del Q D K V a g i = ∑ s, dp D V a g i s * (1 / (len Q K a g i * len Q K a g i)) * ex Q K a g i s * len Q K a g i := by
  have hl := len_ne Q K a g i
  unfold del dp
  simp only [Finset.sum_div, Finset.mul_sum, Finset.sum_mul]
  rw [Finset.sum_comm]
  refine Finset.sum_congr rfl fun s _ => Finset.sum_congr rfl fun e _ => ?_
  field_simp

/-- The gradient at a score as the derivative of the quotient writes it. -/
theorem ds_quot : (dp D V a g i s / len Q K a g i + -(∑ s, dp D V a g i s * (1 / (len Q K a g i * len Q K a g i)) * ex Q K a g i s)) * ex Q K a g i s * (1 / 8)
    = ds Q D K V a g i s * (1 / 8) := by
  have hl := len_ne Q K a g i
  unfold ds wt
  rw [del_eq, ← Finset.sum_mul]
  field_simp
  ring

/-- The queries' gradient from the quotient's derivative. -/
theorem dq_of : ∑ s, ds Q D K V a g i s * (1 / 8) * K s a e = dq Q D K V a g i e := by
  unfold dq
  rw [Finset.sum_mul]
  exact Finset.sum_congr rfl fun _ _ => by ring

theorem dk_of : ∑ i, ∑ g, ds Q D K V a g i s * (1 / 8) * Q i a g e = dk Q D K V a s e := by
  unfold dk
  exact Finset.sum_congr rfl fun _ _ => Finset.sum_congr rfl fun _ _ => by ring

theorem dv_of : ∑ g, ∑ i, D i a g e * wt Q K a g i s = dv Q D K a s e := by
  unfold dv
  rw [Finset.sum_comm]

end Cert.Attn.Math
-- ==== Proof.AttnRef.lean ====
/- What the attention gradient's reference leaves, on finite arguments. -/
module

public import proofs.«01_k».proof.Proof.Gen.AttnBwdRefIdeal.Run
public import proofs.«01_k».proof.Proof.Line
public import proofs.«01_k».proof.Proof.AttnMath

@[expose] public section

set_option maxRecDepth 16384

noncomputable section

namespace Cert.AttnBwdRefIdeal.Rows

open Cert.AttnBwdRefIdeal Cert.AttnBwdRefIdeal.Gen Cert.AttnBwdRefIdeal.Value Idealize.ShloMosaic Idealize.ShloMosaic.TcCoe
open Idealize.SL.Sem Idealize.ShloMosaic.StableHlo Cert.Line Cert.Lift Cert.Attn.Math

theorem line : Line (ops (F := Ideal)) 4 := by
  unfold ops
  repeat'
    refine ⟨?_, ?_⟩
    · first
        | (with_reducible apply step_nullary) <;> decide
        | (with_reducible apply step_unary) <;> decide
        | (with_reducible apply step_binary) <;> decide
        | (with_reducible apply step_ternary) <;> decide
        | (with_reducible apply step_reshape) <;> decide
  trivial

theorem c_eighth : Ideal.ofBits .f32 0x3E000000#32 = ((1 / 8 : ℝ) : EReal) := by
  simp [Ideal.ofBits, Ideal.ieee, -EReal.coe_mul]; norm_num
theorem c_bot : Ideal.ofBits .f32 0xFF800000#32 = ⊥ := by
  simp [Ideal.ofBits, Ideal.ieee]

variable {Q D : Qs} {K V : Ks}
variable {E : Valuation τ sig (Elt Ideal)} (h : Solves (ops (F := Ideal)) 4 E)
  (hq : ∀ i a g e, (E main_arg0 : S16384x2x4x64.Idx → EReal) (ix4 i a g e) = ((Q i a g e : ℝ) : EReal))
  (hk : ∀ s a e, (E main_arg1 : S16384x2x64.Idx → EReal) (ix3 s a e) = ((K s a e : ℝ) : EReal))
  (hv : ∀ s a e, (E main_arg2 : S16384x2x64.Idx → EReal) (ix3 s a e) = ((V s a e : ℝ) : EReal))
  (hd : ∀ i a g e, (E main_arg3 : S16384x2x4x64.Idx → EReal) (ix4 i a g e) = ((D i a g e : ℝ) : EReal))
include h hq hk hv hd

theorem v3 (a : Fin 2) (g : Fin 4) (i s : Fin 16384) :
    (E main_v3 : S2x4x16384x16384.Idx → EReal) (ix4 a g i s) = ((sco Q K a g i s : ℝ) : EReal) := by
  rw [h.binary main_v3 rfl, h.unary main_v2 rfl, h.nullary main_cst rfl, h.unary main_v1 rfl, h.binary main_v0 rfl]
  pointwise []
  simp only [hk, hq, c_eighth, ← EReal.coe_mul, coe_sum, sco]

theorem v4 (a : Fin 2) (g : Fin 4) (i : Fin 16384) : (E main_v4 : S2x4x16384.Idx → EReal) (ix3 a g i) = ((mx Q K a g i : ℝ) : EReal) := by
  rw [h.binary main_v4 rfl, h.nullary main_cst_0 rfl]
  pointwise []
  simp only [v3 h hq hk hv hd, c_bot, fold_max, mx]

theorem v11 (a : Fin 2) (g : Fin 4) (i : Fin 16384) : (E main_v11 : S2x4x16384.Idx → EReal) (ix3 a g i) = ((mx Q K a g i : ℝ) : EReal) := by
  rw [h.binary main_v11 rfl, h.unary main_v10 rfl, h.nullary main_cst_2 rfl]
  pointwise []
  rw [v4 h hq hk hv hd, c_bot, max_eq_right bot_le]

theorem v24 (a : Fin 2) (g : Fin 4) (i s : Fin 16384) :
    (E main_v24 : S2x4x16384x16384.Idx → EReal) (ix4 a g i s) = ((ex Q K a g i s : ℝ) : EReal) := by
  rw [h.unary main_v24 rfl, h.binary main_v23 rfl, h.unary main_v22 rfl, h.unary main_v21 rfl]
  pointwise []
  simp only [v3 h hq hk hv hd, v11 h hq hk hv hd, ← EReal.coe_sub, Ideal.exp_coe, ex]

theorem v26 (a : Fin 2) (g : Fin 4) (i : Fin 16384) (o : Fin 1) :
    (E main_v26 : S2x4x16384x1.Idx → EReal) (ix4 a g i o) = ((len Q K a g i : ℝ) : EReal) := by
  rw [h.unary main_v26 rfl, h.binary main_v25 rfl, h.nullary main_cst_8 rfl]
  pointwise []
  simp only [v24 h hq hk hv hd, zero_coe, ← EReal.coe_add, zero_add, coe_sum, len]

theorem v28 (a : Fin 2) (g : Fin 4) (i s : Fin 16384) :
    (E main_v28 : S2x4x16384x16384.Idx → EReal) (ix4 a g i s) = ((wt Q K a g i s : ℝ) : EReal) := by
  rw [h.binary main_v28 rfl, h.unary main_v27 rfl]
  pointwise []
  rw [v24 h hq hk hv hd, v26 h hq hk hv hd, div_coe_coe (len_ne _ _ _ _ _), wt]

theorem v31 (a : Fin 2) (g : Fin 4) (i : Fin 16384) (o : Fin 1) :
    (E main_v31 : S2x4x16384x1.Idx → EReal) (ix4 a g i o) = ((1 / (len Q K a g i * len Q K a g i) : ℝ) : EReal) := by
  rw [h.binary main_v31 rfl, h.unary main_v30 rfl, h.nullary main_cst_9 rfl, h.binary main_v29 rfl]
  pointwise []
  rw [v26 h hq hk hv hd, one_coe, ← EReal.coe_mul, div_coe_coe (mul_ne_zero (len_ne _ _ _ _ _) (len_ne _ _ _ _ _))]

theorem v35 (a : Fin 2) (g : Fin 4) (i s : Fin 16384) :
    (E main_v35 : S2x4x16384x16384.Idx → EReal) (ix4 a g i s) = ((dp D V a g i s : ℝ) : EReal) := by
  rw [h.binary main_v35 rfl, h.unary main_v34 rfl]
  pointwise []
  simp only [hd, hv, ← EReal.coe_mul, coe_sum, dp]

theorem v43 (a : Fin 2) (g : Fin 4) (i : Fin 16384) (o : Fin 1) : (E main_v43 : S2x4x16384x1.Idx → EReal) (ix4 a g i o)
    = ((-(∑ s, dp D V a g i s * (1 / (len Q K a g i * len Q K a g i)) * ex Q K a g i s) : ℝ) : EReal) := by
  rw [h.unary main_v43 rfl, h.reshape main_v42 rfl, h.binary main_v41 rfl, h.nullary main_cst_10 rfl, h.binary main_v40 rfl, h.binary main_v39 rfl,
    h.unary main_v38 rfl]
  pointwise []
  simp only [v35 h hq hk hv hd, v31 h hq hk hv hd, v24 h hq hk hv hd, zero_coe, ← EReal.coe_mul, ← EReal.coe_add, ← EReal.coe_neg, zero_add, coe_sum]

/-- The scaled gradient at a score. -/
theorem v52 (a : Fin 2) (s i : Fin 16384) (g : Fin 4) : (E main_v52 : S2x16384x16384x4.Idx → EReal) (ix4 a s i g)
    = ((ds Q D K V a g i s * (1 / 8) : ℝ) : EReal) := by
  rw [h.unary main_v52 rfl, h.binary main_v51 rfl, h.unary main_v50 rfl, h.nullary main_cst_12 rfl, h.binary main_v49 rfl, h.binary main_v48 rfl,
    h.unary main_v47 rfl, h.binary main_v46 rfl, h.nullary main_cst_11 rfl, h.binary main_v45 rfl, h.unary main_v44 rfl]
  pointwise []
  rw [Fin.sum_univ_one, v35 h hq hk hv hd, v26 h hq hk hv hd, v24 h hq hk hv hd, v43 h hq hk hv hd, c_eighth, div_coe_coe (len_ne _ _ _ _ _), ← ds_quot]
  simp only [zero_coe, ← EReal.coe_mul, ← EReal.coe_add, zero_add]

/-- The queries' gradient. -/
theorem v57 (i : Fin 16384) (a : Fin 2) (g : Fin 4) (e : Fin 64) (x : Fin 512) (hx : x.val = 256 * a.val + 64 * g.val + e.val) :
    (E main_v57 : S16384x512.Idx → EReal) (ix2 i x) = ((dq Q D K V a g i e : ℝ) : EReal) := by
  have ha : (⟨x.val / 256, by omega⟩ : Fin 2) = a := Fin.ext (by dsimp only; omega)
  have hg : (⟨x.val / 64 % 4, by omega⟩ : Fin 4) = g := Fin.ext (by dsimp only; omega)
  have he : (⟨x.val % 64, by omega⟩ : Fin 64) = e := Fin.ext (by dsimp only; omega)
  have h54 : (E main_v54 : S16384x2x4x64.Idx → EReal) (ix4 i a g e) = ((dq Q D K V a g i e : ℝ) : EReal) := by
    rw [h.unary main_v54 rfl, h.binary main_v53 rfl]
    pointwise []
    simp only [v52 h hq hk hv hd, hk, ← EReal.coe_mul, coe_sum, dq_of]
  rw [h.reshape main_v57 rfl]
  pointwise []
  rw [ha, hg, he, h54]

/-- Position `s` of chunk `j`. -/
def pos (j : Fin 8) (s : Fin 2048) : Fin 16384 := ⟨2048 * j.val + s.val, by omega⟩

/-- The keys' gradient. -/
theorem v59 (a : Fin 2) (j : Fin 8) (e : Fin 64) (s : Fin 2048) :
    (E main_v59 : S2x8x64x2048.Idx → EReal) (ix4 a j e s) = ((dk Q D K V a (pos j s) e : ℝ) : EReal) := by
  have h56 : ∀ s, (E main_v56 : S16384x2x64.Idx → EReal) (ix3 s a e) = ((dk Q D K V a s e : ℝ) : EReal) := fun s => by
    rw [h.unary main_v56 rfl, h.binary main_v55 rfl]
    pointwise []
    simp only [v52 h hq hk hv hd, hq, ← EReal.coe_mul, coe_sum, dk_of]
  rw [h.unary main_v59 rfl, h.reshape main_v58 rfl]
  pointwise []
  rw [h56]
  exact congrArg (fun y => ((dk Q D K V a y e : ℝ) : EReal)) (Fin.ext (by dsimp only [pos]; omega))

/-- The values' gradient. -/
theorem v61 (a : Fin 2) (j : Fin 8) (e : Fin 64) (s : Fin 2048) :
    (E main_v61 : S2x8x64x2048.Idx → EReal) (ix4 a j e s) = ((dv Q D K a (pos j s) e : ℝ) : EReal) := by
  have h37 : ∀ s, (E main_v37 : S16384x2x64.Idx → EReal) (ix3 s a e) = ((dv Q D K a s e : ℝ) : EReal) := fun s => by
    rw [h.unary main_v37 rfl, h.binary main_v36 rfl, h.unary main_v34 rfl]
    pointwise []
    simp only [v28 h hq hk hv hd, hd, ← EReal.coe_mul, coe_sum, dv_of]
  rw [h.unary main_v61 rfl, h.reshape main_v60 rfl]
  pointwise []
  rw [h37]
  exact congrArg (fun y => ((dv Q D K a y e : ℝ) : EReal)) (Fin.ext (by dsimp only [pos]; omega))

end Cert.AttnBwdRefIdeal.Rows

namespace Cert.AttnBwdRefIdeal.Ends

open Cert.AttnBwdRefIdeal Cert.AttnBwdRefIdeal.Gen Cert.AttnBwdRefIdeal.Value Idealize.ShloMosaic Idealize.ShloMosaic.TcCoe
open Idealize.SL.Sem Idealize.ShloMosaic.StableHlo Cert.Line Cert.AttnBwdRefIdeal.Rows

variable (m : (ℓ : Loc nD τ sig) → Buf (Elt Ideal) ℓ) (c : Dev nD)

/-- What every array holds after the reference has run. -/
abbrev ends : Valuation τ sig (Elt Ideal) := after (ops (F := Ideal)) (launchContents m c)

theorem solves : Solves (ops (F := Ideal)) 4 (ends m c) := solves_after _ line

theorem arg (b : Ref sig .tc) (hb : b.idx.val < 4) : ends m c (Proc.devRef .tc b) = m ((c.tc : Thread nD τ).loc b) :=
  after_keep _ 4 _ line hb

theorem run (ρ : Dev nD → PrngReg) : θ_run defs (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq scopedRefs_eq scopedSems_eq defs main (fun _ => ops) main_eq (fun _ => ops_sub) m ρ

end Cert.AttnBwdRefIdeal.Ends
-- ==== Proof.AttnStep.lean ====
/-
  One grid point of the attention gradient, as plain functions of what it reads: for the eight chunks of 2048 keys the
  scores, their gradients, and the updates of the two accumulators (the gradients of the keys and of the values, one
  slice of 64 by 2048 per chunk) and of the row block of the gradient of the queries. Nothing here runs the kernel.
-/
module

public import proofs.«01_k».proof.Proof.Gen.AttnBwdIdeal.Skeleton
public import Idealize.ShloMosaic.Lib.VecWindow
public import Idealize.ShloMosaic.Lib.Pointwise.Index
public import Idealize.ShloMosaic.Lib.Exec
public import Idealize.ShloMosaic.Lib.Tactic

@[expose] public section

noncomputable section

namespace Cert.AttnBwdIdeal.Hand

open Idealize.ShloMosaic Idealize.ShloMosaic.TcCoe
open Cert.AttnBwdIdeal.Gen

variable {F : FTy → Type} [FloatOps F]

/-- What a grid point works on: the stacked rows of the queries and of the outputs' gradient with their transposes, the
two columns of row statistics, and per chunk the keys, the values (both transposed) and the keys as rows. -/
structure Pt (F : FTy → Type) where
  q : FVec F S512x64 .bf16
  d : FVec F S512x64 .bf16
  qt : FVec F S64x512 .bf16
  dt : FVec F S64x512 .bf16
  L : FVec F S512x1 .f32
  D : FVec F S512x1 .f32
  kt : ℕ → Vec F S1x1x64x2048 .bf16
  vt : ℕ → Vec F S1x1x64x2048 .bf16
  kk : ℕ → Vec F S1x2048x64 .bf16

namespace Pt

variable (P : Pt F)

/-- The scores of chunk `j`. -/
def sc (j : ℕ) : Vec F S1x512x2048 .f32 := k0_pay7 P.q (P.kt j)

/-- The products of the outputs' gradient with the values of chunk `j`. -/
def dp (j : ℕ) : Vec F S1x512x2048 .f32 := k0_pay8 P.d (P.vt j)

/-- The gradient of the scores of chunk `j`. -/
def ds (j : ℕ) : FVec F S512x2048 .bf16 := k0_pay10 P.L P.D (P.sc j) (P.dp j)

/-- The values' gradient of chunk `j`, over what its slice held. -/
def dv (j : ℕ) (old : Vec F S1x64x2048 .f32) : Vec F S1x64x2048 .f32 := k0_pay21 P.dt P.L (P.sc j) old

/-- The keys' gradient of chunk `j`, over what its slice held. -/
def dk (j : ℕ) (old : Vec F S1x64x2048 .f32) : Vec F S1x64x2048 .f32 := k0_pay14 P.qt (P.ds j) old

/-- The queries' gradient (not yet scaled) over the first `n` chunks. -/
def dq : ℕ → FVec F S512x64 .f32
  | 0 => k0_pay37
  | n + 1 => k0_pay15 (dq n) (P.ds n) (P.kk n)

end Pt

/-- The slice of chunk `j`. -/
def slab (x : S8x64x2048.Idx → Elt F .f32) (j : Fin 8) : Vec F S1x64x2048 .f32 := fun y => x (ix3 j (y 1) (y 2))

/-- The accumulator `x` with the slices of the first `n` chunks replaced by `g`'s update of them. -/
def upd (n : ℕ) (g : ℕ → Vec F S1x64x2048 .f32 → Vec F S1x64x2048 .f32) (x : S8x64x2048.Idx → Elt F .f32) :
    S8x64x2048.Idx → Elt F .f32 :=
  fun y => if (y 0).val < n then g (y 0).val (slab x (y 0)) (ix3 (0 : Fin 1) (y 1) (y 2)) else x y

theorem upd_zero (g : ℕ → Vec F S1x64x2048 .f32 → Vec F S1x64x2048 .f32) (x : S8x64x2048.Idx → Elt F .f32) : upd 0 g x = x := by
  funext y; simp [upd]

section Views

variable {κ : Kind} {sp : Space}

/-- A load of slice `n` reads it. -/
theorem readAt_slab (v : View sig κ sp S8x64x2048 .f32) (f : v.ty.Contents (Elt F)) {off : Fin 3 → ℕ}
    (inb : ∀ a, off a + S1x64x2048.size a ≤ S8x64x2048.size a) (n : ℕ) (hn : n < 8) (h : off = ![n, 0, 0]) :
    v.readAt (Elt F) (Rect.unit (s := S8x64x2048) off S1x64x2048.size inb).toLoadRect f = slab (v.read (Elt F) f) ⟨n, hn⟩ := by
  subst h
  funext y
  rw [View.readAt_apply]
  unfold slab
  congr 1
  funext a
  apply Fin.ext
  have h0 : (y 0).val < 1 := (y 0).isLt
  fin_cases a
  · show n + 1 * (y 0).val = n; omega
  · show 0 + 1 * (y 1).val = (y 1).val; omega
  · show 0 + 1 * (y 2).val = (y 2).val; omega

/-- Slices from `n` on are untouched by the first `n` updates. -/
theorem slab_upd (n : ℕ) (j : Fin 8) (hn : n ≤ j.val) (g : ℕ → Vec F S1x64x2048 .f32 → Vec F S1x64x2048 .f32)
    (x : S8x64x2048.Idx → Elt F .f32) : slab (upd n g x) j = slab x j := by
  funext y
  unfold slab upd
  exact if_neg (by show ¬ j.val < n; omega)

/-- The load of slice `j`, the accumulator standing at the first `n ≤ j` updates. -/
theorem readAt_upd (v : View sig κ sp S8x64x2048 .f32) (f : v.ty.Contents (Elt F)) {off : Fin 3 → ℕ}
    (inb : ∀ a, off a + S1x64x2048.size a ≤ S8x64x2048.size a) (n j : ℕ) (hj : j < 8) (hn : n ≤ j) (h : off = ![j, 0, 0])
    (g : ℕ → Vec F S1x64x2048 .f32 → Vec F S1x64x2048 .f32) (x : S8x64x2048.Idx → Elt F .f32) (hf : v.read (Elt F) f = upd n g x) :
    v.readAt (Elt F) (Rect.unit (s := S8x64x2048) off S1x64x2048.size inb).toLoadRect f = slab x ⟨j, hj⟩ := by
  rw [readAt_slab v f inb j hj h, hf, slab_upd n ⟨j, hj⟩ hn]

/-- Storing `g`'s update into slice `n` of the first `n` updates gives the first `n + 1`. -/
theorem read_upd (v : View sig κ sp S8x64x2048 .f32) (f : v.ty.Contents (Elt F)) {off : Fin 3 → ℕ}
    (inb : ∀ a, off a + S1x64x2048.size a ≤ S8x64x2048.size a) (n : ℕ) (hn : n < 8) (h : off = ![n, 0, 0])
    (L : List (View.Piece (Elt F) S8x64x2048 .f32)) (g : ℕ → Vec F S1x64x2048 .f32 → Vec F S1x64x2048 .f32)
    (x : S8x64x2048.Idx → Elt F .f32) (hL : v.read (Elt F) (v.writes (Elt F) f L) = upd n g x) (w : Vec F S1x64x2048 .f32)
    (hw : w = g n (slab x ⟨n, hn⟩)) :
    v.read (Elt F) (v.writes (Elt F) f ((⟨Rect.unit (s := S8x64x2048) off S1x64x2048.size inb, w⟩ : View.Piece (Elt F) S8x64x2048 .f32) :: L))
      = upd (n + 1) g x := by
  funext y
  by_cases hy : (y 0).val = n
  · refine (View.read_writes_cons_unit_of_mem v f inb w L y (ix3 (0 : Fin 1) (y 1) (y 2)) h fun a => ?_).trans ?_
    · fin_cases a
      · exact hy
      · exact (Nat.zero_add _).symm
      · exact (Nat.zero_add _).symm
    · have e : y 0 = (⟨n, hn⟩ : Fin 8) := Fin.ext hy
      rw [hw]
      unfold upd
      rw [if_pos (show (y 0).val < n + 1 by omega), e]
  · rw [View.read_writes_cons_unit_of_not_mem v f inb w L y h 0 (by
      show (y 0).val < n ∨ n + 1 ≤ (y 0).val; omega), hL]
    unfold upd
    by_cases h2 : (y 0).val < n
    · rw [if_pos h2, if_pos (by omega)]
    · rw [if_neg h2, if_neg (by omega)]

/-- Chunk `j` of the transposed keys. -/
def ktOf (x : S1x8x64x2048.Idx → Elt F .bf16) (j : ℕ) : Vec F S1x1x64x2048 .bf16 :=
  fun y => x (ix4 (0 : Fin 1) (Fin.ofNat 8 j) (y 2) (y 3))

/-- Chunk `j` of the transposed values (their first 64 rows). -/
def vtOf (x : S1x8x80x2048.Idx → Elt F .bf16) (j : ℕ) : Vec F S1x1x64x2048 .bf16 :=
  fun y => x (ix4 (0 : Fin 1) (Fin.ofNat 8 j) (Fin.castLE (by decide : 64 ≤ 80) (y 2)) (y 3))

/-- Chunk `j` of the keys as rows. -/
def kkOf (x : S1x16384x64.Idx → Elt F .bf16) (j : ℕ) : Vec F S1x2048x64 .bf16 :=
  fun y => x (ix3 (0 : Fin 1) (Fin.ofNat 16384 (2048 * j + (y 1).val)) (y 2))

theorem readAt_kt (v : View sig κ sp S1x8x64x2048 .bf16) (f : v.ty.Contents (Elt F)) {off : Fin 4 → ℕ}
    (inb : ∀ a, off a + S1x1x64x2048.size a ≤ S1x8x64x2048.size a) (n : ℕ) (hn : n < 8) (h : off = ![0, n, 0, 0]) :
    v.readAt (Elt F) (Rect.unit (s := S1x8x64x2048) off S1x1x64x2048.size inb).toLoadRect f = ktOf (v.read (Elt F) f) n := by
  subst h
  funext y
  rw [View.readAt_apply]
  unfold ktOf
  congr 1
  funext a
  apply Fin.ext
  have h0 : (y 0).val < 1 := (y 0).isLt
  have h1 : (y 1).val < 1 := (y 1).isLt
  fin_cases a
  · show 0 + 1 * (y 0).val = 0; omega
  · show n + 1 * (y 1).val = n % 8; omega
  · show 0 + 1 * (y 2).val = (y 2).val; omega
  · show 0 + 1 * (y 3).val = (y 3).val; omega

theorem readAt_vt (v : View sig κ sp S1x8x80x2048 .bf16) (f : v.ty.Contents (Elt F)) {off : Fin 4 → ℕ}
    (inb : ∀ a, off a + S1x1x64x2048.size a ≤ S1x8x80x2048.size a) (n : ℕ) (hn : n < 8) (h : off = ![0, n, 0, 0]) :
    v.readAt (Elt F) (Rect.unit (s := S1x8x80x2048) off S1x1x64x2048.size inb).toLoadRect f = vtOf (v.read (Elt F) f) n := by
  subst h
  funext y
  rw [View.readAt_apply]
  unfold vtOf
  congr 1
  funext a
  apply Fin.ext
  have h0 : (y 0).val < 1 := (y 0).isLt
  have h1 : (y 1).val < 1 := (y 1).isLt
  fin_cases a
  · show 0 + 1 * (y 0).val = 0; omega
  · show n + 1 * (y 1).val = n % 8; omega
  · show 0 + 1 * (y 2).val = (y 2).val; omega
  · show 0 + 1 * (y 3).val = (y 3).val; omega

theorem readAt_kk (v : View sig κ sp S1x16384x64 .bf16) (f : v.ty.Contents (Elt F)) {off : Fin 3 → ℕ}
    (inb : ∀ a, off a + S1x2048x64.size a ≤ S1x16384x64.size a) (n : ℕ) (hn : n < 8) (h : off = ![0, 2048 * n, 0]) :
    v.readAt (Elt F) (Rect.unit (s := S1x16384x64) off S1x2048x64.size inb).toLoadRect f = kkOf (v.read (Elt F) f) n := by
  subst h
  funext y
  rw [View.readAt_apply]
  unfold kkOf
  congr 1
  funext a
  apply Fin.ext
  have h0 : (y 0).val < 1 := (y 0).isLt
  have h1 : (y 1).val < 2048 := (y 1).isLt
  fin_cases a
  · show 0 + 1 * (y 0).val = 0; omega
  · show 2048 * n + 1 * (y 1).val = (2048 * n + (y 1).val) % 16384; omega
  · show 0 + 1 * (y 2).val = (y 2).val; omega

/-- Slot `s` of a scratch of two slots. -/
def slotOf (x : S2x512x2048.Idx → Elt F .f32) (s : Fin 2) : Vec F S1x512x2048 .f32 := fun y => x (ix3 s (y 1) (y 2))

theorem readAt_slot (v : View sig κ sp S2x512x2048 .f32) (f : v.ty.Contents (Elt F)) {off : Fin 3 → ℕ}
    (inb : ∀ a, off a + S1x512x2048.size a ≤ S2x512x2048.size a) (s : Fin 2) (h : off = ![s.val, 0, 0]) :
    v.readAt (Elt F) (Rect.unit (s := S2x512x2048) off S1x512x2048.size inb).toLoadRect f = slotOf (v.read (Elt F) f) s := by
  subst h
  funext y
  rw [View.readAt_apply]
  unfold slotOf
  congr 1
  funext a
  apply Fin.ext
  have h0 : (y 0).val < 1 := (y 0).isLt
  fin_cases a
  · show s.val + 1 * (y 0).val = s.val; omega
  · show 0 + 1 * (y 1).val = (y 1).val; omega
  · show 0 + 1 * (y 2).val = (y 2).val; omega

/-- The slot just stored holds the payload. -/
theorem slot_same (v : View sig κ sp S2x512x2048 .f32) (f : v.ty.Contents (Elt F)) {off : Fin 3 → ℕ}
    (inb : ∀ a, off a + S1x512x2048.size a ≤ S2x512x2048.size a) (s : Fin 2) (h : off = ![s.val, 0, 0])
    (w : Vec F S1x512x2048 .f32) (L : List (View.Piece (Elt F) S2x512x2048 .f32)) :
    slotOf (v.read (Elt F) (v.writes (Elt F) f ((⟨Rect.unit (s := S2x512x2048) off S1x512x2048.size inb, w⟩ : View.Piece (Elt F) S2x512x2048 .f32) :: L))) s = w := by
  funext y
  have h0 : (y 0).val < 1 := (y 0).isLt
  refine (View.read_writes_cons_unit_of_mem v f inb w L (ix3 s (y 1) (y 2)) y h fun a => ?_)
  fin_cases a
  · show s.val = s.val + (y 0).val; omega
  · exact (Nat.zero_add _).symm
  · exact (Nat.zero_add _).symm

/-- The other slot holds what it held. -/
theorem slot_other (v : View sig κ sp S2x512x2048 .f32) (f : v.ty.Contents (Elt F)) {off : Fin 3 → ℕ}
    (inb : ∀ a, off a + S1x512x2048.size a ≤ S2x512x2048.size a) (s s' : Fin 2) (hs : s ≠ s') (h : off = ![s.val, 0, 0])
    (w : Vec F S1x512x2048 .f32) (L : List (View.Piece (Elt F) S2x512x2048 .f32)) :
    slotOf (v.read (Elt F) (v.writes (Elt F) f ((⟨Rect.unit (s := S2x512x2048) off S1x512x2048.size inb, w⟩ : View.Piece (Elt F) S2x512x2048 .f32) :: L))) s'
      = slotOf (v.read (Elt F) (v.writes (Elt F) f L)) s' := by
  funext y
  have hv : s.val ≠ s'.val := fun h => hs (Fin.ext h)
  exact View.read_writes_cons_unit_of_not_mem v f inb w L (ix3 s' (y 1) (y 2)) h 0 (by
    show s'.val < s.val ∨ s.val + 1 ≤ s'.val; omega)

end Views

end Cert.AttnBwdIdeal.Hand
-- ==== Proof.AttnTrip.lean ====
/-
  One trip of the kernel's loop over pairs of key chunks: it computes the scores of the odd chunk, works off the even
  one, computes the scores of the next even chunk and works off the odd one. The invariant says what the accumulators
  and the scratch hold before a trip, in the words of `AttnStep`.
-/
module

public import proofs.«01_k».proof.Proof.AttnStep
public import proofs.«01_k».proof.Proof.Gen.AttnBwdIdeal.Loops
public import proofs.«01_k».proof.Proof.Gen.AttnBwdIdeal.Frame
public import proofs.«01_k».proof.Proof.Gen.AttnBwdIdeal.Points
public import Idealize.ShloMosaic.Lib.Pipeline.FrameValue

@[expose] public section

set_option maxRecDepth 8192
set_option maxHeartbeats 4000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄" => MT nD τ sig Unit (Elt F) ℕ (Pipeline.UD sig nD τ) ℕ

variable (c : Dev nD) (i : grid0.Coords)
  (arg2 : Memref sig .tc .vmem S128x256 .bf16) (harg2 : arg2.IsWhole) (arg3 : Memref sig .tc .vmem S128x256 .bf16) (harg3 : arg3.IsWhole)
  (arg4 : Memref sig .tc .vmem S128x256 .f32) (harg4 : arg4.IsWhole) (arg5 : Memref sig .tc .vmem S128x256 .f32) (harg5 : arg5.IsWhole)
  (arg6 : Memref sig .tc .vmem S1x8x64x2048 .bf16) (harg6 : arg6.IsWhole) (arg7 : Memref sig .tc .vmem S1x16384x64 .bf16) (harg7 : arg7.IsWhole)
  (arg8 : Memref sig .tc .vmem S1x8x80x2048 .bf16) (harg8 : arg8.IsWhole) (arg9 : Memref sig .tc .vmem S128x256 .f32) (harg9 : arg9.IsWhole)
  (arg10 : Memref sig .tc .hbm S2x8x64x2048 .f32) (harg10 : arg10.IsWhole) (arg11 : Memref sig .tc .hbm S2x8x64x2048 .f32) (harg11 : arg11.IsWhole)
  (arg12 : Memref sig .tc .vmem S8x64x2048 .f32) (harg12 : arg12.IsWhole) (arg13 : Memref sig .tc .vmem S8x64x2048 .f32) (harg13 : arg13.IsWhole)
  (arg14 : Memref sig .tc .vmem S2x512x2048 .f32) (harg14 : arg14.IsWhole) (arg15 : Memref sig .tc .vmem S2x512x2048 .f32) (harg15 : arg15.IsWhole)
  (r0 r1 : DmaSems sig S_)
  (v11 v20 : FVec F S512x64 .bf16) (v21 v22 : FVec F S64x512 .bf16) (v24 v26 v28 v30 : FVec F S128x1 .f32) (v32 v34 v36 v38 : Vec F S128x1 .f32)
  (X6 : BufTy.Contents (Elt F) arg6.view.ty) (X7 : BufTy.Contents (Elt F) arg7.view.ty) (X8 : BufTy.Contents (Elt F) arg8.view.ty)

/-- The data of a grid point from the values read before the loop and from the three key and value windows. -/
def ptOf : Pt F :=
  ⟨v11, v20, v21, v22, k0_pay33 v24 v26 v28 v30, k0_pay34 v32 v34 v36 v38, ktOf (arg6.view.read (Elt F) X6),
    vtOf (arg8.view.read (Elt F) X8), kkOf (arg7.view.read (Elt F) X7)⟩

/-- A buffer's contents, read through its view, are `x`. -/
structure Reads {s : Shape} (v : View sig .tc .vmem s .f32) (f : v.ty.Contents (Elt F)) (x : s.Idx → Elt F .f32) : Prop where
  eq : v.read (Elt F) f = x

/-- The first slot of a two-slot scratch holds `x`. -/
structure Holds (v : View sig .tc .vmem S2x512x2048 .f32) (f : v.ty.Contents (Elt F)) (x : Vec F S1x512x2048 .f32) : Prop where
  eq : slotOf (v.read (Elt F) f) 0 = x

/-- The running sum is `x`. -/
structure Sums (acc x : FVec F S512x64 .f32) : Prop where
  eq : acc = x

/-- What the buffers of the loop hold when the first `n` chunks are done and the scores of chunk `n` are ready. -/
def inv (P : Pt F) (e12 e13 : S8x64x2048.Idx → Elt F .f32) (k : ℕ) (acc : FVec F S512x64 .f32) : sProp 𝕄 :=
  iprop((arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8)
    ∗ (∃ f, (arg12.view.loc (c : Thread nD τ) ↦[arg12.view.set]{fullShare} f) ∗ ⌜Reads arg12.view f (upd (2 * k) P.dk e12)⌝)
    ∗ (∃ f, (arg13.view.loc (c : Thread nD τ) ↦[arg13.view.set]{fullShare} f) ∗ ⌜Reads arg13.view f (upd (2 * k) P.dv e13)⌝)
    ∗ (∃ f, (arg14.view.loc (c : Thread nD τ) ↦[arg14.view.set]{fullShare} f) ∗ ⌜Holds arg14.view f (P.sc (2 * k))⌝)
    ∗ (∃ f, (arg15.view.loc (c : Thread nD τ) ↦[arg15.view.set]{fullShare} f) ∗ ⌜Holds arg15.view f (P.dp (2 * k))⌝)
    ∗ ⌜Sums acc (P.dq (2 * k))⌝)

/-! The kernel prints the same computation once per place it stands at; each copy is the one of `AttnStep`. -/

theorem dk_odd (P : Pt F) (j : ℕ) {a b : Vec F S1x512x2048 .f32} {o x : Vec F S1x64x2048 .f32} (ha : a = P.sc j) (hb : b = P.dp j)
    (ho : o = x) : k0_pay22 P.qt P.L P.D a b o = P.dk j x := by
  subst ha hb ho; rfl

theorem dk_even (P : Pt F) (j : ℕ) {a b : Vec F S1x512x2048 .f32} {o x : Vec F S1x64x2048 .f32} (ha : a = P.sc j) (hb : b = P.dp j)
    (ho : o = x) : k0_pay14 P.qt (k0_pay10 P.L P.D a b) o = P.dk j x := by
  subst ha hb ho; rfl

theorem dv_odd (P : Pt F) (j : ℕ) {a : Vec F S1x512x2048 .f32} {o x : Vec F S1x64x2048 .f32} (ha : a = P.sc j)
    (ho : o = x) : k0_pay21 P.dt P.L a o = P.dv j x := by
  subst ha ho; rfl

theorem dv_even (P : Pt F) (j : ℕ) {a : Vec F S1x512x2048 .f32} {o x : Vec F S1x64x2048 .f32} (ha : a = P.sc j)
    (ho : o = x) : k0_pay13 (k0_pay11 o) (k0_pay12 P.dt P.L a) = P.dv j x := by
  subst ha ho; rfl

theorem dq_two (P : Pt F) (j : ℕ) {acc : FVec F S512x64 .f32} {a b a' b' : Vec F S1x512x2048 .f32} {u u' : Vec F S1x2048x64 .bf16}
    (h : acc = P.dq j) (ha : a = P.sc j) (hb : b = P.dp j) (ha' : a' = P.sc (j + 1)) (hb' : b' = P.dp (j + 1)) (hu : u = P.kk j)
    (hu' : u' = P.kk (j + 1)) :
    k0_pay38 (k0_pay15 acc (k0_pay10 P.L P.D a b) u) (k0_pay20 P.L P.D a' b') u' = P.dq (j + 1 + 1) := by
  subst h ha hb ha' hb' hu hu'; rfl

theorem trip (P : Pt F) (hP : P = ptOf arg6 arg7 arg8 v11 v20 v21 v22 v24 v26 v28 v30 v32 v34 v36 v38 X6 X7 X8)
    (e12 e13 : S8x64x2048.Idx → Elt F .f32) (k : Fin k0_t1_loop.trips) (acc : FVec F S512x64 .f32) :
    inv c arg6 arg7 arg8 arg12 arg13 arg14 arg15 X6 X7 X8 P e12 e13 k.val acc
  ⊢ wp frame (wpE (defs₀ (F := F)) Variants.none (c : Thread nD τ) none) Set.univ
     (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 r0 r1 v11 v20 v21 v22 v24 v26 v28 v30 v32 v34 v36 v38 k acc)
     (inv c arg6 arg7 arg8 arg12 arg13 arg14 arg15 X6 X7 X8 P e12 e13 (k.val + 1)) := by
  have hk : k.val < 3 := Nat.lt_of_lt_of_le k.isLt k0_t1_abs.2.1
  have h1 := k0_off1_eq k 0
  have h1' := k0_off1_eq k 1
  have h2 := k0_off2_eq k 0
  have h2' := k0_off2_eq k 1
  have h3 := k0_off3_eq k
  have h4 := k0_off4_eq k
  have h5 := k0_off5_eq k
  have h6 := k0_off6_eq k
  unfold inv k0_t1_body
  iintro ⟨H6, H7, H8, ⟨%f12, H12, %e12'⟩, ⟨%f13, H13, %e13'⟩, ⟨%f14, H14, %e14'⟩, ⟨%f15, H15, %e15'⟩, %eacc⟩
  sl_exec
  subst hP
  replace eacc := eacc.eq
  replace e15' := e15'.eq
  replace e14' := e14'.eq
  replace e13' := e13'.eq
  replace e12' := e12'.eq
  have a0 := (readAt_slot arg14.view f14 inb_S2x512x2048_S1x512x2048_0_0_0 0 rfl).trans e14'
  have b0 := (readAt_slot arg15.view f15 inb_S2x512x2048_S1x512x2048_0_0_0 0 rfl).trans e15'
  have a1 := ((readAt_slot arg14.view (arg14.view.writes (Elt F) arg14.view.junk (trip.sl.H14_2 arg6 v11 X6 k)) inb_S2x512x2048_S1x512x2048_1_0_0 1 rfl).trans (slot_other _ _ _ 0 1 (by decide) rfl _ _)).trans ((slot_same _ _ _ 1 rfl _ _).trans
            (congrArg (k0_pay7 v11) (readAt_kt _ _ _ (2 * k.val + 1) (by omega) h1)))
  have b1 := ((readAt_slot arg15.view (arg15.view.writes (Elt F) arg15.view.junk (trip.sl.H15_2 arg8 v20 X8 k)) inb_S2x512x2048_S1x512x2048_1_0_0 1 rfl).trans (slot_other _ _ _ 0 1 (by decide) rfl _ _)).trans ((slot_same _ _ _ 1 rfl _ _).trans
            (congrArg (k0_pay8 v20) (readAt_vt _ _ _ (2 * k.val + 1) (by omega) h2)))
  sl_step
  isplitl [H6]; · iexact H6
  isplitl [H7]; · iexact H7
  isplitl [H8]; · iexact H8
  isplitl [H12]
  · iexists _
    isplitl [H12]
    · iexact H12
    · ipureintro
      refine ⟨read_upd _ _ _ (2 * k.val + 1) (by omega) h5 _ _ _ (read_upd _ _ _ (2 * k.val) (by omega) h3 [] _ _ e12' _ ?_) _ ?_⟩
      · exact dk_even (ptOf arg6 arg7 arg8 v11 v20 v21 v22 v24 v26 v28 v30 v32 v34 v36 v38 X6 X7 X8) _ a0 b0 (readAt_upd _ _ _ (2 * k.val) _ (by omega) le_rfl h3 _ _ e12')
      · exact dk_odd (ptOf arg6 arg7 arg8 v11 v20 v21 v22 v24 v26 v28 v30 v32 v34 v36 v38 X6 X7 X8) _ a1 b1 (readAt_upd _ _ _ (2 * k.val) _ (by omega) (by omega) h5 _ _ e12')
  isplitl [H13]
  · iexists _
    isplitl [H13]
    · iexact H13
    · ipureintro
      refine ⟨read_upd _ _ _ (2 * k.val + 1) (by omega) h5 _ _ _ (read_upd _ _ _ (2 * k.val) (by omega) h3 [] _ _ e13' _ ?_) _ ?_⟩
      · exact dv_even (ptOf arg6 arg7 arg8 v11 v20 v21 v22 v24 v26 v28 v30 v32 v34 v36 v38 X6 X7 X8) _ a0 (readAt_upd _ _ _ (2 * k.val) _ (by omega) le_rfl h3 _ _ e13')
      · exact dv_odd (ptOf arg6 arg7 arg8 v11 v20 v21 v22 v24 v26 v28 v30 v32 v34 v36 v38 X6 X7 X8) _ a1 (readAt_upd _ _ _ (2 * k.val) _ (by omega) (by omega) h5 _ _ e13')
  isplitl [H14]
  · iexists _
    isplitl [H14]
    · iexact H14
    · ipureintro
      exact ⟨(slot_same _ _ _ 0 rfl _ _).trans (congrArg (k0_pay7 v11) (readAt_kt _ _ _ (2 * k.val + 1 + 1) (by omega) h1'))⟩
  isplitl [H15]
  · iexists _
    isplitl [H15]
    · iexact H15
    · ipureintro
      exact ⟨(slot_same _ _ _ 0 rfl _ _).trans (congrArg (k0_pay8 v20) (readAt_vt _ _ _ (2 * k.val + 1 + 1) (by omega) h2'))⟩
  ipureintro
  exact ⟨dq_two (ptOf arg6 arg7 arg8 v11 v20 v21 v22 v24 v26 v28 v30 v32 v34 v36 v38 X6 X7 X8) _ eacc a0 b0 a1 b1
    (readAt_kk _ _ _ (2 * k.val) (by omega) (h4.trans (by congr 2; omega))) (readAt_kk _ _ _ (2 * k.val + 1) (by omega) (h6.trans (by congr 2; omega)))⟩

end Cert.AttnBwdIdeal.Hand
-- ==== Proof.AttnPut.lean ====
/-
  What a grid point leaves in its three results: the row block of the queries' gradient, stored as four column pieces,
  and, at the last point of a key block's row, that block's plane of the keys' and of the values' gradient.
-/
module

public import proofs.«01_k».proof.Proof.AttnStep
public import Idealize.ShloMosaic.Lib.VecWindow
public import Idealize.ShloMosaic.Lib.Pointwise.Index
public import Idealize.ShloMosaic.Lib.ValueLayout
public import Idealize.ShloMosaic.Lib.Exec
public import Idealize.ShloMosaic.Lib.Tactic

@[expose] public section

noncomputable section

namespace Cert.AttnBwdIdeal.Hand

open Idealize.ShloMosaic Idealize.ShloMosaic.TcCoe
open Cert.AttnBwdIdeal.Gen

variable {F : FTy → Type} [FloatOps F]

/-- The row block of the queries' gradient: the four heads' rows side by side. -/
def Pt.out (P : Pt F) : S128x256.Idx → Elt F .f32 := fun y =>
  k0_pay2 (P.dq 7) (P.ds 7) (P.kk 7) (ix2 (⟨128 * ((y 1).val / 64) + (y 0).val, by
    have h0 : (y 0).val < 128 := (y 0).isLt
    have h1 : (y 1).val < 256 := (y 1).isLt
    omega⟩ : Fin 512) (⟨(y 1).val % 64, Nat.mod_lt _ (by decide)⟩ : Fin 64))

/-- The plane `a` of `z` replaced by `x`. -/
def put (a : Fin 2) (x : S8x64x2048.Idx → Elt F .f32) (z : S2x8x64x2048.Idx → Elt F .f32) : S2x8x64x2048.Idx → Elt F .f32 :=
  fun y => if (y 0).val = a.val then x (ix3 (y 1) (y 2) (y 3)) else z y

section Views

variable {κ : Kind} {sp : Space}

/-- A copy into plane `a`, read through the whole view. -/
theorem read_put (m : Memref sig κ sp S2x8x64x2048 .f32) (g : m.view.ty.Contents (Elt F)) {off : Fin 4 → ℕ}
    (inb : ∀ a, off a + S1x8x64x2048.size a ≤ S2x8x64x2048.size a)
    (hr : ∀ a, (Rect.unit (s := S2x8x64x2048) off S1x8x64x2048.size inb).stride a = 1)
    (sq : (Rect.unit (s := S2x8x64x2048) off S1x8x64x2048.size inb).shape.Squeezes S8x64x2048) (a : Fin 2) (h : off = ![a.val, 0, 0, 0])
    (w : S8x64x2048.Idx → Elt F .f32) :
    m.view.read (Elt F) (View.write (Elt F) ((m.slice (Rect.unit (s := S2x8x64x2048) off S1x8x64x2048.size inb) hr).squeeze S8x64x2048 sq).view
      g w Finset.univ) = put a w (m.view.read (Elt F) g) := by
  subst h
  have key : ∀ x : S8x64x2048.Idx, ((m.slice (Rect.unit (s := S2x8x64x2048) ![a.val, 0, 0, 0] S1x8x64x2048.size inb) hr).squeeze S8x64x2048 sq).view.emb x
      = m.view.emb (ix4 a (x 0) (x 1) (x 2)) := by
    intro x
    show m.view.emb ((Rect.unit (s := S2x8x64x2048) ![a.val, 0, 0, 0] S1x8x64x2048.size inb).emb (Shape.reshapeEquiv sq.numel_eq x)) = _
    congr 1
    have e : Shape.reshapeEquiv sq.numel_eq x = ix4 (0 : Fin 1) (x 0) (x 1) (x 2) := by
      have ex : x = ix3 (x 0) (x 1) (x 2) := by funext a; fin_cases a <;> rfl
      rw [ex]
      exact ValueIdx.reshapeEquiv_ix3_1abc _ _ _ _
    rw [e]
    funext b
    apply Fin.ext
    fin_cases b
    · show a.val + 1 * 0 = a.val; omega
    · show 0 + 1 * (x 0).val = (x 0).val; omega
    · show 0 + 1 * (x 1).val = (x 1).val; omega
    · show 0 + 1 * (x 2).val = (x 2).val; omega
  funext y
  unfold put
  by_cases hy : (y 0).val = a.val
  · rw [if_pos hy, View.read_apply]
    have ey : m.view.emb y = ((m.slice (Rect.unit (s := S2x8x64x2048) ![a.val, 0, 0, 0] S1x8x64x2048.size inb) hr).squeeze S8x64x2048 sq).view.emb
        (ix3 (y 1) (y 2) (y 3)) := by
      rw [key]
      congr 1
      funext b
      fin_cases b
      · exact Fin.ext hy
      · rfl
      · rfl
      · rfl
    rw [ey]
    rw [View.write_emb_of_mem _ _ (Finset.mem_univ _), cast_cast, cast_eq]
  · rw [if_neg hy, View.read_apply, View.read_apply, View.write_of_not_mem]
    intro hm
    obtain ⟨x, -, hx⟩ := Finset.mem_map.mp hm
    have := m.view.emb.injective ((key x).symm.trans hx)
    exact hy (congrArg Fin.val (congrFun this 0)).symm

/-- Rows `128 * g` on of a stack of four row blocks. -/
theorem piece (z : FVec F S512x64 .f32) (g : ℕ) (hg : g < 4) {off : Fin 2 → ℕ} (hs : S512x64.Slices off S128x64) (y : S128x64.Idx)
    (h : off = ![128 * g, 0]) : extractStridedSlice S128x64 off z hs y
      = z (ix2 (⟨128 * g + (y 0).val, by have h0 : (y 0).val < 128 := (y 0).isLt; omega⟩ : Fin 512) (y 1)) := by
  subst h
  show z _ = z _
  congr 1
  funext a; apply Fin.ext
  fin_cases a
  · rfl
  · exact Nat.zero_add _

theorem out_at (P : Pt F) (y : S128x256.Idx) (g : ℕ) (hg : g < 4) (h : (y 1).val / 64 = g) :
    P.out y = k0_pay2 (P.dq 7) (P.ds 7) (P.kk 7) (ix2 (⟨128 * g + (y 0).val, by have h0 : (y 0).val < 128 := (y 0).isLt; omega⟩ : Fin 512)
      (⟨(y 1).val % 64, Nat.mod_lt _ (by decide)⟩ : Fin 64)) := by
  subst h; rfl

/-- The four pieces of the row block, read back. -/
theorem read_out (v : View sig κ sp S128x256 .f32) (f : v.ty.Contents (Elt F)) (P : Pt F) (x : FVec F S512x64 .f32)
    (z : FVec F S512x2048 .bf16) (k : Vec F S1x2048x64 .bf16) (hx : x = P.dq 7) (hz : z = P.ds 7) (hk : k = P.kk 7) :
    v.read (Elt F) (v.writes (Elt F) f
      [⟨Rect.unit (s := S128x256) ![0, 192] S128x64.size inb_S128x256_S128x64_0_192, k0_pay6 x z k⟩,
        ⟨Rect.unit (s := S128x256) ![0, 128] S128x64.size inb_S128x256_S128x64_0_128, k0_pay5 x z k⟩,
        ⟨Rect.unit (s := S128x256) ![0, 64] S128x64.size inb_S128x256_S128x64_0_64, k0_pay4 x z k⟩,
        ⟨Rect.unit (s := S128x256) ![0, 0] S128x64.size inb_S128x256_S128x64_0_0, k0_pay3 x z k⟩]) = P.out := by
  subst hx hz hk
  funext y
  have h0 : (y 0).val < 128 := (y 0).isLt
  have h1 : (y 1).val < 256 := (y 1).isLt
  have m : ∀ g : ℕ, (y 1).val / 64 = g → ∀ (o : Fin 2 → ℕ), o = ![0, 64 * g] → ∀ a : Fin 2, (y a).val = o a + ((ix2 (y 0) (⟨(y 1).val % 64, Nat.mod_lt _ (by decide)⟩ : Fin 64) : S128x64.Idx) a).val := by
    intro g hg o ho a
    subst ho
    fin_cases a
    · exact (Nat.zero_add _).symm
    · show (y 1).val = 64 * g + (y 1).val % 64; omega
  rcases (by omega : (y 1).val / 64 = 3 ∨ (y 1).val / 64 = 2 ∨ (y 1).val / 64 = 1 ∨ (y 1).val / 64 = 0) with h | h | h | h
  · refine (View.read_writes_cons_unit_of_mem v f _ _ _ y (ix2 (y 0) (⟨(y 1).val % 64, Nat.mod_lt _ (by decide)⟩ : Fin 64)) rfl (m 3 h _ rfl)).trans ?_
    exact (piece (k0_pay2 (P.dq 7) (P.ds 7) (P.kk 7)) 3 (by decide) slices_S512x64_o384_0_S128x64 _ rfl).trans (out_at P y 3 (by decide) h).symm
  · rw [View.read_writes_cons_unit_of_not_mem v f _ _ _ y rfl 1 (by show (y 1).val < 192 ∨ 192 + 64 ≤ (y 1).val; omega)]
    refine (View.read_writes_cons_unit_of_mem v f _ _ _ y (ix2 (y 0) (⟨(y 1).val % 64, Nat.mod_lt _ (by decide)⟩ : Fin 64)) rfl (m 2 h _ rfl)).trans ?_
    exact (piece (k0_pay2 (P.dq 7) (P.ds 7) (P.kk 7)) 2 (by decide) slices_S512x64_o256_0_S128x64 _ rfl).trans (out_at P y 2 (by decide) h).symm
  · rw [View.read_writes_cons_unit_of_not_mem v f _ _ _ y rfl 1 (by show (y 1).val < 192 ∨ 192 + 64 ≤ (y 1).val; omega),
      View.read_writes_cons_unit_of_not_mem v f _ _ _ y rfl 1 (by show (y 1).val < 128 ∨ 128 + 64 ≤ (y 1).val; omega)]
    refine (View.read_writes_cons_unit_of_mem v f _ _ _ y (ix2 (y 0) (⟨(y 1).val % 64, Nat.mod_lt _ (by decide)⟩ : Fin 64)) rfl (m 1 h _ rfl)).trans ?_
    exact (piece (k0_pay2 (P.dq 7) (P.ds 7) (P.kk 7)) 1 (by decide) slices_S512x64_o128_0_S128x64 _ rfl).trans (out_at P y 1 (by decide) h).symm
  · rw [View.read_writes_cons_unit_of_not_mem v f _ _ _ y rfl 1 (by show (y 1).val < 192 ∨ 192 + 64 ≤ (y 1).val; omega),
      View.read_writes_cons_unit_of_not_mem v f _ _ _ y rfl 1 (by show (y 1).val < 128 ∨ 128 + 64 ≤ (y 1).val; omega),
      View.read_writes_cons_unit_of_not_mem v f _ _ _ y rfl 1 (by show (y 1).val < 64 ∨ 64 + 64 ≤ (y 1).val; omega)]
    refine (View.read_writes_cons_unit_of_mem v f _ _ _ y (ix2 (y 0) (⟨(y 1).val % 64, Nat.mod_lt _ (by decide)⟩ : Fin 64)) rfl (m 0 h _ rfl)).trans ?_
    exact (piece (k0_pay2 (P.dq 7) (P.ds 7) (P.kk 7)) 0 (by decide) slices_S512x64_o0_0_S128x64 _ rfl).trans (out_at P y 0 (by decide) h).symm

/-- A store over the whole accumulator, read back. -/
theorem read_whole (v : View sig κ sp S8x64x2048 .f32) (f : v.ty.Contents (Elt F)) (w : S8x64x2048.Idx → Elt F .f32) :
    v.read (Elt F) (v.writes (Elt F) f [⟨Rect.unit (s := S8x64x2048) ![0, 0, 0] S8x64x2048.size inb_S8x64x2048_S8x64x2048_0_0_0, w⟩]) = w := by
  funext y
  refine View.read_writes_cons_unit_of_mem v f _ _ _ y y rfl fun a => ?_
  fin_cases a <;> exact (Nat.zero_add _).symm

end Views

end Cert.AttnBwdIdeal.Hand
-- ==== Proof.AttnBody.lean ====
module

public import proofs.«01_k».proof.Proof.AttnTrip
public import proofs.«01_k».proof.Proof.AttnPut
public import proofs.«01_k».proof.Proof.Gen.AttnBwdIdeal.Loops
public import proofs.«01_k».proof.Proof.Gen.AttnBwdIdeal.Frame
public import proofs.«01_k».proof.Proof.Gen.AttnBwdIdeal.Points
public import Idealize.ShloMosaic.Lib.Pipeline.FrameValue

@[expose] public section

set_option maxRecDepth 8192
set_option maxHeartbeats 4000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄" => MT nD τ sig Unit (Elt F) ℕ (Pipeline.UD sig nD τ) ℕ

variable (c : Dev nD) (i : grid0.Coords)
  (arg2 : Memref sig .tc .vmem S128x256 .bf16) (harg2 : arg2.IsWhole) (arg3 : Memref sig .tc .vmem S128x256 .bf16) (harg3 : arg3.IsWhole)
  (arg4 : Memref sig .tc .vmem S128x256 .f32) (harg4 : arg4.IsWhole) (arg5 : Memref sig .tc .vmem S128x256 .f32) (harg5 : arg5.IsWhole)
  (arg6 : Memref sig .tc .vmem S1x8x64x2048 .bf16) (harg6 : arg6.IsWhole) (arg7 : Memref sig .tc .vmem S1x16384x64 .bf16) (harg7 : arg7.IsWhole)
  (arg8 : Memref sig .tc .vmem S1x8x80x2048 .bf16) (harg8 : arg8.IsWhole) (arg9 : Memref sig .tc .vmem S128x256 .f32) (harg9 : arg9.IsWhole)
  (arg10 : Memref sig .tc .hbm S2x8x64x2048 .f32) (harg10 : arg10.IsWhole) (arg11 : Memref sig .tc .hbm S2x8x64x2048 .f32) (harg11 : arg11.IsWhole)
  (arg12 : Memref sig .tc .vmem S8x64x2048 .f32) (harg12 : arg12.IsWhole) (arg13 : Memref sig .tc .vmem S8x64x2048 .f32) (harg13 : arg13.IsWhole)
  (arg14 : Memref sig .tc .vmem S2x512x2048 .f32) (harg14 : arg14.IsWhole) (arg15 : Memref sig .tc .vmem S2x512x2048 .f32) (harg15 : arg15.IsWhole)
  (X2 : BufTy.Contents (Elt F) arg2.view.ty) (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)

/-- The data of a grid point from the contents of its seven windows. -/
def ptAt : Pt F :=
  ptOf arg6 arg7 arg8
    (k0_pay25 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay26 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay27 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay28 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay29 (arg4.view.readAt (Elt F) (Rect.unit (s := S128x256) ![0, 0] S128x1.size inb_S128x256_S128x1_0_0).toLoadRect X4))
    (k0_pay30 (arg4.view.readAt (Elt F) (Rect.unit (s := S128x256) ![0, 64] S128x1.size inb_S128x256_S128x1_0_64).toLoadRect X4))
    (k0_pay31 (arg4.view.readAt (Elt F) (Rect.unit (s := S128x256) ![0, 128] S128x1.size inb_S128x256_S128x1_0_128).toLoadRect X4))
    (k0_pay32 (arg4.view.readAt (Elt F) (Rect.unit (s := S128x256) ![0, 192] S128x1.size inb_S128x256_S128x1_0_192).toLoadRect X4))
    (arg5.view.readAt (Elt F) (Rect.unit (s := S128x256) ![0, 0] S128x1.size inb_S128x256_S128x1_0_0).toLoadRect X5)
    (arg5.view.readAt (Elt F) (Rect.unit (s := S128x256) ![0, 64] S128x1.size inb_S128x256_S128x1_0_64).toLoadRect X5)
    (arg5.view.readAt (Elt F) (Rect.unit (s := S128x256) ![0, 128] S128x1.size inb_S128x256_S128x1_0_128).toLoadRect X5)
    (arg5.view.readAt (Elt F) (Rect.unit (s := S128x256) ![0, 192] S128x1.size inb_S128x256_S128x1_0_192).toLoadRect X5) X6 X7 X8

/-- The condition under which the accumulators are cleared: the first point of a key block's row of points. -/
abbrev first (i : grid0.Coords) : Prop := Scalar.cmpi .ne (Scalar.extui (Scalar.cmpi .eq (BitVec.ofNat 32 (i 1).val) 0#32) : BitVec 32) 0#32 = 1#1

/-- The keys' accumulator when the loop is entered. -/
def clear12 (f : BufTy.Contents (Elt F) arg12.view.ty) : BufTy.Contents (Elt F) arg12.view.ty :=
  if hc : first i then arg12.view.writes (Elt F) f [⟨Rect.unit ![0, 0, 0] S8x64x2048.size inb_S8x64x2048_S8x64x2048_0_0_0, k0_pay23⟩] else f

/-- The values' accumulator when the loop is entered. -/
def clear13 (f : BufTy.Contents (Elt F) arg13.view.ty) : BufTy.Contents (Elt F) arg13.view.ty :=
  if hc : first i then arg13.view.writes (Elt F) f [⟨Rect.unit ![0, 0, 0] S8x64x2048.size inb_S8x64x2048_S8x64x2048_0_0_0, k0_pay24⟩] else f

/-- What stands in the accumulator when the loop is entered. -/
theorem read_clear12 (f : BufTy.Contents (Elt F) arg12.view.ty) :
    arg12.view.read (Elt F) (clear12 i arg12 f) = if first i then k0_pay23 (F := F) else arg12.view.read (Elt F) f := by
  unfold clear12
  by_cases h : first i
  · rw [dif_pos h, if_pos h]; exact read_whole _ _ _
  · rw [dif_neg h, if_neg h]

theorem read_clear13 (f : BufTy.Contents (Elt F) arg13.view.ty) :
    arg13.view.read (Elt F) (clear13 i arg13 f) = if first i then k0_pay24 (F := F) else arg13.view.read (Elt F) f := by
  unfold clear13
  by_cases h : first i
  · rw [dif_pos h, if_pos h]; exact read_whole _ _ _
  · rw [dif_neg h, if_neg h]

/-! The copies of the computation that stand after the loop. -/

theorem ds_six (P : Pt F) (j : ℕ) {a b : Vec F S1x512x2048 .f32} (ha : a = P.sc j) (hb : b = P.dp j) : k0_pay42 P.L P.D a b = P.ds j := by
  subst ha hb; rfl

theorem ds_last (P : Pt F) (j : ℕ) {a b : Vec F S1x512x2048 .f32} (ha : a = P.sc j) (hb : b = P.dp j) : k0_pay47 P.L P.D a b = P.ds j := by
  subst ha hb; rfl

theorem dk_six (P : Pt F) (j : ℕ) {a b : Vec F S1x512x2048 .f32} {o x : Vec F S1x64x2048 .f32} (ha : a = P.sc j) (hb : b = P.dp j)
    (ho : o = x) : k0_pay44 P.qt (k0_pay42 P.L P.D a b) o = P.dk j x := by
  subst ha hb ho; rfl

theorem dk_last (P : Pt F) (j : ℕ) {s : FVec F S512x2048 .bf16} {o x : Vec F S1x64x2048 .f32} (hs : s = P.ds j) (ho : o = x) :
    k0_pay1 P.qt s o = P.dk j x := by
  subst hs ho; rfl

theorem dv_six (P : Pt F) (j : ℕ) {a : Vec F S1x512x2048 .f32} {o x : Vec F S1x64x2048 .f32} (ha : a = P.sc j) (ho : o = x) :
    k0_pay43 P.dt P.L a o = P.dv j x := by
  subst ha ho; rfl

theorem dv_last (P : Pt F) (j : ℕ) {a : Vec F S1x512x2048 .f32} {o x : Vec F S1x64x2048 .f32} (ha : a = P.sc j) (ho : o = x) :
    k0_pay48 P.dt P.L a o = P.dv j x := by
  subst ha ho; rfl

theorem dq_six (P : Pt F) (j : ℕ) {acc : FVec F S512x64 .f32} {a b : Vec F S1x512x2048 .f32} {u : Vec F S1x2048x64 .bf16}
    (h : acc = P.dq j) (ha : a = P.sc j) (hb : b = P.dp j) (hu : u = P.kk j) :
    k0_pay45 acc (k0_pay42 P.L P.D a b) u = P.dq (j + 1) := by
  subst h ha hb hu; rfl

/-- One grid point runs, and leaves what `AttnStep` and `AttnPut` say. -/
theorem body
  (f9 : BufTy.Contents (Elt F) arg9.view.ty) (g10 : BufTy.Contents (Elt F) arg10.view.ty) (g11 : BufTy.Contents (Elt F) arg11.view.ty)
  (f12 : BufTy.Contents (Elt F) arg12.view.ty) (f13 : BufTy.Contents (Elt F) arg13.view.ty) (f14 : BufTy.Contents (Elt F) arg14.view.ty) (f15 : BufTy.Contents (Elt F) arg15.view.ty)
  (W : Waits sig Unit) (Q : PUnit → sProp 𝕄) :
  (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11)
    ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
    ∗ semVal ((c : Thread nD τ), SemLoc.dma 16) 0 ∗ semVal ((c : Thread nD τ), SemLoc.dma 17) 0 ∗ owes (c : Thread nD τ) 0 W
    ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f, (arg9.view.loc (c : Thread nD τ) ↦[arg9.view.set]{fullShare} f) ∗ ⌜arg9.view.read (Elt F) f = (ptAt arg2 arg3 arg4 arg5 arg6 arg7 arg8 X2 X3 X4 X5 X6 X7 X8).out⌝)
      ∗ (∃ g, (arg10.view.loc (c : Thread nD τ) ↦[arg10.view.set]{fullShare} g) ∗ ⌜arg10.view.read (Elt F) g = if k0_cond2 i = 1#1 then put (i 0) (upd 8 (ptAt arg2 arg3 arg4 arg5 arg6 arg7 arg8 X2 X3 X4 X5 X6 X7 X8).dk (arg12.view.read (Elt F) (clear12 i arg12 f12))) (arg10.view.read (Elt F) g10) else arg10.view.read (Elt F) g10⌝)
      ∗ (∃ g, (arg11.view.loc (c : Thread nD τ) ↦[arg11.view.set]{fullShare} g) ∗ ⌜arg11.view.read (Elt F) g = if k0_cond2 i = 1#1 then put (i 0) (upd 8 (ptAt arg2 arg3 arg4 arg5 arg6 arg7 arg8 X2 X3 X4 X5 X6 X7 X8).dv (arg13.view.read (Elt F) (clear13 i arg13 f13))) (arg11.view.read (Elt F) g11) else arg11.view.read (Elt F) g11⌝)
      ∗ (∃ f, (arg12.view.loc (c : Thread nD τ) ↦[arg12.view.set]{fullShare} f) ∗ ⌜arg12.view.read (Elt F) f = upd 8 (ptAt arg2 arg3 arg4 arg5 arg6 arg7 arg8 X2 X3 X4 X5 X6 X7 X8).dk (arg12.view.read (Elt F) (clear12 i arg12 f12))⌝)
      ∗ (∃ f, (arg13.view.loc (c : Thread nD τ) ↦[arg13.view.set]{fullShare} f) ∗ ⌜arg13.view.read (Elt F) f = upd 8 (ptAt arg2 arg3 arg4 arg5 arg6 arg7 arg8 X2 X3 X4 X5 X6 X7 X8).dv (arg13.view.read (Elt F) (clear13 i arg13 f13))⌝)
      ∗ (∃ f, (arg14.view.loc (c : Thread nD τ) ↦[arg14.view.set]{fullShare} f)) ∗ (∃ f, (arg15.view.loc (c : Thread nD τ) ↦[arg15.view.set]{fullShare} f))
      ∗ semVal ((c : Thread nD τ), SemLoc.dma 16) 0 ∗ semVal ((c : Thread nD τ), SemLoc.dma 17) 0 ∗ (∃ W', owes (c : Thread nD τ) 0 W')) -∗ Q ⟨⟩)) : sProp 𝕄)
  ⊢ wp frame (wpE (defs₀ (F := F)) Variants.none (c : Thread nD τ) none) Set.univ
     (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 cc0_scoped0 cc0_scoped1) Q := by
  have z12 : Reads arg12.view (clear12 i arg12 f12) (upd (2 * 0) (ptAt arg2 arg3 arg4 arg5 arg6 arg7 arg8 X2 X3 X4 X5 X6 X7 X8).dk (arg12.view.read (Elt F) (clear12 i arg12 f12))) :=
    ⟨(upd_zero _ _).symm⟩
  have z13 : Reads arg13.view (clear13 i arg13 f13) (upd (2 * 0) (ptAt arg2 arg3 arg4 arg5 arg6 arg7 arg8 X2 X3 X4 X5 X6 X7 X8).dv (arg13.view.read (Elt F) (clear13 i arg13 f13))) :=
    ⟨(upd_zero _ _).symm⟩
  have z14 : Holds arg14.view (arg14.view.writes (Elt F) f14
      [⟨Rect.unit ![0, 0, 0] S1x512x2048.size inb_S2x512x2048_S1x512x2048_0_0_0, k0_pay35 (k0_pay25 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
        (arg6.view.readAt (Elt F) (Rect.unit (s := S1x8x64x2048) ![0, 0, 0, 0] S1x1x64x2048.size inb_S1x8x64x2048_S1x1x64x2048_0_0_0_0).toLoadRect X6)⟩])
      ((ptAt arg2 arg3 arg4 arg5 arg6 arg7 arg8 X2 X3 X4 X5 X6 X7 X8).sc (2 * 0)) :=
    ⟨(slot_same _ _ _ 0 rfl _ _).trans (congrArg (k0_pay7 (k0_pay25 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))) (readAt_kt _ _ _ 0 (by decide) rfl))⟩
  have z15 : Holds arg15.view (arg15.view.writes (Elt F) f15
      [⟨Rect.unit ![0, 0, 0] S1x512x2048.size inb_S2x512x2048_S1x512x2048_0_0_0, k0_pay36 (k0_pay26 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
        (arg8.view.readAt (Elt F) (Rect.unit (s := S1x8x80x2048) ![0, 0, 0, 0] S1x1x64x2048.size inb_S1x8x80x2048_S1x1x64x2048_0_0_0_0).toLoadRect X8)⟩])
      ((ptAt arg2 arg3 arg4 arg5 arg6 arg7 arg8 X2 X3 X4 X5 X6 X7 X8).dp (2 * 0)) :=
    ⟨(slot_same _ _ _ 0 rfl _ _).trans (congrArg (k0_pay8 (k0_pay26 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))) (readAt_vt _ _ _ 0 (by decide) rfl))⟩
  have zq : Sums (k0_pay37 (F := F)) ((ptAt arg2 arg3 arg4 arg5 arg6 arg7 arg8 X2 X3 X4 X5 X6 X7 X8).dq (2 * 0)) := ⟨rfl⟩
  simp only [cc0_attn_bwd_eq_skeleton]
  unfold cc0_attn_bwd_skel
  iintro ⟨H2, H3, H4, H5, H6, H7, H8, H9, H10, H11, H12, H13, H14, H15, HS0, HS1, HW, Hk⟩
  let L : LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 cc0_scoped0 cc0_scoped1
    (k0_pay25 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay26 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay27 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay28 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay29 (arg4.view.readAt (Elt F) (Rect.unit (s := S128x256) ![0, 0] S128x1.size inb_S128x256_S128x1_0_0).toLoadRect X4))
    (k0_pay30 (arg4.view.readAt (Elt F) (Rect.unit (s := S128x256) ![0, 64] S128x1.size inb_S128x256_S128x1_0_64).toLoadRect X4))
    (k0_pay31 (arg4.view.readAt (Elt F) (Rect.unit (s := S128x256) ![0, 128] S128x1.size inb_S128x256_S128x1_0_128).toLoadRect X4))
    (k0_pay32 (arg4.view.readAt (Elt F) (Rect.unit (s := S128x256) ![0, 192] S128x1.size inb_S128x256_S128x1_0_192).toLoadRect X4))
    (arg5.view.readAt (Elt F) (Rect.unit (s := S128x256) ![0, 0] S128x1.size inb_S128x256_S128x1_0_0).toLoadRect X5)
    (arg5.view.readAt (Elt F) (Rect.unit (s := S128x256) ![0, 64] S128x1.size inb_S128x256_S128x1_0_64).toLoadRect X5)
    (arg5.view.readAt (Elt F) (Rect.unit (s := S128x256) ![0, 128] S128x1.size inb_S128x256_S128x1_0_128).toLoadRect X5)
    (arg5.view.readAt (Elt F) (Rect.unit (s := S128x256) ![0, 192] S128x1.size inb_S128x256_S128x1_0_192).toLoadRect X5)
    k0_pay37 := ⟨inv c arg6 arg7 arg8 arg12 arg13 arg14 arg15 X6 X7 X8 (ptAt arg2 arg3 arg4 arg5 arg6 arg7 arg8 X2 X3 X4 X5 X6 X7 X8)
      (arg12.view.read (Elt F) (clear12 i arg12 f12)) (arg13.view.read (Elt F) (clear13 i arg13 f13)),
      trip c i arg2 harg2 arg3 harg3 arg4 harg4 arg5 harg5 arg6 harg6 arg7 harg7 arg8 harg8 arg9 harg9 arg10 harg10 arg11 harg11 arg12 harg12 arg13 harg13 arg14 harg14 arg15 harg15 cc0_scoped0 cc0_scoped1 (k0_pay25 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay26 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay27 (arg2.view.readAt (Elt F) (Rect.unit (s := S128x256) ![0, 0] S128x64.size inb_S128x256_S128x64_0_0).toLoadRect X2) (arg2.view.readAt (Elt F) (Rect.unit (s := S128x256) ![0, 64] S128x64.size inb_S128x256_S128x64_0_64).toLoadRect X2) (arg2.view.readAt (Elt F) (Rect.unit (s := S128x256) ![0, 128] S128x64.size inb_S128x256_S128x64_0_128).toLoadRect X2) (arg2.view.readAt (Elt F) (Rect.unit (s := S128x256) ![0, 192] S128x64.size inb_S128x256_S128x64_0_192).toLoadRect X2))
    (k0_pay28 (arg3.view.readAt (Elt F) (Rect.unit (s := S128x256) ![0, 0] S128x64.size inb_S128x256_S128x64_0_0).toLoadRect X3) (arg3.view.readAt (Elt F) (Rect.unit (s := S128x256) ![0, 64] S128x64.size inb_S128x256_S128x64_0_64).toLoadRect X3) (arg3.view.readAt (Elt F) (Rect.unit (s := S128x256) ![0, 128] S128x64.size inb_S128x256_S128x64_0_128).toLoadRect X3) (arg3.view.readAt (Elt F) (Rect.unit (s := S128x256) ![0, 192] S128x64.size inb_S128x256_S128x64_0_192).toLoadRect X3))
    (k0_pay29 (arg4.view.readAt (Elt F) (Rect.unit (s := S128x256) ![0, 0] S128x1.size inb_S128x256_S128x1_0_0).toLoadRect X4))
    (k0_pay30 (arg4.view.readAt (Elt F) (Rect.unit (s := S128x256) ![0, 64] S128x1.size inb_S128x256_S128x1_0_64).toLoadRect X4))
    (k0_pay31 (arg4.view.readAt (Elt F) (Rect.unit (s := S128x256) ![0, 128] S128x1.size inb_S128x256_S128x1_0_128).toLoadRect X4))
    (k0_pay32 (arg4.view.readAt (Elt F) (Rect.unit (s := S128x256) ![0, 192] S128x1.size inb_S128x256_S128x1_0_192).toLoadRect X4))
    (arg5.view.readAt (Elt F) (Rect.unit (s := S128x256) ![0, 0] S128x1.size inb_S128x256_S128x1_0_0).toLoadRect X5)
    (arg5.view.readAt (Elt F) (Rect.unit (s := S128x256) ![0, 64] S128x1.size inb_S128x256_S128x1_0_64).toLoadRect X5)
    (arg5.view.readAt (Elt F) (Rect.unit (s := S128x256) ![0, 128] S128x1.size inb_S128x256_S128x1_0_128).toLoadRect X5)
    (arg5.view.readAt (Elt F) (Rect.unit (s := S128x256) ![0, 192] S128x1.size inb_S128x256_S128x1_0_192).toLoadRect X5) X6 X7 X8 _ rfl _ _⟩
  sl_exec
  have tr : 2 * Scf.trips k0_t1_loop.lb k0_t1_loop.ub k0_t1_loop.st = 6 := by decide
  rw [tr] at hL4 hL6 hL8 hL10 hL11
  have a6 := (readAt_slot arg14.view fL2 inb_S2x512x2048_S1x512x2048_0_0_0 0 rfl).trans hL8.eq
  have b6 := (readAt_slot arg15.view fL3 inb_S2x512x2048_S1x512x2048_0_0_0 0 rfl).trans hL10.eq
  have a7 : body.sl.v100 arg2 arg6 arg14 X2 X6 = (ptAt arg2 arg3 arg4 arg5 arg6 arg7 arg8 X2 X3 X4 X5 X6 X7 X8).sc 7 :=
    ((readAt_slot arg14.view _ inb_S2x512x2048_S1x512x2048_1_0_0 1 rfl).trans (slot_same _ _ _ 1 rfl _ _)).trans (congrArg (k0_pay7 _) (readAt_kt _ _ _ 7 (by decide) rfl))
  have b7 : body.sl.v105 arg3 arg8 arg15 X3 X8 = (ptAt arg2 arg3 arg4 arg5 arg6 arg7 arg8 X2 X3 X4 X5 X6 X7 X8).dp 7 :=
    ((readAt_slot arg15.view _ inb_S2x512x2048_S1x512x2048_1_0_0 1 rfl).trans (slot_same _ _ _ 1 rfl _ _)).trans (congrArg (k0_pay8 _) (readAt_vt _ _ _ 7 (by decide) rfl))
  have s7 : body.sl.r_12 arg2 arg3 arg4 arg5 arg6 arg8 arg14 arg15 X2 X3 X4 X5 X6 X8 = (ptAt arg2 arg3 arg4 arg5 arg6 arg7 arg8 X2 X3 X4 X5 X6 X7 X8).ds 7 := ds_last (ptAt arg2 arg3 arg4 arg5 arg6 arg7 arg8 X2 X3 X4 X5 X6 X7 X8) 7 a7 b7
  have h12 : arg12.view.read (Elt F) (arg12.view.writes (Elt F) fL0
      (body.sl.H12_2 c arg2 arg3 arg4 arg5 arg6 arg8 arg12 arg14 arg15 X2 X3 X4 X5 X6 X8 fL0 fL2 fL3)) = upd 8 (ptAt arg2 arg3 arg4 arg5 arg6 arg7 arg8 X2 X3 X4 X5 X6 X7 X8).dk (arg12.view.read (Elt F) (clear12 i arg12 f12)) := by
    refine read_upd _ _ _ 7 (by decide) rfl _ _ _ (read_upd _ _ _ 6 (by decide) rfl [] _ _ hL4.eq _ ?_) _ ?_
    · exact dk_six (ptAt arg2 arg3 arg4 arg5 arg6 arg7 arg8 X2 X3 X4 X5 X6 X7 X8) _ a6 b6 (readAt_upd _ _ _ 6 _ (by decide) le_rfl rfl _ _ hL4.eq)
    · exact dk_last (ptAt arg2 arg3 arg4 arg5 arg6 arg7 arg8 X2 X3 X4 X5 X6 X7 X8) _ s7 (readAt_upd _ _ _ 6 _ (by decide) (by decide) rfl _ _ hL4.eq)
  have h13 : arg13.view.read (Elt F) (arg13.view.writes (Elt F) fL1
      (body.sl.H13_2 c arg2 arg3 arg4 arg6 arg13 arg14 X2 X3 X4 X6 fL1 fL2)) = upd 8 (ptAt arg2 arg3 arg4 arg5 arg6 arg7 arg8 X2 X3 X4 X5 X6 X7 X8).dv (arg13.view.read (Elt F) (clear13 i arg13 f13)) := by
    refine read_upd _ _ _ 7 (by decide) rfl _ _ _ (read_upd _ _ _ 6 (by decide) rfl [] _ _ hL6.eq _ ?_) _ ?_
    · exact dv_six (ptAt arg2 arg3 arg4 arg5 arg6 arg7 arg8 X2 X3 X4 X5 X6 X7 X8) _ a6 (readAt_upd _ _ _ 6 _ (by decide) le_rfl rfl _ _ hL6.eq)
    · exact dv_last (ptAt arg2 arg3 arg4 arg5 arg6 arg7 arg8 X2 X3 X4 X5 X6 X7 X8) _ a7 (readAt_upd _ _ _ 6 _ (by decide) (by decide) rfl _ _ hL6.eq)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]
    · iexact H9
    · ipureintro
      exact read_out _ _ (ptAt arg2 arg3 arg4 arg5 arg6 arg7 arg8 X2 X3 X4 X5 X6 X7 X8) _ _ _ (dq_six (ptAt arg2 arg3 arg4 arg5 arg6 arg7 arg8 X2 X3 X4 X5 X6 X7 X8) 6 hL11.eq a6 b6 (readAt_kk _ _ _ 6 (by decide) rfl)) s7 (readAt_kk _ _ _ 7 (by decide) rfl)
  isplitl [H10]
  · iexists _
    isplitl [H10]
    · iexact H10
    · ipureintro
      by_cases hc : k0_cond2 i = 1#1
      · rw [dif_pos hc, if_pos hc, ← h12]
        exact read_put arg10 g10 _ _ _ (i 0) (k0_off7_eq i) _
      · rw [dif_neg hc, if_neg hc]
  isplitl [H11]
  · iexists _
    isplitl [H11]
    · iexact H11
    · ipureintro
      by_cases hc : k0_cond2 i = 1#1
      · rw [dif_pos hc, if_pos hc, ← h13]
        exact read_put arg11 g11 _ _ _ (i 0) (k0_off7_eq i) _
      · rw [dif_neg hc, if_neg hc]
  isplitl [H12]
  · iexists _
    isplitl [H12]
    · iexact H12
    · ipureintro; exact h12
  isplitl [H13]
  · iexists _
    isplitl [H13]
    · iexact H13
    · ipureintro; exact h13
  isplitl [H14]; · iexists _; iexact H14
  isplitl [H15]; · iexists _; iexact H15
  isplitl [HS0]; · iexact HS0
  isplitl [HS1]; · iexact HS1
  iexists _; iexact HW

end Cert.AttnBwdIdeal.Hand
-- ==== Proof.AttnFrame.lean ====
/-
  The whole run of the attention gradient, at any scalars: the two accumulators in scratch hold, before each grid point,
  what the points of the same key block have left in them, and the two results outside the staging hold the planes of the
  key blocks finished so far. From it the frame, and what the three results hold at the end.
-/
module

public import proofs.«01_k».proof.Proof.AttnBody

@[expose] public section

set_option maxRecDepth 8192
set_option maxHeartbeats 4000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The values -/

/-- Columns `o` on of a block of 256. -/
def cols {e : EltTy} {w : Fin 2 → ℕ} (x : S128x256.Idx → Elt F e) (o : ℕ) (inb : ∀ a, (![0, o] : Fin 2 → ℕ) a + w a ≤ S128x256.size a) :
    (⟨2, w⟩ : Shape).Idx → Elt F e := fun y => x ((Rect.unit (s := S128x256) ![0, o] w inb).toLoadRect.idx y)

/-- The data of a grid point from the seven blocks it reads. -/
def ptBlk (x2 x3 : S128x256.Idx → Elt F .bf16) (x4 x5 : S128x256.Idx → Elt F .f32) (x6 : S1x8x64x2048.Idx → Elt F .bf16)
    (x7 : S1x16384x64.Idx → Elt F .bf16) (x8 : S1x8x80x2048.Idx → Elt F .bf16) : Pt F :=
  ⟨k0_pay25 (cols (w := S128x64.size) x2 0 inb_S128x256_S128x64_0_0) (cols (w := S128x64.size) x2 64 inb_S128x256_S128x64_0_64) (cols (w := S128x64.size) x2 128 inb_S128x256_S128x64_0_128) (cols (w := S128x64.size) x2 192 inb_S128x256_S128x64_0_192), k0_pay26 (cols (w := S128x64.size) x3 0 inb_S128x256_S128x64_0_0) (cols (w := S128x64.size) x3 64 inb_S128x256_S128x64_0_64) (cols (w := S128x64.size) x3 128 inb_S128x256_S128x64_0_128) (cols (w := S128x64.size) x3 192 inb_S128x256_S128x64_0_192), k0_pay27 (cols (w := S128x64.size) x2 0 inb_S128x256_S128x64_0_0) (cols (w := S128x64.size) x2 64 inb_S128x256_S128x64_0_64) (cols (w := S128x64.size) x2 128 inb_S128x256_S128x64_0_128) (cols (w := S128x64.size) x2 192 inb_S128x256_S128x64_0_192), k0_pay28 (cols (w := S128x64.size) x3 0 inb_S128x256_S128x64_0_0) (cols (w := S128x64.size) x3 64 inb_S128x256_S128x64_0_64) (cols (w := S128x64.size) x3 128 inb_S128x256_S128x64_0_128) (cols (w := S128x64.size) x3 192 inb_S128x256_S128x64_0_192), k0_pay33 (k0_pay29 (cols (w := S128x1.size) x4 0 inb_S128x256_S128x1_0_0)) (k0_pay30 (cols (w := S128x1.size) x4 64 inb_S128x256_S128x1_0_64)) (k0_pay31 (cols (w := S128x1.size) x4 128 inb_S128x256_S128x1_0_128)) (k0_pay32 (cols (w := S128x1.size) x4 192 inb_S128x256_S128x1_0_192)), k0_pay34 (cols (w := S128x1.size) x5 0 inb_S128x256_S128x1_0_0) (cols (w := S128x1.size) x5 64 inb_S128x256_S128x1_0_64) (cols (w := S128x1.size) x5 128 inb_S128x256_S128x1_0_128) (cols (w := S128x1.size) x5 192 inb_S128x256_S128x1_0_192), ktOf x6, vtOf x8, kkOf x7⟩

variable (c : Dev nD)

/-- The data of grid point `t`. -/
def P (t : Fin cfg0.N) : Pt F :=
  ptBlk (iblk m c 0 t) (iblk m c 1 t) (iblk m c 2 t) (iblk m c 3 t) (iblk m c 4 t) (iblk m c 5 t) (iblk m c 6 t)

/-- The keys' accumulator before grid point `n`. -/
def D10 : ℕ → S8x64x2048.Idx → Elt F .f32
  | 0 => k0_pay23 (F := F)
  | n + 1 => if h : n < cfg0.N then upd 8 (P m c ⟨n, h⟩).dk (if first (grid0.coords ⟨n, h⟩) then k0_pay23 (F := F) else D10 n) else D10 n

/-- The values' accumulator before grid point `n`. -/
def D11 : ℕ → S8x64x2048.Idx → Elt F .f32
  | 0 => k0_pay24 (F := F)
  | n + 1 => if h : n < cfg0.N then upd 8 (P m c ⟨n, h⟩).dv (if first (grid0.coords ⟨n, h⟩) then k0_pay24 (F := F) else D11 n) else D11 n

/-- The keys' gradient before grid point `n`: the planes finished so far. -/
def G10 : ℕ → S2x8x64x2048.Idx → Elt F .f32
  | 0 => V m c main_v41_1
  | n + 1 => if h : n < cfg0.N then
      (if k0_cond2 (grid0.coords ⟨n, h⟩) = 1#1 then put (grid0.coords ⟨n, h⟩ 0) (D10 m c (n + 1)) (G10 n) else G10 n) else G10 n

/-- The values' gradient before grid point `n`. -/
def G11 : ℕ → S2x8x64x2048.Idx → Elt F .f32
  | 0 => V m c main_v41_2
  | n + 1 => if h : n < cfg0.N then
      (if k0_cond2 (grid0.coords ⟨n, h⟩) = 1#1 then put (grid0.coords ⟨n, h⟩ 0) (D11 m c (n + 1)) (G11 n) else G11 n) else G11 n

theorem D10_succ (t : Fin cfg0.N) :
    D10 m c (t.val + 1) = upd 8 (P m c t).dk (if first (grid0.coords t) then k0_pay23 (F := F) else D10 m c t.val) :=
  dif_pos t.isLt
theorem D11_succ (t : Fin cfg0.N) :
    D11 m c (t.val + 1) = upd 8 (P m c t).dv (if first (grid0.coords t) then k0_pay24 (F := F) else D11 m c t.val) :=
  dif_pos t.isLt
theorem G10_succ (t : Fin cfg0.N) : G10 m c (t.val + 1)
    = if k0_cond2 (grid0.coords t) = 1#1 then put (grid0.coords t 0) (D10 m c (t.val + 1)) (G10 m c t.val) else G10 m c t.val :=
  dif_pos t.isLt
theorem G11_succ (t : Fin cfg0.N) : G11 m c (t.val + 1)
    = if k0_cond2 (grid0.coords t) = 1#1 then put (grid0.coords t 0) (D11 m c (t.val + 1)) (G11 m c t.val) else G11 m c t.val :=
  dif_pos t.isLt

/-- The first point clears the accumulators. -/
theorem first_zero (t : Fin cfg0.N) (h : t.val = 0) : first (grid0.coords t) := by
  have e : t = (⟨0, by decide⟩ : Fin cfg0.N) := Fin.ext h
  subst e; decide +kernel

theorem enter (t : Fin cfg0.N) {α : Type} {z d x : α} (hd : t.val ≠ 0 → d = x) :
    (if first (grid0.coords t) then z else d) = if first (grid0.coords t) then z else x := by
  by_cases h : t.val = 0
  · rw [if_pos (first_zero t h), if_pos (first_zero t h)]
  · rw [hd h]

/-! ## What the run is stated over -/

/-- The results that the kernel's own copies write. -/
def R0 : Finset (Ref sig .tc) := {main_v41_1, main_v41_2}
def H0 : Finset (Ref sig .tc) := ∅
theorem H0_sub : H0 ⊆ Pipeline.restRefs sig spec0 := by decide
theorem R0_sub : R0 ⊆ Pipeline.restRefs sig spec0 \ H0 := by decide

abbrev osem0 : Fin 2 → SemLoc sig := fun j => (![SemLoc.dma 16, SemLoc.dma 17] : Fin 2 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl

abbrev scM0 : Memref sig .tc .vmem S8x64x2048 .f32 := Memref.whole cc0_scratch0
abbrev scM1 : Memref sig .tc .vmem S8x64x2048 .f32 := Memref.whole cc0_scratch1
abbrev scM2 : Memref sig .tc .vmem S2x512x2048 .f32 := Memref.whole cc0_scratch2
abbrev scM3 : Memref sig .tc .vmem S2x512x2048 .f32 := Memref.whole cc0_scratch3
abbrev hbM1 : Memref sig .tc .hbm S2x8x64x2048 .f32 := Memref.whole main_v41_1
abbrev hbM2 : Memref sig .tc .hbm S2x8x64x2048 .f32 := Memref.whole main_v41_2

theorem routed_eq (W : (b : Ref sig .tc) → Buf (Elt F) ((c : Thread nD τ).loc b)) :
    (Pipeline.routed R0 c W : sProp 𝕄)
      = iprop(owns (c : Thread nD τ) hbM1 fullShare (W main_v41_1) ∗ owns (c : Thread nD τ) hbM2 fullShare (W main_v41_2)) := by
  unfold Pipeline.routed
  rw [BI.bigSep_eq_bigSepL_of_eq [main_v41_1, main_v41_2] (by decide) (by decide)]
  simp only [hbM1, hbM2, owns_whole]; rfl

theorem entry_eq (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scM0 fullShare d) ∗ (∃ d, owns (c : Thread nD τ) scM1 fullShare d)
                ∗ (∃ d, owns (c : Thread nD τ) scM2 fullShare d) ∗ (∃ d, owns (c : Thread nD τ) scM3 fullShare d))
          ∗ (∃ r, prngReg c r)
          ∗ iprop(semVal ((c : Thread nD τ), SemLoc.dma 16) 0 ∗ semVal ((c : Thread nD τ), SemLoc.dma 17) 0)
          ∗ iprop(emp)
          ∗ iprop(owns (c : Thread nD τ) hbM1 fullShare (G c main_v41_1) ∗ owns (c : Thread nD τ) hbM2 fullShare (G c main_v41_2))) := by
  rw [Pipeline.ΦDRG_eq, scopedRest0_eq, ownSems00_eq, routed_eq]
  unfold H0; rw [BI.bigSep_empty]
  simp only [scM0, scM1, scM2, scM3, hbM1, hbM2, owns_whole]; try rfl

/-- What holds before grid point `n`. -/
def Inv (n : ℕ) : sProp 𝕄 :=
  iprop(iprop((∃ d, owns (c : Thread nD τ) scM0 fullShare d ∗ ⌜n ≠ 0 → d = D10 m c n⌝)
      ∗ (∃ d, owns (c : Thread nD τ) scM1 fullShare d ∗ ⌜n ≠ 0 → d = D11 m c n⌝)
      ∗ (∃ d, owns (c : Thread nD τ) scM2 fullShare d) ∗ (∃ d, owns (c : Thread nD τ) scM3 fullShare d))
    ∗ (∃ r, prngReg c r)
    ∗ iprop(semVal ((c : Thread nD τ), SemLoc.dma 16) 0 ∗ semVal ((c : Thread nD τ), SemLoc.dma 17) 0)
    ∗ iprop(owns (c : Thread nD τ) hbM1 fullShare (G10 m c n) ∗ owns (c : Thread nD τ) hbM2 fullShare (G11 m c n)))

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (P m c t).out
  Φ t := Inv m c t.val
  q _ := fullShare
  owed _ := 0

theorem A_eq (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem after0_7 (t : Fin cfg0.N) : (dats m 0 c).after 7 t = (P m c t).out := by dsimp only [dats]

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## A point, between its invariants -/

def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))
def bodyPost (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6, after0_7]
  rw [show (dats m 0 c).Φ t.castSucc = Inv m c t.val from rfl, show (dats m 0 c).Φ t.succ = Inv m c (t.val + 1) from rfl]
  unfold Dat.owesAt Pipeline.owesWithin Inv
  rw [show (dats m 0 c).owed t.castSucc = 0 from rfl, show (dats m 0 c).owed t.succ = 0 from rfl]
  unfold owns
  iintro ⟨⟨⟨⟨%d12, ⟨%f12, %e12, H12⟩, %h12⟩, ⟨%d13, ⟨%f13, %e13, H13⟩, %h13⟩, ⟨%d14, %f14, -, H14⟩, ⟨%d15, %f15, -, H15⟩⟩, Hg, ⟨HS0, HS1⟩,
    ⟨%g10, %e10, H10⟩, ⟨%g11, %e11, H11⟩⟩, ⟨%W, -, HW⟩, ⟨%d0, %X2, %x2, H2⟩, ⟨%d1, %X3, %x3, H3⟩, ⟨%d2, %X4, %x4, H4⟩, ⟨%d3, %X5, %x5, H5⟩,
    ⟨%d4, %X6, %x6, H6⟩, ⟨%d5, %X7, %x7, H7⟩, ⟨%d6, %X8, %x8, H8⟩, ⟨%d7, %f9, -, H9⟩⟩
  have hP : ptAt (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) X2 X3 X4 X5 X6 X7 X8 = P m c t := by
    unfold P
    rw [← x2, ← x3, ← x4, ← x5, ← x6, ← x7, ← x8]
    rfl
  iapply (body c (grid0.coords t) _ _ _ _ _ _ _ _ _ _ _ _ _ _ _ _ _ _ _ _ _ _ _ _ _ _ _ _ X2 X3 X4 X5 X6 X7 X8 f9 g10 g11 f12 f13 f14 f15 W _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HW]; · iexact HW
  iintro ⟨H2, H3, H4, H5, H6, H7, H8, ⟨%f9', H9, %y9⟩, ⟨%g10', H10, %y10⟩, ⟨%g11', H11, %y11⟩, ⟨%f12', H12, %y12⟩, ⟨%f13', H13, %y13⟩,
    ⟨%f14', H14⟩, ⟨%f15', H15⟩, HS0, HS1, ⟨%W', HW'⟩⟩
  have z12 : scM0.view.read (Elt F) f12' = D10 m c (t.val + 1) := by
    refine y12.trans ?_
    rw [D10_succ, ← hP]
    exact congrArg _ ((read_clear12 _ _ _).trans ((congrArg (fun x => if first (grid0.coords t) then k0_pay23 (F := F) else x) e12).trans (enter t h12)))
  have z13 : scM1.view.read (Elt F) f13' = D11 m c (t.val + 1) := by
    refine y13.trans ?_
    rw [D11_succ, ← hP]
    exact congrArg _ ((read_clear13 _ _ _).trans ((congrArg (fun x => if first (grid0.coords t) then k0_pay24 (F := F) else x) e13).trans (enter t h13)))
  have z10 : hbM1.view.read (Elt F) g10' = G10 m c (t.val + 1) := by
    rw [G10_succ, ← z12, y12, ← e10]; exact y10
  have z11 : hbM2.view.read (Elt F) g11' = G11 m c (t.val + 1) := by
    rw [G11_succ, ← z13, y13, ← e11]; exact y11
  isplitl [H12 H13 H14 H15 Hg HS0 HS1 H10 H11]
  · isplitl [H12 H13 H14 H15]
    · isplitl [H12]
      · iexists _
        isplitl [H12]
        · iexists _; isplitr; swap; · iexact H12
          ipureintro; exact rfl
        · ipureintro; exact fun _ => z12
      isplitl [H13]
      · iexists _
        isplitl [H13]
        · iexists _; isplitr; swap; · iexact H13
          ipureintro; exact rfl
        · ipureintro; exact fun _ => z13
      isplitl [H14]
      · iexists _, _; isplitr; swap; · iexact H14
        ipureintro; exact rfl
      · iexists _, _; isplitr; swap; · iexact H15
        ipureintro; exact rfl
    isplitl [Hg]; · iexact Hg
    isplitl [HS0 HS1]
    · isplitl [HS0]; · iexact HS0
      iexact HS1
    isplitl [H10]
    · iexists _; isplitr; swap; · iexact H10
      ipureintro; exact z10
    · iexists _; isplitr; swap; · iexact H11
      ipureintro; exact z11
  isplitl [HW']
  · iexists W'; isplitr; · ipureintro; exact fun _ _ => Or.inl trivial
    iexact HW'
  isplitl [H2]
  · iexists _; isplitr; swap; · iexact H2
    ipureintro; exact x2
  isplitl [H3]
  · iexists _; isplitr; swap; · iexact H3
    ipureintro; exact x3
  isplitl [H4]
  · iexists _; isplitr; swap; · iexact H4
    ipureintro; exact x4
  isplitl [H5]
  · iexists _; isplitr; swap; · iexact H5
    ipureintro; exact x5
  isplitl [H6]
  · iexists _; isplitr; swap; · iexact H6
    ipureintro; exact x6
  isplitl [H7]
  · iexists _; isplitr; swap; · iexact H7
    ipureintro; exact x7
  isplitl [H8]
  · iexists _; isplitr; swap; · iexact H8
    ipureintro; exact x8
  iexists _; isplitr; swap; · iexact H9
  ipureintro; exact y9.trans (congrArg Pt.out hP)

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the two results outside the staging hold at the end. -/
def G (c : Dev nD) : (b : Ref sig .tc) → Buf (Elt F) ((c : Thread nD τ).loc b) :=
  Function.update (Function.update (V m c) main_v41_1 (G10 m c cfg0.N)) main_v41_2 (G11 m c cfg0.N)

theorem G_1 : G m c main_v41_1 = G10 m c cfg0.N := by
  unfold G; rw [Function.update_of_ne (show main_v41_1 ≠ main_v41_2 by decide), Function.update_self]
theorem G_2 : G m c main_v41_2 = G11 m c cfg0.N := by
  unfold G; rw [Function.update_self]

theorem entered : (Pipeline.ΦDRG osem0 spec0 H0 R0 (V m) (V m) c : sProp 𝕄) ⊢ Inv m c 0 := by
  rw [entry_eq]
  unfold Inv
  iintro ⟨⟨⟨%d0, H0⟩, ⟨%d1, H1⟩, H2, H3⟩, Hg, HS, -, HR⟩
  isplitl [H0 H1 H2 H3]
  · isplitl [H0]
    · iexists d0; isplitl [H0]; · iexact H0
      ipureintro; exact fun h => absurd rfl h
    isplitl [H1]
    · iexists d1; isplitl [H1]; · iexact H1
      ipureintro; exact fun h => absurd rfl h
    isplitl [H2]; · iexact H2
    iexact H3
  isplitl [Hg]; · iexact Hg
  isplitl [HS]; · iexact HS
  iexact HR

theorem left : Inv m c cfg0.N ⊢ (Pipeline.ΦDRG osem0 spec0 H0 R0 (V m) (G m) c : sProp 𝕄) := by
  rw [entry_eq, G_1, G_2]
  unfold Inv
  iintro ⟨⟨⟨%d0, H0, -⟩, ⟨%d1, H1, -⟩, H2, H3⟩, Hg, HS, HR⟩
  isplitl [H0 H1 H2 H3]
  · isplitl [H0]; · iexists d0; iexact H0
    isplitl [H1]; · iexists d1; iexact H1
    isplitl [H2]; · iexact H2
    iexact H3
  isplitl [Hg]; · iexact Hg
  isplitl [HS]; · iexact HS
  isplitr; · iempintro
  iexact HR

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => entered m c) (hout := fun c => left m c)

/-- The frame, at any scalars: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩) (run_main m ρ)

end Cert.AttnBwdIdeal.Hand
-- ==== Proof.AttnKernel.lean ====
/- What the attention gradient's kernel computes at one grid point, on finite blocks. -/
module

public import proofs.«01_k».proof.Proof.AttnFrame
public import proofs.«01_k».proof.Proof.Lift

@[expose] public section

set_option maxRecDepth 16384

noncomputable section

namespace Cert.AttnBwdIdeal.Kernel

open Cert.AttnBwdIdeal Cert.AttnBwdIdeal.Gen Cert.AttnBwdIdeal.Hand Idealize.ShloMosaic Idealize.ShloMosaic.TcCoe Idealize.SL.Sem
open Cert.Lift

/-- The eighth by which scores are scaled. -/
theorem c_eighth : Ideal.ofBits .f32 0x3E000000#32 = ((1 / 8 : ℝ) : EReal) := by
  simp [Ideal.ofBits, Ideal.ieee, -EReal.coe_mul]; norm_num

/-- The head of a stacked row. -/
def hd (r : Fin 512) : Fin 4 := ⟨r.val / 128, by omega⟩
/-- The row of its tile that a stacked row is. -/
def tr (r : Fin 512) : Fin 128 := ⟨r.val % 128, by omega⟩
/-- Column `e` of head `g`. -/
def col (g : Fin 4) (e : Fin 64) : Fin 256 := ⟨64 * g.val + e.val, by omega⟩

/-! ## The stacked blocks -/

section Stack

variable {x2 x3 : S128x256.Idx → Elt Ideal .bf16} {x4 x5 : S128x256.Idx → Elt Ideal .f32} {x6 : S1x8x64x2048.Idx → Elt Ideal .bf16}
  {x7 : S1x16384x64.Idx → Elt Ideal .bf16} {x8 : S1x8x80x2048.Idx → Elt Ideal .bf16}

theorem q_at (r : Fin 512) (e : Fin 64) : (ptBlk x2 x3 x4 x5 x6 x7 x8).q (ix2 r e) = x2 (ix2 (tr r) (col (hd r) e)) := by
  unfold ptBlk
  pointwise [k0_pay25, cols]
  split_ifs <;> exact congrArg₂ (fun a b => x2 (ix2 a b)) (Fin.ext (by dsimp only [tr]; omega)) (Fin.ext (by dsimp only [col, hd]; first | omega | (simp; omega)))
theorem d_at (r : Fin 512) (e : Fin 64) : (ptBlk x2 x3 x4 x5 x6 x7 x8).d (ix2 r e) = x3 (ix2 (tr r) (col (hd r) e)) := by
  unfold ptBlk
  pointwise [k0_pay26, cols]
  split_ifs <;> exact congrArg₂ (fun a b => x3 (ix2 a b)) (Fin.ext (by dsimp only [tr]; omega)) (Fin.ext (by dsimp only [col, hd]; first | omega | (simp; omega)))
theorem qt_at (e : Fin 64) (r : Fin 512) : (ptBlk x2 x3 x4 x5 x6 x7 x8).qt (ix2 e r) = x2 (ix2 (tr r) (col (hd r) e)) := by
  unfold ptBlk
  pointwise [k0_pay27, k0_pay25, cols]
  split_ifs <;> exact congrArg₂ (fun a b => x2 (ix2 a b)) (Fin.ext (by dsimp only [tr]; omega)) (Fin.ext (by dsimp only [col, hd]; first | omega | (simp; omega)))
theorem dt_at (e : Fin 64) (r : Fin 512) : (ptBlk x2 x3 x4 x5 x6 x7 x8).dt (ix2 e r) = x3 (ix2 (tr r) (col (hd r) e)) := by
  unfold ptBlk
  pointwise [k0_pay28, k0_pay26, cols]
  split_ifs <;> exact congrArg₂ (fun a b => x3 (ix2 a b)) (Fin.ext (by dsimp only [tr]; omega)) (Fin.ext (by dsimp only [col, hd]; first | omega | (simp; omega)))
theorem L_at (r : Fin 512) : (ptBlk x2 x3 x4 x5 x6 x7 x8).L (ix2 r 0) = x4 (ix2 (tr r) (col (hd r) 0)) := by
  unfold ptBlk
  pointwise [k0_pay33, k0_pay29, k0_pay30, k0_pay31, k0_pay32, cols]
  split_ifs <;> exact congrArg₂ (fun a b => x4 (ix2 a b)) (Fin.ext (by dsimp only [tr]; omega)) (Fin.ext (by dsimp only [col, hd]; first | omega | (simp; omega)))
theorem D_at (r : Fin 512) : (ptBlk x2 x3 x4 x5 x6 x7 x8).D (ix2 r 0) = x5 (ix2 (tr r) (col (hd r) 0)) := by
  unfold ptBlk
  pointwise [k0_pay34, cols]
  split_ifs <;> exact congrArg₂ (fun a b => x5 (ix2 a b)) (Fin.ext (by dsimp only [tr]; omega)) (Fin.ext (by dsimp only [col, hd]; first | omega | (simp; omega)))

end Stack

/-! ## The arithmetic of a point -/

/-- A point all of whose data is finite, with the reals. -/
structure Real (P : Pt Ideal) (q d : Fin 512 → Fin 64 → ℝ) (L D : Fin 512 → ℝ) (k v : Fin 8 → Fin 2048 → Fin 64 → ℝ) : Prop where
  hq : ∀ r e, P.q (ix2 r e) = ((q r e : ℝ) : EReal)
  hd : ∀ r e, P.d (ix2 r e) = ((d r e : ℝ) : EReal)
  hqt : ∀ e r, P.qt (ix2 e r) = ((q r e : ℝ) : EReal)
  hdt : ∀ e r, P.dt (ix2 e r) = ((d r e : ℝ) : EReal)
  hL : ∀ r, P.L (ix2 r 0) = ((L r : ℝ) : EReal)
  hD : ∀ r, P.D (ix2 r 0) = ((D r : ℝ) : EReal)
  hkt : ∀ (j : Fin 8) e s, P.kt j.val (ix4 0 0 e s) = ((k j s e : ℝ) : EReal)
  hvt : ∀ (j : Fin 8) e s, P.vt j.val (ix4 0 0 e s) = ((v j s e : ℝ) : EReal)
  hkk : ∀ (j : Fin 8) s e, P.kk j.val (ix3 0 s e) = ((k j s e : ℝ) : EReal)

variable {P : Pt Ideal} {q d : Fin 512 → Fin 64 → ℝ} {L D : Fin 512 → ℝ} {k v : Fin 8 → Fin 2048 → Fin 64 → ℝ} (h : Real P q d L D k v)

/-- The weight of key `s` of chunk `j` in row `r`. -/
def wt (q : Fin 512 → Fin 64 → ℝ) (L : Fin 512 → ℝ) (k : Fin 8 → Fin 2048 → Fin 64 → ℝ) (j : Fin 8) (r : Fin 512) (s : Fin 2048) : ℝ :=
  Real.exp ((∑ e, q r e * k j s e) - L r)

/-- The gradient of the score of key `s` of chunk `j` in row `r`. -/
def dsc (q d : Fin 512 → Fin 64 → ℝ) (L D : Fin 512 → ℝ) (k v : Fin 8 → Fin 2048 → Fin 64 → ℝ) (j : Fin 8) (r : Fin 512) (s : Fin 2048) : ℝ :=
  wt q L k j r s * ((∑ e, d r e * v j s e) - D r)

include h

theorem sc_at (j : Fin 8) (r : Fin 512) (s : Fin 2048) : P.sc j.val (ix3 0 r s) = ((∑ e, q r e * k j s e : ℝ) : EReal) := by
  pointwise [Pt.sc, k0_pay7]
  simp only [h.hq, h.hkt, zero_coe, ← EReal.coe_mul, ← EReal.coe_add, zero_add, coe_sum]

theorem dp_at (j : Fin 8) (r : Fin 512) (s : Fin 2048) : P.dp j.val (ix3 0 r s) = ((∑ e, d r e * v j s e : ℝ) : EReal) := by
  pointwise [Pt.dp, k0_pay8]
  simp only [h.hd, h.hvt, zero_coe, ← EReal.coe_mul, ← EReal.coe_add, zero_add, coe_sum]

theorem wt_at (j : Fin 8) (r : Fin 512) (s : Fin 2048) : k0_pay9 P.L (P.sc j.val) (ix2 r s) = ((wt q L k j r s : ℝ) : EReal) := by
  pointwise [k0_pay9]
  simp only [sc_at h, h.hL, ← EReal.coe_sub, Ideal.exp_coe, wt]

theorem wt_at' (j : Fin 8) (r : Fin 512) (s : Fin 2048) : k0_pay19 P.L (P.sc j.val) (ix2 r s) = ((wt q L k j r s : ℝ) : EReal) := by
  pointwise [k0_pay19]
  simp only [sc_at h, h.hL, ← EReal.coe_sub, Ideal.exp_coe, wt]

theorem ds_at (j : Fin 8) (r : Fin 512) (s : Fin 2048) : P.ds j.val (ix2 r s) = ((dsc q d L D k v j r s : ℝ) : EReal) := by
  pointwise [Pt.ds, k0_pay10]
  simp only [wt_at h, dp_at h, h.hD, ← EReal.coe_sub, ← EReal.coe_mul, dsc]

theorem dv_at (j : Fin 8) (old : Vec Ideal S1x64x2048 .f32) {o : ℝ} (e : Fin 64) (s : Fin 2048) (ho : old (ix3 0 e s) = ((o : ℝ) : EReal)) :
    P.dv j.val old (ix3 0 e s) = ((o + ∑ r, d r e * wt q L k j r s : ℝ) : EReal) := by
  pointwise [Pt.dv, k0_pay21]
  simp only [ho, h.hdt, wt_at' h, zero_coe, ← EReal.coe_mul, ← EReal.coe_add, zero_add, coe_sum]

theorem dk_at (j : Fin 8) (old : Vec Ideal S1x64x2048 .f32) {o : ℝ} (e : Fin 64) (s : Fin 2048) (ho : old (ix3 0 e s) = ((o : ℝ) : EReal)) :
    P.dk j.val old (ix3 0 e s) = ((o + ∑ r, q r e * dsc q d L D k v j r s : ℝ) : EReal) := by
  pointwise [Pt.dk, k0_pay14]
  simp only [ho, h.hqt, ds_at h, zero_coe, ← EReal.coe_mul, ← EReal.coe_add, zero_add, coe_sum]

/-- What the queries' gradient holds after `n` chunks. -/
theorem dq_at (n : ℕ) (hn : n ≤ 8) (r : Fin 512) (e : Fin 64) : P.dq n (ix2 r e)
    = ((∑ j : Fin n, ∑ s, dsc q d L D k v (Fin.castLE hn j) r s * k (Fin.castLE hn j) s e : ℝ) : EReal) := by
  induction n with
  | zero => pointwise [Pt.dq, k0_pay37]; rw [Fin.sum_univ_zero]; rfl
  | succ n ih =>
    have hd := fun r s => ds_at h ⟨n, hn⟩ r s
    have hk := fun s e => h.hkk ⟨n, hn⟩ s e
    dsimp only at hd hk
    rw [Fin.sum_univ_castSucc]
    pointwise [Pt.dq, k0_pay15]
    simp only [ih (by omega), hd, hk, zero_coe, ← EReal.coe_mul, ← EReal.coe_add, zero_add, coe_sum]
    rfl

/-- The queries' gradient that the point stores. -/
theorem out_at (i : Fin 128) (c : Fin 256) (r : Fin 512) (e : Fin 64) (hr : r.val = 128 * (c.val / 64) + i.val) (he : e.val = c.val % 64) :
    P.out (ix2 i c) = (((∑ j : Fin 8, ∑ s, dsc q d L D k v j r s * k j s e) * (1 / 8) : ℝ) : EReal) := by
  have e1 : P.out (ix2 i c) = k0_pay2 (P.dq 7) (P.ds 7) (P.kk 7) (ix2 r e) :=
    congrArg₂ (fun a b => k0_pay2 (P.dq 7) (P.ds 7) (P.kk 7) (ix2 a b)) (Fin.ext hr.symm) (Fin.ext he.symm)
  have hd := fun r s => ds_at h ⟨7, by decide⟩ r s
  have hk := fun s e => h.hkk ⟨7, by decide⟩ s e
  dsimp only at hd hk
  rw [e1, Fin.sum_univ_castSucc]
  pointwise [k0_pay2]
  simp only [dq_at h 7 (by decide), hd, hk, c_eighth, zero_coe, ← EReal.coe_mul, ← EReal.coe_add, zero_add, coe_sum]
  rfl

end Cert.AttnBwdIdeal.Kernel
-- ==== Proof.AttnHost.lean ====
/- What the attention gradient's host lines hand its kernel, on finite arguments. -/
module

public import proofs.«01_k».proof.Proof.Gen.AttnBwdIdeal.Frame
public import proofs.«01_k».proof.Proof.Line
public import proofs.«01_k».proof.Proof.AttnMath

@[expose] public section

set_option maxRecDepth 16384

noncomputable section

namespace Cert.AttnBwdIdeal.HostRows

open Cert.AttnBwdIdeal Cert.AttnBwdIdeal.Gen Idealize.ShloMosaic Idealize.ShloMosaic.TcCoe
open Idealize.SL.Sem Idealize.ShloMosaic.StableHlo Cert.Line Cert.Lift Cert.Attn.Math Cert.Attn.Math Cert.Attn.Math

theorem line : Line (hostOps0 (F := Ideal)) 4 := by
  unfold hostOps0
  repeat'
    refine ⟨?_, ?_⟩
    · first
        | (with_reducible apply step_nullary) <;> decide
        | (with_reducible apply step_unary) <;> decide
        | (with_reducible apply step_binary) <;> decide
        | (with_reducible apply step_reshape) <;> decide
  trivial

variable {Q D : Qs} {K V : Ks}
variable {E : Valuation τ sig (Elt Ideal)} (h : Solves (hostOps0 (F := Ideal)) 4 E)
  (hq : ∀ i a g e, (E main_arg0 : S16384x2x4x64.Idx → EReal) (ix4 i a g e) = ((Q i a g e : ℝ) : EReal))
  (hk : ∀ s a e, (E main_arg1 : S16384x2x64.Idx → EReal) (ix3 s a e) = ((K s a e : ℝ) : EReal))
  (hv : ∀ s a e, (E main_arg2 : S16384x2x64.Idx → EReal) (ix3 s a e) = ((V s a e : ℝ) : EReal))
  (hd : ∀ i a g e, (E main_arg3 : S16384x2x4x64.Idx → EReal) (ix4 i a g e) = ((D i a g e : ℝ) : EReal))
include h hq hk hv hd

omit h hq hk hv hd in
/-- The three parts of a column of the joined heads. -/
theorem split (a : Fin 2) (g : Fin 4) (e : Fin 64) (x : Fin 512) (hx : x.val = 256 * a.val + 64 * g.val + e.val) :
    (⟨x.val / 256, by omega⟩ : Fin 2) = a ∧ (⟨x.val / 64 % 4, by omega⟩ : Fin 4) = g ∧ (⟨x.val % 64, by omega⟩ : Fin 64) = e :=
  ⟨Fin.ext (by dsimp only; omega), Fin.ext (by dsimp only; omega), Fin.ext (by dsimp only; omega)⟩

omit h hq hk hv hd in
theorem c_eighth : Ideal.ofBits .f32 0x3E000000#32 = ((1 / 8 : ℝ) : EReal) := by
  simp [Ideal.ofBits, Ideal.ieee, -EReal.coe_mul]; norm_num
omit h hq hk hv hd in
theorem c_bot : Ideal.ofBits .f32 0xFF800000#32 = ⊥ := by
  simp [Ideal.ofBits, Ideal.ieee]

theorem v3 (a : Fin 2) (g : Fin 4) (i s : Fin 16384) :
    (E main_v3 : S2x4x16384x16384.Idx → EReal) (ix4 a g i s) = ((sco Q K a g i s : ℝ) : EReal) := by
  rw [h.binary main_v3 rfl, h.unary main_v2 rfl, h.nullary main_cst rfl, h.unary main_v1 rfl, h.binary main_v0 rfl]
  pointwise []
  simp only [hk, hq, c_eighth, ← EReal.coe_mul, coe_sum, sco]

theorem v4 (a : Fin 2) (g : Fin 4) (i : Fin 16384) : (E main_v4 : S2x4x16384.Idx → EReal) (ix3 a g i) = ((mx Q K a g i : ℝ) : EReal) := by
  rw [h.binary main_v4 rfl, h.nullary main_cst_0 rfl]
  pointwise []
  simp only [v3 h hq hk hv hd, c_bot, fold_max, mx]

theorem v8 (a : Fin 2) (g : Fin 4) (i s : Fin 16384) :
    (E main_v8 : S2x4x16384x16384.Idx → EReal) (ix4 a g i s) = ((ex Q K a g i s : ℝ) : EReal) := by
  rw [h.unary main_v8 rfl, h.binary main_v7 rfl, h.unary main_v6 rfl, h.unary main_v5 rfl]
  pointwise []
  simp only [v3 h hq hk hv hd, v4 h hq hk hv hd, ← EReal.coe_sub, Ideal.exp_coe, ex]

theorem v10 (a : Fin 2) (g : Fin 4) (i : Fin 16384) (o : Fin 1) :
    (E main_v10 : S2x4x16384x1.Idx → EReal) (ix4 a g i o) = ((len Q K a g i : ℝ) : EReal) := by
  rw [h.unary main_v10 rfl, h.binary main_v9 rfl, h.nullary main_cst_1 rfl]
  pointwise []
  simp only [v8 h hq hk hv hd, zero_coe, ← EReal.coe_add, zero_add, coe_sum, len]

theorem v13 (a : Fin 2) (g : Fin 4) (i : Fin 16384) (e : Fin 64) : (E main_v13 : S2x4x16384x64.Idx → EReal) (ix4 a g i e)
    = (((∑ s, ex Q K a g i s * V s a e) / len Q K a g i : ℝ) : EReal) := by
  rw [h.binary main_v13 rfl, h.unary main_v12 rfl, h.binary main_v11 rfl]
  pointwise []
  simp only [v8 h hq hk hv hd, v10 h hq hk hv hd, hv, ← EReal.coe_mul, coe_sum, div_coe_coe (len_ne _ _ _ _ _)]

/-- The rows' log-sums, spread over each head's columns. -/
theorem v36 (i : Fin 16384) (a : Fin 2) (g : Fin 4) (e : Fin 64) (x : Fin 512) (hx : x.val = 256 * a.val + 64 * g.val + e.val) :
    (E main_v36 : S16384x512.Idx → EReal) (ix2 i x) = ((lse Q K a g i : ℝ) : EReal) := by
  obtain ⟨ha, hg, -⟩ := split a g e x hx
  rw [h.reshape main_v36 rfl, h.unary main_v35 rfl, h.unary main_v16 rfl, h.binary main_v15 rfl, h.unary main_v5 rfl, h.unary main_v14 rfl]
  pointwise []
  rw [ha, hg, v4 h hq hk hv hd, v10 h hq hk hv hd, log_pos (len_pos _ _ _ _ _), ← EReal.coe_add, lse]

theorem v20 (i : Fin 16384) (a : Fin 2) (g : Fin 4) (o : Fin 1) :
    (E main_v20 : S16384x2x4x1.Idx → EReal) (ix4 i a g o) = ((del Q D K V a g i : ℝ) : EReal) := by
  rw [h.unary main_v20 rfl, h.binary main_v19 rfl, h.nullary main_cst_2 rfl, h.binary main_v18 rfl, h.unary main_v17 rfl]
  pointwise []
  simp only [v13 h hq hk hv hd, hd, zero_coe, ← EReal.coe_mul, ← EReal.coe_add, zero_add, coe_sum, del]

/-- The rows' sums of output times gradient, spread over each head's columns. -/
theorem v38 (i : Fin 16384) (a : Fin 2) (g : Fin 4) (e : Fin 64) (x : Fin 512) (hx : x.val = 256 * a.val + 64 * g.val + e.val) :
    (E main_v38 : S16384x512.Idx → EReal) (ix2 i x) = ((del Q D K V a g i : ℝ) : EReal) := by
  obtain ⟨ha, hg, -⟩ := split a g e x hx
  rw [h.reshape main_v38 rfl, h.unary main_v37 rfl]
  pointwise []
  rw [ha, hg, v20 h hq hk hv hd]

/-- The scaled queries. -/
theorem v24 (i : Fin 16384) (a : Fin 2) (g : Fin 4) (e : Fin 64) (x : Fin 512) (hx : x.val = 256 * a.val + 64 * g.val + e.val) :
    (E main_v24 : S16384x512.Idx → EReal) (ix2 i x) = ((Q i a g e * (1 / 8) : ℝ) : EReal) := by
  obtain ⟨ha, hg, he⟩ := split a g e x hx
  rw [h.unary main_v24 rfl, h.reshape main_v23 rfl, h.binary main_v22 rfl, h.unary main_v21 rfl, h.nullary main_cst_3 rfl]
  pointwise []
  rw [ha, hg, he, hq, c_eighth, ← EReal.coe_mul]

/-- The outputs' gradient. -/
theorem v34 (i : Fin 16384) (a : Fin 2) (g : Fin 4) (e : Fin 64) (x : Fin 512) (hx : x.val = 256 * a.val + 64 * g.val + e.val) :
    (E main_v34 : S16384x512.Idx → EReal) (ix2 i x) = ((D i a g e : ℝ) : EReal) := by
  obtain ⟨ha, hg, he⟩ := split a g e x hx
  rw [h.unary main_v34 rfl, h.reshape main_v33 rfl]
  pointwise []
  rw [ha, hg, he, hd]

/-- Position `s` of chunk `j`. -/
def pos (j : Fin 8) (s : Fin 2048) : Fin 16384 := ⟨2048 * j.val + s.val, by omega⟩

/-- The keys in chunks, transposed. -/
theorem v27 (a : Fin 2) (j : Fin 8) (e : Fin 64) (s : Fin 2048) :
    (E main_v27 : S2x8x64x2048.Idx → EReal) (ix4 a j e s) = ((K (pos j s) a e : ℝ) : EReal) := by
  rw [h.unary main_v27 rfl, h.unary main_v26 rfl, h.reshape main_v25 rfl]
  pointwise []
  rw [hk]
  exact congrArg (fun y => ((K y a e : ℝ) : EReal)) (Fin.ext (by dsimp only [pos]; omega))

/-- The values in chunks, transposed. -/
theorem v32 (a : Fin 2) (j : Fin 8) (e : Fin 80) (e' : Fin 64) (he : e.val = e'.val) (s : Fin 2048) :
    (E main_v32 : S2x8x80x2048.Idx → EReal) (ix4 a j e s) = ((V (pos j s) a e' : ℝ) : EReal) := by
  rw [h.unary main_v32 rfl, h.binary main_v31 rfl, h.unary main_v29 rfl, h.reshape main_v28 rfl]
  pointwise []
  rw [dif_pos (show e.val < 64 by omega), hv]
  exact congrArg₂ (fun y z => ((V y a z : ℝ) : EReal)) (Fin.ext (by dsimp only [pos]; omega)) (Fin.ext he)

/-- The keys as rows. -/
theorem v40 (a : Fin 2) (s : Fin 16384) (e : Fin 64) : (E main_v40 : S2x16384x64.Idx → EReal) (ix3 a s e) = ((K s a e : ℝ) : EReal) := by
  rw [h.unary main_v40 rfl, h.unary main_v39 rfl]
  pointwise []
  rw [hk]

end Cert.AttnBwdIdeal.HostRows
-- ==== Proof.AttnValue.lean ====
/- The arrays the attention gradient's kernel leaves, on finite arguments. -/
module

public import proofs.«01_k».proof.Proof.AttnKernel
public import proofs.«01_k».proof.Proof.AttnHost

@[expose] public section

set_option maxRecDepth 16384

noncomputable section

namespace Cert.AttnBwdIdeal.Arrays

open Cert.AttnBwdIdeal Cert.AttnBwdIdeal.Gen Cert.AttnBwdIdeal.Hand Idealize.ShloMosaic Idealize.ShloMosaic.TcCoe Idealize.SL.Sem
open Cert.Lift Cert.Attn.Math Cert.AttnBwdIdeal.Kernel Cert.Line
open Cert.AttnBwdIdeal.HostRows (pos)

variable (m : (ℓ : Loc nD τ sig) → Buf (Elt Ideal) ℓ)

theorem idx : ∀ t : Fin cfg0.N, win0_0.index t = ![t.val % 128, t.val / 128] ∧ win0_1.index t = ![t.val % 128, t.val / 128]
    ∧ win0_2.index t = ![t.val % 128, t.val / 128] ∧ win0_3.index t = ![t.val % 128, t.val / 128]
    ∧ win0_4.index t = ![t.val / 128, 0, 0, 0] ∧ win0_5.index t = ![t.val / 128, 0, 0] ∧ win0_6.index t = ![t.val / 128, 0, 0, 0]
    ∧ win0_7.index t = ![t.val % 128, t.val / 128] :=
  (by decide +kernel : ∀ t : Fin grid0.N, _)

theorem steps : ∀ t : Fin cfg0.N, (first (grid0.coords t) ↔ t.val % 128 = 0) ∧ (k0_cond2 (grid0.coords t) = 1#1 ↔ t.val % 128 = 127)
    ∧ (grid0.coords t 0).val = t.val / 128 :=
  (by decide +kernel : ∀ t : Fin grid0.N, _)

/-- The key block of a point. -/
def kv (t : Fin 256) : Fin 2 := ⟨t.val / 128, by omega⟩
/-- Row `i` of the tile of a point. -/
def row (t : Fin 256) (i : Fin 128) : Fin 16384 := ⟨128 * (t.val % 128) + i.val, by omega⟩
/-- Column `x` of the key block of a point. -/
def colg (t : Fin 256) (x : Fin 256) : Fin 512 := ⟨256 * (t.val / 128) + x.val, by omega⟩

variable (c : Dev nD)

theorem read0 (A : S16384x512.Idx → Elt Ideal .bf16) (t : Fin cfg0.N) (i : Fin 128) (x : Fin 256) :
    ((cfg0.win 0).blk t).view.read (Elt Ideal) A (ix2 i x) = A (ix2 (row t i) (colg t x)) := by
  unfold row colg
  blk_ext [idx t]
theorem in0 (t : Fin cfg0.N) (i : Fin 128) (x : Fin 256) : iblk m c 0 t (ix2 i x) = V m c main_v24 (ix2 (row t i) (colg t x)) :=
  read0 (V m c main_v24) t i x
theorem read1 (A : S16384x512.Idx → Elt Ideal .bf16) (t : Fin cfg0.N) (i : Fin 128) (x : Fin 256) :
    ((cfg0.win 1).blk t).view.read (Elt Ideal) A (ix2 i x) = A (ix2 (row t i) (colg t x)) := by
  unfold row colg
  blk_ext [idx t]
theorem in1 (t : Fin cfg0.N) (i : Fin 128) (x : Fin 256) : iblk m c 1 t (ix2 i x) = V m c main_v34 (ix2 (row t i) (colg t x)) :=
  read1 (V m c main_v34) t i x
theorem read2 (A : S16384x512.Idx → Elt Ideal .f32) (t : Fin cfg0.N) (i : Fin 128) (x : Fin 256) :
    ((cfg0.win 2).blk t).view.read (Elt Ideal) A (ix2 i x) = A (ix2 (row t i) (colg t x)) := by
  unfold row colg
  blk_ext [idx t]
theorem in2 (t : Fin cfg0.N) (i : Fin 128) (x : Fin 256) : iblk m c 2 t (ix2 i x) = V m c main_v36 (ix2 (row t i) (colg t x)) :=
  read2 (V m c main_v36) t i x
theorem read3 (A : S16384x512.Idx → Elt Ideal .f32) (t : Fin cfg0.N) (i : Fin 128) (x : Fin 256) :
    ((cfg0.win 3).blk t).view.read (Elt Ideal) A (ix2 i x) = A (ix2 (row t i) (colg t x)) := by
  unfold row colg
  blk_ext [idx t]
theorem in3 (t : Fin cfg0.N) (i : Fin 128) (x : Fin 256) : iblk m c 3 t (ix2 i x) = V m c main_v38 (ix2 (row t i) (colg t x)) :=
  read3 (V m c main_v38) t i x
theorem read4 (A : S2x8x64x2048.Idx → Elt Ideal .bf16) (t : Fin cfg0.N) (o : Fin 1) (j : Fin 8) (e : Fin 64) (s : Fin 2048) :
    ((cfg0.win 4).blk t).view.read (Elt Ideal) A (ix4 o j e s) = A (ix4 (kv t) j e s) := by
  unfold kv
  blk_ext [idx t]
theorem in4 (t : Fin cfg0.N) (o : Fin 1) (j : Fin 8) (e : Fin 64) (s : Fin 2048) : iblk m c 4 t (ix4 o j e s) = V m c main_v27 (ix4 (kv t) j e s) :=
  read4 (V m c main_v27) t o j e s
theorem read5 (A : S2x16384x64.Idx → Elt Ideal .bf16) (t : Fin cfg0.N) (o : Fin 1) (s : Fin 16384) (e : Fin 64) :
    ((cfg0.win 5).blk t).view.read (Elt Ideal) A (ix3 o s e) = A (ix3 (kv t) s e) := by
  unfold kv
  blk_ext [idx t]
theorem in5 (t : Fin cfg0.N) (o : Fin 1) (s : Fin 16384) (e : Fin 64) : iblk m c 5 t (ix3 o s e) = V m c main_v40 (ix3 (kv t) s e) :=
  read5 (V m c main_v40) t o s e
theorem read6 (A : S2x8x80x2048.Idx → Elt Ideal .bf16) (t : Fin cfg0.N) (o : Fin 1) (j : Fin 8) (e : Fin 80) (s : Fin 2048) :
    ((cfg0.win 6).blk t).view.read (Elt Ideal) A (ix4 o j e s) = A (ix4 (kv t) j e s) := by
  unfold kv
  blk_ext [idx t]
theorem in6 (t : Fin cfg0.N) (o : Fin 1) (j : Fin 8) (e : Fin 80) (s : Fin 2048) : iblk m c 6 t (ix4 o j e s) = V m c main_v32 (ix4 (kv t) j e s) :=
  read6 (V m c main_v32) t o j e s

/-! ## Rearranging the sums -/

theorem sum_rows (f : Fin 4 → Fin 128 → ℝ) : ∑ r, f (hd r) (tr r) = ∑ x, ∑ g, f g x := by
  rw [Finset.sum_comm, ← Fintype.sum_prod_type' f, ← Equiv.sum_comp (finProdFinEquiv (m := 4) (n := 128)) fun r : Fin 512 => f (hd r) (tr r)]
  refine Finset.sum_congr rfl fun p _ => congrArg₂ f (Fin.ext ?_) (Fin.ext ?_)
  · show (p.2.val + 128 * p.1.val) / 128 = p.1.val; omega
  · show (p.2.val + 128 * p.1.val) % 128 = p.2.val; omega

theorem sum_tiles (f : Fin 16384 → ℝ) : ∑ i : Fin 128, ∑ x : Fin 128, f ⟨128 * i.val + x.val, by omega⟩ = ∑ i, f i := by
  rw [← Equiv.sum_comp (finProdFinEquiv (m := 128) (n := 128)) f, Fintype.sum_prod_type]
  exact Finset.sum_congr rfl fun i _ => Finset.sum_congr rfl fun x _ => congrArg f (Fin.ext (Nat.add_comm _ _))

theorem sum_chunks (f : Fin 16384 → ℝ) : ∑ j : Fin 8, ∑ s : Fin 2048, f (pos j s) = ∑ i, f i := by
  rw [← Equiv.sum_comp (finProdFinEquiv (m := 8) (n := 2048)) f, Fintype.sum_prod_type]
  exact Finset.sum_congr rfl fun i _ => Finset.sum_congr rfl fun x _ => congrArg f (Fin.ext (Nat.add_comm _ _))

section Finite

variable {Q D : Qs} {K W : Ks}
  (hq : ∀ i a g e, m ((c : Thread nD τ).loc main_arg0) (ix4 i a g e) = ((Q i a g e : ℝ) : EReal))
  (hk : ∀ s a e, m ((c : Thread nD τ).loc main_arg1) (ix3 s a e) = ((K s a e : ℝ) : EReal))
  (hv : ∀ s a e, m ((c : Thread nD τ).loc main_arg2) (ix3 s a e) = ((W s a e : ℝ) : EReal))
  (hd' : ∀ i a g e, m ((c : Thread nD τ).loc main_arg3) (ix4 i a g e) = ((D i a g e : ℝ) : EReal))
include hq hk hv hd'

/-- The reals a point works on. -/
theorem real (t : Fin cfg0.N) : Real (P m c t) (fun r e => Q (row t (tr r)) (kv t) (hd r) e * (1 / 8)) (fun r e => D (row t (tr r)) (kv t) (hd r) e)
    (fun r => lse Q K (kv t) (hd r) (row t (tr r))) (fun r => del Q D K W (kv t) (hd r) (row t (tr r)))
    (fun j s e => K (pos j s) (kv t) e) (fun j s e => W (pos j s) (kv t) e) := by
  have h := solves_after (StableHlo.launchContents m c) (HostRows.line)
  have h0 := fun i a g e => (congrFun (V_main_arg0 m c) (ix4 i a g e)).trans (hq i a g e)
  have h1 := fun s a e => (congrFun (V_main_arg1 m c) (ix3 s a e)).trans (hk s a e)
  have h2 := fun s a e => (congrFun (V_main_arg2 m c) (ix3 s a e)).trans (hv s a e)
  have h3 := fun i a g e => (congrFun (V_main_arg3 m c) (ix4 i a g e)).trans (hd' i a g e)
  have hc : ∀ (r : Fin 512) (e : Fin 64), (colg t (col (hd r) e)).val = 256 * (kv t).val + 64 * (hd r).val + e.val := fun r e => by
    dsimp only [colg, col, kv]; omega
  refine ⟨fun r e => ?_, fun r e => ?_, fun e r => ?_, fun e r => ?_, fun r => ?_, fun r => ?_, fun j e s => ?_, fun j e s => ?_, fun j s e => ?_⟩
  · exact (q_at r e).trans ((in0 m c t _ _).trans (HostRows.v24 h h0 h1 h2 h3 _ _ _ _ _ (hc r e)))
  · exact (d_at r e).trans ((in1 m c t _ _).trans (HostRows.v34 h h0 h1 h2 h3 _ _ _ _ _ (hc r e)))
  · exact (qt_at e r).trans ((in0 m c t _ _).trans (HostRows.v24 h h0 h1 h2 h3 _ _ _ _ _ (hc r e)))
  · exact (dt_at e r).trans ((in1 m c t _ _).trans (HostRows.v34 h h0 h1 h2 h3 _ _ _ _ _ (hc r e)))
  · exact (L_at r).trans ((in2 m c t _ _).trans (HostRows.v36 h h0 h1 h2 h3 _ _ _ _ _ (hc r 0)))
  · exact (D_at r).trans ((in3 m c t _ _).trans (HostRows.v38 h h0 h1 h2 h3 _ _ _ _ _ (hc r 0)))
  · have hj : Fin.ofNat 8 j.val = j := Fin.ext (Nat.mod_eq_of_lt j.isLt)
    show ktOf (iblk m c 4 t) j.val (ix4 0 0 e s) = _
    unfold ktOf
    rw [hj]
    exact (in4 m c t 0 j e s).trans (HostRows.v27 h h0 h1 h2 h3 _ _ _ _)
  · have hj : Fin.ofNat 8 j.val = j := Fin.ext (Nat.mod_eq_of_lt j.isLt)
    show vtOf (iblk m c 6 t) j.val (ix4 0 0 e s) = _
    unfold vtOf
    rw [hj]
    exact (in6 m c t 0 j _ s).trans (HostRows.v32 h h0 h1 h2 h3 _ _ _ _ rfl _)
  · have hj : Fin.ofNat 16384 (2048 * j.val + s.val) = pos j s := Fin.ext (Nat.mod_eq_of_lt (by omega))
    show kkOf (iblk m c 5 t) j.val (ix3 0 s e) = _
    unfold kkOf
    show iblk m c 5 t (ix3 (0 : Fin 1) (Fin.ofNat 16384 (2048 * j.val + s.val)) e) = _
    rw [hj]
    exact (in5 m c t 0 _ e).trans (HostRows.v40 h h0 h1 h2 h3 _ _ _)

omit hq hk hv hd' in
/-- A point's weight is the attention's. -/
theorem wt_eq (t : Fin 256) (j : Fin 8) (r : Fin 512) (s : Fin 2048) :
    Cert.AttnBwdIdeal.Kernel.wt (fun r e => Q (row t (tr r)) (kv t) (hd r) e * (1 / 8)) (fun r => lse Q K (kv t) (hd r) (row t (tr r)))
      (fun j s e => K (pos j s) (kv t) e) j r s = Cert.Attn.Math.wt Q K (kv t) (hd r) (row t (tr r)) (pos j s) := by
  unfold Cert.AttnBwdIdeal.Kernel.wt
  rw [← exp_lse]
  refine congrArg (fun x => Real.exp (x - _)) ?_
  unfold sco
  rw [Finset.sum_mul]
  exact Finset.sum_congr rfl fun e _ => by ring

omit hq hk hv hd' in
/-- A point's gradient at a score is the attention's. -/
theorem dsc_eq (t : Fin 256) (j : Fin 8) (r : Fin 512) (s : Fin 2048) :
    dsc (fun r e => Q (row t (tr r)) (kv t) (hd r) e * (1 / 8)) (fun r e => D (row t (tr r)) (kv t) (hd r) e)
      (fun r => lse Q K (kv t) (hd r) (row t (tr r))) (fun r => del Q D K W (kv t) (hd r) (row t (tr r)))
      (fun j s e => K (pos j s) (kv t) e) (fun j s e => W (pos j s) (kv t) e) j r s = Cert.Attn.Math.ds Q D K W (kv t) (hd r) (row t (tr r)) (pos j s) := by
  unfold dsc
  rw [wt_eq]
  rfl

omit hq hk hv hd' in
/-- The queries' gradient at a column of the joined heads. -/
def dqAt (Q D : Qs) (K W : Ks) (i : Fin 16384) (x : Fin 512) : ℝ := dq Q D K W ⟨x.val / 256, by omega⟩ ⟨x.val / 64 % 4, by omega⟩ i ⟨x.val % 64, by omega⟩

/-- The queries' gradient. -/
theorem arr7 : (dats m 0 c).arrAt 7 cfg0.N = (fun y => ((dqAt Q D K W (y 0) (y 1) : ℝ) : EReal) : S16384x512.Idx → EReal) := by
  refine (dats m 0 c).arrAt_eq_of_covers 7 _ (by decide +kernel) fun t _ (y : S128x256.Idx) => ?_
  blk_simp
  have e : ((View.whole main_v41_0).slice (win0_7.rect t)).emb y = ix2 (row t (y 0)) (colg t (y 1)) := by
    unfold row colg
    blk_ext [idx t]
  rw [after0_7, e]
  idx_vars y
  show (P m c t).out (ix2 y0 y1) = ((dqAt Q D K W (row t y0) (colg t y1) : ℝ) : EReal)
  let r : Fin 512 := ⟨128 * (y1.val / 64) + y0.val, by omega⟩
  let e' : Fin 64 := ⟨y1.val % 64, by omega⟩
  rw [out_at (real m c hq hk hv hd' t) y0 y1 r e' rfl rfl]
  have h1 : (⟨(colg t y1).val / 256, by omega⟩ : Fin 2) = kv t := Fin.ext (by dsimp only [colg, kv]; omega)
  have h2 : (⟨(colg t y1).val / 64 % 4, by omega⟩ : Fin 4) = hd r := Fin.ext (by dsimp only [colg, hd, r]; omega)
  have h3 : (⟨(colg t y1).val % 64, by omega⟩ : Fin 64) = e' := Fin.ext (by dsimp only [colg, e']; omega)
  have h4 : row t y0 = row t (tr r) := congrArg (row t) (Fin.ext (by dsimp only [tr, r]; omega))
  unfold dqAt
  rw [h1, h2, h3, h4]
  unfold dq
  rw [← sum_chunks]
  exact congrArg (fun z : ℝ => ((z * (1 / 8) : ℝ) : EReal)) (Finset.sum_congr rfl fun j _ => Finset.sum_congr rfl fun s _ =>
    congrArg (· * _) (dsc_eq t j r s))

/-! ## The accumulators -/

/-- What a point adds to the keys' gradient. -/
def addK (Q D : Qs) (K W : Ks) (t : Fin 256) (j : Fin 8) (e : Fin 64) (s : Fin 2048) : ℝ :=
  ∑ r, Q (row t (tr r)) (kv t) (hd r) e * (1 / 8) * Cert.Attn.Math.ds Q D K W (kv t) (hd r) (row t (tr r)) (pos j s)
/-- What a point adds to the values' gradient. -/
def addV (Q D : Qs) (K : Ks) (t : Fin 256) (j : Fin 8) (e : Fin 64) (s : Fin 2048) : ℝ :=
  ∑ r, D (row t (tr r)) (kv t) (hd r) e * Cert.Attn.Math.wt Q K (kv t) (hd r) (row t (tr r)) (pos j s)

theorem dk_step (t : Fin cfg0.N) (old : S8x64x2048.Idx → Elt Ideal .f32) {o : ℝ} (j : Fin 8) (e : Fin 64) (s : Fin 2048)
    (ho : old (ix3 j e s) = ((o : ℝ) : EReal)) : upd 8 (P m c t).dk old (ix3 j e s) = ((o + addK Q D K W t j e s : ℝ) : EReal) := by
  refine (if_pos j.isLt).trans ((dk_at (real m c hq hk hv hd' t) j (slab old j) e s ho).trans ?_)
  exact congrArg (fun z : ℝ => ((o + z : ℝ) : EReal)) (Finset.sum_congr rfl fun r _ => congrArg (_ * ·) (dsc_eq t j r s))

theorem dv_step (t : Fin cfg0.N) (old : S8x64x2048.Idx → Elt Ideal .f32) {o : ℝ} (j : Fin 8) (e : Fin 64) (s : Fin 2048)
    (ho : old (ix3 j e s) = ((o : ℝ) : EReal)) : upd 8 (P m c t).dv old (ix3 j e s) = ((o + addV Q D K t j e s : ℝ) : EReal) := by
  refine (if_pos j.isLt).trans ((dv_at (real m c hq hk hv hd' t) j (slab old j) e s ho).trans ?_)
  exact congrArg (fun z : ℝ => ((o + z : ℝ) : EReal)) (Finset.sum_congr rfl fun r _ => congrArg (_ * ·) (wt_eq t j r s))

/-- Point `i` of key block `a`. -/
def pt (a : Fin 2) (i : ℕ) (hi : i < 128) : Fin 256 := ⟨128 * a.val + i, by omega⟩

theorem D10_at (a : Fin 2) (j : Fin 8) (e : Fin 64) (s : Fin 2048) (n : ℕ) (hn : n < 128) : D10 m c (128 * a.val + n + 1) (ix3 j e s)
    = ((∑ i : Fin (n + 1), addK Q D K W (pt a i.val (by omega)) j e s : ℝ) : EReal) := by
  have hf := (steps (pt a n hn)).1
  refine (congrFun (D10_succ m c (pt a n hn)) (ix3 j e s)).trans ?_
  induction n with
  | zero =>
    rw [if_pos (hf.mpr (by dsimp only [pt]; omega)), dk_step m c hq hk hv hd' (pt a 0 hn) _ (o := 0) j e s (by pointwise [k0_pay23]; rfl), Fin.sum_univ_one, zero_add]
    rfl
  | succ n ih =>
    rw [if_neg (fun h => by have := hf.mp h; dsimp only [pt] at this; omega), Fin.sum_univ_castSucc]
    refine dk_step m c hq hk hv hd' (pt a (n + 1) hn) _ j e s ?_
    exact (congrFun (D10_succ m c (pt a n (by omega))) (ix3 j e s)).trans (ih (by omega) (steps (pt a n (by omega))).1)

theorem D11_at (a : Fin 2) (j : Fin 8) (e : Fin 64) (s : Fin 2048) (n : ℕ) (hn : n < 128) : D11 m c (128 * a.val + n + 1) (ix3 j e s)
    = ((∑ i : Fin (n + 1), addV Q D K (pt a i.val (by omega)) j e s : ℝ) : EReal) := by
  have hf := (steps (pt a n hn)).1
  refine (congrFun (D11_succ m c (pt a n hn)) (ix3 j e s)).trans ?_
  induction n with
  | zero =>
    rw [if_pos (hf.mpr (by dsimp only [pt]; omega)), dv_step m c hq hk hv hd' (pt a 0 hn) _ (o := 0) j e s (by pointwise [k0_pay24]; rfl), Fin.sum_univ_one, zero_add]
    rfl
  | succ n ih =>
    rw [if_neg (fun h => by have := hf.mp h; dsimp only [pt] at this; omega), Fin.sum_univ_castSucc]
    refine dv_step m c hq hk hv hd' (pt a (n + 1) hn) _ j e s ?_
    exact (congrFun (D11_succ m c (pt a n (by omega))) (ix3 j e s)).trans (ih (by omega) (steps (pt a n (by omega))).1)

omit hq hk hv hd' in
theorem addK_sum (a : Fin 2) (j : Fin 8) (e : Fin 64) (s : Fin 2048) :
    ∑ i : Fin 128, addK Q D K W (pt a i.val i.isLt) j e s = dk Q D K W a (pos j s) e := by
  unfold dk
  rw [← sum_tiles]
  refine Finset.sum_congr rfl fun i _ => ?_
  have hk : kv (pt a i.val i.isLt) = a := Fin.ext (by dsimp only [kv, pt]; omega)
  have hr : ∀ x, row (pt a i.val i.isLt) x = ⟨128 * i.val + x.val, by omega⟩ := fun x => Fin.ext (by dsimp only [row, pt]; omega)
  unfold addK
  rw [hk]
  simp only [hr]
  exact sum_rows fun g x => Q ⟨128 * i.val + x.val, by omega⟩ a g e * (1 / 8) * Cert.Attn.Math.ds Q D K W a g ⟨128 * i.val + x.val, by omega⟩ (pos j s)

omit hq hk hv hd' in
theorem addV_sum (a : Fin 2) (j : Fin 8) (e : Fin 64) (s : Fin 2048) :
    ∑ i : Fin 128, addV Q D K (pt a i.val i.isLt) j e s = dv Q D K a (pos j s) e := by
  unfold dv
  rw [← sum_tiles]
  refine Finset.sum_congr rfl fun i _ => ?_
  have hk : kv (pt a i.val i.isLt) = a := Fin.ext (by dsimp only [kv, pt]; omega)
  have hr : ∀ x, row (pt a i.val i.isLt) x = ⟨128 * i.val + x.val, by omega⟩ := fun x => Fin.ext (by dsimp only [row, pt]; omega)
  unfold addV
  rw [hk]
  simp only [hr]
  exact sum_rows fun g x => D ⟨128 * i.val + x.val, by omega⟩ a g e * Cert.Attn.Math.wt Q K a g ⟨128 * i.val + x.val, by omega⟩ (pos j s)

/-! ## The planes -/

omit hq hk hv hd' in
theorem plane10 (b : Fin 2) (j : Fin 8) (e : Fin 64) (s : Fin 2048) (n : ℕ) (hn : n ≤ 256) (hb : 128 * (b.val + 1) ≤ n) :
    G10 m c n (ix4 b j e s) = D10 m c (128 * (b.val + 1)) (ix3 j e s) := by
  induction n with
  | zero => omega
  | succ n ih =>
    have hs := steps (⟨n, hn⟩ : Fin 256)
    refine (congrFun (G10_succ m c (⟨n, hn⟩ : Fin 256)) (ix4 b j e s)).trans ?_
    by_cases h : n % 128 = 127
    · rw [if_pos (hs.2.1.mpr h)]
      by_cases h' : b.val = n / 128
      · have e1 : n + 1 = 128 * (b.val + 1) := by omega
        refine (if_pos (show ((ix4 b j e s : S2x8x64x2048.Idx) 0).val = _ from h'.trans hs.2.2.symm)).trans ?_
        rw [← e1]; rfl
      · exact (if_neg (fun q => h' ((show b.val = _ from q).trans hs.2.2))).trans (ih (by omega) (by omega))
    · rw [if_neg (fun q => h (hs.2.1.mp q))]
      exact ih (by omega) (by omega)

omit hq hk hv hd' in
theorem plane11 (b : Fin 2) (j : Fin 8) (e : Fin 64) (s : Fin 2048) (n : ℕ) (hn : n ≤ 256) (hb : 128 * (b.val + 1) ≤ n) :
    G11 m c n (ix4 b j e s) = D11 m c (128 * (b.val + 1)) (ix3 j e s) := by
  induction n with
  | zero => omega
  | succ n ih =>
    have hs := steps (⟨n, hn⟩ : Fin 256)
    refine (congrFun (G11_succ m c (⟨n, hn⟩ : Fin 256)) (ix4 b j e s)).trans ?_
    by_cases h : n % 128 = 127
    · rw [if_pos (hs.2.1.mpr h)]
      by_cases h' : b.val = n / 128
      · have e1 : n + 1 = 128 * (b.val + 1) := by omega
        refine (if_pos (show ((ix4 b j e s : S2x8x64x2048.Idx) 0).val = _ from h'.trans hs.2.2.symm)).trans ?_
        rw [← e1]; rfl
      · exact (if_neg (fun q => h' ((show b.val = _ from q).trans hs.2.2))).trans (ih (by omega) (by omega))
    · rw [if_neg (fun q => h (hs.2.1.mp q))]
      exact ih (by omega) (by omega)

/-- The keys' gradient, in chunks. -/
theorem arrK (a : Fin 2) (j : Fin 8) (e : Fin 64) (s : Fin 2048) : G10 m c cfg0.N (ix4 a j e s) = ((dk Q D K W a (pos j s) e : ℝ) : EReal) := by
  refine (plane10 m c a j e s 256 le_rfl (by omega)).trans ?_
  rw [← addK_sum]
  exact D10_at m c hq hk hv hd' a j e s 127 (by decide)

/-- The values' gradient, in chunks. -/
theorem arrV (a : Fin 2) (j : Fin 8) (e : Fin 64) (s : Fin 2048) : G11 m c cfg0.N (ix4 a j e s) = ((dv Q D K a (pos j s) e : ℝ) : EReal) := by
  refine (plane11 m c a j e s 256 le_rfl (by omega)).trans ?_
  rw [← addV_sum]
  exact D11_at m c hq hk hv hd' a j e s 127 (by decide)

end Finite

end Cert.AttnBwdIdeal.Arrays
-- ==== Proof.AttnClaim.lean ====
/- The attention gradient's kernel and its reference end with the same results on finite arguments. -/
module

public import proofs.«01_k».proof.Defs
public import proofs.«01_k».proof.Proof.AttnFinite
public import proofs.«01_k».proof.Proof.AttnRef
public import proofs.«01_k».proof.Proof.AttnValue

@[expose] public section

set_option maxRecDepth 16384

noncomputable section

namespace Cert.Proof

open Idealize.ShloMosaic Idealize.ShloMosaic.TcCoe Idealize.SL.Sem Cert.Lift Cert.AttnBwdIdeal.Hand

/-- Rank-four arrays that agree entry by entry are equal. -/
theorem ext4 {a b c d : ℕ} {α : Type*} {f g : (⟨4, ![a, b, c, d]⟩ : Shape).Idx → α}
    (h : ∀ i j k l, f (ix4 i j k l) = g (ix4 i j k l)) : f = g := by
  funext i
  rw [eq_ix4 i]
  exact h _ _ _ _

theorem attn_algebraic [Cert.Pre_finite_attn.Facts] : Cert.algebraic_AttnBwdIdeal_AttnBwdRefIdeal_pre_finite_attn := by
  intro m g m' g' hpre hagree
  refine ⟨fun c => (dats m 0 c).arrAt 7 Cert.AttnBwdIdeal.cfg0.N, fun c => G10 m c Cert.AttnBwdIdeal.cfg0.N,
    fun c => G11 m c Cert.AttnBwdIdeal.cfg0.N, ?_, ?_⟩
  · exact (θ_run Cert.AttnBwdIdeal.defs _ _).mono (fun _ h c => ⟨(h.1.toR c).1 7,
      (h.1.written c (by decide : Cert.AttnBwdIdeal.main_v41_1 ∈ R0)).trans (G_1 m c),
      (h.1.written c (by decide : Cert.AttnBwdIdeal.main_v41_2 ∈ R0)).trans (G_2 m c),
      ((h.1.toR c).2 Cert.AttnBwdIdeal.main_arg0 (Finset.mem_sdiff.mpr ⟨Pipeline.mem_restRefs_of Cert.AttnBwdIdeal.main_arg0 (by decide) (by decide), by decide⟩)).trans
        (Cert.AttnBwdIdeal.Gen.V_main_arg0 m c),
      ((h.1.toR c).2 Cert.AttnBwdIdeal.main_arg1 (Finset.mem_sdiff.mpr ⟨Pipeline.mem_restRefs_of Cert.AttnBwdIdeal.main_arg1 (by decide) (by decide), by decide⟩)).trans
        (Cert.AttnBwdIdeal.Gen.V_main_arg1 m c),
      ((h.1.toR c).2 Cert.AttnBwdIdeal.main_arg2 (Finset.mem_sdiff.mpr ⟨Pipeline.mem_restRefs_of Cert.AttnBwdIdeal.main_arg2 (by decide) (by decide), by decide⟩)).trans
        (Cert.AttnBwdIdeal.Gen.V_main_arg2 m c),
      ((h.1.toR c).2 Cert.AttnBwdIdeal.main_arg3 (Finset.mem_sdiff.mpr ⟨Pipeline.mem_restRefs_of Cert.AttnBwdIdeal.main_arg3 (by decide) (by decide), by decide⟩)).trans
        (Cert.AttnBwdIdeal.Gen.V_main_arg3 m c)⟩) (run_main m g)
  · refine (θ_run _ _ _).mono (fun r hr c => ?_) (Cert.AttnBwdRefIdeal.Ends.run m' g')
    obtain ⟨h0, h1, h2, h3⟩ := Cert.Pre_finite_attn.finite_of_fn (hpre c)
    obtain ⟨e0, e1, e2, e3⟩ := hagree c
    have h := Cert.AttnBwdRefIdeal.Ends.solves m' c
    have hq := fun i a g e => (congrFun ((Cert.AttnBwdRefIdeal.Ends.arg m' c Cert.AttnBwdRefIdeal.main_arg0 (by decide)).trans e0) (ix4 i a g e)).trans (h0 (ix4 i a g e))
    have hk := fun s a e => (congrFun ((Cert.AttnBwdRefIdeal.Ends.arg m' c Cert.AttnBwdRefIdeal.main_arg1 (by decide)).trans e1) (ix3 s a e)).trans (h1 (ix3 s a e))
    have hv := fun s a e => (congrFun ((Cert.AttnBwdRefIdeal.Ends.arg m' c Cert.AttnBwdRefIdeal.main_arg2 (by decide)).trans e2) (ix3 s a e)).trans (h2 (ix3 s a e))
    have hd := fun i a g e => (congrFun ((Cert.AttnBwdRefIdeal.Ends.arg m' c Cert.AttnBwdRefIdeal.main_arg3 (by decide)).trans e3) (ix4 i a g e)).trans (h3 (ix4 i a g e))
    refine ⟨(hr c _).trans ?_, (hr c _).trans ?_, (hr c _).trans ?_, (hr c _).trans (Cert.AttnBwdRefIdeal.Ends.arg m' c _ (by decide)),
      (hr c _).trans (Cert.AttnBwdRefIdeal.Ends.arg m' c _ (by decide)), (hr c _).trans (Cert.AttnBwdRefIdeal.Ends.arg m' c _ (by decide)),
      (hr c _).trans (Cert.AttnBwdRefIdeal.Ends.arg m' c _ (by decide))⟩
    · refine Eq.trans (ext2 fun i x => ?_) (Cert.AttnBwdIdeal.Arrays.arr7 m c (fun i a g e => h0 (ix4 i a g e)) (fun s a e => h1 (ix3 s a e)) (fun s a e => h2 (ix3 s a e)) (fun i a g e => h3 (ix4 i a g e))).symm
      exact Cert.AttnBwdRefIdeal.Rows.v57 h hq hk hv hd i ⟨x.val / 256, by omega⟩ ⟨x.val / 64 % 4, by omega⟩ ⟨x.val % 64, by omega⟩ x (by dsimp only; omega)
    · refine ext4 fun a j e s => Eq.trans ?_ (Cert.AttnBwdIdeal.Arrays.arrK m c (fun i a g e => h0 (ix4 i a g e)) (fun s a e => h1 (ix3 s a e)) (fun s a e => h2 (ix3 s a e)) (fun i a g e => h3 (ix4 i a g e)) a j e s).symm
      exact Cert.AttnBwdRefIdeal.Rows.v59 h hq hk hv hd a j e s
    · refine ext4 fun a j e s => Eq.trans ?_ (Cert.AttnBwdIdeal.Arrays.arrV m c (fun i a g e => h0 (ix4 i a g e)) (fun s a e => h1 (ix3 s a e)) (fun s a e => h2 (ix3 s a e)) (fun i a g e => h3 (ix4 i a g e)) a j e s).symm
      exact Cert.AttnBwdRefIdeal.Rows.v61 h hq hk hv hd a j e s

end Cert.Proof

end
-- ==== Proof.lean ====
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleIdeal.Value
public import proofs.«01_k».proof.Proof.Gen.PleRefIdeal.Run
public import proofs.«01_k».proof.Proof.PleClaim
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.Pre_finite_ple
public import proofs.«01_k».proof.Proof.Gen.Pre_finite_attn
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdIdeal.Value
public import proofs.«01_k».proof.Proof.Gen.MlpBwdRefIdeal
public import proofs.«01_k».proof.Proof.Gen.MlpBwdRefIdeal.Run
public import proofs.«01_k».proof.Proof.Gen.Pre_finite_mlp
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.Pre_finite_out
public import proofs.«01_k».proof.Proof.MlpClaim
public import proofs.«01_k».proof.Proof.OutClaim
public import proofs.«01_k».proof.Proof.InpSame
public import proofs.«01_k».proof.Proof.InpClaim
public import proofs.«01_k».proof.Proof.Gen.InpBwd
public import proofs.«01_k».proof.Proof.Gen.InpBwd.Skeleton
public import proofs.«01_k».proof.Proof.Gen.InpBwd.Launch
public import proofs.«01_k».proof.Proof.Gen.InpBwdIdeal
public import proofs.«01_k».proof.Proof.Gen.InpBwdIdeal.Skeleton
public import proofs.«01_k».proof.Proof.Gen.InpBwdIdeal.Launch
public import proofs.«01_k».proof.Proof.Gen.InpBwdRefIdeal
public import proofs.«01_k».proof.Proof.Gen.InpBwdRefIdeal.Run
public import proofs.«01_k».proof.Proof.Gen.Pre_finite_inp
public import proofs.«01_k».proof.Proof.Gen.Dbias
public import proofs.«01_k».proof.Proof.Gen.Dbias.Skeleton
public import proofs.«01_k».proof.Proof.Gen.Dbias.Launch
public import proofs.«01_k».proof.Proof.Gen.Dbias.Loops
public import proofs.«01_k».proof.Proof.Gen.Dbias.Points
public import proofs.«01_k».proof.Proof.Gen.Dbias.Frame
public import proofs.«01_k».proof.Proof.Gen.DbiasIdeal
public import proofs.«01_k».proof.Proof.Gen.DbiasIdeal.Skeleton
public import proofs.«01_k».proof.Proof.Gen.DbiasIdeal.Launch
public import proofs.«01_k».proof.Proof.Gen.DbiasIdeal.Loops
public import proofs.«01_k».proof.Proof.Gen.DbiasIdeal.Points
public import proofs.«01_k».proof.Proof.Gen.DbiasIdeal.Frame
public import proofs.«01_k».proof.Proof.Gen.DbiasIdeal.Value
public import proofs.«01_k».proof.Proof.Gen.DbiasRefIdeal
public import proofs.«01_k».proof.Proof.Gen.DbiasRefIdeal.Run
public import proofs.«01_k».proof.Proof.Gen.BandDq
public import proofs.«01_k».proof.Proof.Gen.BandDq.Skeleton
public import proofs.«01_k».proof.Proof.Gen.BandDq.Launch
public import proofs.«01_k».proof.Proof.Gen.BandDq.Points
public import proofs.«01_k».proof.Proof.Gen.BandDq.Frame
public import proofs.«01_k».proof.Proof.Gen.BandDqIdeal
public import proofs.«01_k».proof.Proof.Gen.BandDqIdeal.Skeleton
public import proofs.«01_k».proof.Proof.Gen.BandDqIdeal.Launch
public import proofs.«01_k».proof.Proof.Gen.BandDqIdeal.Points
public import proofs.«01_k».proof.Proof.Gen.BandDqIdeal.Frame
public import proofs.«01_k».proof.Proof.Gen.BandDkv
public import proofs.«01_k».proof.Proof.Gen.BandDkv.Skeleton
public import proofs.«01_k».proof.Proof.Gen.BandDkv.Launch
public import proofs.«01_k».proof.Proof.Gen.BandDkv.Points
public import proofs.«01_k».proof.Proof.Gen.BandDkv.Frame
public import proofs.«01_k».proof.Proof.Gen.BandDkvIdeal
public import proofs.«01_k».proof.Proof.Gen.BandDkvIdeal.Skeleton
public import proofs.«01_k».proof.Proof.Gen.BandDkvIdeal.Launch
public import proofs.«01_k».proof.Proof.Gen.BandDkvIdeal.Points
public import proofs.«01_k».proof.Proof.Gen.BandDkvIdeal.Frame
public import proofs.«01_k».proof.Proof.Gen.BandDqRefIdeal
public import proofs.«01_k».proof.Proof.Gen.BandDqRefIdeal.Run
public import proofs.«01_k».proof.Proof.Gen.BandDkvRefIdeal
public import proofs.«01_k».proof.Proof.Gen.BandDkvRefIdeal.Run
public import proofs.«01_k».proof.Proof.DbiasClaim
public import proofs.«01_k».proof.Proof.AttnClaim
public import Idealize.ShloMosaic.Adequacy
public import Idealize.ShloMosaic.Init

@[expose] public section

noncomputable section

namespace Cert.Proof

open Idealize.ShloMosaic Idealize.SL.Sem

theorem ple_ref_frame : Cert.quiescent_PleRefIdeal := fun m ρ _ =>
  (θ_run Cert.PleRefIdeal.defs _ _).mono (fun r h => ⟨fun c => by
      refine ⟨?_, ?_, ?_, ?_, ?_, ?_⟩ <;> exact (h c _).trans (Cert.PleRefIdeal.Ends.arg m c _ (by decide)),
    sem_eq_zero_of_no_sems (by decide) r.2⟩) (Cert.PleRefIdeal.Ends.run m ρ)

/-- The attention gradient as compiled is the same program as its reading over the reals. -/
theorem attn_same_main : Cert.AttnBwd.main (F := Bits) = Cert.AttnBwdIdeal.main (F := Bits) := by sl_kernel_rfl
theorem attn_same_defs : Cert.AttnBwd.defs (F := Bits) = Cert.AttnBwdIdeal.defs (F := Bits) := by sl_kernel_rfl

theorem attn_frame : Cert.quiescent_AttnBwd := by
  intro m ρ _
  have e : Cert.AttnBwd.main (F := Bits) = Cert.AttnBwdIdeal.main (F := Bits) := attn_same_main
  have e' : Cert.AttnBwd.defs (F := Bits) = Cert.AttnBwdIdeal.defs (F := Bits) := attn_same_defs
  rw [e, e']
  exact (θ_run Cert.AttnBwdIdeal.defs _ _).mono (fun _ h => h) (Cert.AttnBwdIdeal.Hand.frame (F := Bits) m ρ)

theorem attn_ref_frame : Cert.quiescent_AttnBwdRefIdeal := fun m ρ _ =>
  (θ_run Cert.AttnBwdRefIdeal.defs _ _).mono (fun r h => ⟨fun c => by
      refine ⟨?_, ?_, ?_, ?_⟩ <;> exact (h c _).trans (Cert.AttnBwdRefIdeal.Ends.arg m c _ (by decide)),
    sem_eq_zero_of_no_sems (by decide) r.2⟩) (Cert.AttnBwdRefIdeal.Ends.run m ρ)

theorem mlp_ref_frame : Cert.quiescent_MlpBwdRefIdeal := fun m ρ _ =>
  (θ_run Cert.MlpBwdRefIdeal.defs _ _).mono (fun r h => ⟨fun c => by
      refine ⟨?_, ?_, ?_, ?_, ?_, ?_⟩ <;> exact (h c _).trans (Cert.MlpBwdRefIdeal.Ends.arg m c _ (by decide)),
    sem_eq_zero_of_no_sems (by decide) r.2⟩) (Cert.MlpBwdRefIdeal.Ends.run m ρ)

theorem out_ref_frame : Cert.quiescent_OutBwdRefIdeal := fun m ρ _ =>
  (θ_run Cert.OutBwdRefIdeal.defs _ _).mono (fun r h => ⟨fun c => by
      refine ⟨?_, ?_, ?_, ?_, ?_, ?_, ?_⟩ <;> exact (h c _).trans (Cert.OutBwdRefIdeal.Ends.arg m c _ (by decide)),
    sem_eq_zero_of_no_sems (by decide) r.2⟩) (Cert.OutBwdRefIdeal.Ends.run m ρ)

theorem inp_ref_frame : Cert.quiescent_InpBwdRefIdeal := fun m ρ _ =>
  (θ_run Cert.InpBwdRefIdeal.defs _ _).mono (fun r h => ⟨fun c => by
      refine ⟨?_, ?_, ?_, ?_, ?_, ?_, ?_, ?_, ?_, ?_, ?_, ?_, ?_, ?_, ?_, ?_, ?_, ?_⟩ <;>
        exact (h c _).trans (Cert.InpBwdRefIdeal.Ends.arg m c _ (by decide)),
    sem_eq_zero_of_no_sems (by decide) r.2⟩) (Cert.InpBwdRefIdeal.Ends.run m ρ)

theorem dbias_ref_frame : Cert.quiescent_DbiasRefIdeal := fun m ρ _ =>
  (θ_run Cert.DbiasRefIdeal.defs _ _).mono (fun r h => ⟨fun c => (h c).2, sem_eq_zero_of_no_sems (by decide) r.2⟩)
    (Cert.DbiasRefIdeal.Value.run m ρ)

theorem dq_ref_frame : Cert.quiescent_BandDqRefIdeal := fun m ρ _ =>
  (θ_run Cert.BandDqRefIdeal.defs _ _).mono (fun r h => ⟨fun c => (h c).2.2, sem_eq_zero_of_no_sems (by decide) r.2⟩)
    (Cert.BandDqRefIdeal.Value.run m ρ)

theorem dkv_ref_frame : Cert.quiescent_BandDkvRefIdeal := fun m ρ _ =>
  (θ_run Cert.BandDkvRefIdeal.defs _ _).mono (fun r h => ⟨fun c => (h c).2.2, sem_eq_zero_of_no_sems (by decide) r.2⟩)
    (Cert.BandDkvRefIdeal.Value.run m ρ)

/-- The mask of the windows' gradients stands for −∞. -/
theorem dq_preserves : Cert.preserves_BandDq_BandDqIdeal :=
  IdealRules.named_const.statement Cert.BandDqIdeal.κ "mask" .f32 0xF149F2CA#32 ⊥ rfl
theorem dkv_preserves : Cert.preserves_BandDkv_BandDkvIdeal :=
  IdealRules.named_const.statement Cert.BandDkvIdeal.κ "mask" .f32 0xF149F2CA#32 ⊥ rfl

theorem claim : Cert.Claim :=
  ⟨Cert.Ple.Gen.facts, Cert.PleIdeal.Gen.facts, Cert.PleRefIdeal.Gen.facts, Cert.AttnBwd.Gen.facts, Cert.AttnBwdIdeal.Gen.facts,
    Cert.AttnBwdRefIdeal.Gen.facts, Cert.MlpBwd.Gen.facts, Cert.MlpBwdIdeal.Gen.facts, Cert.MlpBwdRefIdeal.Gen.facts,
    Cert.OutBwd.Gen.facts, Cert.OutBwdIdeal.Gen.facts, Cert.OutBwdRefIdeal.Gen.facts,
    Cert.InpBwd.Gen.facts, Cert.InpBwdIdeal.Gen.facts, Cert.InpBwdRefIdeal.Gen.facts,
    Cert.Dbias.Gen.facts, Cert.DbiasIdeal.Gen.facts, Cert.DbiasRefIdeal.Gen.facts,
    Cert.BandDq.Gen.facts, Cert.BandDqIdeal.Gen.facts, Cert.BandDqRefIdeal.Gen.facts,
    Cert.BandDkv.Gen.facts, Cert.BandDkvIdeal.Gen.facts, Cert.BandDkvRefIdeal.Gen.facts,
    Cert.Pre_finite_ple.facts, Cert.Pre_finite_attn.facts, Cert.Pre_finite_mlp.facts, Cert.Pre_finite_out.facts, Cert.Pre_finite_inp.facts,
    fun m ρ _ => Cert.Ple.Gen.frame m ρ, fun m ρ _ => Cert.PleIdeal.Gen.frame m ρ, fun m ρ _ => Cert.PleIdeal.Gen.frame m ρ,
    ple_ref_frame, fun m ρ _ => ple_ref_frame m ρ trivial,
    attn_frame, fun m ρ _ => Cert.AttnBwdIdeal.Hand.frame m ρ, fun m ρ _ => Cert.AttnBwdIdeal.Hand.frame m ρ,
    attn_ref_frame, fun m ρ _ => attn_ref_frame m ρ trivial,
    fun m ρ _ => Cert.MlpBwd.Gen.frame m ρ, fun m ρ _ => Cert.MlpBwdIdeal.Gen.frame m ρ, fun m ρ _ => Cert.MlpBwdIdeal.Gen.frame m ρ,
    mlp_ref_frame, fun m ρ _ => mlp_ref_frame m ρ trivial,
    fun m ρ _ => Cert.OutBwd.Gen.frame m ρ, fun m ρ _ => Cert.OutBwdIdeal.Gen.frame m ρ, fun m ρ _ => Cert.OutBwdIdeal.Gen.frame m ρ,
    out_ref_frame, fun m ρ _ => out_ref_frame m ρ trivial,
    inp_frame, fun m ρ _ => Cert.InpBwdIdeal.Hand.frame m ρ, fun m ρ _ => Cert.InpBwdIdeal.Hand.frame m ρ,
    inp_ref_frame, fun m ρ _ => inp_ref_frame m ρ trivial,
    fun m ρ _ => Cert.Dbias.Gen.frame m ρ, fun m ρ _ => Cert.DbiasIdeal.Gen.frame m ρ, dbias_ref_frame,
    fun m ρ _ => Cert.BandDq.Gen.frame m ρ, fun m ρ _ => Cert.BandDqIdeal.Gen.frame m ρ, dq_ref_frame,
    fun m ρ _ => Cert.BandDkv.Gen.frame m ρ, fun m ρ _ => Cert.BandDkvIdeal.Gen.frame m ρ, dkv_ref_frame,
    trivial, ple_algebraic, trivial, attn_algebraic, trivial, mlp_algebraic, trivial, out_algebraic, trivial, inp_algebraic,
    trivial, dbias_algebraic, dq_preserves, dkv_preserves⟩

end Cert.Proof

end
